-- ==== Defs.lean ====
def Pre_Sattn [hPre_pages_in_pool : Cert.Pre_pages_in_pool.Facts] (m : (ℓ : Loc Cert.Sattn.nD Cert.Sattn.τ Cert.Sattn.sig) → Buf (Elt Bits) ℓ) : Prop :=
  ∀ c : Dev Cert.Sattn.nD,
    (Cert.Pre_pages_in_pool.fn (F := Bits) (m ((c.tc : Thread Cert.Sattn.nD Cert.Sattn.τ).loc Cert.Sattn.main_arg0)) (m ((c.tc : Thread Cert.Sattn.nD Cert.Sattn.τ).loc Cert.Sattn.main_arg1)) (m ((c.tc : Thread Cert.Sattn.nD Cert.Sattn.τ).loc Cert.Sattn.main_arg2)) (m ((c.tc : Thread Cert.Sattn.nD Cert.Sattn.τ).loc Cert.Sattn.main_arg3)) (m ((c.tc : Thread Cert.Sattn.nD Cert.Sattn.τ).loc Cert.Sattn.main_arg4)) (m ((c.tc : Thread Cert.Sattn.nD Cert.Sattn.τ).loc Cert.Sattn.main_arg5)) (m ((c.tc : Thread Cert.Sattn.nD Cert.Sattn.τ).loc Cert.Sattn.main_arg6)) (m ((c.tc : Thread Cert.Sattn.nD Cert.Sattn.τ).loc Cert.Sattn.main_arg7))) = (fun _ => 1#1)

def Pre_SattnIdeal [hPre_pages_in_pool : Cert.Pre_pages_in_pool.Facts] (m : (ℓ : Loc Cert.SattnIdeal.nD Cert.SattnIdeal.τ Cert.SattnIdeal.sig) → Buf (Elt Ideal) ℓ) : Prop :=
  ∀ c : Dev Cert.SattnIdeal.nD,
    (Cert.Pre_pages_in_pool.fn (F := Ideal) (m ((c.tc : Thread Cert.SattnIdeal.nD Cert.SattnIdeal.τ).loc Cert.SattnIdeal.main_arg0)) (m ((c.tc : Thread Cert.SattnIdeal.nD Cert.SattnIdeal.τ).loc Cert.SattnIdeal.main_arg1)) (m ((c.tc : Thread Cert.SattnIdeal.nD Cert.SattnIdeal.τ).loc Cert.SattnIdeal.main_arg2)) (m ((c.tc : Thread Cert.SattnIdeal.nD Cert.SattnIdeal.τ).loc Cert.SattnIdeal.main_arg3)) (m ((c.tc : Thread Cert.SattnIdeal.nD Cert.SattnIdeal.τ).loc Cert.SattnIdeal.main_arg4)) (m ((c.tc : Thread Cert.SattnIdeal.nD Cert.SattnIdeal.τ).loc Cert.SattnIdeal.main_arg5)) (m ((c.tc : Thread Cert.SattnIdeal.nD Cert.SattnIdeal.τ).loc Cert.SattnIdeal.main_arg6)) (m ((c.tc : Thread Cert.SattnIdeal.nD Cert.SattnIdeal.τ).loc Cert.SattnIdeal.main_arg7))) = (fun _ => 1#1)

def Pre_SattnIdeal_attention_defined [hPre_attention_defined : Cert.Pre_attention_defined.Facts] (m : (ℓ : Loc Cert.SattnIdeal.nD Cert.SattnIdeal.τ Cert.SattnIdeal.sig) → Buf (Elt Ideal) ℓ) : Prop :=
  ∀ c : Dev Cert.SattnIdeal.nD,
    (Cert.Pre_attention_defined.fn (F := Ideal) (m ((c.tc : Thread Cert.SattnIdeal.nD Cert.SattnIdeal.τ).loc Cert.SattnIdeal.main_arg0)) (m ((c.tc : Thread Cert.SattnIdeal.nD Cert.SattnIdeal.τ).loc Cert.SattnIdeal.main_arg1)) (m ((c.tc : Thread Cert.SattnIdeal.nD Cert.SattnIdeal.τ).loc Cert.SattnIdeal.main_arg2)) (m ((c.tc : Thread Cert.SattnIdeal.nD Cert.SattnIdeal.τ).loc Cert.SattnIdeal.main_arg3)) (m ((c.tc : Thread Cert.SattnIdeal.nD Cert.SattnIdeal.τ).loc Cert.SattnIdeal.main_arg4)) (m ((c.tc : Thread Cert.SattnIdeal.nD Cert.SattnIdeal.τ).loc Cert.SattnIdeal.main_arg5)) (m ((c.tc : Thread Cert.SattnIdeal.nD Cert.SattnIdeal.τ).loc Cert.SattnIdeal.main_arg6)) (m ((c.tc : Thread Cert.SattnIdeal.nD Cert.SattnIdeal.τ).loc Cert.SattnIdeal.main_arg7))).1 = (fun _ => 1#1)
    ∧ (Cert.Pre_attention_defined.fn (F := Ideal) (m ((c.tc : Thread Cert.SattnIdeal.nD Cert.SattnIdeal.τ).loc Cert.SattnIdeal.main_arg0)) (m ((c.tc : Thread Cert.SattnIdeal.nD Cert.SattnIdeal.τ).loc Cert.SattnIdeal.main_arg1)) (m ((c.tc : Thread Cert.SattnIdeal.nD Cert.SattnIdeal.τ).loc Cert.SattnIdeal.main_arg2)) (m ((c.tc : Thread Cert.SattnIdeal.nD Cert.SattnIdeal.τ).loc Cert.SattnIdeal.main_arg3)) (m ((c.tc : Thread Cert.SattnIdeal.nD Cert.SattnIdeal.τ).loc Cert.SattnIdeal.main_arg4)) (m ((c.tc : Thread Cert.SattnIdeal.nD Cert.SattnIdeal.τ).loc Cert.SattnIdeal.main_arg5)) (m ((c.tc : Thread Cert.SattnIdeal.nD Cert.SattnIdeal.τ).loc Cert.SattnIdeal.main_arg6)) (m ((c.tc : Thread Cert.SattnIdeal.nD Cert.SattnIdeal.τ).loc Cert.SattnIdeal.main_arg7))).2.1 = (fun _ => 1#1)
    ∧ (Cert.Pre_attention_defined.fn (F := Ideal) (m ((c.tc : Thread Cert.SattnIdeal.nD Cert.SattnIdeal.τ).loc Cert.SattnIdeal.main_arg0)) (m ((c.tc : Thread Cert.SattnIdeal.nD Cert.SattnIdeal.τ).loc Cert.SattnIdeal.main_arg1)) (m ((c.tc : Thread Cert.SattnIdeal.nD Cert.SattnIdeal.τ).loc Cert.SattnIdeal.main_arg2)) (m ((c.tc : Thread Cert.SattnIdeal.nD Cert.SattnIdeal.τ).loc Cert.SattnIdeal.main_arg3)) (m ((c.tc : Thread Cert.SattnIdeal.nD Cert.SattnIdeal.τ).loc Cert.SattnIdeal.main_arg4)) (m ((c.tc : Thread Cert.SattnIdeal.nD Cert.SattnIdeal.τ).loc Cert.SattnIdeal.main_arg5)) (m ((c.tc : Thread Cert.SattnIdeal.nD Cert.SattnIdeal.τ).loc Cert.SattnIdeal.main_arg6)) (m ((c.tc : Thread Cert.SattnIdeal.nD Cert.SattnIdeal.τ).loc Cert.SattnIdeal.main_arg7))).2.2.1 = (fun _ => 1#1)
    ∧ (Cert.Pre_attention_defined.fn (F := Ideal) (m ((c.tc : Thread Cert.SattnIdeal.nD Cert.SattnIdeal.τ).loc Cert.SattnIdeal.main_arg0)) (m ((c.tc : Thread Cert.SattnIdeal.nD Cert.SattnIdeal.τ).loc Cert.SattnIdeal.main_arg1)) (m ((c.tc : Thread Cert.SattnIdeal.nD Cert.SattnIdeal.τ).loc Cert.SattnIdeal.main_arg2)) (m ((c.tc : Thread Cert.SattnIdeal.nD Cert.SattnIdeal.τ).loc Cert.SattnIdeal.main_arg3)) (m ((c.tc : Thread Cert.SattnIdeal.nD Cert.SattnIdeal.τ).loc Cert.SattnIdeal.main_arg4)) (m ((c.tc : Thread Cert.SattnIdeal.nD Cert.SattnIdeal.τ).loc Cert.SattnIdeal.main_arg5)) (m ((c.tc : Thread Cert.SattnIdeal.nD Cert.SattnIdeal.τ).loc Cert.SattnIdeal.main_arg6)) (m ((c.tc : Thread Cert.SattnIdeal.nD Cert.SattnIdeal.τ).loc Cert.SattnIdeal.main_arg7))).2.2.2.1 = (fun _ => 1#1)
    ∧ (Cert.Pre_attention_defined.fn (F := Ideal) (m ((c.tc : Thread Cert.SattnIdeal.nD Cert.SattnIdeal.τ).loc Cert.SattnIdeal.main_arg0)) (m ((c.tc : Thread Cert.SattnIdeal.nD Cert.SattnIdeal.τ).loc Cert.SattnIdeal.main_arg1)) (m ((c.tc : Thread Cert.SattnIdeal.nD Cert.SattnIdeal.τ).loc Cert.SattnIdeal.main_arg2)) (m ((c.tc : Thread Cert.SattnIdeal.nD Cert.SattnIdeal.τ).loc Cert.SattnIdeal.main_arg3)) (m ((c.tc : Thread Cert.SattnIdeal.nD Cert.SattnIdeal.τ).loc Cert.SattnIdeal.main_arg4)) (m ((c.tc : Thread Cert.SattnIdeal.nD Cert.SattnIdeal.τ).loc Cert.SattnIdeal.main_arg5)) (m ((c.tc : Thread Cert.SattnIdeal.nD Cert.SattnIdeal.τ).loc Cert.SattnIdeal.main_arg6)) (m ((c.tc : Thread Cert.SattnIdeal.nD Cert.SattnIdeal.τ).loc Cert.SattnIdeal.main_arg7))).2.2.2.2.1 = (fun _ => 1#1)
    ∧ (Cert.Pre_attention_defined.fn (F := Ideal) (m ((c.tc : Thread Cert.SattnIdeal.nD Cert.SattnIdeal.τ).loc Cert.SattnIdeal.main_arg0)) (m ((c.tc : Thread Cert.SattnIdeal.nD Cert.SattnIdeal.τ).loc Cert.SattnIdeal.main_arg1)) (m ((c.tc : Thread Cert.SattnIdeal.nD Cert.SattnIdeal.τ).loc Cert.SattnIdeal.main_arg2)) (m ((c.tc : Thread Cert.SattnIdeal.nD Cert.SattnIdeal.τ).loc Cert.SattnIdeal.main_arg3)) (m ((c.tc : Thread Cert.SattnIdeal.nD Cert.SattnIdeal.τ).loc Cert.SattnIdeal.main_arg4)) (m ((c.tc : Thread Cert.SattnIdeal.nD Cert.SattnIdeal.τ).loc Cert.SattnIdeal.main_arg5)) (m ((c.tc : Thread Cert.SattnIdeal.nD Cert.SattnIdeal.τ).loc Cert.SattnIdeal.main_arg6)) (m ((c.tc : Thread Cert.SattnIdeal.nD Cert.SattnIdeal.τ).loc Cert.SattnIdeal.main_arg7))).2.2.2.2.2 = (fun _ => 1#1)

def Pre_RefSattnIdeal (m : (ℓ : Loc Cert.RefSattnIdeal.nD Cert.RefSattnIdeal.τ Cert.RefSattnIdeal.sig) → Buf (Elt Ideal) ℓ) : Prop :=
  True

def Pre_RefSattnIdeal_attention_defined [hPre_attention_defined : Cert.Pre_attention_defined.Facts] (m : (ℓ : Loc Cert.RefSattnIdeal.nD Cert.RefSattnIdeal.τ Cert.RefSattnIdeal.sig) → Buf (Elt Ideal) ℓ) : Prop :=
  ∀ c : Dev Cert.RefSattnIdeal.nD,
    (Cert.Pre_attention_defined.fn (F := Ideal) (m ((c.tc : Thread Cert.RefSattnIdeal.nD Cert.RefSattnIdeal.τ).loc Cert.RefSattnIdeal.main_arg0)) (m ((c.tc : Thread Cert.RefSattnIdeal.nD Cert.RefSattnIdeal.τ).loc Cert.RefSattnIdeal.main_arg1)) (m ((c.tc : Thread Cert.RefSattnIdeal.nD Cert.RefSattnIdeal.τ).loc Cert.RefSattnIdeal.main_arg2)) (m ((c.tc : Thread Cert.RefSattnIdeal.nD Cert.RefSattnIdeal.τ).loc Cert.RefSattnIdeal.main_arg3)) (m ((c.tc : Thread Cert.RefSattnIdeal.nD Cert.RefSattnIdeal.τ).loc Cert.RefSattnIdeal.main_arg4)) (m ((c.tc : Thread Cert.RefSattnIdeal.nD Cert.RefSattnIdeal.τ).loc Cert.RefSattnIdeal.main_arg5)) (m ((c.tc : Thread Cert.RefSattnIdeal.nD Cert.RefSattnIdeal.τ).loc Cert.RefSattnIdeal.main_arg6)) (m ((c.tc : Thread Cert.RefSattnIdeal.nD Cert.RefSattnIdeal.τ).loc Cert.RefSattnIdeal.main_arg7))).1 = (fun _ => 1#1)
    ∧ (Cert.Pre_attention_defined.fn (F := Ideal) (m ((c.tc : Thread Cert.RefSattnIdeal.nD Cert.RefSattnIdeal.τ).loc Cert.RefSattnIdeal.main_arg0)) (m ((c.tc : Thread Cert.RefSattnIdeal.nD Cert.RefSattnIdeal.τ).loc Cert.RefSattnIdeal.main_arg1)) (m ((c.tc : Thread Cert.RefSattnIdeal.nD Cert.RefSattnIdeal.τ).loc Cert.RefSattnIdeal.main_arg2)) (m ((c.tc : Thread Cert.RefSattnIdeal.nD Cert.RefSattnIdeal.τ).loc Cert.RefSattnIdeal.main_arg3)) (m ((c.tc : Thread Cert.RefSattnIdeal.nD Cert.RefSattnIdeal.τ).loc Cert.RefSattnIdeal.main_arg4)) (m ((c.tc : Thread Cert.RefSattnIdeal.nD Cert.RefSattnIdeal.τ).loc Cert.RefSattnIdeal.main_arg5)) (m ((c.tc : Thread Cert.RefSattnIdeal.nD Cert.RefSattnIdeal.τ).loc Cert.RefSattnIdeal.main_arg6)) (m ((c.tc : Thread Cert.RefSattnIdeal.nD Cert.RefSattnIdeal.τ).loc Cert.RefSattnIdeal.main_arg7))).2.1 = (fun _ => 1#1)
    ∧ (Cert.Pre_attention_defined.fn (F := Ideal) (m ((c.tc : Thread Cert.RefSattnIdeal.nD Cert.RefSattnIdeal.τ).loc Cert.RefSattnIdeal.main_arg0)) (m ((c.tc : Thread Cert.RefSattnIdeal.nD Cert.RefSattnIdeal.τ).loc Cert.RefSattnIdeal.main_arg1)) (m ((c.tc : Thread Cert.RefSattnIdeal.nD Cert.RefSattnIdeal.τ).loc Cert.RefSattnIdeal.main_arg2)) (m ((c.tc : Thread Cert.RefSattnIdeal.nD Cert.RefSattnIdeal.τ).loc Cert.RefSattnIdeal.main_arg3)) (m ((c.tc : Thread Cert.RefSattnIdeal.nD Cert.RefSattnIdeal.τ).loc Cert.RefSattnIdeal.main_arg4)) (m ((c.tc : Thread Cert.RefSattnIdeal.nD Cert.RefSattnIdeal.τ).loc Cert.RefSattnIdeal.main_arg5)) (m ((c.tc : Thread Cert.RefSattnIdeal.nD Cert.RefSattnIdeal.τ).loc Cert.RefSattnIdeal.main_arg6)) (m ((c.tc : Thread Cert.RefSattnIdeal.nD Cert.RefSattnIdeal.τ).loc Cert.RefSattnIdeal.main_arg7))).2.2.1 = (fun _ => 1#1)
    ∧ (Cert.Pre_attention_defined.fn (F := Ideal) (m ((c.tc : Thread Cert.RefSattnIdeal.nD Cert.RefSattnIdeal.τ).loc Cert.RefSattnIdeal.main_arg0)) (m ((c.tc : Thread Cert.RefSattnIdeal.nD Cert.RefSattnIdeal.τ).loc Cert.RefSattnIdeal.main_arg1)) (m ((c.tc : Thread Cert.RefSattnIdeal.nD Cert.RefSattnIdeal.τ).loc Cert.RefSattnIdeal.main_arg2)) (m ((c.tc : Thread Cert.RefSattnIdeal.nD Cert.RefSattnIdeal.τ).loc Cert.RefSattnIdeal.main_arg3)) (m ((c.tc : Thread Cert.RefSattnIdeal.nD Cert.RefSattnIdeal.τ).loc Cert.RefSattnIdeal.main_arg4)) (m ((c.tc : Thread Cert.RefSattnIdeal.nD Cert.RefSattnIdeal.τ).loc Cert.RefSattnIdeal.main_arg5)) (m ((c.tc : Thread Cert.RefSattnIdeal.nD Cert.RefSattnIdeal.τ).loc Cert.RefSattnIdeal.main_arg6)) (m ((c.tc : Thread Cert.RefSattnIdeal.nD Cert.RefSattnIdeal.τ).loc Cert.RefSattnIdeal.main_arg7))).2.2.2.1 = (fun _ => 1#1)
    ∧ (Cert.Pre_attention_defined.fn (F := Ideal) (m ((c.tc : Thread Cert.RefSattnIdeal.nD Cert.RefSattnIdeal.τ).loc Cert.RefSattnIdeal.main_arg0)) (m ((c.tc : Thread Cert.RefSattnIdeal.nD Cert.RefSattnIdeal.τ).loc Cert.RefSattnIdeal.main_arg1)) (m ((c.tc : Thread Cert.RefSattnIdeal.nD Cert.RefSattnIdeal.τ).loc Cert.RefSattnIdeal.main_arg2)) (m ((c.tc : Thread Cert.RefSattnIdeal.nD Cert.RefSattnIdeal.τ).loc Cert.RefSattnIdeal.main_arg3)) (m ((c.tc : Thread Cert.RefSattnIdeal.nD Cert.RefSattnIdeal.τ).loc Cert.RefSattnIdeal.main_arg4)) (m ((c.tc : Thread Cert.RefSattnIdeal.nD Cert.RefSattnIdeal.τ).loc Cert.RefSattnIdeal.main_arg5)) (m ((c.tc : Thread Cert.RefSattnIdeal.nD Cert.RefSattnIdeal.τ).loc Cert.RefSattnIdeal.main_arg6)) (m ((c.tc : Thread Cert.RefSattnIdeal.nD Cert.RefSattnIdeal.τ).loc Cert.RefSattnIdeal.main_arg7))).2.2.2.2.1 = (fun _ => 1#1)
    ∧ (Cert.Pre_attention_defined.fn (F := Ideal) (m ((c.tc : Thread Cert.RefSattnIdeal.nD Cert.RefSattnIdeal.τ).loc Cert.RefSattnIdeal.main_arg0)) (m ((c.tc : Thread Cert.RefSattnIdeal.nD Cert.RefSattnIdeal.τ).loc Cert.RefSattnIdeal.main_arg1)) (m ((c.tc : Thread Cert.RefSattnIdeal.nD Cert.RefSattnIdeal.τ).loc Cert.RefSattnIdeal.main_arg2)) (m ((c.tc : Thread Cert.RefSattnIdeal.nD Cert.RefSattnIdeal.τ).loc Cert.RefSattnIdeal.main_arg3)) (m ((c.tc : Thread Cert.RefSattnIdeal.nD Cert.RefSattnIdeal.τ).loc Cert.RefSattnIdeal.main_arg4)) (m ((c.tc : Thread Cert.RefSattnIdeal.nD Cert.RefSattnIdeal.τ).loc Cert.RefSattnIdeal.main_arg5)) (m ((c.tc : Thread Cert.RefSattnIdeal.nD Cert.RefSattnIdeal.τ).loc Cert.RefSattnIdeal.main_arg6)) (m ((c.tc : Thread Cert.RefSattnIdeal.nD Cert.RefSattnIdeal.τ).loc Cert.RefSattnIdeal.main_arg7))).2.2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_RefFfnIdeal (m : (ℓ : Loc Cert.RefFfnIdeal.nD Cert.RefFfnIdeal.τ Cert.RefFfnIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_RefMergeIdeal (m : (ℓ : Loc Cert.RefMergeIdeal.nD Cert.RefMergeIdeal.τ Cert.RefMergeIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_RefProjIdeal (m : (ℓ : Loc Cert.RefProjIdeal.nD Cert.RefProjIdeal.τ Cert.RefProjIdeal.sig) → Buf (Elt Ideal) ℓ) : Prop :=
  True

def Pre_MergeSample (m : (ℓ : Loc Cert.MergeSample.nD Cert.MergeSample.τ Cert.MergeSample.sig) → Buf (Elt Bits) ℓ) : Prop :=
  True

def Pre_MergeSampleIdeal (m : (ℓ : Loc Cert.MergeSampleIdeal.nD Cert.MergeSampleIdeal.τ Cert.MergeSampleIdeal.sig) → Buf (Elt Ideal) ℓ) : Prop :=
  True

def Pre_RefMergeSampleIdeal (m : (ℓ : Loc Cert.RefMergeSampleIdeal.nD Cert.RefMergeSampleIdeal.τ Cert.RefMergeSampleIdeal.sig) → Buf (Elt Ideal) ℓ) : Prop :=
  True

def Pre_ProjSample (m : (ℓ : Loc Cert.ProjSample.nD Cert.ProjSample.τ Cert.ProjSample.sig) → Buf (Elt Bits) ℓ) : Prop :=
  True

def Pre_ProjSampleIdeal (m : (ℓ : Loc Cert.ProjSampleIdeal.nD Cert.ProjSampleIdeal.τ Cert.ProjSampleIdeal.sig) → Buf (Elt Ideal) ℓ) : Prop :=
  True

def Pre_RefProjSampleIdeal (m : (ℓ : Loc Cert.RefProjSampleIdeal.nD Cert.RefProjSampleIdeal.τ Cert.RefProjSampleIdeal.sig) → Buf (Elt Ideal) ℓ) : Prop :=
  True

def quiescent_Sattn [hSattn : Cert.Sattn.Facts] [hPre_pages_in_pool : Cert.Pre_pages_in_pool.Facts] : Prop :=
  ∀ (m : (ℓ : Loc Cert.Sattn.nD Cert.Sattn.τ Cert.Sattn.sig) → Buf (Elt Bits) ℓ) (g : Dev Cert.Sattn.nD → PrngReg), Pre_Sattn m →
    θ_run (Cert.Sattn.defs (F := Bits)) (onTc (τ := Cert.Sattn.τ) (Cert.Sattn.main (F := Bits))) ⟨m, fun _ => 0, g⟩ (fun r => (∀ c : Dev Cert.Sattn.nD,
      r.2.mem ((c.tc : Thread Cert.Sattn.nD Cert.Sattn.τ).loc Cert.Sattn.main_arg0) = m ((c.tc : Thread Cert.Sattn.nD Cert.Sattn.τ).loc Cert.Sattn.main_arg0)
      ∧ r.2.mem ((c.tc : Thread Cert.Sattn.nD Cert.Sattn.τ).loc Cert.Sattn.main_arg1) = m ((c.tc : Thread Cert.Sattn.nD Cert.Sattn.τ).loc Cert.Sattn.main_arg1)
      ∧ r.2.mem ((c.tc : Thread Cert.Sattn.nD Cert.Sattn.τ).loc Cert.Sattn.main_arg2) = m ((c.tc : Thread Cert.Sattn.nD Cert.Sattn.τ).loc Cert.Sattn.main_arg2)
      ∧ r.2.mem ((c.tc : Thread Cert.Sattn.nD Cert.Sattn.τ).loc Cert.Sattn.main_arg3) = m ((c.tc : Thread Cert.Sattn.nD Cert.Sattn.τ).loc Cert.Sattn.main_arg3)
      ∧ r.2.mem ((c.tc : Thread Cert.Sattn.nD Cert.Sattn.τ).loc Cert.Sattn.main_arg4) = m ((c.tc : Thread Cert.Sattn.nD Cert.Sattn.τ).loc Cert.Sattn.main_arg4)
      ∧ r.2.mem ((c.tc : Thread Cert.Sattn.nD Cert.Sattn.τ).loc Cert.Sattn.main_arg5) = m ((c.tc : Thread Cert.Sattn.nD Cert.Sattn.τ).loc Cert.Sattn.main_arg5)
      ∧ r.2.mem ((c.tc : Thread Cert.Sattn.nD Cert.Sattn.τ).loc Cert.Sattn.main_arg6) = m ((c.tc : Thread Cert.Sattn.nD Cert.Sattn.τ).loc Cert.Sattn.main_arg6)
      ∧ r.2.mem ((c.tc : Thread Cert.Sattn.nD Cert.Sattn.τ).loc Cert.Sattn.main_arg7) = m ((c.tc : Thread Cert.Sattn.nD Cert.Sattn.τ).loc Cert.Sattn.main_arg7))
      ∧ r.2.sem = fun _ => 0)

def quiescent_SattnIdeal [hSattnIdeal : Cert.SattnIdeal.Facts] [hPre_pages_in_pool : Cert.Pre_pages_in_pool.Facts] : Prop :=
  ∀ (m : (ℓ : Loc Cert.SattnIdeal.nD Cert.SattnIdeal.τ Cert.SattnIdeal.sig) → Buf (Elt Ideal) ℓ) (g : Dev Cert.SattnIdeal.nD → PrngReg), Pre_SattnIdeal m →
    θ_run (Cert.SattnIdeal.defs (F := Ideal)) (onTc (τ := Cert.SattnIdeal.τ) (Cert.SattnIdeal.main (F := Ideal))) ⟨m, fun _ => 0, g⟩ (fun r => (∀ c : Dev Cert.SattnIdeal.nD,
      r.2.mem ((c.tc : Thread Cert.SattnIdeal.nD Cert.SattnIdeal.τ).loc Cert.SattnIdeal.main_arg0) = m ((c.tc : Thread Cert.SattnIdeal.nD Cert.SattnIdeal.τ).loc Cert.SattnIdeal.main_arg0)
      ∧ r.2.mem ((c.tc : Thread Cert.SattnIdeal.nD Cert.SattnIdeal.τ).loc Cert.SattnIdeal.main_arg1) = m ((c.tc : Thread Cert.SattnIdeal.nD Cert.SattnIdeal.τ).loc Cert.SattnIdeal.main_arg1)
      ∧ r.2.mem ((c.tc : Thread Cert.SattnIdeal.nD Cert.SattnIdeal.τ).loc Cert.SattnIdeal.main_arg2) = m ((c.tc : Thread Cert.SattnIdeal.nD Cert.SattnIdeal.τ).loc Cert.SattnIdeal.main_arg2)
      ∧ r.2.mem ((c.tc : Thread Cert.SattnIdeal.nD Cert.SattnIdeal.τ).loc Cert.SattnIdeal.main_arg3) = m ((c.tc : Thread Cert.SattnIdeal.nD Cert.SattnIdeal.τ).loc Cert.SattnIdeal.main_arg3)
      ∧ r.2.mem ((c.tc : Thread Cert.SattnIdeal.nD Cert.SattnIdeal.τ).loc Cert.SattnIdeal.main_arg4) = m ((c.tc : Thread Cert.SattnIdeal.nD Cert.SattnIdeal.τ).loc Cert.SattnIdeal.main_arg4)
      ∧ r.2.mem ((c.tc : Thread Cert.SattnIdeal.nD Cert.SattnIdeal.τ).loc Cert.SattnIdeal.main_arg5) = m ((c.tc : Thread Cert.SattnIdeal.nD Cert.SattnIdeal.τ).loc Cert.SattnIdeal.main_arg5)
      ∧ r.2.mem ((c.tc : Thread Cert.SattnIdeal.nD Cert.SattnIdeal.τ).loc Cert.SattnIdeal.main_arg6) = m ((c.tc : Thread Cert.SattnIdeal.nD Cert.SattnIdeal.τ).loc Cert.SattnIdeal.main_arg6)
      ∧ r.2.mem ((c.tc : Thread Cert.SattnIdeal.nD Cert.SattnIdeal.τ).loc Cert.SattnIdeal.main_arg7) = m ((c.tc : Thread Cert.SattnIdeal.nD Cert.SattnIdeal.τ).loc Cert.SattnIdeal.main_arg7))
      ∧ r.2.sem = fun _ => 0)

def quiescent_SattnIdeal_pre_attention_defined [hSattnIdeal : Cert.SattnIdeal.Facts] [hPre_attention_defined : Cert.Pre_attention_defined.Facts] : Prop :=
  ∀ (m : (ℓ : Loc Cert.SattnIdeal.nD Cert.SattnIdeal.τ Cert.SattnIdeal.sig) → Buf (Elt Ideal) ℓ) (g : Dev Cert.SattnIdeal.nD → PrngReg), Pre_SattnIdeal_attention_defined m →
    θ_run (Cert.SattnIdeal.defs (F := Ideal)) (onTc (τ := Cert.SattnIdeal.τ) (Cert.SattnIdeal.main (F := Ideal))) ⟨m, fun _ => 0, g⟩ (fun r => (∀ c : Dev Cert.SattnIdeal.nD,
      r.2.mem ((c.tc : Thread Cert.SattnIdeal.nD Cert.SattnIdeal.τ).loc Cert.SattnIdeal.main_arg0) = m ((c.tc : Thread Cert.SattnIdeal.nD Cert.SattnIdeal.τ).loc Cert.SattnIdeal.main_arg0)
      ∧ r.2.mem ((c.tc : Thread Cert.SattnIdeal.nD Cert.SattnIdeal.τ).loc Cert.SattnIdeal.main_arg1) = m ((c.tc : Thread Cert.SattnIdeal.nD Cert.SattnIdeal.τ).loc Cert.SattnIdeal.main_arg1)
      ∧ r.2.mem ((c.tc : Thread Cert.SattnIdeal.nD Cert.SattnIdeal.τ).loc Cert.SattnIdeal.main_arg2) = m ((c.tc : Thread Cert.SattnIdeal.nD Cert.SattnIdeal.τ).loc Cert.SattnIdeal.main_arg2)
      ∧ r.2.mem ((c.tc : Thread Cert.SattnIdeal.nD Cert.SattnIdeal.τ).loc Cert.SattnIdeal.main_arg3) = m ((c.tc : Thread Cert.SattnIdeal.nD Cert.SattnIdeal.τ).loc Cert.SattnIdeal.main_arg3)
      ∧ r.2.mem ((c.tc : Thread Cert.SattnIdeal.nD Cert.SattnIdeal.τ).loc Cert.SattnIdeal.main_arg4) = m ((c.tc : Thread Cert.SattnIdeal.nD Cert.SattnIdeal.τ).loc Cert.SattnIdeal.main_arg4)
      ∧ r.2.mem ((c.tc : Thread Cert.SattnIdeal.nD Cert.SattnIdeal.τ).loc Cert.SattnIdeal.main_arg5) = m ((c.tc : Thread Cert.SattnIdeal.nD Cert.SattnIdeal.τ).loc Cert.SattnIdeal.main_arg5)
      ∧ r.2.mem ((c.tc : Thread Cert.SattnIdeal.nD Cert.SattnIdeal.τ).loc Cert.SattnIdeal.main_arg6) = m ((c.tc : Thread Cert.SattnIdeal.nD Cert.SattnIdeal.τ).loc Cert.SattnIdeal.main_arg6)
      ∧ r.2.mem ((c.tc : Thread Cert.SattnIdeal.nD Cert.SattnIdeal.τ).loc Cert.SattnIdeal.main_arg7) = m ((c.tc : Thread Cert.SattnIdeal.nD Cert.SattnIdeal.τ).loc Cert.SattnIdeal.main_arg7))
      ∧ r.2.sem = fun _ => 0)

def quiescent_RefSattnIdeal [hRefSattnIdeal : Cert.RefSattnIdeal.Facts] : Prop :=
  ∀ (m : (ℓ : Loc Cert.RefSattnIdeal.nD Cert.RefSattnIdeal.τ Cert.RefSattnIdeal.sig) → Buf (Elt Ideal) ℓ) (g : Dev Cert.RefSattnIdeal.nD → PrngReg), Pre_RefSattnIdeal m →
    θ_run (Cert.RefSattnIdeal.defs (F := Ideal)) (onTc (τ := Cert.RefSattnIdeal.τ) (Cert.RefSattnIdeal.main (F := Ideal))) ⟨m, fun _ => 0, g⟩ (fun r => (∀ c : Dev Cert.RefSattnIdeal.nD,
      r.2.mem ((c.tc : Thread Cert.RefSattnIdeal.nD Cert.RefSattnIdeal.τ).loc Cert.RefSattnIdeal.main_arg0) = m ((c.tc : Thread Cert.RefSattnIdeal.nD Cert.RefSattnIdeal.τ).loc Cert.RefSattnIdeal.main_arg0)
      ∧ r.2.mem ((c.tc : Thread Cert.RefSattnIdeal.nD Cert.RefSattnIdeal.τ).loc Cert.RefSattnIdeal.main_arg1) = m ((c.tc : Thread Cert.RefSattnIdeal.nD Cert.RefSattnIdeal.τ).loc Cert.RefSattnIdeal.main_arg1)
      ∧ r.2.mem ((c.tc : Thread Cert.RefSattnIdeal.nD Cert.RefSattnIdeal.τ).loc Cert.RefSattnIdeal.main_arg2) = m ((c.tc : Thread Cert.RefSattnIdeal.nD Cert.RefSattnIdeal.τ).loc Cert.RefSattnIdeal.main_arg2)
      ∧ r.2.mem ((c.tc : Thread Cert.RefSattnIdeal.nD Cert.RefSattnIdeal.τ).loc Cert.RefSattnIdeal.main_arg3) = m ((c.tc : Thread Cert.RefSattnIdeal.nD Cert.RefSattnIdeal.τ).loc Cert.RefSattnIdeal.main_arg3)
      ∧ r.2.mem ((c.tc : Thread Cert.RefSattnIdeal.nD Cert.RefSattnIdeal.τ).loc Cert.RefSattnIdeal.main_arg4) = m ((c.tc : Thread Cert.RefSattnIdeal.nD Cert.RefSattnIdeal.τ).loc Cert.RefSattnIdeal.main_arg4)
      ∧ r.2.mem ((c.tc : Thread Cert.RefSattnIdeal.nD Cert.RefSattnIdeal.τ).loc Cert.RefSattnIdeal.main_arg5) = m ((c.tc : Thread Cert.RefSattnIdeal.nD Cert.RefSattnIdeal.τ).loc Cert.RefSattnIdeal.main_arg5)
      ∧ r.2.mem ((c.tc : Thread Cert.RefSattnIdeal.nD Cert.RefSattnIdeal.τ).loc Cert.RefSattnIdeal.main_arg6) = m ((c.tc : Thread Cert.RefSattnIdeal.nD Cert.RefSattnIdeal.τ).loc Cert.RefSattnIdeal.main_arg6)
      ∧ r.2.mem ((c.tc : Thread Cert.RefSattnIdeal.nD Cert.RefSattnIdeal.τ).loc Cert.RefSattnIdeal.main_arg7) = m ((c.tc : Thread Cert.RefSattnIdeal.nD Cert.RefSattnIdeal.τ).loc Cert.RefSattnIdeal.main_arg7))
      ∧ r.2.sem = fun _ => 0)

def quiescent_RefSattnIdeal_pre_attention_defined [hRefSattnIdeal : Cert.RefSattnIdeal.Facts] [hPre_attention_defined : Cert.Pre_attention_defined.Facts] : Prop :=
  ∀ (m : (ℓ : Loc Cert.RefSattnIdeal.nD Cert.RefSattnIdeal.τ Cert.RefSattnIdeal.sig) → Buf (Elt Ideal) ℓ) (g : Dev Cert.RefSattnIdeal.nD → PrngReg), Pre_RefSattnIdeal_attention_defined m →
    θ_run (Cert.RefSattnIdeal.defs (F := Ideal)) (onTc (τ := Cert.RefSattnIdeal.τ) (Cert.RefSattnIdeal.main (F := Ideal))) ⟨m, fun _ => 0, g⟩ (fun r => (∀ c : Dev Cert.RefSattnIdeal.nD,
      r.2.mem ((c.tc : Thread Cert.RefSattnIdeal.nD Cert.RefSattnIdeal.τ).loc Cert.RefSattnIdeal.main_arg0) = m ((c.tc : Thread Cert.RefSattnIdeal.nD Cert.RefSattnIdeal.τ).loc Cert.RefSattnIdeal.main_arg0)
      ∧ r.2.mem ((c.tc : Thread Cert.RefSattnIdeal.nD Cert.RefSattnIdeal.τ).loc Cert.RefSattnIdeal.main_arg1) = m ((c.tc : Thread Cert.RefSattnIdeal.nD Cert.RefSattnIdeal.τ).loc Cert.RefSattnIdeal.main_arg1)
      ∧ r.2.mem ((c.tc : Thread Cert.RefSattnIdeal.nD Cert.RefSattnIdeal.τ).loc Cert.RefSattnIdeal.main_arg2) = m ((c.tc : Thread Cert.RefSattnIdeal.nD Cert.RefSattnIdeal.τ).loc Cert.RefSattnIdeal.main_arg2)
      ∧ r.2.mem ((c.tc : Thread Cert.RefSattnIdeal.nD Cert.RefSattnIdeal.τ).loc Cert.RefSattnIdeal.main_arg3) = m ((c.tc : Thread Cert.RefSattnIdeal.nD Cert.RefSattnIdeal.τ).loc Cert.RefSattnIdeal.main_arg3)
      ∧ r.2.mem ((c.tc : Thread Cert.RefSattnIdeal.nD Cert.RefSattnIdeal.τ).loc Cert.RefSattnIdeal.main_arg4) = m ((c.tc : Thread Cert.RefSattnIdeal.nD Cert.RefSattnIdeal.τ).loc Cert.RefSattnIdeal.main_arg4)
      ∧ r.2.mem ((c.tc : Thread Cert.RefSattnIdeal.nD Cert.RefSattnIdeal.τ).loc Cert.RefSattnIdeal.main_arg5) = m ((c.tc : Thread Cert.RefSattnIdeal.nD Cert.RefSattnIdeal.τ).loc Cert.RefSattnIdeal.main_arg5)
      ∧ r.2.mem ((c.tc : Thread Cert.RefSattnIdeal.nD Cert.RefSattnIdeal.τ).loc Cert.RefSattnIdeal.main_arg6) = m ((c.tc : Thread Cert.RefSattnIdeal.nD Cert.RefSattnIdeal.τ).loc Cert.RefSattnIdeal.main_arg6)
      ∧ r.2.mem ((c.tc : Thread Cert.RefSattnIdeal.nD Cert.RefSattnIdeal.τ).loc Cert.RefSattnIdeal.main_arg7) = m ((c.tc : Thread Cert.RefSattnIdeal.nD Cert.RefSattnIdeal.τ).loc Cert.RefSattnIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_RefFfnIdeal [hRefFfnIdeal : Cert.RefFfnIdeal.Facts] : Prop :=
  ∀ (m : (ℓ : Loc Cert.RefFfnIdeal.nD Cert.RefFfnIdeal.τ Cert.RefFfnIdeal.sig) → Buf (Elt Ideal) ℓ) (g : Dev Cert.RefFfnIdeal.nD → PrngReg), Pre_RefFfnIdeal m →
    θ_run (Cert.RefFfnIdeal.defs (F := Ideal)) (onTc (τ := Cert.RefFfnIdeal.τ) (Cert.RefFfnIdeal.main (F := Ideal))) ⟨m, fun _ => 0, g⟩ (fun r => (∀ c : Dev Cert.RefFfnIdeal.nD,
      r.2.mem ((c.tc : Thread Cert.RefFfnIdeal.nD Cert.RefFfnIdeal.τ).loc Cert.RefFfnIdeal.main_arg0) = m ((c.tc : Thread Cert.RefFfnIdeal.nD Cert.RefFfnIdeal.τ).loc Cert.RefFfnIdeal.main_arg0)
      ∧ r.2.mem ((c.tc : Thread Cert.RefFfnIdeal.nD Cert.RefFfnIdeal.τ).loc Cert.RefFfnIdeal.main_arg1) = m ((c.tc : Thread Cert.RefFfnIdeal.nD Cert.RefFfnIdeal.τ).loc Cert.RefFfnIdeal.main_arg1)
      ∧ r.2.mem ((c.tc : Thread Cert.RefFfnIdeal.nD Cert.RefFfnIdeal.τ).loc Cert.RefFfnIdeal.main_arg2) = m ((c.tc : Thread Cert.RefFfnIdeal.nD Cert.RefFfnIdeal.τ).loc Cert.RefFfnIdeal.main_arg2)
      ∧ r.2.mem ((c.tc : Thread Cert.RefFfnIdeal.nD Cert.RefFfnIdeal.τ).loc Cert.RefFfnIdeal.main_arg3) = m ((c.tc : Thread Cert.RefFfnIdeal.nD Cert.RefFfnIdeal.τ).loc Cert.RefFfnIdeal.main_arg3)
      ∧ r.2.mem ((c.tc : Thread Cert.RefFfnIdeal.nD Cert.RefFfnIdeal.τ).loc Cert.RefFfnIdeal.main_arg4) = m ((c.tc : Thread Cert.RefFfnIdeal.nD Cert.RefFfnIdeal.τ).loc Cert.RefFfnIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ r.2.sem = fun _ => 0)

def quiescent_RefMergeIdeal [hRefMergeIdeal : Cert.RefMergeIdeal.Facts] : Prop :=
  ∀ (m : (ℓ : Loc Cert.RefMergeIdeal.nD Cert.RefMergeIdeal.τ Cert.RefMergeIdeal.sig) → Buf (Elt Ideal) ℓ) (g : Dev Cert.RefMergeIdeal.nD → PrngReg), Pre_RefMergeIdeal m →
    θ_run (Cert.RefMergeIdeal.defs (F := Ideal)) (onTc (τ := Cert.RefMergeIdeal.τ) (Cert.RefMergeIdeal.main (F := Ideal))) ⟨m, fun _ => 0, g⟩ (fun r => (∀ c : Dev Cert.RefMergeIdeal.nD,
      r.2.mem ((c.tc : Thread Cert.RefMergeIdeal.nD Cert.RefMergeIdeal.τ).loc Cert.RefMergeIdeal.main_arg0) = m ((c.tc : Thread Cert.RefMergeIdeal.nD Cert.RefMergeIdeal.τ).loc Cert.RefMergeIdeal.main_arg0)
      ∧ r.2.mem ((c.tc : Thread Cert.RefMergeIdeal.nD Cert.RefMergeIdeal.τ).loc Cert.RefMergeIdeal.main_arg1) = m ((c.tc : Thread Cert.RefMergeIdeal.nD Cert.RefMergeIdeal.τ).loc Cert.RefMergeIdeal.main_arg1)
      ∧ r.2.mem ((c.tc : Thread Cert.RefMergeIdeal.nD Cert.RefMergeIdeal.τ).loc Cert.RefMergeIdeal.main_arg2) = m ((c.tc : Thread Cert.RefMergeIdeal.nD Cert.RefMergeIdeal.τ).loc Cert.RefMergeIdeal.main_arg2)
      ∧ r.2.mem ((c.tc : Thread Cert.RefMergeIdeal.nD Cert.RefMergeIdeal.τ).loc Cert.RefMergeIdeal.main_arg3) = m ((c.tc : Thread Cert.RefMergeIdeal.nD Cert.RefMergeIdeal.τ).loc Cert.RefMergeIdeal.main_arg3)
      ∧ r.2.mem ((c.tc : Thread Cert.RefMergeIdeal.nD Cert.RefMergeIdeal.τ).loc Cert.RefMergeIdeal.main_arg4) = m ((c.tc : Thread Cert.RefMergeIdeal.nD Cert.RefMergeIdeal.τ).loc Cert.RefMergeIdeal.main_arg4)
      ∧ r.2.mem ((c.tc : Thread Cert.RefMergeIdeal.nD Cert.RefMergeIdeal.τ).loc Cert.RefMergeIdeal.main_arg5) = m ((c.tc : Thread Cert.RefMergeIdeal.nD Cert.RefMergeIdeal.τ).loc Cert.RefMergeIdeal.main_arg5)
      ∧ r.2.mem ((c.tc : Thread Cert.RefMergeIdeal.nD Cert.RefMergeIdeal.τ).loc Cert.RefMergeIdeal.main_arg6) = m ((c.tc : Thread Cert.RefMergeIdeal.nD Cert.RefMergeIdeal.τ).loc Cert.RefMergeIdeal.main_arg6)
      ∧ r.2.mem ((c.tc : Thread Cert.RefMergeIdeal.nD Cert.RefMergeIdeal.τ).loc Cert.RefMergeIdeal.main_arg7) = m ((c.tc : Thread Cert.RefMergeIdeal.nD Cert.RefMergeIdeal.τ).loc Cert.RefMergeIdeal.main_arg7)
      ∧ r.2.mem ((c.tc : Thread Cert.RefMergeIdeal.nD Cert.RefMergeIdeal.τ).loc Cert.RefMergeIdeal.main_arg8) = m ((c.tc : Thread Cert.RefMergeIdeal.nD Cert.RefMergeIdeal.τ).loc Cert.RefMergeIdeal.main_arg8)
      ∧ r.2.mem ((c.tc : Thread Cert.RefMergeIdeal.nD Cert.RefMergeIdeal.τ).loc Cert.RefMergeIdeal.main_arg9) = m ((c.tc : Thread Cert.RefMergeIdeal.nD Cert.RefMergeIdeal.τ).loc Cert.RefMergeIdeal.main_arg9)
      ∧ r.2.mem ((c.tc : Thread Cert.RefMergeIdeal.nD Cert.RefMergeIdeal.τ).loc Cert.RefMergeIdeal.main_arg10) = m ((c.tc : Thread Cert.RefMergeIdeal.nD Cert.RefMergeIdeal.τ).loc Cert.RefMergeIdeal.main_arg10)
      ∧ r.2.mem ((c.tc : Thread Cert.RefMergeIdeal.nD Cert.RefMergeIdeal.τ).loc Cert.RefMergeIdeal.main_arg11) = m ((c.tc : Thread Cert.RefMergeIdeal.nD Cert.RefMergeIdeal.τ).loc Cert.RefMergeIdeal.main_arg11)
      ∧ r.2.mem ((c.tc : Thread Cert.RefMergeIdeal.nD Cert.RefMergeIdeal.τ).loc Cert.RefMergeIdeal.main_arg12) = m ((c.tc : Thread Cert.RefMergeIdeal.nD Cert.RefMergeIdeal.τ).loc Cert.RefMergeIdeal.main_arg12)
      ∧ r.2.mem ((c.tc : Thread Cert.RefMergeIdeal.nD Cert.RefMergeIdeal.τ).loc Cert.RefMergeIdeal.main_arg13) = m ((c.tc : Thread Cert.RefMergeIdeal.nD Cert.RefMergeIdeal.τ).loc Cert.RefMergeIdeal.main_arg13))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_RefProjIdeal [hRefProjIdeal : Cert.RefProjIdeal.Facts] : Prop :=
  ∀ (m : (ℓ : Loc Cert.RefProjIdeal.nD Cert.RefProjIdeal.τ Cert.RefProjIdeal.sig) → Buf (Elt Ideal) ℓ) (g : Dev Cert.RefProjIdeal.nD → PrngReg), Pre_RefProjIdeal m →
    θ_run (Cert.RefProjIdeal.defs (F := Ideal)) (onTc (τ := Cert.RefProjIdeal.τ) (Cert.RefProjIdeal.main (F := Ideal))) ⟨m, fun _ => 0, g⟩ (fun r => (∀ c : Dev Cert.RefProjIdeal.nD,
      r.2.mem ((c.tc : Thread Cert.RefProjIdeal.nD Cert.RefProjIdeal.τ).loc Cert.RefProjIdeal.main_arg0) = m ((c.tc : Thread Cert.RefProjIdeal.nD Cert.RefProjIdeal.τ).loc Cert.RefProjIdeal.main_arg0)
      ∧ r.2.mem ((c.tc : Thread Cert.RefProjIdeal.nD Cert.RefProjIdeal.τ).loc Cert.RefProjIdeal.main_arg1) = m ((c.tc : Thread Cert.RefProjIdeal.nD Cert.RefProjIdeal.τ).loc Cert.RefProjIdeal.main_arg1)
      ∧ r.2.mem ((c.tc : Thread Cert.RefProjIdeal.nD Cert.RefProjIdeal.τ).loc Cert.RefProjIdeal.main_arg2) = m ((c.tc : Thread Cert.RefProjIdeal.nD Cert.RefProjIdeal.τ).loc Cert.RefProjIdeal.main_arg2))
      ∧ r.2.sem = fun _ => 0)

def quiescent_MergeSample [hMergeSample : Cert.MergeSample.Facts] : Prop :=
  ∀ (m : (ℓ : Loc Cert.MergeSample.nD Cert.MergeSample.τ Cert.MergeSample.sig) → Buf (Elt Bits) ℓ) (g : Dev Cert.MergeSample.nD → PrngReg), Pre_MergeSample m →
    θ_run (Cert.MergeSample.defs (F := Bits)) (onTc (τ := Cert.MergeSample.τ) (Cert.MergeSample.main (F := Bits))) ⟨m, fun _ => 0, g⟩ (fun r => (∀ c : Dev Cert.MergeSample.nD,
      r.2.mem ((c.tc : Thread Cert.MergeSample.nD Cert.MergeSample.τ).loc Cert.MergeSample.main_arg0) = m ((c.tc : Thread Cert.MergeSample.nD Cert.MergeSample.τ).loc Cert.MergeSample.main_arg0)
      ∧ r.2.mem ((c.tc : Thread Cert.MergeSample.nD Cert.MergeSample.τ).loc Cert.MergeSample.main_arg1) = m ((c.tc : Thread Cert.MergeSample.nD Cert.MergeSample.τ).loc Cert.MergeSample.main_arg1)
      ∧ r.2.mem ((c.tc : Thread Cert.MergeSample.nD Cert.MergeSample.τ).loc Cert.MergeSample.main_arg2) = m ((c.tc : Thread Cert.MergeSample.nD Cert.MergeSample.τ).loc Cert.MergeSample.main_arg2)
      ∧ r.2.mem ((c.tc : Thread Cert.MergeSample.nD Cert.MergeSample.τ).loc Cert.MergeSample.main_arg3) = m ((c.tc : Thread Cert.MergeSample.nD Cert.MergeSample.τ).loc Cert.MergeSample.main_arg3)
      ∧ r.2.mem ((c.tc : Thread Cert.MergeSample.nD Cert.MergeSample.τ).loc Cert.MergeSample.main_arg4) = m ((c.tc : Thread Cert.MergeSample.nD Cert.MergeSample.τ).loc Cert.MergeSample.main_arg4)
      ∧ r.2.mem ((c.tc : Thread Cert.MergeSample.nD Cert.MergeSample.τ).loc Cert.MergeSample.main_arg5) = m ((c.tc : Thread Cert.MergeSample.nD Cert.MergeSample.τ).loc Cert.MergeSample.main_arg5)
      ∧ r.2.mem ((c.tc : Thread Cert.MergeSample.nD Cert.MergeSample.τ).loc Cert.MergeSample.main_arg6) = m ((c.tc : Thread Cert.MergeSample.nD Cert.MergeSample.τ).loc Cert.MergeSample.main_arg6)
      ∧ r.2.mem ((c.tc : Thread Cert.MergeSample.nD Cert.MergeSample.τ).loc Cert.MergeSample.main_arg7) = m ((c.tc : Thread Cert.MergeSample.nD Cert.MergeSample.τ).loc Cert.MergeSample.main_arg7)
      ∧ r.2.mem ((c.tc : Thread Cert.MergeSample.nD Cert.MergeSample.τ).loc Cert.MergeSample.main_arg8) = m ((c.tc : Thread Cert.MergeSample.nD Cert.MergeSample.τ).loc Cert.MergeSample.main_arg8)
      ∧ r.2.mem ((c.tc : Thread Cert.MergeSample.nD Cert.MergeSample.τ).loc Cert.MergeSample.main_arg9) = m ((c.tc : Thread Cert.MergeSample.nD Cert.MergeSample.τ).loc Cert.MergeSample.main_arg9)
      ∧ r.2.mem ((c.tc : Thread Cert.MergeSample.nD Cert.MergeSample.τ).loc Cert.MergeSample.main_arg10) = m ((c.tc : Thread Cert.MergeSample.nD Cert.MergeSample.τ).loc Cert.MergeSample.main_arg10)
      ∧ r.2.mem ((c.tc : Thread Cert.MergeSample.nD Cert.MergeSample.τ).loc Cert.MergeSample.main_arg11) = m ((c.tc : Thread Cert.MergeSample.nD Cert.MergeSample.τ).loc Cert.MergeSample.main_arg11)
      ∧ r.2.mem ((c.tc : Thread Cert.MergeSample.nD Cert.MergeSample.τ).loc Cert.MergeSample.main_arg12) = m ((c.tc : Thread Cert.MergeSample.nD Cert.MergeSample.τ).loc Cert.MergeSample.main_arg12)
      ∧ r.2.mem ((c.tc : Thread Cert.MergeSample.nD Cert.MergeSample.τ).loc Cert.MergeSample.main_arg13) = m ((c.tc : Thread Cert.MergeSample.nD Cert.MergeSample.τ).loc Cert.MergeSample.main_arg13)
      ∧ r.2.mem ((c.tc : Thread Cert.MergeSample.nD Cert.MergeSample.τ).loc Cert.MergeSample.main_arg14) = m ((c.tc : Thread Cert.MergeSample.nD Cert.MergeSample.τ).loc Cert.MergeSample.main_arg14))
      ∧ r.2.sem = fun _ => 0)

def quiescent_MergeSampleIdeal [hMergeSampleIdeal : Cert.MergeSampleIdeal.Facts] : Prop :=
  ∀ (m : (ℓ : Loc Cert.MergeSampleIdeal.nD Cert.MergeSampleIdeal.τ Cert.MergeSampleIdeal.sig) → Buf (Elt Ideal) ℓ) (g : Dev Cert.MergeSampleIdeal.nD → PrngReg), Pre_MergeSampleIdeal m →
    θ_run (Cert.MergeSampleIdeal.defs (F := Ideal)) (onTc (τ := Cert.MergeSampleIdeal.τ) (Cert.MergeSampleIdeal.main (F := Ideal))) ⟨m, fun _ => 0, g⟩ (fun r => (∀ c : Dev Cert.MergeSampleIdeal.nD,
      r.2.mem ((c.tc : Thread Cert.MergeSampleIdeal.nD Cert.MergeSampleIdeal.τ).loc Cert.MergeSampleIdeal.main_arg0) = m ((c.tc : Thread Cert.MergeSampleIdeal.nD Cert.MergeSampleIdeal.τ).loc Cert.MergeSampleIdeal.main_arg0)
      ∧ r.2.mem ((c.tc : Thread Cert.MergeSampleIdeal.nD Cert.MergeSampleIdeal.τ).loc Cert.MergeSampleIdeal.main_arg1) = m ((c.tc : Thread Cert.MergeSampleIdeal.nD Cert.MergeSampleIdeal.τ).loc Cert.MergeSampleIdeal.main_arg1)
      ∧ r.2.mem ((c.tc : Thread Cert.MergeSampleIdeal.nD Cert.MergeSampleIdeal.τ).loc Cert.MergeSampleIdeal.main_arg2) = m ((c.tc : Thread Cert.MergeSampleIdeal.nD Cert.MergeSampleIdeal.τ).loc Cert.MergeSampleIdeal.main_arg2)
      ∧ r.2.mem ((c.tc : Thread Cert.MergeSampleIdeal.nD Cert.MergeSampleIdeal.τ).loc Cert.MergeSampleIdeal.main_arg3) = m ((c.tc : Thread Cert.MergeSampleIdeal.nD Cert.MergeSampleIdeal.τ).loc Cert.MergeSampleIdeal.main_arg3)
      ∧ r.2.mem ((c.tc : Thread Cert.MergeSampleIdeal.nD Cert.MergeSampleIdeal.τ).loc Cert.MergeSampleIdeal.main_arg4) = m ((c.tc : Thread Cert.MergeSampleIdeal.nD Cert.MergeSampleIdeal.τ).loc Cert.MergeSampleIdeal.main_arg4)
      ∧ r.2.mem ((c.tc : Thread Cert.MergeSampleIdeal.nD Cert.MergeSampleIdeal.τ).loc Cert.MergeSampleIdeal.main_arg5) = m ((c.tc : Thread Cert.MergeSampleIdeal.nD Cert.MergeSampleIdeal.τ).loc Cert.MergeSampleIdeal.main_arg5)
      ∧ r.2.mem ((c.tc : Thread Cert.MergeSampleIdeal.nD Cert.MergeSampleIdeal.τ).loc Cert.MergeSampleIdeal.main_arg6) = m ((c.tc : Thread Cert.MergeSampleIdeal.nD Cert.MergeSampleIdeal.τ).loc Cert.MergeSampleIdeal.main_arg6)
      ∧ r.2.mem ((c.tc : Thread Cert.MergeSampleIdeal.nD Cert.MergeSampleIdeal.τ).loc Cert.MergeSampleIdeal.main_arg7) = m ((c.tc : Thread Cert.MergeSampleIdeal.nD Cert.MergeSampleIdeal.τ).loc Cert.MergeSampleIdeal.main_arg7)
      ∧ r.2.mem ((c.tc : Thread Cert.MergeSampleIdeal.nD Cert.MergeSampleIdeal.τ).loc Cert.MergeSampleIdeal.main_arg8) = m ((c.tc : Thread Cert.MergeSampleIdeal.nD Cert.MergeSampleIdeal.τ).loc Cert.MergeSampleIdeal.main_arg8)
      ∧ r.2.mem ((c.tc : Thread Cert.MergeSampleIdeal.nD Cert.MergeSampleIdeal.τ).loc Cert.MergeSampleIdeal.main_arg9) = m ((c.tc : Thread Cert.MergeSampleIdeal.nD Cert.MergeSampleIdeal.τ).loc Cert.MergeSampleIdeal.main_arg9)
      ∧ r.2.mem ((c.tc : Thread Cert.MergeSampleIdeal.nD Cert.MergeSampleIdeal.τ).loc Cert.MergeSampleIdeal.main_arg10) = m ((c.tc : Thread Cert.MergeSampleIdeal.nD Cert.MergeSampleIdeal.τ).loc Cert.MergeSampleIdeal.main_arg10)
      ∧ r.2.mem ((c.tc : Thread Cert.MergeSampleIdeal.nD Cert.MergeSampleIdeal.τ).loc Cert.MergeSampleIdeal.main_arg11) = m ((c.tc : Thread Cert.MergeSampleIdeal.nD Cert.MergeSampleIdeal.τ).loc Cert.MergeSampleIdeal.main_arg11)
      ∧ r.2.mem ((c.tc : Thread Cert.MergeSampleIdeal.nD Cert.MergeSampleIdeal.τ).loc Cert.MergeSampleIdeal.main_arg12) = m ((c.tc : Thread Cert.MergeSampleIdeal.nD Cert.MergeSampleIdeal.τ).loc Cert.MergeSampleIdeal.main_arg12)
      ∧ r.2.mem ((c.tc : Thread Cert.MergeSampleIdeal.nD Cert.MergeSampleIdeal.τ).loc Cert.MergeSampleIdeal.main_arg13) = m ((c.tc : Thread Cert.MergeSampleIdeal.nD Cert.MergeSampleIdeal.τ).loc Cert.MergeSampleIdeal.main_arg13)
      ∧ r.2.mem ((c.tc : Thread Cert.MergeSampleIdeal.nD Cert.MergeSampleIdeal.τ).loc Cert.MergeSampleIdeal.main_arg14) = m ((c.tc : Thread Cert.MergeSampleIdeal.nD Cert.MergeSampleIdeal.τ).loc Cert.MergeSampleIdeal.main_arg14))
      ∧ r.2.sem = fun _ => 0)

def quiescent_RefMergeSampleIdeal [hRefMergeSampleIdeal : Cert.RefMergeSampleIdeal.Facts] : Prop :=
  ∀ (m : (ℓ : Loc Cert.RefMergeSampleIdeal.nD Cert.RefMergeSampleIdeal.τ Cert.RefMergeSampleIdeal.sig) → Buf (Elt Ideal) ℓ) (g : Dev Cert.RefMergeSampleIdeal.nD → PrngReg), Pre_RefMergeSampleIdeal m →
    θ_run (Cert.RefMergeSampleIdeal.defs (F := Ideal)) (onTc (τ := Cert.RefMergeSampleIdeal.τ) (Cert.RefMergeSampleIdeal.main (F := Ideal))) ⟨m, fun _ => 0, g⟩ (fun r => (∀ c : Dev Cert.RefMergeSampleIdeal.nD,
      r.2.mem ((c.tc : Thread Cert.RefMergeSampleIdeal.nD Cert.RefMergeSampleIdeal.τ).loc Cert.RefMergeSampleIdeal.main_arg0) = m ((c.tc : Thread Cert.RefMergeSampleIdeal.nD Cert.RefMergeSampleIdeal.τ).loc Cert.RefMergeSampleIdeal.main_arg0)
      ∧ r.2.mem ((c.tc : Thread Cert.RefMergeSampleIdeal.nD Cert.RefMergeSampleIdeal.τ).loc Cert.RefMergeSampleIdeal.main_arg1) = m ((c.tc : Thread Cert.RefMergeSampleIdeal.nD Cert.RefMergeSampleIdeal.τ).loc Cert.RefMergeSampleIdeal.main_arg1)
      ∧ r.2.mem ((c.tc : Thread Cert.RefMergeSampleIdeal.nD Cert.RefMergeSampleIdeal.τ).loc Cert.RefMergeSampleIdeal.main_arg2) = m ((c.tc : Thread Cert.RefMergeSampleIdeal.nD Cert.RefMergeSampleIdeal.τ).loc Cert.RefMergeSampleIdeal.main_arg2)
      ∧ r.2.mem ((c.tc : Thread Cert.RefMergeSampleIdeal.nD Cert.RefMergeSampleIdeal.τ).loc Cert.RefMergeSampleIdeal.main_arg3) = m ((c.tc : Thread Cert.RefMergeSampleIdeal.nD Cert.RefMergeSampleIdeal.τ).loc Cert.RefMergeSampleIdeal.main_arg3)
      ∧ r.2.mem ((c.tc : Thread Cert.RefMergeSampleIdeal.nD Cert.RefMergeSampleIdeal.τ).loc Cert.RefMergeSampleIdeal.main_arg4) = m ((c.tc : Thread Cert.RefMergeSampleIdeal.nD Cert.RefMergeSampleIdeal.τ).loc Cert.RefMergeSampleIdeal.main_arg4)
      ∧ r.2.mem ((c.tc : Thread Cert.RefMergeSampleIdeal.nD Cert.RefMergeSampleIdeal.τ).loc Cert.RefMergeSampleIdeal.main_arg5) = m ((c.tc : Thread Cert.RefMergeSampleIdeal.nD Cert.RefMergeSampleIdeal.τ).loc Cert.RefMergeSampleIdeal.main_arg5)
      ∧ r.2.mem ((c.tc : Thread Cert.RefMergeSampleIdeal.nD Cert.RefMergeSampleIdeal.τ).loc Cert.RefMergeSampleIdeal.main_arg6) = m ((c.tc : Thread Cert.RefMergeSampleIdeal.nD Cert.RefMergeSampleIdeal.τ).loc Cert.RefMergeSampleIdeal.main_arg6)
      ∧ r.2.mem ((c.tc : Thread Cert.RefMergeSampleIdeal.nD Cert.RefMergeSampleIdeal.τ).loc Cert.RefMergeSampleIdeal.main_arg7) = m ((c.tc : Thread Cert.RefMergeSampleIdeal.nD Cert.RefMergeSampleIdeal.τ).loc Cert.RefMergeSampleIdeal.main_arg7)
      ∧ r.2.mem ((c.tc : Thread Cert.RefMergeSampleIdeal.nD Cert.RefMergeSampleIdeal.τ).loc Cert.RefMergeSampleIdeal.main_arg8) = m ((c.tc : Thread Cert.RefMergeSampleIdeal.nD Cert.RefMergeSampleIdeal.τ).loc Cert.RefMergeSampleIdeal.main_arg8)
      ∧ r.2.mem ((c.tc : Thread Cert.RefMergeSampleIdeal.nD Cert.RefMergeSampleIdeal.τ).loc Cert.RefMergeSampleIdeal.main_arg9) = m ((c.tc : Thread Cert.RefMergeSampleIdeal.nD Cert.RefMergeSampleIdeal.τ).loc Cert.RefMergeSampleIdeal.main_arg9)
      ∧ r.2.mem ((c.tc : Thread Cert.RefMergeSampleIdeal.nD Cert.RefMergeSampleIdeal.τ).loc Cert.RefMergeSampleIdeal.main_arg10) = m ((c.tc : Thread Cert.RefMergeSampleIdeal.nD Cert.RefMergeSampleIdeal.τ).loc Cert.RefMergeSampleIdeal.main_arg10)
      ∧ r.2.mem ((c.tc : Thread Cert.RefMergeSampleIdeal.nD Cert.RefMergeSampleIdeal.τ).loc Cert.RefMergeSampleIdeal.main_arg11) = m ((c.tc : Thread Cert.RefMergeSampleIdeal.nD Cert.RefMergeSampleIdeal.τ).loc Cert.RefMergeSampleIdeal.main_arg11)
      ∧ r.2.mem ((c.tc : Thread Cert.RefMergeSampleIdeal.nD Cert.RefMergeSampleIdeal.τ).loc Cert.RefMergeSampleIdeal.main_arg12) = m ((c.tc : Thread Cert.RefMergeSampleIdeal.nD Cert.RefMergeSampleIdeal.τ).loc Cert.RefMergeSampleIdeal.main_arg12)
      ∧ r.2.mem ((c.tc : Thread Cert.RefMergeSampleIdeal.nD Cert.RefMergeSampleIdeal.τ).loc Cert.RefMergeSampleIdeal.main_arg13) = m ((c.tc : Thread Cert.RefMergeSampleIdeal.nD Cert.RefMergeSampleIdeal.τ).loc Cert.RefMergeSampleIdeal.main_arg13)
      ∧ r.2.mem ((c.tc : Thread Cert.RefMergeSampleIdeal.nD Cert.RefMergeSampleIdeal.τ).loc Cert.RefMergeSampleIdeal.main_arg14) = m ((c.tc : Thread Cert.RefMergeSampleIdeal.nD Cert.RefMergeSampleIdeal.τ).loc Cert.RefMergeSampleIdeal.main_arg14))
      ∧ r.2.sem = fun _ => 0)

def quiescent_ProjSample [hProjSample : Cert.ProjSample.Facts] : Prop :=
  ∀ (m : (ℓ : Loc Cert.ProjSample.nD Cert.ProjSample.τ Cert.ProjSample.sig) → Buf (Elt Bits) ℓ) (g : Dev Cert.ProjSample.nD → PrngReg), Pre_ProjSample m →
    θ_run (Cert.ProjSample.defs (F := Bits)) (onTc (τ := Cert.ProjSample.τ) (Cert.ProjSample.main (F := Bits))) ⟨m, fun _ => 0, g⟩ (fun r => (∀ c : Dev Cert.ProjSample.nD,
      r.2.mem ((c.tc : Thread Cert.ProjSample.nD Cert.ProjSample.τ).loc Cert.ProjSample.main_arg0) = m ((c.tc : Thread Cert.ProjSample.nD Cert.ProjSample.τ).loc Cert.ProjSample.main_arg0)
      ∧ r.2.mem ((c.tc : Thread Cert.ProjSample.nD Cert.ProjSample.τ).loc Cert.ProjSample.main_arg1) = m ((c.tc : Thread Cert.ProjSample.nD Cert.ProjSample.τ).loc Cert.ProjSample.main_arg1)
      ∧ r.2.mem ((c.tc : Thread Cert.ProjSample.nD Cert.ProjSample.τ).loc Cert.ProjSample.main_arg2) = m ((c.tc : Thread Cert.ProjSample.nD Cert.ProjSample.τ).loc Cert.ProjSample.main_arg2))
      ∧ r.2.sem = fun _ => 0)

def quiescent_ProjSampleIdeal [hProjSampleIdeal : Cert.ProjSampleIdeal.Facts] : Prop :=
  ∀ (m : (ℓ : Loc Cert.ProjSampleIdeal.nD Cert.ProjSampleIdeal.τ Cert.ProjSampleIdeal.sig) → Buf (Elt Ideal) ℓ) (g : Dev Cert.ProjSampleIdeal.nD → PrngReg), Pre_ProjSampleIdeal m →
    θ_run (Cert.ProjSampleIdeal.defs (F := Ideal)) (onTc (τ := Cert.ProjSampleIdeal.τ) (Cert.ProjSampleIdeal.main (F := Ideal))) ⟨m, fun _ => 0, g⟩ (fun r => (∀ c : Dev Cert.ProjSampleIdeal.nD,
      r.2.mem ((c.tc : Thread Cert.ProjSampleIdeal.nD Cert.ProjSampleIdeal.τ).loc Cert.ProjSampleIdeal.main_arg0) = m ((c.tc : Thread Cert.ProjSampleIdeal.nD Cert.ProjSampleIdeal.τ).loc Cert.ProjSampleIdeal.main_arg0)
      ∧ r.2.mem ((c.tc : Thread Cert.ProjSampleIdeal.nD Cert.ProjSampleIdeal.τ).loc Cert.ProjSampleIdeal.main_arg1) = m ((c.tc : Thread Cert.ProjSampleIdeal.nD Cert.ProjSampleIdeal.τ).loc Cert.ProjSampleIdeal.main_arg1)
      ∧ r.2.mem ((c.tc : Thread Cert.ProjSampleIdeal.nD Cert.ProjSampleIdeal.τ).loc Cert.ProjSampleIdeal.main_arg2) = m ((c.tc : Thread Cert.ProjSampleIdeal.nD Cert.ProjSampleIdeal.τ).loc Cert.ProjSampleIdeal.main_arg2))
      ∧ r.2.sem = fun _ => 0)

def quiescent_RefProjSampleIdeal [hRefProjSampleIdeal : Cert.RefProjSampleIdeal.Facts] : Prop :=
  ∀ (m : (ℓ : Loc Cert.RefProjSampleIdeal.nD Cert.RefProjSampleIdeal.τ Cert.RefProjSampleIdeal.sig) → Buf (Elt Ideal) ℓ) (g : Dev Cert.RefProjSampleIdeal.nD → PrngReg), Pre_RefProjSampleIdeal m →
    θ_run (Cert.RefProjSampleIdeal.defs (F := Ideal)) (onTc (τ := Cert.RefProjSampleIdeal.τ) (Cert.RefProjSampleIdeal.main (F := Ideal))) ⟨m, fun _ => 0, g⟩ (fun r => (∀ c : Dev Cert.RefProjSampleIdeal.nD,
      r.2.mem ((c.tc : Thread Cert.RefProjSampleIdeal.nD Cert.RefProjSampleIdeal.τ).loc Cert.RefProjSampleIdeal.main_arg0) = m ((c.tc : Thread Cert.RefProjSampleIdeal.nD Cert.RefProjSampleIdeal.τ).loc Cert.RefProjSampleIdeal.main_arg0)
      ∧ r.2.mem ((c.tc : Thread Cert.RefProjSampleIdeal.nD Cert.RefProjSampleIdeal.τ).loc Cert.RefProjSampleIdeal.main_arg1) = m ((c.tc : Thread Cert.RefProjSampleIdeal.nD Cert.RefProjSampleIdeal.τ).loc Cert.RefProjSampleIdeal.main_arg1)
      ∧ r.2.mem ((c.tc : Thread Cert.RefProjSampleIdeal.nD Cert.RefProjSampleIdeal.τ).loc Cert.RefProjSampleIdeal.main_arg2) = m ((c.tc : Thread Cert.RefProjSampleIdeal.nD Cert.RefProjSampleIdeal.τ).loc Cert.RefProjSampleIdeal.main_arg2))
      ∧ r.2.sem = fun _ => 0)

def preserves_Sattn_SattnIdeal : Prop :=
  True

def algebraic_SattnIdeal_RefSattnIdeal_pre_attention_defined [hSattnIdeal : Cert.SattnIdeal.Facts] [hRefSattnIdeal : Cert.RefSattnIdeal.Facts] [hPre_attention_defined : Cert.Pre_attention_defined.Facts] : Prop :=
  ∀ (m : (ℓ : Loc Cert.SattnIdeal.nD Cert.SattnIdeal.τ Cert.SattnIdeal.sig) → Buf (Elt Ideal) ℓ) (g : Dev Cert.SattnIdeal.nD → PrngReg)
    (m' : (ℓ : Loc Cert.RefSattnIdeal.nD Cert.RefSattnIdeal.τ Cert.RefSattnIdeal.sig) → Buf (Elt Ideal) ℓ) (g' : Dev Cert.RefSattnIdeal.nD → PrngReg), Pre_SattnIdeal_attention_defined m →
    (∀ c : Dev Cert.SattnIdeal.nD,
      m' ((c.tc : Thread Cert.RefSattnIdeal.nD Cert.RefSattnIdeal.τ).loc Cert.RefSattnIdeal.main_arg0) = m ((c.tc : Thread Cert.SattnIdeal.nD Cert.SattnIdeal.τ).loc Cert.SattnIdeal.main_arg0)
      ∧ m' ((c.tc : Thread Cert.RefSattnIdeal.nD Cert.RefSattnIdeal.τ).loc Cert.RefSattnIdeal.main_arg1) = m ((c.tc : Thread Cert.SattnIdeal.nD Cert.SattnIdeal.τ).loc Cert.SattnIdeal.main_arg1)
      ∧ m' ((c.tc : Thread Cert.RefSattnIdeal.nD Cert.RefSattnIdeal.τ).loc Cert.RefSattnIdeal.main_arg2) = m ((c.tc : Thread Cert.SattnIdeal.nD Cert.SattnIdeal.τ).loc Cert.SattnIdeal.main_arg2)
      ∧ m' ((c.tc : Thread Cert.RefSattnIdeal.nD Cert.RefSattnIdeal.τ).loc Cert.RefSattnIdeal.main_arg3) = m ((c.tc : Thread Cert.SattnIdeal.nD Cert.SattnIdeal.τ).loc Cert.SattnIdeal.main_arg3)
      ∧ m' ((c.tc : Thread Cert.RefSattnIdeal.nD Cert.RefSattnIdeal.τ).loc Cert.RefSattnIdeal.main_arg4) = m ((c.tc : Thread Cert.SattnIdeal.nD Cert.SattnIdeal.τ).loc Cert.SattnIdeal.main_arg4)
      ∧ m' ((c.tc : Thread Cert.RefSattnIdeal.nD Cert.RefSattnIdeal.τ).loc Cert.RefSattnIdeal.main_arg5) = m ((c.tc : Thread Cert.SattnIdeal.nD Cert.SattnIdeal.τ).loc Cert.SattnIdeal.main_arg5)
      ∧ m' ((c.tc : Thread Cert.RefSattnIdeal.nD Cert.RefSattnIdeal.τ).loc Cert.RefSattnIdeal.main_arg6) = m ((c.tc : Thread Cert.SattnIdeal.nD Cert.SattnIdeal.τ).loc Cert.SattnIdeal.main_arg6)
      ∧ m' ((c.tc : Thread Cert.RefSattnIdeal.nD Cert.RefSattnIdeal.τ).loc Cert.RefSattnIdeal.main_arg7) = m ((c.tc : Thread Cert.SattnIdeal.nD Cert.SattnIdeal.τ).loc Cert.SattnIdeal.main_arg7)) →
    ∃ (v0 : (c : Dev Cert.SattnIdeal.nD) → Buf (Elt Ideal) ((c.tc : Thread Cert.SattnIdeal.nD Cert.SattnIdeal.τ).loc Cert.SattnIdeal.main_v16)),
      θ_run (Cert.SattnIdeal.defs (F := Ideal)) (onTc (τ := Cert.SattnIdeal.τ) (Cert.SattnIdeal.main (F := Ideal))) ⟨m, fun _ => 0, g⟩ (fun r => ∀ c : Dev Cert.SattnIdeal.nD,
          r.2.mem ((c.tc : Thread Cert.SattnIdeal.nD Cert.SattnIdeal.τ).loc Cert.SattnIdeal.main_v16) = v0 c
          ∧ r.2.mem ((c.tc : Thread Cert.SattnIdeal.nD Cert.SattnIdeal.τ).loc Cert.SattnIdeal.main_arg0) = m ((c.tc : Thread Cert.SattnIdeal.nD Cert.SattnIdeal.τ).loc Cert.SattnIdeal.main_arg0)
          ∧ r.2.mem ((c.tc : Thread Cert.SattnIdeal.nD Cert.SattnIdeal.τ).loc Cert.SattnIdeal.main_arg1) = m ((c.tc : Thread Cert.SattnIdeal.nD Cert.SattnIdeal.τ).loc Cert.SattnIdeal.main_arg1)
          ∧ r.2.mem ((c.tc : Thread Cert.SattnIdeal.nD Cert.SattnIdeal.τ).loc Cert.SattnIdeal.main_arg2) = m ((c.tc : Thread Cert.SattnIdeal.nD Cert.SattnIdeal.τ).loc Cert.SattnIdeal.main_arg2)
          ∧ r.2.mem ((c.tc : Thread Cert.SattnIdeal.nD Cert.SattnIdeal.τ).loc Cert.SattnIdeal.main_arg3) = m ((c.tc : Thread Cert.SattnIdeal.nD Cert.SattnIdeal.τ).loc Cert.SattnIdeal.main_arg3)
          ∧ r.2.mem ((c.tc : Thread Cert.SattnIdeal.nD Cert.SattnIdeal.τ).loc Cert.SattnIdeal.main_arg4) = m ((c.tc : Thread Cert.SattnIdeal.nD Cert.SattnIdeal.τ).loc Cert.SattnIdeal.main_arg4)
          ∧ r.2.mem ((c.tc : Thread Cert.SattnIdeal.nD Cert.SattnIdeal.τ).loc Cert.SattnIdeal.main_arg5) = m ((c.tc : Thread Cert.SattnIdeal.nD Cert.SattnIdeal.τ).loc Cert.SattnIdeal.main_arg5)
          ∧ r.2.mem ((c.tc : Thread Cert.SattnIdeal.nD Cert.SattnIdeal.τ).loc Cert.SattnIdeal.main_arg6) = m ((c.tc : Thread Cert.SattnIdeal.nD Cert.SattnIdeal.τ).loc Cert.SattnIdeal.main_arg6)
          ∧ r.2.mem ((c.tc : Thread Cert.SattnIdeal.nD Cert.SattnIdeal.τ).loc Cert.SattnIdeal.main_arg7) = m ((c.tc : Thread Cert.SattnIdeal.nD Cert.SattnIdeal.τ).loc Cert.SattnIdeal.main_arg7))
      ∧ θ_run (Cert.RefSattnIdeal.defs (F := Ideal)) (onTc (τ := Cert.RefSattnIdeal.τ) (Cert.RefSattnIdeal.main (F := Ideal))) ⟨m', fun _ => 0, g'⟩ (fun r => ∀ c : Dev Cert.RefSattnIdeal.nD,
          r.2.mem ((c.tc : Thread Cert.RefSattnIdeal.nD Cert.RefSattnIdeal.τ).loc Cert.RefSattnIdeal.main_v36) = v0 c
          ∧ r.2.mem ((c.tc : Thread Cert.RefSattnIdeal.nD Cert.RefSattnIdeal.τ).loc Cert.RefSattnIdeal.main_arg0) = m' ((c.tc : Thread Cert.RefSattnIdeal.nD Cert.RefSattnIdeal.τ).loc Cert.RefSattnIdeal.main_arg0)
          ∧ r.2.mem ((c.tc : Thread Cert.RefSattnIdeal.nD Cert.RefSattnIdeal.τ).loc Cert.RefSattnIdeal.main_arg1) = m' ((c.tc : Thread Cert.RefSattnIdeal.nD Cert.RefSattnIdeal.τ).loc Cert.RefSattnIdeal.main_arg1)
          ∧ r.2.mem ((c.tc : Thread Cert.RefSattnIdeal.nD Cert.RefSattnIdeal.τ).loc Cert.RefSattnIdeal.main_arg2) = m' ((c.tc : Thread Cert.RefSattnIdeal.nD Cert.RefSattnIdeal.τ).loc Cert.RefSattnIdeal.main_arg2)
          ∧ r.2.mem ((c.tc : Thread Cert.RefSattnIdeal.nD Cert.RefSattnIdeal.τ).loc Cert.RefSattnIdeal.main_arg3) = m' ((c.tc : Thread Cert.RefSattnIdeal.nD Cert.RefSattnIdeal.τ).loc Cert.RefSattnIdeal.main_arg3)
          ∧ r.2.mem ((c.tc : Thread Cert.RefSattnIdeal.nD Cert.RefSattnIdeal.τ).loc Cert.RefSattnIdeal.main_arg4) = m' ((c.tc : Thread Cert.RefSattnIdeal.nD Cert.RefSattnIdeal.τ).loc Cert.RefSattnIdeal.main_arg4)
          ∧ r.2.mem ((c.tc : Thread Cert.RefSattnIdeal.nD Cert.RefSattnIdeal.τ).loc Cert.RefSattnIdeal.main_arg5) = m' ((c.tc : Thread Cert.RefSattnIdeal.nD Cert.RefSattnIdeal.τ).loc Cert.RefSattnIdeal.main_arg5)
          ∧ r.2.mem ((c.tc : Thread Cert.RefSattnIdeal.nD Cert.RefSattnIdeal.τ).loc Cert.RefSattnIdeal.main_arg6) = m' ((c.tc : Thread Cert.RefSattnIdeal.nD Cert.RefSattnIdeal.τ).loc Cert.RefSattnIdeal.main_arg6)
          ∧ r.2.mem ((c.tc : Thread Cert.RefSattnIdeal.nD Cert.RefSattnIdeal.τ).loc Cert.RefSattnIdeal.main_arg7) = m' ((c.tc : Thread Cert.RefSattnIdeal.nD Cert.RefSattnIdeal.τ).loc Cert.RefSattnIdeal.main_arg7))

def preserves_Ffn_FfnIdeal : Prop :=
  True

def algebraic_FfnIdeal_RefFfnIdeal [hFfnIdeal : Cert.FfnIdeal.Facts] [hRefFfnIdeal : Cert.RefFfnIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.RefFfnIdeal.nD Cert.RefFfnIdeal.τ Cert.RefFfnIdeal.sig) → Buf (Elt Ideal) ℓ) (g' : Dev Cert.RefFfnIdeal.nD → PrngReg), Pre_FfnIdeal m →
    (∀ c : Dev Cert.FfnIdeal.nD,
      m' ((c.tc : Thread Cert.RefFfnIdeal.nD Cert.RefFfnIdeal.τ).loc Cert.RefFfnIdeal.main_arg0) = m ((c.tc : Thread Cert.FfnIdeal.nD Cert.FfnIdeal.τ).loc Cert.FfnIdeal.main_arg0)
      ∧ m' ((c.tc : Thread Cert.RefFfnIdeal.nD Cert.RefFfnIdeal.τ).loc Cert.RefFfnIdeal.main_arg1) = m ((c.tc : Thread Cert.FfnIdeal.nD Cert.FfnIdeal.τ).loc Cert.FfnIdeal.main_arg1)
      ∧ m' ((c.tc : Thread Cert.RefFfnIdeal.nD Cert.RefFfnIdeal.τ).loc Cert.RefFfnIdeal.main_arg2) = m ((c.tc : Thread Cert.FfnIdeal.nD Cert.FfnIdeal.τ).loc Cert.FfnIdeal.main_arg2)
      ∧ m' ((c.tc : Thread Cert.RefFfnIdeal.nD Cert.RefFfnIdeal.τ).loc Cert.RefFfnIdeal.main_arg3) = m ((c.tc : Thread Cert.FfnIdeal.nD Cert.FfnIdeal.τ).loc Cert.FfnIdeal.main_arg3)
      ∧ m' ((c.tc : Thread Cert.RefFfnIdeal.nD Cert.RefFfnIdeal.τ).loc Cert.RefFfnIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.RefFfnIdeal.defs (F := Ideal)) (onTc (τ := Cert.RefFfnIdeal.τ) (Cert.RefFfnIdeal.main (F := Ideal))) ⟨m', fun _ => 0, g'⟩ (fun r => ∀ c : Dev Cert.RefFfnIdeal.nD,
          r.2.mem ((c.tc : Thread Cert.RefFfnIdeal.nD Cert.RefFfnIdeal.τ).loc Cert.RefFfnIdeal.main_v21) = v0 c
          ∧ r.2.mem ((c.tc : Thread Cert.RefFfnIdeal.nD Cert.RefFfnIdeal.τ).loc Cert.RefFfnIdeal.main_arg0) = m' ((c.tc : Thread Cert.RefFfnIdeal.nD Cert.RefFfnIdeal.τ).loc Cert.RefFfnIdeal.main_arg0)
          ∧ r.2.mem ((c.tc : Thread Cert.RefFfnIdeal.nD Cert.RefFfnIdeal.τ).loc Cert.RefFfnIdeal.main_arg1) = m' ((c.tc : Thread Cert.RefFfnIdeal.nD Cert.RefFfnIdeal.τ).loc Cert.RefFfnIdeal.main_arg1)
          ∧ r.2.mem ((c.tc : Thread Cert.RefFfnIdeal.nD Cert.RefFfnIdeal.τ).loc Cert.RefFfnIdeal.main_arg2) = m' ((c.tc : Thread Cert.RefFfnIdeal.nD Cert.RefFfnIdeal.τ).loc Cert.RefFfnIdeal.main_arg2)
          ∧ r.2.mem ((c.tc : Thread Cert.RefFfnIdeal.nD Cert.RefFfnIdeal.τ).loc Cert.RefFfnIdeal.main_arg3) = m' ((c.tc : Thread Cert.RefFfnIdeal.nD Cert.RefFfnIdeal.τ).loc Cert.RefFfnIdeal.main_arg3)
          ∧ r.2.mem ((c.tc : Thread Cert.RefFfnIdeal.nD Cert.RefFfnIdeal.τ).loc Cert.RefFfnIdeal.main_arg4) = m' ((c.tc : Thread Cert.RefFfnIdeal.nD Cert.RefFfnIdeal.τ).loc Cert.RefFfnIdeal.main_arg4))

def preserves_Merge_MergeIdeal : Prop :=
  True

def algebraic_MergeIdeal_RefMergeIdeal [hMergeIdeal : Cert.MergeIdeal.Facts] [hRefMergeIdeal : Cert.RefMergeIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.RefMergeIdeal.nD Cert.RefMergeIdeal.τ Cert.RefMergeIdeal.sig) → Buf (Elt Ideal) ℓ) (g' : Dev Cert.RefMergeIdeal.nD → PrngReg), Pre_MergeIdeal m →
    (∀ c : Dev Cert.MergeIdeal.nD,
      m' ((c.tc : Thread Cert.RefMergeIdeal.nD Cert.RefMergeIdeal.τ).loc Cert.RefMergeIdeal.main_arg0) = m ((c.tc : Thread Cert.MergeIdeal.nD Cert.MergeIdeal.τ).loc Cert.MergeIdeal.main_arg0)
      ∧ m' ((c.tc : Thread Cert.RefMergeIdeal.nD Cert.RefMergeIdeal.τ).loc Cert.RefMergeIdeal.main_arg1) = m ((c.tc : Thread Cert.MergeIdeal.nD Cert.MergeIdeal.τ).loc Cert.MergeIdeal.main_arg1)
      ∧ m' ((c.tc : Thread Cert.RefMergeIdeal.nD Cert.RefMergeIdeal.τ).loc Cert.RefMergeIdeal.main_arg2) = m ((c.tc : Thread Cert.MergeIdeal.nD Cert.MergeIdeal.τ).loc Cert.MergeIdeal.main_arg2)
      ∧ m' ((c.tc : Thread Cert.RefMergeIdeal.nD Cert.RefMergeIdeal.τ).loc Cert.RefMergeIdeal.main_arg3) = m ((c.tc : Thread Cert.MergeIdeal.nD Cert.MergeIdeal.τ).loc Cert.MergeIdeal.main_arg3)
      ∧ m' ((c.tc : Thread Cert.RefMergeIdeal.nD Cert.RefMergeIdeal.τ).loc Cert.RefMergeIdeal.main_arg4) = m ((c.tc : Thread Cert.MergeIdeal.nD Cert.MergeIdeal.τ).loc Cert.MergeIdeal.main_arg4)
      ∧ m' ((c.tc : Thread Cert.RefMergeIdeal.nD Cert.RefMergeIdeal.τ).loc Cert.RefMergeIdeal.main_arg5) = m ((c.tc : Thread Cert.MergeIdeal.nD Cert.MergeIdeal.τ).loc Cert.MergeIdeal.main_arg5)
      ∧ m' ((c.tc : Thread Cert.RefMergeIdeal.nD Cert.RefMergeIdeal.τ).loc Cert.RefMergeIdeal.main_arg6) = m ((c.tc : Thread Cert.MergeIdeal.nD Cert.MergeIdeal.τ).loc Cert.MergeIdeal.main_arg6)
      ∧ m' ((c.tc : Thread Cert.RefMergeIdeal.nD Cert.RefMergeIdeal.τ).loc Cert.RefMergeIdeal.main_arg7) = m ((c.tc : Thread Cert.MergeIdeal.nD Cert.MergeIdeal.τ).loc Cert.MergeIdeal.main_arg7)
      ∧ m' ((c.tc : Thread Cert.RefMergeIdeal.nD Cert.RefMergeIdeal.τ).loc Cert.RefMergeIdeal.main_arg8) = m ((c.tc : Thread Cert.MergeIdeal.nD Cert.MergeIdeal.τ).loc Cert.MergeIdeal.main_arg8)
      ∧ m' ((c.tc : Thread Cert.RefMergeIdeal.nD Cert.RefMergeIdeal.τ).loc Cert.RefMergeIdeal.main_arg9) = m ((c.tc : Thread Cert.MergeIdeal.nD Cert.MergeIdeal.τ).loc Cert.MergeIdeal.main_arg9)
      ∧ m' ((c.tc : Thread Cert.RefMergeIdeal.nD Cert.RefMergeIdeal.τ).loc Cert.RefMergeIdeal.main_arg10) = m ((c.tc : Thread Cert.MergeIdeal.nD Cert.MergeIdeal.τ).loc Cert.MergeIdeal.main_arg10)
      ∧ m' ((c.tc : Thread Cert.RefMergeIdeal.nD Cert.RefMergeIdeal.τ).loc Cert.RefMergeIdeal.main_arg11) = m ((c.tc : Thread Cert.MergeIdeal.nD Cert.MergeIdeal.τ).loc Cert.MergeIdeal.main_arg11)
      ∧ m' ((c.tc : Thread Cert.RefMergeIdeal.nD Cert.RefMergeIdeal.τ).loc Cert.RefMergeIdeal.main_arg12) = m ((c.tc : Thread Cert.MergeIdeal.nD Cert.MergeIdeal.τ).loc Cert.MergeIdeal.main_arg12)
      ∧ m' ((c.tc : Thread Cert.RefMergeIdeal.nD Cert.RefMergeIdeal.τ).loc Cert.RefMergeIdeal.main_arg13) = m ((c.tc : Thread Cert.MergeIdeal.nD Cert.MergeIdeal.τ).loc Cert.MergeIdeal.main_arg13)) →
    ∃ (v0 : (c : Dev Cert.MergeIdeal.nD) → Buf (Elt Ideal) ((c.tc : Thread Cert.MergeIdeal.nD Cert.MergeIdeal.τ).loc Cert.MergeIdeal.main_v8)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v8) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ θ_run (Cert.RefMergeIdeal.defs (F := Ideal)) (onTc (τ := Cert.RefMergeIdeal.τ) (Cert.RefMergeIdeal.main (F := Ideal))) ⟨m', fun _ => 0, g'⟩ (fun r => ∀ c : Dev Cert.RefMergeIdeal.nD,
          r.2.mem ((c.tc : Thread Cert.RefMergeIdeal.nD Cert.RefMergeIdeal.τ).loc Cert.RefMergeIdeal.main_v0) = v0 c
          ∧ r.2.mem ((c.tc : Thread Cert.RefMergeIdeal.nD Cert.RefMergeIdeal.τ).loc Cert.RefMergeIdeal.main_arg0) = m' ((c.tc : Thread Cert.RefMergeIdeal.nD Cert.RefMergeIdeal.τ).loc Cert.RefMergeIdeal.main_arg0)
          ∧ r.2.mem ((c.tc : Thread Cert.RefMergeIdeal.nD Cert.RefMergeIdeal.τ).loc Cert.RefMergeIdeal.main_arg1) = m' ((c.tc : Thread Cert.RefMergeIdeal.nD Cert.RefMergeIdeal.τ).loc Cert.RefMergeIdeal.main_arg1)
          ∧ r.2.mem ((c.tc : Thread Cert.RefMergeIdeal.nD Cert.RefMergeIdeal.τ).loc Cert.RefMergeIdeal.main_arg2) = m' ((c.tc : Thread Cert.RefMergeIdeal.nD Cert.RefMergeIdeal.τ).loc Cert.RefMergeIdeal.main_arg2)
          ∧ r.2.mem ((c.tc : Thread Cert.RefMergeIdeal.nD Cert.RefMergeIdeal.τ).loc Cert.RefMergeIdeal.main_arg3) = m' ((c.tc : Thread Cert.RefMergeIdeal.nD Cert.RefMergeIdeal.τ).loc Cert.RefMergeIdeal.main_arg3)
          ∧ r.2.mem ((c.tc : Thread Cert.RefMergeIdeal.nD Cert.RefMergeIdeal.τ).loc Cert.RefMergeIdeal.main_arg4) = m' ((c.tc : Thread Cert.RefMergeIdeal.nD Cert.RefMergeIdeal.τ).loc Cert.RefMergeIdeal.main_arg4)
          ∧ r.2.mem ((c.tc : Thread Cert.RefMergeIdeal.nD Cert.RefMergeIdeal.τ).loc Cert.RefMergeIdeal.main_arg5) = m' ((c.tc : Thread Cert.RefMergeIdeal.nD Cert.RefMergeIdeal.τ).loc Cert.RefMergeIdeal.main_arg5)
          ∧ r.2.mem ((c.tc : Thread Cert.RefMergeIdeal.nD Cert.RefMergeIdeal.τ).loc Cert.RefMergeIdeal.main_arg6) = m' ((c.tc : Thread Cert.RefMergeIdeal.nD Cert.RefMergeIdeal.τ).loc Cert.RefMergeIdeal.main_arg6)
          ∧ r.2.mem ((c.tc : Thread Cert.RefMergeIdeal.nD Cert.RefMergeIdeal.τ).loc Cert.RefMergeIdeal.main_arg7) = m' ((c.tc : Thread Cert.RefMergeIdeal.nD Cert.RefMergeIdeal.τ).loc Cert.RefMergeIdeal.main_arg7)
          ∧ r.2.mem ((c.tc : Thread Cert.RefMergeIdeal.nD Cert.RefMergeIdeal.τ).loc Cert.RefMergeIdeal.main_arg8) = m' ((c.tc : Thread Cert.RefMergeIdeal.nD Cert.RefMergeIdeal.τ).loc Cert.RefMergeIdeal.main_arg8)
          ∧ r.2.mem ((c.tc : Thread Cert.RefMergeIdeal.nD Cert.RefMergeIdeal.τ).loc Cert.RefMergeIdeal.main_arg9) = m' ((c.tc : Thread Cert.RefMergeIdeal.nD Cert.RefMergeIdeal.τ).loc Cert.RefMergeIdeal.main_arg9)
          ∧ r.2.mem ((c.tc : Thread Cert.RefMergeIdeal.nD Cert.RefMergeIdeal.τ).loc Cert.RefMergeIdeal.main_arg10) = m' ((c.tc : Thread Cert.RefMergeIdeal.nD Cert.RefMergeIdeal.τ).loc Cert.RefMergeIdeal.main_arg10)
          ∧ r.2.mem ((c.tc : Thread Cert.RefMergeIdeal.nD Cert.RefMergeIdeal.τ).loc Cert.RefMergeIdeal.main_arg11) = m' ((c.tc : Thread Cert.RefMergeIdeal.nD Cert.RefMergeIdeal.τ).loc Cert.RefMergeIdeal.main_arg11)
          ∧ r.2.mem ((c.tc : Thread Cert.RefMergeIdeal.nD Cert.RefMergeIdeal.τ).loc Cert.RefMergeIdeal.main_arg12) = m' ((c.tc : Thread Cert.RefMergeIdeal.nD Cert.RefMergeIdeal.τ).loc Cert.RefMergeIdeal.main_arg12)
          ∧ r.2.mem ((c.tc : Thread Cert.RefMergeIdeal.nD Cert.RefMergeIdeal.τ).loc Cert.RefMergeIdeal.main_arg13) = m' ((c.tc : Thread Cert.RefMergeIdeal.nD Cert.RefMergeIdeal.τ).loc Cert.RefMergeIdeal.main_arg13))

def preserves_Proj_ProjIdeal : Prop :=
  True

def algebraic_ProjIdeal_RefProjIdeal [hProjIdeal : Cert.ProjIdeal.Facts] [hRefProjIdeal : Cert.RefProjIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.RefProjIdeal.nD Cert.RefProjIdeal.τ Cert.RefProjIdeal.sig) → Buf (Elt Ideal) ℓ) (g' : Dev Cert.RefProjIdeal.nD → PrngReg), Pre_ProjIdeal m →
    (∀ c : Dev Cert.ProjIdeal.nD,
      m' ((c.tc : Thread Cert.RefProjIdeal.nD Cert.RefProjIdeal.τ).loc Cert.RefProjIdeal.main_arg0) = m ((c.tc : Thread Cert.ProjIdeal.nD Cert.ProjIdeal.τ).loc Cert.ProjIdeal.main_arg0)
      ∧ m' ((c.tc : Thread Cert.RefProjIdeal.nD Cert.RefProjIdeal.τ).loc Cert.RefProjIdeal.main_arg1) = m ((c.tc : Thread Cert.ProjIdeal.nD Cert.ProjIdeal.τ).loc Cert.ProjIdeal.main_arg1)
      ∧ m' ((c.tc : Thread Cert.RefProjIdeal.nD Cert.RefProjIdeal.τ).loc Cert.RefProjIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v9_0)) (v1 : (c : Dev Cert.ProjIdeal.nD) → Buf (Elt Ideal) ((c.tc : Thread Cert.ProjIdeal.nD Cert.ProjIdeal.τ).loc Cert.ProjIdeal.main_v9_1)) (v2 : (c : Dev Cert.ProjIdeal.nD) → Buf (Elt Ideal) ((c.tc : Thread Cert.ProjIdeal.nD Cert.ProjIdeal.τ).loc Cert.ProjIdeal.main_v9_2)) (v3 : (c : Dev Cert.ProjIdeal.nD) → Buf (Elt Ideal) ((c.tc : Thread Cert.ProjIdeal.nD Cert.ProjIdeal.τ).loc Cert.ProjIdeal.main_v9_3)) (v4 : (c : Dev Cert.ProjIdeal.nD) → Buf (Elt Ideal) ((c.tc : Thread Cert.ProjIdeal.nD Cert.ProjIdeal.τ).loc Cert.ProjIdeal.main_v9_4)) (v5 : (c : Dev Cert.ProjIdeal.nD) → Buf (Elt Ideal) ((c.tc : Thread Cert.ProjIdeal.nD Cert.ProjIdeal.τ).loc Cert.ProjIdeal.main_v9_5)) (v6 : (c : Dev Cert.ProjIdeal.nD) → Buf (Elt Ideal) ((c.tc : Thread Cert.ProjIdeal.nD Cert.ProjIdeal.τ).loc Cert.ProjIdeal.main_v9_6)) (v7 : (c : Dev Cert.ProjIdeal.nD) → Buf (Elt Ideal) ((c.tc : Thread Cert.ProjIdeal.nD Cert.ProjIdeal.τ).loc Cert.ProjIdeal.main_v9_7)) (v8 : (c : Dev Cert.ProjIdeal.nD) → Buf (Elt Ideal) ((c.tc : Thread Cert.ProjIdeal.nD Cert.ProjIdeal.τ).loc Cert.ProjIdeal.main_v9_8)) (v9 : (c : Dev Cert.ProjIdeal.nD) → Buf (Elt Ideal) ((c.tc : Thread Cert.ProjIdeal.nD Cert.ProjIdeal.τ).loc Cert.ProjIdeal.main_v9_9)) (v10 : (c : Dev Cert.ProjIdeal.nD) → Buf (Elt Ideal) ((c.tc : Thread Cert.ProjIdeal.nD Cert.ProjIdeal.τ).loc Cert.ProjIdeal.main_v9_10)) (v11 : (c : Dev Cert.ProjIdeal.nD) → Buf (Elt Ideal) ((c.tc : Thread Cert.ProjIdeal.nD Cert.ProjIdeal.τ).loc Cert.ProjIdeal.main_v9_11)) (v12 : (c : Dev Cert.ProjIdeal.nD) → Buf (Elt Ideal) ((c.tc : Thread Cert.ProjIdeal.nD Cert.ProjIdeal.τ).loc Cert.ProjIdeal.main_v9_12)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v9_0) = v0 c
          ∧ r.2.mem ((c.tc : Thread Cert.ProjIdeal.nD Cert.ProjIdeal.τ).loc Cert.ProjIdeal.main_v9_1) = v1 c
          ∧ r.2.mem ((c.tc : Thread Cert.ProjIdeal.nD Cert.ProjIdeal.τ).loc Cert.ProjIdeal.main_v9_2) = v2 c
          ∧ r.2.mem ((c.tc : Thread Cert.ProjIdeal.nD Cert.ProjIdeal.τ).loc Cert.ProjIdeal.main_v9_3) = v3 c
          ∧ r.2.mem ((c.tc : Thread Cert.ProjIdeal.nD Cert.ProjIdeal.τ).loc Cert.ProjIdeal.main_v9_4) = v4 c
          ∧ r.2.mem ((c.tc : Thread Cert.ProjIdeal.nD Cert.ProjIdeal.τ).loc Cert.ProjIdeal.main_v9_5) = v5 c
          ∧ r.2.mem ((c.tc : Thread Cert.ProjIdeal.nD Cert.ProjIdeal.τ).loc Cert.ProjIdeal.main_v9_6) = v6 c
          ∧ r.2.mem ((c.tc : Thread Cert.ProjIdeal.nD Cert.ProjIdeal.τ).loc Cert.ProjIdeal.main_v9_7) = v7 c
          ∧ r.2.mem ((c.tc : Thread Cert.ProjIdeal.nD Cert.ProjIdeal.τ).loc Cert.ProjIdeal.main_v9_8) = v8 c
          ∧ r.2.mem ((c.tc : Thread Cert.ProjIdeal.nD Cert.ProjIdeal.τ).loc Cert.ProjIdeal.main_v9_9) = v9 c
          ∧ r.2.mem ((c.tc : Thread Cert.ProjIdeal.nD Cert.ProjIdeal.τ).loc Cert.ProjIdeal.main_v9_10) = v10 c
          ∧ r.2.mem ((c.tc : Thread Cert.ProjIdeal.nD Cert.ProjIdeal.τ).loc Cert.ProjIdeal.main_v9_11) = v11 c
          ∧ r.2.mem ((c.tc : Thread Cert.ProjIdeal.nD Cert.ProjIdeal.τ).loc Cert.ProjIdeal.main_v9_12) = v12 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.RefProjIdeal.defs (F := Ideal)) (onTc (τ := Cert.RefProjIdeal.τ) (Cert.RefProjIdeal.main (F := Ideal))) ⟨m', fun _ => 0, g'⟩ (fun r => ∀ c : Dev Cert.RefProjIdeal.nD,
          r.2.mem ((c.tc : Thread Cert.RefProjIdeal.nD Cert.RefProjIdeal.τ).loc Cert.RefProjIdeal.main_v29) = v0 c
          ∧ r.2.mem ((c.tc : Thread Cert.RefProjIdeal.nD Cert.RefProjIdeal.τ).loc Cert.RefProjIdeal.main_v15) = v1 c
          ∧ r.2.mem ((c.tc : Thread Cert.RefProjIdeal.nD Cert.RefProjIdeal.τ).loc Cert.RefProjIdeal.main_v35) = v2 c
          ∧ r.2.mem ((c.tc : Thread Cert.RefProjIdeal.nD Cert.RefProjIdeal.τ).loc Cert.RefProjIdeal.main_v41) = v3 c
          ∧ r.2.mem ((c.tc : Thread Cert.RefProjIdeal.nD Cert.RefProjIdeal.τ).loc Cert.RefProjIdeal.main_v43) = v4 c
          ∧ r.2.mem ((c.tc : Thread Cert.RefProjIdeal.nD Cert.RefProjIdeal.τ).loc Cert.RefProjIdeal.main_v45) = v5 c
          ∧ r.2.mem ((c.tc : Thread Cert.RefProjIdeal.nD Cert.RefProjIdeal.τ).loc Cert.RefProjIdeal.main_v47) = v6 c
          ∧ r.2.mem ((c.tc : Thread Cert.RefProjIdeal.nD Cert.RefProjIdeal.τ).loc Cert.RefProjIdeal.main_v48) = v7 c
          ∧ r.2.mem ((c.tc : Thread Cert.RefProjIdeal.nD Cert.RefProjIdeal.τ).loc Cert.RefProjIdeal.main_v50) = v8 c
          ∧ r.2.mem ((c.tc : Thread Cert.RefProjIdeal.nD Cert.RefProjIdeal.τ).loc Cert.RefProjIdeal.main_v51) = v9 c
          ∧ r.2.mem ((c.tc : Thread Cert.RefProjIdeal.nD Cert.RefProjIdeal.τ).loc Cert.RefProjIdeal.main_v56) = v10 c
          ∧ r.2.mem ((c.tc : Thread Cert.RefProjIdeal.nD Cert.RefProjIdeal.τ).loc Cert.RefProjIdeal.main_v61) = v11 c
          ∧ r.2.mem ((c.tc : Thread Cert.RefProjIdeal.nD Cert.RefProjIdeal.τ).loc Cert.RefProjIdeal.main_v65) = v12 c
          ∧ r.2.mem ((c.tc : Thread Cert.RefProjIdeal.nD Cert.RefProjIdeal.τ).loc Cert.RefProjIdeal.main_arg0) = m' ((c.tc : Thread Cert.RefProjIdeal.nD Cert.RefProjIdeal.τ).loc Cert.RefProjIdeal.main_arg0)
          ∧ r.2.mem ((c.tc : Thread Cert.RefProjIdeal.nD Cert.RefProjIdeal.τ).loc Cert.RefProjIdeal.main_arg1) = m' ((c.tc : Thread Cert.RefProjIdeal.nD Cert.RefProjIdeal.τ).loc Cert.RefProjIdeal.main_arg1)
          ∧ r.2.mem ((c.tc : Thread Cert.RefProjIdeal.nD Cert.RefProjIdeal.τ).loc Cert.RefProjIdeal.main_arg2) = m' ((c.tc : Thread Cert.RefProjIdeal.nD Cert.RefProjIdeal.τ).loc Cert.RefProjIdeal.main_arg2))

def preserves_MergeSample_MergeSampleIdeal : Prop :=
  True

def algebraic_MergeSampleIdeal_RefMergeSampleIdeal [hMergeSampleIdeal : Cert.MergeSampleIdeal.Facts] [hRefMergeSampleIdeal : Cert.RefMergeSampleIdeal.Facts] : Prop :=
  ∀ (m : (ℓ : Loc Cert.MergeSampleIdeal.nD Cert.MergeSampleIdeal.τ Cert.MergeSampleIdeal.sig) → Buf (Elt Ideal) ℓ) (g : Dev Cert.MergeSampleIdeal.nD → PrngReg)
    (m' : (ℓ : Loc Cert.RefMergeSampleIdeal.nD Cert.RefMergeSampleIdeal.τ Cert.RefMergeSampleIdeal.sig) → Buf (Elt Ideal) ℓ) (g' : Dev Cert.RefMergeSampleIdeal.nD → PrngReg), Pre_MergeSampleIdeal m →
    (∀ c : Dev Cert.MergeSampleIdeal.nD,
      m' ((c.tc : Thread Cert.RefMergeSampleIdeal.nD Cert.RefMergeSampleIdeal.τ).loc Cert.RefMergeSampleIdeal.main_arg0) = m ((c.tc : Thread Cert.MergeSampleIdeal.nD Cert.MergeSampleIdeal.τ).loc Cert.MergeSampleIdeal.main_arg0)
      ∧ m' ((c.tc : Thread Cert.RefMergeSampleIdeal.nD Cert.RefMergeSampleIdeal.τ).loc Cert.RefMergeSampleIdeal.main_arg1) = m ((c.tc : Thread Cert.MergeSampleIdeal.nD Cert.MergeSampleIdeal.τ).loc Cert.MergeSampleIdeal.main_arg1)
      ∧ m' ((c.tc : Thread Cert.RefMergeSampleIdeal.nD Cert.RefMergeSampleIdeal.τ).loc Cert.RefMergeSampleIdeal.main_arg2) = m ((c.tc : Thread Cert.MergeSampleIdeal.nD Cert.MergeSampleIdeal.τ).loc Cert.MergeSampleIdeal.main_arg2)
      ∧ m' ((c.tc : Thread Cert.RefMergeSampleIdeal.nD Cert.RefMergeSampleIdeal.τ).loc Cert.RefMergeSampleIdeal.main_arg3) = m ((c.tc : Thread Cert.MergeSampleIdeal.nD Cert.MergeSampleIdeal.τ).loc Cert.MergeSampleIdeal.main_arg3)
      ∧ m' ((c.tc : Thread Cert.RefMergeSampleIdeal.nD Cert.RefMergeSampleIdeal.τ).loc Cert.RefMergeSampleIdeal.main_arg4) = m ((c.tc : Thread Cert.MergeSampleIdeal.nD Cert.MergeSampleIdeal.τ).loc Cert.MergeSampleIdeal.main_arg4)
      ∧ m' ((c.tc : Thread Cert.RefMergeSampleIdeal.nD Cert.RefMergeSampleIdeal.τ).loc Cert.RefMergeSampleIdeal.main_arg5) = m ((c.tc : Thread Cert.MergeSampleIdeal.nD Cert.MergeSampleIdeal.τ).loc Cert.MergeSampleIdeal.main_arg5)
      ∧ m' ((c.tc : Thread Cert.RefMergeSampleIdeal.nD Cert.RefMergeSampleIdeal.τ).loc Cert.RefMergeSampleIdeal.main_arg6) = m ((c.tc : Thread Cert.MergeSampleIdeal.nD Cert.MergeSampleIdeal.τ).loc Cert.MergeSampleIdeal.main_arg6)
      ∧ m' ((c.tc : Thread Cert.RefMergeSampleIdeal.nD Cert.RefMergeSampleIdeal.τ).loc Cert.RefMergeSampleIdeal.main_arg7) = m ((c.tc : Thread Cert.MergeSampleIdeal.nD Cert.MergeSampleIdeal.τ).loc Cert.MergeSampleIdeal.main_arg7)
      ∧ m' ((c.tc : Thread Cert.RefMergeSampleIdeal.nD Cert.RefMergeSampleIdeal.τ).loc Cert.RefMergeSampleIdeal.main_arg8) = m ((c.tc : Thread Cert.MergeSampleIdeal.nD Cert.MergeSampleIdeal.τ).loc Cert.MergeSampleIdeal.main_arg8)
      ∧ m' ((c.tc : Thread Cert.RefMergeSampleIdeal.nD Cert.RefMergeSampleIdeal.τ).loc Cert.RefMergeSampleIdeal.main_arg9) = m ((c.tc : Thread Cert.MergeSampleIdeal.nD Cert.MergeSampleIdeal.τ).loc Cert.MergeSampleIdeal.main_arg9)
      ∧ m' ((c.tc : Thread Cert.RefMergeSampleIdeal.nD Cert.RefMergeSampleIdeal.τ).loc Cert.RefMergeSampleIdeal.main_arg10) = m ((c.tc : Thread Cert.MergeSampleIdeal.nD Cert.MergeSampleIdeal.τ).loc Cert.MergeSampleIdeal.main_arg10)
      ∧ m' ((c.tc : Thread Cert.RefMergeSampleIdeal.nD Cert.RefMergeSampleIdeal.τ).loc Cert.RefMergeSampleIdeal.main_arg11) = m ((c.tc : Thread Cert.MergeSampleIdeal.nD Cert.MergeSampleIdeal.τ).loc Cert.MergeSampleIdeal.main_arg11)
      ∧ m' ((c.tc : Thread Cert.RefMergeSampleIdeal.nD Cert.RefMergeSampleIdeal.τ).loc Cert.RefMergeSampleIdeal.main_arg12) = m ((c.tc : Thread Cert.MergeSampleIdeal.nD Cert.MergeSampleIdeal.τ).loc Cert.MergeSampleIdeal.main_arg12)
      ∧ m' ((c.tc : Thread Cert.RefMergeSampleIdeal.nD Cert.RefMergeSampleIdeal.τ).loc Cert.RefMergeSampleIdeal.main_arg13) = m ((c.tc : Thread Cert.MergeSampleIdeal.nD Cert.MergeSampleIdeal.τ).loc Cert.MergeSampleIdeal.main_arg13)
      ∧ m' ((c.tc : Thread Cert.RefMergeSampleIdeal.nD Cert.RefMergeSampleIdeal.τ).loc Cert.RefMergeSampleIdeal.main_arg14) = m ((c.tc : Thread Cert.MergeSampleIdeal.nD Cert.MergeSampleIdeal.τ).loc Cert.MergeSampleIdeal.main_arg14)) →
    ∃ (v0 : (c : Dev Cert.MergeSampleIdeal.nD) → Buf (Elt Ideal) ((c.tc : Thread Cert.MergeSampleIdeal.nD Cert.MergeSampleIdeal.τ).loc Cert.MergeSampleIdeal.main_v12)),
      θ_run (Cert.MergeSampleIdeal.defs (F := Ideal)) (onTc (τ := Cert.MergeSampleIdeal.τ) (Cert.MergeSampleIdeal.main (F := Ideal))) ⟨m, fun _ => 0, g⟩ (fun r => ∀ c : Dev Cert.MergeSampleIdeal.nD,
          r.2.mem ((c.tc : Thread Cert.MergeSampleIdeal.nD Cert.MergeSampleIdeal.τ).loc Cert.MergeSampleIdeal.main_v12) = v0 c
          ∧ r.2.mem ((c.tc : Thread Cert.MergeSampleIdeal.nD Cert.MergeSampleIdeal.τ).loc Cert.MergeSampleIdeal.main_arg0) = m ((c.tc : Thread Cert.MergeSampleIdeal.nD Cert.MergeSampleIdeal.τ).loc Cert.MergeSampleIdeal.main_arg0)
          ∧ r.2.mem ((c.tc : Thread Cert.MergeSampleIdeal.nD Cert.MergeSampleIdeal.τ).loc Cert.MergeSampleIdeal.main_arg1) = m ((c.tc : Thread Cert.MergeSampleIdeal.nD Cert.MergeSampleIdeal.τ).loc Cert.MergeSampleIdeal.main_arg1)
          ∧ r.2.mem ((c.tc : Thread Cert.MergeSampleIdeal.nD Cert.MergeSampleIdeal.τ).loc Cert.MergeSampleIdeal.main_arg2) = m ((c.tc : Thread Cert.MergeSampleIdeal.nD Cert.MergeSampleIdeal.τ).loc Cert.MergeSampleIdeal.main_arg2)
          ∧ r.2.mem ((c.tc : Thread Cert.MergeSampleIdeal.nD Cert.MergeSampleIdeal.τ).loc Cert.MergeSampleIdeal.main_arg3) = m ((c.tc : Thread Cert.MergeSampleIdeal.nD Cert.MergeSampleIdeal.τ).loc Cert.MergeSampleIdeal.main_arg3)
          ∧ r.2.mem ((c.tc : Thread Cert.MergeSampleIdeal.nD Cert.MergeSampleIdeal.τ).loc Cert.MergeSampleIdeal.main_arg4) = m ((c.tc : Thread Cert.MergeSampleIdeal.nD Cert.MergeSampleIdeal.τ).loc Cert.MergeSampleIdeal.main_arg4)
          ∧ r.2.mem ((c.tc : Thread Cert.MergeSampleIdeal.nD Cert.MergeSampleIdeal.τ).loc Cert.MergeSampleIdeal.main_arg5) = m ((c.tc : Thread Cert.MergeSampleIdeal.nD Cert.MergeSampleIdeal.τ).loc Cert.MergeSampleIdeal.main_arg5)
          ∧ r.2.mem ((c.tc : Thread Cert.MergeSampleIdeal.nD Cert.MergeSampleIdeal.τ).loc Cert.MergeSampleIdeal.main_arg6) = m ((c.tc : Thread Cert.MergeSampleIdeal.nD Cert.MergeSampleIdeal.τ).loc Cert.MergeSampleIdeal.main_arg6)
          ∧ r.2.mem ((c.tc : Thread Cert.MergeSampleIdeal.nD Cert.MergeSampleIdeal.τ).loc Cert.MergeSampleIdeal.main_arg7) = m ((c.tc : Thread Cert.MergeSampleIdeal.nD Cert.MergeSampleIdeal.τ).loc Cert.MergeSampleIdeal.main_arg7)
          ∧ r.2.mem ((c.tc : Thread Cert.MergeSampleIdeal.nD Cert.MergeSampleIdeal.τ).loc Cert.MergeSampleIdeal.main_arg8) = m ((c.tc : Thread Cert.MergeSampleIdeal.nD Cert.MergeSampleIdeal.τ).loc Cert.MergeSampleIdeal.main_arg8)
          ∧ r.2.mem ((c.tc : Thread Cert.MergeSampleIdeal.nD Cert.MergeSampleIdeal.τ).loc Cert.MergeSampleIdeal.main_arg9) = m ((c.tc : Thread Cert.MergeSampleIdeal.nD Cert.MergeSampleIdeal.τ).loc Cert.MergeSampleIdeal.main_arg9)
          ∧ r.2.mem ((c.tc : Thread Cert.MergeSampleIdeal.nD Cert.MergeSampleIdeal.τ).loc Cert.MergeSampleIdeal.main_arg10) = m ((c.tc : Thread Cert.MergeSampleIdeal.nD Cert.MergeSampleIdeal.τ).loc Cert.MergeSampleIdeal.main_arg10)
          ∧ r.2.mem ((c.tc : Thread Cert.MergeSampleIdeal.nD Cert.MergeSampleIdeal.τ).loc Cert.MergeSampleIdeal.main_arg11) = m ((c.tc : Thread Cert.MergeSampleIdeal.nD Cert.MergeSampleIdeal.τ).loc Cert.MergeSampleIdeal.main_arg11)
          ∧ r.2.mem ((c.tc : Thread Cert.MergeSampleIdeal.nD Cert.MergeSampleIdeal.τ).loc Cert.MergeSampleIdeal.main_arg12) = m ((c.tc : Thread Cert.MergeSampleIdeal.nD Cert.MergeSampleIdeal.τ).loc Cert.MergeSampleIdeal.main_arg12)
          ∧ r.2.mem ((c.tc : Thread Cert.MergeSampleIdeal.nD Cert.MergeSampleIdeal.τ).loc Cert.MergeSampleIdeal.main_arg13) = m ((c.tc : Thread Cert.MergeSampleIdeal.nD Cert.MergeSampleIdeal.τ).loc Cert.MergeSampleIdeal.main_arg13)
          ∧ r.2.mem ((c.tc : Thread Cert.MergeSampleIdeal.nD Cert.MergeSampleIdeal.τ).loc Cert.MergeSampleIdeal.main_arg14) = m ((c.tc : Thread Cert.MergeSampleIdeal.nD Cert.MergeSampleIdeal.τ).loc Cert.MergeSampleIdeal.main_arg14))
      ∧ θ_run (Cert.RefMergeSampleIdeal.defs (F := Ideal)) (onTc (τ := Cert.RefMergeSampleIdeal.τ) (Cert.RefMergeSampleIdeal.main (F := Ideal))) ⟨m', fun _ => 0, g'⟩ (fun r => ∀ c : Dev Cert.RefMergeSampleIdeal.nD,
          r.2.mem ((c.tc : Thread Cert.RefMergeSampleIdeal.nD Cert.RefMergeSampleIdeal.τ).loc Cert.RefMergeSampleIdeal.main_v0) = v0 c
          ∧ r.2.mem ((c.tc : Thread Cert.RefMergeSampleIdeal.nD Cert.RefMergeSampleIdeal.τ).loc Cert.RefMergeSampleIdeal.main_arg0) = m' ((c.tc : Thread Cert.RefMergeSampleIdeal.nD Cert.RefMergeSampleIdeal.τ).loc Cert.RefMergeSampleIdeal.main_arg0)
          ∧ r.2.mem ((c.tc : Thread Cert.RefMergeSampleIdeal.nD Cert.RefMergeSampleIdeal.τ).loc Cert.RefMergeSampleIdeal.main_arg1) = m' ((c.tc : Thread Cert.RefMergeSampleIdeal.nD Cert.RefMergeSampleIdeal.τ).loc Cert.RefMergeSampleIdeal.main_arg1)
          ∧ r.2.mem ((c.tc : Thread Cert.RefMergeSampleIdeal.nD Cert.RefMergeSampleIdeal.τ).loc Cert.RefMergeSampleIdeal.main_arg2) = m' ((c.tc : Thread Cert.RefMergeSampleIdeal.nD Cert.RefMergeSampleIdeal.τ).loc Cert.RefMergeSampleIdeal.main_arg2)
          ∧ r.2.mem ((c.tc : Thread Cert.RefMergeSampleIdeal.nD Cert.RefMergeSampleIdeal.τ).loc Cert.RefMergeSampleIdeal.main_arg3) = m' ((c.tc : Thread Cert.RefMergeSampleIdeal.nD Cert.RefMergeSampleIdeal.τ).loc Cert.RefMergeSampleIdeal.main_arg3)
          ∧ r.2.mem ((c.tc : Thread Cert.RefMergeSampleIdeal.nD Cert.RefMergeSampleIdeal.τ).loc Cert.RefMergeSampleIdeal.main_arg4) = m' ((c.tc : Thread Cert.RefMergeSampleIdeal.nD Cert.RefMergeSampleIdeal.τ).loc Cert.RefMergeSampleIdeal.main_arg4)
          ∧ r.2.mem ((c.tc : Thread Cert.RefMergeSampleIdeal.nD Cert.RefMergeSampleIdeal.τ).loc Cert.RefMergeSampleIdeal.main_arg5) = m' ((c.tc : Thread Cert.RefMergeSampleIdeal.nD Cert.RefMergeSampleIdeal.τ).loc Cert.RefMergeSampleIdeal.main_arg5)
          ∧ r.2.mem ((c.tc : Thread Cert.RefMergeSampleIdeal.nD Cert.RefMergeSampleIdeal.τ).loc Cert.RefMergeSampleIdeal.main_arg6) = m' ((c.tc : Thread Cert.RefMergeSampleIdeal.nD Cert.RefMergeSampleIdeal.τ).loc Cert.RefMergeSampleIdeal.main_arg6)
          ∧ r.2.mem ((c.tc : Thread Cert.RefMergeSampleIdeal.nD Cert.RefMergeSampleIdeal.τ).loc Cert.RefMergeSampleIdeal.main_arg7) = m' ((c.tc : Thread Cert.RefMergeSampleIdeal.nD Cert.RefMergeSampleIdeal.τ).loc Cert.RefMergeSampleIdeal.main_arg7)
          ∧ r.2.mem ((c.tc : Thread Cert.RefMergeSampleIdeal.nD Cert.RefMergeSampleIdeal.τ).loc Cert.RefMergeSampleIdeal.main_arg8) = m' ((c.tc : Thread Cert.RefMergeSampleIdeal.nD Cert.RefMergeSampleIdeal.τ).loc Cert.RefMergeSampleIdeal.main_arg8)
          ∧ r.2.mem ((c.tc : Thread Cert.RefMergeSampleIdeal.nD Cert.RefMergeSampleIdeal.τ).loc Cert.RefMergeSampleIdeal.main_arg9) = m' ((c.tc : Thread Cert.RefMergeSampleIdeal.nD Cert.RefMergeSampleIdeal.τ).loc Cert.RefMergeSampleIdeal.main_arg9)
          ∧ r.2.mem ((c.tc : Thread Cert.RefMergeSampleIdeal.nD Cert.RefMergeSampleIdeal.τ).loc Cert.RefMergeSampleIdeal.main_arg10) = m' ((c.tc : Thread Cert.RefMergeSampleIdeal.nD Cert.RefMergeSampleIdeal.τ).loc Cert.RefMergeSampleIdeal.main_arg10)
          ∧ r.2.mem ((c.tc : Thread Cert.RefMergeSampleIdeal.nD Cert.RefMergeSampleIdeal.τ).loc Cert.RefMergeSampleIdeal.main_arg11) = m' ((c.tc : Thread Cert.RefMergeSampleIdeal.nD Cert.RefMergeSampleIdeal.τ).loc Cert.RefMergeSampleIdeal.main_arg11)
          ∧ r.2.mem ((c.tc : Thread Cert.RefMergeSampleIdeal.nD Cert.RefMergeSampleIdeal.τ).loc Cert.RefMergeSampleIdeal.main_arg12) = m' ((c.tc : Thread Cert.RefMergeSampleIdeal.nD Cert.RefMergeSampleIdeal.τ).loc Cert.RefMergeSampleIdeal.main_arg12)
          ∧ r.2.mem ((c.tc : Thread Cert.RefMergeSampleIdeal.nD Cert.RefMergeSampleIdeal.τ).loc Cert.RefMergeSampleIdeal.main_arg13) = m' ((c.tc : Thread Cert.RefMergeSampleIdeal.nD Cert.RefMergeSampleIdeal.τ).loc Cert.RefMergeSampleIdeal.main_arg13)
          ∧ r.2.mem ((c.tc : Thread Cert.RefMergeSampleIdeal.nD Cert.RefMergeSampleIdeal.τ).loc Cert.RefMergeSampleIdeal.main_arg14) = m' ((c.tc : Thread Cert.RefMergeSampleIdeal.nD Cert.RefMergeSampleIdeal.τ).loc Cert.RefMergeSampleIdeal.main_arg14))

def preserves_ProjSample_ProjSampleIdeal : Prop :=
  True

def algebraic_ProjSampleIdeal_RefProjSampleIdeal [hProjSampleIdeal : Cert.ProjSampleIdeal.Facts] [hRefProjSampleIdeal : Cert.RefProjSampleIdeal.Facts] : Prop :=
  ∀ (m : (ℓ : Loc Cert.ProjSampleIdeal.nD Cert.ProjSampleIdeal.τ Cert.ProjSampleIdeal.sig) → Buf (Elt Ideal) ℓ) (g : Dev Cert.ProjSampleIdeal.nD → PrngReg)
    (m' : (ℓ : Loc Cert.RefProjSampleIdeal.nD Cert.RefProjSampleIdeal.τ Cert.RefProjSampleIdeal.sig) → Buf (Elt Ideal) ℓ) (g' : Dev Cert.RefProjSampleIdeal.nD → PrngReg), Pre_ProjSampleIdeal m →
    (∀ c : Dev Cert.ProjSampleIdeal.nD,
      m' ((c.tc : Thread Cert.RefProjSampleIdeal.nD Cert.RefProjSampleIdeal.τ).loc Cert.RefProjSampleIdeal.main_arg0) = m ((c.tc : Thread Cert.ProjSampleIdeal.nD Cert.ProjSampleIdeal.τ).loc Cert.ProjSampleIdeal.main_arg0)
      ∧ m' ((c.tc : Thread Cert.RefProjSampleIdeal.nD Cert.RefProjSampleIdeal.τ).loc Cert.RefProjSampleIdeal.main_arg1) = m ((c.tc : Thread Cert.ProjSampleIdeal.nD Cert.ProjSampleIdeal.τ).loc Cert.ProjSampleIdeal.main_arg1)
      ∧ m' ((c.tc : Thread Cert.RefProjSampleIdeal.nD Cert.RefProjSampleIdeal.τ).loc Cert.RefProjSampleIdeal.main_arg2) = m ((c.tc : Thread Cert.ProjSampleIdeal.nD Cert.ProjSampleIdeal.τ).loc Cert.ProjSampleIdeal.main_arg2)) →
    ∃ (v0 : (c : Dev Cert.ProjSampleIdeal.nD) → Buf (Elt Ideal) ((c.tc : Thread Cert.ProjSampleIdeal.nD Cert.ProjSampleIdeal.τ).loc Cert.ProjSampleIdeal.main_v9_0)) (v1 : (c : Dev Cert.ProjSampleIdeal.nD) → Buf (Elt Ideal) ((c.tc : Thread Cert.ProjSampleIdeal.nD Cert.ProjSampleIdeal.τ).loc Cert.ProjSampleIdeal.main_v9_1)) (v2 : (c : Dev Cert.ProjSampleIdeal.nD) → Buf (Elt Ideal) ((c.tc : Thread Cert.ProjSampleIdeal.nD Cert.ProjSampleIdeal.τ).loc Cert.ProjSampleIdeal.main_v9_2)) (v3 : (c : Dev Cert.ProjSampleIdeal.nD) → Buf (Elt Ideal) ((c.tc : Thread Cert.ProjSampleIdeal.nD Cert.ProjSampleIdeal.τ).loc Cert.ProjSampleIdeal.main_v9_3)) (v4 : (c : Dev Cert.ProjSampleIdeal.nD) → Buf (Elt Ideal) ((c.tc : Thread Cert.ProjSampleIdeal.nD Cert.ProjSampleIdeal.τ).loc Cert.ProjSampleIdeal.main_v9_4)) (v5 : (c : Dev Cert.ProjSampleIdeal.nD) → Buf (Elt Ideal) ((c.tc : Thread Cert.ProjSampleIdeal.nD Cert.ProjSampleIdeal.τ).loc Cert.ProjSampleIdeal.main_v9_5)) (v6 : (c : Dev Cert.ProjSampleIdeal.nD) → Buf (Elt Ideal) ((c.tc : Thread Cert.ProjSampleIdeal.nD Cert.ProjSampleIdeal.τ).loc Cert.ProjSampleIdeal.main_v9_6)) (v7 : (c : Dev Cert.ProjSampleIdeal.nD) → Buf (Elt Ideal) ((c.tc : Thread Cert.ProjSampleIdeal.nD Cert.ProjSampleIdeal.τ).loc Cert.ProjSampleIdeal.main_v9_7)) (v8 : (c : Dev Cert.ProjSampleIdeal.nD) → Buf (Elt Ideal) ((c.tc : Thread Cert.ProjSampleIdeal.nD Cert.ProjSampleIdeal.τ).loc Cert.ProjSampleIdeal.main_v9_8)) (v9 : (c : Dev Cert.ProjSampleIdeal.nD) → Buf (Elt Ideal) ((c.tc : Thread Cert.ProjSampleIdeal.nD Cert.ProjSampleIdeal.τ).loc Cert.ProjSampleIdeal.main_v9_9)) (v10 : (c : Dev Cert.ProjSampleIdeal.nD) → Buf (Elt Ideal) ((c.tc : Thread Cert.ProjSampleIdeal.nD Cert.ProjSampleIdeal.τ).loc Cert.ProjSampleIdeal.main_v9_10)) (v11 : (c : Dev Cert.ProjSampleIdeal.nD) → Buf (Elt Ideal) ((c.tc : Thread Cert.ProjSampleIdeal.nD Cert.ProjSampleIdeal.τ).loc Cert.ProjSampleIdeal.main_v9_11)) (v12 : (c : Dev Cert.ProjSampleIdeal.nD) → Buf (Elt Ideal) ((c.tc : Thread Cert.ProjSampleIdeal.nD Cert.ProjSampleIdeal.τ).loc Cert.ProjSampleIdeal.main_v9_12)),
      θ_run (Cert.ProjSampleIdeal.defs (F := Ideal)) (onTc (τ := Cert.ProjSampleIdeal.τ) (Cert.ProjSampleIdeal.main (F := Ideal))) ⟨m, fun _ => 0, g⟩ (fun r => ∀ c : Dev Cert.ProjSampleIdeal.nD,
          r.2.mem ((c.tc : Thread Cert.ProjSampleIdeal.nD Cert.ProjSampleIdeal.τ).loc Cert.ProjSampleIdeal.main_v9_0) = v0 c
          ∧ r.2.mem ((c.tc : Thread Cert.ProjSampleIdeal.nD Cert.ProjSampleIdeal.τ).loc Cert.ProjSampleIdeal.main_v9_1) = v1 c
          ∧ r.2.mem ((c.tc : Thread Cert.ProjSampleIdeal.nD Cert.ProjSampleIdeal.τ).loc Cert.ProjSampleIdeal.main_v9_2) = v2 c
          ∧ r.2.mem ((c.tc : Thread Cert.ProjSampleIdeal.nD Cert.ProjSampleIdeal.τ).loc Cert.ProjSampleIdeal.main_v9_3) = v3 c
          ∧ r.2.mem ((c.tc : Thread Cert.ProjSampleIdeal.nD Cert.ProjSampleIdeal.τ).loc Cert.ProjSampleIdeal.main_v9_4) = v4 c
          ∧ r.2.mem ((c.tc : Thread Cert.ProjSampleIdeal.nD Cert.ProjSampleIdeal.τ).loc Cert.ProjSampleIdeal.main_v9_5) = v5 c
          ∧ r.2.mem ((c.tc : Thread Cert.ProjSampleIdeal.nD Cert.ProjSampleIdeal.τ).loc Cert.ProjSampleIdeal.main_v9_6) = v6 c
          ∧ r.2.mem ((c.tc : Thread Cert.ProjSampleIdeal.nD Cert.ProjSampleIdeal.τ).loc Cert.ProjSampleIdeal.main_v9_7) = v7 c
          ∧ r.2.mem ((c.tc : Thread Cert.ProjSampleIdeal.nD Cert.ProjSampleIdeal.τ).loc Cert.ProjSampleIdeal.main_v9_8) = v8 c
          ∧ r.2.mem ((c.tc : Thread Cert.ProjSampleIdeal.nD Cert.ProjSampleIdeal.τ).loc Cert.ProjSampleIdeal.main_v9_9) = v9 c
          ∧ r.2.mem ((c.tc : Thread Cert.ProjSampleIdeal.nD Cert.ProjSampleIdeal.τ).loc Cert.ProjSampleIdeal.main_v9_10) = v10 c
          ∧ r.2.mem ((c.tc : Thread Cert.ProjSampleIdeal.nD Cert.ProjSampleIdeal.τ).loc Cert.ProjSampleIdeal.main_v9_11) = v11 c
          ∧ r.2.mem ((c.tc : Thread Cert.ProjSampleIdeal.nD Cert.ProjSampleIdeal.τ).loc Cert.ProjSampleIdeal.main_v9_12) = v12 c
          ∧ r.2.mem ((c.tc : Thread Cert.ProjSampleIdeal.nD Cert.ProjSampleIdeal.τ).loc Cert.ProjSampleIdeal.main_arg0) = m ((c.tc : Thread Cert.ProjSampleIdeal.nD Cert.ProjSampleIdeal.τ).loc Cert.ProjSampleIdeal.main_arg0)
          ∧ r.2.mem ((c.tc : Thread Cert.ProjSampleIdeal.nD Cert.ProjSampleIdeal.τ).loc Cert.ProjSampleIdeal.main_arg1) = m ((c.tc : Thread Cert.ProjSampleIdeal.nD Cert.ProjSampleIdeal.τ).loc Cert.ProjSampleIdeal.main_arg1)
          ∧ r.2.mem ((c.tc : Thread Cert.ProjSampleIdeal.nD Cert.ProjSampleIdeal.τ).loc Cert.ProjSampleIdeal.main_arg2) = m ((c.tc : Thread Cert.ProjSampleIdeal.nD Cert.ProjSampleIdeal.τ).loc Cert.ProjSampleIdeal.main_arg2))
      ∧ θ_run (Cert.RefProjSampleIdeal.defs (F := Ideal)) (onTc (τ := Cert.RefProjSampleIdeal.τ) (Cert.RefProjSampleIdeal.main (F := Ideal))) ⟨m', fun _ => 0, g'⟩ (fun r => ∀ c : Dev Cert.RefProjSampleIdeal.nD,
          r.2.mem ((c.tc : Thread Cert.RefProjSampleIdeal.nD Cert.RefProjSampleIdeal.τ).loc Cert.RefProjSampleIdeal.main_v25) = v0 c
          ∧ r.2.mem ((c.tc : Thread Cert.RefProjSampleIdeal.nD Cert.RefProjSampleIdeal.τ).loc Cert.RefProjSampleIdeal.main_v15) = v1 c
          ∧ r.2.mem ((c.tc : Thread Cert.RefProjSampleIdeal.nD Cert.RefProjSampleIdeal.τ).loc Cert.RefProjSampleIdeal.main_v31) = v2 c
          ∧ r.2.mem ((c.tc : Thread Cert.RefProjSampleIdeal.nD Cert.RefProjSampleIdeal.τ).loc Cert.RefProjSampleIdeal.main_v37) = v3 c
          ∧ r.2.mem ((c.tc : Thread Cert.RefProjSampleIdeal.nD Cert.RefProjSampleIdeal.τ).loc Cert.RefProjSampleIdeal.main_v39) = v4 c
          ∧ r.2.mem ((c.tc : Thread Cert.RefProjSampleIdeal.nD Cert.RefProjSampleIdeal.τ).loc Cert.RefProjSampleIdeal.main_v41) = v5 c
          ∧ r.2.mem ((c.tc : Thread Cert.RefProjSampleIdeal.nD Cert.RefProjSampleIdeal.τ).loc Cert.RefProjSampleIdeal.main_v43) = v6 c
          ∧ r.2.mem ((c.tc : Thread Cert.RefProjSampleIdeal.nD Cert.RefProjSampleIdeal.τ).loc Cert.RefProjSampleIdeal.main_v46) = v7 c
          ∧ r.2.mem ((c.tc : Thread Cert.RefProjSampleIdeal.nD Cert.RefProjSampleIdeal.τ).loc Cert.RefProjSampleIdeal.main_v49) = v8 c
          ∧ r.2.mem ((c.tc : Thread Cert.RefProjSampleIdeal.nD Cert.RefProjSampleIdeal.τ).loc Cert.RefProjSampleIdeal.main_v51) = v9 c
          ∧ r.2.mem ((c.tc : Thread Cert.RefProjSampleIdeal.nD Cert.RefProjSampleIdeal.τ).loc Cert.RefProjSampleIdeal.main_v18) = v10 c
          ∧ r.2.mem ((c.tc : Thread Cert.RefProjSampleIdeal.nD Cert.RefProjSampleIdeal.τ).loc Cert.RefProjSampleIdeal.main_v19) = v11 c
          ∧ r.2.mem ((c.tc : Thread Cert.RefProjSampleIdeal.nD Cert.RefProjSampleIdeal.τ).loc Cert.RefProjSampleIdeal.main_v21) = v12 c
          ∧ r.2.mem ((c.tc : Thread Cert.RefProjSampleIdeal.nD Cert.RefProjSampleIdeal.τ).loc Cert.RefProjSampleIdeal.main_arg0) = m' ((c.tc : Thread Cert.RefProjSampleIdeal.nD Cert.RefProjSampleIdeal.τ).loc Cert.RefProjSampleIdeal.main_arg0)
          ∧ r.2.mem ((c.tc : Thread Cert.RefProjSampleIdeal.nD Cert.RefProjSampleIdeal.τ).loc Cert.RefProjSampleIdeal.main_arg1) = m' ((c.tc : Thread Cert.RefProjSampleIdeal.nD Cert.RefProjSampleIdeal.τ).loc Cert.RefProjSampleIdeal.main_arg1)
          ∧ r.2.mem ((c.tc : Thread Cert.RefProjSampleIdeal.nD Cert.RefProjSampleIdeal.τ).loc Cert.RefProjSampleIdeal.main_arg2) = m' ((c.tc : Thread Cert.RefProjSampleIdeal.nD Cert.RefProjSampleIdeal.τ).loc Cert.RefProjSampleIdeal.main_arg2))

def Claim : Prop :=
  ∃ (hSattn : Cert.Sattn.Facts) (hSattnIdeal : Cert.SattnIdeal.Facts) (hRefSattnIdeal : Cert.RefSattnIdeal.Facts) (hFfn : Cert.Ffn.Facts) (hFfnIdeal : Cert.FfnIdeal.Facts) (hRefFfnIdeal : Cert.RefFfnIdeal.Facts) (hMerge : Cert.Merge.Facts) (hMergeIdeal : Cert.MergeIdeal.Facts) (hRefMergeIdeal : Cert.RefMergeIdeal.Facts) (hProj : Cert.Proj.Facts) (hProjIdeal : Cert.ProjIdeal.Facts) (hRefProjIdeal : Cert.RefProjIdeal.Facts) (hMergeSample : Cert.MergeSample.Facts) (hMergeSampleIdeal : Cert.MergeSampleIdeal.Facts) (hRefMergeSampleIdeal : Cert.RefMergeSampleIdeal.Facts) (hProjSample : Cert.ProjSample.Facts) (hProjSampleIdeal : Cert.ProjSampleIdeal.Facts) (hRefProjSampleIdeal : Cert.RefProjSampleIdeal.Facts) (hPre_pages_in_pool : Cert.Pre_pages_in_pool.Facts) (hPre_attention_defined : Cert.Pre_attention_defined.Facts),
    quiescent_Sattn (hSattn := hSattn) (hPre_pages_in_pool := hPre_pages_in_pool)
    ∧ quiescent_SattnIdeal (hSattnIdeal := hSattnIdeal) (hPre_pages_in_pool := hPre_pages_in_pool)
    ∧ quiescent_SattnIdeal_pre_attention_defined (hSattnIdeal := hSattnIdeal) (hPre_attention_defined := hPre_attention_defined)
    ∧ quiescent_RefSattnIdeal (hRefSattnIdeal := hRefSattnIdeal)
    ∧ quiescent_RefSattnIdeal_pre_attention_defined (hRefSattnIdeal := hRefSattnIdeal) (hPre_attention_defined := hPre_attention_defined)
    ∧ quiescent_Ffn (hFfn := hFfn)
    ∧ quiescent_FfnIdeal (hFfnIdeal := hFfnIdeal)
    ∧ quiescent_RefFfnIdeal (hRefFfnIdeal := hRefFfnIdeal)
    ∧ quiescent_Merge (hMerge := hMerge)
    ∧ quiescent_MergeIdeal (hMergeIdeal := hMergeIdeal)
    ∧ quiescent_RefMergeIdeal (hRefMergeIdeal := hRefMergeIdeal)
    ∧ quiescent_Proj (hProj := hProj)
    ∧ quiescent_ProjIdeal (hProjIdeal := hProjIdeal)
    ∧ quiescent_RefProjIdeal (hRefProjIdeal := hRefProjIdeal)
    ∧ quiescent_MergeSample (hMergeSample := hMergeSample)
    ∧ quiescent_MergeSampleIdeal (hMergeSampleIdeal := hMergeSampleIdeal)
    ∧ quiescent_RefMergeSampleIdeal (hRefMergeSampleIdeal := hRefMergeSampleIdeal)
    ∧ quiescent_ProjSample (hProjSample := hProjSample)
    ∧ quiescent_ProjSampleIdeal (hProjSampleIdeal := hProjSampleIdeal)
    ∧ quiescent_RefProjSampleIdeal (hRefProjSampleIdeal := hRefProjSampleIdeal)
    ∧ preserves_Sattn_SattnIdeal
    ∧ algebraic_SattnIdeal_RefSattnIdeal_pre_attention_defined (hSattnIdeal := hSattnIdeal) (hRefSattnIdeal := hRefSattnIdeal) (hPre_attention_defined := hPre_attention_defined)
    ∧ preserves_Ffn_FfnIdeal
    ∧ algebraic_FfnIdeal_RefFfnIdeal (hFfnIdeal := hFfnIdeal) (hRefFfnIdeal := hRefFfnIdeal)
    ∧ preserves_Merge_MergeIdeal
    ∧ algebraic_MergeIdeal_RefMergeIdeal (hMergeIdeal := hMergeIdeal) (hRefMergeIdeal := hRefMergeIdeal)
    ∧ preserves_Proj_ProjIdeal
    ∧ algebraic_ProjIdeal_RefProjIdeal (hProjIdeal := hProjIdeal) (hRefProjIdeal := hRefProjIdeal)
    ∧ preserves_MergeSample_MergeSampleIdeal
    ∧ algebraic_MergeSampleIdeal_RefMergeSampleIdeal (hMergeSampleIdeal := hMergeSampleIdeal) (hRefMergeSampleIdeal := hRefMergeSampleIdeal)
    ∧ preserves_ProjSample_ProjSampleIdeal
    ∧ algebraic_ProjSampleIdeal_RefProjSampleIdeal (hProjSampleIdeal := hProjSampleIdeal) (hRefProjSampleIdeal := hRefProjSampleIdeal)
-- ==== Pre_attention_defined.lean ====
abbrev S128x16 : Shape := ⟨2, ![128, 16]⟩
abbrev S128x512 : Shape := ⟨2, ![128, 512]⟩
abbrev S128x2176 : Shape := ⟨2, ![128, 2176]⟩
abbrev S8x2176 : Shape := ⟨2, ![8, 2176]⟩
abbrev S4x2560x128x8x64 : Shape := ⟨5, ![4, 2560, 128, 8, 64]⟩
abbrev S_ : Shape := ⟨0, ![]⟩
abbrev S128x2049 : Shape := ⟨2, ![128, 2049]⟩
abbrev S128 : Shape := ⟨1, ![128]⟩

class Facts : Prop where
  bcast_S_S128x16 : S_.BroadcastsInDim S128x16 (![] : Fin 0 → Fin S128x16.rank)
  slices_S128x2176_S128x2049_0_0 : S128x2176.Slices ![0, 0] S128x2049
  bcast_S_S128x2049 : S_.BroadcastsInDim S128x2049 (![] : Fin 0 → Fin S128x2049.rank)
  reducesTo_S128x2049_S128_d1 : S128x2049.ReducesTo [1] S128
  h_S_ : 0 < S_.numel
  bcast_S_S128x512 : S_.BroadcastsInDim S128x512 (![] : Fin 0 → Fin S128x512.rank)
  bcast_S_S8x2176 : S_.BroadcastsInDim S8x2176 (![] : Fin 0 → Fin S8x2176.rank)
  bcast_S_S4x2560x128x8x64 : S_.BroadcastsInDim S4x2560x128x8x64 (![] : Fin 0 → Fin S4x2560x128x8x64.rank)

variable [Facts]

def fn_part1 {F : FTy → Type} [FloatOps F] (main_arg6 : FVec F S4x2560x128x8x64 .f32) (main_v4 : IVec S128x16 1) (main_v8 : IVec S128 1) (main_v11 : IVec S128x512 1) (main_v14 : IVec S8x2176 1) (main_v15 : FVec F S128x512 .f32) (main_v16 : FVec F S128x512 .f32) : IVec S128x16 1 × IVec S128 1 × IVec S128x512 1 × IVec S8x2176 1 × IVec S128x512 1 × IVec S4x2560x128x8x64 1 :=
  let main_v17 : IVec S128x512 1 := cmpf .olt main_v15 main_v16
  let main_v18 : FVec F S4x2560x128x8x64 .f32 := Host.absf main_arg6
  let main_cst_5 : FVec F S_ .f32 := constant S_ .f32 0x7F800000#32
  let main_v19 : FVec F S4x2560x128x8x64 .f32 := broadcastInDim S4x2560x128x8x64 ![] bcast_S_S4x2560x128x8x64 main_cst_5
  let main_v20 : IVec S4x2560x128x8x64 1 := cmpf .olt main_v18 main_v19
  (main_v4, main_v8, main_v11, main_v14, main_v17, main_v20)

def fn {F : FTy → Type} [FloatOps F] (main_arg0 : IVec S128x16 32) (main_arg1 : FVec F S128x512 .bf16) (main_arg2 : IVec S128x2176 32) (main_arg3 : FVec F S8x2176 .f32) (main_arg4 : FVec F S128x512 .f32) (main_arg5 : FVec F S128x512 .f32) (main_arg6 : FVec F S4x2560x128x8x64 .f32) (main_arg7 : FVec F S4x2560x128x8x64 .f32) : IVec S128x16 1 × IVec S128 1 × IVec S128x512 1 × IVec S8x2176 1 × IVec S128x512 1 × IVec S4x2560x128x8x64 1 :=
  let main_c : IVec S_ 32 := constantI S_ 32 0#32
  let main_v0 : IVec S128x16 32 := broadcastInDim S128x16 ![] bcast_S_S128x16 main_c
  let main_v1 : IVec S128x16 1 := cmpi .sge main_arg0 main_v0
  let main_c_0 : IVec S_ 32 := constantI S_ 32 2560#32
  let main_v2 : IVec S128x16 32 := broadcastInDim S128x16 ![] bcast_S_S128x16 main_c_0
  let main_v3 : IVec S128x16 1 := cmpi .slt main_arg0 main_v2
  let main_v4 : IVec S128x16 1 := andi main_v1 main_v3
  let main_v5 : IVec S128x2049 32 := (extractStridedSlice S128x2049 ![0, 0] · slices_S128x2176_S128x2049_0_0) main_arg2
  let main_c_1 : IVec S_ 32 := constantI S_ 32 0#32
  let main_v6 : IVec S128x2049 32 := broadcastInDim S128x2049 ![] bcast_S_S128x2049 main_c_1
  let main_v7 : IVec S128x2049 1 := cmpi .ne main_v5 main_v6
  let main_c_2 : IVec S_ 1 := constantI S_ 1 0#1
  let main_v8 : IVec S128 1 := (fun x v => Host.reduce IntOp.ori x v reducesTo_S128x2049_S128_d1 h_S_) main_v7 main_c_2
  let main_v9 : FVec F S128x512 .bf16 := Host.absf main_arg1
  let main_cst : FVec F S_ .bf16 := constant S_ .bf16 0x7F80#16
  let main_v10 : FVec F S128x512 .bf16 := broadcastInDim S128x512 ![] bcast_S_S128x512 main_cst
  let main_v11 : IVec S128x512 1 := cmpf .olt main_v9 main_v10
  let main_v12 : FVec F S8x2176 .f32 := Host.absf main_arg3
  let main_cst_3 : FVec F S_ .f32 := constant S_ .f32 0x7F800000#32
  let main_v13 : FVec F S8x2176 .f32 := broadcastInDim S8x2176 ![] bcast_S_S8x2176 main_cst_3
  let main_v14 : IVec S8x2176 1 := cmpf .olt main_v12 main_v13
  let main_v15 : FVec F S128x512 .f32 := Host.absf main_arg4
  let main_cst_4 : FVec F S_ .f32 := constant S_ .f32 0x7F800000#32
  let main_v16 : FVec F S128x512 .f32 := broadcastInDim S128x512 ![] bcast_S_S128x512 main_cst_4
  fn_part1 (F := F) main_arg6 main_v4 main_v8 main_v11 main_v14 main_v15 main_v16
-- ==== Pre_pages_in_pool.lean ====
abbrev S128x16 : Shape := ⟨2, ![128, 16]⟩
abbrev S128x512 : Shape := ⟨2, ![128, 512]⟩
abbrev S128x2176 : Shape := ⟨2, ![128, 2176]⟩
abbrev S8x2176 : Shape := ⟨2, ![8, 2176]⟩
abbrev S4x2560x128x8x64 : Shape := ⟨5, ![4, 2560, 128, 8, 64]⟩
abbrev S_ : Shape := ⟨0, ![]⟩

class Facts : Prop where
  bcast_S_S128x16 : S_.BroadcastsInDim S128x16 (![] : Fin 0 → Fin S128x16.rank)

variable [Facts]

def fn {F : FTy → Type} [FloatOps F] (main_arg0 : IVec S128x16 32) (main_arg1 : FVec F S128x512 .bf16) (main_arg2 : IVec S128x2176 32) (main_arg3 : FVec F S8x2176 .f32) (main_arg4 : FVec F S128x512 .f32) (main_arg5 : FVec F S128x512 .f32) (main_arg6 : FVec F S4x2560x128x8x64 .f32) (main_arg7 : FVec F S4x2560x128x8x64 .f32) : IVec S128x16 1 :=
  let main_c : IVec S_ 32 := constantI S_ 32 0#32
  let main_v0 : IVec S128x16 32 := broadcastInDim S128x16 ![] bcast_S_S128x16 main_c
  let main_v1 : IVec S128x16 1 := cmpi .sge main_arg0 main_v0
  let main_c_0 : IVec S_ 32 := constantI S_ 32 2560#32
  let main_v2 : IVec S128x16 32 := broadcastInDim S128x16 ![] bcast_S_S128x16 main_c_0
  let main_v3 : IVec S128x16 1 := cmpi .slt main_arg0 main_v2
  let main_v4 : IVec S128x16 1 := andi main_v1 main_v3
  main_v4
-- ==== Sattn.lean ====
abbrev S128x16 : Shape := ⟨2, ![128, 16]⟩
abbrev S128x512 : Shape := ⟨2, ![128, 512]⟩
abbrev S128x2176 : Shape := ⟨2, ![128, 2176]⟩
abbrev S8x2176 : Shape := ⟨2, ![8, 2176]⟩
abbrev S4x2560x128x8x64 : Shape := ⟨5, ![4, 2560, 128, 8, 64]⟩
abbrev S2048 : Shape := ⟨1, ![2048]⟩
abbrev S4x2560x8x64x128 : Shape := ⟨5, ![4, 2560, 8, 64, 128]⟩
abbrev S4x2560x512x128 : Shape := ⟨4, ![4, 2560, 512, 128]⟩
abbrev S_ : Shape := ⟨0, ![]⟩
abbrev S128x1x512 : Shape := ⟨3, ![128, 1, 512]⟩
abbrev S128x1x2176 : Shape := ⟨3, ![128, 1, 2176]⟩
abbrev S1x1x512 : Shape := ⟨3, ![1, 1, 512]⟩
abbrev S1x1x2176 : Shape := ⟨3, ![1, 1, 2176]⟩
abbrev S1x1x512x128 : Shape := ⟨4, ![1, 1, 512, 128]⟩
abbrev S1 : Shape := ⟨1, ![1]⟩
abbrev S1x512 : Shape := ⟨2, ![1, 512]⟩
abbrev S8x512 : Shape := ⟨2, ![8, 512]⟩
abbrev S512x128 : Shape := ⟨2, ![512, 128]⟩
abbrev S8x128 : Shape := ⟨2, ![8, 128]⟩
abbrev S8 : Shape := ⟨1, ![8]⟩
abbrev S8x1 : Shape := ⟨2, ![8, 1]⟩
abbrev S1x2176 : Shape := ⟨2, ![1, 2176]⟩
abbrev S512 : Shape := ⟨1, ![512]⟩

abbrev nBuf : Space → Nat
  | .hbm => 30
  | .vmem => 75
  | .smem => 1
  | _ => 0

abbrev bufTy : (tb : Table) → Fin (tcTables nBuf tb) → BufTy
  | .hbm, ⟨0, _⟩ => ⟨S128x16, .i32⟩
  | .hbm, ⟨1, _⟩ => ⟨S128x512, .bf16⟩
  | .hbm, ⟨2, _⟩ => ⟨S128x2176, .i32⟩
  | .hbm, ⟨3, _⟩ => ⟨S8x2176, .f32⟩
  | .hbm, ⟨4, _⟩ => ⟨S128x512, .f32⟩
  | .hbm, ⟨5, _⟩ => ⟨S128x512, .f32⟩
  | .hbm, ⟨6, _⟩ => ⟨S4x2560x128x8x64, .f32⟩
  | .hbm, ⟨7, _⟩ => ⟨S4x2560x128x8x64, .f32⟩
  | .hbm, ⟨8, _⟩ => ⟨S4x2560x8x64x128, .f32⟩
  | .hbm, ⟨9, _⟩ => ⟨S4x2560x512x128, .f32⟩
  | .hbm, ⟨10, _⟩ => ⟨S4x2560x8x64x128, .f32⟩
  | .hbm, ⟨11, _⟩ => ⟨S4x2560x512x128, .f32⟩
  | .hbm, ⟨12, _⟩ => ⟨S128x2176, .i32⟩
  | .hbm, ⟨13, _⟩ => ⟨S_, .i32⟩
  | .hbm, ⟨14, _⟩ => ⟨S128x2176, .i32⟩
  | .hbm, ⟨15, _⟩ => ⟨S128x2176, .i1⟩
  | .hbm, ⟨16, _⟩ => ⟨S_, .i32⟩
  | .hbm, ⟨17, _⟩ => ⟨S128x2176, .i32⟩
  | .hbm, ⟨18, _⟩ => ⟨S128x2176, .i1⟩
  | .hbm, ⟨19, _⟩ => ⟨S128x2176, .i1⟩
  | .hbm, ⟨20, _⟩ => ⟨S_, .f32⟩
  | .hbm, ⟨21, _⟩ => ⟨S_, .f32⟩
  | .hbm, ⟨22, _⟩ => ⟨S128x2176, .f32⟩
  | .hbm, ⟨23, _⟩ => ⟨S128x2176, .f32⟩
  | .hbm, ⟨24, _⟩ => ⟨S128x2176, .f32⟩
  | .hbm, ⟨25, _⟩ => ⟨S128x1x512, .bf16⟩
  | .hbm, ⟨26, _⟩ => ⟨S128x1x2176, .f32⟩
  | .hbm, ⟨27, _⟩ => ⟨S128x1x512, .f32⟩
  | .hbm, ⟨28, _⟩ => ⟨S128x1x512, .f32⟩
  | .hbm, ⟨29, _⟩ => ⟨S128x1x512, .bf16⟩
  | .local _ .vmem, ⟨0, _⟩ => ⟨S1x1x512, .bf16⟩
  | .local _ .vmem, ⟨1, _⟩ => ⟨S1x1x512, .bf16⟩
  | .local _ .vmem, ⟨2, _⟩ => ⟨S1x1x2176, .f32⟩
  | .local _ .vmem, ⟨3, _⟩ => ⟨S1x1x2176, .f32⟩
  | .local _ .vmem, ⟨4, _⟩ => ⟨S8x2176, .f32⟩
  | .local _ .vmem, ⟨5, _⟩ => ⟨S1x1x512, .f32⟩
  | .local _ .vmem, ⟨6, _⟩ => ⟨S1x1x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512x128, .f32⟩
  | .local _ .vmem, ⟨10, _⟩ => ⟨S1x1x512x128, .f32⟩
  | .local _ .vmem, ⟨11, _⟩ => ⟨S1x1x512x128, .f32⟩
  | .local _ .vmem, ⟨12, _⟩ => ⟨S1x1x512x128, .f32⟩
  | .local _ .vmem, ⟨13, _⟩ => ⟨S1x1x512x128, .f32⟩
  | .local _ .vmem, ⟨14, _⟩ => ⟨S1x1x512x128, .f32⟩
  | .local _ .vmem, ⟨15, _⟩ => ⟨S1x1x512x128, .f32⟩
  | .local _ .vmem, ⟨16, _⟩ => ⟨S1x1x512x128, .f32⟩
  | .local _ .vmem, ⟨17, _⟩ => ⟨S1x1x512x128, .f32⟩
  | .local _ .vmem, ⟨18, _⟩ => ⟨S1x1x512x128, .f32⟩
  | .local _ .vmem, ⟨19, _⟩ => ⟨S1x1x512x128, .f32⟩
  | .local _ .vmem, ⟨20, _⟩ => ⟨S1x1x512x128, .f32⟩
  | .local _ .vmem, ⟨21, _⟩ => ⟨S1x1x512x128, .f32⟩
  | .local _ .vmem, ⟨22, _⟩ => ⟨S1x1x512x128, .f32⟩
  | .local _ .vmem, ⟨23, _⟩ => ⟨S1x1x512x128, .f32⟩
  | .local _ .vmem, ⟨24, _⟩ => ⟨S1x1x512x128, .f32⟩
  | .local _ .vmem, ⟨25, _⟩ => ⟨S1x1x512x128, .f32⟩
  | .local _ .vmem, ⟨26, _⟩ => ⟨S1x1x512x128, .f32⟩
  | .local _ .vmem, ⟨27, _⟩ => ⟨S1x1x512x128, .f32⟩
  | .local _ .vmem, ⟨28, _⟩ => ⟨S1x1x512x128, .f32⟩
  | .local _ .vmem, ⟨29, _⟩ => ⟨S1x1x512x128, .f32⟩
  | .local _ .vmem, ⟨30, _⟩ => ⟨S1x1x512x128, .f32⟩
  | .local _ .vmem, ⟨31, _⟩ => ⟨S1x1x512x128, .f32⟩
  | .local _ .vmem, ⟨32, _⟩ => ⟨S1x1x512x128, .f32⟩
  | .local _ .vmem, ⟨33, _⟩ => ⟨S1x1x512x128, .f32⟩
  | .local _ .vmem, ⟨34, _⟩ => ⟨S1x1x512x128, .f32⟩
  | .local _ .vmem, ⟨35, _⟩ => ⟨S1x1x512x128, .f32⟩
  | .local _ .vmem, ⟨36, _⟩ => ⟨S1x1x512x128, .f32⟩
  | .local _ .vmem, ⟨37, _⟩ => ⟨S1x1x512x128, .f32⟩
  | .local _ .vmem, ⟨38, _⟩ => ⟨S1x1x512x128, .f32⟩
  | .local _ .vmem, ⟨39, _⟩ => ⟨S1x1x512x128, .f32⟩
  | .local _ .vmem, ⟨40, _⟩ => ⟨S1x1x512x128, .f32⟩
  | .local _ .vmem, ⟨41, _⟩ => ⟨S1x1x512x128, .f32⟩
  | .local _ .vmem, ⟨42, _⟩ => ⟨S1x1x512x128, .f32⟩
  | .local _ .vmem, ⟨43, _⟩ => ⟨S1x1x512x128, .f32⟩
  | .local _ .vmem, ⟨44, _⟩ => ⟨S1x1x512x128, .f32⟩
  | .local _ .vmem, ⟨45, _⟩ => ⟨S1x1x512x128, .f32⟩
  | .local _ .vmem, ⟨46, _⟩ => ⟨S1x1x512x128, .f32⟩
  | .local _ .vmem, ⟨47, _⟩ => ⟨S1x1x512x128, .f32⟩
  | .local _ .vmem, ⟨48, _⟩ => ⟨S1x1x512x128, .f32⟩
  | .local _ .vmem, ⟨49, _⟩ => ⟨S1x1x512x128, .f32⟩
  | .local _ .vmem, ⟨50, _⟩ => ⟨S1x1x512x128, .f32⟩
  | .local _ .vmem, ⟨51, _⟩ => ⟨S1x1x512x128, .f32⟩
  | .local _ .vmem, ⟨52, _⟩ => ⟨S1x1x512x128, .f32⟩
  | .local _ .vmem, ⟨53, _⟩ => ⟨S1x1x512x128, .f32⟩
  | .local _ .vmem, ⟨54, _⟩ => ⟨S1x1x512x128, .f32⟩
  | .local _ .vmem, ⟨55, _⟩ => ⟨S1x1x512x128, .f32⟩
  | .local _ .vmem, ⟨56, _⟩ => ⟨S1x1x512x128, .f32⟩
  | .local _ .vmem, ⟨57, _⟩ => ⟨S1x1x512x128, .f32⟩
  | .local _ .vmem, ⟨58, _⟩ => ⟨S1x1x512x128, .f32⟩
  | .local _ .vmem, ⟨59, _⟩ => ⟨S1x1x512x128, .f32⟩
  | .local _ .vmem, ⟨60, _⟩ => ⟨S1x1x512x128, .f32⟩
  | .local _ .vmem, ⟨61, _⟩ => ⟨S1x1x512x128, .f32⟩
  | .local _ .vmem, ⟨62, _⟩ => ⟨S1x1x512x128, .f32⟩
  | .local _ .vmem, ⟨63, _⟩ => ⟨S1x1x512x128, .f32⟩
  | .local _ .vmem, ⟨64, _⟩ => ⟨S1x1x512x128, .f32⟩
  | .local _ .vmem, ⟨65, _⟩ => ⟨S1x1x512x128, .f32⟩
  | .local _ .vmem, ⟨66, _⟩ => ⟨S1x1x512x128, .f32⟩
  | .local _ .vmem, ⟨67, _⟩ => ⟨S1x1x512x128, .f32⟩
  | .local _ .vmem, ⟨68, _⟩ => ⟨S1x1x512x128, .f32⟩
  | .local _ .vmem, ⟨69, _⟩ => ⟨S1x1x512x128, .f32⟩
  | .local _ .vmem, ⟨70, _⟩ => ⟨S1x1x512x128, .f32⟩
  | .local _ .vmem, ⟨71, _⟩ => ⟨S1x1x512x128, .f32⟩
  | .local _ .vmem, ⟨72, _⟩ => ⟨S1x1x512x128, .f32⟩
  | .local _ .vmem, ⟨73, _⟩ => ⟨S1x1x512, .bf16⟩
  | .local _ .vmem, ⟨74, _⟩ => ⟨S1x1x512, .bf16⟩
  | .local _ .smem, ⟨0, _⟩ => ⟨S2048, .i32⟩
  | _, _ => ⟨S128x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | _, _ => false

abbrev semScoped : Fin 0 → Bool
  | ⟨_, h⟩ => absurd h (Nat.not_lt_zero _)

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  ofTc nBuf bufTy 0 75 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_stg19_0 : Ref sig .tc := ⟨.vmem, 37, rfl⟩
abbrev cc0_stg19_1 : Ref sig .tc := ⟨.vmem, 38, rfl⟩
abbrev cc0_stg20_0 : Ref sig .tc := ⟨.vmem, 39, rfl⟩
abbrev cc0_stg20_1 : Ref sig .tc := ⟨.vmem, 40, rfl⟩
abbrev cc0_stg21_0 : Ref sig .tc := ⟨.vmem, 41, rfl⟩
abbrev cc0_stg21_1 : Ref sig .tc := ⟨.vmem, 42, rfl⟩
abbrev cc0_stg22_0 : Ref sig .tc := ⟨.vmem, 43, rfl⟩
abbrev cc0_stg22_1 : Ref sig .tc := ⟨.vmem, 44, rfl⟩
abbrev cc0_stg23_0 : Ref sig .tc := ⟨.vmem, 45, rfl⟩
abbrev cc0_stg23_1 : Ref sig .tc := ⟨.vmem, 46, rfl⟩
abbrev cc0_stg24_0 : Ref sig .tc := ⟨.vmem, 47, rfl⟩
abbrev cc0_stg24_1 : Ref sig .tc := ⟨.vmem, 48, rfl⟩
abbrev cc0_stg25_0 : Ref sig .tc := ⟨.vmem, 49, rfl⟩
abbrev cc0_stg25_1 : Ref sig .tc := ⟨.vmem, 50, rfl⟩
abbrev cc0_stg26_0 : Ref sig .tc := ⟨.vmem, 51, rfl⟩
abbrev cc0_stg26_1 : Ref sig .tc := ⟨.vmem, 52, rfl⟩
abbrev cc0_stg27_0 : Ref sig .tc := ⟨.vmem, 53, rfl⟩
abbrev cc0_stg27_1 : Ref sig .tc := ⟨.vmem, 54, rfl⟩
abbrev cc0_stg28_0 : Ref sig .tc := ⟨.vmem, 55, rfl⟩
abbrev cc0_stg28_1 : Ref sig .tc := ⟨.vmem, 56, rfl⟩
abbrev cc0_stg29_0 : Ref sig .tc := ⟨.vmem, 57, rfl⟩
abbrev cc0_stg29_1 : Ref sig .tc := ⟨.vmem, 58, rfl⟩
abbrev cc0_stg30_0 : Ref sig .tc := ⟨.vmem, 59, rfl⟩
abbrev cc0_stg30_1 : Ref sig .tc := ⟨.vmem, 60, rfl⟩
abbrev cc0_stg31_0 : Ref sig .tc := ⟨.vmem, 61, rfl⟩
abbrev cc0_stg31_1 : Ref sig .tc := ⟨.vmem, 62, rfl⟩
abbrev cc0_stg32_0 : Ref sig .tc := ⟨.vmem, 63, rfl⟩
abbrev cc0_stg32_1 : Ref sig .tc := ⟨.vmem, 64, rfl⟩
abbrev cc0_stg33_0 : Ref sig .tc := ⟨.vmem, 65, rfl⟩
abbrev cc0_stg33_1 : Ref sig .tc := ⟨.vmem, 66, rfl⟩
abbrev cc0_stg34_0 : Ref sig .tc := ⟨.vmem, 67, rfl⟩
abbrev cc0_stg34_1 : Ref sig .tc := ⟨.vmem, 68, rfl⟩
abbrev cc0_stg35_0 : Ref sig .tc := ⟨.vmem, 69, rfl⟩
abbrev cc0_stg35_1 : Ref sig .tc := ⟨.vmem, 70, rfl⟩
abbrev cc0_stg36_0 : Ref sig .tc := ⟨.vmem, 71, rfl⟩
abbrev cc0_stg36_1 : Ref sig .tc := ⟨.vmem, 72, rfl⟩
abbrev cc0_stg37_0 : Ref sig .tc := ⟨.vmem, 73, rfl⟩
abbrev cc0_stg37_1 : Ref sig .tc := ⟨.vmem, 74, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38
abbrev cc0_sem20_0 : DmaSem sig := 39
abbrev cc0_sem20_1 : DmaSem sig := 40
abbrev cc0_sem21_0 : DmaSem sig := 41
abbrev cc0_sem21_1 : DmaSem sig := 42
abbrev cc0_sem22_0 : DmaSem sig := 43
abbrev cc0_sem22_1 : DmaSem sig := 44
abbrev cc0_sem23_0 : DmaSem sig := 45
abbrev cc0_sem23_1 : DmaSem sig := 46
abbrev cc0_sem24_0 : DmaSem sig := 47
abbrev cc0_sem24_1 : DmaSem sig := 48
abbrev cc0_sem25_0 : DmaSem sig := 49
abbrev cc0_sem25_1 : DmaSem sig := 50
abbrev cc0_sem26_0 : DmaSem sig := 51
abbrev cc0_sem26_1 : DmaSem sig := 52
abbrev cc0_sem27_0 : DmaSem sig := 53
abbrev cc0_sem27_1 : DmaSem sig := 54
abbrev cc0_sem28_0 : DmaSem sig := 55
abbrev cc0_sem28_1 : DmaSem sig := 56
abbrev cc0_sem29_0 : DmaSem sig := 57
abbrev cc0_sem29_1 : DmaSem sig := 58
abbrev cc0_sem30_0 : DmaSem sig := 59
abbrev cc0_sem30_1 : DmaSem sig := 60
abbrev cc0_sem31_0 : DmaSem sig := 61
abbrev cc0_sem31_1 : DmaSem sig := 62
abbrev cc0_sem32_0 : DmaSem sig := 63
abbrev cc0_sem32_1 : DmaSem sig := 64
abbrev cc0_sem33_0 : DmaSem sig := 65
abbrev cc0_sem33_1 : DmaSem sig := 66
abbrev cc0_sem34_0 : DmaSem sig := 67
abbrev cc0_sem34_1 : DmaSem sig := 68
abbrev cc0_sem35_0 : DmaSem sig := 69
abbrev cc0_sem35_1 : DmaSem sig := 70
abbrev cc0_sem36_0 : DmaSem sig := 71
abbrev cc0_sem36_1 : DmaSem sig := 72
abbrev cc0_sem37_0 : DmaSem sig := 73
abbrev cc0_sem37_1 : DmaSem sig := 74

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32_0 : BitVec 32) : Fin 1 → Nat :=
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let c16_i32 : BitVec 32 := 16#32
  let v2 : BitVec 32 := Scalar.muli v1 c16_i32
  let v3 : BitVec 32 := Scalar.addi v2 c0_i32_0
  let v4 : Index := Scalar.indexCast v3
  ![v4.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let c16_i32 : BitVec 32 := 16#32
  let v2 : BitVec 32 := Scalar.muli v1 c16_i32
  let c0_i32_0 : BitVec 32 := 0#32
  let v3 : BitVec 32 := Scalar.addi v2 c0_i32_0
  let v4 : Index := Scalar.indexCast v3
  let v5 : BitVec 32 := pf.at 0 (Rect.unit (s := S2048) ![v4.toNat] S1.size (k0_off1_inb i 0)) numel1_S1
  let c0_i32_1 : BitVec 32 := 0#32
  let c0_i32_2 : BitVec 32 := 0#32
  let c0_i32_3 : BitVec 32 := 0#32
  let c0_i32_4 : BitVec 32 := 0#32
  ![c0_i32_1.toNat, v5.toNat, c0_i32_2.toNat, c0_i32_3.toNat]

def cc0_transform_6 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let c16_i32 : BitVec 32 := 16#32
  let v2 : BitVec 32 := Scalar.muli v1 c16_i32
  let c1_i32_0 : BitVec 32 := 1#32
  let v3 : BitVec 32 := Scalar.addi v2 c1_i32_0
  let v4 : Index := Scalar.indexCast v3
  let v5 : BitVec 32 := pf.at 0 (Rect.unit (s := S2048) ![v4.toNat] S1.size (k0_off1_inb i 1)) numel1_S1
  let c0_i32_1 : BitVec 32 := 0#32
  let c0_i32_2 : BitVec 32 := 0#32
  let c0_i32_3 : BitVec 32 := 0#32
  let c0_i32_4 : BitVec 32 := 0#32
  ![c0_i32_1.toNat, v5.toNat, c0_i32_2.toNat, c0_i32_3.toNat]

def cc0_transform_7 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let c16_i32 : BitVec 32 := 16#32
  let v2 : BitVec 32 := Scalar.muli v1 c16_i32
  let c2_i32 : BitVec 32 := 2#32
  let v3 : BitVec 32 := Scalar.addi v2 c2_i32
  let v4 : Index := Scalar.indexCast v3
  let v5 : BitVec 32 := pf.at 0 (Rect.unit (s := S2048) ![v4.toNat] S1.size (k0_off1_inb i 2)) numel1_S1
  let c0_i32_0 : BitVec 32 := 0#32
  let c0_i32_1 : BitVec 32 := 0#32
  let c0_i32_2 : BitVec 32 := 0#32
  let c0_i32_3 : BitVec 32 := 0#32
  ![c0_i32_0.toNat, v5.toNat, c0_i32_1.toNat, c0_i32_2.toNat]

def cc0_transform_8 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let c16_i32 : BitVec 32 := 16#32
  let v2 : BitVec 32 := Scalar.muli v1 c16_i32
  let c3_i32 : BitVec 32 := 3#32
  let v3 : BitVec 32 := Scalar.addi v2 c3_i32
  let v4 : Index := Scalar.indexCast v3
  let v5 : BitVec 32 := pf.at 0 (Rect.unit (s := S2048) ![v4.toNat] S1.size (k0_off1_inb i 3)) numel1_S1
  let c0_i32_0 : BitVec 32 := 0#32
  let c0_i32_1 : BitVec 32 := 0#32
  let c0_i32_2 : BitVec 32 := 0#32
  let c0_i32_3 : BitVec 32 := 0#32
  ![c0_i32_0.toNat, v5.toNat, c0_i32_1.toNat, c0_i32_2.toNat]

def cc0_transform_9 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let c16_i32 : BitVec 32 := 16#32
  let v2 : BitVec 32 := Scalar.muli v1 c16_i32
  let c4_i32 : BitVec 32 := 4#32
  let v3 : BitVec 32 := Scalar.addi v2 c4_i32
  let v4 : Index := Scalar.indexCast v3
  let v5 : BitVec 32 := pf.at 0 (Rect.unit (s := S2048) ![v4.toNat] S1.size (k0_off1_inb i 4)) numel1_S1
  let c0_i32_0 : BitVec 32 := 0#32
  let c0_i32_1 : BitVec 32 := 0#32
  let c0_i32_2 : BitVec 32 := 0#32
  let c0_i32_3 : BitVec 32 := 0#32
  ![c0_i32_0.toNat, v5.toNat, c0_i32_1.toNat, c0_i32_2.toNat]

def cc0_transform_10 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let c16_i32 : BitVec 32 := 16#32
  let v2 : BitVec 32 := Scalar.muli v1 c16_i32
  let c5_i32 : BitVec 32 := 5#32
  let v3 : BitVec 32 := Scalar.addi v2 c5_i32
  let v4 : Index := Scalar.indexCast v3
  let v5 : BitVec 32 := pf.at 0 (Rect.unit (s := S2048) ![v4.toNat] S1.size (k0_off1_inb i 5)) numel1_S1
  let c0_i32_0 : BitVec 32 := 0#32
  let c0_i32_1 : BitVec 32 := 0#32
  let c0_i32_2 : BitVec 32 := 0#32
  let c0_i32_3 : BitVec 32 := 0#32
  ![c0_i32_0.toNat, v5.toNat, c0_i32_1.toNat, c0_i32_2.toNat]

def cc0_transform_11 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let c16_i32 : BitVec 32 := 16#32
  let v2 : BitVec 32 := Scalar.muli v1 c16_i32
  let c6_i32 : BitVec 32 := 6#32
  let v3 : BitVec 32 := Scalar.addi v2 c6_i32
  let v4 : Index := Scalar.indexCast v3
  let v5 : BitVec 32 := pf.at 0 (Rect.unit (s := S2048) ![v4.toNat] S1.size (k0_off1_inb i 6)) numel1_S1
  let c0_i32_0 : BitVec 32 := 0#32
  let c0_i32_1 : BitVec 32 := 0#32
  let c0_i32_2 : BitVec 32 := 0#32
  let c0_i32_3 : BitVec 32 := 0#32
  ![c0_i32_0.toNat, v5.toNat, c0_i32_1.toNat, c0_i32_2.toNat]

def cc0_transform_12 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let c16_i32 : BitVec 32 := 16#32
  let v2 : BitVec 32 := Scalar.muli v1 c16_i32
  let c7_i32 : BitVec 32 := 7#32
  let v3 : BitVec 32 := Scalar.addi v2 c7_i32
  let v4 : Index := Scalar.indexCast v3
  let v5 : BitVec 32 := pf.at 0 (Rect.unit (s := S2048) ![v4.toNat] S1.size (k0_off1_inb i 7)) numel1_S1
  let c0_i32_0 : BitVec 32 := 0#32
  let c0_i32_1 : BitVec 32 := 0#32
  let c0_i32_2 : BitVec 32 := 0#32
  let c0_i32_3 : BitVec 32 := 0#32
  ![c0_i32_0.toNat, v5.toNat, c0_i32_1.toNat, c0_i32_2.toNat]

def cc0_transform_13 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let c16_i32 : BitVec 32 := 16#32
  let v2 : BitVec 32 := Scalar.muli v1 c16_i32
  let c8_i32 : BitVec 32 := 8#32
  let v3 : BitVec 32 := Scalar.addi v2 c8_i32
  let v4 : Index := Scalar.indexCast v3
  let v5 : BitVec 32 := pf.at 0 (Rect.unit (s := S2048) ![v4.toNat] S1.size (k0_off1_inb i 8)) numel1_S1
  let c0_i32_0 : BitVec 32 := 0#32
  let c0_i32_1 : BitVec 32 := 0#32
  let c0_i32_2 : BitVec 32 := 0#32
  let c0_i32_3 : BitVec 32 := 0#32
  ![c0_i32_0.toNat, v5.toNat, c0_i32_1.toNat, c0_i32_2.toNat]

def cc0_transform_14 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let c16_i32 : BitVec 32 := 16#32
  let v2 : BitVec 32 := Scalar.muli v1 c16_i32
  let c9_i32 : BitVec 32 := 9#32
  let v3 : BitVec 32 := Scalar.addi v2 c9_i32
  let v4 : Index := Scalar.indexCast v3
  let v5 : BitVec 32 := pf.at 0 (Rect.unit (s := S2048) ![v4.toNat] S1.size (k0_off1_inb i 9)) numel1_S1
  let c0_i32_0 : BitVec 32 := 0#32
  let c0_i32_1 : BitVec 32 := 0#32
  let c0_i32_2 : BitVec 32 := 0#32
  let c0_i32_3 : BitVec 32 := 0#32
  ![c0_i32_0.toNat, v5.toNat, c0_i32_1.toNat, c0_i32_2.toNat]

def cc0_transform_15 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let c16_i32 : BitVec 32 := 16#32
  let v2 : BitVec 32 := Scalar.muli v1 c16_i32
  let c10_i32 : BitVec 32 := 10#32
  let v3 : BitVec 32 := Scalar.addi v2 c10_i32
  let v4 : Index := Scalar.indexCast v3
  let v5 : BitVec 32 := pf.at 0 (Rect.unit (s := S2048) ![v4.toNat] S1.size (k0_off1_inb i 10)) numel1_S1
  let c0_i32_0 : BitVec 32 := 0#32
  let c0_i32_1 : BitVec 32 := 0#32
  let c0_i32_2 : BitVec 32 := 0#32
  let c0_i32_3 : BitVec 32 := 0#32
  ![c0_i32_0.toNat, v5.toNat, c0_i32_1.toNat, c0_i32_2.toNat]

def cc0_transform_16 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let c16_i32 : BitVec 32 := 16#32
  let v2 : BitVec 32 := Scalar.muli v1 c16_i32
  let c11_i32 : BitVec 32 := 11#32
  let v3 : BitVec 32 := Scalar.addi v2 c11_i32
  let v4 : Index := Scalar.indexCast v3
  let v5 : BitVec 32 := pf.at 0 (Rect.unit (s := S2048) ![v4.toNat] S1.size (k0_off1_inb i 11)) numel1_S1
  let c0_i32_0 : BitVec 32 := 0#32
  let c0_i32_1 : BitVec 32 := 0#32
  let c0_i32_2 : BitVec 32 := 0#32
  let c0_i32_3 : BitVec 32 := 0#32
  ![c0_i32_0.toNat, v5.toNat, c0_i32_1.toNat, c0_i32_2.toNat]

def cc0_transform_17 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let c16_i32 : BitVec 32 := 16#32
  let v2 : BitVec 32 := Scalar.muli v1 c16_i32
  let c12_i32 : BitVec 32 := 12#32
  let v3 : BitVec 32 := Scalar.addi v2 c12_i32
  let v4 : Index := Scalar.indexCast v3
  let v5 : BitVec 32 := pf.at 0 (Rect.unit (s := S2048) ![v4.toNat] S1.size (k0_off1_inb i 12)) numel1_S1
  let c0_i32_0 : BitVec 32 := 0#32
  let c0_i32_1 : BitVec 32 := 0#32
  let c0_i32_2 : BitVec 32 := 0#32
  let c0_i32_3 : BitVec 32 := 0#32
  ![c0_i32_0.toNat, v5.toNat, c0_i32_1.toNat, c0_i32_2.toNat]

def cc0_transform_18 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let c16_i32 : BitVec 32 := 16#32
  let v2 : BitVec 32 := Scalar.muli v1 c16_i32
  let c13_i32 : BitVec 32 := 13#32
  let v3 : BitVec 32 := Scalar.addi v2 c13_i32
  let v4 : Index := Scalar.indexCast v3
  let v5 : BitVec 32 := pf.at 0 (Rect.unit (s := S2048) ![v4.toNat] S1.size (k0_off1_inb i 13)) numel1_S1
  let c0_i32_0 : BitVec 32 := 0#32
  let c0_i32_1 : BitVec 32 := 0#32
  let c0_i32_2 : BitVec 32 := 0#32
  let c0_i32_3 : BitVec 32 := 0#32
  ![c0_i32_0.toNat, v5.toNat, c0_i32_1.toNat, c0_i32_2.toNat]

def cc0_transform_19 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let c16_i32 : BitVec 32 := 16#32
  let v2 : BitVec 32 := Scalar.muli v1 c16_i32
  let c14_i32 : BitVec 32 := 14#32
  let v3 : BitVec 32 := Scalar.addi v2 c14_i32
  let v4 : Index := Scalar.indexCast v3
  let v5 : BitVec 32 := pf.at 0 (Rect.unit (s := S2048) ![v4.toNat] S1.size (k0_off1_inb i 14)) numel1_S1
  let c0_i32_0 : BitVec 32 := 0#32
  let c0_i32_1 : BitVec 32 := 0#32
  let c0_i32_2 : BitVec 32 := 0#32
  let c0_i32_3 : BitVec 32 := 0#32
  ![c0_i32_0.toNat, v5.toNat, c0_i32_1.toNat, c0_i32_2.toNat]

def cc0_transform_20 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let c16_i32 : BitVec 32 := 16#32
  let v2 : BitVec 32 := Scalar.muli v1 c16_i32
  let c15_i32 : BitVec 32 := 15#32
  let v3 : BitVec 32 := Scalar.addi v2 c15_i32
  let v4 : Index := Scalar.indexCast v3
  let v5 : BitVec 32 := pf.at 0 (Rect.unit (s := S2048) ![v4.toNat] S1.size (k0_off1_inb i 15)) numel1_S1
  let c0_i32_0 : BitVec 32 := 0#32
  let c0_i32_1 : BitVec 32 := 0#32
  let c0_i32_2 : BitVec 32 := 0#32
  let c0_i32_3 : BitVec 32 := 0#32
  ![c0_i32_0.toNat, v5.toNat, c0_i32_1.toNat, c0_i32_2.toNat]

def cc0_transform_21 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let c16_i32 : BitVec 32 := 16#32
  let v2 : BitVec 32 := Scalar.muli v1 c16_i32
  let c0_i32_0 : BitVec 32 := 0#32
  let v3 : BitVec 32 := Scalar.addi v2 c0_i32_0
  let v4 : Index := Scalar.indexCast v3
  let v5 : BitVec 32 := pf.at 0 (Rect.unit (s := S2048) ![v4.toNat] S1.size (k0_off1_inb i 0)) numel1_S1
  let c0_i32_1 : BitVec 32 := 0#32
  let c0_i32_2 : BitVec 32 := 0#32
  let c0_i32_3 : BitVec 32 := 0#32
  let c0_i32_4 : BitVec 32 := 0#32
  ![c0_i32_1.toNat, v5.toNat, c0_i32_2.toNat, c0_i32_3.toNat]

def cc0_transform_22 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let c16_i32 : BitVec 32 := 16#32
  let v2 : BitVec 32 := Scalar.muli v1 c16_i32
  let c1_i32_0 : BitVec 32 := 1#32
  let v3 : BitVec 32 := Scalar.addi v2 c1_i32_0
  let v4 : Index := Scalar.indexCast v3
  let v5 : BitVec 32 := pf.at 0 (Rect.unit (s := S2048) ![v4.toNat] S1.size (k0_off1_inb i 1)) numel1_S1
  let c0_i32_1 : BitVec 32 := 0#32
  let c0_i32_2 : BitVec 32 := 0#32
  let c0_i32_3 : BitVec 32 := 0#32
  let c0_i32_4 : BitVec 32 := 0#32
  ![c0_i32_1.toNat, v5.toNat, c0_i32_2.toNat, c0_i32_3.toNat]

def cc0_transform_23 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let c16_i32 : BitVec 32 := 16#32
  let v2 : BitVec 32 := Scalar.muli v1 c16_i32
  let c2_i32 : BitVec 32 := 2#32
  let v3 : BitVec 32 := Scalar.addi v2 c2_i32
  let v4 : Index := Scalar.indexCast v3
  let v5 : BitVec 32 := pf.at 0 (Rect.unit (s := S2048) ![v4.toNat] S1.size (k0_off1_inb i 2)) numel1_S1
  let c0_i32_0 : BitVec 32 := 0#32
  let c0_i32_1 : BitVec 32 := 0#32
  let c0_i32_2 : BitVec 32 := 0#32
  let c0_i32_3 : BitVec 32 := 0#32
  ![c0_i32_0.toNat, v5.toNat, c0_i32_1.toNat, c0_i32_2.toNat]

def cc0_transform_24 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let c16_i32 : BitVec 32 := 16#32
  let v2 : BitVec 32 := Scalar.muli v1 c16_i32
  let c3_i32 : BitVec 32 := 3#32
  let v3 : BitVec 32 := Scalar.addi v2 c3_i32
  let v4 : Index := Scalar.indexCast v3
  let v5 : BitVec 32 := pf.at 0 (Rect.unit (s := S2048) ![v4.toNat] S1.size (k0_off1_inb i 3)) numel1_S1
  let c0_i32_0 : BitVec 32 := 0#32
  let c0_i32_1 : BitVec 32 := 0#32
  let c0_i32_2 : BitVec 32 := 0#32
  let c0_i32_3 : BitVec 32 := 0#32
  ![c0_i32_0.toNat, v5.toNat, c0_i32_1.toNat, c0_i32_2.toNat]

def cc0_transform_25 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let c16_i32 : BitVec 32 := 16#32
  let v2 : BitVec 32 := Scalar.muli v1 c16_i32
  let c4_i32 : BitVec 32 := 4#32
  let v3 : BitVec 32 := Scalar.addi v2 c4_i32
  let v4 : Index := Scalar.indexCast v3
  let v5 : BitVec 32 := pf.at 0 (Rect.unit (s := S2048) ![v4.toNat] S1.size (k0_off1_inb i 4)) numel1_S1
  let c0_i32_0 : BitVec 32 := 0#32
  let c0_i32_1 : BitVec 32 := 0#32
  let c0_i32_2 : BitVec 32 := 0#32
  let c0_i32_3 : BitVec 32 := 0#32
  ![c0_i32_0.toNat, v5.toNat, c0_i32_1.toNat, c0_i32_2.toNat]

def cc0_transform_26 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let c16_i32 : BitVec 32 := 16#32
  let v2 : BitVec 32 := Scalar.muli v1 c16_i32
  let c5_i32 : BitVec 32 := 5#32
  let v3 : BitVec 32 := Scalar.addi v2 c5_i32
  let v4 : Index := Scalar.indexCast v3
  let v5 : BitVec 32 := pf.at 0 (Rect.unit (s := S2048) ![v4.toNat] S1.size (k0_off1_inb i 5)) numel1_S1
  let c0_i32_0 : BitVec 32 := 0#32
  let c0_i32_1 : BitVec 32 := 0#32
  let c0_i32_2 : BitVec 32 := 0#32
  let c0_i32_3 : BitVec 32 := 0#32
  ![c0_i32_0.toNat, v5.toNat, c0_i32_1.toNat, c0_i32_2.toNat]

def cc0_transform_27 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let c16_i32 : BitVec 32 := 16#32
  let v2 : BitVec 32 := Scalar.muli v1 c16_i32
  let c6_i32 : BitVec 32 := 6#32
  let v3 : BitVec 32 := Scalar.addi v2 c6_i32
  let v4 : Index := Scalar.indexCast v3
  let v5 : BitVec 32 := pf.at 0 (Rect.unit (s := S2048) ![v4.toNat] S1.size (k0_off1_inb i 6)) numel1_S1
  let c0_i32_0 : BitVec 32 := 0#32
  let c0_i32_1 : BitVec 32 := 0#32
  let c0_i32_2 : BitVec 32 := 0#32
  let c0_i32_3 : BitVec 32 := 0#32
  ![c0_i32_0.toNat, v5.toNat, c0_i32_1.toNat, c0_i32_2.toNat]

def cc0_transform_28 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let c16_i32 : BitVec 32 := 16#32
  let v2 : BitVec 32 := Scalar.muli v1 c16_i32
  let c7_i32 : BitVec 32 := 7#32
  let v3 : BitVec 32 := Scalar.addi v2 c7_i32
  let v4 : Index := Scalar.indexCast v3
  let v5 : BitVec 32 := pf.at 0 (Rect.unit (s := S2048) ![v4.toNat] S1.size (k0_off1_inb i 7)) numel1_S1
  let c0_i32_0 : BitVec 32 := 0#32
  let c0_i32_1 : BitVec 32 := 0#32
  let c0_i32_2 : BitVec 32 := 0#32
  let c0_i32_3 : BitVec 32 := 0#32
  ![c0_i32_0.toNat, v5.toNat, c0_i32_1.toNat, c0_i32_2.toNat]

def cc0_transform_29 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let c16_i32 : BitVec 32 := 16#32
  let v2 : BitVec 32 := Scalar.muli v1 c16_i32
  let c8_i32 : BitVec 32 := 8#32
  let v3 : BitVec 32 := Scalar.addi v2 c8_i32
  let v4 : Index := Scalar.indexCast v3
  let v5 : BitVec 32 := pf.at 0 (Rect.unit (s := S2048) ![v4.toNat] S1.size (k0_off1_inb i 8)) numel1_S1
  let c0_i32_0 : BitVec 32 := 0#32
  let c0_i32_1 : BitVec 32 := 0#32
  let c0_i32_2 : BitVec 32 := 0#32
  let c0_i32_3 : BitVec 32 := 0#32
  ![c0_i32_0.toNat, v5.toNat, c0_i32_1.toNat, c0_i32_2.toNat]

def cc0_transform_30 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let c16_i32 : BitVec 32 := 16#32
  let v2 : BitVec 32 := Scalar.muli v1 c16_i32
  let c9_i32 : BitVec 32 := 9#32
  let v3 : BitVec 32 := Scalar.addi v2 c9_i32
  let v4 : Index := Scalar.indexCast v3
  let v5 : BitVec 32 := pf.at 0 (Rect.unit (s := S2048) ![v4.toNat] S1.size (k0_off1_inb i 9)) numel1_S1
  let c0_i32_0 : BitVec 32 := 0#32
  let c0_i32_1 : BitVec 32 := 0#32
  let c0_i32_2 : BitVec 32 := 0#32
  let c0_i32_3 : BitVec 32 := 0#32
  ![c0_i32_0.toNat, v5.toNat, c0_i32_1.toNat, c0_i32_2.toNat]

def cc0_transform_31 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let c16_i32 : BitVec 32 := 16#32
  let v2 : BitVec 32 := Scalar.muli v1 c16_i32
  let c10_i32 : BitVec 32 := 10#32
  let v3 : BitVec 32 := Scalar.addi v2 c10_i32
  let v4 : Index := Scalar.indexCast v3
  let v5 : BitVec 32 := pf.at 0 (Rect.unit (s := S2048) ![v4.toNat] S1.size (k0_off1_inb i 10)) numel1_S1
  let c0_i32_0 : BitVec 32 := 0#32
  let c0_i32_1 : BitVec 32 := 0#32
  let c0_i32_2 : BitVec 32 := 0#32
  let c0_i32_3 : BitVec 32 := 0#32
  ![c0_i32_0.toNat, v5.toNat, c0_i32_1.toNat, c0_i32_2.toNat]

def cc0_transform_32 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let c16_i32 : BitVec 32 := 16#32
  let v2 : BitVec 32 := Scalar.muli v1 c16_i32
  let c11_i32 : BitVec 32 := 11#32
  let v3 : BitVec 32 := Scalar.addi v2 c11_i32
  let v4 : Index := Scalar.indexCast v3
  let v5 : BitVec 32 := pf.at 0 (Rect.unit (s := S2048) ![v4.toNat] S1.size (k0_off1_inb i 11)) numel1_S1
  let c0_i32_0 : BitVec 32 := 0#32
  let c0_i32_1 : BitVec 32 := 0#32
  let c0_i32_2 : BitVec 32 := 0#32
  let c0_i32_3 : BitVec 32 := 0#32
  ![c0_i32_0.toNat, v5.toNat, c0_i32_1.toNat, c0_i32_2.toNat]

def cc0_transform_33 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let c16_i32 : BitVec 32 := 16#32
  let v2 : BitVec 32 := Scalar.muli v1 c16_i32
  let c12_i32 : BitVec 32 := 12#32
  let v3 : BitVec 32 := Scalar.addi v2 c12_i32
  let v4 : Index := Scalar.indexCast v3
  let v5 : BitVec 32 := pf.at 0 (Rect.unit (s := S2048) ![v4.toNat] S1.size (k0_off1_inb i 12)) numel1_S1
  let c0_i32_0 : BitVec 32 := 0#32
  let c0_i32_1 : BitVec 32 := 0#32
  let c0_i32_2 : BitVec 32 := 0#32
  let c0_i32_3 : BitVec 32 := 0#32
  ![c0_i32_0.toNat, v5.toNat, c0_i32_1.toNat, c0_i32_2.toNat]

def cc0_transform_34 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let c16_i32 : BitVec 32 := 16#32
  let v2 : BitVec 32 := Scalar.muli v1 c16_i32
  let c13_i32 : BitVec 32 := 13#32
  let v3 : BitVec 32 := Scalar.addi v2 c13_i32
  let v4 : Index := Scalar.indexCast v3
  let v5 : BitVec 32 := pf.at 0 (Rect.unit (s := S2048) ![v4.toNat] S1.size (k0_off1_inb i 13)) numel1_S1
  let c0_i32_0 : BitVec 32 := 0#32
  let c0_i32_1 : BitVec 32 := 0#32
  let c0_i32_2 : BitVec 32 := 0#32
  let c0_i32_3 : BitVec 32 := 0#32
  ![c0_i32_0.toNat, v5.toNat, c0_i32_1.toNat, c0_i32_2.toNat]

def cc0_transform_35 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let c16_i32 : BitVec 32 := 16#32
  let v2 : BitVec 32 := Scalar.muli v1 c16_i32
  let c14_i32 : BitVec 32 := 14#32
  let v3 : BitVec 32 := Scalar.addi v2 c14_i32
  let v4 : Index := Scalar.indexCast v3
  let v5 : BitVec 32 := pf.at 0 (Rect.unit (s := S2048) ![v4.toNat] S1.size (k0_off1_inb i 14)) numel1_S1
  let c0_i32_0 : BitVec 32 := 0#32
  let c0_i32_1 : BitVec 32 := 0#32
  let c0_i32_2 : BitVec 32 := 0#32
  let c0_i32_3 : BitVec 32 := 0#32
  ![c0_i32_0.toNat, v5.toNat, c0_i32_1.toNat, c0_i32_2.toNat]

def cc0_transform_36 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let c16_i32 : BitVec 32 := 16#32
  let v2 : BitVec 32 := Scalar.muli v1 c16_i32
  let c15_i32 : BitVec 32 := 15#32
  let v3 : BitVec 32 := Scalar.addi v2 c15_i32
  let v4 : Index := Scalar.indexCast v3
  let v5 : BitVec 32 := pf.at 0 (Rect.unit (s := S2048) ![v4.toNat] S1.size (k0_off1_inb i 15)) numel1_S1
  let c0_i32_0 : BitVec 32 := 0#32
  let c0_i32_1 : BitVec 32 := 0#32
  let c0_i32_2 : BitVec 32 := 0#32
  let c0_i32_3 : BitVec 32 := 0#32
  ![c0_i32_0.toNat, v5.toNat, c0_i32_1.toNat, c0_i32_2.toNat]

def cc0_transform_37 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2176 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x2176 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1x512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1x512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1x512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x1x512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x1x512x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x1x512x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x1x512x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x1x512x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x1x512x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x1x512x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x1x512x128 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1x1x512x128 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S1x1x512x128 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S1x1x512x128 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S1x1x512x128 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S1x1x512x128 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S1x1x512x128 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 2 → Memref sig .tc .vmem S1x1x512x128 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]

abbrev stage0_34 : Fin 2 → Memref sig .tc .vmem S1x1x512x128 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]

abbrev stage0_35 : Fin 2 → Memref sig .tc .vmem S1x1x512x128 .f32 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true]

abbrev stage0_36 : Fin 2 → Memref sig .tc .vmem S1x1x512x128 .f32 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true]

abbrev stage0_37 : Fin 2 → Memref sig .tc .vmem S1x1x512 .bf16 := fun | 0 => Memref.whole cc0_stg37_0 | 1 => Memref.whole cc0_stg37_1 | ⟨_ + 2, h⟩ => absurd h (Nat.not_lt.2 (Nat.le_add_left _ _))
abbrev sem0_37 : Fin 2 → DmaSem sig := fun | 0 => cc0_sem37_0 | 1 => cc0_sem37_1 | ⟨_ + 2, h⟩ => absurd h (Nat.not_lt.2 (Nat.le_add_left _ _))
abbrev reads0_37 : Fin grid0.rank → Bool := ![true]
-- ==== RefSattnIdeal.lean ====
abbrev S128x16 : Shape := ⟨2, ![128, 16]⟩
abbrev S128x512 : Shape := ⟨2, ![128, 512]⟩
abbrev S128x2176 : Shape := ⟨2, ![128, 2176]⟩
abbrev S8x2176 : Shape := ⟨2, ![8, 2176]⟩
abbrev S4x2560x128x8x64 : Shape := ⟨5, ![4, 2560, 128, 8, 64]⟩
abbrev S128x8x64 : Shape := ⟨3, ![128, 8, 64]⟩
abbrev S1x2560x128x8x64 : Shape := ⟨5, ![1, 2560, 128, 8, 64]⟩
abbrev S2560x128x8x64 : Shape := ⟨4, ![2560, 128, 8, 64]⟩
abbrev S128x16x1 : Shape := ⟨3, ![128, 16, 1]⟩
abbrev S128x16x128x8x64 : Shape := ⟨5, ![128, 16, 128, 8, 64]⟩
abbrev S128x2048x8x64 : Shape := ⟨4, ![128, 2048, 8, 64]⟩
abbrev S128x1x8x64 : Shape := ⟨4, ![128, 1, 8, 64]⟩
abbrev S128x2049x8x64 : Shape := ⟨4, ![128, 2049, 8, 64]⟩
abbrev S128x8x2049 : Shape := ⟨3, ![128, 8, 2049]⟩
abbrev S8x2049 : Shape := ⟨2, ![8, 2049]⟩
abbrev S1x8x2049 : Shape := ⟨3, ![1, 8, 2049]⟩
abbrev S128x2049 : Shape := ⟨2, ![128, 2049]⟩
abbrev S_ : Shape := ⟨0, ![]⟩
abbrev S128x1x2049 : Shape := ⟨3, ![128, 1, 2049]⟩
abbrev S128x8 : Shape := ⟨2, ![128, 8]⟩
abbrev S128x8x1 : Shape := ⟨3, ![128, 8, 1]⟩
abbrev S128x1x512 : Shape := ⟨3, ![128, 1, 512]⟩

abbrev nBuf : Space → Nat
  | .hbm => 55
  | .vmem => 0
  | .smem => 0
  | _ => 0

abbrev bufTy : (tb : Table) → Fin (tcTables nBuf tb) → BufTy
  | .hbm, ⟨0, _⟩ => ⟨S128x16, .i32⟩
  | .hbm, ⟨1, _⟩ => ⟨S128x512, .bf16⟩
  | .hbm, ⟨2, _⟩ => ⟨S128x2176, .i32⟩
  | .hbm, ⟨3, _⟩ => ⟨S8x2176, .f32⟩
  | .hbm, ⟨4, _⟩ => ⟨S128x512, .f32⟩
  | .hbm, ⟨5, _⟩ => ⟨S128x512, .f32⟩
  | .hbm, ⟨6, _⟩ => ⟨S4x2560x128x8x64, .f32⟩
  | .hbm, ⟨7, _⟩ => ⟨S4x2560x128x8x64, .f32⟩
  | .hbm, ⟨8, _⟩ => ⟨S128x512, .f32⟩
  | .hbm, ⟨9, _⟩ => ⟨S128x8x64, .f32⟩
  | .hbm, ⟨10, _⟩ => ⟨S1x2560x128x8x64, .f32⟩
  | .hbm, ⟨11, _⟩ => ⟨S2560x128x8x64, .f32⟩
  | .hbm, ⟨12, _⟩ => ⟨S128x16x1, .i32⟩
  | .hbm, ⟨13, _⟩ => ⟨S128x16x128x8x64, .f32⟩
  | .hbm, ⟨14, _⟩ => ⟨S128x2048x8x64, .f32⟩
  | .hbm, ⟨15, _⟩ => ⟨S1x2560x128x8x64, .f32⟩
  | .hbm, ⟨16, _⟩ => ⟨S2560x128x8x64, .f32⟩
  | .hbm, ⟨17, _⟩ => ⟨S128x16x1, .i32⟩
  | .hbm, ⟨18, _⟩ => ⟨S128x16x128x8x64, .f32⟩
  | .hbm, ⟨19, _⟩ => ⟨S128x2048x8x64, .f32⟩
  | .hbm, ⟨20, _⟩ => ⟨S128x1x8x64, .f32⟩
  | .hbm, ⟨21, _⟩ => ⟨S128x2049x8x64, .f32⟩
  | .hbm, ⟨22, _⟩ => ⟨S128x1x8x64, .f32⟩
  | .hbm, ⟨23, _⟩ => ⟨S128x2049x8x64, .f32⟩
  | .hbm, ⟨24, _⟩ => ⟨S128x8x2049, .f32⟩
  | .hbm, ⟨25, _⟩ => ⟨S8x2049, .f32⟩
  | .hbm, ⟨26, _⟩ => ⟨S1x8x2049, .f32⟩
  | .hbm, ⟨27, _⟩ => ⟨S128x8x2049, .f32⟩
  | .hbm, ⟨28, _⟩ => ⟨S128x8x2049, .f32⟩
  | .hbm, ⟨29, _⟩ => ⟨S128x2049, .i32⟩
  | .hbm, ⟨30, _⟩ => ⟨S_, .i32⟩
  | .hbm, ⟨31, _⟩ => ⟨S128x2049, .i32⟩
  | .hbm, ⟨32, _⟩ => ⟨S128x2049, .i1⟩
  | .hbm, ⟨33, _⟩ => ⟨S128x1x2049, .i1⟩
  | .hbm, ⟨34, _⟩ => ⟨S_, .f32⟩
  | .hbm, ⟨35, _⟩ => ⟨S_, .f32⟩
  | .hbm, ⟨36, _⟩ => ⟨S128x8x2049, .i1⟩
  | .hbm, ⟨37, _⟩ => ⟨S128x8x2049, .f32⟩
  | .hbm, ⟨38, _⟩ => ⟨S128x8x2049, .f32⟩
  | .hbm, ⟨39, _⟩ => ⟨S_, .f32⟩
  | .hbm, ⟨40, _⟩ => ⟨S128x8, .f32⟩
  | .hbm, ⟨41, _⟩ => ⟨S128x8x1, .f32⟩
  | .hbm, ⟨42, _⟩ => ⟨S128x8x2049, .f32⟩
  | .hbm, ⟨43, _⟩ => ⟨S128x8x2049, .f32⟩
  | .hbm, ⟨44, _⟩ => ⟨S_, .f32⟩
  | .hbm, ⟨45, _⟩ => ⟨S128x8x2049, .f32⟩
  | .hbm, ⟨46, _⟩ => ⟨S128x8x2049, .f32⟩
  | .hbm, ⟨47, _⟩ => ⟨S_, .f32⟩
  | .hbm, ⟨48, _⟩ => ⟨S128x8, .f32⟩
  | .hbm, ⟨49, _⟩ => ⟨S128x8x1, .f32⟩
  | .hbm, ⟨50, _⟩ => ⟨S128x8x2049, .f32⟩
  | .hbm, ⟨51, _⟩ => ⟨S128x8x2049, .f32⟩
  | .hbm, ⟨52, _⟩ => ⟨S128x8x64, .f32⟩
  | .hbm, ⟨53, _⟩ => ⟨S128x1x512, .f32⟩
  | .hbm, ⟨54, _⟩ => ⟨S128x1x512, .bf16⟩
  | _, _ => ⟨S128x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call1_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_v23 : Ref sig .tc := ⟨.hbm, 38, rfl⟩
abbrev main_cst_0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_1 : Ref sig .tc := ⟨.hbm, 44, rfl⟩
abbrev main_v28 : Ref sig .tc := ⟨.hbm, 45, rfl⟩
abbrev main_v29 : Ref sig .tc := ⟨.hbm, 46, rfl⟩
abbrev main_cst_2 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩

abbrev nD : Nat := 1
abbrev τ : Topo := Topo.v7x

variable {F : FTy → Type} [FloatOps F]
-- ==== Ffn.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 10
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1x1024, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RefFfnIdeal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 39
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x5632, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S_, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]
-- ==== Merge.lean ====
abbrev S16384x1024 : Shape := ⟨2, ![16384, 1024]⟩
abbrev S16384x512 : Shape := ⟨2, ![16384, 512]⟩
abbrev S3x512 : Shape := ⟨2, ![3, 512]⟩
abbrev S512x1024 : Shape := ⟨2, ![512, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S2x2x512 : Shape := ⟨3, ![2, 2, 512]⟩
abbrev S1x1024 : Shape := ⟨2, ![1, 1024]⟩
abbrev S512x512 : Shape := ⟨2, ![512, 512]⟩
abbrev S8x512 : Shape := ⟨2, ![8, 512]⟩
abbrev S1x2x512 : Shape := ⟨3, ![1, 2, 512]⟩
abbrev S1x1x512 : Shape := ⟨3, ![1, 1, 512]⟩
abbrev S1x512 : Shape := ⟨2, ![1, 512]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 24
  | .vmem => 28
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x1024, .f32⟩
  | .hbm, ⟨4, _⟩ => ⟨S16384x1024, .f32⟩
  | .hbm, ⟨5, _⟩ => ⟨S16384x512, .bf16⟩
  | .hbm, ⟨6, _⟩ => ⟨S3x512, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S1024x5632, .f32⟩
  | .hbm, ⟨12, _⟩ => ⟨S2816x1024, .f32⟩
  | .hbm, ⟨13, _⟩ => ⟨S1024, .f32⟩
  | .hbm, ⟨14, _⟩ => ⟨S_, .f32⟩
  | .hbm, ⟨15, _⟩ => ⟨S2x2x512, .f32⟩
  | .hbm, ⟨16, _⟩ => ⟨S512x1024, .bf16⟩
  | .hbm, ⟨17, _⟩ => ⟨S512x1024, .bf16⟩
  | .hbm, ⟨18, _⟩ => ⟨S1024x1024, .bf16⟩
  | .hbm, ⟨19, _⟩ => ⟨S1x1024, .f32⟩
  | .hbm, ⟨20, _⟩ => ⟨S1024x5632, .bf16⟩
  | .hbm, ⟨21, _⟩ => ⟨S2816x1024, .bf16⟩
  | .hbm, ⟨22, _⟩ => ⟨S1x1024, .f32⟩
  | .hbm, ⟨23, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S1x2x512, .f32⟩
  | .local _ .vmem, ⟨8, _⟩ => ⟨S1x2x512, .f32⟩
  | .local _ .vmem, ⟨9, _⟩ => ⟨S512x512, .f32⟩
  | .local _ .vmem, ⟨10, _⟩ => ⟨S512x512, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x512, .bf16⟩
  | .local _ .vmem, ⟨16, _⟩ => ⟨S512x512, .bf16⟩
  | .local _ .vmem, ⟨17, _⟩ => ⟨S3x512, .f32⟩
  | .local _ .vmem, ⟨18, _⟩ => ⟨S512x1024, .bf16⟩
  | .local _ .vmem, ⟨19, _⟩ => ⟨S512x1024, .bf16⟩
  | .local _ .vmem, ⟨20, _⟩ => ⟨S1024x1024, .bf16⟩
  | .local _ .vmem, ⟨21, _⟩ => ⟨S1x1024, .f32⟩
  | .local _ .vmem, ⟨22, _⟩ => ⟨S1024x5632, .bf16⟩
  | .local _ .vmem, ⟨23, _⟩ => ⟨S2816x1024, .bf16⟩
  | .local _ .vmem, ⟨24, _⟩ => ⟨S1x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg17_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S3x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x5632 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2816x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== RefMergeIdeal.lean ====
abbrev S16384x1024 : Shape := ⟨2, ![16384, 1024]⟩
abbrev S16384x512 : Shape := ⟨2, ![16384, 512]⟩
abbrev S3x512 : Shape := ⟨2, ![3, 512]⟩
abbrev S512x1024 : Shape := ⟨2, ![512, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S2x2x512 : Shape := ⟨3, ![2, 2, 512]⟩
abbrev S2x8192x512 : Shape := ⟨3, ![2, 8192, 512]⟩
abbrev S2x8194x512 : Shape := ⟨3, ![2, 8194, 512]⟩
abbrev S1x512 : Shape := ⟨2, ![1, 512]⟩
abbrev S512 : Shape := ⟨1, ![512]⟩
abbrev S1x1x512 : Shape := ⟨3, ![1, 1, 512]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 15
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x1024, .f32⟩
  | .hbm, ⟨4, _⟩ => ⟨S16384x1024, .f32⟩
  | .hbm, ⟨5, _⟩ => ⟨S16384x512, .bf16⟩
  | .hbm, ⟨6, _⟩ => ⟨S3x512, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S1024x5632, .f32⟩
  | .hbm, ⟨12, _⟩ => ⟨S2816x1024, .f32⟩
  | .hbm, ⟨13, _⟩ => ⟨S1024, .f32⟩
  | .hbm, ⟨14, _⟩ => ⟨S16384x1024, .f32⟩
  | .local _ .vmem, ⟨0, _⟩ => ⟨S16384x1024, .f32⟩
  | .local _ .vmem, ⟨1, _⟩ => ⟨S16384x512, .f32⟩
  | .local _ .vmem, ⟨2, _⟩ => ⟨S16384x512, .f32⟩
  | .local _ .vmem, ⟨3, _⟩ => ⟨S16384x1024, .f32⟩
  | .local _ .vmem, ⟨4, _⟩ => ⟨S16384x1024, .f32⟩
  | .local _ .vmem, ⟨5, _⟩ => ⟨S16384x512, .bf16⟩
  | .local _ .vmem, ⟨6, _⟩ => ⟨S3x512, .f32⟩
  | .local _ .vmem, ⟨7, _⟩ => ⟨S512x1024, .f32⟩
  | .local _ .vmem, ⟨8, _⟩ => ⟨S512x1024, .f32⟩
  | .local _ .vmem, ⟨9, _⟩ => ⟨S1024x1024, .f32⟩
  | .local _ .vmem, ⟨10, _⟩ => ⟨S1024, .f32⟩
  | .local _ .vmem, ⟨11, _⟩ => ⟨S1024x5632, .f32⟩
  | .local _ .vmem, ⟨12, _⟩ => ⟨S2816x1024, .f32⟩
  | .local _ .vmem, ⟨13, _⟩ => ⟨S1024, .f32⟩
  | .local _ .vmem, ⟨14, _⟩ => ⟨S16384x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S16384x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2816x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S16384x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Proj.lean ====
abbrev S16384x1024 : Shape := ⟨2, ![16384, 1024]⟩
abbrev S1024 : Shape := ⟨1, ![1024]⟩
abbrev S1024x5704 : Shape := ⟨2, ![1024, 5704]⟩
abbrev S1x1024 : Shape := ⟨2, ![1, 1024]⟩
abbrev S1024x3584 : Shape := ⟨2, ![1024, 3584]⟩
abbrev S1024x64 : Shape := ⟨2, ![1024, 64]⟩
abbrev S_ : Shape := ⟨0, ![]⟩
abbrev S1024x128 : Shape := ⟨2, ![1024, 128]⟩
abbrev S1024x8 : Shape := ⟨2, ![1024, 8]⟩
abbrev S1024x2048 : Shape := ⟨2, ![1024, 2048]⟩
abbrev S1024x5888 : Shape := ⟨2, ![1024, 5888]⟩
abbrev S16384x512 : Shape := ⟨2, ![16384, 512]⟩
abbrev S2x512x8192 : Shape := ⟨3, ![2, 512, 8192]⟩
abbrev S2x64x8192 : Shape := ⟨3, ![2, 64, 8192]⟩
abbrev S16384x128 : Shape := ⟨2, ![16384, 128]⟩
abbrev S2x32x4x144x256 : Shape := ⟨5, ![2, 32, 4, 144, 256]⟩
abbrev S2x8x8192 : Shape := ⟨3, ![2, 8, 8192]⟩
abbrev S512x1024 : Shape := ⟨2, ![512, 1024]⟩
abbrev S512x512 : Shape := ⟨2, ![512, 512]⟩
abbrev S1x512x512 : Shape := ⟨3, ![1, 512, 512]⟩
abbrev S1x64x512 : Shape := ⟨3, ![1, 64, 512]⟩
abbrev S512x128 : Shape := ⟨2, ![512, 128]⟩
abbrev S1x2x4x144x256 : Shape := ⟨5, ![1, 2, 4, 144, 256]⟩
abbrev S1x8x512 : Shape := ⟨3, ![1, 8, 512]⟩
abbrev S512 : Shape := ⟨1, ![512]⟩
abbrev S512x1 : Shape := ⟨2, ![512, 1]⟩
abbrev S1024x512 : Shape := ⟨2, ![1024, 512]⟩
abbrev S1024x1024 : Shape := ⟨2, ![1024, 1024]⟩
abbrev S128x512 : Shape := ⟨2, ![128, 512]⟩
abbrev S64x512 : Shape := ⟨2, ![64, 512]⟩
abbrev S128x256 : Shape := ⟨2, ![128, 256]⟩
abbrev S1x1x1x128x256 : Shape := ⟨5, ![1, 1, 1, 128, 256]⟩
abbrev S16x256 : Shape := ⟨2, ![16, 256]⟩
abbrev S1x1x1x16x256 : Shape := ⟨5, ![1, 1, 1, 16, 256]⟩
abbrev S8x512 : Shape := ⟨2, ![8, 512]⟩

abbrev nBuf : Space → Nat
  | .hbm => 29
  | .vmem => 30
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5704, .f32⟩
  | .hbm, ⟨3, _⟩ => ⟨S1x1024, .f32⟩
  | .hbm, ⟨4, _⟩ => ⟨S1024x3584, .f32⟩
  | .hbm, ⟨5, _⟩ => ⟨S1024x64, .f32⟩
  | .hbm, ⟨6, _⟩ => ⟨S_, .i32⟩
  | .hbm, ⟨7, _⟩ => ⟨S_, .f32⟩
  | .hbm, ⟨8, _⟩ => ⟨S1024x128, .f32⟩
  | .hbm, ⟨9, _⟩ => ⟨S1024x8, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x2048, .f32⟩
  | .hbm, ⟨14, _⟩ => ⟨S1024x5888, .f32⟩
  | .hbm, ⟨15, _⟩ => ⟨S1024x5888, .bf16⟩
  | .hbm, ⟨16, _⟩ => ⟨S16384x512, .f32⟩
  | .hbm, ⟨17, _⟩ => ⟨S16384x512, .f32⟩
  | .hbm, ⟨18, _⟩ => ⟨S16384x1024, .f32⟩
  | .hbm, ⟨19, _⟩ => ⟨S16384x1024, .f32⟩
  | .hbm, ⟨20, _⟩ => ⟨S2x512x8192, .f32⟩
  | .hbm, ⟨21, _⟩ => ⟨S2x512x8192, .f32⟩
  | .hbm, ⟨22, _⟩ => ⟨S2x64x8192, .f32⟩
  | .hbm, ⟨23, _⟩ => ⟨S16384x512, .bf16⟩
  | .hbm, ⟨24, _⟩ => ⟨S16384x128, .bf16⟩
  | .hbm, ⟨25, _⟩ => ⟨S2x32x4x144x256, .bf16⟩
  | .hbm, ⟨26, _⟩ => ⟨S2x512x8192, .bf16⟩
  | .hbm, ⟨27, _⟩ => ⟨S2x512x8192, .bf16⟩
  | .hbm, ⟨28, _⟩ => ⟨S2x8x8192, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5888, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x64x512, .f32⟩
  | .local _ .vmem, ⟨17, _⟩ => ⟨S1x64x512, .f32⟩
  | .local _ .vmem, ⟨18, _⟩ => ⟨S512x512, .bf16⟩
  | .local _ .vmem, ⟨19, _⟩ => ⟨S512x512, .bf16⟩
  | .local _ .vmem, ⟨20, _⟩ => ⟨S512x128, .bf16⟩
  | .local _ .vmem, ⟨21, _⟩ => ⟨S512x128, .bf16⟩
  | .local _ .vmem, ⟨22, _⟩ => ⟨S1x2x4x144x256, .bf16⟩
  | .local _ .vmem, ⟨23, _⟩ => ⟨S1x2x4x144x256, .bf16⟩
  | .local _ .vmem, ⟨24, _⟩ => ⟨S1x512x512, .bf16⟩
  | .local _ .vmem, ⟨25, _⟩ => ⟨S1x512x512, .bf16⟩
  | .local _ .vmem, ⟨26, _⟩ => ⟨S1x512x512, .bf16⟩
  | .local _ .vmem, ⟨27, _⟩ => ⟨S1x512x512, .bf16⟩
  | .local _ .vmem, ⟨28, _⟩ => ⟨S1x8x512, .f32⟩
  | .local _ .vmem, ⟨29, _⟩ => ⟨S1x8x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev main_v9_5 : Ref sig .tc := ⟨.hbm, 21, rfl⟩
abbrev main_v9_6 : Ref sig .tc := ⟨.hbm, 22, rfl⟩
abbrev main_v9_7 : Ref sig .tc := ⟨.hbm, 23, rfl⟩
abbrev main_v9_8 : Ref sig .tc := ⟨.hbm, 24, rfl⟩
abbrev main_v9_9 : Ref sig .tc := ⟨.hbm, 25, rfl⟩
abbrev main_v9_10 : Ref sig .tc := ⟨.hbm, 26, rfl⟩
abbrev main_v9_11 : Ref sig .tc := ⟨.hbm, 27, rfl⟩
abbrev main_v9_12 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_8 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_9 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, v26.toNat, c0_i32_10.toNat, c0_i32_11.toNat, c0_i32_12.toNat]

def cc0_transform_13 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_14 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_15 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5888 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x2x4x144x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x8x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== RefProjIdeal.lean ====
abbrev S16384x1024 : Shape := ⟨2, ![16384, 1024]⟩
abbrev S1024 : Shape := ⟨1, ![1024]⟩
abbrev S1024x5704 : Shape := ⟨2, ![1024, 5704]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5704 : Shape := ⟨2, ![16384, 5704]⟩
abbrev S16384x512 : Shape := ⟨2, ![16384, 512]⟩
abbrev S16384x64 : Shape := ⟨2, ![16384, 64]⟩
abbrev S16384x8 : Shape := ⟨2, ![16384, 8]⟩
abbrev S2x32x256x4x128 : Shape := ⟨5, ![2, 32, 256, 4, 128]⟩
abbrev S2x32x4x128x256 : Shape := ⟨5, ![2, 32, 4, 128, 256]⟩
abbrev S2x32x4x16x256 : Shape := ⟨5, ![2, 32, 4, 16, 256]⟩
abbrev S2x32x4x144x256 : Shape := ⟨5, ![2, 32, 4, 144, 256]⟩
abbrev S2x8192x512 : Shape := ⟨3, ![2, 8192, 512]⟩
abbrev S2x512x8192 : Shape := ⟨3, ![2, 512, 8192]⟩
abbrev S2x8192x64 : Shape := ⟨3, ![2, 8192, 64]⟩
abbrev S2x64x8192 : Shape := ⟨3, ![2, 64, 8192]⟩
abbrev S16384x128 : Shape := ⟨2, ![16384, 128]⟩
abbrev S2x8192x8 : Shape := ⟨3, ![2, 8192, 8]⟩
abbrev S2x8x8192 : Shape := ⟨3, ![2, 8, 8192]⟩

abbrev nBuf : Space → Nat
  | .hbm => 80
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5704, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x5704, .f32⟩
  | .hbm, ⟨20, _⟩ => ⟨S16384x512, .f32⟩
  | .hbm, ⟨21, _⟩ => ⟨S16384x512, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S16384x64, .f32⟩
  | .hbm, ⟨28, _⟩ => ⟨S16384x8, .f32⟩
  | .hbm, ⟨29, _⟩ => ⟨S16384x1024, .f32⟩
  | .hbm, ⟨30, _⟩ => ⟨S16384x1024, .f32⟩
  | .hbm, ⟨31, _⟩ => ⟨S2x32x256x4x128, .f32⟩
  | .hbm, ⟨32, _⟩ => ⟨S2x32x4x128x256, .f32⟩
  | .hbm, ⟨33, _⟩ => ⟨S_, .f32⟩
  | .hbm, ⟨34, _⟩ => ⟨S2x32x4x16x256, .f32⟩
  | .hbm, ⟨35, _⟩ => ⟨S2x32x4x144x256, .f32⟩
  | .hbm, ⟨36, _⟩ => ⟨S16384x512, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S16384x1024, .f32⟩
  | .hbm, ⟨52, _⟩ => ⟨S16384x1024, .f32⟩
  | .hbm, ⟨53, _⟩ => ⟨S2x8192x512, .f32⟩
  | .hbm, ⟨54, _⟩ => ⟨S2x512x8192, .f32⟩
  | .hbm, ⟨55, _⟩ => ⟨S2x8192x512, .f32⟩
  | .hbm, ⟨56, _⟩ => ⟨S2x512x8192, .f32⟩
  | .hbm, ⟨57, _⟩ => ⟨S2x8192x64, .f32⟩
  | .hbm, ⟨58, _⟩ => ⟨S2x64x8192, .f32⟩
  | .hbm, ⟨59, _⟩ => ⟨S16384x512, .bf16⟩
  | .hbm, ⟨60, _⟩ => ⟨S16384x128, .f32⟩
  | .hbm, ⟨61, _⟩ => ⟨S16384x128, .bf16⟩
  | .hbm, ⟨62, _⟩ => ⟨S2x32x4x144x256, .bf16⟩
  | .hbm, ⟨63, _⟩ => ⟨S_, .f32⟩
  | .hbm, ⟨64, _⟩ => ⟨S16384x512, .f32⟩
  | .hbm, ⟨65, _⟩ => ⟨S16384x512, .f32⟩
  | .hbm, ⟨66, _⟩ => ⟨S2x8192x512, .f32⟩
  | .hbm, ⟨67, _⟩ => ⟨S2x512x8192, .f32⟩
  | .hbm, ⟨68, _⟩ => ⟨S2x512x8192, .bf16⟩
  | .hbm, ⟨69, _⟩ => ⟨S_, .f32⟩
  | .hbm, ⟨70, _⟩ => ⟨S16384x512, .f32⟩
  | .hbm, ⟨71, _⟩ => ⟨S16384x512, .f32⟩
  | .hbm, ⟨72, _⟩ => ⟨S2x8192x512, .f32⟩
  | .hbm, ⟨73, _⟩ => ⟨S2x512x8192, .f32⟩
  | .hbm, ⟨74, _⟩ => ⟨S2x512x8192, .bf16⟩
  | .hbm, ⟨75, _⟩ => ⟨S_, .f32⟩
  | .hbm, ⟨76, _⟩ => ⟨S16384x8, .f32⟩
  | .hbm, ⟨77, _⟩ => ⟨S16384x8, .f32⟩
  | .hbm, ⟨78, _⟩ => ⟨S2x8192x8, .f32⟩
  | .hbm, ⟨79, _⟩ => ⟨S2x8x8192, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_v33 : Ref sig .tc := ⟨.hbm, 41, rfl⟩
abbrev main_cst_4 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_5 : Ref sig .tc := ⟨.hbm, 47, rfl⟩
abbrev main_v38 : Ref sig .tc := ⟨.hbm, 48, rfl⟩
abbrev main_v39 : Ref sig .tc := ⟨.hbm, 49, rfl⟩
abbrev main_cst_6 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_7 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_8 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_9 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩

abbrev nD : Nat := 1
abbrev τ : Topo := Topo.v7x

variable {F : FTy → Type} [FloatOps F]
-- ==== MergeSample.lean ====
abbrev S128x1024 : Shape := ⟨2, ![128, 1024]⟩
abbrev S128x512 : Shape := ⟨2, ![128, 512]⟩
abbrev S128x2x512 : Shape := ⟨3, ![128, 2, 512]⟩
abbrev S3x512 : Shape := ⟨2, ![3, 512]⟩
abbrev S512x1024 : Shape := ⟨2, ![512, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S2x2x512 : Shape := ⟨3, ![2, 2, 512]⟩
abbrev S128x1x512 : Shape := ⟨3, ![128, 1, 512]⟩
abbrev S1x1024 : Shape := ⟨2, ![1, 1024]⟩
abbrev S1x2x512 : Shape := ⟨3, ![1, 2, 512]⟩
abbrev S1x512 : Shape := ⟨2, ![1, 512]⟩
abbrev S128 : Shape := ⟨1, ![128]⟩
abbrev S128x1 : Shape := ⟨2, ![128, 1]⟩
abbrev S1024x256 : Shape := ⟨2, ![1024, 256]⟩
abbrev S128x256 : Shape := ⟨2, ![128, 256]⟩
abbrev S256x1024 : Shape := ⟨2, ![256, 1024]⟩

abbrev nBuf : Space → Nat
  | .hbm => 29
  | .vmem => 19
  | .smem => 0
  | _ => 0

abbrev bufTy : (tb : Table) → Fin (tcTables nBuf tb) → BufTy
  | .hbm, ⟨0, _⟩ => ⟨S128x1024, .f32⟩
  | .hbm, ⟨1, _⟩ => ⟨S128x512, .f32⟩
  | .hbm, ⟨2, _⟩ => ⟨S128x2x512, .f32⟩
  | .hbm, ⟨3, _⟩ => ⟨S128x512, .f32⟩
  | .hbm, ⟨4, _⟩ => ⟨S128x1024, .f32⟩
  | .hbm, ⟨5, _⟩ => ⟨S128x1024, .f32⟩
  | .hbm, ⟨6, _⟩ => ⟨S128x512, .bf16⟩
  | .hbm, ⟨7, _⟩ => ⟨S3x512, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S1024, .f32⟩
  | .hbm, ⟨12, _⟩ => ⟨S1024x5632, .f32⟩
  | .hbm, ⟨13, _⟩ => ⟨S2816x1024, .f32⟩
  | .hbm, ⟨14, _⟩ => ⟨S1024, .f32⟩
  | .hbm, ⟨15, _⟩ => ⟨S_, .f32⟩
  | .hbm, ⟨16, _⟩ => ⟨S2x2x512, .f32⟩
  | .hbm, ⟨17, _⟩ => ⟨S128x1x512, .f32⟩
  | .hbm, ⟨18, _⟩ => ⟨S128x512, .f32⟩
  | .hbm, ⟨19, _⟩ => ⟨S128x1x512, .f32⟩
  | .hbm, ⟨20, _⟩ => ⟨S128x512, .f32⟩
  | .hbm, ⟨21, _⟩ => ⟨S512x1024, .bf16⟩
  | .hbm, ⟨22, _⟩ => ⟨S512x1024, .bf16⟩
  | .hbm, ⟨23, _⟩ => ⟨S1024x1024, .bf16⟩
  | .hbm, ⟨24, _⟩ => ⟨S1x1024, .f32⟩
  | .hbm, ⟨25, _⟩ => ⟨S1024x5632, .bf16⟩
  | .hbm, ⟨26, _⟩ => ⟨S2816x1024, .bf16⟩
  | .hbm, ⟨27, _⟩ => ⟨S1x1024, .f32⟩
  | .hbm, ⟨28, _⟩ => ⟨S128x1024, .f32⟩
  | .local _ .vmem, ⟨0, _⟩ => ⟨S128x1024, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S1x2x512, .f32⟩
  | .local _ .vmem, ⟨5, _⟩ => ⟨S128x512, .f32⟩
  | .local _ .vmem, ⟨6, _⟩ => ⟨S128x1024, .f32⟩
  | .local _ .vmem, ⟨7, _⟩ => ⟨S128x1024, .f32⟩
  | .local _ .vmem, ⟨8, _⟩ => ⟨S128x512, .bf16⟩
  | .local _ .vmem, ⟨9, _⟩ => ⟨S3x512, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x5632, .bf16⟩
  | .local _ .vmem, ⟨15, _⟩ => ⟨S2816x1024, .bf16⟩
  | .local _ .vmem, ⟨16, _⟩ => ⟨S1x1024, .f32⟩
  | .local _ .vmem, ⟨17, _⟩ => ⟨S128x1024, .f32⟩
  | .local _ .vmem, ⟨18, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_scratch0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S3x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x5632 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2816x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]
-- ==== RefMergeSampleIdeal.lean ====
abbrev S128x1024 : Shape := ⟨2, ![128, 1024]⟩
abbrev S128x512 : Shape := ⟨2, ![128, 512]⟩
abbrev S128x2x512 : Shape := ⟨3, ![128, 2, 512]⟩
abbrev S3x512 : Shape := ⟨2, ![3, 512]⟩
abbrev S512x1024 : Shape := ⟨2, ![512, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1x512 : Shape := ⟨2, ![1, 512]⟩
abbrev S512 : Shape := ⟨1, ![512]⟩
abbrev S128x1x512 : Shape := ⟨3, ![128, 1, 512]⟩
abbrev S128 : Shape := ⟨1, ![128]⟩
abbrev S128x1 : Shape := ⟨2, ![128, 1]⟩
abbrev S1x1024 : Shape := ⟨2, ![1, 1024]⟩
abbrev S128x5632 : Shape := ⟨2, ![128, 5632]⟩
abbrev S128x2816 : Shape := ⟨2, ![128, 2816]⟩

abbrev nBuf : Space → Nat
  | .hbm => 16
  | .vmem => 16
  | .smem => 0
  | _ => 0

abbrev bufTy : (tb : Table) → Fin (tcTables nBuf tb) → BufTy
  | .hbm, ⟨0, _⟩ => ⟨S128x1024, .f32⟩
  | .hbm, ⟨1, _⟩ => ⟨S128x512, .f32⟩
  | .hbm, ⟨2, _⟩ => ⟨S128x2x512, .f32⟩
  | .hbm, ⟨3, _⟩ => ⟨S128x512, .f32⟩
  | .hbm, ⟨4, _⟩ => ⟨S128x1024, .f32⟩
  | .hbm, ⟨5, _⟩ => ⟨S128x1024, .f32⟩
  | .hbm, ⟨6, _⟩ => ⟨S128x512, .bf16⟩
  | .hbm, ⟨7, _⟩ => ⟨S3x512, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S1024, .f32⟩
  | .hbm, ⟨12, _⟩ => ⟨S1024x5632, .f32⟩
  | .hbm, ⟨13, _⟩ => ⟨S2816x1024, .f32⟩
  | .hbm, ⟨14, _⟩ => ⟨S1024, .f32⟩
  | .hbm, ⟨15, _⟩ => ⟨S128x1024, .f32⟩
  | .local _ .vmem, ⟨0, _⟩ => ⟨S128x1024, .f32⟩
  | .local _ .vmem, ⟨1, _⟩ => ⟨S128x512, .f32⟩
  | .local _ .vmem, ⟨2, _⟩ => ⟨S128x2x512, .f32⟩
  | .local _ .vmem, ⟨3, _⟩ => ⟨S128x512, .f32⟩
  | .local _ .vmem, ⟨4, _⟩ => ⟨S128x1024, .f32⟩
  | .local _ .vmem, ⟨5, _⟩ => ⟨S128x1024, .f32⟩
  | .local _ .vmem, ⟨6, _⟩ => ⟨S128x512, .bf16⟩
  | .local _ .vmem, ⟨7, _⟩ => ⟨S3x512, .f32⟩
  | .local _ .vmem, ⟨8, _⟩ => ⟨S512x1024, .f32⟩
  | .local _ .vmem, ⟨9, _⟩ => ⟨S512x1024, .f32⟩
  | .local _ .vmem, ⟨10, _⟩ => ⟨S1024x1024, .f32⟩
  | .local _ .vmem, ⟨11, _⟩ => ⟨S1024, .f32⟩
  | .local _ .vmem, ⟨12, _⟩ => ⟨S1024x5632, .f32⟩
  | .local _ .vmem, ⟨13, _⟩ => ⟨S2816x1024, .f32⟩
  | .local _ .vmem, ⟨14, _⟩ => ⟨S1024, .f32⟩
  | .local _ .vmem, ⟨15, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S512x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1024x5632 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2816x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S128x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== ProjSample.lean ====
abbrev S128x1024 : Shape := ⟨2, ![128, 1024]⟩
abbrev S1024 : Shape := ⟨1, ![1024]⟩
abbrev S1024x5704 : Shape := ⟨2, ![1024, 5704]⟩
abbrev S1x1024 : Shape := ⟨2, ![1, 1024]⟩
abbrev S1024x3584 : Shape := ⟨2, ![1024, 3584]⟩
abbrev S1024x64 : Shape := ⟨2, ![1024, 64]⟩
abbrev S_ : Shape := ⟨0, ![]⟩
abbrev S1024x128 : Shape := ⟨2, ![1024, 128]⟩
abbrev S1024x8 : Shape := ⟨2, ![1024, 8]⟩
abbrev S1024x2048 : Shape := ⟨2, ![1024, 2048]⟩
abbrev S1024x5888 : Shape := ⟨2, ![1024, 5888]⟩
abbrev S128x512 : Shape := ⟨2, ![128, 512]⟩
abbrev S1x512x128 : Shape := ⟨3, ![1, 512, 128]⟩
abbrev S1x64x128 : Shape := ⟨3, ![1, 64, 128]⟩
abbrev S128x8 : Shape := ⟨2, ![128, 8]⟩
abbrev S128x64 : Shape := ⟨2, ![128, 64]⟩
abbrev S128 : Shape := ⟨1, ![128]⟩
abbrev S128x1 : Shape := ⟨2, ![128, 1]⟩
abbrev S1024x512 : Shape := ⟨2, ![1024, 512]⟩
abbrev S128x128 : Shape := ⟨2, ![128, 128]⟩
abbrev S1024x1024 : Shape := ⟨2, ![1024, 1024]⟩
abbrev S512x128 : Shape := ⟨2, ![512, 128]⟩
abbrev S64x128 : Shape := ⟨2, ![64, 128]⟩

abbrev nBuf : Space → Nat
  | .hbm => 29
  | .vmem => 16
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x5704, .f32⟩
  | .hbm, ⟨3, _⟩ => ⟨S1x1024, .f32⟩
  | .hbm, ⟨4, _⟩ => ⟨S1024x3584, .f32⟩
  | .hbm, ⟨5, _⟩ => ⟨S1024x64, .f32⟩
  | .hbm, ⟨6, _⟩ => ⟨S_, .i32⟩
  | .hbm, ⟨7, _⟩ => ⟨S_, .f32⟩
  | .hbm, ⟨8, _⟩ => ⟨S1024x128, .f32⟩
  | .hbm, ⟨9, _⟩ => ⟨S1024x8, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x2048, .f32⟩
  | .hbm, ⟨14, _⟩ => ⟨S1024x5888, .f32⟩
  | .hbm, ⟨15, _⟩ => ⟨S1024x5888, .bf16⟩
  | .hbm, ⟨16, _⟩ => ⟨S128x512, .f32⟩
  | .hbm, ⟨17, _⟩ => ⟨S128x512, .f32⟩
  | .hbm, ⟨18, _⟩ => ⟨S128x1024, .f32⟩
  | .hbm, ⟨19, _⟩ => ⟨S128x1024, .f32⟩
  | .hbm, ⟨20, _⟩ => ⟨S1x512x128, .f32⟩
  | .hbm, ⟨21, _⟩ => ⟨S1x512x128, .f32⟩
  | .hbm, ⟨22, _⟩ => ⟨S1x64x128, .f32⟩
  | .hbm, ⟨23, _⟩ => ⟨S128x512, .bf16⟩
  | .hbm, ⟨24, _⟩ => ⟨S128x512, .bf16⟩
  | .hbm, ⟨25, _⟩ => ⟨S128x8, .f32⟩
  | .hbm, ⟨26, _⟩ => ⟨S128x512, .f32⟩
  | .hbm, ⟨27, _⟩ => ⟨S128x512, .f32⟩
  | .hbm, ⟨28, _⟩ => ⟨S128x64, .f32⟩
  | .local _ .vmem, ⟨0, _⟩ => ⟨S128x1024, .f32⟩
  | .local _ .vmem, ⟨1, _⟩ => ⟨S1x1024, .f32⟩
  | .local _ .vmem, ⟨2, _⟩ => ⟨S1024x5888, .bf16⟩
  | .local _ .vmem, ⟨3, _⟩ => ⟨S128x512, .f32⟩
  | .local _ .vmem, ⟨4, _⟩ => ⟨S128x512, .f32⟩
  | .local _ .vmem, ⟨5, _⟩ => ⟨S128x1024, .f32⟩
  | .local _ .vmem, ⟨6, _⟩ => ⟨S128x1024, .f32⟩
  | .local _ .vmem, ⟨7, _⟩ => ⟨S1x512x128, .f32⟩
  | .local _ .vmem, ⟨8, _⟩ => ⟨S1x512x128, .f32⟩
  | .local _ .vmem, ⟨9, _⟩ => ⟨S1x64x128, .f32⟩
  | .local _ .vmem, ⟨10, _⟩ => ⟨S128x512, .bf16⟩
  | .local _ .vmem, ⟨11, _⟩ => ⟨S128x512, .bf16⟩
  | .local _ .vmem, ⟨12, _⟩ => ⟨S128x8, .f32⟩
  | .local _ .vmem, ⟨13, _⟩ => ⟨S128x512, .f32⟩
  | .local _ .vmem, ⟨14, _⟩ => ⟨S128x512, .f32⟩
  | .local _ .vmem, ⟨15, _⟩ => ⟨S128x64, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev main_v9_5 : Ref sig .tc := ⟨.hbm, 21, rfl⟩
abbrev main_v9_6 : Ref sig .tc := ⟨.hbm, 22, rfl⟩
abbrev main_v9_7 : Ref sig .tc := ⟨.hbm, 23, rfl⟩
abbrev main_v9_8 : Ref sig .tc := ⟨.hbm, 24, rfl⟩
abbrev main_v9_9 : Ref sig .tc := ⟨.hbm, 25, rfl⟩
abbrev main_v9_10 : Ref sig .tc := ⟨.hbm, 26, rfl⟩
abbrev main_v9_11 : Ref sig .tc := ⟨.hbm, 27, rfl⟩
abbrev main_v9_12 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_8 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_9 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5888 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x64x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]
-- ==== RefProjSampleIdeal.lean ====
abbrev S128x1024 : Shape := ⟨2, ![128, 1024]⟩
abbrev S1024 : Shape := ⟨1, ![1024]⟩
abbrev S1024x5704 : Shape := ⟨2, ![1024, 5704]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x5704 : Shape := ⟨2, ![128, 5704]⟩
abbrev S128x512 : Shape := ⟨2, ![128, 512]⟩
abbrev S128x64 : Shape := ⟨2, ![128, 64]⟩
abbrev S128x8 : Shape := ⟨2, ![128, 8]⟩
abbrev S512x128 : Shape := ⟨2, ![512, 128]⟩
abbrev S1x512x128 : Shape := ⟨3, ![1, 512, 128]⟩
abbrev S64x128 : Shape := ⟨2, ![64, 128]⟩
abbrev S1x64x128 : Shape := ⟨3, ![1, 64, 128]⟩

abbrev nBuf : Space → Nat
  | .hbm => 65
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x5704, .f32⟩
  | .hbm, ⟨3, _⟩ => ⟨S128x1024, .f32⟩
  | .hbm, ⟨4, _⟩ => ⟨S_, .f32⟩
  | .hbm, ⟨5, _⟩ => ⟨S128, .f32⟩
  | .hbm, ⟨6, _⟩ => ⟨S128x1, .f32⟩
  | .hbm, ⟨7, _⟩ => ⟨S_, .f32⟩
  | .hbm, ⟨8, _⟩ => ⟨S128x1, .f32⟩
  | .hbm, ⟨9, _⟩ => ⟨S128x1, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S128x1, .f32⟩
  | .hbm, ⟨14, _⟩ => ⟨S128x1024, .f32⟩
  | .hbm, ⟨15, _⟩ => ⟨S128x1024, .f32⟩
  | .hbm, ⟨16, _⟩ => ⟨S1x1024, .f32⟩
  | .hbm, ⟨17, _⟩ => ⟨S128x1024, .f32⟩
  | .hbm, ⟨18, _⟩ => ⟨S128x1024, .f32⟩
  | .hbm, ⟨19, _⟩ => ⟨S128x5704, .f32⟩
  | .hbm, ⟨20, _⟩ => ⟨S128x512, .f32⟩
  | .hbm, ⟨21, _⟩ => ⟨S128x512, .f32⟩
  | .hbm, ⟨22, _⟩ => ⟨S128x512, .f32⟩
  | .hbm, ⟨23, _⟩ => ⟨S128x512, .f32⟩
  | .hbm, ⟨24, _⟩ => ⟨S128x512, .f32⟩
  | .hbm, ⟨25, _⟩ => ⟨S128x512, .f32⟩
  | .hbm, ⟨26, _⟩ => ⟨S128x512, .f32⟩
  | .hbm, ⟨27, _⟩ => ⟨S128x64, .f32⟩
  | .hbm, ⟨28, _⟩ => ⟨S128x8, .f32⟩
  | .hbm, ⟨29, _⟩ => ⟨S128x1024, .f32⟩
  | .hbm, ⟨30, _⟩ => ⟨S128x1024, .f32⟩
  | .hbm, ⟨31, _⟩ => ⟨S128x512, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | .hbm, ⟨40, _⟩ => ⟨S128x1024, .f32⟩
  | .hbm, ⟨41, _⟩ => ⟨S128x1024, .f32⟩
  | .hbm, ⟨42, _⟩ => ⟨S_, .f32⟩
  | .hbm, ⟨43, _⟩ => ⟨S128x1024, .f32⟩
  | .hbm, ⟨44, _⟩ => ⟨S128x1024, .f32⟩
  | .hbm, ⟨45, _⟩ => ⟨S_, .f32⟩
  | .hbm, ⟨46, _⟩ => ⟨S128x1024, .f32⟩
  | .hbm, ⟨47, _⟩ => ⟨S128x1024, .f32⟩
  | .hbm, ⟨48, _⟩ => ⟨S512x128, .f32⟩
  | .hbm, ⟨49, _⟩ => ⟨S1x512x128, .f32⟩
  | .hbm, ⟨50, _⟩ => ⟨S512x128, .f32⟩
  | .hbm, ⟨51, _⟩ => ⟨S1x512x128, .f32⟩
  | .hbm, ⟨52, _⟩ => ⟨S64x128, .f32⟩
  | .hbm, ⟨53, _⟩ => ⟨S1x64x128, .f32⟩
  | .hbm, ⟨54, _⟩ => ⟨S_, .f32⟩
  | .hbm, ⟨55, _⟩ => ⟨S128x512, .f32⟩
  | .hbm, ⟨56, _⟩ => ⟨S128x512, .f32⟩
  | .hbm, ⟨57, _⟩ => ⟨S128x512, .bf16⟩
  | .hbm, ⟨58, _⟩ => ⟨S_, .f32⟩
  | .hbm, ⟨59, _⟩ => ⟨S128x512, .f32⟩
  | .hbm, ⟨60, _⟩ => ⟨S128x512, .f32⟩
  | .hbm, ⟨61, _⟩ => ⟨S128x512, .bf16⟩
  | .hbm, ⟨62, _⟩ => ⟨S_, .f32⟩
  | .hbm, ⟨63, _⟩ => ⟨S128x8, .f32⟩
  | .hbm, ⟨64, _⟩ => ⟨S128x8, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_4 : Ref sig .tc := ⟨.hbm, 42, rfl⟩
abbrev main_v34 : Ref sig .tc := ⟨.hbm, 43, rfl⟩
abbrev main_v35 : Ref sig .tc := ⟨.hbm, 44, rfl⟩
abbrev main_cst_5 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_7 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_8 : Ref sig .tc := ⟨.hbm, 62, rfl⟩
abbrev main_v50 : Ref sig .tc := ⟨.hbm, 63, rfl⟩
abbrev main_v51 : Ref sig .tc := ⟨.hbm, 64, rfl⟩

abbrev nD : Nat := 1
abbrev τ : Topo := Topo.v7x

variable {F : FTy → Type} [FloatOps F]
-- ==== Proof.SattnDefined.lean ====
module

public import proofs.«01_k».proof.Defs
public import proofs.«01_k».proof.Proof.Gen.Pre_pages_in_pool
public import proofs.«01_k».proof.Proof.Gen.Pre_attention_defined
public import Idealize.ShloMosaic.Lib.Pointwise
public import Idealize.ShloMosaic.PureOps.IdealRules

/-! # What the attention's preconditions say

Each component is an array of bits, all one; read at an index it is a statement about one argument's entry. -/

@[expose] public section

set_option maxRecDepth 16384

noncomputable section

open Idealize.ShloMosaic Idealize.ShloMosaic.TcCoe Idealize.SL.Sem

namespace Cert.SattnPre

theorem andi_one (a b : BitVec 1) : IntOp.andi a b = 1#1 ↔ a = 1#1 ∧ b = 1#1 := by revert a b; decide

theorem ori_one (a b : BitVec 1) : IntOp.ori a b = 1#1 ↔ a = 1#1 ∨ b = 1#1 := by revert a b; decide

theorem bit_one (p : Bool) : BitVec.ofBool p = 1#1 ↔ p = true := by cases p <;> decide

/-- A word between 0 and 2560 as a signed number is below 2560 as an unsigned one. -/
theorem word_range (x : BitVec 32) (h0 : IntOp.cmpi .sge x 0#32 = 1#1) (h1 : IntOp.cmpi .slt x 2560#32 = 1#1) : x.toNat < 2560 := by
  have a0 : (0#32 : BitVec 32).sle x = true := (bit_one _).mp h0
  have a1 : x.slt 2560#32 = true := (bit_one _).mp h1
  rw [BitVec.sle, decide_eq_true_eq] at a0
  rw [BitVec.slt, decide_eq_true_eq] at a1
  have e0 : (0#32 : BitVec 32).toInt = 0 := by decide
  have e1 : (2560#32 : BitVec 32).toInt = 2560 := by decide
  rw [e0] at a0
  rw [e1] at a1
  rw [BitVec.toInt_eq_toNat_cond] at a0 a1
  have hx := x.isLt
  split at a0 <;> omega

/-- A number whose absolute value is below the greatest extended real is a real number. -/
theorem real_of_abs (x : EReal) (h : BitVec.ofBool (decide (max x (-x) < (⊤ : EReal))) = 1#1) : ∃ r : ℝ, x = r := by
  have h' : max x (-x) < ⊤ := of_decide_eq_true ((bit_one _).mp h)
  induction x with
  | bot => simp at h'
  | top => simp at h'
  | coe r => exact ⟨r, rfl⟩

/-- Folding bits by or yields one only if one of them is. -/
theorem foldl_ori {ι : Type} (l : List ι) (f : ι → BitVec 1) (a : BitVec 1) (h : l.foldl (fun r n => IntOp.ori r (f n)) a = 1#1) :
    a = 1#1 ∨ ∃ n ∈ l, f n = 1#1 := by
  induction l generalizing a with
  | nil => exact Or.inl h
  | cons n l ih =>
    rcases ih _ h with h' | ⟨k, hk, hf⟩
    · rcases (ori_one _ _).mp h' with h' | h'
      · exact Or.inl h'
      · exact Or.inr ⟨n, List.mem_cons_self, h'⟩
    · exact Or.inr ⟨k, List.mem_cons_of_mem _ hk, hf⟩

theorem top_f32 : Ideal.ofBits FTy.f32 0x7F800000#32 = ⊤ := by
  simp [Ideal.ofBits, Ideal.ieee]

theorem top_bf16 : Ideal.ofBits FTy.bf16 0x7F80#16 = ⊤ := by
  simp [Ideal.ofBits, Ideal.ieee]

/-- The pages' precondition, at one entry, over any floats. -/
theorem pages_of {F : FTy → Type} [FloatOps F] (x0 : IVec ⟨2, ![128, 16]⟩ 32) (x1 : FVec F ⟨2, ![128, 512]⟩ .bf16) (x2 : IVec ⟨2, ![128, 2176]⟩ 32) (x3 : FVec F ⟨2, ![8, 2176]⟩ .f32) (x4 x5 : FVec F ⟨2, ![128, 512]⟩ .f32) (x6 x7 : FVec F ⟨5, ![4, 2560, 128, 8, 64]⟩ .f32)
    (h : Cert.Pre_pages_in_pool.fn (F := F) x0 x1 x2 x3 x4 x5 x6 x7 = fun _ => 1#1) (b : Fin 128) (p : Fin 16) : (x0 (ix2 b p)).toNat < 2560 := by
  have pre := congrFun h (ix2 b p)
  simp only [Cert.Pre_pages_in_pool.fn, constantI, broadcastInDim, cmpi, andi, andi_one] at pre
  exact word_range _ pre.1 pre.2

section
variable (x0 : IVec ⟨2, ![128, 16]⟩ 32) (x1 : FVec Ideal ⟨2, ![128, 512]⟩ .bf16) (x2 : IVec ⟨2, ![128, 2176]⟩ 32) (x3 : FVec Ideal ⟨2, ![8, 2176]⟩ .f32) (x4 x5 : FVec Ideal ⟨2, ![128, 512]⟩ .f32) (x6 x7 : FVec Ideal ⟨5, ![4, 2560, 128, 8, 64]⟩ .f32)

/-- Every table word names a page of the pool. -/
theorem defined_pages (h : (Cert.Pre_attention_defined.fn (F := Ideal) x0 x1 x2 x3 x4 x5 x6 x7).1 = fun _ => 1#1) (b : Fin 128) (p : Fin 16) : (x0 (ix2 b p)).toNat < 2560 := by
  have pre := congrFun h (ix2 b p)
  simp only [Cert.Pre_attention_defined.fn, Cert.Pre_attention_defined.fn_part1, constantI, broadcastInDim, cmpi, andi, andi_one] at pre
  exact word_range _ pre.1 pre.2

/-- Every sequence selects some key. -/
theorem defined_sel (h : (Cert.Pre_attention_defined.fn (F := Ideal) x0 x1 x2 x3 x4 x5 x6 x7).2.1 = fun _ => 1#1) (b : Fin 128) :
    ∃ j : Fin 2049, x2 (ix2 b ⟨j.val, by omega⟩) ≠ 0#32 := by
  have pre := congrFun h (ix1 b)
  simp only [Cert.Pre_attention_defined.fn, Cert.Pre_attention_defined.fn_part1] at pre
  rcases foldl_ori _ _ _ pre with h0 | ⟨n, hn, hx⟩
  · exact absurd h0 (by decide)
  · have hd := of_decide_eq_true (List.mem_filter.mp hn).2
    generalize (Cert.Pre_attention_defined.S128x2049 : Shape).rowMajor.symm n = i at hd hx
    have hb : (i 0).val = b.val := by
      have e := congrArg Fin.val (congrFun hd 0)
      rw [Shape.ReducesTo.drop_apply_val_of_eq _ i 0 0 (by decide) (by decide)] at e
      exact e
    refine ⟨i 1, fun hz => ?_⟩
    have e : extractStridedSlice Cert.Pre_attention_defined.S128x2049 ![0, 0] x2 Cert.Pre_attention_defined.Facts.slices_S128x2176_S128x2049_0_0 i = 0#32 := by
      refine Eq.trans (congrArg x2 (funext fun a => Fin.ext ?_)) hz
      match a with
      | ⟨0, _⟩ => show 0 + (i 0).val = b.val; omega
      | ⟨1, _⟩ => show 0 + (i 1).val = (i 1).val; omega
    have hx' : IntOp.cmpi .ne (extractStridedSlice Cert.Pre_attention_defined.S128x2049 ![0, 0] x2 Cert.Pre_attention_defined.Facts.slices_S128x2176_S128x2049_0_0 i) 0#32 = 1#1 := hx
    rw [e] at hx'
    exact absurd hx' (by decide)

/-- Every query entry is a real number. -/
theorem defined_q (h : (Cert.Pre_attention_defined.fn (F := Ideal) x0 x1 x2 x3 x4 x5 x6 x7).2.2.1 = fun _ => 1#1) (i : Shape.Idx ⟨2, ![128, 512]⟩) : ∃ r : ℝ, (x1 i : EReal) = r := by
  have pre := congrFun h i
  simp only [Cert.Pre_attention_defined.fn, Cert.Pre_attention_defined.fn_part1] at pre
  refine real_of_abs _ (Eq.trans ?_ pre)
  rw [← top_bf16]; rfl

/-- Every bias entry is a real number. -/
theorem defined_bias (h : (Cert.Pre_attention_defined.fn (F := Ideal) x0 x1 x2 x3 x4 x5 x6 x7).2.2.2.1 = fun _ => 1#1) (i : Shape.Idx ⟨2, ![8, 2176]⟩) : ∃ r : ℝ, (x3 i : EReal) = r := by
  have pre := congrFun h i
  simp only [Cert.Pre_attention_defined.fn, Cert.Pre_attention_defined.fn_part1] at pre
  refine real_of_abs _ (Eq.trans ?_ pre)
  rw [← top_f32]; rfl

/-- Every entry of the new keys is a real number. -/
theorem defined_kn (h : (Cert.Pre_attention_defined.fn (F := Ideal) x0 x1 x2 x3 x4 x5 x6 x7).2.2.2.2.1 = fun _ => 1#1) (i : Shape.Idx ⟨2, ![128, 512]⟩) : ∃ r : ℝ, (x4 i : EReal) = r := by
  have pre := congrFun h i
  simp only [Cert.Pre_attention_defined.fn, Cert.Pre_attention_defined.fn_part1] at pre
  refine real_of_abs _ (Eq.trans ?_ pre)
  rw [← top_f32]; rfl

/-- Every entry of the key pool is a real number. -/
theorem defined_ck (h : (Cert.Pre_attention_defined.fn (F := Ideal) x0 x1 x2 x3 x4 x5 x6 x7).2.2.2.2.2 = fun _ => 1#1) (i : Shape.Idx ⟨5, ![4, 2560, 128, 8, 64]⟩) : ∃ r : ℝ, (x6 i : EReal) = r := by
  have pre := congrFun h i
  simp only [Cert.Pre_attention_defined.fn, Cert.Pre_attention_defined.fn_part1] at pre
  refine real_of_abs _ (Eq.trans ?_ pre)
  rw [← top_f32]; rfl

end

end Cert.SattnPre

end
-- ==== Proof.SattnMath.lean ====
/-
  One sampling step's attention over the extended reals, as functions of an index: a query head's scores against the keys,
  their softmax in powers of two, and the weighted sum of the values — and the same sum taken page by page over a padded
  row of scores, divided once at the end.
-/
module

public import Idealize.ShloMosaic.Lib.Pointwise

@[expose] public section

noncomputable section

open Idealize.ShloMosaic

namespace Cert.AttnMath

/-- Lane `d` of head `h` in a row of eight heads of 64 lanes. -/
def lane (h : Fin 8) (d : Fin 64) : Fin 512 := ⟨64 * h.val + d.val, by omega⟩

/-- The head a lane belongs to. -/
def head (c : Fin 512) : Fin 8 := ⟨c.val / 64, by omega⟩

/-- The product of query and key over the lanes of head `h`. -/
def dotHead (q k : Fin 512 → EReal) (h : Fin 8) : EReal := ∑ d, q (lane h d) * k (lane h d)

/-- The score of head `h` against one key: the product and its bias where the key is selected, `-∞` elsewhere. -/
def score (q : Fin 512 → EReal) (k : Fin 2049 → Fin 512 → EReal) (bias : Fin 2049 → EReal) (sel : Fin 2049 → Bool) (h : Fin 8)
    (j : Fin 2049) : EReal :=
  if sel j = true then dotHead q (k j) h + bias j else ⊥

/-- The largest score of a row. -/
def peak {n : Nat} (s : Fin n → EReal) : EReal := Finset.univ.fold max ⊥ s

/-- The power of two of a score's distance to the largest. -/
def weight {n : Nat} (s : Fin n → EReal) (j : Fin n) : EReal := Ideal.exp2 (s j - peak s)

/-- The softmax of the scores applied to the values. -/
def attend (s v : Fin 2049 → EReal) : EReal := ∑ j, Ideal.div (weight s j) (∑ i, weight s i) * v j

/-- A sum over eight heads of 64 lanes, lane by lane. -/
theorem sum_lanes (f : Fin 512 → EReal) : ∑ c, f c = ∑ h : Fin 8, ∑ d : Fin 64, f (lane h d) := by
  rw [← Fintype.sum_prod_type' (f := fun (h : Fin 8) (d : Fin 64) => f (lane h d))]
  refine (Fintype.sum_equiv (finProdFinEquiv (m := 8) (n := 64)) _ _ fun p => ?_).symm
  exact congrArg f (Fin.ext (Nat.add_comm _ _))

/-- Summing over all lanes with the other heads' lanes at zero is summing over the head's own lanes. -/
theorem sum_own (f : Fin 512 → EReal) (h : Fin 8) : (∑ c, if head c = h then f c else 0) = ∑ d, f (lane h d) := by
  rw [sum_lanes]
  have e : ∀ (a : Fin 8) (d : Fin 64), head (lane a d) = a := fun a d => Fin.ext (by simp only [head, lane]; omega)
  simp only [e]
  rw [Finset.sum_eq_single h]
  · simp
  · intro a _ ha
    simp [ha]
  · simp

theorem dot_masked (q k : Fin 512 → EReal) (h : Fin 8) : (∑ c, (if head c = h then q c else 0) * k c) = dotHead q k h := by
  rw [dotHead, ← sum_own (fun c => q c * k c) h]
  refine Finset.sum_congr rfl fun c _ => ?_
  split
  · rfl
  · exact zero_mul _

theorem le_peak {n : Nat} (s : Fin n → EReal) (j : Fin n) : s j ≤ peak s := Finset.le_sup (f := s) (Finset.mem_univ j)

theorem peak_le {n : Nat} (s : Fin n → EReal) (M : EReal) (h : ∀ j, s j ≤ M) : peak s ≤ M := Finset.sup_le (f := s) fun j _ => h j

theorem peak_lt_top {n : Nat} (s : Fin n → EReal) (h : ∀ j, s j ≠ ⊤) : peak s < ⊤ :=
  (Finset.sup_lt_iff (f := s) (bot_lt_top)).2 fun j _ => lt_top_iff_ne_top.2 (h j)

/-- A row of 2176 scores: the given 2049, then `-∞`. -/
def padded (s : Fin 2049 → EReal) (j : Fin 2176) : EReal := if h : j.val < 2049 then s ⟨j.val, h⟩ else ⊥

theorem peak_padded (s : Fin 2049 → EReal) : peak (padded s) = peak s := by
  refine le_antisymm (peak_le _ _ fun j => ?_) (peak_le _ _ fun j => ?_)
  · unfold padded; split
    · exact le_peak s _
    · exact bot_le
  · have h := le_peak (padded s) ⟨j.val, by omega⟩
    simpa [padded, j.isLt] using h

theorem weight_padded (s : Fin 2049 → EReal) (j : Fin 2176) (h : j.val < 2049) : weight (padded s) j = weight s ⟨j.val, h⟩ := by
  unfold weight; rw [peak_padded]; simp only [padded, dif_pos h]

theorem weight_padded_zero (s : Fin 2049 → EReal) (j : Fin 2176) (h : ¬ j.val < 2049) : weight (padded s) j = 0 := by
  unfold weight; simp only [padded, dif_neg h, sub_eq_add_neg, EReal.bot_add]; rfl

theorem sum_weight_padded (s : Fin 2049 → EReal) : ∑ j, weight (padded s) j = ∑ j, weight s j := by
  have e : ∑ j, weight (padded s) j = ∑ j : Fin (2049 + 127), weight (padded s) j := rfl
  rw [e, Fin.sum_univ_add]
  rw [Finset.sum_congr rfl fun (j : Fin 2049) _ => weight_padded s (Fin.castAdd 127 j) j.isLt,
    Finset.sum_congr rfl fun (j : Fin 127) _ => weight_padded_zero s (Fin.natAdd 2049 j) (by simp), Finset.sum_const_zero, add_zero]
  rfl

/-- A sum over 2048 keys is the sum over sixteen pages of 128. -/
theorem sum_pages (f : Fin 2048 → EReal) : ∑ j, f j = ∑ p : Fin 16, ∑ t : Fin 128, f ⟨128 * p.val + t.val, by omega⟩ := by
  rw [← Fintype.sum_prod_type' (f := fun (p : Fin 16) (t : Fin 128) => f ⟨128 * p.val + t.val, by omega⟩)]
  refine (Fintype.sum_equiv (finProdFinEquiv (m := 16) (n := 128)) _ _ fun p => ?_).symm
  exact congrArg f (Fin.ext (Nat.add_comm _ _))

/-- The new key's term first, then page after page: the sum over all 2049 keys. -/
theorem sum_new_pages (f : Fin 2049 → EReal) (g : Fin 16 → EReal)
    (hg : ∀ p : Fin 16, g p = ∑ t : Fin 128, f ⟨128 * p.val + t.val, by omega⟩) :
    f ⟨2048, by omega⟩ + g 0 + g 1 + g 2 + g 3 + g 4 + g 5 + g 6 + g 7 + g 8 + g 9 + g 10 + g 11 + g 12 + g 13 + g 14 + g 15
      = ∑ j, f j := by
  have e16 : ∑ p, g p = g 0 + g 1 + g 2 + g 3 + g 4 + g 5 + g 6 + g 7 + g 8 + g 9 + g 10 + g 11 + g 12 + g 13 + g 14 + g 15 := by
    simp only [Fin.sum_univ_castSucc, Fin.sum_univ_zero, zero_add]; rfl
  rw [Fin.sum_univ_castSucc, sum_pages (fun j : Fin 2048 => f j.castSucc), add_comm (∑ _, _)]
  have e : (∑ p : Fin 16, ∑ t : Fin 128, f (Fin.castSucc ⟨128 * p.val + t.val, by omega⟩)) = ∑ p, g p :=
    Finset.sum_congr rfl fun p _ => (hg p).symm
  rw [e, e16]
  simp only [← add_assoc]
  rfl

/-- A finite sum of reals is a real. -/
theorem coe_sum {n : Nat} (f : Fin n → ℝ) : ∑ j, (f j : EReal) = ((∑ j, f j : ℝ) : EReal) := by
  induction n with
  | zero => simp
  | succ n ih => rw [Fin.sum_univ_castSucc, Fin.sum_univ_castSucc, ih, EReal.coe_add]

/-- Multiplying a finite sum by a nonnegative real. -/
theorem sum_mul_coe {n : Nat} (f : Fin n → EReal) (r : ℝ) (hr : 0 ≤ r) : (∑ j, f j) * (r : EReal) = ∑ j, f j * (r : EReal) := by
  induction n with
  | zero => simp
  | succ n ih =>
    rw [Fin.sum_univ_castSucc, Fin.sum_univ_castSucc, ← ih,
      EReal.right_distrib_of_nonneg_of_ne_top (EReal.coe_nonneg.2 hr) (EReal.coe_ne_top r)]

/-- Where no score is `+∞` and some score is not `-∞`, the weights sum to a positive real. -/
theorem sum_weight_pos (s : Fin 2049 → EReal) (ht : ∀ j, s j ≠ ⊤) (i : Fin 2049) (hi : s i ≠ ⊥) :
    ∃ L : ℝ, 0 < L ∧ ∑ j, weight s j = (L : EReal) := by
  have hM : peak s ≠ ⊤ := (peak_lt_top s ht).ne
  have hM' : peak s ≠ ⊥ := fun e => hi (le_bot_iff.1 (e ▸ le_peak s i))
  lift peak s to ℝ using ⟨hM, hM'⟩ with M hMe
  have hw : ∀ j, ∃ W : ℝ, 0 ≤ W ∧ weight s j = (W : EReal) ∧ (s j ≠ ⊥ → 0 < W) := by
    intro j
    unfold weight
    rw [← hMe]
    by_cases hb : s j = ⊥
    · exact ⟨0, le_refl _, by rw [hb, sub_eq_add_neg, EReal.bot_add]; rfl, fun h => absurd hb h⟩
    · lift s j to ℝ using ⟨ht j, hb⟩ with x hx
      refine ⟨Real.rpow 2 (x - M), (Real.rpow_pos_of_pos (by norm_num) _).le, ?_, fun _ => Real.rpow_pos_of_pos (by norm_num) _⟩
      rw [← EReal.coe_sub]; rfl
  choose W h0 hW hp using hw
  refine ⟨∑ j, W j, Finset.sum_pos' (fun j _ => h0 j) ⟨i, Finset.mem_univ i, hp i hi⟩, ?_⟩
  rw [← coe_sum]
  exact Finset.sum_congr rfl fun j _ => hW j

/-- Dividing the weighted sum once is dividing every weight. -/
theorem attend_eq (s v : Fin 2049 → EReal) (ht : ∀ j, s j ≠ ⊤) (i : Fin 2049) (hi : s i ≠ ⊥) :
    Ideal.div (∑ j, weight s j * v j) (∑ j, weight s j) = attend s v := by
  obtain ⟨L, hL, e⟩ := sum_weight_pos s ht i hi
  have hz : (L : EReal) ≠ 0 := fun h => hL.ne' (EReal.coe_eq_zero.1 h)
  unfold attend
  rw [e]
  simp only [Ideal.div, if_neg hz]
  rw [← EReal.coe_inv, sum_mul_coe _ _ (inv_nonneg.2 hL.le)]
  exact Finset.sum_congr rfl fun j _ => by rw [mul_right_comm]

/-- A product of reals summed over a head's lanes is a real. -/
theorem dotHead_real (q k : Fin 512 → EReal) (hq : ∀ c, ∃ r : ℝ, q c = r) (hk : ∀ c, ∃ r : ℝ, k c = r) (h : Fin 8) :
    ∃ r : ℝ, dotHead q k h = r := by
  choose Q hQ using hq
  choose K hK using hk
  refine ⟨∑ d, Q (lane h d) * K (lane h d), ?_⟩
  rw [← coe_sum]
  exact Finset.sum_congr rfl fun d _ => by rw [hQ, hK, EReal.coe_mul]

/-- With real queries, keys and biases no score is `+∞`, and a selected key's is not `-∞`. -/
theorem score_real (q : Fin 512 → EReal) (k : Fin 2049 → Fin 512 → EReal) (bias : Fin 2049 → EReal) (sel : Fin 2049 → Bool) (h : Fin 8)
    (hq : ∀ c, ∃ r : ℝ, q c = r) (hk : ∀ j c, ∃ r : ℝ, k j c = r) (hb : ∀ j, ∃ r : ℝ, bias j = r) (j : Fin 2049) :
    score q k bias sel h j ≠ ⊤ ∧ (sel j = true → score q k bias sel h j ≠ ⊥) := by
  obtain ⟨r, hr⟩ := dotHead_real q (k j) hq (hk j) h
  obtain ⟨b, hb⟩ := hb j
  unfold score
  rw [hr, hb, ← EReal.coe_add]
  constructor
  · split
    · exact EReal.coe_ne_top _
    · exact bot_ne_top
  · intro e
    rw [if_pos e]
    exact EReal.coe_ne_bot _

/-- The power two of the host and of the kernel. -/
theorem pow_two (x : EReal) : Ideal.pow ((2 : ℝ) : EReal) x = Ideal.exp2 x := by
  induction x using EReal.rec with
  | bot =>
    show (if (2 : ℝ) < 0 then (⊥ : EReal) else if (1 : ℝ) < 2 then 0 else if (2 : ℝ) = 1 then 1 else ⊤) = 0
    norm_num
  | top =>
    show (if (2 : ℝ) < 0 then (⊥ : EReal) else if (1 : ℝ) < 2 then ⊤ else if (2 : ℝ) = 1 then 1 else 0) = ⊤
    norm_num
  | coe r => rfl

/-- Row `j` of a sequence's 2049 keys or values, lane by lane: a position of one of its sixteen pages in the pool, or the new token's row. -/
def rowOf (C : Fin 2560 → Fin 128 → Fin 8 → Fin 64 → EReal) (P : Fin 16 → Fin 2560) (x : Fin 512 → EReal) (j : Fin 2049) (c : Fin 512) : EReal :=
  if h : j.val < 2048 then C (P ⟨j.val / 128, by omega⟩) ⟨j.val % 128, by omega⟩ (head c) ⟨c.val % 64, by omega⟩ else x c

/-- Attention of one sequence's new token over its pages and itself, lane by lane. -/
def sampleAttn (q kn vn : Fin 512 → EReal) (ck cv : Fin 2560 → Fin 128 → Fin 8 → Fin 64 → EReal) (bias : Fin 8 → Fin 2049 → EReal)
    (sel : Fin 2049 → Bool) (P : Fin 16 → Fin 2560) (c : Fin 512) : EReal :=
  attend (score q (rowOf ck P kn) (bias (head c)) sel (head c)) (fun j => rowOf cv P vn j c)

theorem head_lane (h : Fin 8) (d : Fin 64) : head (lane h d) = h := Fin.ext (by show (64 * h.val + d.val) / 64 = h.val; omega)

theorem lane_head (c : Fin 512) : lane (head c) ⟨c.val % 64, by omega⟩ = c := Fin.ext (by show 64 * (c.val / 64) + c.val % 64 = c.val; omega)

end Cert.AttnMath

end
-- ==== Proof.SattnBlocks.lean ====
module

public import proofs.«01_k».proof.Proof.Gen.SattnIdeal.Frame.Runs
public import Idealize.ShloMosaic.Lib.Pointwise
public import Idealize.ShloMosaic.Lib.Tactic
public import Idealize.ShloMosaic.Lib.VecWindow
public import Idealize.ShloMosaic.Lib.Pipeline.ReadBack
public import Idealize.ShloMosaic.Lib.Pipeline.Value
public import proofs.«01_k».proof.Proof.SattnMath

/-! # The sample attention's blocks, read off the arguments

At grid point `t` the query, mask and new rows are sequence `t`'s, and the page windows hold the pages its sixteen table words name. -/

@[expose] public section

set_option maxRecDepth 16384

noncomputable section

open Idealize.ShloMosaic Idealize.ShloMosaic.TcCoe Idealize.SL.Sem
open Idealize.ShloMosaic.Pipeline (Dat)

namespace Cert.SattnIdeal.Hand

open Cert.SattnIdeal Cert.SattnIdeal.Gen Cert.AttnMath

variable (m : (ℓ : Loc nD τ sig) → Buf (Elt Ideal) ℓ)

/-! ## The arrays when the region is entered -/

theorem V_table (c : Dev nD) : (V m c main_v0 : S2048.Idx → BitVec 32) = shapeCast S2048 (m ((c : Thread nD τ).loc main_arg0)) shapeCasts_S128x16_S2048 := by
  show StableHlo.after (List.flatten [hostOps0, hostOps0_1, hostOps0_2]) _ _ = _
  simp only [hostOps0, hostOps0_1, hostOps0_2, List.flatten_cons, List.flatten_nil, List.append_nil, List.cons_append, List.nil_append]
  after_results_simp; rfl

theorem V_keys (c : Dev nD) : (V m c main_v2 : Vec Ideal S4x2560x512x128 .f32) = shapeCast S4x2560x512x128 (transpose S4x2560x8x64x128 [0, 1, 3, 4, 2] (m ((c : Thread nD τ).loc main_arg6)) transposes_S4x2560x128x8x64_S4x2560x8x64x128_0_1_3_4_2) shapeCasts_S4x2560x8x64x128_S4x2560x512x128 := by
  show StableHlo.after (List.flatten [hostOps0, hostOps0_1, hostOps0_2]) _ _ = _
  simp only [hostOps0, hostOps0_1, hostOps0_2, List.flatten_cons, List.flatten_nil, List.append_nil, List.cons_append, List.nil_append]
  after_results_simp; rfl

theorem V_values (c : Dev nD) : (V m c main_v4 : Vec Ideal S4x2560x512x128 .f32) = shapeCast S4x2560x512x128 (transpose S4x2560x8x64x128 [0, 1, 3, 4, 2] (m ((c : Thread nD τ).loc main_arg7)) transposes_S4x2560x128x8x64_S4x2560x8x64x128_0_1_3_4_2) shapeCasts_S4x2560x8x64x128_S4x2560x512x128 := by
  show StableHlo.after (List.flatten [hostOps0, hostOps0_1, hostOps0_2]) _ _ = _
  simp only [hostOps0, hostOps0_1, hostOps0_2, List.flatten_cons, List.flatten_nil, List.append_nil, List.cons_append, List.nil_append]
  after_results_simp; rfl

theorem V_q (c : Dev nD) : (V m c main_v12 : Vec Ideal S128x1x512 .bf16) = shapeCast S128x1x512 (m ((c : Thread nD τ).loc main_arg1)) shapeCasts_S128x512_S128x1x512 := by
  show StableHlo.after (List.flatten [hostOps0, hostOps0_1, hostOps0_2]) _ _ = _
  simp only [hostOps0, hostOps0_1, hostOps0_2, List.flatten_cons, List.flatten_nil, List.append_nil, List.cons_append, List.nil_append]
  after_results_simp; rfl

theorem V_kn (c : Dev nD) : (V m c main_v14 : Vec Ideal S128x1x512 .f32) = shapeCast S128x1x512 (m ((c : Thread nD τ).loc main_arg4)) shapeCasts_S128x512_S128x1x512 := by
  show StableHlo.after (List.flatten [hostOps0, hostOps0_1, hostOps0_2]) _ _ = _
  simp only [hostOps0, hostOps0_1, hostOps0_2, List.flatten_cons, List.flatten_nil, List.append_nil, List.cons_append, List.nil_append]
  after_results_simp; rfl

theorem V_vn (c : Dev nD) : (V m c main_v15 : Vec Ideal S128x1x512 .f32) = shapeCast S128x1x512 (m ((c : Thread nD τ).loc main_arg5)) shapeCasts_S128x512_S128x1x512 := by
  show StableHlo.after (List.flatten [hostOps0, hostOps0_1, hostOps0_2]) _ _ = _
  simp only [hostOps0, hostOps0_1, hostOps0_2, List.flatten_cons, List.flatten_nil, List.append_nil, List.cons_append, List.nil_append]
  after_results_simp; rfl

/-- The mask of a selection: zero at a selected position up to the new token's, minus infinity elsewhere. -/
def maskOf (x2 : S128x2176.Idx → BitVec 32) : Vec Ideal S128x2176 .f32 :=
  select (andi (cmpi .sle (iotaInDim S128x2176 32 1) (broadcastInDim S128x2176 ![] bcast_S_S128x2176 (constantI S_ 32 2048#32)))
      (cmpi .ne x2 (broadcastInDim S128x2176 ![] bcast_S_S128x2176 (constantI S_ 32 0#32))))
    (broadcastInDim S128x2176 ![] bcast_S_S128x2176 (constant (F := Ideal) S_ .f32 0x00000000#32))
    (broadcastInDim S128x2176 ![] bcast_S_S128x2176 (constant (F := Ideal) S_ .f32 0xFF800000#32))

theorem V_mask (c : Dev nD) : (V m c main_v13 : Vec Ideal S128x1x2176 .f32) = shapeCast S128x1x2176 (maskOf (m ((c : Thread nD τ).loc main_arg2))) shapeCasts_S128x2176_S128x1x2176 := by
  show StableHlo.after (List.flatten [hostOps0, hostOps0_1, hostOps0_2]) _ _ = _
  simp only [hostOps0, hostOps0_1, hostOps0_2, List.flatten_cons, List.flatten_nil, List.append_nil, List.cons_append, List.nil_append]
  after_results_simp; rfl

theorem table_apply (x : S128x16.Idx → BitVec 32) (b : Fin 128) (p : Fin 16) :
    shapeCast S2048 x shapeCasts_S128x16_S2048 (ix1 ⟨16 * b.val + p.val, by omega⟩) = x (ix2 b p) := by
  pointwise

theorem pages_apply (x : Vec Ideal S4x2560x128x8x64 .f32) (n : Fin 2560) (l : Fin 512) (t : Fin 128) :
    shapeCast S4x2560x512x128 (transpose S4x2560x8x64x128 [0, 1, 3, 4, 2] x transposes_S4x2560x128x8x64_S4x2560x8x64x128_0_1_3_4_2) shapeCasts_S4x2560x8x64x128_S4x2560x512x128
        (ix4 0 n l t) = x (ix5 0 n t (head l) ⟨l.val % 64, by omega⟩) := by
  pointwise [head]

theorem row_apply {φ : FTy} (x : FVec Ideal S128x512 φ) (b : Fin 128) (k : Fin 512) :
    shapeCast S128x1x512 x shapeCasts_S128x512_S128x1x512 (ix3 b 0 k) = x (ix2 b k) := by
  pointwise

theorem maskRow_apply (x : FVec Ideal S128x2176 .f32) (b : Fin 128) (k : Fin 2176) :
    shapeCast S128x1x2176 x shapeCasts_S128x2176_S128x1x2176 (ix3 b 0 k) = x (ix2 b k) := by
  pointwise

/-- The mask's comparison of a position with the new token's. -/
theorem upto : ∀ j : Fin 2176, IntOp.cmpi .sle (BitVec.ofNat 32 j.val) 2048#32 = if j.val < 2049 then 1#1 else 0#1 := by decide +kernel

theorem negInf_bits : Ideal.ofBits FTy.f32 0xFF800000#32 = ⊥ := by
  simp [Ideal.ofBits, Ideal.ieee]

theorem mask_sel (x2 : S128x2176.Idx → BitVec 32) (b : Fin 128) (j : Fin 2049) :
    maskOf x2 (ix2 b ⟨j.val, by omega⟩) = if decide (x2 (ix2 b ⟨j.val, by omega⟩) ≠ 0#32) = true then (0 : EReal) else ⊥ := by
  have e : maskOf x2 (ix2 b ⟨j.val, by omega⟩) = Scalar.select (IntOp.andi (IntOp.cmpi .sle (BitVec.ofNat 32 j.val) 2048#32)
      (IntOp.cmpi .ne (x2 (ix2 b ⟨j.val, by omega⟩)) 0#32)) (Ideal.ofBits FTy.f32 0x00000000#32) (Ideal.ofBits FTy.f32 0xFF800000#32) := by
    pointwise [maskOf]
  rw [e, upto ⟨j.val, by omega⟩, if_pos (show j.val < 2049 from j.isLt), negInf_bits, show Ideal.ofBits FTy.f32 0x00000000#32 = (0 : EReal) from Ideal.ofBits_zero_f32]
  by_cases hx : x2 (ix2 b ⟨j.val, by omega⟩) = 0#32
  · simp [IntOp.cmpi, IntOp.andi, hx, Scalar.select]
  · have hb : (x2 (ix2 b ⟨j.val, by omega⟩) != 0#32) = true := bne_iff_ne.mpr hx
    simp [IntOp.cmpi, IntOp.andi, hx, hb, Scalar.select]

theorem mask_pad (x2 : S128x2176.Idx → BitVec 32) (b : Fin 128) (j : Fin 2176) (hj : 2049 ≤ j.val) :
    maskOf x2 (ix2 b j) = (⊥ : EReal) := by
  have e : maskOf x2 (ix2 b j) = Scalar.select (IntOp.andi (IntOp.cmpi .sle (BitVec.ofNat 32 j.val) 2048#32)
      (IntOp.cmpi .ne (x2 (ix2 b j)) 0#32)) (Ideal.ofBits FTy.f32 0x00000000#32) (Ideal.ofBits FTy.f32 0xFF800000#32) := by
    pointwise [maskOf]
  rw [e, upto j, if_neg (show ¬j.val < 2049 by omega), negInf_bits]
  generalize IntOp.cmpi .ne (x2 (ix2 b j)) 0#32 = y
  simp [IntOp.andi, Scalar.select]

/-! ## Which block each window holds -/

/-- The grid has one coordinate, the point itself. -/
theorem coords_val : ∀ t : Fin grid0.N, (grid0.coords t 0).val = t.val := by decide +kernel

/-- A table word, read through the one-element rectangle the index map names it by. -/
theorem at_word (pf : pre0.Contents (Elt Ideal)) (n : Nat) (h : ∀ a, (![n] : Fin 1 → Nat) a + S1.size a ≤ S2048.size a) (k : Fin 2048) (hk : n = k.val) :
    pf.at 0 (Rect.unit (s := S2048) ![n] S1.size h) numel1_S1 = (pf 0 : S2048.Idx → BitVec 32) (ix1 k) := by
  refine congrArg (pf 0 : S2048.Idx → BitVec 32) (funext fun e => Fin.ext ?_)
  match e with
  | ⟨0, _⟩ => show n + 1 * 0 = k.val; omega

/-- Word `16 b + p` of the flattened table. -/
theorem word_pos (b : Nat) (hb : b < 128) (p : Nat) (hp : p < 16) :
    (Scalar.indexCast (Scalar.addi (Scalar.muli (Scalar.addi (Scalar.muli (BitVec.ofNat 32 b) 1#32) 0#32) 16#32) (BitVec.ofNat 32 p)) : Index).toNat = 16 * b + p := by
  simp [Scalar.indexCast, Scalar.addi, IntOp.addi, BitVec.toNat_add, Scalar.muli, IntOp.muli, BitVec.toNat_mul, BitVec.toNat_ofNat]
  omega

/-- Entry `p` of sequence `b` in the flattened table. -/
def wordAt (b : Fin 128) (p : Fin 16) : Fin 2048 := ⟨16 * b.val + p.val, by omega⟩

/-- The block index of a page window: page axis at the table's word `16 i + p`, every other axis at its start. -/
theorem tr_of (pf : pre0.Contents (Elt Ideal)) (i : grid0.Coords) (p : Fin 16) :
    (![0, (pf.at 0 (Rect.unit (s := S2048) ![(Scalar.indexCast (Scalar.addi (Scalar.muli (Scalar.addi (Scalar.muli (BitVec.ofNat 32 (i 0).val) 1#32) 0#32) 16#32) (BitVec.ofNat 32 p.val)) : Index).toNat]
        S1.size (k0_off1_inb i p)) numel1_S1).toNat, 0, 0] : Fin 4 → Nat) = ![0, ((pf 0 : S2048.Idx → BitVec 32) (ix1 (wordAt (i 0) p))).toNat, 0, 0] :=
  congrArg (fun w : BitVec 32 => (![0, w.toNat, 0, 0] : Fin 4 → Nat)) (at_word pf _ _ _ (word_pos (i 0).val (i 0).isLt p.val p.isLt))

end Cert.SattnIdeal.Hand

end
-- ==== Proof.SattnTable.lean ====
module

public import proofs.«01_k».proof.Proof.SattnBlocks
public import proofs.«01_k».proof.Proof.Gen.Sattn.Frame.Runs

/-! # A page table of pool pages keeps every page window inside the pool

Stated for both programs, whose index maps read the same flattened table. -/

@[expose] public section

set_option maxRecDepth 16384

noncomputable section

open Idealize.ShloMosaic Idealize.ShloMosaic.TcCoe Idealize.SL.Sem

namespace Cert.SattnIdeal.Hand

open Cert.SattnIdeal Cert.SattnIdeal.Gen

/-- The block of a page below 2560 lies inside the pool. -/
theorem page_in {f : Fin 4 → Nat} {x : BitVec 32} (e : f = ![0, x.toNat, 0, 0]) (hx : x.toNat < 2560) (a : Fin 4) :
    (f a + 1) * S1x1x512x128.size a ≤ S4x2560x512x128.size a := by
  subst e
  match a with
  | ⟨0, _⟩ => show (0 + 1) * 1 ≤ 4; omega
  | ⟨1, _⟩ => show (x.toNat + 1) * 1 ≤ 2560; omega
  | ⟨2, _⟩ => show (0 + 1) * 512 ≤ 512; omega
  | ⟨3, _⟩ => show (0 + 1) * 128 ≤ 128; omega

/-- A word of the flattened table is an entry of the table. -/
theorem flat_lt (x : S128x16.Idx → BitVec 32) (hx : ∀ b p, (x (ix2 b p)).toNat < 2560) (n : Fin 2048) :
    (shapeCast S2048 x shapeCasts_S128x16_S2048 (ix1 n)).toNat < 2560 := by
  have hn : n = ⟨16 * (n.val / 16) + n.val % 16, by omega⟩ := Fin.ext (by show n.val = 16 * (n.val / 16) + n.val % 16; omega)
  have h := table_apply x ⟨n.val / 16, by omega⟩ ⟨n.val % 16, by omega⟩
  rw [hn]
  exact lt_of_eq_of_lt (congrArg BitVec.toNat h) (hx _ _)

variable (m : (ℓ : Loc nD τ sig) → Buf (Elt Ideal) ℓ)

theorem word_lt (hP : ∀ (c : Dev nD) b p, ((m ((c : Thread nD τ).loc main_arg0) : S128x16.Idx → BitVec 32) (ix2 b p)).toNat < 2560) (n : Fin 2048) : ((tbl m 0 : S2048.Idx → BitVec 32) (ix1 n)).toNat < 2560 := by
  show ((V m 0 main_v0 : S2048.Idx → BitVec 32) (ix1 n)).toNat < 2560
  rw [V_table]
  exact flat_lt _ (hP 0) n

/-- The windows stay inside the pool. -/
theorem ok_of (hP : ∀ (c : Dev nD) b p, ((m ((c : Thread nD τ).loc main_arg0) : S128x16.Idx → BitVec 32) (ix2 b p)).toNat < 2560) : Ok m := by
  unfold Ok ok0
  have h (i : grid0.Coords) (p : Fin 16) := page_in (tr_of (tbl m) i p) (word_lt m hP _)
  exact ⟨fun i => ⟨h i 0, Or.inl rfl⟩, fun i => ⟨h i 1, Or.inl rfl⟩, fun i => ⟨h i 2, Or.inl rfl⟩, fun i => ⟨h i 3, Or.inl rfl⟩, fun i => ⟨h i 4, Or.inl rfl⟩, fun i => ⟨h i 5, Or.inl rfl⟩, fun i => ⟨h i 6, Or.inl rfl⟩, fun i => ⟨h i 7, Or.inl rfl⟩, fun i => ⟨h i 8, Or.inl rfl⟩, fun i => ⟨h i 9, Or.inl rfl⟩, fun i => ⟨h i 10, Or.inl rfl⟩, fun i => ⟨h i 11, Or.inl rfl⟩, fun i => ⟨h i 12, Or.inl rfl⟩, fun i => ⟨h i 13, Or.inl rfl⟩, fun i => ⟨h i 14, Or.inl rfl⟩, fun i => ⟨h i 15, Or.inl rfl⟩, fun i => ⟨h i 0, Or.inl rfl⟩, fun i => ⟨h i 1, Or.inl rfl⟩, fun i => ⟨h i 2, Or.inl rfl⟩, fun i => ⟨h i 3, Or.inl rfl⟩, fun i => ⟨h i 4, Or.inl rfl⟩, fun i => ⟨h i 5, Or.inl rfl⟩, fun i => ⟨h i 6, Or.inl rfl⟩, fun i => ⟨h i 7, Or.inl rfl⟩, fun i => ⟨h i 8, Or.inl rfl⟩, fun i => ⟨h i 9, Or.inl rfl⟩, fun i => ⟨h i 10, Or.inl rfl⟩, fun i => ⟨h i 11, Or.inl rfl⟩, fun i => ⟨h i 12, Or.inl rfl⟩, fun i => ⟨h i 13, Or.inl rfl⟩, fun i => ⟨h i 14, Or.inl rfl⟩, fun i => ⟨h i 15, Or.inl rfl⟩⟩

end Cert.SattnIdeal.Hand

namespace Cert.Sattn.Hand

open Cert.Sattn Cert.Sattn.Gen
open Cert.SattnIdeal.Hand (page_in flat_lt wordAt word_pos)

variable (m : (ℓ : Loc nD τ sig) → Buf (Elt Bits) ℓ)

theorem V_table (c : Dev nD) : (V m c main_v0 : S2048.Idx → BitVec 32) = shapeCast S2048 (m ((c : Thread nD τ).loc main_arg0)) shapeCasts_S128x16_S2048 := by
  show StableHlo.after (List.flatten [hostOps0, hostOps0_1, hostOps0_2]) _ _ = _
  simp only [hostOps0, hostOps0_1, hostOps0_2, List.flatten_cons, List.flatten_nil, List.append_nil, List.cons_append, List.nil_append]
  after_results_simp; rfl

/-- A table word, read through the one-element rectangle the index map names it by. -/
theorem at_word (pf : pre0.Contents (Elt Bits)) (n : Nat) (h : ∀ a, (![n] : Fin 1 → Nat) a + S1.size a ≤ S2048.size a) (k : Fin 2048) (hk : n = k.val) :
    pf.at 0 (Rect.unit (s := S2048) ![n] S1.size h) numel1_S1 = (pf 0 : S2048.Idx → BitVec 32) (ix1 k) := by
  refine congrArg (pf 0 : S2048.Idx → BitVec 32) (funext fun e => Fin.ext ?_)
  match e with
  | ⟨0, _⟩ => show n + 1 * 0 = k.val; omega

/-- The block index of a page window: page axis at the table's word `16 i + p`, every other axis at its start. -/
theorem tr_of (pf : pre0.Contents (Elt Bits)) (i : grid0.Coords) (p : Fin 16) :
    (![0, (pf.at 0 (Rect.unit (s := S2048) ![(Scalar.indexCast (Scalar.addi (Scalar.muli (Scalar.addi (Scalar.muli (BitVec.ofNat 32 (i 0).val) 1#32) 0#32) 16#32) (BitVec.ofNat 32 p.val)) : Index).toNat]
        S1.size (k0_off1_inb i p)) numel1_S1).toNat, 0, 0] : Fin 4 → Nat) = ![0, ((pf 0 : S2048.Idx → BitVec 32) (ix1 (wordAt (i 0) p))).toNat, 0, 0] :=
  congrArg (fun w : BitVec 32 => (![0, w.toNat, 0, 0] : Fin 4 → Nat)) (at_word pf _ _ _ (word_pos (i 0).val (i 0).isLt p.val p.isLt))

theorem word_lt (hP : ∀ (c : Dev nD) b p, ((m ((c : Thread nD τ).loc main_arg0) : S128x16.Idx → BitVec 32) (ix2 b p)).toNat < 2560) (n : Fin 2048) : ((tbl m 0 : S2048.Idx → BitVec 32) (ix1 n)).toNat < 2560 := by
  show ((V m 0 main_v0 : S2048.Idx → BitVec 32) (ix1 n)).toNat < 2560
  rw [V_table]
  exact flat_lt _ (hP 0) n

/-- The windows stay inside the pool. -/
theorem ok_of (hP : ∀ (c : Dev nD) b p, ((m ((c : Thread nD τ).loc main_arg0) : S128x16.Idx → BitVec 32) (ix2 b p)).toNat < 2560) : Ok m := by
  unfold Ok ok0
  have h (i : grid0.Coords) (p : Fin 16) := page_in (tr_of (tbl m) i p) (word_lt m hP _)
  exact ⟨fun i => ⟨h i 0, Or.inl rfl⟩, fun i => ⟨h i 1, Or.inl rfl⟩, fun i => ⟨h i 2, Or.inl rfl⟩, fun i => ⟨h i 3, Or.inl rfl⟩, fun i => ⟨h i 4, Or.inl rfl⟩, fun i => ⟨h i 5, Or.inl rfl⟩, fun i => ⟨h i 6, Or.inl rfl⟩, fun i => ⟨h i 7, Or.inl rfl⟩, fun i => ⟨h i 8, Or.inl rfl⟩, fun i => ⟨h i 9, Or.inl rfl⟩, fun i => ⟨h i 10, Or.inl rfl⟩, fun i => ⟨h i 11, Or.inl rfl⟩, fun i => ⟨h i 12, Or.inl rfl⟩, fun i => ⟨h i 13, Or.inl rfl⟩, fun i => ⟨h i 14, Or.inl rfl⟩, fun i => ⟨h i 15, Or.inl rfl⟩, fun i => ⟨h i 0, Or.inl rfl⟩, fun i => ⟨h i 1, Or.inl rfl⟩, fun i => ⟨h i 2, Or.inl rfl⟩, fun i => ⟨h i 3, Or.inl rfl⟩, fun i => ⟨h i 4, Or.inl rfl⟩, fun i => ⟨h i 5, Or.inl rfl⟩, fun i => ⟨h i 6, Or.inl rfl⟩, fun i => ⟨h i 7, Or.inl rfl⟩, fun i => ⟨h i 8, Or.inl rfl⟩, fun i => ⟨h i 9, Or.inl rfl⟩, fun i => ⟨h i 10, Or.inl rfl⟩, fun i => ⟨h i 11, Or.inl rfl⟩, fun i => ⟨h i 12, Or.inl rfl⟩, fun i => ⟨h i 13, Or.inl rfl⟩, fun i => ⟨h i 14, Or.inl rfl⟩, fun i => ⟨h i 15, Or.inl rfl⟩⟩

end Cert.Sattn.Hand

end
-- ==== Proof.SattnKernel.lean ====
module

public import proofs.«01_k».proof.Proof.Gen.SattnIdeal.Skeleton
public import Idealize.ShloMosaic.Lib.Pointwise
public import Idealize.ShloMosaic.Lib.Tactic
public import Idealize.ShloMosaic.Lib.VecWindow
public import Idealize.ShloMosaic.Lib.Pipeline.Value
public import proofs.«01_k».proof.Proof.SattnMath

/-! # The sample attention kernel's arithmetic

One grid point serves one sequence: its 512 query lanes are eight heads of 64, its keys are sixteen pages of 128 and one new key. The
theorems here read each stage of the body at an index, and `block_apply` puts them together: the lane of the block is the softmax
attention of the lane's head. -/

@[expose] public section

set_option maxRecDepth 16384

noncomputable section

open Idealize.ShloMosaic Idealize.ShloMosaic.TcCoe Idealize.SL.Sem

namespace Cert.SattnIdeal.Hand

open Cert.SattnIdeal Cert.SattnIdeal.Gen Cert.AttnMath

variable {F : FTy → Type} [FloatOps F]

/-- The products of the masked queries with one page of keys. -/
def pageDot (q : FVec Ideal S8x512 .bf16) (x : Vec Ideal S1x1x512x128 .f32) : FVec Ideal S8x128 .f32 :=
  matmul dot_S8x512_S512x128_S8x128_1_0_0_1_n_n none q
    (truncf .bf16 (shapeCast S512x128 x shapeCasts_S1x1x512x128_S512x128 : FVec Ideal S512x128 .f32) bitsLt_bf16_f32)
    (constant S8x128 .f32 0x00000000#32)

/-- The mask of a head's own lanes. -/
theorem own_apply (h : Fin 8) (c : Fin 512) : k0_pay2 (ix2 h c) = if head c = h then 1#1 else 0#1 := by
  revert h c; decide +kernel

/-- The queries with the other heads' lanes at zero. -/
theorem q_apply (x0 : Vec Ideal S1x1x512 .bf16) (h : Fin 8) (c : Fin 512) :
    k0_pay4 x0 (ix2 h c) = if head c = h then (x0 (ix3 0 0 c) : EReal) else 0 := by
  pointwise [k0_pay4, k0_pay3, own_apply]
  by_cases e : head c = h <;> simp [e, Scalar.select]

/-- One page's products, one head against one key. -/
theorem pageDot_apply (x0 : Vec Ideal S1x1x512 .bf16) (x : Vec Ideal S1x1x512x128 .f32) (h : Fin 8) (t : Fin 128) :
    pageDot (k0_pay4 x0) x (ix2 h t) = dotHead (fun c => x0 (ix3 0 0 c)) (fun c => x (ix4 0 0 c t)) h := by
  refine Eq.trans ?_ (dot_masked (fun c => (x0 (ix3 0 0 c) : EReal)) (fun c => (x (ix4 0 0 c t) : EReal)) h)
  pointwise [pageDot, dot_S8x512_S512x128_S8x128_1_0_0_1_n_n, q_apply]

/-- The product with the new key. -/
theorem newDot_apply (x0 : Vec Ideal S1x1x512 .bf16) (kn : Vec Ideal S1x1x512 .f32) (h : Fin 8) :
    k0_pay21 k0_pay2 (k0_pay3 x0) kn (ix2 h 0) = dotHead (fun c => x0 (ix3 0 0 c)) (fun c => kn (ix3 0 0 c)) h := by
  refine Eq.trans ?_ (sum_own (fun c => (x0 (ix3 0 0 c) : EReal) * kn (ix3 0 0 c)) h)
  pointwise [k0_pay21, k0_pay3, own_apply]
  refine Finset.sum_congr rfl fun c _ => ?_
  by_cases e : head c = h <;> simp [e, Scalar.select]

/-- The new key's product in the first of 128 columns, zero in the others. -/
def newCols (g : FVec F S8x1 .f32) : FVec F S8x128 .f32 :=
  select (cmpi .eq (iota .tc S8x128 32 [1] iota_S8x128_d1_w32) (broadcast S8x128 0#32))
      (broadcastTo S8x128 (shapeCast S8x1 g shapeCasts_S8x1_S8x1) broadcasts_S8x1_S8x128)
      (broadcast S8x128 (Scalar.ofBits .f32 0x00000000#32 : F .f32))

/-- Sixteen pages' products and the new key's, side by side: 2176 columns, the last 127 of them zero. -/
def joined (D : Fin 16 → FVec F S8x128 .f32) (g : FVec F S8x1 .f32) : FVec F S8x2176 .f32 :=
  concatenate S8x2176 1 [⟨S8x128, D 0⟩, ⟨S8x128, D 1⟩, ⟨S8x128, D 2⟩, ⟨S8x128, D 3⟩, ⟨S8x128, D 4⟩, ⟨S8x128, D 5⟩, ⟨S8x128, D 6⟩, ⟨S8x128, D 7⟩, ⟨S8x128, D 8⟩, ⟨S8x128, D 9⟩, ⟨S8x128, D 10⟩, ⟨S8x128, D 11⟩, ⟨S8x128, D 12⟩, ⟨S8x128, D 13⟩, ⟨S8x128, D 14⟩, ⟨S8x128, D 15⟩, ⟨S8x128, newCols g⟩]
    concatenates_S8x128_S8x128_S8x128_S8x128_S8x128_S8x128_S8x128_S8x128_S8x128_S8x128_S8x128_S8x128_S8x128_S8x128_S8x128_S8x128_S8x128_S8x2176_d1

theorem joined_page (D : Fin 16 → FVec F S8x128 .f32) (g : FVec F S8x1 .f32) (h : Fin 8) (p : Fin 16) (t : Fin 128) :
    joined D g (ix2 h (⟨128 * p.val + t.val, by omega⟩ : Fin 2176)) = D p (ix2 h t) := by
  unfold joined
  refine concatenate_apply_piece (t := S8x2176) 1 _ _ _ p.val (by simp; omega) S8x128 (D p) ?_ rfl (128 * p.val) ?_ (ix2 h t) ?_ ?_
  · fin_cases p <;> rfl
  · fin_cases p <;>
      simp only [List.take_succ_cons, List.take_zero, List.map_cons, List.map_nil, List.sum_cons, List.sum_nil, dif_pos trivial] <;> rfl
  · intro b hb
    match b, hb with
    | ⟨0, _⟩, _ => rfl
    | ⟨1, _⟩, hb => exact absurd rfl hb
  · rfl

theorem joined_new (D : Fin 16 → FVec Ideal S8x128 .f32) (g : FVec Ideal S8x1 .f32) (h : Fin 8) :
    joined D g (ix2 h (⟨2048, by omega⟩ : Fin 2176)) = g (ix2 h 0) := by
  unfold joined
  refine (concatenate_apply_piece (t := S8x2176) 1 _ _ _ 16 (by simp) S8x128 (newCols g) rfl rfl 2048 ?_ (ix2 h (0 : Fin 128)) ?_ rfl).trans ?_
  · simp only [List.take_succ_cons, List.take_zero, List.map_cons, List.map_nil, List.sum_cons, List.sum_nil, dif_pos trivial] <;> rfl
  · intro b hb
    match b, hb with
    | ⟨0, _⟩, _ => rfl
    | ⟨1, _⟩, hb => exact absurd rfl hb
  · pointwise [newCols]

/-- The scores: the products, the bias, and the selection as zero or `-∞`. -/
def scored (D : Fin 16 → FVec Ideal S8x128 .f32) (g : FVec Ideal S8x1 .f32) (x2 : Vec Ideal S8x2176 .f32) (x1 : Vec Ideal S1x1x2176 .f32) :
    FVec Ideal S8x2176 .f32 :=
  addf (addf (joined D g) x2)
    (broadcastTo S8x2176 (shapeCast S1x2176 x1 shapeCasts_S1x1x2176_S1x2176) broadcasts_S1x2176_S8x2176)

/-- The kernel's weights from the scores. -/
def weights (s : FVec Ideal S8x2176 .f32) : FVec Ideal S8x2176 .f32 :=
  exp2 (subf s (broadcastTo S8x2176 (shapeCast S8x1 (multiReduction .maximumf [1] S8 s 0xFF800000#32 reduces_S8x2176_S8 (.inl rfl) rfl)
    shapeCasts_S8_S8x1) broadcasts_S8x1_S8x2176))

theorem pay22_eq (D : Fin 16 → FVec Ideal S8x128 .f32) (g : FVec Ideal S8x1 .f32) (x2 : Vec Ideal S8x2176 .f32) (x1 : Vec Ideal S1x1x2176 .f32) :
    k0_pay22 (D 0) (D 1) (D 2) (D 3) (D 4) (D 5) (D 6) (D 7) (D 8) (D 9) (D 10) (D 11) (D 12) (D 13) (D 14) (D 15) g (iota .tc S8x128 32 [1] iota_S8x128_d1_w32) x2 x1 = weights (scored D g x2 x1) := rfl

theorem negInf_eq : Ideal.ofBits FTy.f32 0xFF800000#32 = ⊥ := by
  simp [Ideal.ofBits, Ideal.ieee]

theorem weights_apply (s : FVec Ideal S8x2176 .f32) (h : Fin 8) (j : Fin 2176) :
    weights s (ix2 h j) = weight (fun i => s (ix2 h i)) j := by
  unfold weight peak
  pointwise [weights, negInf_eq]
  rfl

/-- Key `j`, as a row of 512 lanes: a page's column, or the new key. -/
def rowAt (X : Fin 16 → Vec Ideal S1x1x512x128 .f32) (x : Vec Ideal S1x1x512 .f32) (j : Fin 2049) (c : Fin 512) : EReal :=
  if h : j.val < 2048 then X ⟨j.val / 128, by omega⟩ (ix4 0 0 c ⟨j.val % 128, by omega⟩) else x (ix3 0 0 c)

theorem rowAt_page (X : Fin 16 → Vec Ideal S1x1x512x128 .f32) (x : Vec Ideal S1x1x512 .f32) (p : Fin 16) (t : Fin 128) (c : Fin 512) :
    rowAt X x ⟨128 * p.val + t.val, by omega⟩ c = X p (ix4 0 0 c t) := by
  unfold rowAt
  rw [dif_pos (show 128 * p.val + t.val < 2048 by omega)]
  have e1 : (⟨(128 * p.val + t.val) / 128, by omega⟩ : Fin 16) = p := Fin.ext (by show (128 * p.val + t.val) / 128 = p.val; omega)
  have e2 : (⟨(128 * p.val + t.val) % 128, by omega⟩ : Fin 128) = t := Fin.ext (by show (128 * p.val + t.val) % 128 = t.val; omega)
  exact congrArg₂ (fun (a : Fin 16) (b : Fin 128) => X a (ix4 0 0 c b)) e1 e2

theorem rowAt_new (X : Fin 16 → Vec Ideal S1x1x512x128 .f32) (x : Vec Ideal S1x1x512 .f32) (c : Fin 512) :
    rowAt X x ⟨2048, by omega⟩ c = x (ix3 0 0 c) := by
  unfold rowAt
  rw [dif_neg (show ¬ 2048 < 2048 by omega)]

/-- The kernel's scores of one head are the 2049 scores, then `-∞`. -/
theorem scored_apply (x0 : Vec Ideal S1x1x512 .bf16) (x1 : Vec Ideal S1x1x2176 .f32) (x2 : Vec Ideal S8x2176 .f32)
    (kn : Vec Ideal S1x1x512 .f32) (K : Fin 16 → Vec Ideal S1x1x512x128 .f32) (sel : Fin 2049 → Bool)
    (hs : ∀ j : Fin 2049, x1 (ix3 0 0 ⟨j.val, by omega⟩) = if sel j = true then (0 : EReal) else ⊥)
    (hp : ∀ j : Fin 2176, 2049 ≤ j.val → x1 (ix3 0 0 j) = (⊥ : EReal)) (h : Fin 8) (j : Fin 2176) :
    scored (fun p => pageDot (k0_pay4 x0) (K p)) (k0_pay21 k0_pay2 (k0_pay3 x0) kn) x2 x1 (ix2 h j)
      = padded (score (fun c => x0 (ix3 0 0 c)) (rowAt K kn) (fun i => x2 (ix2 h ⟨i.val, by omega⟩)) sel h) j := by
  have e : scored (fun p => pageDot (k0_pay4 x0) (K p)) (k0_pay21 k0_pay2 (k0_pay3 x0) kn) x2 x1 (ix2 h j)
      = (joined (fun p => pageDot (k0_pay4 x0) (K p)) (k0_pay21 k0_pay2 (k0_pay3 x0) kn) (ix2 h j) + x2 (ix2 h j) : EReal) + x1 (ix3 0 0 j) := by
    pointwise [scored]
  rw [e]
  unfold padded
  by_cases hj : j.val < 2049
  · rw [dif_pos hj, show x1 (ix3 0 0 j) = _ from hs ⟨j.val, hj⟩]
    unfold score
    by_cases hsel : sel ⟨j.val, hj⟩ = true
    · rw [if_pos hsel, if_pos hsel, add_zero]
      refine congrArg (· + (x2 (ix2 h j) : EReal)) ?_
      by_cases hn : j.val < 2048
      · have ej : j = (⟨128 * (⟨j.val / 128, by omega⟩ : Fin 16).val + (⟨j.val % 128, by omega⟩ : Fin 128).val, by simp only; omega⟩ : Fin 2176) :=
          Fin.ext (Nat.div_add_mod _ _).symm
        have ek : rowAt K kn ⟨j.val, hj⟩ = fun c => K ⟨j.val / 128, by omega⟩ (ix4 0 0 c ⟨j.val % 128, by omega⟩) := by
          funext c; unfold rowAt; rw [dif_pos (show (⟨j.val, hj⟩ : Fin 2049).val < 2048 from hn)]
        rw [ek]
        conv_lhs => rw [ej]
        rw [joined_page, pageDot_apply]
      · have ej : j = (⟨2048, by omega⟩ : Fin 2176) := Fin.ext (by show j.val = 2048; omega)
        have ek : rowAt K kn ⟨j.val, hj⟩ = fun c => kn (ix3 0 0 c) := by
          funext c; unfold rowAt; rw [dif_neg (show ¬ (⟨j.val, hj⟩ : Fin 2049).val < 2048 from hn)]
        rw [ek]
        conv_lhs => rw [ej]
        rw [joined_new, newDot_apply]
    · rw [if_neg hsel, if_neg hsel, EReal.add_bot]
  · rw [dif_neg hj, hp j (by omega), EReal.add_bot]

/-- One page's share of the weighted values. -/
def part (p : FVec Ideal S8x2176 .f32) (V : Fin 16 → Vec Ideal S1x1x512x128 .f32) (h : Fin 8) (c : Fin 512) (g : Fin 16) : EReal :=
  ∑ t : Fin 128, p (ix2 h (⟨128 * g.val + t.val, by omega⟩ : Fin 2176)) * V g (ix4 0 0 c t)

/-- The row sums of the weights. -/
theorem pay23_apply (D : Fin 16 → FVec Ideal S8x128 .f32) (g : FVec Ideal S8x1 .f32) (x2 : Vec Ideal S8x2176 .f32) (x1 : Vec Ideal S1x1x2176 .f32) (h : Fin 8) :
    k0_pay23 (D 0) (D 1) (D 2) (D 3) (D 4) (D 5) (D 6) (D 7) (D 8) (D 9) (D 10) (D 11) (D 12) (D 13) (D 14) (D 15) g (iota .tc S8x128 32 [1] iota_S8x128_d1_w32) x2 x1 (ix2 h 0) = ∑ j : Fin 2176, weights (scored D g x2 x1) (ix2 h j) := by
  pointwise [k0_pay23, pay22_eq]
  rfl

/-- The new value's share and the first page's. -/
theorem pay24_apply (D : Fin 16 → FVec Ideal S8x128 .f32) (g : FVec Ideal S8x1 .f32) (x2 : Vec Ideal S8x2176 .f32) (x1 : Vec Ideal S1x1x2176 .f32)
    (vn : Vec Ideal S1x1x512 .f32) (V : Fin 16 → Vec Ideal S1x1x512x128 .f32) (h : Fin 8) (c : Fin 512) :
    k0_pay24 (D 0) (D 1) (D 2) (D 3) (D 4) (D 5) (D 6) (D 7) (D 8) (D 9) (D 10) (D 11) (D 12) (D 13) (D 14) (D 15) g (iota .tc S8x128 32 [1] iota_S8x128_d1_w32) x2 x1 vn (V 0) (ix2 h c)
      = weights (scored D g x2 x1) (ix2 h (⟨2048, by omega⟩ : Fin 2176)) * vn (ix3 0 0 c) + part (weights (scored D g x2 x1)) V h c 0 := by
  unfold part
  pointwise [k0_pay24, pay22_eq, dot_S8x128_S512x128_S8x512_1_1_0_0_n_n]
  rfl

/-- Pages 1 to 5. -/
theorem pay27_apply (D : Fin 16 → FVec Ideal S8x128 .f32) (g : FVec Ideal S8x1 .f32) (x2 : Vec Ideal S8x2176 .f32) (x1 : Vec Ideal S1x1x2176 .f32)
    (a : FVec Ideal S8x512 .f32) (V : Fin 16 → Vec Ideal S1x1x512x128 .f32) (h : Fin 8) (c : Fin 512) :
    k0_pay27 (weights (scored D g x2 x1)) a (k0_pay25 (D 0) (D 1) (D 2) (D 3) (D 4) (D 5) (D 6) (D 7) (D 8) (D 9) (D 10) (D 11) (D 12) (D 13) (D 14) (D 15) g (iota .tc S8x128 32 [1] iota_S8x128_d1_w32) x2 x1) (k0_pay26 (V 1)) (V 2) (V 3) (V 4) (V 5) (ix2 h c)
      = a (ix2 h c) + part (weights (scored D g x2 x1)) V h c 1 + part (weights (scored D g x2 x1)) V h c 2 + part (weights (scored D g x2 x1)) V h c 3
        + part (weights (scored D g x2 x1)) V h c 4 + part (weights (scored D g x2 x1)) V h c 5 := by
  unfold part
  pointwise [k0_pay27, k0_pay26, k0_pay25, pay22_eq, dot_S8x128_S512x128_S8x512_1_1_0_0_n_n]
  rfl

/-- Pages 6 to 10. -/
theorem pay30_apply (p : FVec Ideal S8x2176 .f32) (a : FVec Ideal S8x512 .f32) (V : Fin 16 → Vec Ideal S1x1x512x128 .f32) (h : Fin 8) (c : Fin 512) :
    k0_pay30 p a (k0_pay28 p) (k0_pay29 (V 6)) (V 7) (V 8) (V 9) (V 10) (ix2 h c)
      = a (ix2 h c) + part p V h c 6 + part p V h c 7 + part p V h c 8 + part p V h c 9 + part p V h c 10 := by
  unfold part
  pointwise [k0_pay30, k0_pay28, k0_pay29, dot_S8x128_S512x128_S8x512_1_1_0_0_n_n]

/-- Pages 11 to 15, the division, and each lane's own head. -/
theorem pay33_apply (p : FVec Ideal S8x2176 .f32) (l : FVec Ideal S8x1 .f32) (a : FVec Ideal S8x512 .f32) (V : Fin 16 → Vec Ideal S1x1x512x128 .f32) (c : Fin 512) :
    k0_pay33 k0_pay2 p l a (k0_pay31 p) (k0_pay32 (V 11)) (V 12) (V 13) (V 14) (V 15) (ix2 0 c)
      = Ideal.div (a (ix2 (head c) c) + part p V (head c) c 11 + part p V (head c) c 12 + part p V (head c) c 13 + part p V (head c) c 14
          + part p V (head c) c 15) (l (ix2 (head c) 0)) := by
  unfold part
  pointwise [k0_pay33, k0_pay31, k0_pay32, own_apply, dot_S8x128_S512x128_S8x512_1_1_0_0_n_n]
  rw [Finset.sum_eq_single (head c) (fun h _ hne => by simp [hne.symm, Scalar.select]) (fun hn => absurd (Finset.mem_univ _) hn)]
  simp [Scalar.select]

/-- The block of one grid point, before its last cast: softmax attention of the lane's head, where no score is `+∞` and some score is
not `-∞`. -/
theorem block_apply (x0 : Vec Ideal S1x1x512 .bf16) (x1 : Vec Ideal S1x1x2176 .f32) (x2 : Vec Ideal S8x2176 .f32)
    (kn vn : Vec Ideal S1x1x512 .f32) (K V : Fin 16 → Vec Ideal S1x1x512x128 .f32) (D : Fin 16 → FVec Ideal S8x128 .f32)
    (hD : D = fun p => pageDot (k0_pay4 x0) (K p)) (g : FVec Ideal S8x1 .f32) (hg : g = k0_pay21 k0_pay2 (k0_pay3 x0) kn)
    (sel : Fin 2049 → Bool)
    (hs : ∀ j : Fin 2049, x1 (ix3 0 0 ⟨j.val, by omega⟩) = if sel j = true then (0 : EReal) else ⊥)
    (hp : ∀ j : Fin 2176, 2049 ≤ j.val → x1 (ix3 0 0 j) = (⊥ : EReal)) (c : Fin 512)
    (ht : ∀ j, score (fun c => x0 (ix3 0 0 c)) (rowAt K kn) (fun i => x2 (ix2 (head c) ⟨i.val, by omega⟩)) sel (head c) j ≠ ⊤)
    (i : Fin 2049) (hi : score (fun c => x0 (ix3 0 0 c)) (rowAt K kn) (fun i => x2 (ix2 (head c) ⟨i.val, by omega⟩)) sel (head c) i ≠ ⊥)
    (W : FVec Ideal S8x2176 .f32) (hW : W = weights (scored D g x2 x1)) :
    k0_pay33 k0_pay2 W (k0_pay23 (D 0) (D 1) (D 2) (D 3) (D 4) (D 5) (D 6) (D 7) (D 8) (D 9) (D 10) (D 11) (D 12) (D 13) (D 14) (D 15) g (iota .tc S8x128 32 [1] iota_S8x128_d1_w32) x2 x1)
      (k0_pay30 W
        (k0_pay27 W (k0_pay24 (D 0) (D 1) (D 2) (D 3) (D 4) (D 5) (D 6) (D 7) (D 8) (D 9) (D 10) (D 11) (D 12) (D 13) (D 14) (D 15) g (iota .tc S8x128 32 [1] iota_S8x128_d1_w32) x2 x1 vn (V 0))
          (k0_pay25 (D 0) (D 1) (D 2) (D 3) (D 4) (D 5) (D 6) (D 7) (D 8) (D 9) (D 10) (D 11) (D 12) (D 13) (D 14) (D 15) g (iota .tc S8x128 32 [1] iota_S8x128_d1_w32) x2 x1) (k0_pay26 (V 1)) (V 2) (V 3) (V 4) (V 5))
        (k0_pay28 W) (k0_pay29 (V 6)) (V 7) (V 8) (V 9) (V 10))
      (k0_pay31 W) (k0_pay32 (V 11)) (V 12) (V 13) (V 14) (V 15) (ix2 0 c)
      = attend (score (fun c => x0 (ix3 0 0 c)) (rowAt K kn) (fun i => x2 (ix2 (head c) ⟨i.val, by omega⟩)) sel (head c))
          (fun j => rowAt V vn j c) := by
  rw [pay33_apply, pay30_apply, hW, pay27_apply, pay24_apply, pay23_apply]
  rw [← hW]
  generalize hS : score (fun c => x0 (ix3 0 0 c)) (rowAt K kn) (fun i => x2 (ix2 (head c) ⟨i.val, by omega⟩)) sel (head c) = S at ht hi ⊢
  have hw : ∀ j : Fin 2176, W (ix2 (head c) j) = weight (padded S) j := fun j => by
    rw [hW, weights_apply]
    refine congrArg (fun f => weight f j) (funext fun i => ?_)
    rw [hD, hg, scored_apply x0 x1 x2 kn K sel hs hp, hS]
  have hpart : ∀ q : Fin 16, part W V (head c) c q
      = ∑ t : Fin 128, (fun j => weight S j * rowAt V vn j c) ⟨128 * q.val + t.val, by omega⟩ := fun q => by
    unfold part
    refine Finset.sum_congr rfl fun t _ => ?_
    rw [hw, weight_padded _ _ (show 128 * q.val + t.val < 2049 by omega)]
    exact congrArg₂ (· * ·) rfl (rowAt_page V vn q t c).symm
  have hnew : W (ix2 (head c) (⟨2048, by omega⟩ : Fin 2176)) * vn (ix3 0 0 c) = (fun j => weight S j * rowAt V vn j c) ⟨2048, by omega⟩ := by
    rw [hw, weight_padded _ _ (show 2048 < 2049 by omega)]
    exact congrArg₂ (· * ·) rfl (rowAt_new V vn c).symm
  rw [hnew]
  refine (congrArg₂ Ideal.div (sum_new_pages (fun j => weight S j * rowAt V vn j c) (part W V (head c) c) hpart) ?_).trans
    (attend_eq S (fun j => rowAt V vn j c) ht i hi)
  rw [← sum_weight_padded]
  exact Finset.sum_congr rfl fun j _ => hw j

end Cert.SattnIdeal.Hand
-- ==== Proof.SattnRef.lean ====
module

public import proofs.«01_k».proof.Proof.Gen.RefSattnIdeal.Read
public import Idealize.ShloMosaic.Lib.Pointwise
public import Idealize.ShloMosaic.Lib.Tactic
public import Idealize.ShloMosaic.Lib.VecWindow
public import Idealize.ShloMosaic.Lib.Pipeline.Value
public import proofs.«01_k».proof.Proof.SattnMath

/-! # The sample attention reference, read at an index

The reference gathers each sequence's pages, appends the new key and value, and takes the softmax of the selected scores. Stage by stage
its result is `sampleAttn`. -/

@[expose] public section

set_option maxRecDepth 16384

noncomputable section

open Idealize.ShloMosaic Idealize.ShloMosaic.TcCoe Idealize.SL.Sem

namespace Cert.RefSattnIdeal.Hand

open Cert.RefSattnIdeal Cert.RefSattnIdeal.Gen Cert.RefSattnIdeal.Read Cert.AttnMath

/-- The gather of whole pages: the page named by the table, read signed and clamped into the pool. -/
theorem gather_pages {α : Type} (x : S2560x128x8x64.Idx → α) (idx : IVec S128x16x1 32) (b : Fin 128) (p : Fin 16) (t : Fin 128) (h : Fin 8) (d : Fin 64) :
    Host.gather gather_S2560x128x8x64_S128x16x1_S128x16x128x8x64_234_0_n_n_0_2_1128864 x idx (ix5 b p t h d)
      = x (ix4 ⟨min (idx (ix3 b p 0)).toInt.toNat 2559, by omega⟩ t h d) := by
  unfold Host.gather
  congr 1
  funext a
  refine Fin.ext ?_
  show gather_S2560x128x8x64_S128x16x1_S128x16x128x8x64_234_0_n_n_0_2_1128864.start (ix5 b p t h d) idx a
      + gather_S2560x128x8x64_S128x16x1_S128x16x128x8x64_234_0_n_n_0_2_1128864.batchCoord (ix5 b p t h d) a
      + gather_S2560x128x8x64_S128x16x1_S128x16x128x8x64_234_0_n_n_0_2_1128864.offCoord (ix5 b p t h d) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    refine (dif_pos (show (0 : Fin 4) ∈ [(0 : Fin 4)] from List.mem_singleton.mpr rfl)).trans ?_
    have hsi : gather_S2560x128x8x64_S128x16x1_S128x16x128x8x64_234_0_n_n_0_2_1128864.siIdx (ix5 b p t h d)
        ⟨List.idxOf (0 : Fin 4) gather_S2560x128x8x64_S128x16x1_S128x16x128x8x64_234_0_n_n_0_2_1128864.startIndexMap,
          List.idxOf_lt_length_iff.2 (List.mem_singleton.mpr rfl)⟩ = ix3 b p 0 := by
      funext e; refine Fin.ext ?_
      match e with
      | ⟨0, _⟩ => rfl
      | ⟨1, _⟩ => rfl
      | ⟨2, _⟩ => rfl
    exact congrArg (fun k => min (idx k).toInt.toNat 2559) hsi
  | ⟨1, _⟩ =>
    have e : gather_S2560x128x8x64_S128x16x1_S128x16x128x8x64_234_0_n_n_0_2_1128864.start (ix5 b p t h d) idx 1 = 0 := by
      unfold GatherDims.start
      exact dif_neg (show ¬ (1 : Fin 4) ∈ [(0 : Fin 4)] by decide)
    refine (congrArg (· + 0 + t.val) e).trans ?_
    show 0 + 0 + t.val = t.val; omega
  | ⟨2, _⟩ =>
    have e : gather_S2560x128x8x64_S128x16x1_S128x16x128x8x64_234_0_n_n_0_2_1128864.start (ix5 b p t h d) idx 2 = 0 := by
      unfold GatherDims.start
      exact dif_neg (show ¬ (2 : Fin 4) ∈ [(0 : Fin 4)] by decide)
    refine (congrArg (· + 0 + h.val) e).trans ?_
    show 0 + 0 + h.val = h.val; omega
  | ⟨3, _⟩ =>
    have e : gather_S2560x128x8x64_S128x16x1_S128x16x128x8x64_234_0_n_n_0_2_1128864.start (ix5 b p t h d) idx 3 = 0 := by
      unfold GatherDims.start
      exact dif_neg (show ¬ (3 : Fin 4) ∈ [(0 : Fin 4)] by decide)
    refine (congrArg (· + 0 + d.val) e).trans ?_
    show 0 + 0 + d.val = d.val; omega

/-- The pool of the served layer. -/
def pool (x : S4x2560x128x8x64.Idx → EReal) (n : Fin 2560) (t : Fin 128) (h : Fin 8) (d : Fin 64) : EReal := x (ix5 0 n t h d)

/-- A sequence's pages. -/
def pages (x0 : S128x16.Idx → BitVec 32) (hP : ∀ b p, (x0 (ix2 b p)).toNat < 2560) (b : Fin 128) (p : Fin 16) : Fin 2560 := ⟨(x0 (ix2 b p)).toNat, hP b p⟩

theorem start_eq (x : BitVec 32) (h : x.toNat < 2560) : min x.toInt.toNat 2559 = x.toNat := by
  rw [BitVec.toInt_eq_toNat_of_lt (by omega)]; simp; omega

theorem key_pool (x6 : S4x2560x128x8x64.Idx → EReal) (n : Fin 2560) (t : Fin 128) (h : Fin 8) (d : Fin 64) :
    val_main_v3 (F := Ideal) x6 (ix4 n t h d) = pool x6 n t h d := by
  rw [val_main_v3_apply, val_main_v2_apply]
  refine congrArg x6 (funext fun e => Fin.ext ?_)
  match e with
  | ⟨0, _⟩ => rfl
  | ⟨1, _⟩ => show (((n.val * 128 + t.val) * 8 + h.val) * 64 + d.val) / 65536 % 2560 = n.val; omega
  | ⟨2, _⟩ => show (((n.val * 128 + t.val) * 8 + h.val) * 64 + d.val) / 512 % 128 = t.val; omega
  | ⟨3, _⟩ => show (((n.val * 128 + t.val) * 8 + h.val) * 64 + d.val) / 64 % 8 = h.val; omega
  | ⟨4, _⟩ => show (((n.val * 128 + t.val) * 8 + h.val) * 64 + d.val) % 64 = d.val; omega

theorem key_page (x0 : S128x16.Idx → BitVec 32) (hP : ∀ b p, (x0 (ix2 b p)).toNat < 2560) (x6 : S4x2560x128x8x64.Idx → EReal) (b : Fin 128) (j : Fin 2048) (h : Fin 8) (d : Fin 64) :
    val_main_v5 (F := Ideal) x0 x6 (ix4 b j h d) = pool x6 (pages x0 hP b ⟨j.val / 128, by omega⟩) ⟨j.val % 128, by omega⟩ h d := by
  have e : idx_main_v5 (ix4 b j h d) = ix5 b ⟨j.val / 128, by omega⟩ ⟨j.val % 128, by omega⟩ h d := by
    funext e; apply Fin.ext
    match e with
    | ⟨0, _⟩ => show (((b.val * 2048 + j.val) * 8 + h.val) * 64 + d.val) / 1048576 = b.val; omega
    | ⟨1, _⟩ => show (((b.val * 2048 + j.val) * 8 + h.val) * 64 + d.val) / 65536 % 16 = j.val / 128; omega
    | ⟨2, _⟩ => show (((b.val * 2048 + j.val) * 8 + h.val) * 64 + d.val) / 512 % 128 = j.val % 128; omega
    | ⟨3, _⟩ => show (((b.val * 2048 + j.val) * 8 + h.val) * 64 + d.val) / 64 % 8 = h.val; omega
    | ⟨4, _⟩ => show (((b.val * 2048 + j.val) * 8 + h.val) * 64 + d.val) % 64 = d.val; omega
  rw [val_main_v5_apply, e]
  unfold val_main_v4
  rw [gather_pages, key_pool]
  refine congrArg (fun n => pool x6 n _ h d) (Fin.ext ?_)
  show min (val_main_call0_v0 (F := Ideal) x0 (ix3 b ⟨j.val / 128, by omega⟩ 0)).toInt.toNat 2559 = (x0 (ix2 b ⟨j.val / 128, by omega⟩)).toNat
  rw [val_main_call0_v0_apply]
  refine (congrArg (fun y => min (x0 y).toInt.toNat 2559) ?_).trans (start_eq _ (hP b ⟨j.val / 128, by omega⟩))
  exact eq_ix2 _

theorem key_row (x0 : S128x16.Idx → BitVec 32) (hP : ∀ b p, (x0 (ix2 b p)).toNat < 2560) (x4 : S128x512.Idx → EReal) (x6 : S4x2560x128x8x64.Idx → EReal) (b : Fin 128) (j : Fin 2049) (h : Fin 8) (d : Fin 64) :
    val_main_v11 (F := Ideal) x0 x4 x6 (ix4 b j h d) = rowOf (pool x6) (pages x0 hP b) (fun c => x4 (ix2 b c)) j (lane h d) := by
  have hl : (lane h d).val % 64 = d.val := by show (64 * h.val + d.val) % 64 = d.val; omega
  unfold rowOf val_main_v11
  by_cases hj : j.val < 2048
  · rw [dif_pos hj]
    refine (concatenate_apply_piece (t := S128x2049x8x64) 1 _ _ _ 0 (by simp) S128x2048x8x64 (val_main_v5 (F := Ideal) x0 x6) rfl rfl 0 rfl
      (ix4 b ⟨j.val, hj⟩ h d) ?_ (by show 0 + j.val = j.val; omega)).trans ?_
    · intro e he
      match e, he with
      | ⟨0, _⟩, _ => rfl
      | ⟨1, _⟩, he => exact absurd rfl he
      | ⟨2, _⟩, _ => rfl
      | ⟨3, _⟩, _ => rfl
    · rw [key_page x0 hP]
      exact congrArg₂ (pool x6 _ _) (head_lane h d).symm (Fin.ext hl.symm)
  · rw [dif_neg hj]
    refine (concatenate_apply_piece (t := S128x2049x8x64) 1 _ _ _ 1 (by simp) S128x1x8x64 (val_main_v10 (F := Ideal) x4) rfl rfl 2048 rfl
      (ix4 b 0 h d) ?_ (by show 2048 + 0 = j.val; omega)).trans ?_
    · intro e he
      match e, he with
      | ⟨0, _⟩, _ => rfl
      | ⟨1, _⟩, he => exact absurd rfl he
      | ⟨2, _⟩, _ => rfl
      | ⟨3, _⟩, _ => rfl
    · rw [val_main_v10_apply]
      refine congrArg x4 (funext fun e => Fin.ext ?_)
      match e with
      | ⟨0, _⟩ => show (((b.val * 1 + 0) * 8 + h.val) * 64 + d.val) / 512 = b.val; omega
      | ⟨1, _⟩ => show (((b.val * 1 + 0) * 8 + h.val) * 64 + d.val) % 512 = 64 * h.val + d.val; omega

theorem value_pool (x7 : S4x2560x128x8x64.Idx → EReal) (n : Fin 2560) (t : Fin 128) (h : Fin 8) (d : Fin 64) :
    val_main_v7 (F := Ideal) x7 (ix4 n t h d) = pool x7 n t h d := by
  rw [val_main_v7_apply, val_main_v6_apply]
  refine congrArg x7 (funext fun e => Fin.ext ?_)
  match e with
  | ⟨0, _⟩ => rfl
  | ⟨1, _⟩ => show (((n.val * 128 + t.val) * 8 + h.val) * 64 + d.val) / 65536 % 2560 = n.val; omega
  | ⟨2, _⟩ => show (((n.val * 128 + t.val) * 8 + h.val) * 64 + d.val) / 512 % 128 = t.val; omega
  | ⟨3, _⟩ => show (((n.val * 128 + t.val) * 8 + h.val) * 64 + d.val) / 64 % 8 = h.val; omega
  | ⟨4, _⟩ => show (((n.val * 128 + t.val) * 8 + h.val) * 64 + d.val) % 64 = d.val; omega

theorem value_page (x0 : S128x16.Idx → BitVec 32) (hP : ∀ b p, (x0 (ix2 b p)).toNat < 2560) (x7 : S4x2560x128x8x64.Idx → EReal) (b : Fin 128) (j : Fin 2048) (h : Fin 8) (d : Fin 64) :
    val_main_v9 (F := Ideal) x0 x7 (ix4 b j h d) = pool x7 (pages x0 hP b ⟨j.val / 128, by omega⟩) ⟨j.val % 128, by omega⟩ h d := by
  have e : idx_main_v9 (ix4 b j h d) = ix5 b ⟨j.val / 128, by omega⟩ ⟨j.val % 128, by omega⟩ h d := by
    funext e; apply Fin.ext
    match e with
    | ⟨0, _⟩ => show (((b.val * 2048 + j.val) * 8 + h.val) * 64 + d.val) / 1048576 = b.val; omega
    | ⟨1, _⟩ => show (((b.val * 2048 + j.val) * 8 + h.val) * 64 + d.val) / 65536 % 16 = j.val / 128; omega
    | ⟨2, _⟩ => show (((b.val * 2048 + j.val) * 8 + h.val) * 64 + d.val) / 512 % 128 = j.val % 128; omega
    | ⟨3, _⟩ => show (((b.val * 2048 + j.val) * 8 + h.val) * 64 + d.val) / 64 % 8 = h.val; omega
    | ⟨4, _⟩ => show (((b.val * 2048 + j.val) * 8 + h.val) * 64 + d.val) % 64 = d.val; omega
  rw [val_main_v9_apply, e]
  unfold val_main_v8
  rw [gather_pages, value_pool]
  refine congrArg (fun n => pool x7 n _ h d) (Fin.ext ?_)
  show min (val_main_call1_v0 (F := Ideal) x0 (ix3 b ⟨j.val / 128, by omega⟩ 0)).toInt.toNat 2559 = (x0 (ix2 b ⟨j.val / 128, by omega⟩)).toNat
  rw [val_main_call1_v0_apply]
  refine (congrArg (fun y => min (x0 y).toInt.toNat 2559) ?_).trans (start_eq _ (hP b ⟨j.val / 128, by omega⟩))
  exact eq_ix2 _

theorem value_row (x0 : S128x16.Idx → BitVec 32) (hP : ∀ b p, (x0 (ix2 b p)).toNat < 2560) (x5 : S128x512.Idx → EReal) (x7 : S4x2560x128x8x64.Idx → EReal) (b : Fin 128) (j : Fin 2049) (h : Fin 8) (d : Fin 64) :
    val_main_v13 (F := Ideal) x0 x5 x7 (ix4 b j h d) = rowOf (pool x7) (pages x0 hP b) (fun c => x5 (ix2 b c)) j (lane h d) := by
  have hl : (lane h d).val % 64 = d.val := by show (64 * h.val + d.val) % 64 = d.val; omega
  unfold rowOf val_main_v13
  by_cases hj : j.val < 2048
  · rw [dif_pos hj]
    refine (concatenate_apply_piece (t := S128x2049x8x64) 1 _ _ _ 0 (by simp) S128x2048x8x64 (val_main_v9 (F := Ideal) x0 x7) rfl rfl 0 rfl
      (ix4 b ⟨j.val, hj⟩ h d) ?_ (by show 0 + j.val = j.val; omega)).trans ?_
    · intro e he
      match e, he with
      | ⟨0, _⟩, _ => rfl
      | ⟨1, _⟩, he => exact absurd rfl he
      | ⟨2, _⟩, _ => rfl
      | ⟨3, _⟩, _ => rfl
    · rw [value_page x0 hP]
      exact congrArg₂ (pool x7 _ _) (head_lane h d).symm (Fin.ext hl.symm)
  · rw [dif_neg hj]
    refine (concatenate_apply_piece (t := S128x2049x8x64) 1 _ _ _ 1 (by simp) S128x1x8x64 (val_main_v12 (F := Ideal) x5) rfl rfl 2048 rfl
      (ix4 b 0 h d) ?_ (by show 2048 + 0 = j.val; omega)).trans ?_
    · intro e he
      match e, he with
      | ⟨0, _⟩, _ => rfl
      | ⟨1, _⟩, he => exact absurd rfl he
      | ⟨2, _⟩, _ => rfl
      | ⟨3, _⟩, _ => rfl
    · rw [val_main_v12_apply]
      refine congrArg x5 (funext fun e => Fin.ext ?_)
      match e with
      | ⟨0, _⟩ => show (((b.val * 1 + 0) * 8 + h.val) * 64 + d.val) / 512 = b.val; omega
      | ⟨1, _⟩ => show (((b.val * 1 + 0) * 8 + h.val) * 64 + d.val) % 512 = 64 * h.val + d.val; omega

theorem query_apply (x1 : S128x512.Idx → EReal) (b : Fin 128) (h : Fin 8) (d : Fin 64) :
    val_main_v1 (F := Ideal) x1 (ix3 b h d) = x1 (ix2 b (lane h d)) := by
  rw [val_main_v1_apply, val_main_v0_apply]
  refine congrArg x1 (funext fun e => Fin.ext ?_)
  match e with
  | ⟨0, _⟩ => show ((b.val * 8 + h.val) * 64 + d.val) / 512 = b.val; omega
  | ⟨1, _⟩ => show ((b.val * 8 + h.val) * 64 + d.val) % 512 = 64 * h.val + d.val; omega

/-- The selected scores of one head of one sequence. -/
def scores (x0 : S128x16.Idx → BitVec 32) (x1 : S128x512.Idx → EReal) (x2 : S128x2176.Idx → BitVec 32) (x3 : S8x2176.Idx → EReal) (x4 x5 : S128x512.Idx → EReal) (x6 x7 : S4x2560x128x8x64.Idx → EReal) (hP : ∀ b p, (x0 (ix2 b p)).toNat < 2560) (b : Fin 128) (h : Fin 8) : Fin 2049 → EReal :=
  score (fun c => x1 (ix2 b c)) (rowOf (pool x6) (pages x0 hP b) (fun c => x4 (ix2 b c))) (fun j => x3 (ix2 h ⟨j.val, by omega⟩))
    (fun j => decide (x2 (ix2 b ⟨j.val, by omega⟩) ≠ 0#32)) h

theorem dot_apply (x0 : S128x16.Idx → BitVec 32) (x1 : S128x512.Idx → EReal) (x2 : S128x2176.Idx → BitVec 32) (x3 : S8x2176.Idx → EReal) (x4 x5 : S128x512.Idx → EReal) (x6 x7 : S4x2560x128x8x64.Idx → EReal) (hP : ∀ b p, (x0 (ix2 b p)).toNat < 2560) (b : Fin 128) (h : Fin 8) (j : Fin 2049) :
    val_main_v14 (F := Ideal) x0 x1 x4 x6 (ix3 b h j)
      = dotHead (fun c => x1 (ix2 b c)) (rowOf (pool x6) (pages x0 hP b) (fun c => x4 (ix2 b c)) j) h := by
  rw [val_main_v14_apply]
  unfold dotHead
  refine Finset.sum_congr rfl fun d _ => congrArg₂ (· * ·) ?_ ?_
  · exact (congrArg _ (eq_ix3 _)).trans (query_apply x1 b h d)
  · exact (congrArg _ (eq_ix4 _)).trans (key_row x0 hP x4 x6 b j h d)

theorem negInf_eq : Ideal.ofBits FTy.f32 0xFF800000#32 = ⊥ := by
  simp [Ideal.ofBits, Ideal.ieee]

theorem two_eq : Ideal.ofBits FTy.f32 0x40000000#32 = ((2 : ℝ) : EReal) := by
  simp [Ideal.ofBits, Ideal.ieee, -EReal.coe_mul]; norm_num

theorem scores_apply (x0 : S128x16.Idx → BitVec 32) (x1 : S128x512.Idx → EReal) (x2 : S128x2176.Idx → BitVec 32) (x3 : S8x2176.Idx → EReal) (x4 x5 : S128x512.Idx → EReal) (x6 x7 : S4x2560x128x8x64.Idx → EReal) (hP : ∀ b p, (x0 (ix2 b p)).toNat < 2560) (b : Fin 128) (h : Fin 8) (j : Fin 2049) :
    val_main_v23 (F := Ideal) x0 x1 x2 x3 x4 x6 (ix3 b h j) = scores x0 x1 x2 x3 x4 x5 x6 x7 hP b h j := by
  have e1 : val_main_call2_v1 (F := Ideal) x2 (ix3 b h j) = if decide (x2 (ix2 b ⟨j.val, by omega⟩) ≠ 0#32) = true then 1#1 else 0#1 := by
    have e : val_main_call2_v1 (F := Ideal) x2 (ix3 b h j) = IntOp.cmpi .ne (x2 (ix2 b ⟨j.val, by omega⟩)) 0#32 := by
      pointwise [val_main_call2_v1, val_main_v22, val_main_v21, val_main_v19, val_main_v20, val_main_c]
    rw [e]
    by_cases hx : x2 (ix2 b ⟨j.val, by omega⟩) = 0#32
    · simp [IntOp.cmpi, hx]
    · have hb : (x2 (ix2 b ⟨j.val, by omega⟩) != 0#32) = true := bne_iff_ne.mpr hx
      simp [IntOp.cmpi, hx, hb]
  have e2 : val_main_v17 (F := Ideal) x3 (ix3 b h j) = x3 (ix2 h ⟨j.val, by omega⟩) := by
    pointwise [val_main_v17, val_main_v16, val_main_v15]
  have e3 : val_main_call2_v2 (F := Ideal) (ix3 b h j) = (⊥ : EReal) := negInf_eq
  rw [val_main_v23_apply, val_main_v18_apply, e1, e2, e3, dot_apply x0 x1 x2 x3 x4 x5 x6 x7 hP]
  unfold scores score
  by_cases hs : decide (x2 (ix2 b ⟨j.val, by omega⟩) ≠ 0#32) = true
  · rw [if_pos hs, if_pos hs]; simp [Scalar.select]
  · rw [if_neg hs, if_neg hs]; simp [Scalar.select]

theorem peak_apply (x0 : S128x16.Idx → BitVec 32) (x1 : S128x512.Idx → EReal) (x2 : S128x2176.Idx → BitVec 32) (x3 : S8x2176.Idx → EReal) (x4 x5 : S128x512.Idx → EReal) (x6 x7 : S4x2560x128x8x64.Idx → EReal) (hP : ∀ b p, (x0 (ix2 b p)).toNat < 2560) (b : Fin 128) (h : Fin 8) :
    val_main_v24 (F := Ideal) x0 x1 x2 x3 x4 x6 (ix2 b h) = peak (scores x0 x1 x2 x3 x4 x5 x6 x7 hP b h) := by
  unfold peak
  have e : val_main_v23 (F := Ideal) x0 x1 x2 x3 x4 x6 = fun i => scores x0 x1 x2 x3 x4 x5 x6 x7 hP (i 0) (i 1) (i 2) := funext fun i => by
    rw [eq_ix3 i]; exact scores_apply x0 x1 x2 x3 x4 x5 x6 x7 hP _ _ _
  unfold val_main_v24
  rw [e]
  pointwise [val_main_cst_0, negInf_eq]

theorem weight_apply (x0 : S128x16.Idx → BitVec 32) (x1 : S128x512.Idx → EReal) (x2 : S128x2176.Idx → BitVec 32) (x3 : S8x2176.Idx → EReal) (x4 x5 : S128x512.Idx → EReal) (x6 x7 : S4x2560x128x8x64.Idx → EReal) (hP : ∀ b p, (x0 (ix2 b p)).toNat < 2560) (b : Fin 128) (h : Fin 8) (j : Fin 2049) :
    val_main_v29 (F := Ideal) x0 x1 x2 x3 x4 x6 (ix3 b h j) = weight (scores x0 x1 x2 x3 x4 x5 x6 x7 hP b h) j := by
  have e : val_main_v26 (F := Ideal) x0 x1 x2 x3 x4 x6 (ix3 b h j) = peak (scores x0 x1 x2 x3 x4 x5 x6 x7 hP b h) := by
    rw [val_main_v26_apply, val_main_v25_apply]
    exact (congrArg _ (eq_ix2 _)).trans (peak_apply x0 x1 x2 x3 x4 x5 x6 x7 hP b h)
  rw [val_main_v29_apply, val_main_v27_apply, e, scores_apply x0 x1 x2 x3 x4 x5 x6 x7 hP]
  unfold weight
  rw [← pow_two]
  exact congrArg (fun z => Ideal.pow z _) two_eq

theorem total_apply (x0 : S128x16.Idx → BitVec 32) (x1 : S128x512.Idx → EReal) (x2 : S128x2176.Idx → BitVec 32) (x3 : S8x2176.Idx → EReal) (x4 x5 : S128x512.Idx → EReal) (x6 x7 : S4x2560x128x8x64.Idx → EReal) (hP : ∀ b p, (x0 (ix2 b p)).toNat < 2560) (b : Fin 128) (h : Fin 8) :
    val_main_v30 (F := Ideal) x0 x1 x2 x3 x4 x6 (ix2 b h) = ∑ j, weight (scores x0 x1 x2 x3 x4 x5 x6 x7 hP b h) j := by
  rw [val_main_v30_apply]
  refine Eq.trans (congrArg₂ (· + ·) (show _ = (0 : EReal) from Ideal.ofBits_zero_f32) (Finset.sum_congr rfl fun j _ => ?_)) (zero_add _)
  exact (congrArg _ (eq_ix3 _)).trans (weight_apply x0 x1 x2 x3 x4 x5 x6 x7 hP b h j)

theorem prob_apply (x0 : S128x16.Idx → BitVec 32) (x1 : S128x512.Idx → EReal) (x2 : S128x2176.Idx → BitVec 32) (x3 : S8x2176.Idx → EReal) (x4 x5 : S128x512.Idx → EReal) (x6 x7 : S4x2560x128x8x64.Idx → EReal) (hP : ∀ b p, (x0 (ix2 b p)).toNat < 2560) (b : Fin 128) (h : Fin 8) (j : Fin 2049) :
    val_main_v33 (F := Ideal) x0 x1 x2 x3 x4 x6 (ix3 b h j)
      = Ideal.div (weight (scores x0 x1 x2 x3 x4 x5 x6 x7 hP b h) j) (∑ i, weight (scores x0 x1 x2 x3 x4 x5 x6 x7 hP b h) i) := by
  have e : val_main_v32 (F := Ideal) x0 x1 x2 x3 x4 x6 (ix3 b h j) = ∑ i, weight (scores x0 x1 x2 x3 x4 x5 x6 x7 hP b h) i := by
    rw [val_main_v32_apply, val_main_v31_apply]
    exact (congrArg _ (eq_ix2 _)).trans (total_apply x0 x1 x2 x3 x4 x5 x6 x7 hP b h)
  rw [val_main_v33_apply, e, weight_apply x0 x1 x2 x3 x4 x5 x6 x7 hP]
  rfl

/-- The reference's result. -/
theorem result_apply (x0 : S128x16.Idx → BitVec 32) (x1 : S128x512.Idx → EReal) (x2 : S128x2176.Idx → BitVec 32) (x3 : S8x2176.Idx → EReal) (x4 x5 : S128x512.Idx → EReal) (x6 x7 : S4x2560x128x8x64.Idx → EReal) (hP : ∀ b p, (x0 (ix2 b p)).toNat < 2560) (b : Fin 128) (c : Fin 512) :
    val_main_v36 (F := Ideal) x0 x1 x2 x3 x4 x5 x6 x7 (ix3 b 0 c)
      = sampleAttn (fun c => x1 (ix2 b c)) (fun c => x4 (ix2 b c)) (fun c => x5 (ix2 b c)) (pool x6) (pool x7)
          (fun h j => x3 (ix2 h ⟨j.val, by omega⟩)) (fun j => decide (x2 (ix2 b ⟨j.val, by omega⟩) ≠ 0#32)) (pages x0 hP b) c := by
  have e0 : idx_main_v35 (ix3 b 0 c) = ix3 b (head c) ⟨c.val % 64, by omega⟩ := by
    funext e; apply Fin.ext
    match e with
    | ⟨0, _⟩ => show ((b.val * 1 + 0) * 512 + c.val) / 512 = b.val; omega
    | ⟨1, _⟩ => show ((b.val * 1 + 0) * 512 + c.val) / 64 % 8 = c.val / 64; omega
    | ⟨2, _⟩ => show ((b.val * 1 + 0) * 512 + c.val) % 64 = c.val % 64; omega
  rw [val_main_v36_apply, val_main_v35_apply, e0, val_main_v34_apply]
  unfold sampleAttn attend
  show (∑ j : Fin 2049, _ : EReal) = _
  refine Finset.sum_congr rfl fun j _ => congrArg₂ (· * ·) ?_ ?_
  · exact (congrArg _ (eq_ix3 _)).trans (prob_apply x0 x1 x2 x3 x4 x5 x6 x7 hP b (head c) j)
  · refine (congrArg _ (eq_ix4 _)).trans ((value_row x0 hP x5 x7 b j (head c) ⟨c.val % 64, by omega⟩).trans ?_)
    rw [lane_head]

end Cert.RefSattnIdeal.Hand
-- ==== Proof.SattnPages.lean ====
module

public import proofs.«01_k».proof.Proof.SattnBlocks
public import proofs.«01_k».proof.Proof.SattnKernel
public import proofs.«01_k».proof.Proof.SattnRef

/-! # The sample attention's blocks at a grid point

Point `t` handles sequence `t`: the small blocks are that sequence's rows, and page window `p` holds the page that word `p` of the
sequence's table row names. -/

@[expose] public section

set_option maxRecDepth 16384

noncomputable section

open Idealize.ShloMosaic Idealize.ShloMosaic.TcCoe Idealize.SL.Sem
open Idealize.ShloMosaic.Pipeline (Dat)

namespace Cert.SattnIdeal.Hand

open Cert.SattnIdeal Cert.SattnIdeal.Gen Cert.AttnMath
open Cert.RefSattnIdeal.Hand (pool pages)

variable (m : (ℓ : Loc nD τ sig) → Buf (Elt Ideal) ℓ)

/-- Every table word names a page of the pool. -/
def InPool (c : Dev nD) : Prop := ∀ b p, ((m ((c : Thread nD τ).loc main_arg0) : S128x16.Idx → BitVec 32) (ix2 b p)).toNat < 2560

/-- The prefetched table is the flattened page table: word `16 t + p` is entry `p` of sequence `t`. -/
theorem word (c : Dev nD) (t : Fin grid0.N) (b : Fin 128) (hb : b.val = t.val) (p : Fin 16) (n : Fin 2048) (hn : n.val = 16 * (grid0.coords t 0).val + p.val) :
    (tbl m 0 : S2048.Idx → BitVec 32) (ix1 n) = (m ((c : Thread nD τ).loc main_arg0) : S128x16.Idx → BitVec 32) (ix2 b p) := by
  obtain rfl : c = 0 := Subsingleton.elim _ _
  show (V m 0 main_v0 : S2048.Idx → BitVec 32) _ = _
  rw [V_table]
  refine Eq.trans (congrArg _ ?_) (table_apply _ b p)
  exact congrArg ix1 (Fin.ext (by rw [hn, coords_val, ← hb]))

theorem idx_0 : ∀ t : Fin grid0.N, cc0_transform_0 (grid0.coords t) 0 = t.val ∧ cc0_transform_0 (grid0.coords t) 1 = 0 ∧ cc0_transform_0 (grid0.coords t) 2 = 0 := by decide +kernel

theorem iblk_0 (hO : Ok m) (c : Dev nD) (t : Fin (cfgM m hO).N) (b : Fin 128) (hb : b.val = t.val) (k : Fin 512) :
    (iblk m hO c 0 t : S1x1x512.Idx → EReal) (ix3 0 0 k) = (m ((c : Thread nD τ).loc main_arg1) : S128x512.Idx → EReal) (ix2 b k) := by
  show (V m c main_v12 : S128x1x512.Idx → EReal) ((((cfgM m hO).win 0).blk t).view.emb (ix3 0 0 k)) = _
  rw [V_q]
  refine Eq.trans (congrArg _ (?_ : _ = ix3 b 0 k)) (row_apply (φ := .bf16) _ b k)
  funext a
  apply Fin.ext
  match a with
  | ⟨0, _⟩ => show cc0_transform_0 (grid0.coords t) 0 * 1 + 1 * 0 = b.val; rw [(idx_0 t).1]; omega
  | ⟨1, _⟩ => show cc0_transform_0 (grid0.coords t) 1 * 1 + 1 * 0 = 0; rw [(idx_0 t).2.1]
  | ⟨2, _⟩ => show cc0_transform_0 (grid0.coords t) 2 * 512 + 1 * k.val = k.val; rw [(idx_0 t).2.2]; omega

theorem idx_1 : ∀ t : Fin grid0.N, cc0_transform_1 (grid0.coords t) 0 = t.val ∧ cc0_transform_1 (grid0.coords t) 1 = 0 ∧ cc0_transform_1 (grid0.coords t) 2 = 0 := by decide +kernel

theorem iblk_1 (hO : Ok m) (c : Dev nD) (t : Fin (cfgM m hO).N) (b : Fin 128) (hb : b.val = t.val) (k : Fin 2176) :
    (iblk m hO c 1 t : S1x1x2176.Idx → EReal) (ix3 0 0 k) = maskOf (m ((c : Thread nD τ).loc main_arg2)) (ix2 b k) := by
  show (V m c main_v13 : S128x1x2176.Idx → EReal) ((((cfgM m hO).win 1).blk t).view.emb (ix3 0 0 k)) = _
  rw [V_mask]
  refine Eq.trans (congrArg _ (?_ : _ = ix3 b 0 k)) (maskRow_apply _ b k)
  funext a
  apply Fin.ext
  match a with
  | ⟨0, _⟩ => show cc0_transform_1 (grid0.coords t) 0 * 1 + 1 * 0 = b.val; rw [(idx_1 t).1]; omega
  | ⟨1, _⟩ => show cc0_transform_1 (grid0.coords t) 1 * 1 + 1 * 0 = 0; rw [(idx_1 t).2.1]
  | ⟨2, _⟩ => show cc0_transform_1 (grid0.coords t) 2 * 2176 + 1 * k.val = k.val; rw [(idx_1 t).2.2]; omega

theorem idx_3 : ∀ t : Fin grid0.N, cc0_transform_3 (grid0.coords t) 0 = t.val ∧ cc0_transform_3 (grid0.coords t) 1 = 0 ∧ cc0_transform_3 (grid0.coords t) 2 = 0 := by decide +kernel

theorem iblk_3 (hO : Ok m) (c : Dev nD) (t : Fin (cfgM m hO).N) (b : Fin 128) (hb : b.val = t.val) (k : Fin 512) :
    (iblk m hO c 3 t : S1x1x512.Idx → EReal) (ix3 0 0 k) = (m ((c : Thread nD τ).loc main_arg4) : S128x512.Idx → EReal) (ix2 b k) := by
  show (V m c main_v14 : S128x1x512.Idx → EReal) ((((cfgM m hO).win 3).blk t).view.emb (ix3 0 0 k)) = _
  rw [V_kn]
  refine Eq.trans (congrArg _ (?_ : _ = ix3 b 0 k)) (row_apply (φ := .f32) _ b k)
  funext a
  apply Fin.ext
  match a with
  | ⟨0, _⟩ => show cc0_transform_3 (grid0.coords t) 0 * 1 + 1 * 0 = b.val; rw [(idx_3 t).1]; omega
  | ⟨1, _⟩ => show cc0_transform_3 (grid0.coords t) 1 * 1 + 1 * 0 = 0; rw [(idx_3 t).2.1]
  | ⟨2, _⟩ => show cc0_transform_3 (grid0.coords t) 2 * 512 + 1 * k.val = k.val; rw [(idx_3 t).2.2]; omega

theorem idx_4 : ∀ t : Fin grid0.N, cc0_transform_4 (grid0.coords t) 0 = t.val ∧ cc0_transform_4 (grid0.coords t) 1 = 0 ∧ cc0_transform_4 (grid0.coords t) 2 = 0 := by decide +kernel

theorem iblk_4 (hO : Ok m) (c : Dev nD) (t : Fin (cfgM m hO).N) (b : Fin 128) (hb : b.val = t.val) (k : Fin 512) :
    (iblk m hO c 4 t : S1x1x512.Idx → EReal) (ix3 0 0 k) = (m ((c : Thread nD τ).loc main_arg5) : S128x512.Idx → EReal) (ix2 b k) := by
  show (V m c main_v15 : S128x1x512.Idx → EReal) ((((cfgM m hO).win 4).blk t).view.emb (ix3 0 0 k)) = _
  rw [V_vn]
  refine Eq.trans (congrArg _ (?_ : _ = ix3 b 0 k)) (row_apply (φ := .f32) _ b k)
  funext a
  apply Fin.ext
  match a with
  | ⟨0, _⟩ => show cc0_transform_4 (grid0.coords t) 0 * 1 + 1 * 0 = b.val; rw [(idx_4 t).1]; omega
  | ⟨1, _⟩ => show cc0_transform_4 (grid0.coords t) 1 * 1 + 1 * 0 = 0; rw [(idx_4 t).2.1]
  | ⟨2, _⟩ => show cc0_transform_4 (grid0.coords t) 2 * 512 + 1 * k.val = k.val; rw [(idx_4 t).2.2]; omega

theorem idx_2 : ∀ t : Fin grid0.N, cc0_transform_2 (grid0.coords t) 0 = 0 ∧ cc0_transform_2 (grid0.coords t) 1 = 0 := by decide +kernel

theorem iblk_2 (hO : Ok m) (c : Dev nD) (t : Fin (cfgM m hO).N) (h : Fin 8) (k : Fin 2176) :
    (iblk m hO c 2 t : S8x2176.Idx → EReal) (ix2 h k) = (m ((c : Thread nD τ).loc main_arg3) : S8x2176.Idx → EReal) (ix2 h k) := by
  show (V m c main_arg3 : S8x2176.Idx → EReal) ((((cfgM m hO).win 2).blk t).view.emb (ix2 h k)) = _
  rw [V_main_arg3]
  refine congrArg _ (?_ : _ = ix2 h k)
  funext a
  apply Fin.ext
  match a with
  | ⟨0, _⟩ => show cc0_transform_2 (grid0.coords t) 0 * 8 + 1 * h.val = h.val; rw [(idx_2 t).1]; omega
  | ⟨1, _⟩ => show cc0_transform_2 (grid0.coords t) 1 * 2176 + 1 * k.val = k.val; rw [(idx_2 t).2]; omega

/-! ## The page windows -/

/-- Where a page window's element lies in the pool: block `n` of the page axis, the same lane and row. -/
theorem page_pos (f : Fin 4 → Nat) (l : Fin 512) (s : Fin 128) {x : BitVec 32} (e : f = ![0, x.toNat, 0, 0]) (n : Fin 2560) (hn : n.val = x.toNat)
    (y : S4x2560x512x128.Idx) (hy : ∀ a, (y a).val = f a * S1x1x512x128.size a + 1 * ((ix4 0 0 l s : S1x1x512x128.Idx) a).val) : y = ix4 0 n l s := by
  subst e
  funext a
  apply Fin.ext
  rw [hy a]
  match a with
  | ⟨0, _⟩ => rfl
  | ⟨1, _⟩ => show x.toNat * 1 + 1 * 0 = n.val; omega
  | ⟨2, _⟩ => show 0 * 512 + 1 * l.val = l.val; omega
  | ⟨3, _⟩ => show 0 * 128 + 1 * s.val = s.val; omega

/-- What a page window reads from a pool laid out page by page, lane by lane, is the pool's entry. -/
theorem page_read {X : S4x2560x512x128.Idx → EReal} {x : Vec Ideal S4x2560x128x8x64 .f32}
    (hX : X = shapeCast S4x2560x512x128 (transpose S4x2560x8x64x128 [0, 1, 3, 4, 2] x transposes_S4x2560x128x8x64_S4x2560x8x64x128_0_1_3_4_2) shapeCasts_S4x2560x8x64x128_S4x2560x512x128)
    {f : Fin 4 → Nat} {w : BitVec 32} (e : f = ![0, w.toNat, 0, 0]) (n : Fin 2560) (hn : n.val = w.toNat) (y : S4x2560x512x128.Idx) (l : Fin 512) (s : Fin 128)
    (hy : ∀ a, (y a).val = f a * S1x1x512x128.size a + 1 * ((ix4 0 0 l s : S1x1x512x128.Idx) a).val) : X y = pool x n s (head l) ⟨l.val % 64, by omega⟩ := by
  rw [hX, page_pos f l s e n hn y hy]
  exact pages_apply x n l s

/-- The table word of entry `p` names that entry's page. -/
theorem word_page (c : Dev nD) (hP : InPool m c) (t : Fin grid0.N) (b : Fin 128) (hb : b.val = t.val) (p : Fin 16) :
    (pages (m ((c : Thread nD τ).loc main_arg0)) hP b p).val = ((tbl m 0 : S2048.Idx → BitVec 32) (ix1 (wordAt (grid0.coords t 0) p))).toNat :=
  (congrArg BitVec.toNat (word m c t b hb p _ rfl)).symm

/-- Rows read from page blocks that hold the pool's pages are the sequence's rows. -/
theorem rowAt_eq (X0 X1 X2 X3 X4 X5 X6 X7 X8 X9 X10 X11 X12 X13 X14 X15 : Vec Ideal S1x1x512x128 .f32) (x : Vec Ideal S1x1x512 .f32) (C : Fin 2560 → Fin 128 → Fin 8 → Fin 64 → EReal) (P : Fin 16 → Fin 2560) (kn : Fin 512 → EReal)
    (h0 : ∀ (l : Fin 512) (s : Fin 128), X0 (ix4 0 0 l s) = C (P 0) s (head l) ⟨l.val % 64, by omega⟩)
    (h1 : ∀ (l : Fin 512) (s : Fin 128), X1 (ix4 0 0 l s) = C (P 1) s (head l) ⟨l.val % 64, by omega⟩)
    (h2 : ∀ (l : Fin 512) (s : Fin 128), X2 (ix4 0 0 l s) = C (P 2) s (head l) ⟨l.val % 64, by omega⟩)
    (h3 : ∀ (l : Fin 512) (s : Fin 128), X3 (ix4 0 0 l s) = C (P 3) s (head l) ⟨l.val % 64, by omega⟩)
    (h4 : ∀ (l : Fin 512) (s : Fin 128), X4 (ix4 0 0 l s) = C (P 4) s (head l) ⟨l.val % 64, by omega⟩)
    (h5 : ∀ (l : Fin 512) (s : Fin 128), X5 (ix4 0 0 l s) = C (P 5) s (head l) ⟨l.val % 64, by omega⟩)
    (h6 : ∀ (l : Fin 512) (s : Fin 128), X6 (ix4 0 0 l s) = C (P 6) s (head l) ⟨l.val % 64, by omega⟩)
    (h7 : ∀ (l : Fin 512) (s : Fin 128), X7 (ix4 0 0 l s) = C (P 7) s (head l) ⟨l.val % 64, by omega⟩)
    (h8 : ∀ (l : Fin 512) (s : Fin 128), X8 (ix4 0 0 l s) = C (P 8) s (head l) ⟨l.val % 64, by omega⟩)
    (h9 : ∀ (l : Fin 512) (s : Fin 128), X9 (ix4 0 0 l s) = C (P 9) s (head l) ⟨l.val % 64, by omega⟩)
    (h10 : ∀ (l : Fin 512) (s : Fin 128), X10 (ix4 0 0 l s) = C (P 10) s (head l) ⟨l.val % 64, by omega⟩)
    (h11 : ∀ (l : Fin 512) (s : Fin 128), X11 (ix4 0 0 l s) = C (P 11) s (head l) ⟨l.val % 64, by omega⟩)
    (h12 : ∀ (l : Fin 512) (s : Fin 128), X12 (ix4 0 0 l s) = C (P 12) s (head l) ⟨l.val % 64, by omega⟩)
    (h13 : ∀ (l : Fin 512) (s : Fin 128), X13 (ix4 0 0 l s) = C (P 13) s (head l) ⟨l.val % 64, by omega⟩)
    (h14 : ∀ (l : Fin 512) (s : Fin 128), X14 (ix4 0 0 l s) = C (P 14) s (head l) ⟨l.val % 64, by omega⟩)
    (h15 : ∀ (l : Fin 512) (s : Fin 128), X15 (ix4 0 0 l s) = C (P 15) s (head l) ⟨l.val % 64, by omega⟩)
    (hx : ∀ l, x (ix3 0 0 l) = kn l) : rowAt ![X0, X1, X2, X3, X4, X5, X6, X7, X8, X9, X10, X11, X12, X13, X14, X15] x = rowOf C P kn := by
  funext j l
  have hX : ∀ (p : Fin 16) (s : Fin 128), (![X0, X1, X2, X3, X4, X5, X6, X7, X8, X9, X10, X11, X12, X13, X14, X15] : Fin 16 → Vec Ideal S1x1x512x128 .f32) p (ix4 0 0 l s) = C (P p) s (head l) ⟨l.val % 64, by omega⟩ := by
    intro p s
    match p with
    | ⟨0, _⟩ => exact h0 l s
    | ⟨1, _⟩ => exact h1 l s
    | ⟨2, _⟩ => exact h2 l s
    | ⟨3, _⟩ => exact h3 l s
    | ⟨4, _⟩ => exact h4 l s
    | ⟨5, _⟩ => exact h5 l s
    | ⟨6, _⟩ => exact h6 l s
    | ⟨7, _⟩ => exact h7 l s
    | ⟨8, _⟩ => exact h8 l s
    | ⟨9, _⟩ => exact h9 l s
    | ⟨10, _⟩ => exact h10 l s
    | ⟨11, _⟩ => exact h11 l s
    | ⟨12, _⟩ => exact h12 l s
    | ⟨13, _⟩ => exact h13 l s
    | ⟨14, _⟩ => exact h14 l s
    | ⟨15, _⟩ => exact h15 l s
    | ⟨n + 16, h⟩ => exact absurd h (by omega)
  unfold rowAt rowOf
  by_cases h : j.val < 2048
  · rw [dif_pos h, dif_pos h]; exact hX _ _
  · rw [dif_neg h, dif_neg h]; exact hx l

set_option maxHeartbeats 4000000 in
/-- The sixteen page windows and the new row, as one array of 2049 rows. -/
theorem keys_eq (hO : Ok m) (c : Dev nD) (hP : InPool m c)
    (t : Fin (cfgM m hO).N) (b : Fin 128) (hb : b.val = t.val) :
    rowAt ![(iblk m hO c 5 t : Vec Ideal S1x1x512x128 .f32), (iblk m hO c 6 t : Vec Ideal S1x1x512x128 .f32), (iblk m hO c 7 t : Vec Ideal S1x1x512x128 .f32), (iblk m hO c 8 t : Vec Ideal S1x1x512x128 .f32), (iblk m hO c 9 t : Vec Ideal S1x1x512x128 .f32), (iblk m hO c 10 t : Vec Ideal S1x1x512x128 .f32), (iblk m hO c 11 t : Vec Ideal S1x1x512x128 .f32), (iblk m hO c 12 t : Vec Ideal S1x1x512x128 .f32), (iblk m hO c 13 t : Vec Ideal S1x1x512x128 .f32), (iblk m hO c 14 t : Vec Ideal S1x1x512x128 .f32), (iblk m hO c 15 t : Vec Ideal S1x1x512x128 .f32), (iblk m hO c 16 t : Vec Ideal S1x1x512x128 .f32), (iblk m hO c 17 t : Vec Ideal S1x1x512x128 .f32), (iblk m hO c 18 t : Vec Ideal S1x1x512x128 .f32), (iblk m hO c 19 t : Vec Ideal S1x1x512x128 .f32), (iblk m hO c 20 t : Vec Ideal S1x1x512x128 .f32)] (iblk m hO c 3 t : Vec Ideal S1x1x512 .f32)
      = rowOf (pool (m ((c : Thread nD τ).loc main_arg6))) (pages (m ((c : Thread nD τ).loc main_arg0)) hP b) (fun k => (m ((c : Thread nD τ).loc main_arg4) : S128x512.Idx → EReal) (ix2 b k)) := by
  exact rowAt_eq _ _ _ _ _ _ _ _ _ _ _ _ _ _ _ _ _ _ _ _
    (fun l s => page_read (f := cc0_transform_5 k0_off1_inb numel1_S1 (tbl m) (grid0.coords t)) (V_keys m c) (tr_of (tbl m) (grid0.coords t) 0) _ (word_page m c hP t b hb 0) ((((cfgM m hO).win 5).blk t).view.emb (ix4 0 0 l s)) l s (fun _ => rfl))
    (fun l s => page_read (f := cc0_transform_6 k0_off1_inb numel1_S1 (tbl m) (grid0.coords t)) (V_keys m c) (tr_of (tbl m) (grid0.coords t) 1) _ (word_page m c hP t b hb 1) ((((cfgM m hO).win 6).blk t).view.emb (ix4 0 0 l s)) l s (fun _ => rfl))
    (fun l s => page_read (f := cc0_transform_7 k0_off1_inb numel1_S1 (tbl m) (grid0.coords t)) (V_keys m c) (tr_of (tbl m) (grid0.coords t) 2) _ (word_page m c hP t b hb 2) ((((cfgM m hO).win 7).blk t).view.emb (ix4 0 0 l s)) l s (fun _ => rfl))
    (fun l s => page_read (f := cc0_transform_8 k0_off1_inb numel1_S1 (tbl m) (grid0.coords t)) (V_keys m c) (tr_of (tbl m) (grid0.coords t) 3) _ (word_page m c hP t b hb 3) ((((cfgM m hO).win 8).blk t).view.emb (ix4 0 0 l s)) l s (fun _ => rfl))
    (fun l s => page_read (f := cc0_transform_9 k0_off1_inb numel1_S1 (tbl m) (grid0.coords t)) (V_keys m c) (tr_of (tbl m) (grid0.coords t) 4) _ (word_page m c hP t b hb 4) ((((cfgM m hO).win 9).blk t).view.emb (ix4 0 0 l s)) l s (fun _ => rfl))
    (fun l s => page_read (f := cc0_transform_10 k0_off1_inb numel1_S1 (tbl m) (grid0.coords t)) (V_keys m c) (tr_of (tbl m) (grid0.coords t) 5) _ (word_page m c hP t b hb 5) ((((cfgM m hO).win 10).blk t).view.emb (ix4 0 0 l s)) l s (fun _ => rfl))
    (fun l s => page_read (f := cc0_transform_11 k0_off1_inb numel1_S1 (tbl m) (grid0.coords t)) (V_keys m c) (tr_of (tbl m) (grid0.coords t) 6) _ (word_page m c hP t b hb 6) ((((cfgM m hO).win 11).blk t).view.emb (ix4 0 0 l s)) l s (fun _ => rfl))
    (fun l s => page_read (f := cc0_transform_12 k0_off1_inb numel1_S1 (tbl m) (grid0.coords t)) (V_keys m c) (tr_of (tbl m) (grid0.coords t) 7) _ (word_page m c hP t b hb 7) ((((cfgM m hO).win 12).blk t).view.emb (ix4 0 0 l s)) l s (fun _ => rfl))
    (fun l s => page_read (f := cc0_transform_13 k0_off1_inb numel1_S1 (tbl m) (grid0.coords t)) (V_keys m c) (tr_of (tbl m) (grid0.coords t) 8) _ (word_page m c hP t b hb 8) ((((cfgM m hO).win 13).blk t).view.emb (ix4 0 0 l s)) l s (fun _ => rfl))
    (fun l s => page_read (f := cc0_transform_14 k0_off1_inb numel1_S1 (tbl m) (grid0.coords t)) (V_keys m c) (tr_of (tbl m) (grid0.coords t) 9) _ (word_page m c hP t b hb 9) ((((cfgM m hO).win 14).blk t).view.emb (ix4 0 0 l s)) l s (fun _ => rfl))
    (fun l s => page_read (f := cc0_transform_15 k0_off1_inb numel1_S1 (tbl m) (grid0.coords t)) (V_keys m c) (tr_of (tbl m) (grid0.coords t) 10) _ (word_page m c hP t b hb 10) ((((cfgM m hO).win 15).blk t).view.emb (ix4 0 0 l s)) l s (fun _ => rfl))
    (fun l s => page_read (f := cc0_transform_16 k0_off1_inb numel1_S1 (tbl m) (grid0.coords t)) (V_keys m c) (tr_of (tbl m) (grid0.coords t) 11) _ (word_page m c hP t b hb 11) ((((cfgM m hO).win 16).blk t).view.emb (ix4 0 0 l s)) l s (fun _ => rfl))
    (fun l s => page_read (f := cc0_transform_17 k0_off1_inb numel1_S1 (tbl m) (grid0.coords t)) (V_keys m c) (tr_of (tbl m) (grid0.coords t) 12) _ (word_page m c hP t b hb 12) ((((cfgM m hO).win 17).blk t).view.emb (ix4 0 0 l s)) l s (fun _ => rfl))
    (fun l s => page_read (f := cc0_transform_18 k0_off1_inb numel1_S1 (tbl m) (grid0.coords t)) (V_keys m c) (tr_of (tbl m) (grid0.coords t) 13) _ (word_page m c hP t b hb 13) ((((cfgM m hO).win 18).blk t).view.emb (ix4 0 0 l s)) l s (fun _ => rfl))
    (fun l s => page_read (f := cc0_transform_19 k0_off1_inb numel1_S1 (tbl m) (grid0.coords t)) (V_keys m c) (tr_of (tbl m) (grid0.coords t) 14) _ (word_page m c hP t b hb 14) ((((cfgM m hO).win 19).blk t).view.emb (ix4 0 0 l s)) l s (fun _ => rfl))
    (fun l s => page_read (f := cc0_transform_20 k0_off1_inb numel1_S1 (tbl m) (grid0.coords t)) (V_keys m c) (tr_of (tbl m) (grid0.coords t) 15) _ (word_page m c hP t b hb 15) ((((cfgM m hO).win 20).blk t).view.emb (ix4 0 0 l s)) l s (fun _ => rfl))
    (fun l => iblk_3 m hO c t b hb l)

set_option maxHeartbeats 4000000 in
/-- The sixteen page windows and the new row, as one array of 2049 rows. -/
theorem values_eq (hO : Ok m) (c : Dev nD) (hP : InPool m c)
    (t : Fin (cfgM m hO).N) (b : Fin 128) (hb : b.val = t.val) :
    rowAt ![(iblk m hO c 21 t : Vec Ideal S1x1x512x128 .f32), (iblk m hO c 22 t : Vec Ideal S1x1x512x128 .f32), (iblk m hO c 23 t : Vec Ideal S1x1x512x128 .f32), (iblk m hO c 24 t : Vec Ideal S1x1x512x128 .f32), (iblk m hO c 25 t : Vec Ideal S1x1x512x128 .f32), (iblk m hO c 26 t : Vec Ideal S1x1x512x128 .f32), (iblk m hO c 27 t : Vec Ideal S1x1x512x128 .f32), (iblk m hO c 28 t : Vec Ideal S1x1x512x128 .f32), (iblk m hO c 29 t : Vec Ideal S1x1x512x128 .f32), (iblk m hO c 30 t : Vec Ideal S1x1x512x128 .f32), (iblk m hO c 31 t : Vec Ideal S1x1x512x128 .f32), (iblk m hO c 32 t : Vec Ideal S1x1x512x128 .f32), (iblk m hO c 33 t : Vec Ideal S1x1x512x128 .f32), (iblk m hO c 34 t : Vec Ideal S1x1x512x128 .f32), (iblk m hO c 35 t : Vec Ideal S1x1x512x128 .f32), (iblk m hO c 36 t : Vec Ideal S1x1x512x128 .f32)] (iblk m hO c 4 t : Vec Ideal S1x1x512 .f32)
      = rowOf (pool (m ((c : Thread nD τ).loc main_arg7))) (pages (m ((c : Thread nD τ).loc main_arg0)) hP b) (fun k => (m ((c : Thread nD τ).loc main_arg5) : S128x512.Idx → EReal) (ix2 b k)) := by
  exact rowAt_eq _ _ _ _ _ _ _ _ _ _ _ _ _ _ _ _ _ _ _ _
    (fun l s => page_read (f := cc0_transform_21 k0_off1_inb numel1_S1 (tbl m) (grid0.coords t)) (V_values m c) (tr_of (tbl m) (grid0.coords t) 0) _ (word_page m c hP t b hb 0) ((((cfgM m hO).win 21).blk t).view.emb (ix4 0 0 l s)) l s (fun _ => rfl))
    (fun l s => page_read (f := cc0_transform_22 k0_off1_inb numel1_S1 (tbl m) (grid0.coords t)) (V_values m c) (tr_of (tbl m) (grid0.coords t) 1) _ (word_page m c hP t b hb 1) ((((cfgM m hO).win 22).blk t).view.emb (ix4 0 0 l s)) l s (fun _ => rfl))
    (fun l s => page_read (f := cc0_transform_23 k0_off1_inb numel1_S1 (tbl m) (grid0.coords t)) (V_values m c) (tr_of (tbl m) (grid0.coords t) 2) _ (word_page m c hP t b hb 2) ((((cfgM m hO).win 23).blk t).view.emb (ix4 0 0 l s)) l s (fun _ => rfl))
    (fun l s => page_read (f := cc0_transform_24 k0_off1_inb numel1_S1 (tbl m) (grid0.coords t)) (V_values m c) (tr_of (tbl m) (grid0.coords t) 3) _ (word_page m c hP t b hb 3) ((((cfgM m hO).win 24).blk t).view.emb (ix4 0 0 l s)) l s (fun _ => rfl))
    (fun l s => page_read (f := cc0_transform_25 k0_off1_inb numel1_S1 (tbl m) (grid0.coords t)) (V_values m c) (tr_of (tbl m) (grid0.coords t) 4) _ (word_page m c hP t b hb 4) ((((cfgM m hO).win 25).blk t).view.emb (ix4 0 0 l s)) l s (fun _ => rfl))
    (fun l s => page_read (f := cc0_transform_26 k0_off1_inb numel1_S1 (tbl m) (grid0.coords t)) (V_values m c) (tr_of (tbl m) (grid0.coords t) 5) _ (word_page m c hP t b hb 5) ((((cfgM m hO).win 26).blk t).view.emb (ix4 0 0 l s)) l s (fun _ => rfl))
    (fun l s => page_read (f := cc0_transform_27 k0_off1_inb numel1_S1 (tbl m) (grid0.coords t)) (V_values m c) (tr_of (tbl m) (grid0.coords t) 6) _ (word_page m c hP t b hb 6) ((((cfgM m hO).win 27).blk t).view.emb (ix4 0 0 l s)) l s (fun _ => rfl))
    (fun l s => page_read (f := cc0_transform_28 k0_off1_inb numel1_S1 (tbl m) (grid0.coords t)) (V_values m c) (tr_of (tbl m) (grid0.coords t) 7) _ (word_page m c hP t b hb 7) ((((cfgM m hO).win 28).blk t).view.emb (ix4 0 0 l s)) l s (fun _ => rfl))
    (fun l s => page_read (f := cc0_transform_29 k0_off1_inb numel1_S1 (tbl m) (grid0.coords t)) (V_values m c) (tr_of (tbl m) (grid0.coords t) 8) _ (word_page m c hP t b hb 8) ((((cfgM m hO).win 29).blk t).view.emb (ix4 0 0 l s)) l s (fun _ => rfl))
    (fun l s => page_read (f := cc0_transform_30 k0_off1_inb numel1_S1 (tbl m) (grid0.coords t)) (V_values m c) (tr_of (tbl m) (grid0.coords t) 9) _ (word_page m c hP t b hb 9) ((((cfgM m hO).win 30).blk t).view.emb (ix4 0 0 l s)) l s (fun _ => rfl))
    (fun l s => page_read (f := cc0_transform_31 k0_off1_inb numel1_S1 (tbl m) (grid0.coords t)) (V_values m c) (tr_of (tbl m) (grid0.coords t) 10) _ (word_page m c hP t b hb 10) ((((cfgM m hO).win 31).blk t).view.emb (ix4 0 0 l s)) l s (fun _ => rfl))
    (fun l s => page_read (f := cc0_transform_32 k0_off1_inb numel1_S1 (tbl m) (grid0.coords t)) (V_values m c) (tr_of (tbl m) (grid0.coords t) 11) _ (word_page m c hP t b hb 11) ((((cfgM m hO).win 32).blk t).view.emb (ix4 0 0 l s)) l s (fun _ => rfl))
    (fun l s => page_read (f := cc0_transform_33 k0_off1_inb numel1_S1 (tbl m) (grid0.coords t)) (V_values m c) (tr_of (tbl m) (grid0.coords t) 12) _ (word_page m c hP t b hb 12) ((((cfgM m hO).win 33).blk t).view.emb (ix4 0 0 l s)) l s (fun _ => rfl))
    (fun l s => page_read (f := cc0_transform_34 k0_off1_inb numel1_S1 (tbl m) (grid0.coords t)) (V_values m c) (tr_of (tbl m) (grid0.coords t) 13) _ (word_page m c hP t b hb 13) ((((cfgM m hO).win 34).blk t).view.emb (ix4 0 0 l s)) l s (fun _ => rfl))
    (fun l s => page_read (f := cc0_transform_35 k0_off1_inb numel1_S1 (tbl m) (grid0.coords t)) (V_values m c) (tr_of (tbl m) (grid0.coords t) 14) _ (word_page m c hP t b hb 14) ((((cfgM m hO).win 35).blk t).view.emb (ix4 0 0 l s)) l s (fun _ => rfl))
    (fun l s => page_read (f := cc0_transform_36 k0_off1_inb numel1_S1 (tbl m) (grid0.coords t)) (V_values m c) (tr_of (tbl m) (grid0.coords t) 15) _ (word_page m c hP t b hb 15) ((((cfgM m hO).win 36).blk t).view.emb (ix4 0 0 l s)) l s (fun _ => rfl))
    (fun l => iblk_4 m hO c t b hb l)

end Cert.SattnIdeal.Hand

end
-- ==== Proof.SattnIdealRun.lean ====
module

public import proofs.«01_k».proof.Proof.Gen.SattnIdeal.Frame.Runs

@[expose] public section

/-! The body of the attention call run once, on whole staging buffers: the skeletons are opened only after the
buffers' contents have been named. -/

set_option maxRecDepth 16384

noncomputable section

namespace Cert.SattnIdeal.Attn

open Cert.SattnIdeal Cert.SattnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 0 in
/-- The pieces the body's stores leave in the output's staging buffer, with the proof that from whole staging buffers the
    body runs to its end, the inputs' buffers as they were and the output's holding those pieces. -/
noncomputable def kernelRun0_A (c : Dev nD) (i : grid0.Coords) (arg2 : Memref sig .tc .vmem S1x1x512 .bf16) (harg2 : arg2.IsWhole) (arg3 : Memref sig .tc .vmem S1x1x2176 .f32) (harg3 : arg3.IsWhole) (arg4 : Memref sig .tc .vmem S8x2176 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x1x512x128 .f32) (harg7 : arg7.IsWhole) (arg8 : Memref sig .tc .vmem S1x1x512x128 .f32) (harg8 : arg8.IsWhole) (arg9 : Memref sig .tc .vmem S1x1x512x128 .f32) (harg9 : arg9.IsWhole) (arg10 : Memref sig .tc .vmem S1x1x512x128 .f32) (harg10 : arg10.IsWhole) (arg11 : Memref sig .tc .vmem S1x1x512x128 .f32) (harg11 : arg11.IsWhole) (arg12 : Memref sig .tc .vmem S1x1x512x128 .f32) (harg12 : arg12.IsWhole) (arg13 : Memref sig .tc .vmem S1x1x512x128 .f32) (harg13 : arg13.IsWhole) (arg14 : Memref sig .tc .vmem S1x1x512x128 .f32) (harg14 : arg14.IsWhole) (arg15 : Memref sig .tc .vmem S1x1x512x128 .f32) (harg15 : arg15.IsWhole) (arg16 : Memref sig .tc .vmem S1x1x512x128 .f32) (harg16 : arg16.IsWhole) (arg17 : Memref sig .tc .vmem S1x1x512x128 .f32) (harg17 : arg17.IsWhole) (arg18 : Memref sig .tc .vmem S1x1x512x128 .f32) (harg18 : arg18.IsWhole) (arg19 : Memref sig .tc .vmem S1x1x512x128 .f32) (harg19 : arg19.IsWhole) (arg20 : Memref sig .tc .vmem S1x1x512x128 .f32) (harg20 : arg20.IsWhole) (arg21 : Memref sig .tc .vmem S1x1x512x128 .f32) (harg21 : arg21.IsWhole) (arg22 : Memref sig .tc .vmem S1x1x512x128 .f32) (harg22 : arg22.IsWhole) (arg23 : Memref sig .tc .vmem S1x1x512x128 .f32) (harg23 : arg23.IsWhole) (arg24 : Memref sig .tc .vmem S1x1x512x128 .f32) (harg24 : arg24.IsWhole) (arg25 : Memref sig .tc .vmem S1x1x512x128 .f32) (harg25 : arg25.IsWhole) (arg26 : Memref sig .tc .vmem S1x1x512x128 .f32) (harg26 : arg26.IsWhole) (arg27 : Memref sig .tc .vmem S1x1x512x128 .f32) (harg27 : arg27.IsWhole) (arg28 : Memref sig .tc .vmem S1x1x512x128 .f32) (harg28 : arg28.IsWhole) (arg29 : Memref sig .tc .vmem S1x1x512x128 .f32) (harg29 : arg29.IsWhole) (arg30 : Memref sig .tc .vmem S1x1x512x128 .f32) (harg30 : arg30.IsWhole) (arg31 : Memref sig .tc .vmem S1x1x512x128 .f32) (harg31 : arg31.IsWhole) (arg32 : Memref sig .tc .vmem S1x1x512x128 .f32) (harg32 : arg32.IsWhole) (arg33 : Memref sig .tc .vmem S1x1x512x128 .f32) (harg33 : arg33.IsWhole) (arg34 : Memref sig .tc .vmem S1x1x512x128 .f32) (harg34 : arg34.IsWhole) (arg35 : Memref sig .tc .vmem S1x1x512x128 .f32) (harg35 : arg35.IsWhole) (arg36 : Memref sig .tc .vmem S1x1x512x128 .f32) (harg36 : arg36.IsWhole) (arg37 : Memref sig .tc .vmem S1x1x512x128 .f32) (harg37 : arg37.IsWhole) (arg38 : Memref sig .tc .vmem S1x1x512x128 .f32) (harg38 : arg38.IsWhole) (arg39 : Memref sig .tc .vmem S1x1x512 .bf16) (harg39 : arg39.IsWhole)
    (x0 : Vec F S1x1x512 .bf16) (x1 : Vec F S1x1x2176 .f32) (x2 : Vec F S8x2176 .f32) (x3 : Vec F S1x1x512 .f32) (x4 : Vec F S1x1x512 .f32) (x5 : Vec F S1x1x512x128 .f32) (x6 : Vec F S1x1x512x128 .f32) (x7 : Vec F S1x1x512x128 .f32) (x8 : Vec F S1x1x512x128 .f32) (x9 : Vec F S1x1x512x128 .f32) (x10 : Vec F S1x1x512x128 .f32) (x11 : Vec F S1x1x512x128 .f32) (x12 : Vec F S1x1x512x128 .f32) (x13 : Vec F S1x1x512x128 .f32) (x14 : Vec F S1x1x512x128 .f32) (x15 : Vec F S1x1x512x128 .f32) (x16 : Vec F S1x1x512x128 .f32) (x17 : Vec F S1x1x512x128 .f32) (x18 : Vec F S1x1x512x128 .f32) (x19 : Vec F S1x1x512x128 .f32) (x20 : Vec F S1x1x512x128 .f32) (x21 : Vec F S1x1x512x128 .f32) (x22 : Vec F S1x1x512x128 .f32) (x23 : Vec F S1x1x512x128 .f32) (x24 : Vec F S1x1x512x128 .f32) (x25 : Vec F S1x1x512x128 .f32) (x26 : Vec F S1x1x512x128 .f32) (x27 : Vec F S1x1x512x128 .f32) (x28 : Vec F S1x1x512x128 .f32) (x29 : Vec F S1x1x512x128 .f32) (x30 : Vec F S1x1x512x128 .f32) (x31 : Vec F S1x1x512x128 .f32) (x32 : Vec F S1x1x512x128 .f32) (x33 : Vec F S1x1x512x128 .f32) (x34 : Vec F S1x1x512x128 .f32) (x35 : Vec F S1x1x512x128 .f32) (x36 : Vec F S1x1x512x128 .f32) (xt0 : TbBuf0 (F := F) c tbM0_0) :
    { L37 : List (View.Piece (Elt F) S1x1x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare x29 ∗ owns (c : Thread nD τ) arg32 fullShare x30 ∗ owns (c : Thread nD τ) arg33 fullShare x31 ∗ owns (c : Thread nD τ) arg34 fullShare x32 ∗ owns (c : Thread nD τ) arg35 fullShare x33 ∗ owns (c : Thread nD τ) arg36 fullShare x34 ∗ owns (c : Thread nD τ) arg37 fullShare x35 ∗ owns (c : Thread nD τ) arg38 fullShare x36 ∗ (∃ d, owns (c : Thread nD τ) arg39 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare x29 ∗ owns (c : Thread nD τ) arg32 fullShare x30 ∗ owns (c : Thread nD τ) arg33 fullShare x31 ∗ owns (c : Thread nD τ) arg34 fullShare x32 ∗ owns (c : Thread nD τ) arg35 fullShare x33 ∗ owns (c : Thread nD τ) arg36 fullShare x34 ∗ owns (c : Thread nD τ) arg37 fullShare x35 ∗ owns (c : Thread nD τ) arg38 fullShare x36 ∗ (∃ f, arg39.view.loc (c : Thread nD τ) ↦[arg39.view.set]{fullShare} arg39.view.writes (Elt F) f L37) ∗ tbPt0 c tbM0_0 xt0) -∗ K ⟨⟩))
          ⊢ wp frame (wpE (defs₀ (F := F)) Variants.none c none) E (cc0_sample_attn i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39) K } := by
  refine ⟨?_, fun E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%f36, %hf36, H36⟩, ⟨%d37, %f37, -, H37⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22; obtain rfl := harg25.eq_unread hf23; obtain rfl := harg26.eq_unread hf24; obtain rfl := harg27.eq_unread hf25; obtain rfl := harg28.eq_unread hf26; obtain rfl := harg29.eq_unread hf27; obtain rfl := harg30.eq_unread hf28; obtain rfl := harg31.eq_unread hf29; obtain rfl := harg32.eq_unread hf30; obtain rfl := harg33.eq_unread hf31; obtain rfl := harg34.eq_unread hf32; obtain rfl := harg35.eq_unread hf33; obtain rfl := harg36.eq_unread hf34; obtain rfl := harg37.eq_unread hf35; obtain rfl := harg38.eq_unread hf36
    simp only [cc0_sample_attn_eq_skeleton]; unfold cc0_sample_attn_skel
    simp only [k0_part1_eq_skeleton, k0_part2_eq_skeleton, k0_part3_eq_skeleton, k0_part4_eq_skeleton, k0_part5_eq_skeleton, k0_part6_eq_skeleton, k0_part7_eq_skeleton]
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]
    · iexists _; isplitr; · ipureintro; exact harg24.read_unread _
      iexact H22
    isplitl [H23]
    · iexists _; isplitr; · ipureintro; exact harg25.read_unread _
      iexact H23
    isplitl [H24]
    · iexists _; isplitr; · ipureintro; exact harg26.read_unread _
      iexact H24
    isplitl [H25]
    · iexists _; isplitr; · ipureintro; exact harg27.read_unread _
      iexact H25
    isplitl [H26]
    · iexists _; isplitr; · ipureintro; exact harg28.read_unread _
      iexact H26
    isplitl [H27]
    · iexists _; isplitr; · ipureintro; exact harg29.read_unread _
      iexact H27
    isplitl [H28]
    · iexists _; isplitr; · ipureintro; exact harg30.read_unread _
      iexact H28
    isplitl [H29]
    · iexists _; isplitr; · ipureintro; exact harg31.read_unread _
      iexact H29
    isplitl [H30]
    · iexists _; isplitr; · ipureintro; exact harg32.read_unread _
      iexact H30
    isplitl [H31]
    · iexists _; isplitr; · ipureintro; exact harg33.read_unread _
      iexact H31
    isplitl [H32]
    · iexists _; isplitr; · ipureintro; exact harg34.read_unread _
      iexact H32
    isplitl [H33]
    · iexists _; isplitr; · ipureintro; exact harg35.read_unread _
      iexact H33
    isplitl [H34]
    · iexists _; isplitr; · ipureintro; exact harg36.read_unread _
      iexact H34
    isplitl [H35]
    · iexists _; isplitr; · ipureintro; exact harg37.read_unread _
      iexact H35
    isplitl [H36]
    · iexists _; isplitr; · ipureintro; exact harg38.read_unread _
      iexact H36
    isplitl [H37]; · iexists _; iexact H37
    iexact HT0

end Cert.SattnIdeal.Attn

end
-- ==== Proof.SattnIdealFrame.lean ====
module

public import proofs.«01_k».proof.Proof.SattnIdealRun
public import Idealize.ShloMosaic.Lib.Claim

@[expose] public section

/-! The frame of the attention call: what its output buffer holds at each point, the pipeline's proof data, the body's
obligation, the run of the whole program, and the frame claim, for every contents of the page table that keeps the windows
inside the pool. -/

set_option maxRecDepth 16384

noncomputable section

namespace Cert.SattnIdeal.Attn

open Cert.SattnIdeal Cert.SattnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 37 tile its block (one store of the whole block), so they cover it. -/
theorem cover0_A_37 (c : Dev nD) (i : grid0.Coords) (arg2 : Memref sig .tc .vmem S1x1x512 .bf16) (harg2 : arg2.IsWhole) (arg3 : Memref sig .tc .vmem S1x1x2176 .f32) (harg3 : arg3.IsWhole) (arg4 : Memref sig .tc .vmem S8x2176 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x1x512x128 .f32) (harg7 : arg7.IsWhole) (arg8 : Memref sig .tc .vmem S1x1x512x128 .f32) (harg8 : arg8.IsWhole) (arg9 : Memref sig .tc .vmem S1x1x512x128 .f32) (harg9 : arg9.IsWhole) (arg10 : Memref sig .tc .vmem S1x1x512x128 .f32) (harg10 : arg10.IsWhole) (arg11 : Memref sig .tc .vmem S1x1x512x128 .f32) (harg11 : arg11.IsWhole) (arg12 : Memref sig .tc .vmem S1x1x512x128 .f32) (harg12 : arg12.IsWhole) (arg13 : Memref sig .tc .vmem S1x1x512x128 .f32) (harg13 : arg13.IsWhole) (arg14 : Memref sig .tc .vmem S1x1x512x128 .f32) (harg14 : arg14.IsWhole) (arg15 : Memref sig .tc .vmem S1x1x512x128 .f32) (harg15 : arg15.IsWhole) (arg16 : Memref sig .tc .vmem S1x1x512x128 .f32) (harg16 : arg16.IsWhole) (arg17 : Memref sig .tc .vmem S1x1x512x128 .f32) (harg17 : arg17.IsWhole) (arg18 : Memref sig .tc .vmem S1x1x512x128 .f32) (harg18 : arg18.IsWhole) (arg19 : Memref sig .tc .vmem S1x1x512x128 .f32) (harg19 : arg19.IsWhole) (arg20 : Memref sig .tc .vmem S1x1x512x128 .f32) (harg20 : arg20.IsWhole) (arg21 : Memref sig .tc .vmem S1x1x512x128 .f32) (harg21 : arg21.IsWhole) (arg22 : Memref sig .tc .vmem S1x1x512x128 .f32) (harg22 : arg22.IsWhole) (arg23 : Memref sig .tc .vmem S1x1x512x128 .f32) (harg23 : arg23.IsWhole) (arg24 : Memref sig .tc .vmem S1x1x512x128 .f32) (harg24 : arg24.IsWhole) (arg25 : Memref sig .tc .vmem S1x1x512x128 .f32) (harg25 : arg25.IsWhole) (arg26 : Memref sig .tc .vmem S1x1x512x128 .f32) (harg26 : arg26.IsWhole) (arg27 : Memref sig .tc .vmem S1x1x512x128 .f32) (harg27 : arg27.IsWhole) (arg28 : Memref sig .tc .vmem S1x1x512x128 .f32) (harg28 : arg28.IsWhole) (arg29 : Memref sig .tc .vmem S1x1x512x128 .f32) (harg29 : arg29.IsWhole) (arg30 : Memref sig .tc .vmem S1x1x512x128 .f32) (harg30 : arg30.IsWhole) (arg31 : Memref sig .tc .vmem S1x1x512x128 .f32) (harg31 : arg31.IsWhole) (arg32 : Memref sig .tc .vmem S1x1x512x128 .f32) (harg32 : arg32.IsWhole) (arg33 : Memref sig .tc .vmem S1x1x512x128 .f32) (harg33 : arg33.IsWhole) (arg34 : Memref sig .tc .vmem S1x1x512x128 .f32) (harg34 : arg34.IsWhole) (arg35 : Memref sig .tc .vmem S1x1x512x128 .f32) (harg35 : arg35.IsWhole) (arg36 : Memref sig .tc .vmem S1x1x512x128 .f32) (harg36 : arg36.IsWhole) (arg37 : Memref sig .tc .vmem S1x1x512x128 .f32) (harg37 : arg37.IsWhole) (arg38 : Memref sig .tc .vmem S1x1x512x128 .f32) (harg38 : arg38.IsWhole) (arg39 : Memref sig .tc .vmem S1x1x512 .bf16) (harg39 : arg39.IsWhole)
    (x0 : Vec F S1x1x512 .bf16) (x1 : Vec F S1x1x2176 .f32) (x2 : Vec F S8x2176 .f32) (x3 : Vec F S1x1x512 .f32) (x4 : Vec F S1x1x512 .f32) (x5 : Vec F S1x1x512x128 .f32) (x6 : Vec F S1x1x512x128 .f32) (x7 : Vec F S1x1x512x128 .f32) (x8 : Vec F S1x1x512x128 .f32) (x9 : Vec F S1x1x512x128 .f32) (x10 : Vec F S1x1x512x128 .f32) (x11 : Vec F S1x1x512x128 .f32) (x12 : Vec F S1x1x512x128 .f32) (x13 : Vec F S1x1x512x128 .f32) (x14 : Vec F S1x1x512x128 .f32) (x15 : Vec F S1x1x512x128 .f32) (x16 : Vec F S1x1x512x128 .f32) (x17 : Vec F S1x1x512x128 .f32) (x18 : Vec F S1x1x512x128 .f32) (x19 : Vec F S1x1x512x128 .f32) (x20 : Vec F S1x1x512x128 .f32) (x21 : Vec F S1x1x512x128 .f32) (x22 : Vec F S1x1x512x128 .f32) (x23 : Vec F S1x1x512x128 .f32) (x24 : Vec F S1x1x512x128 .f32) (x25 : Vec F S1x1x512x128 .f32) (x26 : Vec F S1x1x512x128 .f32) (x27 : Vec F S1x1x512x128 .f32) (x28 : Vec F S1x1x512x128 .f32) (x29 : Vec F S1x1x512x128 .f32) (x30 : Vec F S1x1x512x128 .f32) (x31 : Vec F S1x1x512x128 .f32) (x32 : Vec F S1x1x512x128 .f32) (x33 : Vec F S1x1x512x128 .f32) (x34 : Vec F S1x1x512x128 .f32) (x35 : Vec F S1x1x512x128 .f32) (x36 : Vec F S1x1x512x128 .f32) (xt0 : TbBuf0 (F := F) c tbM0_0) (y : S1x1x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 x30 x31 x32 x33 x34 x35 x36 xt0).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 x30 x31 x32 x33 x34 x35 x36 xt0).1 S1x1x512.size (by sl_kernel_rfl) y

/-- What the run leaves in output 37's staging buffer: its pieces read back over junk. -/
def out0_A_37 (c : Dev nD) (i : grid0.Coords) (arg2 : Memref sig .tc .vmem S1x1x512 .bf16) (harg2 : arg2.IsWhole) (arg3 : Memref sig .tc .vmem S1x1x2176 .f32) (harg3 : arg3.IsWhole) (arg4 : Memref sig .tc .vmem S8x2176 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x1x512x128 .f32) (harg7 : arg7.IsWhole) (arg8 : Memref sig .tc .vmem S1x1x512x128 .f32) (harg8 : arg8.IsWhole) (arg9 : Memref sig .tc .vmem S1x1x512x128 .f32) (harg9 : arg9.IsWhole) (arg10 : Memref sig .tc .vmem S1x1x512x128 .f32) (harg10 : arg10.IsWhole) (arg11 : Memref sig .tc .vmem S1x1x512x128 .f32) (harg11 : arg11.IsWhole) (arg12 : Memref sig .tc .vmem S1x1x512x128 .f32) (harg12 : arg12.IsWhole) (arg13 : Memref sig .tc .vmem S1x1x512x128 .f32) (harg13 : arg13.IsWhole) (arg14 : Memref sig .tc .vmem S1x1x512x128 .f32) (harg14 : arg14.IsWhole) (arg15 : Memref sig .tc .vmem S1x1x512x128 .f32) (harg15 : arg15.IsWhole) (arg16 : Memref sig .tc .vmem S1x1x512x128 .f32) (harg16 : arg16.IsWhole) (arg17 : Memref sig .tc .vmem S1x1x512x128 .f32) (harg17 : arg17.IsWhole) (arg18 : Memref sig .tc .vmem S1x1x512x128 .f32) (harg18 : arg18.IsWhole) (arg19 : Memref sig .tc .vmem S1x1x512x128 .f32) (harg19 : arg19.IsWhole) (arg20 : Memref sig .tc .vmem S1x1x512x128 .f32) (harg20 : arg20.IsWhole) (arg21 : Memref sig .tc .vmem S1x1x512x128 .f32) (harg21 : arg21.IsWhole) (arg22 : Memref sig .tc .vmem S1x1x512x128 .f32) (harg22 : arg22.IsWhole) (arg23 : Memref sig .tc .vmem S1x1x512x128 .f32) (harg23 : arg23.IsWhole) (arg24 : Memref sig .tc .vmem S1x1x512x128 .f32) (harg24 : arg24.IsWhole) (arg25 : Memref sig .tc .vmem S1x1x512x128 .f32) (harg25 : arg25.IsWhole) (arg26 : Memref sig .tc .vmem S1x1x512x128 .f32) (harg26 : arg26.IsWhole) (arg27 : Memref sig .tc .vmem S1x1x512x128 .f32) (harg27 : arg27.IsWhole) (arg28 : Memref sig .tc .vmem S1x1x512x128 .f32) (harg28 : arg28.IsWhole) (arg29 : Memref sig .tc .vmem S1x1x512x128 .f32) (harg29 : arg29.IsWhole) (arg30 : Memref sig .tc .vmem S1x1x512x128 .f32) (harg30 : arg30.IsWhole) (arg31 : Memref sig .tc .vmem S1x1x512x128 .f32) (harg31 : arg31.IsWhole) (arg32 : Memref sig .tc .vmem S1x1x512x128 .f32) (harg32 : arg32.IsWhole) (arg33 : Memref sig .tc .vmem S1x1x512x128 .f32) (harg33 : arg33.IsWhole) (arg34 : Memref sig .tc .vmem S1x1x512x128 .f32) (harg34 : arg34.IsWhole) (arg35 : Memref sig .tc .vmem S1x1x512x128 .f32) (harg35 : arg35.IsWhole) (arg36 : Memref sig .tc .vmem S1x1x512x128 .f32) (harg36 : arg36.IsWhole) (arg37 : Memref sig .tc .vmem S1x1x512x128 .f32) (harg37 : arg37.IsWhole) (arg38 : Memref sig .tc .vmem S1x1x512x128 .f32) (harg38 : arg38.IsWhole) (arg39 : Memref sig .tc .vmem S1x1x512 .bf16) (harg39 : arg39.IsWhole)
    (x0 : Vec F S1x1x512 .bf16) (x1 : Vec F S1x1x2176 .f32) (x2 : Vec F S8x2176 .f32) (x3 : Vec F S1x1x512 .f32) (x4 : Vec F S1x1x512 .f32) (x5 : Vec F S1x1x512x128 .f32) (x6 : Vec F S1x1x512x128 .f32) (x7 : Vec F S1x1x512x128 .f32) (x8 : Vec F S1x1x512x128 .f32) (x9 : Vec F S1x1x512x128 .f32) (x10 : Vec F S1x1x512x128 .f32) (x11 : Vec F S1x1x512x128 .f32) (x12 : Vec F S1x1x512x128 .f32) (x13 : Vec F S1x1x512x128 .f32) (x14 : Vec F S1x1x512x128 .f32) (x15 : Vec F S1x1x512x128 .f32) (x16 : Vec F S1x1x512x128 .f32) (x17 : Vec F S1x1x512x128 .f32) (x18 : Vec F S1x1x512x128 .f32) (x19 : Vec F S1x1x512x128 .f32) (x20 : Vec F S1x1x512x128 .f32) (x21 : Vec F S1x1x512x128 .f32) (x22 : Vec F S1x1x512x128 .f32) (x23 : Vec F S1x1x512x128 .f32) (x24 : Vec F S1x1x512x128 .f32) (x25 : Vec F S1x1x512x128 .f32) (x26 : Vec F S1x1x512x128 .f32) (x27 : Vec F S1x1x512x128 .f32) (x28 : Vec F S1x1x512x128 .f32) (x29 : Vec F S1x1x512x128 .f32) (x30 : Vec F S1x1x512x128 .f32) (x31 : Vec F S1x1x512x128 .f32) (x32 : Vec F S1x1x512x128 .f32) (x33 : Vec F S1x1x512x128 .f32) (x34 : Vec F S1x1x512x128 .f32) (x35 : Vec F S1x1x512x128 .f32) (x36 : Vec F S1x1x512x128 .f32) (xt0 : TbBuf0 (F := F) c tbM0_0) : Vec F S1x1x512 .bf16 :=
  VO0_37.read (Elt F) (VO0_37.writes (Elt F) VO0_37.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 x30 x31 x32 x33 x34 x35 x36 xt0).1)

/-! ## What the outputs hold after each point -/

/-- What the outputs' staging buffers hold after the body at point `t`: the run's contents at
    the point's memrefs and input blocks. -/
def outsAt0 (hO : Ok m) (c : Dev nD) (t : Fin (cfgM m hO).N) : Vec F S1x1x512 .bf16 :=
  out0_A_37 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t) (ms0_27 m hO t) (hs0_27 m hO t) (ms0_28 m hO t) (hs0_28 m hO t) (ms0_29 m hO t) (hs0_29 m hO t) (ms0_30 m hO t) (hs0_30 m hO t) (ms0_31 m hO t) (hs0_31 m hO t) (ms0_32 m hO t) (hs0_32 m hO t) (ms0_33 m hO t) (hs0_33 m hO t) (ms0_34 m hO t) (hs0_34 m hO t) (ms0_35 m hO t) (hs0_35 m hO t) (ms0_36 m hO t) (hs0_36 m hO t) (ms0_37 m hO t) (hs0_37 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (iblk m hO c 34 t) (iblk m hO c 35 t) (iblk m hO c 36 t) (tbl m 0)

/-! ## The pipeline's proof data -/

/-- The proof data of the one pipeline on core `c`: the arrays as the region finds them (`V`); after the body at
    point `t` each input's buffer at its block and the outputs' at `outsAt0`; the invariant the class's
    (the scoped rest and the generator register) and the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, _⟩ => iblk m hO c 15 t
    | ⟨16, _⟩ => iblk m hO c 16 t
    | ⟨17, _⟩ => iblk m hO c 17 t
    | ⟨18, _⟩ => iblk m hO c 18 t
    | ⟨19, _⟩ => iblk m hO c 19 t
    | ⟨20, _⟩ => iblk m hO c 20 t
    | ⟨21, _⟩ => iblk m hO c 21 t
    | ⟨22, _⟩ => iblk m hO c 22 t
    | ⟨23, _⟩ => iblk m hO c 23 t
    | ⟨24, _⟩ => iblk m hO c 24 t
    | ⟨25, _⟩ => iblk m hO c 25 t
    | ⟨26, _⟩ => iblk m hO c 26 t
    | ⟨27, _⟩ => iblk m hO c 27 t
    | ⟨28, _⟩ => iblk m hO c 28 t
    | ⟨29, _⟩ => iblk m hO c 29 t
    | ⟨30, _⟩ => iblk m hO c 30 t
    | ⟨31, _⟩ => iblk m hO c 31 t
    | ⟨32, _⟩ => iblk m hO c 32 t
    | ⟨33, _⟩ => iblk m hO c 33 t
    | ⟨34, _⟩ => iblk m hO c 34 t
    | ⟨35, _⟩ => iblk m hO c 35 t
    | ⟨36, _⟩ => iblk m hO c 36 t
    | ⟨37, _⟩ => (outsAt0 m hO c t)
    | ⟨_ + 38, h⟩ => absurd h (Nat.not_lt.2 (Nat.le_add_left _ _))
  Φ _ := iprop(Pipeline.ΦA spec0 c ∗ Pipeline.ΦT pre0 (tbl m) c)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl
theorem after0_11 (hO : Ok m) (c : Dev nD) (t : Fin (cfgM m hO).N) : (dats m hO 0 c).after 11 t = iblk m hO c 11 t := by dsimp only [dats]; try rfl
theorem after0_12 (hO : Ok m) (c : Dev nD) (t : Fin (cfgM m hO).N) : (dats m hO 0 c).after 12 t = iblk m hO c 12 t := by dsimp only [dats]; try rfl
theorem after0_13 (hO : Ok m) (c : Dev nD) (t : Fin (cfgM m hO).N) : (dats m hO 0 c).after 13 t = iblk m hO c 13 t := by dsimp only [dats]; try rfl
theorem after0_14 (hO : Ok m) (c : Dev nD) (t : Fin (cfgM m hO).N) : (dats m hO 0 c).after 14 t = iblk m hO c 14 t := by dsimp only [dats]; try rfl
theorem after0_15 (hO : Ok m) (c : Dev nD) (t : Fin (cfgM m hO).N) : (dats m hO 0 c).after 15 t = iblk m hO c 15 t := by dsimp only [dats]; try rfl
theorem after0_16 (hO : Ok m) (c : Dev nD) (t : Fin (cfgM m hO).N) : (dats m hO 0 c).after 16 t = iblk m hO c 16 t := by dsimp only [dats]; try rfl
theorem after0_17 (hO : Ok m) (c : Dev nD) (t : Fin (cfgM m hO).N) : (dats m hO 0 c).after 17 t = iblk m hO c 17 t := by dsimp only [dats]; try rfl
theorem after0_18 (hO : Ok m) (c : Dev nD) (t : Fin (cfgM m hO).N) : (dats m hO 0 c).after 18 t = iblk m hO c 18 t := by dsimp only [dats]; try rfl
theorem after0_19 (hO : Ok m) (c : Dev nD) (t : Fin (cfgM m hO).N) : (dats m hO 0 c).after 19 t = iblk m hO c 19 t := by dsimp only [dats]; try rfl
theorem after0_20 (hO : Ok m) (c : Dev nD) (t : Fin (cfgM m hO).N) : (dats m hO 0 c).after 20 t = iblk m hO c 20 t := by dsimp only [dats]; try rfl
theorem after0_21 (hO : Ok m) (c : Dev nD) (t : Fin (cfgM m hO).N) : (dats m hO 0 c).after 21 t = iblk m hO c 21 t := by dsimp only [dats]; try rfl
theorem after0_22 (hO : Ok m) (c : Dev nD) (t : Fin (cfgM m hO).N) : (dats m hO 0 c).after 22 t = iblk m hO c 22 t := by dsimp only [dats]; try rfl
theorem after0_23 (hO : Ok m) (c : Dev nD) (t : Fin (cfgM m hO).N) : (dats m hO 0 c).after 23 t = iblk m hO c 23 t := by dsimp only [dats]; try rfl
theorem after0_24 (hO : Ok m) (c : Dev nD) (t : Fin (cfgM m hO).N) : (dats m hO 0 c).after 24 t = iblk m hO c 24 t := by dsimp only [dats]; try rfl
theorem after0_25 (hO : Ok m) (c : Dev nD) (t : Fin (cfgM m hO).N) : (dats m hO 0 c).after 25 t = iblk m hO c 25 t := by dsimp only [dats]; try rfl
theorem after0_26 (hO : Ok m) (c : Dev nD) (t : Fin (cfgM m hO).N) : (dats m hO 0 c).after 26 t = iblk m hO c 26 t := by dsimp only [dats]; try rfl
theorem after0_27 (hO : Ok m) (c : Dev nD) (t : Fin (cfgM m hO).N) : (dats m hO 0 c).after 27 t = iblk m hO c 27 t := by dsimp only [dats]; try rfl
theorem after0_28 (hO : Ok m) (c : Dev nD) (t : Fin (cfgM m hO).N) : (dats m hO 0 c).after 28 t = iblk m hO c 28 t := by dsimp only [dats]; try rfl
theorem after0_29 (hO : Ok m) (c : Dev nD) (t : Fin (cfgM m hO).N) : (dats m hO 0 c).after 29 t = iblk m hO c 29 t := by dsimp only [dats]; try rfl
theorem after0_30 (hO : Ok m) (c : Dev nD) (t : Fin (cfgM m hO).N) : (dats m hO 0 c).after 30 t = iblk m hO c 30 t := by dsimp only [dats]; try rfl
theorem after0_31 (hO : Ok m) (c : Dev nD) (t : Fin (cfgM m hO).N) : (dats m hO 0 c).after 31 t = iblk m hO c 31 t := by dsimp only [dats]; try rfl
theorem after0_32 (hO : Ok m) (c : Dev nD) (t : Fin (cfgM m hO).N) : (dats m hO 0 c).after 32 t = iblk m hO c 32 t := by dsimp only [dats]; try rfl
theorem after0_33 (hO : Ok m) (c : Dev nD) (t : Fin (cfgM m hO).N) : (dats m hO 0 c).after 33 t = iblk m hO c 33 t := by dsimp only [dats]; try rfl
theorem after0_34 (hO : Ok m) (c : Dev nD) (t : Fin (cfgM m hO).N) : (dats m hO 0 c).after 34 t = iblk m hO c 34 t := by dsimp only [dats]; try rfl
theorem after0_35 (hO : Ok m) (c : Dev nD) (t : Fin (cfgM m hO).N) : (dats m hO 0 c).after 35 t = iblk m hO c 35 t := by dsimp only [dats]; try rfl
theorem after0_36 (hO : Ok m) (c : Dev nD) (t : Fin (cfgM m hO).N) : (dats m hO 0 c).after 36 t = iblk m hO c 36 t := by dsimp only [dats]; try rfl
theorem after0_37 (hO : Ok m) (c : Dev nD) (t : Fin (cfgM m hO).N) : (dats m hO 0 c).after 37 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d
theorem before0_11 (hO : Ok m) (c : Dev nD) (t : Fin (cfgM m hO).N) (d) : (dats m hO 0 c).before 11 t d = iblk m hO c 11 t :=
  before0_11_of m hO (dats m hO 0 c) (A_eq m hO c 11) (after0_11 m hO c) t d
theorem before0_12 (hO : Ok m) (c : Dev nD) (t : Fin (cfgM m hO).N) (d) : (dats m hO 0 c).before 12 t d = iblk m hO c 12 t :=
  before0_12_of m hO (dats m hO 0 c) (A_eq m hO c 12) (after0_12 m hO c) t d
theorem before0_13 (hO : Ok m) (c : Dev nD) (t : Fin (cfgM m hO).N) (d) : (dats m hO 0 c).before 13 t d = iblk m hO c 13 t :=
  before0_13_of m hO (dats m hO 0 c) (A_eq m hO c 13) (after0_13 m hO c) t d
theorem before0_14 (hO : Ok m) (c : Dev nD) (t : Fin (cfgM m hO).N) (d) : (dats m hO 0 c).before 14 t d = iblk m hO c 14 t :=
  before0_14_of m hO (dats m hO 0 c) (A_eq m hO c 14) (after0_14 m hO c) t d
theorem before0_15 (hO : Ok m) (c : Dev nD) (t : Fin (cfgM m hO).N) (d) : (dats m hO 0 c).before 15 t d = iblk m hO c 15 t :=
  before0_15_of m hO (dats m hO 0 c) (A_eq m hO c 15) (after0_15 m hO c) t d
theorem before0_16 (hO : Ok m) (c : Dev nD) (t : Fin (cfgM m hO).N) (d) : (dats m hO 0 c).before 16 t d = iblk m hO c 16 t :=
  before0_16_of m hO (dats m hO 0 c) (A_eq m hO c 16) (after0_16 m hO c) t d
theorem before0_17 (hO : Ok m) (c : Dev nD) (t : Fin (cfgM m hO).N) (d) : (dats m hO 0 c).before 17 t d = iblk m hO c 17 t :=
  before0_17_of m hO (dats m hO 0 c) (A_eq m hO c 17) (after0_17 m hO c) t d
theorem before0_18 (hO : Ok m) (c : Dev nD) (t : Fin (cfgM m hO).N) (d) : (dats m hO 0 c).before 18 t d = iblk m hO c 18 t :=
  before0_18_of m hO (dats m hO 0 c) (A_eq m hO c 18) (after0_18 m hO c) t d
theorem before0_19 (hO : Ok m) (c : Dev nD) (t : Fin (cfgM m hO).N) (d) : (dats m hO 0 c).before 19 t d = iblk m hO c 19 t :=
  before0_19_of m hO (dats m hO 0 c) (A_eq m hO c 19) (after0_19 m hO c) t d
theorem before0_20 (hO : Ok m) (c : Dev nD) (t : Fin (cfgM m hO).N) (d) : (dats m hO 0 c).before 20 t d = iblk m hO c 20 t :=
  before0_20_of m hO (dats m hO 0 c) (A_eq m hO c 20) (after0_20 m hO c) t d
theorem before0_21 (hO : Ok m) (c : Dev nD) (t : Fin (cfgM m hO).N) (d) : (dats m hO 0 c).before 21 t d = iblk m hO c 21 t :=
  before0_21_of m hO (dats m hO 0 c) (A_eq m hO c 21) (after0_21 m hO c) t d
theorem before0_22 (hO : Ok m) (c : Dev nD) (t : Fin (cfgM m hO).N) (d) : (dats m hO 0 c).before 22 t d = iblk m hO c 22 t :=
  before0_22_of m hO (dats m hO 0 c) (A_eq m hO c 22) (after0_22 m hO c) t d
theorem before0_23 (hO : Ok m) (c : Dev nD) (t : Fin (cfgM m hO).N) (d) : (dats m hO 0 c).before 23 t d = iblk m hO c 23 t :=
  before0_23_of m hO (dats m hO 0 c) (A_eq m hO c 23) (after0_23 m hO c) t d
theorem before0_24 (hO : Ok m) (c : Dev nD) (t : Fin (cfgM m hO).N) (d) : (dats m hO 0 c).before 24 t d = iblk m hO c 24 t :=
  before0_24_of m hO (dats m hO 0 c) (A_eq m hO c 24) (after0_24 m hO c) t d
theorem before0_25 (hO : Ok m) (c : Dev nD) (t : Fin (cfgM m hO).N) (d) : (dats m hO 0 c).before 25 t d = iblk m hO c 25 t :=
  before0_25_of m hO (dats m hO 0 c) (A_eq m hO c 25) (after0_25 m hO c) t d
theorem before0_26 (hO : Ok m) (c : Dev nD) (t : Fin (cfgM m hO).N) (d) : (dats m hO 0 c).before 26 t d = iblk m hO c 26 t :=
  before0_26_of m hO (dats m hO 0 c) (A_eq m hO c 26) (after0_26 m hO c) t d
theorem before0_27 (hO : Ok m) (c : Dev nD) (t : Fin (cfgM m hO).N) (d) : (dats m hO 0 c).before 27 t d = iblk m hO c 27 t :=
  before0_27_of m hO (dats m hO 0 c) (A_eq m hO c 27) (after0_27 m hO c) t d
theorem before0_28 (hO : Ok m) (c : Dev nD) (t : Fin (cfgM m hO).N) (d) : (dats m hO 0 c).before 28 t d = iblk m hO c 28 t :=
  before0_28_of m hO (dats m hO 0 c) (A_eq m hO c 28) (after0_28 m hO c) t d
theorem before0_29 (hO : Ok m) (c : Dev nD) (t : Fin (cfgM m hO).N) (d) : (dats m hO 0 c).before 29 t d = iblk m hO c 29 t :=
  before0_29_of m hO (dats m hO 0 c) (A_eq m hO c 29) (after0_29 m hO c) t d
theorem before0_30 (hO : Ok m) (c : Dev nD) (t : Fin (cfgM m hO).N) (d) : (dats m hO 0 c).before 30 t d = iblk m hO c 30 t :=
  before0_30_of m hO (dats m hO 0 c) (A_eq m hO c 30) (after0_30 m hO c) t d
theorem before0_31 (hO : Ok m) (c : Dev nD) (t : Fin (cfgM m hO).N) (d) : (dats m hO 0 c).before 31 t d = iblk m hO c 31 t :=
  before0_31_of m hO (dats m hO 0 c) (A_eq m hO c 31) (after0_31 m hO c) t d
theorem before0_32 (hO : Ok m) (c : Dev nD) (t : Fin (cfgM m hO).N) (d) : (dats m hO 0 c).before 32 t d = iblk m hO c 32 t :=
  before0_32_of m hO (dats m hO 0 c) (A_eq m hO c 32) (after0_32 m hO c) t d
theorem before0_33 (hO : Ok m) (c : Dev nD) (t : Fin (cfgM m hO).N) (d) : (dats m hO 0 c).before 33 t d = iblk m hO c 33 t :=
  before0_33_of m hO (dats m hO 0 c) (A_eq m hO c 33) (after0_33 m hO c) t d
theorem before0_34 (hO : Ok m) (c : Dev nD) (t : Fin (cfgM m hO).N) (d) : (dats m hO 0 c).before 34 t d = iblk m hO c 34 t :=
  before0_34_of m hO (dats m hO 0 c) (A_eq m hO c 34) (after0_34 m hO c) t d
theorem before0_35 (hO : Ok m) (c : Dev nD) (t : Fin (cfgM m hO).N) (d) : (dats m hO 0 c).before 35 t d = iblk m hO c 35 t :=
  before0_35_of m hO (dats m hO 0 c) (A_eq m hO c 35) (after0_35 m hO c) t d
theorem before0_36 (hO : Ok m) (c : Dev nD) (t : Fin (cfgM m hO).N) (d) : (dats m hO 0 c).before 36 t d = iblk m hO c 36 t :=
  before0_36_of m hO (dats m hO 0 c) (A_eq m hO c 36) (after0_36 m hO c) t d

/-! ## The body obligation, at a generic point -/

/-- What the body is called with at point `t` (the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d))
    ∗ (∃ d, owns (c : Thread nD τ) (ms0_15 m hO t) fullShare ((dats m hO 0 c).before 15 t d))
    ∗ (∃ d, owns (c : Thread nD τ) (ms0_16 m hO t) fullShare ((dats m hO 0 c).before 16 t d))
    ∗ (∃ d, owns (c : Thread nD τ) (ms0_17 m hO t) fullShare ((dats m hO 0 c).before 17 t d))
    ∗ (∃ d, owns (c : Thread nD τ) (ms0_18 m hO t) fullShare ((dats m hO 0 c).before 18 t d))
    ∗ (∃ d, owns (c : Thread nD τ) (ms0_19 m hO t) fullShare ((dats m hO 0 c).before 19 t d))
    ∗ (∃ d, owns (c : Thread nD τ) (ms0_20 m hO t) fullShare ((dats m hO 0 c).before 20 t d))
    ∗ (∃ d, owns (c : Thread nD τ) (ms0_21 m hO t) fullShare ((dats m hO 0 c).before 21 t d))
    ∗ (∃ d, owns (c : Thread nD τ) (ms0_22 m hO t) fullShare ((dats m hO 0 c).before 22 t d))
    ∗ (∃ d, owns (c : Thread nD τ) (ms0_23 m hO t) fullShare ((dats m hO 0 c).before 23 t d))
    ∗ (∃ d, owns (c : Thread nD τ) (ms0_24 m hO t) fullShare ((dats m hO 0 c).before 24 t d))
    ∗ (∃ d, owns (c : Thread nD τ) (ms0_25 m hO t) fullShare ((dats m hO 0 c).before 25 t d))
    ∗ (∃ d, owns (c : Thread nD τ) (ms0_26 m hO t) fullShare ((dats m hO 0 c).before 26 t d))
    ∗ (∃ d, owns (c : Thread nD τ) (ms0_27 m hO t) fullShare ((dats m hO 0 c).before 27 t d))
    ∗ (∃ d, owns (c : Thread nD τ) (ms0_28 m hO t) fullShare ((dats m hO 0 c).before 28 t d))
    ∗ (∃ d, owns (c : Thread nD τ) (ms0_29 m hO t) fullShare ((dats m hO 0 c).before 29 t d))
    ∗ (∃ d, owns (c : Thread nD τ) (ms0_30 m hO t) fullShare ((dats m hO 0 c).before 30 t d))
    ∗ (∃ d, owns (c : Thread nD τ) (ms0_31 m hO t) fullShare ((dats m hO 0 c).before 31 t d))
    ∗ (∃ d, owns (c : Thread nD τ) (ms0_32 m hO t) fullShare ((dats m hO 0 c).before 32 t d))
    ∗ (∃ d, owns (c : Thread nD τ) (ms0_33 m hO t) fullShare ((dats m hO 0 c).before 33 t d))
    ∗ (∃ d, owns (c : Thread nD τ) (ms0_34 m hO t) fullShare ((dats m hO 0 c).before 34 t d))
    ∗ (∃ d, owns (c : Thread nD τ) (ms0_35 m hO t) fullShare ((dats m hO 0 c).before 35 t d))
    ∗ (∃ d, owns (c : Thread nD τ) (ms0_36 m hO t) fullShare ((dats m hO 0 c).before 36 t d))
    ∗ (∃ d, owns (c : Thread nD τ) (ms0_37 m hO t) fullShare ((dats m hO 0 c).before 37 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t)
    ∗ owns (c : Thread nD τ) (ms0_12 m hO t) fullShare ((dats m hO 0 c).after 12 t)
    ∗ owns (c : Thread nD τ) (ms0_13 m hO t) fullShare ((dats m hO 0 c).after 13 t)
    ∗ owns (c : Thread nD τ) (ms0_14 m hO t) fullShare ((dats m hO 0 c).after 14 t)
    ∗ owns (c : Thread nD τ) (ms0_15 m hO t) fullShare ((dats m hO 0 c).after 15 t)
    ∗ owns (c : Thread nD τ) (ms0_16 m hO t) fullShare ((dats m hO 0 c).after 16 t)
    ∗ owns (c : Thread nD τ) (ms0_17 m hO t) fullShare ((dats m hO 0 c).after 17 t)
    ∗ owns (c : Thread nD τ) (ms0_18 m hO t) fullShare ((dats m hO 0 c).after 18 t)
    ∗ owns (c : Thread nD τ) (ms0_19 m hO t) fullShare ((dats m hO 0 c).after 19 t)
    ∗ owns (c : Thread nD τ) (ms0_20 m hO t) fullShare ((dats m hO 0 c).after 20 t)
    ∗ owns (c : Thread nD τ) (ms0_21 m hO t) fullShare ((dats m hO 0 c).after 21 t)
    ∗ owns (c : Thread nD τ) (ms0_22 m hO t) fullShare ((dats m hO 0 c).after 22 t)
    ∗ owns (c : Thread nD τ) (ms0_23 m hO t) fullShare ((dats m hO 0 c).after 23 t)
    ∗ owns (c : Thread nD τ) (ms0_24 m hO t) fullShare ((dats m hO 0 c).after 24 t)
    ∗ owns (c : Thread nD τ) (ms0_25 m hO t) fullShare ((dats m hO 0 c).after 25 t)
    ∗ owns (c : Thread nD τ) (ms0_26 m hO t) fullShare ((dats m hO 0 c).after 26 t)
    ∗ owns (c : Thread nD τ) (ms0_27 m hO t) fullShare ((dats m hO 0 c).after 27 t)
    ∗ owns (c : Thread nD τ) (ms0_28 m hO t) fullShare ((dats m hO 0 c).after 28 t)
    ∗ owns (c : Thread nD τ) (ms0_29 m hO t) fullShare ((dats m hO 0 c).after 29 t)
    ∗ owns (c : Thread nD τ) (ms0_30 m hO t) fullShare ((dats m hO 0 c).after 30 t)
    ∗ owns (c : Thread nD τ) (ms0_31 m hO t) fullShare ((dats m hO 0 c).after 31 t)
    ∗ owns (c : Thread nD τ) (ms0_32 m hO t) fullShare ((dats m hO 0 c).after 32 t)
    ∗ owns (c : Thread nD τ) (ms0_33 m hO t) fullShare ((dats m hO 0 c).after 33 t)
    ∗ owns (c : Thread nD τ) (ms0_34 m hO t) fullShare ((dats m hO 0 c).after 34 t)
    ∗ owns (c : Thread nD τ) (ms0_35 m hO t) fullShare ((dats m hO 0 c).after 35 t)
    ∗ owns (c : Thread nD τ) (ms0_36 m hO t) fullShare ((dats m hO 0 c).after 36 t)
    ∗ owns (c : Thread nD τ) (ms0_37 m hO t) fullShare ((dats m hO 0 c).after 37 t))

set_option maxHeartbeats 3600000 in
/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31, before0_32, before0_33, before0_34, before0_35, before0_36]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36, after0_37]
  rw [show (dats m hO 0 c).Φ t.castSucc = iprop(Pipeline.ΦA spec0 c ∗ Pipeline.ΦT pre0 (tbl m) c) from rfl, PhiT0_eq]
  unfold outsAt0
  unfold out0_A_37
  iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (iblk m hO c 34 t) (iblk m hO c 35 t) (iblk m hO c 36 t) (tbl m 0)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexists _; iexact H37
  isplitl [HT0]; · iexact HT0
  iintro ⟨H0, H1, H2, H3, H4, H5, H6, H7, H8, H9, H10, H11, H12, H13, H14, H15, H16, H17, H18, H19, H20, H21, H22, H23, H24, H25, H26, H27, H28, H29, H30, H31, H32, H33, H34, H35, H36, ⟨%e37, H37⟩, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  unfold owns; iexists _; isplitr
  swap; · iexact H37
  ipureintro; exact View.read_writes_of_cover _ _ _ _ _ (cover0_A_37 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

set_option maxHeartbeats 0 in
/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

set_option maxHeartbeats 0 in
/-- The library's body obligation, at every point: the body's triple restated. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

set_option backward.isDefEq.respectTransparency.types false in
set_option maxHeartbeats 0 in
/-- The run of the whole program: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ hO (dats m hO) (A_eq m hO) (run_main m ρ hO)

/-- The program's frame, over any floats, for every table that keeps the page windows inside the pool: it ends with its arguments unchanged and
    every semaphore counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ hO) ((θ_run defs _ _).mono (fun _ h => h.2) (run_main_quiescent m ρ hO))

end Cert.SattnIdeal.Attn

end
-- ==== Proof.SattnOut.lean ====
module

public import proofs.«01_k».proof.Proof.SattnIdealFrame
public import proofs.«01_k».proof.Proof.SattnKernel

/-! # One sequence's block of the sample attention: what the body leaves in its output

The body stores one row, the attention of one sequence's new token over the sixteen pages in its buffers and the token itself. -/

@[expose] public section

set_option maxRecDepth 16384

noncomputable section

open Idealize.ShloMosaic Idealize.ShloMosaic.TcCoe Idealize.SL.Sem

namespace Cert.SattnIdeal.Hand

open Cert.SattnIdeal Cert.SattnIdeal.Gen Cert.SattnIdeal.Attn Cert.AttnMath

theorem zero2 : (![0, 0] : Fin 2 → Nat) = fun _ => 0 := funext fun a => by fin_cases a <;> rfl

theorem zero3 : (![0, 0, 0] : Fin 3 → Nat) = fun _ => 0 := funext fun a => by fin_cases a <;> rfl

theorem zero4 : (![0, 0, 0, 0] : Fin 4 → Nat) = fun _ => 0 := funext fun a => by fin_cases a <;> rfl

/-- The last step of the body changes the row's shape alone. -/
theorem pay1_apply (v : FVec Ideal S1x512 .f32) (c : Fin 512) : k0_pay1 v (ix3 0 0 c) = v (ix2 0 c) := by
  pointwise [k0_pay1]

/-- The weights of sixteen named pages' products. -/
theorem pay22_list (d0 d1 d2 d3 d4 d5 d6 d7 d8 d9 d10 d11 d12 d13 d14 d15 : FVec Ideal S8x128 .f32) (g : FVec Ideal S8x1 .f32) (x2 : Vec Ideal S8x2176 .f32) (x1 : Vec Ideal S1x1x2176 .f32) :
    k0_pay22 d0 d1 d2 d3 d4 d5 d6 d7 d8 d9 d10 d11 d12 d13 d14 d15 g (iota Kind.tc S8x128 32 [1] iota_S8x128_d1_w32) x2 x1 = weights (scored ![d0, d1, d2, d3, d4, d5, d6, d7, d8, d9, d10, d11, d12, d13, d14, d15] g x2 x1) :=
  pay22_eq ![d0, d1, d2, d3, d4, d5, d6, d7, d8, d9, d10, d11, d12, d13, d14, d15] g x2 x1

set_option maxHeartbeats 400000 in
/-- The body's output block, lane by lane: attention of the buffers' query over the sixteen pages' rows and the new one. -/
theorem out_apply (c : Dev nD) (i : grid0.Coords) (arg2 : Memref sig .tc .vmem S1x1x512 .bf16) (harg2 : arg2.IsWhole) (arg3 : Memref sig .tc .vmem S1x1x2176 .f32) (harg3 : arg3.IsWhole) (arg4 : Memref sig .tc .vmem S8x2176 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x1x512x128 .f32) (harg7 : arg7.IsWhole) (arg8 : Memref sig .tc .vmem S1x1x512x128 .f32) (harg8 : arg8.IsWhole) (arg9 : Memref sig .tc .vmem S1x1x512x128 .f32) (harg9 : arg9.IsWhole) (arg10 : Memref sig .tc .vmem S1x1x512x128 .f32) (harg10 : arg10.IsWhole) (arg11 : Memref sig .tc .vmem S1x1x512x128 .f32) (harg11 : arg11.IsWhole) (arg12 : Memref sig .tc .vmem S1x1x512x128 .f32) (harg12 : arg12.IsWhole) (arg13 : Memref sig .tc .vmem S1x1x512x128 .f32) (harg13 : arg13.IsWhole) (arg14 : Memref sig .tc .vmem S1x1x512x128 .f32) (harg14 : arg14.IsWhole) (arg15 : Memref sig .tc .vmem S1x1x512x128 .f32) (harg15 : arg15.IsWhole) (arg16 : Memref sig .tc .vmem S1x1x512x128 .f32) (harg16 : arg16.IsWhole) (arg17 : Memref sig .tc .vmem S1x1x512x128 .f32) (harg17 : arg17.IsWhole) (arg18 : Memref sig .tc .vmem S1x1x512x128 .f32) (harg18 : arg18.IsWhole) (arg19 : Memref sig .tc .vmem S1x1x512x128 .f32) (harg19 : arg19.IsWhole) (arg20 : Memref sig .tc .vmem S1x1x512x128 .f32) (harg20 : arg20.IsWhole) (arg21 : Memref sig .tc .vmem S1x1x512x128 .f32) (harg21 : arg21.IsWhole) (arg22 : Memref sig .tc .vmem S1x1x512x128 .f32) (harg22 : arg22.IsWhole) (arg23 : Memref sig .tc .vmem S1x1x512x128 .f32) (harg23 : arg23.IsWhole) (arg24 : Memref sig .tc .vmem S1x1x512x128 .f32) (harg24 : arg24.IsWhole) (arg25 : Memref sig .tc .vmem S1x1x512x128 .f32) (harg25 : arg25.IsWhole) (arg26 : Memref sig .tc .vmem S1x1x512x128 .f32) (harg26 : arg26.IsWhole) (arg27 : Memref sig .tc .vmem S1x1x512x128 .f32) (harg27 : arg27.IsWhole) (arg28 : Memref sig .tc .vmem S1x1x512x128 .f32) (harg28 : arg28.IsWhole) (arg29 : Memref sig .tc .vmem S1x1x512x128 .f32) (harg29 : arg29.IsWhole) (arg30 : Memref sig .tc .vmem S1x1x512x128 .f32) (harg30 : arg30.IsWhole) (arg31 : Memref sig .tc .vmem S1x1x512x128 .f32) (harg31 : arg31.IsWhole) (arg32 : Memref sig .tc .vmem S1x1x512x128 .f32) (harg32 : arg32.IsWhole) (arg33 : Memref sig .tc .vmem S1x1x512x128 .f32) (harg33 : arg33.IsWhole) (arg34 : Memref sig .tc .vmem S1x1x512x128 .f32) (harg34 : arg34.IsWhole) (arg35 : Memref sig .tc .vmem S1x1x512x128 .f32) (harg35 : arg35.IsWhole) (arg36 : Memref sig .tc .vmem S1x1x512x128 .f32) (harg36 : arg36.IsWhole) (arg37 : Memref sig .tc .vmem S1x1x512x128 .f32) (harg37 : arg37.IsWhole) (arg38 : Memref sig .tc .vmem S1x1x512x128 .f32) (harg38 : arg38.IsWhole) (arg39 : Memref sig .tc .vmem S1x1x512 .bf16) (harg39 : arg39.IsWhole)
    (x0 : Vec Ideal S1x1x512 .bf16) (x1 : Vec Ideal S1x1x2176 .f32) (x2 : Vec Ideal S8x2176 .f32) (x3 : Vec Ideal S1x1x512 .f32) (x4 : Vec Ideal S1x1x512 .f32) (x5 : Vec Ideal S1x1x512x128 .f32) (x6 : Vec Ideal S1x1x512x128 .f32) (x7 : Vec Ideal S1x1x512x128 .f32) (x8 : Vec Ideal S1x1x512x128 .f32) (x9 : Vec Ideal S1x1x512x128 .f32) (x10 : Vec Ideal S1x1x512x128 .f32) (x11 : Vec Ideal S1x1x512x128 .f32) (x12 : Vec Ideal S1x1x512x128 .f32) (x13 : Vec Ideal S1x1x512x128 .f32) (x14 : Vec Ideal S1x1x512x128 .f32) (x15 : Vec Ideal S1x1x512x128 .f32) (x16 : Vec Ideal S1x1x512x128 .f32) (x17 : Vec Ideal S1x1x512x128 .f32) (x18 : Vec Ideal S1x1x512x128 .f32) (x19 : Vec Ideal S1x1x512x128 .f32) (x20 : Vec Ideal S1x1x512x128 .f32) (x21 : Vec Ideal S1x1x512x128 .f32) (x22 : Vec Ideal S1x1x512x128 .f32) (x23 : Vec Ideal S1x1x512x128 .f32) (x24 : Vec Ideal S1x1x512x128 .f32) (x25 : Vec Ideal S1x1x512x128 .f32) (x26 : Vec Ideal S1x1x512x128 .f32) (x27 : Vec Ideal S1x1x512x128 .f32) (x28 : Vec Ideal S1x1x512x128 .f32) (x29 : Vec Ideal S1x1x512x128 .f32) (x30 : Vec Ideal S1x1x512x128 .f32) (x31 : Vec Ideal S1x1x512x128 .f32) (x32 : Vec Ideal S1x1x512x128 .f32) (x33 : Vec Ideal S1x1x512x128 .f32) (x34 : Vec Ideal S1x1x512x128 .f32) (x35 : Vec Ideal S1x1x512x128 .f32) (x36 : Vec Ideal S1x1x512x128 .f32) (xt0 : TbBuf0 (F := Ideal) c tbM0_0) (sel : Fin 2049 → Bool)
    (hs : ∀ j : Fin 2049, x1 (ix3 0 0 ⟨j.val, by omega⟩) = if sel j = true then (0 : EReal) else ⊥)
    (hp : ∀ j : Fin 2176, 2049 ≤ j.val → x1 (ix3 0 0 j) = (⊥ : EReal)) (cc : Fin 512)
    (ht : ∀ j, score (fun c => x0 (ix3 0 0 c)) (rowAt ![x5, x6, x7, x8, x9, x10, x11, x12, x13, x14, x15, x16, x17, x18, x19, x20] x3) (fun i => x2 (ix2 (head cc) ⟨i.val, by omega⟩)) sel (head cc) j ≠ ⊤)
    (j : Fin 2049) (hi : score (fun c => x0 (ix3 0 0 c)) (rowAt ![x5, x6, x7, x8, x9, x10, x11, x12, x13, x14, x15, x16, x17, x18, x19, x20] x3) (fun i => x2 (ix2 (head cc) ⟨i.val, by omega⟩)) sel (head cc) j ≠ ⊥) :
    out0_A_37 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 x30 x31 x32 x33 x34 x35 x36 xt0 (ix3 0 0 cc)
      = attend (score (fun c => x0 (ix3 0 0 c)) (rowAt ![x5, x6, x7, x8, x9, x10, x11, x12, x13, x14, x15, x16, x17, x18, x19, x20] x3) (fun i => x2 (ix2 (head cc) ⟨i.val, by omega⟩)) sel (head cc)) (fun j => rowAt ![x21, x22, x23, x24, x25, x26, x27, x28, x29, x30, x31, x32, x33, x34, x35, x36] x4 j cc) := by
  unfold out0_A_37
  rw [View.read_writes_eq_canon _ _ _ (cover0_A_37 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 x30 x31 x32 x33 x34 x35 x36 xt0)]
  unfold kernelRun0_A
  dsimp only
  sl_unfold_words
  simp only [View.canon_unit_zero (S := S1x1x512) zero3, View.readAt_eq_ld,
    harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, harg38.read_unread,
    View.ld_unit_zero (S := S1x1x512) zero3, View.ld_unit_zero (S := S1x1x2176) zero3, View.ld_unit_zero (S := S8x2176) zero2,
    View.ld_unit_zero (S := S1x1x512x128) zero4]
  rw [pay1_apply]
  have hD : (![k0_pay5 x0 x5, k0_pay6 x0 x6, k0_pay7 x0 x7, k0_pay8 x0 x8, k0_pay9 (k0_pay4 x0) x9, k0_pay10 (k0_pay4 x0) x10, k0_pay11 (k0_pay4 x0) x11, k0_pay12 (k0_pay4 x0) x12, k0_pay13 (k0_pay4 x0) x13, k0_pay14 (k0_pay4 x0) x14, k0_pay15 (k0_pay4 x0) x15, k0_pay16 (k0_pay4 x0) x16, k0_pay17 (k0_pay4 x0) x17, k0_pay18 (k0_pay4 x0) x18, k0_pay19 (k0_pay4 x0) x19, k0_pay20 (k0_pay4 x0) x20] : Fin 16 → FVec Ideal S8x128 .f32)
      = fun p => pageDot (k0_pay4 x0) ((![x5, x6, x7, x8, x9, x10, x11, x12, x13, x14, x15, x16, x17, x18, x19, x20] : Fin 16 → Vec Ideal S1x1x512x128 .f32) p) := by
    funext p
    fin_cases p
    all_goals rfl
  have hW : k0_pay22 (k0_pay5 x0 x5) (k0_pay6 x0 x6) (k0_pay7 x0 x7) (k0_pay8 x0 x8) (k0_pay9 (k0_pay4 x0) x9) (k0_pay10 (k0_pay4 x0) x10) (k0_pay11 (k0_pay4 x0) x11) (k0_pay12 (k0_pay4 x0) x12) (k0_pay13 (k0_pay4 x0) x13) (k0_pay14 (k0_pay4 x0) x14) (k0_pay15 (k0_pay4 x0) x15) (k0_pay16 (k0_pay4 x0) x16) (k0_pay17 (k0_pay4 x0) x17) (k0_pay18 (k0_pay4 x0) x18) (k0_pay19 (k0_pay4 x0) x19) (k0_pay20 (k0_pay4 x0) x20) (k0_pay21 k0_pay2 (k0_pay3 x0) x3) (iota Kind.tc S8x128 32 [1] iota_S8x128_d1_w32) x2 x1
      = weights (scored ![k0_pay5 x0 x5, k0_pay6 x0 x6, k0_pay7 x0 x7, k0_pay8 x0 x8, k0_pay9 (k0_pay4 x0) x9, k0_pay10 (k0_pay4 x0) x10, k0_pay11 (k0_pay4 x0) x11, k0_pay12 (k0_pay4 x0) x12, k0_pay13 (k0_pay4 x0) x13, k0_pay14 (k0_pay4 x0) x14, k0_pay15 (k0_pay4 x0) x15, k0_pay16 (k0_pay4 x0) x16, k0_pay17 (k0_pay4 x0) x17, k0_pay18 (k0_pay4 x0) x18, k0_pay19 (k0_pay4 x0) x19, k0_pay20 (k0_pay4 x0) x20] (k0_pay21 k0_pay2 (k0_pay3 x0) x3) x2 x1) :=
    pay22_list (k0_pay5 x0 x5) (k0_pay6 x0 x6) (k0_pay7 x0 x7) (k0_pay8 x0 x8) (k0_pay9 (k0_pay4 x0) x9) (k0_pay10 (k0_pay4 x0) x10) (k0_pay11 (k0_pay4 x0) x11) (k0_pay12 (k0_pay4 x0) x12) (k0_pay13 (k0_pay4 x0) x13) (k0_pay14 (k0_pay4 x0) x14) (k0_pay15 (k0_pay4 x0) x15) (k0_pay16 (k0_pay4 x0) x16) (k0_pay17 (k0_pay4 x0) x17) (k0_pay18 (k0_pay4 x0) x18) (k0_pay19 (k0_pay4 x0) x19) (k0_pay20 (k0_pay4 x0) x20) (k0_pay21 k0_pay2 (k0_pay3 x0) x3) x2 x1
  have key := block_apply x0 x1 x2 x3 x4 ![x5, x6, x7, x8, x9, x10, x11, x12, x13, x14, x15, x16, x17, x18, x19, x20] ![x21, x22, x23, x24, x25, x26, x27, x28, x29, x30, x31, x32, x33, x34, x35, x36]
    ![k0_pay5 x0 x5, k0_pay6 x0 x6, k0_pay7 x0 x7, k0_pay8 x0 x8, k0_pay9 (k0_pay4 x0) x9, k0_pay10 (k0_pay4 x0) x10, k0_pay11 (k0_pay4 x0) x11, k0_pay12 (k0_pay4 x0) x12, k0_pay13 (k0_pay4 x0) x13, k0_pay14 (k0_pay4 x0) x14, k0_pay15 (k0_pay4 x0) x15, k0_pay16 (k0_pay4 x0) x16, k0_pay17 (k0_pay4 x0) x17, k0_pay18 (k0_pay4 x0) x18, k0_pay19 (k0_pay4 x0) x19, k0_pay20 (k0_pay4 x0) x20] hD
    (k0_pay21 k0_pay2 (k0_pay3 x0) x3) rfl sel hs hp cc ht j hi _ hW
  simp only [Matrix.cons_val] at key
  exact key

end Cert.SattnIdeal.Hand

end
-- ==== Proof.SattnValue.lean ====
module

public import proofs.«01_k».proof.Proof.SattnPages
public import proofs.«01_k».proof.Proof.SattnOut
public import proofs.«01_k».proof.Proof.SattnIdealFrame

/-! # The sample attention's result array

Each grid point writes one sequence's attention; the points' blocks tile the result. -/

@[expose] public section

set_option maxRecDepth 16384

noncomputable section

open Idealize.ShloMosaic Idealize.ShloMosaic.TcCoe Idealize.SL.Sem
open Idealize.ShloMosaic.Pipeline (Dat)

namespace Cert.SattnIdeal.Hand

open Cert.SattnIdeal Cert.SattnIdeal.Gen Cert.SattnIdeal.Attn Cert.AttnMath
open Cert.RefSattnIdeal.Hand (pool pages)

variable (m : (ℓ : Loc nD τ sig) → Buf (Elt Ideal) ℓ) (ρ : Dev nD → PrngReg)

/-- An extended real that is a real number. -/
def IsReal (x : EReal) : Prop := ∃ r : ℝ, x = r

/-- The numbers the scores are made of are finite, and every sequence selects some key. -/
structure Finite (c : Dev nD) : Prop where
  q : ∀ b k, IsReal ((m ((c : Thread nD τ).loc main_arg1) : S128x512.Idx → EReal) (ix2 b k))
  bias : ∀ h k, IsReal ((m ((c : Thread nD τ).loc main_arg3) : S8x2176.Idx → EReal) (ix2 h k))
  kn : ∀ b k, IsReal ((m ((c : Thread nD τ).loc main_arg4) : S128x512.Idx → EReal) (ix2 b k))
  ck : ∀ n t h d, IsReal ((m ((c : Thread nD τ).loc main_arg6) : S4x2560x128x8x64.Idx → EReal) (ix5 0 n t h d))
  sel : ∀ b, ∃ j : Fin 2049, (m ((c : Thread nD τ).loc main_arg2) : S128x2176.Idx → BitVec 32) (ix2 b ⟨j.val, by omega⟩) ≠ 0#32

/-- Sequence `b`'s attention, of the arguments. -/
def seqAttn (c : Dev nD) (hP : InPool m c) (b : Fin 128) (cc : Fin 512) : EReal :=
  sampleAttn (fun k => (m ((c : Thread nD τ).loc main_arg1) : S128x512.Idx → EReal) (ix2 b k)) (fun k => (m ((c : Thread nD τ).loc main_arg4) : S128x512.Idx → EReal) (ix2 b k)) (fun k => (m ((c : Thread nD τ).loc main_arg5) : S128x512.Idx → EReal) (ix2 b k))
    (pool (m ((c : Thread nD τ).loc main_arg6))) (pool (m ((c : Thread nD τ).loc main_arg7)))
    (fun h j => (m ((c : Thread nD τ).loc main_arg3) : S8x2176.Idx → EReal) (ix2 h ⟨j.val, by omega⟩)) (fun j => decide ((m ((c : Thread nD τ).loc main_arg2) : S128x2176.Idx → BitVec 32) (ix2 b ⟨j.val, by omega⟩) ≠ 0#32))
    (pages (m ((c : Thread nD τ).loc main_arg0)) hP b) cc

/-- The result array, of the arguments. -/
def res (c : Dev nD) (hP : InPool m c) : Vec Ideal S128x1x512 .bf16 := fun i => seqAttn m c hP (i 0) (i 2)

theorem only_row (y : S1x1x512.Idx) : ∃ k : Fin 512, y = ix3 0 0 k :=
  ⟨y 2, funext fun a => Fin.ext (match a with
    | ⟨0, _⟩ => Nat.lt_one_iff.mp (y 0).isLt
    | ⟨1, _⟩ => Nat.lt_one_iff.mp (y 1).isLt
    | ⟨2, _⟩ => rfl)⟩

theorem row_real (C : Fin 2560 → Fin 128 → Fin 8 → Fin 64 → EReal) (P : Fin 16 → Fin 2560) (x : Fin 512 → EReal)
    (hC : ∀ n t h d, ∃ r : ℝ, C n t h d = r) (hx : ∀ k, ∃ r : ℝ, x k = r) (j : Fin 2049) (k : Fin 512) : ∃ r : ℝ, rowOf C P x j k = r := by
  unfold rowOf
  split
  · exact hC _ _ _ _
  · exact hx k

theorem q_eq (hO : Ok m) (c : Dev nD) (t : Fin (cfgM m hO).N) (b : Fin 128) (hb : b.val = t.val) :
    (fun k => (iblk m hO c 0 t : Vec Ideal S1x1x512 .bf16) (ix3 0 0 k)) = fun k => (m ((c : Thread nD τ).loc main_arg1) : S128x512.Idx → EReal) (ix2 b k) :=
  funext fun k => iblk_0 m hO c t b hb k

theorem bias_eq (hO : Ok m) (c : Dev nD) (t : Fin (cfgM m hO).N) (h : Fin 8) :
    (fun j : Fin 2049 => (iblk m hO c 2 t : Vec Ideal S8x2176 .f32) (ix2 h ⟨j.val, by omega⟩)) = fun j : Fin 2049 => (m ((c : Thread nD τ).loc main_arg3) : S8x2176.Idx → EReal) (ix2 h ⟨j.val, by omega⟩) :=
  funext fun j => iblk_2 m hO c t h _

/-- The scores of a sequence whose numbers are finite. -/
theorem seq_real (c : Dev nD) (hP : InPool m c) (hF : Finite m c) (b : Fin 128) (h : Fin 8) (j : Fin 2049) :
    score (fun k => (m ((c : Thread nD τ).loc main_arg1) : S128x512.Idx → EReal) (ix2 b k)) (rowOf (pool (m ((c : Thread nD τ).loc main_arg6))) (pages (m ((c : Thread nD τ).loc main_arg0)) hP b) (fun k => (m ((c : Thread nD τ).loc main_arg4) : S128x512.Idx → EReal) (ix2 b k)))
        (fun j => (m ((c : Thread nD τ).loc main_arg3) : S8x2176.Idx → EReal) (ix2 h ⟨j.val, by omega⟩)) (fun j => decide ((m ((c : Thread nD τ).loc main_arg2) : S128x2176.Idx → BitVec 32) (ix2 b ⟨j.val, by omega⟩) ≠ 0#32)) h j ≠ ⊤
    ∧ (decide ((m ((c : Thread nD τ).loc main_arg2) : S128x2176.Idx → BitVec 32) (ix2 b ⟨j.val, by omega⟩) ≠ 0#32) = true →
      score (fun k => (m ((c : Thread nD τ).loc main_arg1) : S128x512.Idx → EReal) (ix2 b k)) (rowOf (pool (m ((c : Thread nD τ).loc main_arg6))) (pages (m ((c : Thread nD τ).loc main_arg0)) hP b) (fun k => (m ((c : Thread nD τ).loc main_arg4) : S128x512.Idx → EReal) (ix2 b k)))
        (fun j => (m ((c : Thread nD τ).loc main_arg3) : S8x2176.Idx → EReal) (ix2 h ⟨j.val, by omega⟩)) (fun j => decide ((m ((c : Thread nD τ).loc main_arg2) : S128x2176.Idx → BitVec 32) (ix2 b ⟨j.val, by omega⟩) ≠ 0#32)) h j ≠ ⊥) :=
  score_real _ _ _ _ h (hF.q b) (row_real _ _ _ hF.ck (hF.kn b)) (fun j => hF.bias h _) j

set_option maxHeartbeats 4000000 in
/-- What the body leaves in the output's staging buffer at point `t`: sequence `t`'s attention. -/
theorem outs_apply (hO : Ok m) (c : Dev nD) (hP : InPool m c) (hF : Finite m c) (t : Fin (cfgM m hO).N) (b : Fin 128) (hb : b.val = t.val) (cc : Fin 512) :
    outsAt0 m hO c t (ix3 0 0 cc) = seqAttn m c hP b cc := by
  obtain ⟨j, hj⟩ := hF.sel b
  have hK := keys_eq m hO c hP t b hb
  have hV := values_eq m hO c hP t b hb
  have hQ := q_eq m hO c t b hb
  have hB := bias_eq m hO c t (head cc)
  have hS : score (fun k => (iblk m hO c 0 t : Vec Ideal S1x1x512 .bf16) (ix3 0 0 k)) (rowAt ![(iblk m hO c 5 t : Vec Ideal S1x1x512x128 .f32), (iblk m hO c 6 t : Vec Ideal S1x1x512x128 .f32), (iblk m hO c 7 t : Vec Ideal S1x1x512x128 .f32), (iblk m hO c 8 t : Vec Ideal S1x1x512x128 .f32), (iblk m hO c 9 t : Vec Ideal S1x1x512x128 .f32), (iblk m hO c 10 t : Vec Ideal S1x1x512x128 .f32), (iblk m hO c 11 t : Vec Ideal S1x1x512x128 .f32), (iblk m hO c 12 t : Vec Ideal S1x1x512x128 .f32), (iblk m hO c 13 t : Vec Ideal S1x1x512x128 .f32), (iblk m hO c 14 t : Vec Ideal S1x1x512x128 .f32), (iblk m hO c 15 t : Vec Ideal S1x1x512x128 .f32), (iblk m hO c 16 t : Vec Ideal S1x1x512x128 .f32), (iblk m hO c 17 t : Vec Ideal S1x1x512x128 .f32), (iblk m hO c 18 t : Vec Ideal S1x1x512x128 .f32), (iblk m hO c 19 t : Vec Ideal S1x1x512x128 .f32), (iblk m hO c 20 t : Vec Ideal S1x1x512x128 .f32)] (iblk m hO c 3 t : Vec Ideal S1x1x512 .f32))
      (fun j : Fin 2049 => (iblk m hO c 2 t : Vec Ideal S8x2176 .f32) (ix2 (head cc) ⟨j.val, by omega⟩)) (fun j => decide ((m ((c : Thread nD τ).loc main_arg2) : S128x2176.Idx → BitVec 32) (ix2 b ⟨j.val, by omega⟩) ≠ 0#32)) (head cc)
      = score (fun k => (m ((c : Thread nD τ).loc main_arg1) : S128x512.Idx → EReal) (ix2 b k)) (rowOf (pool (m ((c : Thread nD τ).loc main_arg6))) (pages (m ((c : Thread nD τ).loc main_arg0)) hP b) (fun k => (m ((c : Thread nD τ).loc main_arg4) : S128x512.Idx → EReal) (ix2 b k)))
        (fun j => (m ((c : Thread nD τ).loc main_arg3) : S8x2176.Idx → EReal) (ix2 (head cc) ⟨j.val, by omega⟩)) (fun j => decide ((m ((c : Thread nD τ).loc main_arg2) : S128x2176.Idx → BitVec 32) (ix2 b ⟨j.val, by omega⟩) ≠ 0#32)) (head cc) := by
    rw [hK, hQ, hB]
  have hR := seq_real m c hP hF b (head cc)
  unfold outsAt0
  refine (out_apply c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (iblk m hO c 34 t) (iblk m hO c 35 t) (iblk m hO c 36 t) _
    (fun j => decide ((m ((c : Thread nD τ).loc main_arg2) : S128x2176.Idx → BitVec 32) (ix2 b ⟨j.val, by omega⟩) ≠ 0#32))
    (fun j => (iblk_1 m hO c t b hb _).trans (mask_sel _ b j)) (fun j h => (iblk_1 m hO c t b hb j).trans (mask_pad _ b j h)) cc
    (fun j => by rw [hS]; exact (hR j).1) j (by rw [hS]; exact (hR j).2 (decide_eq_true hj))).trans ?_
  rw [hS, hV]
  rfl

theorem idx_37 : ∀ t : Fin grid0.N, cc0_transform_37 (grid0.coords t) 0 = t.val ∧ cc0_transform_37 (grid0.coords t) 1 = 0 ∧ cc0_transform_37 (grid0.coords t) 2 = 0 := by decide +kernel

/-- What is written back at point `t` is the result's block there. -/
theorem flushed_eq (hO : Ok m) (c : Dev nD) (hP : InPool m c) (hF : Finite m c) (t : Fin (cfgM m hO).N) :
    (dats m hO 0 c).flushed 37 t = (((cfgM m hO).win 37).blk t).view.read (Elt Ideal) (res m c hP) := by
  show ((cfgM m hO).win 37).cut ((cfgM m hO).grid.coords t) ((dats m hO 0 c).after 37 t) = _
  rw [after0_37]
  have hN : t.val < 128 := Nat.lt_of_lt_of_eq t.isLt N_0
  funext y
  obtain ⟨k, rfl⟩ := only_row y
  refine (outs_apply m hO c hP hF t ⟨t.val, hN⟩ rfl k).trans ?_
  have e : ((((cfgM m hO).win 37).blk t).view.emb (ix3 0 0 k : S1x1x512.Idx) : S128x1x512.Idx) = ix3 ⟨t.val, hN⟩ 0 k := by
    funext a
    apply Fin.ext
    match a with
    | ⟨0, _⟩ => show cc0_transform_37 (grid0.coords t) 0 * 1 + 1 * 0 = t.val; rw [(idx_37 t).1]; omega
    | ⟨1, _⟩ => show cc0_transform_37 (grid0.coords t) 1 * 1 + 1 * 0 = 0; rw [(idx_37 t).2.1]
    | ⟨2, _⟩ => show cc0_transform_37 (grid0.coords t) 2 * 512 + 1 * k.val = k.val; rw [(idx_37 t).2.2]; omega
  show _ = res m c hP ((((cfgM m hO).win 37).blk t).view.emb (ix3 0 0 k : S1x1x512.Idx) : S128x1x512.Idx)
  rw [e]
  rfl

/-- The blocks tile the result array. -/
theorem cover (hO : Ok m) (i : S128x1x512.Idx) : ∃ t : Fin (cfgM m hO).N, ((cfgM m hO).win 37).flush t = true ∧ i ∈ (((cfgM m hO).win 37).blk t).view.set := by
  have h0 : (i 0 : Nat) < 128 := (i 0).isLt
  have h1 : (i 1 : Nat) < 1 := (i 1).isLt
  have h2 : (i 2 : Nat) < 512 := (i 2).isLt
  have hN : (cfgM m hO).N = 128 := N_0
  refine ⟨⟨(i 0).val, by rw [hN]; omega⟩, flush0_37 _ _, ?_⟩
  generalize ht : (⟨_, _⟩ : Fin (cfgM m hO).N) = t
  have hv : t.val = (i 0).val := by rw [← ht]
  have hs : (((cfgM m hO).win 37).blk t).view.set = (((cfgM m hO).win 37).rect t).set := View.set_slice_whole _ _
  refine (Finset.ext_iff.mp hs i).mpr (Rect.mem_set_unit.mpr fun a => ?_)
  match a with
  | ⟨0, _⟩ => show cc0_transform_37 (grid0.coords t) 0 * 1 ≤ (i 0 : Nat) ∧ (i 0 : Nat) < cc0_transform_37 (grid0.coords t) 0 * 1 + 1
              rw [(idx_37 t).1]; omega
  | ⟨1, _⟩ => show cc0_transform_37 (grid0.coords t) 1 * 1 ≤ (i 1 : Nat) ∧ (i 1 : Nat) < cc0_transform_37 (grid0.coords t) 1 * 1 + 1
              rw [(idx_37 t).2.1]; omega
  | ⟨2, _⟩ => show cc0_transform_37 (grid0.coords t) 2 * 512 ≤ (i 2 : Nat) ∧ (i 2 : Nat) < cc0_transform_37 (grid0.coords t) 2 * 512 + 512
              rw [(idx_37 t).2.2]; omega

/-- After the last point the result array holds every sequence's attention. -/
theorem final (hO : Ok m) (c : Dev nD) (hP : InPool m c) (hF : Finite m c) : (dats m hO 0 c).arrAt 37 (cfgM m hO).N = res m c hP :=
  (dats m hO 0 c).arrAt_eq_of_cover 37 (res m c hP) (fun t _ => flushed_eq m hO c hP hF t) (cover m hO)

/-- The run of the whole program: the result array holds every sequence's attention and the arguments end unchanged. -/
theorem run_value (hO : Ok m) (hP : ∀ c, InPool m c) (hF : ∀ c, Finite m c) : θ_run defs (onTc (τ := τ) (main (F := Ideal))) ⟨m, fun _ => 0, ρ⟩ (fun r => ∀ c : Dev nD,
      r.2.mem ((c.tc : Thread nD τ).loc main_v16) = res m c (hP c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  have hR : θ_run defs (onTc (τ := τ) (main (F := Ideal))) ⟨m, fun _ => 0, ρ⟩ (fun r => ∀ c : Dev nD, r.2.mem ((c.tc : Thread nD τ).loc main_v16) = res m c (hP c)) :=
    (θ_run defs _ _).mono (fun _ h c => ((h c).1 37).trans (final m hO c (hP c) (hF c))) (run_main m ρ hO)
  exact (θ_run defs _ _).mono (fun _ h c => ⟨h.2 c, h.1 c⟩) (θ_run_and (unchanged m ρ hO) hR)

end Cert.SattnIdeal.Hand

end
-- ==== Proof.SattnClaims.lean ====
module

public import proofs.«01_k».proof.Defs
public import proofs.«01_k».proof.Proof.Gen.RefSattnIdeal.Run
public import proofs.«01_k».proof.Proof.Gen.RefSattnIdeal.Read
public import proofs.«01_k».proof.Proof.SattnDefined
public import proofs.«01_k».proof.Proof.SattnTable
public import proofs.«01_k».proof.Proof.SattnFrame
public import proofs.«01_k».proof.Proof.SattnValue

/-! # The claims of the sample batch's attention call -/

@[expose] public section

set_option maxRecDepth 16384

namespace Cert.Proof.SattnClaims

open Idealize.ShloMosaic Idealize.ShloMosaic.TcCoe Idealize.SL.Sem
open Cert.SattnPre

/-- The kernel's frame over the machine's floats, for a table of pool pages. -/
theorem frame_p : Cert.quiescent_Sattn := fun m ρ h =>
  Cert.Sattn.Attn.frame m ρ (Cert.Sattn.Hand.ok_of m fun c b p => pages_of _ _ _ _ _ _ _ _ (h c) b p)

/-- The kernel's frame over the extended reals, for a table of pool pages. -/
theorem frame_pi : Cert.quiescent_SattnIdeal := fun m ρ h =>
  Cert.SattnIdeal.Attn.frame m ρ (Cert.SattnIdeal.Hand.ok_of m fun c b p => pages_of _ _ _ _ _ _ _ _ (h c) b p)

/-- The value claim's precondition keeps every page in the pool. -/
theorem in_pool (m : (ℓ : Loc Cert.SattnIdeal.nD Cert.SattnIdeal.τ Cert.SattnIdeal.sig) → Buf (Elt Ideal) ℓ) (h : Cert.Pre_SattnIdeal_attention_defined m)
    (c : Dev Cert.SattnIdeal.nD) : Cert.SattnIdeal.Hand.InPool m c :=
  fun b p => defined_pages _ _ _ _ _ _ _ _ (h c).1 b p

/-- The value claim's precondition makes the scores finite and selects a key of every sequence. -/
theorem finite (m : (ℓ : Loc Cert.SattnIdeal.nD Cert.SattnIdeal.τ Cert.SattnIdeal.sig) → Buf (Elt Ideal) ℓ) (h : Cert.Pre_SattnIdeal_attention_defined m)
    (c : Dev Cert.SattnIdeal.nD) : Cert.SattnIdeal.Hand.Finite m c where
  q b k := defined_q _ _ _ _ _ _ _ _ (h c).2.2.1 _
  bias a k := defined_bias _ _ _ _ _ _ _ _ (h c).2.2.2.1 _
  kn b k := defined_kn _ _ _ _ _ _ _ _ (h c).2.2.2.2.1 _
  ck n t a d := defined_ck _ _ _ _ _ _ _ _ (h c).2.2.2.2.2 _
  sel b := defined_sel _ _ _ _ _ _ _ _ (h c).2.1 b

/-- The kernel's frame over the extended reals, under the value claim's precondition. -/
theorem frame_pi_defined : Cert.quiescent_SattnIdeal_pre_attention_defined := fun m ρ h =>
  Cert.SattnIdeal.Attn.frame m ρ (Cert.SattnIdeal.Hand.ok_of m (in_pool m h))

/-- The reference's frame over the extended reals. -/
theorem frame_ri : Cert.quiescent_RefSattnIdeal := fun m ρ _ =>
  (θ_run Cert.RefSattnIdeal.defs _ _).mono (fun r h => ⟨fun c => (h c).2, sem_eq_zero_of_no_sems (by decide) r.2⟩)
    (Cert.RefSattnIdeal.Value.run (F := Ideal) m ρ)

/-- The reference's frame under the value claim's precondition. -/
theorem frame_ri_defined : Cert.quiescent_RefSattnIdeal_pre_attention_defined := fun m ρ _ =>
  (θ_run Cert.RefSattnIdeal.defs _ _).mono (fun r h => ⟨fun c => (h c).2, sem_eq_zero_of_no_sems (by decide) r.2⟩)
    (Cert.RefSattnIdeal.Value.run (F := Ideal) m ρ)

/-- The idealization rewrote no operation of the kernel. -/
theorem preserves : Cert.preserves_Sattn_SattnIdeal := trivial

/-- From arguments that agree, the kernel's result array and the reference's are equal: both hold every sequence's attention over
    its pages and its new token. -/
theorem algebraic : Cert.algebraic_SattnIdeal_RefSattnIdeal_pre_attention_defined := by
  intro m ρ m' ρ' h hagree
  refine ⟨fun c => Cert.SattnIdeal.Hand.res m c (in_pool m h c), ?_, ?_⟩
  · exact Cert.SattnIdeal.Hand.run_value m ρ (Cert.SattnIdeal.Hand.ok_of m (in_pool m h)) (in_pool m h) (finite m h)
  · refine (θ_run Cert.RefSattnIdeal.defs _ _).mono (fun _ hr c => ⟨(hr c).1.trans ?_, (hr c).2⟩)
      (Cert.RefSattnIdeal.Value.run (F := Ideal) m' ρ')
    rw [Cert.RefSattnIdeal.Read.val_main_v36_eq]
    obtain ⟨a0, a1, a2, a3, a4, a5, a6, a7⟩ := hagree c
    rw [a0, a1, a2, a3, a4, a5, a6, a7]
    funext i
    have hi : i = (ix3 (i 0) 0 (i 2) : Cert.SattnIdeal.S128x1x512.Idx) := funext fun a => Fin.ext (match a with
      | ⟨0, _⟩ => rfl
      | ⟨1, _⟩ => Nat.lt_one_iff.mp (i 1).isLt
      | ⟨2, _⟩ => rfl)
    rw [hi]
    exact Cert.RefSattnIdeal.Hand.result_apply _ _ _ _ _ _ _ _ (in_pool m h c) (i 0) (i 2)

end Cert.Proof.SattnClaims

end
-- ==== Proof.LayerMath.lean ====
/-
  The layer's arithmetic over the extended reals, as functions of an index: the root-mean-square scaling of a row, the
  gated product of the feed-forward block and its sum over the hidden units, and the same sum taken chunk by chunk.
-/
module

public import Idealize.ShloMosaic.Lib.Pointwise

@[expose] public section

noncomputable section

open Idealize.ShloMosaic

namespace Cert.LayerMath

/-- The row `x` scaled by the reciprocal root of its mean square (plus the small constant) and by the weights `w`. -/
def rms (x w : Fin 1024 → EReal) (k : Fin 1024) : EReal :=
  x k * Ideal.rsqrt (Ideal.div (∑ j, x j * x j) (Ideal.ofBits FTy.f32 1149239296#32) + Ideal.ofBits FTy.f32 897988541#32) * w k

/-- `g · (1 / (1 + exp (-g))) · u`. -/
def gated (g u : EReal) : EReal := g * Ideal.div 1 (1 + Ideal.exp (0 - g)) * u

/-- Hidden unit `k` of the feed-forward block at the normalised row `h`: gate column `k` against up column `2816 + k`. -/
def hiddenUnit (h : Fin 1024 → EReal) (win : Fin 1024 → Fin 5632 → EReal) (k : Fin 2816) : EReal :=
  gated (∑ j, h j * win j ⟨k.val, by omega⟩) (∑ j, h j * win j ⟨2816 + k.val, by omega⟩)

/-- Entry `l` of the feed-forward block's output row. -/
def ffnSum (h : Fin 1024 → EReal) (win : Fin 1024 → Fin 5632 → EReal) (wout : Fin 2816 → Fin 1024 → EReal) (l : Fin 1024) : EReal :=
  ∑ k : Fin 2816, hiddenUnit h win k * wout k l

/-- The feed-forward half step: a row plus half of the feed-forward block of its scaled self. -/
def halfFfn (x w : Fin 1024 → EReal) (win : Fin 1024 → Fin 5632 → EReal) (wout : Fin 2816 → Fin 1024 → EReal) (l : Fin 1024) : EReal :=
  x l + Ideal.ofBits FTy.f32 1056964608#32 * ffnSum (rms x w) win wout l

/-- The part of the feed-forward sum that the 256 hidden units from `o` on contribute. -/
def part (h : Fin 1024 → EReal) (win : Fin 1024 → Fin 5632 → EReal) (wout : Fin 2816 → Fin 1024 → EReal) (o : Nat)
    (ho : o + 256 ≤ 2816) (l : Fin 1024) : EReal :=
  ∑ k : Fin 256, gated (∑ j, h j * win j ⟨o + k.val, by omega⟩) (∑ j, h j * win j ⟨2816 + o + k.val, by omega⟩)
    * wout ⟨o + k.val, by omega⟩ l

/-- A sum over 2816 units is the sum over eleven consecutive chunks of 256. -/
theorem sum_chunks (f : Fin 2816 → EReal) :
    ∑ k, f k = ∑ c : Fin 11, ∑ k : Fin 256, f ⟨256 * c.val + k.val, by omega⟩ := by
  rw [← Fintype.sum_prod_type' (f := fun (c : Fin 11) (k : Fin 256) => f ⟨256 * c.val + k.val, by omega⟩)]
  refine (Fintype.sum_equiv (finProdFinEquiv (m := 11) (n := 256)) _ _ fun p => ?_).symm
  exact congrArg f (Fin.ext (Nat.add_comm _ _))

/-- The feed-forward sum, chunk after chunk, in the order the chunks are added. -/
theorem ffnSum_eq_parts (h : Fin 1024 → EReal) (win : Fin 1024 → Fin 5632 → EReal) (wout : Fin 2816 → Fin 1024 → EReal) (l : Fin 1024) :
    ffnSum h win wout l =
      part h win wout 0 (by omega) l + part h win wout 256 (by omega) l + part h win wout 512 (by omega) l
      + part h win wout 768 (by omega) l + part h win wout 1024 (by omega) l + part h win wout 1280 (by omega) l
      + part h win wout 1536 (by omega) l + part h win wout 1792 (by omega) l + part h win wout 2048 (by omega) l
      + part h win wout 2304 (by omega) l + part h win wout 2560 (by omega) l := by
  have key : ∀ (c : Nat) (hc : c < 11) (o : Nat) (ho : o + 256 ≤ 2816), o = 256 * c →
      (∑ k : Fin 256, hiddenUnit h win ⟨256 * c + k.val, by omega⟩ * wout ⟨256 * c + k.val, by omega⟩ l) = part h win wout o ho l := by
    intro c hc o ho e
    subst e
    refine Finset.sum_congr rfl fun k _ => ?_
    simp only [hiddenUnit, Nat.add_assoc]
  have e11 : ∀ g : Fin 11 → EReal, ∑ c, g c = g 0 + g 1 + g 2 + g 3 + g 4 + g 5 + g 6 + g 7 + g 8 + g 9 + g 10 := fun g => by
    simp only [Fin.sum_univ_castSucc, Fin.sum_univ_zero, zero_add]; rfl
  unfold ffnSum
  rw [sum_chunks, e11]
  rw [← key 0 (by omega) 0 _ rfl, ← key 1 (by omega) 256 _ rfl, ← key 2 (by omega) 512 _ rfl, ← key 3 (by omega) 768 _ rfl,
    ← key 4 (by omega) 1024 _ rfl, ← key 5 (by omega) 1280 _ rfl, ← key 6 (by omega) 1536 _ rfl, ← key 7 (by omega) 1792 _ rfl,
    ← key 8 (by omega) 2048 _ rfl, ← key 9 (by omega) 2304 _ rfl, ← key 10 (by omega) 2560 _ rfl]
  rfl

end Cert.LayerMath

end
-- ==== Proof.FfnKernel.lean ====
module

public import proofs.«01_k».proof.Proof.Gen.FfnIdeal.Value
public import Idealize.ShloMosaic.Lib.Pointwise
public import Idealize.ShloMosaic.Lib.Tactic
public import Idealize.ShloMosaic.Lib.VecWindow
public import proofs.«01_k».proof.Proof.LayerMath

@[expose] public section

set_option maxRecDepth 16384

noncomputable section

open Idealize.ShloMosaic Idealize.ShloMosaic.TcCoe Idealize.SL.Sem
open Idealize.ShloMosaic.Pipeline (Dat)

namespace Cert.FfnIdeal.Hand

open Cert.FfnIdeal Cert.FfnIdeal.Gen Cert.LayerMath

variable {F : FTy → Type} [FloatOps F]

theorem zero2 : (![0, 0] : Fin 2 → Nat) = fun _ => 0 := funext fun a => by fin_cases a <;> rfl

/-- One chunk of the feed-forward sum: the chunk's gate and up columns, the gated product, and the chunk's down rows. -/
def chunk (h : FVec F S512x1024 .bf16) (g u : Vec F S1024x256 .bf16) (d : Vec F S256x1024 .bf16) :
    FVec F S512x1024 .f32 :=
  matmul dot_S512x256_S256x1024_S512x1024_1_0_0_1_n_n none
    (truncf .bf16 (mulf (mulf (matmul dot_S512x1024_S1024x256_S512x256_1_0_0_1_n_n none h g (constant S512x256 .f32 0x00000000#32))
      (divf (broadcast S512x256 (Scalar.ofBits .f32 0x3F800000#32))
        (addf (broadcast S512x256 (Scalar.ofBits .f32 0x3F800000#32))
          (exp (subf (broadcast S512x256 (Scalar.ofBits .f32 0x00000000#32))
            (matmul dot_S512x1024_S1024x256_S512x256_1_0_0_1_n_n none h g (constant S512x256 .f32 0x00000000#32)))))))
      (matmul dot_S512x1024_S1024x256_S512x256_1_0_0_1_n_n none h u (constant S512x256 .f32 0x00000000#32))) bitsLt_bf16_f32)
    d (constant S512x1024 .f32 0x00000000#32)

theorem pay2_eq (x0 : Vec F S512x1024 .f32) (x1 : Vec F S1x1024 .f32) (g u : Vec F S1024x256 .bf16) (d : Vec F S256x1024 .bf16) :
    k0_pay2 x0 x1 g u d = chunk (k0_pay1 x0 x1) g u d := by
  simp only [k0_pay2, chunk, shapeCast_self]
theorem pay3_eq (h : FVec F S512x1024 .bf16) (g u : Vec F S1024x256 .bf16) (d : Vec F S256x1024 .bf16) (acc : Vec F S512x1024 .f32) :
    k0_pay3 h g u d acc = addf acc (chunk h g u d) := by
  simp only [k0_pay3, chunk, shapeCast_self]
theorem pay8_eq (h : FVec F S512x1024 .bf16) (g u : Vec F S1024x256 .bf16) (d : Vec F S256x1024 .bf16) (acc : Vec F S512x1024 .f32) :
    k0_pay8 (k0_pay4 h g) (k0_pay5 h u) (k0_pay6 h g) k0_pay7 d acc = addf acc (chunk h g u d) := by
  simp only [k0_pay4, k0_pay5, k0_pay6, k0_pay7, k0_pay8, chunk, shapeCast_self]
theorem pay10_eq (h : FVec F S512x1024 .bf16) (g u : Vec F S1024x256 .bf16) (d : Vec F S256x1024 .bf16) (acc : Vec F S512x1024 .f32) :
    k0_pay10 (k0_pay9 h g u d acc) = addf acc (chunk h g u d) := by
  simp only [k0_pay10, k0_pay9, chunk, shapeCast_self]
theorem pay11_eq (h : FVec F S512x1024 .bf16) (g u : Vec F S1024x256 .bf16) (d : Vec F S256x1024 .bf16) (acc : Vec F S512x1024 .f32) :
    k0_pay11 h g u d acc = addf acc (chunk h g u d) := by
  simp only [k0_pay11, chunk, shapeCast_self]
theorem pay15_eq (h : FVec F S512x1024 .bf16) (g u : Vec F S1024x256 .bf16) (d : Vec F S256x1024 .bf16) (acc : Vec F S512x1024 .f32) :
    k0_pay15 (k0_pay12 h g) (k0_pay13 h u) (k0_pay14 h g) d acc = addf acc (chunk h g u d) := by
  simp only [k0_pay12, k0_pay13, k0_pay14, k0_pay15, chunk, shapeCast_self]
theorem pay17_eq (h : FVec F S512x1024 .bf16) (g u : Vec F S1024x256 .bf16) (d : Vec F S256x1024 .bf16) (acc : Vec F S512x1024 .f32) :
    k0_pay17 (k0_pay16 h g u d) acc = addf acc (chunk h g u d) := by
  simp only [k0_pay16, k0_pay17, chunk, shapeCast_self]
theorem pay18_eq (h : FVec F S512x1024 .bf16) (g u : Vec F S1024x256 .bf16) (d : Vec F S256x1024 .bf16) (acc : Vec F S512x1024 .f32) :
    k0_pay18 h g u d acc = addf acc (chunk h g u d) := by
  simp only [k0_pay18, chunk, shapeCast_self]
theorem pay21_eq (h : FVec F S512x1024 .bf16) (g u : Vec F S1024x256 .bf16) (d : Vec F S256x1024 .bf16) (acc : Vec F S512x1024 .f32) :
    k0_pay21 (k0_pay19 h g) (k0_pay20 h u) d acc = addf acc (chunk h g u d) := by
  simp only [k0_pay19, k0_pay20, k0_pay21, chunk, shapeCast_self]
theorem pay23_eq (h : FVec F S512x1024 .bf16) (g u : Vec F S1024x256 .bf16) (d : Vec F S256x1024 .bf16) (acc : Vec F S512x1024 .f32) :
    k0_pay23 (k0_pay22 h g u d) acc = addf acc (chunk h g u d) := by
  simp only [k0_pay22, k0_pay23, chunk, shapeCast_self]
theorem pay24_eq (h : FVec F S512x1024 .bf16) (g u : Vec F S1024x256 .bf16) (d : Vec F S256x1024 .bf16) (acc : Vec F S512x1024 .f32) :
    k0_pay24 h g u d acc = addf acc (chunk h g u d) := by
  simp only [k0_pay24, chunk, shapeCast_self]

/-- The root-mean-square scaling of the block's rows, at an index. -/
theorem pay1_apply (x0 : Vec Ideal S512x1024 .f32) (x1 : Vec Ideal S1x1024 .f32) (r : Fin 512) (l : Fin 1024) :
    k0_pay1 x0 x1 (ix2 r l) = rms (fun k => x0 (ix2 r k)) (fun k => x1 (ix2 0 k)) l := by
  pointwise [k0_pay1, rms]

/-- One chunk's contribution at an index is that part of the feed-forward sum. -/
theorem chunk_apply (h : FVec Ideal S512x1024 .bf16) (x2 : Vec Ideal S1024x5632 .bf16) (x3 : Vec Ideal S2816x1024 .bf16)
    (o o' : Nat) (ho : o + 256 ≤ 2816) (e : o' = 2816 + o)
    (hg : ∀ a, (![0, o] : Fin 2 → Nat) a + (![1024, 256] : Fin 2 → Nat) a ≤ S1024x5632.size a)
    (hu : ∀ a, (![0, o'] : Fin 2 → Nat) a + (![1024, 256] : Fin 2 → Nat) a ≤ S1024x5632.size a)
    (hd : ∀ a, (![o, 0] : Fin 2 → Nat) a + (![256, 1024] : Fin 2 → Nat) a ≤ S2816x1024.size a)
    (r : Fin 512) (l : Fin 1024) :
    chunk h (View.ld x2 (Rect.unit ![0, o] ![1024, 256] hg)) (View.ld x2 (Rect.unit ![0, o'] ![1024, 256] hu))
        (View.ld x3 (Rect.unit ![o, 0] ![256, 1024] hd)) (ix2 r l)
      = part (fun k => h (ix2 r k)) (fun j k => x2 (ix2 j k)) (fun k l => x3 (ix2 k l)) o ho l := by
  subst e
  pointwise [chunk, part, gated, dot_S512x256_S256x1024_S512x1024_1_0_0_1_n_n, dot_S512x1024_S1024x256_S512x256_1_0_0_1_n_n]

/-- What one grid point leaves in the output block: at row `r`, entry `l`, the feed-forward half step of the block's row. -/
theorem out_apply (c : Dev nD) (i : grid0.Coords) (arg1 : Memref sig .tc .vmem S512x1024 .f32) (h1 : arg1.IsWhole)
    (arg2 : Memref sig .tc .vmem S1x1024 .f32) (h2 : arg2.IsWhole)
    (arg3 : Memref sig .tc .vmem S1024x5632 .bf16) (h3 : arg3.IsWhole)
    (arg4 : Memref sig .tc .vmem S2816x1024 .bf16) (h4 : arg4.IsWhole)
    (arg5 : Memref sig .tc .vmem S1x1024 .f32) (h5 : arg5.IsWhole)
    (arg6 : Memref sig .tc .vmem S512x1024 .f32) (h6 : arg6.IsWhole)
    (arg7 : Memref sig .tc .vmem S512x1024 .f32) (h7 : arg7.IsWhole)
    (x0 : Vec Ideal S512x1024 .f32) (x1 : Vec Ideal S1x1024 .f32) (x2 : Vec Ideal S1024x5632 .bf16)
    (x3 : Vec Ideal S2816x1024 .bf16) (x4 : Vec Ideal S1x1024 .f32) (r : Fin 512) (l : Fin 1024) :
    out0_A_5 c i arg1 h1 arg2 h2 arg3 h3 arg4 h4 arg5 h5 arg6 h6 arg7 h7 x0 x1 x2 x3 x4 (ix2 r l)
      = halfFfn (fun k => x0 (ix2 r k)) (fun k => x1 (ix2 0 k)) (fun j k => x2 (ix2 j k)) (fun k l => x3 (ix2 k l)) l := by
  unfold out0_A_5
  rw [View.read_writes_eq_canon _ _ _ (cover0_A_5 c i arg1 h1 arg2 h2 arg3 h3 arg4 h4 arg5 h5 arg6 h6 arg7 h7 x0 x1 x2 x3 x4)]
  unfold kernelRun0_A
  dsimp only
  sl_unfold_words
  simp only [View.canon_unit_zero (S := S512x1024) zero2, View.readCov_full (s := S512x1024), View.readAt_eq_ld,
    h1.read_unread, h2.read_unread, h3.read_unread, h4.read_unread, View.ld_unit_zero (S := S512x1024) zero2,
    View.ld_unit_zero (S := S1x1024) zero2]
  simp only [pay2_eq, pay3_eq, pay8_eq, pay10_eq, pay11_eq, pay15_eq, pay17_eq, pay18_eq, pay21_eq, pay23_eq, pay24_eq]
  have e : ∀ (a b : Vec Ideal S512x1024 .f32), k0_pay25 a b (ix2 r l) = a (ix2 r l) + Ideal.ofBits FTy.f32 1056964608#32 * b (ix2 r l) :=
    fun a b => by pointwise [k0_pay25]
  rw [e, halfFfn, ffnSum_eq_parts]
  simp only [ValueIdx.addf_apply]
  rw [chunk_apply _ x2 x3 0 2816 (by omega) rfl, chunk_apply _ x2 x3 256 3072 (by omega) rfl,
    chunk_apply _ x2 x3 512 3328 (by omega) rfl, chunk_apply _ x2 x3 768 3584 (by omega) rfl,
    chunk_apply _ x2 x3 1024 3840 (by omega) rfl, chunk_apply _ x2 x3 1280 4096 (by omega) rfl,
    chunk_apply _ x2 x3 1536 4352 (by omega) rfl, chunk_apply _ x2 x3 1792 4608 (by omega) rfl,
    chunk_apply _ x2 x3 2048 4864 (by omega) rfl, chunk_apply _ x2 x3 2304 5120 (by omega) rfl,
    chunk_apply _ x2 x3 2560 5376 (by omega) rfl]
  simp only [pay1_apply]

end Cert.FfnIdeal.Hand

end
-- ==== Proof.FfnValue.lean ====
/-
  The feed-forward kernel's result array: every row is the feed-forward half step of the argument row, and so is every
  row of the reference's result.
-/
module

public import proofs.«01_k».proof.Proof.FfnKernel
public import proofs.«01_k».proof.Proof.Gen.RefFfnIdeal.Read
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)

namespace Cert.FfnIdeal.Hand

open Cert.FfnIdeal Cert.FfnIdeal.Gen Cert.LayerMath

variable (m : (ℓ : Loc nD τ sig) → Buf (Elt Ideal) ℓ) (ρ : Dev nD → PrngReg)

/-- The result, index by index, of the launch contents of the four arguments that matter. -/
def result (x : S16384x1024.Idx → EReal) (w : S1024.Idx → EReal) (win : S1024x5632.Idx → EReal) (wout : S2816x1024.Idx → EReal) :
    S16384x1024.Idx → EReal := fun i =>
  halfFfn (fun k => x (ix2 (i 0) k)) (fun k => w (ix1 k)) (fun j k => win (ix2 j k)) (fun k l => wout (ix2 k l)) (i 1)

/-- The one-row view of the norm weights that the kernel is handed. -/
theorem V_norm (c : Dev nD) : (V m c main_v0 : Vec Ideal S1x1024 .f32) = shapeCast S1x1024 (m ((c : Thread nD τ).loc main_arg1)) shapeCasts_S1024_S1x1024 := by
  show StableHlo.after hostOps0 _ _ = _
  simp only [hostOps0]; after_results_simp; rfl
theorem V_win (c : Dev nD) : (V m c main_v1 : Vec Ideal S1024x5632 .bf16) = m ((c : Thread nD τ).loc main_arg2) := by
  show StableHlo.after hostOps0 _ _ = _
  simp only [hostOps0]; after_results_simp; rfl
theorem V_wout (c : Dev nD) : (V m c main_v2 : Vec Ideal S2816x1024 .bf16) = m ((c : Thread nD τ).loc main_arg3) := by
  show StableHlo.after hostOps0 _ _ = _
  simp only [hostOps0]; after_results_simp; rfl

theorem idx_x : ∀ t : Fin cfg0.N, win0_0.index t 0 = t.val ∧ win0_0.index t 1 = 0 :=
  (by decide +kernel : ∀ t : Fin grid0.N, win0_0.index t 0 = t.val ∧ win0_0.index t 1 = 0)
theorem idx_w : ∀ t : Fin cfg0.N, win0_1.index t 0 = 0 ∧ win0_1.index t 1 = 0 :=
  (by decide +kernel : ∀ t : Fin grid0.N, win0_1.index t 0 = 0 ∧ win0_1.index t 1 = 0)
theorem idx_win : ∀ t : Fin cfg0.N, win0_2.index t 0 = 0 ∧ win0_2.index t 1 = 0 :=
  (by decide +kernel : ∀ t : Fin grid0.N, win0_2.index t 0 = 0 ∧ win0_2.index t 1 = 0)
theorem idx_wout : ∀ t : Fin cfg0.N, win0_3.index t 0 = 0 ∧ win0_3.index t 1 = 0 :=
  (by decide +kernel : ∀ t : Fin grid0.N, win0_3.index t 0 = 0 ∧ win0_3.index t 1 = 0)
theorem idx_out : ∀ t : Fin cfg0.N, win0_5.index t 0 = t.val ∧ win0_5.index t 1 = 0 :=
  (by decide +kernel : ∀ t : Fin grid0.N, win0_5.index t 0 = t.val ∧ win0_5.index t 1 = 0)

theorem lt_pts (t : Fin cfg0.N) : t.val < 32 := by have h := t.isLt; have e : cfg0.N = 32 := N_0; omega

/-- Row `r` of the input block at point `t` is row `512 t + r` of the argument. -/
theorem iblk_x (c : Dev nD) (t : Fin cfg0.N) (r : Fin 512) (k : Fin 1024) :
    (iblk m c 0 t : Vec Ideal S512x1024 .f32) (ix2 r k)
      = m ((c : Thread nD τ).loc main_arg0) (ix2 ⟨512 * t.val + r.val, by have := lt_pts t; omega⟩ k : S16384x1024.Idx) := by
  unfold iblk
  rw [View.read_apply]
  show V m c main_arg0 _ = _
  rw [V_main_arg0]
  congr 1
  funext a
  apply Fin.ext
  match a with
  | ⟨0, _⟩ => show win0_0.index t 0 * 512 + 1 * r.val = 512 * t.val + r.val; rw [(idx_x t).1]; omega
  | ⟨1, _⟩ => show win0_0.index t 1 * 1024 + 1 * k.val = k.val; rw [(idx_x t).2]; omega

theorem iblk_w (c : Dev nD) (t : Fin cfg0.N) (k : Fin 1024) :
    (iblk m c 1 t : Vec Ideal S1x1024 .f32) (ix2 0 k) = m ((c : Thread nD τ).loc main_arg1) (ix1 k : S1024.Idx) := by
  unfold iblk
  rw [View.read_apply]
  show V m c main_v0 _ = _
  rw [V_norm]
  have e : ∀ y : Vec Ideal S1024 .f32, shapeCast S1x1024 y shapeCasts_S1024_S1x1024 (ix2 0 k) = y (ix1 k) := fun y => by pointwise
  rw [← e (m ((c : Thread nD τ).loc main_arg1))]
  congr 1
  funext a
  apply Fin.ext
  match a with
  | ⟨0, _⟩ => show win0_1.index t 0 * 1 + 1 * 0 = 0; rw [(idx_w t).1]
  | ⟨1, _⟩ => show win0_1.index t 1 * 1024 + 1 * k.val = k.val; rw [(idx_w t).2]; omega

theorem iblk_win (c : Dev nD) (t : Fin cfg0.N) (j : Fin 1024) (k : Fin 5632) :
    (iblk m c 2 t : Vec Ideal S1024x5632 .bf16) (ix2 j k) = m ((c : Thread nD τ).loc main_arg2) (ix2 j k : S1024x5632.Idx) := by
  unfold iblk
  rw [View.read_apply]
  show V m c main_v1 _ = _
  rw [V_win]
  congr 1
  funext a
  apply Fin.ext
  match a with
  | ⟨0, _⟩ => show win0_2.index t 0 * 1024 + 1 * j.val = j.val; rw [(idx_win t).1]; omega
  | ⟨1, _⟩ => show win0_2.index t 1 * 5632 + 1 * k.val = k.val; rw [(idx_win t).2]; omega

theorem iblk_wout (c : Dev nD) (t : Fin cfg0.N) (k : Fin 2816) (l : Fin 1024) :
    (iblk m c 3 t : Vec Ideal S2816x1024 .bf16) (ix2 k l) = m ((c : Thread nD τ).loc main_arg3) (ix2 k l : S2816x1024.Idx) := by
  unfold iblk
  rw [View.read_apply]
  show V m c main_v2 _ = _
  rw [V_wout]
  congr 1
  funext a
  apply Fin.ext
  match a with
  | ⟨0, _⟩ => show win0_3.index t 0 * 2816 + 1 * k.val = k.val; rw [(idx_wout t).1]; omega
  | ⟨1, _⟩ => show win0_3.index t 1 * 1024 + 1 * l.val = l.val; rw [(idx_wout t).2]; omega

/-- The result array named by the arguments' launch contents. -/
def res (c : Dev nD) : Buf (Elt Ideal) ((c : Thread nD τ).loc main_v4) :=
  result (m ((c : Thread nD τ).loc main_arg0)) (m ((c : Thread nD τ).loc main_arg1)) (m ((c : Thread nD τ).loc main_arg2))
    (m ((c : Thread nD τ).loc main_arg3))

/-- What point `t` writes back is block `t` of the result. -/
theorem flushed_eq (c : Dev nD) (t : Fin cfg0.N) :
    (dats m 0 c).flushed 5 t = (win0_5.blk t).view.read (Elt Ideal) (res m c) := by
  rw [Value.flushed5_A]
  funext y
  obtain ⟨r, l, rfl⟩ : ∃ (r : Fin 512) (l : Fin 1024), y = (ix2 r l : S512x1024.Idx) := ⟨y 0, y 1, eq_ix2 y⟩
  rw [View.read_apply]
  refine (out_apply c (grid0.coords t) _ _ _ _ _ _ _ _ _ _ _ _ _ _ _ _ _ _ _ r l).trans ?_
  have e : ((win0_5.blk t).view.emb (ix2 r l : S512x1024.Idx) : S16384x1024.Idx)
      = ix2 ⟨512 * t.val + r.val, by have := lt_pts t; omega⟩ l := by
    funext a
    apply Fin.ext
    match a with
    | ⟨0, _⟩ => show win0_5.index t 0 * 512 + 1 * r.val = 512 * t.val + r.val; rw [(idx_out t).1]; omega
    | ⟨1, _⟩ => show win0_5.index t 1 * 1024 + 1 * l.val = l.val; rw [(idx_out t).2]; omega
  show _ = res m c ((win0_5.blk t).view.emb (ix2 r l : S512x1024.Idx) : S16384x1024.Idx)
  rw [e]
  simp only [iblk_x, iblk_w, iblk_win, iblk_wout]
  rfl

/-- The blocks tile the result array. -/
theorem cover (i : S16384x1024.Idx) : ∃ t : Fin cfg0.N, (cfg0.win 5).flush t = true ∧ i ∈ ((cfg0.win 5).blk t).view.set := by
  have h0 : (i 0 : Nat) < 16384 := (i 0).isLt
  have h1 : (i 1 : Nat) < 1024 := (i 1).isLt
  have hN : cfg0.N = 32 := N_0
  refine ⟨⟨(i 0).val / 512, by rw [hN]; omega⟩, flush0_5 _, ?_⟩
  generalize ht : (⟨(i 0).val / 512, _⟩ : Fin cfg0.N) = t
  have hv : t.val = (i 0).val / 512 := by rw [← ht]
  show i ∈ ((View.whole main_v4).slice (win0_5.rect t)).set
  rw [View.set_slice_whole, Rect.mem_set_unit]
  intro a
  match a with
  | ⟨0, _⟩ => show win0_5.index t 0 * 512 ≤ (i 0 : Nat) ∧ (i 0 : Nat) < win0_5.index t 0 * 512 + 512
              rw [(idx_out t).1]; omega
  | ⟨1, _⟩ => show win0_5.index t 1 * 1024 ≤ (i 1 : Nat) ∧ (i 1 : Nat) < win0_5.index t 1 * 1024 + 1024
              rw [(idx_out t).2]; omega

theorem final (c : Dev nD) : (dats m 0 c).arrAt 5 cfg0.N = res m c :=
  (dats m 0 c).arrAt_eq_of_cover 5 (res m c) (fun t _ => flushed_eq m c t) cover

end Cert.FfnIdeal.Hand

namespace Cert.RefFfnIdeal.Hand

open Cert.RefFfnIdeal Cert.RefFfnIdeal.Read Cert.LayerMath

variable (x : (⟨S16384x1024, .f32⟩ : BufTy).Contents (Elt Ideal)) (w : (⟨S1024, .f32⟩ : BufTy).Contents (Elt Ideal))
  (win : (⟨S1024x5632, .f32⟩ : BufTy).Contents (Elt Ideal)) (wout : (⟨S2816x1024, .f32⟩ : BufTy).Contents (Elt Ideal))

theorem norm_apply (r : Fin 16384) (j : Fin 1024) :
    val_main_v12 (F := Ideal) x w (ix2 r j) = rms (fun k => x (ix2 r k)) (fun k => w (ix1 k)) j := by
  pointwise [rms, val_main_v12, val_main_v11, val_main_v10, val_main_v9, val_main_v8, val_main_v7, val_main_v6, val_main_v5,
    val_main_v4, val_main_v3, val_main_v2, val_main_v1, val_main_v0, val_main_cst, val_main_cst_0, val_main_cst_1]

theorem hidden_apply (r : Fin 16384) (k : Fin 2816) :
    val_main_v17 (F := Ideal) x w win (ix2 r k)
      = hiddenUnit (rms (fun k => x (ix2 r k)) (fun k => w (ix1 k))) (fun j k => win (ix2 j k)) k := by
  have e : ∀ k : Fin 5632, val_main_v13 (F := Ideal) x w win (ix2 r k)
      = ∑ j, rms (fun k => x (ix2 r k)) (fun k => w (ix1 k)) j * win (ix2 j k) := fun k => by
    rw [val_main_v13_apply]
    refine Finset.sum_congr rfl fun j _ => congrArg₂ (· * ·) ?_ (congrArg win ?_)
    · exact (congrArg _ (eq_ix2 _)).trans (norm_apply x w r j)
    · exact eq_ix2 _
  pointwise [val_main_v17, val_main_v16, val_main_v15, val_main_v14, val_main_call0_v5, val_main_call0_v4, val_main_call0_v3,
    val_main_call0_v2, val_main_call0_v1, val_main_call0_v0, val_main_call0_cst, val_main_call0_cst_0, e, hiddenUnit, gated, zero_sub]

/-- The reference's result is the same function of its arguments. -/
theorem ref_eq : val_main_v21 (F := Ideal) x w win wout = Cert.FfnIdeal.Hand.result x w win wout := by
  funext i
  obtain ⟨r, l, rfl⟩ : ∃ (r : Fin 16384) (l : Fin 1024), i = (ix2 r l : S16384x1024.Idx) := ⟨i 0, i 1, eq_ix2 i⟩
  have e : val_main_v18 (F := Ideal) x w win wout (ix2 r l)
      = ffnSum (rms (fun k => x (ix2 r k)) (fun k => w (ix1 k))) (fun j k => win (ix2 j k)) (fun k l => wout (ix2 k l)) l := by
    rw [val_main_v18_apply]
    refine Finset.sum_congr rfl fun k _ => congrArg₂ (· * ·) ?_ (congrArg wout ?_)
    · exact (congrArg _ (eq_ix2 _)).trans (hidden_apply x w win r k)
    · exact eq_ix2 _
  pointwise [val_main_v21, val_main_v20, val_main_v19, val_main_cst_2, e]
  rfl

end Cert.RefFfnIdeal.Hand

end
-- ==== Proof.FfnClaims.lean ====
/- The five claims of the feed-forward call: both frames of the kernel, the frame of the reference, the (empty) list of
   rewrites of the idealization, and the equality of the results over the extended reals. -/
module

public import proofs.«01_k».proof.Defs
public import proofs.«01_k».proof.Proof.Gen.Ffn.Frame
public import proofs.«01_k».proof.Proof.Gen.FfnIdeal.Value
public import proofs.«01_k».proof.Proof.Gen.RefFfnIdeal.Run
public import proofs.«01_k».proof.Proof.FfnValue
import Idealize.ShloMosaic.Lib.Quiescent

@[expose] public section

namespace Cert.Proof.FfnClaims

open Idealize.ShloMosaic Idealize.SL.Sem

/-- The kernel's frame over the machine's floats. -/
theorem frame_p : Cert.quiescent_Ffn := fun m ρ _ => Cert.Ffn.Gen.frame m ρ

/-- The kernel's frame over the extended reals. -/
theorem frame_pi : Cert.quiescent_FfnIdeal := fun m ρ _ => Cert.FfnIdeal.Gen.frame m ρ

/-- The reference's frame over the extended reals: it leaves its arguments alone and declares no semaphore. -/
theorem frame_ri : Cert.quiescent_RefFfnIdeal := fun m ρ _ =>
  (θ_run Cert.RefFfnIdeal.defs _ _).mono (fun r h => ⟨fun c => (h c).2, sem_eq_zero_of_no_sems (by decide) r.2⟩)
    (Cert.RefFfnIdeal.Value.run (F := Ideal) m ρ)

/-- The idealization rewrote no operation of the kernel. -/
theorem preserves : Cert.preserves_Ffn_FfnIdeal := trivial

/-- From arguments that agree, the kernel's result array and the reference's are equal: both are
    `FfnIdeal.Hand.result` of the arguments. -/
theorem algebraic : Cert.algebraic_FfnIdeal_RefFfnIdeal := by
  intro m ρ m' ρ' _ hagree
  refine ⟨fun c => Cert.FfnIdeal.Hand.res m c, ?_, ?_⟩
  · exact (θ_run Cert.FfnIdeal.defs _ _).mono
      (fun _ h c => ⟨(h c).1.trans (Cert.FfnIdeal.Hand.final m c), (h c).2⟩)
      (Cert.FfnIdeal.Value.run_blocks m ρ)
  · refine (θ_run Cert.RefFfnIdeal.defs _ _).mono (fun _ h c => ⟨(h c).1.trans ?_, (h c).2⟩)
      (Cert.RefFfnIdeal.Value.run (F := Ideal) m' ρ')
    obtain ⟨a0, a1, a2, a3, _⟩ := hagree c
    rw [a0, a1, a2, a3]
    exact (Cert.RefFfnIdeal.Read.val_main_v21_eq _ _ _ _).trans (Cert.RefFfnIdeal.Hand.ref_eq _ _ _ _)

end Cert.Proof.FfnClaims

end
-- ==== Proof.MixMath.lean ====
/-
  The merge of the two branches of the layer, as a function of an index: a token's row plus the output projection of the
  sum of the gated convolution branch and the gated attention branch.
-/
module

public import proofs.«01_k».proof.Proof.LayerMath

@[expose] public section

noncomputable section

open Idealize.ShloMosaic

namespace Cert.LayerMath

/-- The causal convolution of width three at one channel: the weights of the tap two back, one back and at the token. -/
def conv3 (cw : Fin 3 → Fin 512 → EReal) (z2 z1 z : Fin 512 → EReal) (k : Fin 512) : EReal :=
  cw 0 k * z2 k + cw 1 k * z1 k + cw 2 k * z k

/-- The sum of the two gated branches: the gated convolution and the gated attention, each projected to the model width. -/
def branches (sgc sga : Fin 1024 → EReal) (bc cv o : Fin 512 → EReal) (woc woa : Fin 512 → Fin 1024 → EReal) (j : Fin 1024) : EReal :=
  sgc j * (∑ k, (bc k * cv k) * woc k j) + sga j * (∑ k, o k * woa k j)

/-- The token's row plus the output projection of the two branches. -/
def mixRow (h sgc sga : Fin 1024 → EReal) (bc cv o : Fin 512 → EReal) (woc woa : Fin 512 → Fin 1024 → EReal)
    (wout : Fin 1024 → Fin 1024 → EReal) (l : Fin 1024) : EReal :=
  h l + ∑ j, branches sgc sga bc cv o woc woa j * wout j l

end Cert.LayerMath

end
-- ==== Proof.MergeKernel.lean ====
module

public import proofs.«01_k».proof.Proof.Gen.MergeIdeal.Value
public import Idealize.ShloMosaic.Lib.Pointwise
public import Idealize.ShloMosaic.Lib.Tactic
public import Idealize.ShloMosaic.Lib.VecWindow
public import proofs.«01_k».proof.Proof.MixMath

@[expose] public section

set_option maxRecDepth 16384

noncomputable section

open Idealize.ShloMosaic Idealize.ShloMosaic.TcCoe Idealize.SL.Sem
open Idealize.ShloMosaic.Pipeline (Dat)

namespace Cert.MergeIdeal.Hand

open Cert.MergeIdeal Cert.MergeIdeal.Gen Cert.LayerMath

variable {F : FTy → Type} [FloatOps F]

theorem zero2 : (![0, 0] : Fin 2 → Nat) = fun _ => 0 := funext fun a => by fin_cases a <;> rfl

/-- One chunk of the feed-forward sum: the chunk's gate and up columns, the gated product, and the chunk's down rows. -/
def chunk (h : FVec F S512x1024 .bf16) (g u : Vec F S1024x256 .bf16) (d : Vec F S256x1024 .bf16) :
    FVec F S512x1024 .f32 :=
  matmul dot_S512x256_S256x1024_S512x1024_1_0_0_1_n_n none
    (truncf .bf16 (mulf (mulf (matmul dot_S512x1024_S1024x256_S512x256_1_0_0_1_n_n none h g (constant S512x256 .f32 0x00000000#32))
      (divf (broadcast S512x256 (Scalar.ofBits .f32 0x3F800000#32))
        (addf (broadcast S512x256 (Scalar.ofBits .f32 0x3F800000#32))
          (exp (subf (broadcast S512x256 (Scalar.ofBits .f32 0x00000000#32))
            (matmul dot_S512x1024_S1024x256_S512x256_1_0_0_1_n_n none h g (constant S512x256 .f32 0x00000000#32)))))))
      (matmul dot_S512x1024_S1024x256_S512x256_1_0_0_1_n_n none h u (constant S512x256 .f32 0x00000000#32))) bitsLt_bf16_f32)
    d (constant S512x1024 .f32 0x00000000#32)

theorem pay9_eq (x0 : Vec F S512x1024 .f32) (x1 : Vec F S1x1024 .f32) (g u : Vec F S1024x256 .bf16) (d : Vec F S256x1024 .bf16) :
    k0_pay9 x0 x1 g u d = chunk (k0_pay8 x0 x1) g u d := by
  simp only [k0_pay9, chunk, shapeCast_self]
theorem pay10_eq (h : FVec F S512x1024 .bf16) (g u : Vec F S1024x256 .bf16) (d : Vec F S256x1024 .bf16) (acc : Vec F S512x1024 .f32) :
    k0_pay10 h g u d acc = addf acc (chunk h g u d) := by
  simp only [k0_pay10, chunk, shapeCast_self]
theorem pay14_eq (h : FVec F S512x1024 .bf16) (g u : Vec F S1024x256 .bf16) (d : Vec F S256x1024 .bf16) (acc : Vec F S512x1024 .f32) :
    k0_pay14 (k0_pay11 h g) (k0_pay12 h u) (k0_pay13 h g) d acc = addf acc (chunk h g u d) := by
  simp only [k0_pay11, k0_pay12, k0_pay13, k0_pay14, chunk, shapeCast_self]
theorem pay15_eq (h : FVec F S512x1024 .bf16) (g u : Vec F S1024x256 .bf16) (d : Vec F S256x1024 .bf16) (acc : Vec F S512x1024 .f32) :
    k0_pay15 h g u d acc = addf acc (chunk h g u d) := by
  simp only [k0_pay15, chunk, shapeCast_self]
theorem pay16_eq (h : FVec F S512x1024 .bf16) (g u : Vec F S1024x256 .bf16) (d : Vec F S256x1024 .bf16) (acc : Vec F S512x1024 .f32) :
    k0_pay16 h g u d acc = addf acc (chunk h g u d) := by
  simp only [k0_pay16, chunk, shapeCast_self]
theorem pay20_eq (h : FVec F S512x1024 .bf16) (g u : Vec F S1024x256 .bf16) (d : Vec F S256x1024 .bf16) (acc : Vec F S512x1024 .f32) :
    k0_pay20 (k0_pay17 h g) (k0_pay18 h u) (k0_pay19 h g) d acc = addf acc (chunk h g u d) := by
  simp only [k0_pay17, k0_pay18, k0_pay19, k0_pay20, chunk, shapeCast_self]
theorem pay22_eq (h : FVec F S512x1024 .bf16) (g u : Vec F S1024x256 .bf16) (d : Vec F S256x1024 .bf16) (acc : Vec F S512x1024 .f32) :
    k0_pay22 (k0_pay21 h g u d acc) = addf acc (chunk h g u d) := by
  simp only [k0_pay21, k0_pay22, chunk, shapeCast_self]
theorem pay23_eq (h : FVec F S512x1024 .bf16) (g u : Vec F S1024x256 .bf16) (d : Vec F S256x1024 .bf16) (acc : Vec F S512x1024 .f32) :
    k0_pay23 h g u d acc = addf acc (chunk h g u d) := by
  simp only [k0_pay23, chunk, shapeCast_self]
theorem pay27_eq (h : FVec F S512x1024 .bf16) (g u : Vec F S1024x256 .bf16) (d : Vec F S256x1024 .bf16) (acc : Vec F S512x1024 .f32) :
    k0_pay27 (k0_pay24 h g) (k0_pay25 h u) (k0_pay26 h g) d acc = addf acc (chunk h g u d) := by
  simp only [k0_pay24, k0_pay25, k0_pay26, k0_pay27, chunk, shapeCast_self]
theorem pay29_eq (h : FVec F S512x1024 .bf16) (g u : Vec F S1024x256 .bf16) (d : Vec F S256x1024 .bf16) (acc : Vec F S512x1024 .f32) :
    k0_pay29 (k0_pay28 h g u d acc) = addf acc (chunk h g u d) := by
  simp only [k0_pay28, k0_pay29, chunk, shapeCast_self]
theorem pay30_eq (h : FVec F S512x1024 .bf16) (g u : Vec F S1024x256 .bf16) (d : Vec F S256x1024 .bf16) (acc : Vec F S512x1024 .f32) :
    k0_pay30 h g u d acc = addf acc (chunk h g u d) := by
  simp only [k0_pay30, chunk, shapeCast_self]

/-- The root-mean-square scaling of the block's rows, at an index. -/
theorem pay8_apply (x0 : Vec Ideal S512x1024 .f32) (x1 : Vec Ideal S1x1024 .f32) (r : Fin 512) (l : Fin 1024) :
    k0_pay8 x0 x1 (ix2 r l) = rms (fun k => x0 (ix2 r k)) (fun k => x1 (ix2 0 k)) l := by
  pointwise [k0_pay8, rms]

/-- The last scaling, of the row after the half step. -/
theorem final_apply (x acc : Vec Ideal S512x1024 .f32) (g : Vec Ideal S1x1024 .f32) (r : Fin 512) (l : Fin 1024) :
    k0_pay1 (k0_pay31 x acc) (k0_pay32 g) (k0_pay33 x acc) (ix2 r l)
      = rms (fun k => x (ix2 r k) + Ideal.ofBits FTy.f32 1056964608#32 * acc (ix2 r k)) (fun k => g (ix2 0 k)) l := by
  pointwise [k0_pay1, k0_pay31, k0_pay32, k0_pay33, rms]

/-- A select on "row `r` is row `n`". -/
theorem select_row {α : Type} (r n : Nat) (hr : r < 2 ^ 32) (hn : n < 2 ^ 32) (a b : α) :
    Scalar.select (IntOp.cmpi CmpIPredicate.eq (BitVec.ofNat 32 r) (BitVec.ofNat 32 n)) a b = if r = n then a else b := by
  have e : IntOp.cmpi CmpIPredicate.eq (BitVec.ofNat 32 r) (BitVec.ofNat 32 n) = BitVec.ofBool (decide (r = n)) := by
    show BitVec.ofBool (BitVec.ofNat 32 r == BitVec.ofNat 32 n) = _
    congr 1
    rw [Bool.eq_iff_iff, beq_iff_eq, decide_eq_true_iff]
    constructor
    · intro h
      have := congrArg BitVec.toNat h
      rwa [BitVec.toNat_ofNat, BitVec.toNat_ofNat, Nat.mod_eq_of_lt hr, Nat.mod_eq_of_lt hn] at this
    · rintro rfl; rfl
  rw [e]
  by_cases h : r = n
  · rw [if_pos h, decide_eq_true h]; rfl
  · rw [if_neg h, decide_eq_false h]; rfl

/-- On "row `r` is row `0`" or "row `1`" of a 512-row block; the row before, when there is one, is not wrapped. -/
theorem select_row0 {α : Type} (r : Fin 512) (a b : α) :
    Scalar.select (IntOp.cmpi CmpIPredicate.eq (BitVec.ofNat 32 r.val) 0#32) a b = if r.val = 0 then a else b :=
  select_row r.val 0 (by omega) (by omega) a b
theorem select_row1 {α : Type} (r : Fin 512) (a b : α) :
    Scalar.select (IntOp.cmpi CmpIPredicate.eq (BitVec.ofNat 32 r.val) 1#32) a b = if r.val = 1 then a else b :=
  select_row r.val 1 (by omega) (by omega) a b

theorem back_one {α : Type} (r : Fin 512) (a : α) (f : Fin 512 → α) (h : (r.val + 512 - 1) % 512 < 512) :
    (if r.val = 0 then a else f ⟨(r.val + 512 - 1) % 512, h⟩) = if r.val = 0 then a else f ⟨r.val - 1, by omega⟩ := by
  split
  · rfl
  · exact congrArg f (Fin.ext (by show (r.val + 512 - 1) % 512 = r.val - 1; omega))
theorem back_two {α : Type} (r : Fin 512) (a b : α) (f : Fin 512 → α) (h : (r.val + 512 - 2) % 512 < 512) :
    (if r.val = 0 then a else if r.val = 1 then b else f ⟨(r.val + 512 - 2) % 512, h⟩)
      = if r.val = 0 then a else if r.val = 1 then b else f ⟨r.val - 2, by omega⟩ := by
  split
  · rfl
  · split
    · rfl
    · exact congrArg f (Fin.ext (by show (r.val + 512 - 2) % 512 = r.val - 2; omega))

theorem first_bit : ∀ n : Fin 32, Scalar.cmpi .eq (Scalar.select (Scalar.andi (Scalar.xori
      (Scalar.cmpi .slt (Scalar.remsi (BitVec.ofNat 32 n.val) (Scalar.select (Scalar.cmpi .eq 16#32 0#32) 1#32 16#32)) 0#32)
      (Scalar.cmpi .slt (Scalar.select (Scalar.cmpi .eq 16#32 0#32) 1#32 16#32) 0#32))
      (Scalar.cmpi .ne (Scalar.remsi (BitVec.ofNat 32 n.val) (Scalar.select (Scalar.cmpi .eq 16#32 0#32) 1#32 16#32)) 0#32))
      (Scalar.addi (Scalar.remsi (BitVec.ofNat 32 n.val) (Scalar.select (Scalar.cmpi .eq 16#32 0#32) 1#32 16#32))
        (Scalar.select (Scalar.cmpi .eq 16#32 0#32) 1#32 16#32))
      (Scalar.remsi (BitVec.ofNat 32 n.val) (Scalar.select (Scalar.cmpi .eq 16#32 0#32) 1#32 16#32))) 0#32
    = if n.val % 16 = 0 then 1#1 else 0#1 := by decide +kernel

/-- The row before the block, one back: from the carried state on a sequence's first block, else the previous block's last row. -/
theorem pay2_apply (i : grid0.Coords) (v12 : Vec Ideal S1x1x512 .f32) (v14 : Vec Ideal S1x512 .f32) (k : Fin 512) :
    k0_pay2 i v12 v14 (ix2 0 k) = if (i 0).val % 16 = 0 then v12 (ix3 0 0 k) else v14 (ix2 0 k) := by
  unfold k0_pay2
  dsimp only
  rw [first_bit (i 0)]
  split
  · show shapeCast S1x512 v12 shapeCasts_S1x1x512_S1x512 (ix2 0 k) = _
    pointwise
  · rfl

theorem pay3_apply (i : grid0.Coords) (v12 : Vec Ideal S1x1x512 .f32) (v14 : Vec Ideal S1x512 .f32) (k : Fin 512) :
    k0_pay3 i v12 v14 (ix2 0 k) = if (i 0).val % 16 = 0 then v12 (ix3 0 0 k) else v14 (ix2 0 k) := pay2_apply i v12 v14 k

/-- The block of `z` shifted one row down, row 0 from `b`. -/
theorem pay4_apply (i : grid0.Coords) (v0 : Vec Ideal S512x512 .f32) (v12 : Vec Ideal S1x1x512 .f32) (v14 : Vec Ideal S1x512 .f32)
    (r k : Fin 512) :
    k0_pay4 i v0 v12 v14 (ix2 r k)
      = if r.val = 0 then k0_pay2 i v12 v14 (ix2 0 k) else v0 (ix2 ⟨r.val - 1, by omega⟩ k) := by
  pointwise [k0_pay4]
  rw [select_row0]
  exact back_one r _ (fun q => v0 (ix2 q k)) _

theorem pay7_apply (i : grid0.Coords) (v0 : Vec Ideal S512x512 .f32) (v12 : Vec Ideal S1x1x512 .f32) (v14 : Vec Ideal S1x512 .f32)
    (v16 : Vec Ideal S1x1x512 .f32) (v18 : Vec Ideal S1x512 .f32) (v38 v41 v45 : Vec Ideal S1x512 .f32) (v49 : Vec Ideal S512x512 .f32)
    (v52 : Vec Ideal S512x1024 .bf16) (v55 : Vec Ideal S512x512 .bf16) (v56 : Vec Ideal S512x1024 .bf16)
    (v59 v61 v64 : Vec Ideal S512x1024 .f32) (v66 : Vec Ideal S1024x1024 .bf16) (r : Fin 512) (l : Fin 1024) :
    k0_pay7 v0 (k0_pay3 i v16 v18) (k0_pay4 i v0 v12 v14) k0_pay5 (k0_pay6 i v0 v12 v14) v38 v41 v45 v49 v52 v55 v56 v59 v61 v64 v66
        (ix2 r l)
      = mixRow (fun k => v64 (ix2 r k)) (fun k => v59 (ix2 r k)) (fun k => v61 (ix2 r k)) (fun k => v49 (ix2 r k))
          (fun k => v38 (ix2 0 k) * (if r.val = 0 then k0_pay3 i v16 v18 (ix2 0 k) else if r.val = 1 then k0_pay2 i v12 v14 (ix2 0 k)
              else v0 (ix2 ⟨r.val - 2, by omega⟩ k))
            + v41 (ix2 0 k) * (if r.val = 0 then k0_pay2 i v12 v14 (ix2 0 k) else v0 (ix2 ⟨r.val - 1, by omega⟩ k))
            + v45 (ix2 0 k) * v0 (ix2 r k))
          (fun k => v55 (ix2 r k)) (fun k j => v52 (ix2 k j)) (fun k j => v56 (ix2 k j)) (fun k j => v66 (ix2 k j)) l := by
  pointwise [k0_pay7, k0_pay5, k0_pay6, dot_S512x512_S512x1024_S512x1024_1_0_0_1_n_n, dot_S512x1024_S1024x1024_S512x1024_1_0_0_1_n_n, mixRow, branches]
  refine congrArg (v64 (ix2 r l) + ·) (Finset.sum_congr rfl fun x _ => ?_)
  refine congrArg (fun q => (v59 (ix2 r x) * q + _) * _) (Finset.sum_congr rfl fun y _ => ?_)
  rw [select_row0, select_row1, pay4_apply, back_two r _ _ (fun q => v0 (ix2 q y))]

theorem ld_row {n : Nat} (x : Vec Ideal ⟨2, ![n, 512]⟩ .f32) (o : Fin n)
    (h : ∀ a, (![o.val, 0] : Fin 2 → Nat) a + S1x512.size a ≤ (⟨2, ![n, 512]⟩ : Shape).size a) (k : Fin 512) :
    View.ld x (Rect.unit ![o.val, 0] S1x512.size h) (ix2 0 k) = x (ix2 o k) := by
  refine congrArg x (funext fun a => Fin.ext ?_)
  match a with
  | ⟨0, _⟩ => show o.val + 1 * 0 = o.val; omega
  | ⟨1, _⟩ => show 0 + 1 * k.val = k.val; omega
theorem ld_state (x : Vec Ideal S1x2x512 .f32) (o : Fin 2)
    (h : ∀ a, (![0, o.val, 0] : Fin 3 → Nat) a + S1x1x512.size a ≤ S1x2x512.size a) (k : Fin 512) :
    View.ld x (Rect.unit ![0, o.val, 0] S1x1x512.size h) (ix3 0 0 k) = x (ix3 0 o k) := by
  refine congrArg x (funext fun a => Fin.ext ?_)
  match a with
  | ⟨0, _⟩ => show 0 + 1 * 0 = 0; omega
  | ⟨1, _⟩ => show o.val + 1 * 0 = o.val; omega
  | ⟨2, _⟩ => show 0 + 1 * k.val = k.val; omega

/-- One chunk's contribution at an index is that part of the feed-forward sum. -/
theorem chunk_apply (h : FVec Ideal S512x1024 .bf16) (x2 : Vec Ideal S1024x5632 .bf16) (x3 : Vec Ideal S2816x1024 .bf16)
    (o o' : Nat) (ho : o + 256 ≤ 2816) (e : o' = 2816 + o)
    (hg : ∀ a, (![0, o] : Fin 2 → Nat) a + (![1024, 256] : Fin 2 → Nat) a ≤ S1024x5632.size a)
    (hu : ∀ a, (![0, o'] : Fin 2 → Nat) a + (![1024, 256] : Fin 2 → Nat) a ≤ S1024x5632.size a)
    (hd : ∀ a, (![o, 0] : Fin 2 → Nat) a + (![256, 1024] : Fin 2 → Nat) a ≤ S2816x1024.size a)
    (r : Fin 512) (l : Fin 1024) :
    chunk h (View.ld x2 (Rect.unit ![0, o] ![1024, 256] hg)) (View.ld x2 (Rect.unit ![0, o'] ![1024, 256] hu))
        (View.ld x3 (Rect.unit ![o, 0] ![256, 1024] hd)) (ix2 r l)
      = part (fun k => h (ix2 r k)) (fun j k => x2 (ix2 j k)) (fun k l => x3 (ix2 k l)) o ho l := by
  subst e
  pointwise [chunk, part, gated, dot_S512x256_S256x1024_S512x1024_1_0_0_1_n_n, dot_S512x1024_S1024x256_S512x256_1_0_0_1_n_n]

/-- The feed-forward half step of a block of rows, scaled at the end, in the order the body takes its chunks. -/
theorem half_apply (X : FVec Ideal S512x1024 .f32) (g : Vec Ideal S1x1024 .f32) (w : Vec Ideal S1024x5632 .bf16)
    (d : Vec Ideal S2816x1024 .bf16) (gf : Vec Ideal S1x1024 .f32) (f : Fin 1024 → EReal) (r : Fin 512)
    (hX : ∀ k, X (ix2 r k) = f k) (l : Fin 1024) :
    k0_pay1 (k0_pay31 X (addf (addf (addf (addf (addf (addf (addf (addf (addf (addf (chunk (k0_pay8 X g) (View.ld w (Rect.unit ![0, 0] S1024x256.size inb_S1024x5632_S1024x256_0_0))
        (View.ld w (Rect.unit ![0, 2816] S1024x256.size inb_S1024x5632_S1024x256_0_2816))
        (View.ld d (Rect.unit ![0, 0] S256x1024.size inb_S2816x1024_S256x1024_0_0))) (chunk (k0_pay8 X g) (View.ld w (Rect.unit ![0, 256] S1024x256.size inb_S1024x5632_S1024x256_0_256))
        (View.ld w (Rect.unit ![0, 3072] S1024x256.size inb_S1024x5632_S1024x256_0_3072))
        (View.ld d (Rect.unit ![256, 0] S256x1024.size inb_S2816x1024_S256x1024_256_0)))) (chunk (k0_pay8 X g) (View.ld w (Rect.unit ![0, 512] S1024x256.size inb_S1024x5632_S1024x256_0_512))
        (View.ld w (Rect.unit ![0, 3328] S1024x256.size inb_S1024x5632_S1024x256_0_3328))
        (View.ld d (Rect.unit ![512, 0] S256x1024.size inb_S2816x1024_S256x1024_512_0)))) (chunk (k0_pay8 X g) (View.ld w (Rect.unit ![0, 768] S1024x256.size inb_S1024x5632_S1024x256_0_768))
        (View.ld w (Rect.unit ![0, 3584] S1024x256.size inb_S1024x5632_S1024x256_0_3584))
        (View.ld d (Rect.unit ![768, 0] S256x1024.size inb_S2816x1024_S256x1024_768_0)))) (chunk (k0_pay8 X g) (View.ld w (Rect.unit ![0, 1024] S1024x256.size inb_S1024x5632_S1024x256_0_1024))
        (View.ld w (Rect.unit ![0, 3840] S1024x256.size inb_S1024x5632_S1024x256_0_3840))
        (View.ld d (Rect.unit ![1024, 0] S256x1024.size inb_S2816x1024_S256x1024_1024_0)))) (chunk (k0_pay8 X g) (View.ld w (Rect.unit ![0, 1280] S1024x256.size inb_S1024x5632_S1024x256_0_1280))
        (View.ld w (Rect.unit ![0, 4096] S1024x256.size inb_S1024x5632_S1024x256_0_4096))
        (View.ld d (Rect.unit ![1280, 0] S256x1024.size inb_S2816x1024_S256x1024_1280_0)))) (chunk (k0_pay8 X g) (View.ld w (Rect.unit ![0, 1536] S1024x256.size inb_S1024x5632_S1024x256_0_1536))
        (View.ld w (Rect.unit ![0, 4352] S1024x256.size inb_S1024x5632_S1024x256_0_4352))
        (View.ld d (Rect.unit ![1536, 0] S256x1024.size inb_S2816x1024_S256x1024_1536_0)))) (chunk (k0_pay8 X g) (View.ld w (Rect.unit ![0, 1792] S1024x256.size inb_S1024x5632_S1024x256_0_1792))
        (View.ld w (Rect.unit ![0, 4608] S1024x256.size inb_S1024x5632_S1024x256_0_4608))
        (View.ld d (Rect.unit ![1792, 0] S256x1024.size inb_S2816x1024_S256x1024_1792_0)))) (chunk (k0_pay8 X g) (View.ld w (Rect.unit ![0, 2048] S1024x256.size inb_S1024x5632_S1024x256_0_2048))
        (View.ld w (Rect.unit ![0, 4864] S1024x256.size inb_S1024x5632_S1024x256_0_4864))
        (View.ld d (Rect.unit ![2048, 0] S256x1024.size inb_S2816x1024_S256x1024_2048_0)))) (chunk (k0_pay8 X g) (View.ld w (Rect.unit ![0, 2304] S1024x256.size inb_S1024x5632_S1024x256_0_2304))
        (View.ld w (Rect.unit ![0, 5120] S1024x256.size inb_S1024x5632_S1024x256_0_5120))
        (View.ld d (Rect.unit ![2304, 0] S256x1024.size inb_S2816x1024_S256x1024_2304_0)))) (chunk (k0_pay8 X g) (View.ld w (Rect.unit ![0, 2560] S1024x256.size inb_S1024x5632_S1024x256_0_2560))
        (View.ld w (Rect.unit ![0, 5376] S1024x256.size inb_S1024x5632_S1024x256_0_5376))
        (View.ld d (Rect.unit ![2560, 0] S256x1024.size inb_S2816x1024_S256x1024_2560_0))))) (k0_pay32 gf) (k0_pay33 X (addf (addf (addf (addf (addf (addf (addf (addf (addf (addf (chunk (k0_pay8 X g) (View.ld w (Rect.unit ![0, 0] S1024x256.size inb_S1024x5632_S1024x256_0_0))
        (View.ld w (Rect.unit ![0, 2816] S1024x256.size inb_S1024x5632_S1024x256_0_2816))
        (View.ld d (Rect.unit ![0, 0] S256x1024.size inb_S2816x1024_S256x1024_0_0))) (chunk (k0_pay8 X g) (View.ld w (Rect.unit ![0, 256] S1024x256.size inb_S1024x5632_S1024x256_0_256))
        (View.ld w (Rect.unit ![0, 3072] S1024x256.size inb_S1024x5632_S1024x256_0_3072))
        (View.ld d (Rect.unit ![256, 0] S256x1024.size inb_S2816x1024_S256x1024_256_0)))) (chunk (k0_pay8 X g) (View.ld w (Rect.unit ![0, 512] S1024x256.size inb_S1024x5632_S1024x256_0_512))
        (View.ld w (Rect.unit ![0, 3328] S1024x256.size inb_S1024x5632_S1024x256_0_3328))
        (View.ld d (Rect.unit ![512, 0] S256x1024.size inb_S2816x1024_S256x1024_512_0)))) (chunk (k0_pay8 X g) (View.ld w (Rect.unit ![0, 768] S1024x256.size inb_S1024x5632_S1024x256_0_768))
        (View.ld w (Rect.unit ![0, 3584] S1024x256.size inb_S1024x5632_S1024x256_0_3584))
        (View.ld d (Rect.unit ![768, 0] S256x1024.size inb_S2816x1024_S256x1024_768_0)))) (chunk (k0_pay8 X g) (View.ld w (Rect.unit ![0, 1024] S1024x256.size inb_S1024x5632_S1024x256_0_1024))
        (View.ld w (Rect.unit ![0, 3840] S1024x256.size inb_S1024x5632_S1024x256_0_3840))
        (View.ld d (Rect.unit ![1024, 0] S256x1024.size inb_S2816x1024_S256x1024_1024_0)))) (chunk (k0_pay8 X g) (View.ld w (Rect.unit ![0, 1280] S1024x256.size inb_S1024x5632_S1024x256_0_1280))
        (View.ld w (Rect.unit ![0, 4096] S1024x256.size inb_S1024x5632_S1024x256_0_4096))
        (View.ld d (Rect.unit ![1280, 0] S256x1024.size inb_S2816x1024_S256x1024_1280_0)))) (chunk (k0_pay8 X g) (View.ld w (Rect.unit ![0, 1536] S1024x256.size inb_S1024x5632_S1024x256_0_1536))
        (View.ld w (Rect.unit ![0, 4352] S1024x256.size inb_S1024x5632_S1024x256_0_4352))
        (View.ld d (Rect.unit ![1536, 0] S256x1024.size inb_S2816x1024_S256x1024_1536_0)))) (chunk (k0_pay8 X g) (View.ld w (Rect.unit ![0, 1792] S1024x256.size inb_S1024x5632_S1024x256_0_1792))
        (View.ld w (Rect.unit ![0, 4608] S1024x256.size inb_S1024x5632_S1024x256_0_4608))
        (View.ld d (Rect.unit ![1792, 0] S256x1024.size inb_S2816x1024_S256x1024_1792_0)))) (chunk (k0_pay8 X g) (View.ld w (Rect.unit ![0, 2048] S1024x256.size inb_S1024x5632_S1024x256_0_2048))
        (View.ld w (Rect.unit ![0, 4864] S1024x256.size inb_S1024x5632_S1024x256_0_4864))
        (View.ld d (Rect.unit ![2048, 0] S256x1024.size inb_S2816x1024_S256x1024_2048_0)))) (chunk (k0_pay8 X g) (View.ld w (Rect.unit ![0, 2304] S1024x256.size inb_S1024x5632_S1024x256_0_2304))
        (View.ld w (Rect.unit ![0, 5120] S1024x256.size inb_S1024x5632_S1024x256_0_5120))
        (View.ld d (Rect.unit ![2304, 0] S256x1024.size inb_S2816x1024_S256x1024_2304_0)))) (chunk (k0_pay8 X g) (View.ld w (Rect.unit ![0, 2560] S1024x256.size inb_S1024x5632_S1024x256_0_2560))
        (View.ld w (Rect.unit ![0, 5376] S1024x256.size inb_S1024x5632_S1024x256_0_5376))
        (View.ld d (Rect.unit ![2560, 0] S256x1024.size inb_S2816x1024_S256x1024_2560_0))))) (ix2 r l)
      = rms (halfFfn f (fun k => g (ix2 0 k)) (fun j k => w (ix2 j k)) (fun k l => d (ix2 k l))) (fun k => gf (ix2 0 k)) l := by
  obtain rfl : (fun k => X (ix2 r k)) = f := funext hX
  rw [final_apply]
  refine congrArg (fun f => rms f _ l) (funext fun l => ?_)
  rw [halfFfn, ffnSum_eq_parts]
  simp only [ValueIdx.addf_apply]
  rw [chunk_apply _ w d 0 2816 (by omega) rfl, chunk_apply _ w d 256 3072 (by omega) rfl, chunk_apply _ w d 512 3328 (by omega) rfl, chunk_apply _ w d 768 3584 (by omega) rfl, chunk_apply _ w d 1024 3840 (by omega) rfl, chunk_apply _ w d 1280 4096 (by omega) rfl, chunk_apply _ w d 1536 4352 (by omega) rfl, chunk_apply _ w d 1792 4608 (by omega) rfl, chunk_apply _ w d 2048 4864 (by omega) rfl, chunk_apply _ w d 2304 5120 (by omega) rfl, chunk_apply _ w d 2560 5376 (by omega) rfl]
  simp only [pay8_apply]

/-- What one grid point leaves in the output block. -/
theorem out_apply (c : Dev nD) (i : grid0.Coords)
    (arg1 : Memref sig .tc .vmem S512x1024 .f32) (harg1 : arg1.IsWhole)
    (arg2 : Memref sig .tc .vmem S512x512 .f32) (harg2 : arg2.IsWhole)
    (arg3 : Memref sig .tc .vmem S8x512 .f32) (harg3 : arg3.IsWhole)
    (arg4 : Memref sig .tc .vmem S8x512 .f32) (harg4 : arg4.IsWhole)
    (arg5 : Memref sig .tc .vmem S1x2x512 .f32) (harg5 : arg5.IsWhole)
    (arg6 : Memref sig .tc .vmem S512x512 .f32) (harg6 : arg6.IsWhole)
    (arg7 : Memref sig .tc .vmem S512x1024 .f32) (harg7 : arg7.IsWhole)
    (arg8 : Memref sig .tc .vmem S512x1024 .f32) (harg8 : arg8.IsWhole)
    (arg9 : Memref sig .tc .vmem S512x512 .bf16) (harg9 : arg9.IsWhole)
    (arg10 : Memref sig .tc .vmem S3x512 .f32) (harg10 : arg10.IsWhole)
    (arg11 : Memref sig .tc .vmem S512x1024 .bf16) (harg11 : arg11.IsWhole)
    (arg12 : Memref sig .tc .vmem S512x1024 .bf16) (harg12 : arg12.IsWhole)
    (arg13 : Memref sig .tc .vmem S1024x1024 .bf16) (harg13 : arg13.IsWhole)
    (arg14 : Memref sig .tc .vmem S1x1024 .f32) (harg14 : arg14.IsWhole)
    (arg15 : Memref sig .tc .vmem S1024x5632 .bf16) (harg15 : arg15.IsWhole)
    (arg16 : Memref sig .tc .vmem S2816x1024 .bf16) (harg16 : arg16.IsWhole)
    (arg17 : Memref sig .tc .vmem S1x1024 .f32) (harg17 : arg17.IsWhole)
    (arg18 : Memref sig .tc .vmem S512x1024 .f32) (harg18 : arg18.IsWhole)
    (arg19 : Memref sig .tc .vmem S512x1024 .f32) (harg19 : arg19.IsWhole)
    (x0 : Vec Ideal S512x1024 .f32) (x1 : Vec Ideal S512x512 .f32) (x2 : Vec Ideal S8x512 .f32) (x3 : Vec Ideal S8x512 .f32) (x4 : Vec Ideal S1x2x512 .f32) (x5 : Vec Ideal S512x512 .f32) (x6 : Vec Ideal S512x1024 .f32) (x7 : Vec Ideal S512x1024 .f32) (x8 : Vec Ideal S512x512 .bf16) (x9 : Vec Ideal S3x512 .f32) (x10 : Vec Ideal S512x1024 .bf16) (x11 : Vec Ideal S512x1024 .bf16) (x12 : Vec Ideal S1024x1024 .bf16) (x13 : Vec Ideal S1x1024 .f32) (x14 : Vec Ideal S1024x5632 .bf16) (x15 : Vec Ideal S2816x1024 .bf16) (x16 : Vec Ideal S1x1024 .f32) (r : Fin 512) (l : Fin 1024) :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 (ix2 r l)
      = rms (halfFfn (mixRow (fun k => x0 (ix2 r k)) (fun k => x6 (ix2 r k)) (fun k => x7 (ix2 r k)) (fun k => x5 (ix2 r k))
          (conv3 (fun a k => x9 (ix2 a k))
            (fun k => if r.val = 0 then (if (i 0).val % 16 = 0 then x4 (ix3 0 0 k) else x2 (ix2 6 k))
              else if r.val = 1 then (if (i 0).val % 16 = 0 then x4 (ix3 0 1 k) else x2 (ix2 7 k))
              else x1 (ix2 ⟨r.val - 2, by omega⟩ k))
            (fun k => if r.val = 0 then (if (i 0).val % 16 = 0 then x4 (ix3 0 1 k) else x2 (ix2 7 k))
              else x1 (ix2 ⟨r.val - 1, by omega⟩ k))
            (fun k => x1 (ix2 r k)))
          (fun k => x8 (ix2 r k)) (fun k j => x10 (ix2 k j)) (fun k j => x11 (ix2 k j)) (fun k j => x12 (ix2 k j)))
        (fun k => x13 (ix2 0 k)) (fun j k => x14 (ix2 j k)) (fun k l => x15 (ix2 k l))) (fun k => x16 (ix2 0 k)) l := by
  unfold out0_A_17
  rw [View.read_writes_eq_canon _ _ _ (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16)]
  unfold kernelRun0_A
  dsimp only
  sl_unfold_words
  simp only [View.canon_unit_zero (S := S512x1024) zero2, View.readCov_full (s := S512x1024), View.readAt_eq_ld,
    harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S512x1024) zero2,
    View.ld_unit_zero (S := S1x1024) zero2, View.ld_unit_zero (S := S512x512) zero2, View.ld_unit_zero (S := S1024x1024) zero2]
  simp only [pay9_eq, pay10_eq, pay14_eq, pay15_eq, pay16_eq, pay20_eq, pay22_eq, pay23_eq, pay27_eq, pay29_eq, pay30_eq]
  refine half_apply _ x13 x14 x15 x16 _ r (fun k => ?_) l
  rw [pay7_apply]
  simp only [pay2_apply, pay3_apply]
  have c0 := fun h k => ld_row (n := 3) x9 0 h k
  have c1 := fun h k => ld_row (n := 3) x9 1 h k
  have c2 := fun h k => ld_row (n := 3) x9 2 h k
  have p6 := fun h k => ld_row (n := 8) x2 6 h k
  have p7 := fun h k => ld_row (n := 8) x2 7 h k
  have s0 := fun h k => ld_state x4 0 h k
  have s1 := fun h k => ld_state x4 1 h k
  simp only [Fin.val_zero, Fin.val_one, Fin.val_two, Fin.isValue] at c0 c1 c2 s0 s1
  change ∀ h k, View.ld x2 (Rect.unit ![6, 0] S1x512.size h) (ix2 0 k) = _ at p6
  change ∀ h k, View.ld x2 (Rect.unit ![7, 0] S1x512.size h) (ix2 0 k) = _ at p7
  simp only [c0, c1, c2, p6, p7, s0, s1]
  rfl

end Cert.MergeIdeal.Hand

end
-- ==== Proof.MergeValue.lean ====
/-
  The merge kernel's result array: every row is the final scaling of the feed-forward half step of the merged row, and so
  is every row of the reference's result.
-/
module

public import proofs.«01_k».proof.Proof.MergeKernel
public import proofs.«01_k».proof.Proof.Gen.RefMergeIdeal.Value
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)

namespace Cert.MergeIdeal.Hand

open Cert.MergeIdeal Cert.MergeIdeal.Gen Cert.LayerMath

variable (m : (ℓ : Loc nD τ sig) → Buf (Elt Ideal) ℓ) (ρ : Dev nD → PrngReg)

/-- The row of `z` one token back, zero before a sequence's first token (a sequence has 8192 tokens). -/
def back1 (z : S16384x512.Idx → EReal) (r : Fin 16384) (k : Fin 512) : EReal :=
  if r.val % 8192 = 0 then 0 else z (ix2 ⟨r.val - 1, by omega⟩ k)
/-- The row of `z` two tokens back. -/
def back2 (z : S16384x512.Idx → EReal) (r : Fin 16384) (k : Fin 512) : EReal :=
  if r.val % 8192 < 2 then 0 else z (ix2 ⟨r.val - 2, by omega⟩ k)

/-- The merged row of token `r`. -/
def mixed (h : S16384x1024.Idx → EReal) (z bc : S16384x512.Idx → EReal) (sgc sga : S16384x1024.Idx → EReal) (o : S16384x512.Idx → EReal)
    (cw : S3x512.Idx → EReal) (woc woa : S512x1024.Idx → EReal) (wo : S1024x1024.Idx → EReal) (r : Fin 16384) : Fin 1024 → EReal :=
  mixRow (fun k => h (ix2 r k)) (fun k => sgc (ix2 r k)) (fun k => sga (ix2 r k)) (fun k => bc (ix2 r k))
    (conv3 (fun a k => cw (ix2 a k)) (back2 z r) (back1 z r) (fun k => z (ix2 r k)))
    (fun k => o (ix2 r k)) (fun k j => woc (ix2 k j)) (fun k j => woa (ix2 k j)) (fun k j => wo (ix2 k j))

/-- The result, index by index, of the launch contents of the arguments. -/
def result (h : S16384x1024.Idx → EReal) (z bc : S16384x512.Idx → EReal) (sgc sga : S16384x1024.Idx → EReal) (o : S16384x512.Idx → EReal)
    (cw : S3x512.Idx → EReal) (woc woa : S512x1024.Idx → EReal) (wo : S1024x1024.Idx → EReal) (g : S1024.Idx → EReal)
    (win : S1024x5632.Idx → EReal) (wd : S2816x1024.Idx → EReal) (gf : S1024.Idx → EReal) : S16384x1024.Idx → EReal := fun i =>
  rms (halfFfn (mixed h z bc sgc sga o cw woc woa wo (i 0)) (fun k => g (ix1 k)) (fun j k => win (ix2 j k)) (fun k l => wd (ix2 k l)))
    (fun k => gf (ix1 k)) (i 1)

theorem lt_pts (t : Fin cfg0.N) : t.val < 32 := by have h := t.isLt; have e : cfg0.N = 32 := N_0; omega
theorem coords0 : ∀ t : Fin cfg0.N, (grid0.coords t 0).val = t.val := (by decide +kernel : ∀ t : Fin grid0.N, (grid0.coords t 0).val = t.val)

theorem V_zero (c : Dev nD) : (V m c main_v0 : Vec Ideal S2x2x512 .f32) = broadcastInDim S2x2x512 ![] bcast_S_S2x2x512 (constant (F := Ideal) S_ .f32 0x00000000#32) := by
  show StableHlo.after hostOps0 _ _ = _
  simp only [hostOps0]; after_results_simp
theorem zero_apply (i : S2x2x512.Idx) : broadcastInDim S2x2x512 ![] bcast_S_S2x2x512 (constant (F := Ideal) S_ .f32 0x00000000#32) i = (0 : EReal) := by
  obtain ⟨a, b, k, rfl⟩ : ∃ (a b : Fin 2) (k : Fin 512), i = ix3 a b k := ⟨i 0, i 1, i 2, eq_ix3 i⟩
  pointwise
theorem V_woc (c : Dev nD) : (V m c main_v1 : Vec Ideal S512x1024 .bf16) = m ((c : Thread nD τ).loc main_arg7) := by
  show StableHlo.after hostOps0 _ _ = _
  simp only [hostOps0]; after_results_simp; rfl
theorem V_woa (c : Dev nD) : (V m c main_v2 : Vec Ideal S512x1024 .bf16) = m ((c : Thread nD τ).loc main_arg8) := by
  show StableHlo.after hostOps0 _ _ = _
  simp only [hostOps0]; after_results_simp; rfl
theorem V_wout (c : Dev nD) : (V m c main_v3 : Vec Ideal S1024x1024 .bf16) = m ((c : Thread nD τ).loc main_arg9) := by
  show StableHlo.after hostOps0 _ _ = _
  simp only [hostOps0]; after_results_simp; rfl
theorem V_g (c : Dev nD) : (V m c main_v4 : Vec Ideal S1x1024 .f32) = shapeCast S1x1024 (m ((c : Thread nD τ).loc main_arg10)) shapeCasts_S1024_S1x1024 := by
  show StableHlo.after hostOps0 _ _ = _
  simp only [hostOps0]; after_results_simp; rfl
theorem V_win (c : Dev nD) : (V m c main_v5 : Vec Ideal S1024x5632 .bf16) = m ((c : Thread nD τ).loc main_arg11) := by
  show StableHlo.after hostOps0 _ _ = _
  simp only [hostOps0]; after_results_simp; rfl
theorem V_wd (c : Dev nD) : (V m c main_v6 : Vec Ideal S2816x1024 .bf16) = m ((c : Thread nD τ).loc main_arg12) := by
  show StableHlo.after hostOps0 _ _ = _
  simp only [hostOps0]; after_results_simp; rfl
theorem V_gf (c : Dev nD) : (V m c main_v7 : Vec Ideal S1x1024 .f32) = shapeCast S1x1024 (m ((c : Thread nD τ).loc main_arg13)) shapeCasts_S1024_S1x1024 := by
  show StableHlo.after hostOps0 _ _ = _
  simp only [hostOps0]; after_results_simp; rfl
theorem idx_h : ∀ t : Fin cfg0.N, win0_0.index t 0 = t.val ∧ win0_0.index t 1 = 0 :=
  (by decide +kernel : ∀ t : Fin grid0.N, win0_0.index t 0 = t.val ∧ win0_0.index t 1 = 0)
theorem idx_z : ∀ t : Fin cfg0.N, win0_1.index t 0 = t.val ∧ win0_1.index t 1 = 0 :=
  (by decide +kernel : ∀ t : Fin grid0.N, win0_1.index t 0 = t.val ∧ win0_1.index t 1 = 0)
theorem idx_bc : ∀ t : Fin cfg0.N, win0_5.index t 0 = t.val ∧ win0_5.index t 1 = 0 :=
  (by decide +kernel : ∀ t : Fin grid0.N, win0_5.index t 0 = t.val ∧ win0_5.index t 1 = 0)
theorem idx_sgc : ∀ t : Fin cfg0.N, win0_6.index t 0 = t.val ∧ win0_6.index t 1 = 0 :=
  (by decide +kernel : ∀ t : Fin grid0.N, win0_6.index t 0 = t.val ∧ win0_6.index t 1 = 0)
theorem idx_sga : ∀ t : Fin cfg0.N, win0_7.index t 0 = t.val ∧ win0_7.index t 1 = 0 :=
  (by decide +kernel : ∀ t : Fin grid0.N, win0_7.index t 0 = t.val ∧ win0_7.index t 1 = 0)
theorem idx_o : ∀ t : Fin cfg0.N, win0_8.index t 0 = t.val ∧ win0_8.index t 1 = 0 :=
  (by decide +kernel : ∀ t : Fin grid0.N, win0_8.index t 0 = t.val ∧ win0_8.index t 1 = 0)
theorem idx_cw : ∀ t : Fin cfg0.N, win0_9.index t 0 = 0 ∧ win0_9.index t 1 = 0 :=
  (by decide +kernel : ∀ t : Fin grid0.N, win0_9.index t 0 = 0 ∧ win0_9.index t 1 = 0)
theorem idx_woc : ∀ t : Fin cfg0.N, win0_10.index t 0 = 0 ∧ win0_10.index t 1 = 0 :=
  (by decide +kernel : ∀ t : Fin grid0.N, win0_10.index t 0 = 0 ∧ win0_10.index t 1 = 0)
theorem idx_woa : ∀ t : Fin cfg0.N, win0_11.index t 0 = 0 ∧ win0_11.index t 1 = 0 :=
  (by decide +kernel : ∀ t : Fin grid0.N, win0_11.index t 0 = 0 ∧ win0_11.index t 1 = 0)
theorem idx_wout : ∀ t : Fin cfg0.N, win0_12.index t 0 = 0 ∧ win0_12.index t 1 = 0 :=
  (by decide +kernel : ∀ t : Fin grid0.N, win0_12.index t 0 = 0 ∧ win0_12.index t 1 = 0)
theorem idx_g : ∀ t : Fin cfg0.N, win0_13.index t 0 = 0 ∧ win0_13.index t 1 = 0 :=
  (by decide +kernel : ∀ t : Fin grid0.N, win0_13.index t 0 = 0 ∧ win0_13.index t 1 = 0)
theorem idx_win : ∀ t : Fin cfg0.N, win0_14.index t 0 = 0 ∧ win0_14.index t 1 = 0 :=
  (by decide +kernel : ∀ t : Fin grid0.N, win0_14.index t 0 = 0 ∧ win0_14.index t 1 = 0)
theorem idx_wd : ∀ t : Fin cfg0.N, win0_15.index t 0 = 0 ∧ win0_15.index t 1 = 0 :=
  (by decide +kernel : ∀ t : Fin grid0.N, win0_15.index t 0 = 0 ∧ win0_15.index t 1 = 0)
theorem idx_gf : ∀ t : Fin cfg0.N, win0_16.index t 0 = 0 ∧ win0_16.index t 1 = 0 :=
  (by decide +kernel : ∀ t : Fin grid0.N, win0_16.index t 0 = 0 ∧ win0_16.index t 1 = 0)
theorem idx_out : ∀ t : Fin cfg0.N, win0_17.index t 0 = t.val ∧ win0_17.index t 1 = 0 :=
  (by decide +kernel : ∀ t : Fin grid0.N, win0_17.index t 0 = t.val ∧ win0_17.index t 1 = 0)
theorem idx_zp : ∀ t : Fin cfg0.N, win0_2.index t 0 = 64 * t.val - 1 ∧ win0_2.index t 1 = 0 :=
  (by decide +kernel : ∀ t : Fin grid0.N, win0_2.index t 0 = 64 * t.val - 1 ∧ win0_2.index t 1 = 0)

/-- Row `o` of the 8-row block before block `t` of `z`. -/
theorem iblk_zp (c : Dev nD) (t : Fin cfg0.N) (ht : t.val ≠ 0) (o : Fin 8) (k : Fin 512) :
    (iblk m c 2 t : Vec Ideal S8x512 .f32) (ix2 o k)
      = m ((c : Thread nD τ).loc main_arg1) (ix2 ⟨512 * t.val - 8 + o.val, by have := lt_pts t; omega⟩ k : S16384x512.Idx) := by
  unfold iblk
  rw [View.read_apply]
  show V m c main_arg1 _ = _
  rw [V_main_arg1]
  congr 1
  funext a
  apply Fin.ext
  match a with
  | ⟨0, _⟩ => show win0_2.index t 0 * 8 + 1 * o.val = 512 * t.val - 8 + o.val; rw [(idx_zp t).1]; omega
  | ⟨1, _⟩ => show win0_2.index t 1 * 512 + 1 * k.val = k.val; rw [(idx_zp t).2]; omega

/-- The state carried into the prompt's first token is zero. -/
theorem iblk_state (c : Dev nD) (t : Fin cfg0.N) (o : Fin 2) (k : Fin 512) :
    (iblk m c 4 t : Vec Ideal S1x2x512 .f32) (ix3 0 o k) = (0 : EReal) := by
  unfold iblk
  rw [View.read_apply]
  show (V m c main_v0 : Vec Ideal S2x2x512 .f32) (((cfg0.win 4).blk t).view.emb (ix3 0 o k : S1x2x512.Idx) : S2x2x512.Idx) = (0 : EReal)
  rw [V_zero]
  exact zero_apply _

theorem iblk_h (c : Dev nD) (t : Fin cfg0.N) (r : Fin 512) (k : Fin 1024) :
    (iblk m c 0 t : Vec Ideal S512x1024 .f32) (ix2 r k)
      = m ((c : Thread nD τ).loc main_arg0) (ix2 ⟨512 * t.val + r.val, by have := lt_pts t; omega⟩ k : S16384x1024.Idx) := by
  unfold iblk
  rw [View.read_apply]
  show V m c main_arg0 _ = _
  rw [V_main_arg0]
  congr 1
  funext a
  apply Fin.ext
  match a with
  | ⟨0, _⟩ => show win0_0.index t 0 * 512 + 1 * r.val = 512 * t.val + r.val; rw [(idx_h t).1]; omega
  | ⟨1, _⟩ => show win0_0.index t 1 * 1024 + 1 * k.val = k.val; rw [(idx_h t).2]; omega

theorem iblk_z (c : Dev nD) (t : Fin cfg0.N) (r : Fin 512) (k : Fin 512) :
    (iblk m c 1 t : Vec Ideal S512x512 .f32) (ix2 r k)
      = m ((c : Thread nD τ).loc main_arg1) (ix2 ⟨512 * t.val + r.val, by have := lt_pts t; omega⟩ k : S16384x512.Idx) := by
  unfold iblk
  rw [View.read_apply]
  show V m c main_arg1 _ = _
  rw [V_main_arg1]
  congr 1
  funext a
  apply Fin.ext
  match a with
  | ⟨0, _⟩ => show win0_1.index t 0 * 512 + 1 * r.val = 512 * t.val + r.val; rw [(idx_z t).1]; omega
  | ⟨1, _⟩ => show win0_1.index t 1 * 512 + 1 * k.val = k.val; rw [(idx_z t).2]; omega

theorem iblk_bc (c : Dev nD) (t : Fin cfg0.N) (r : Fin 512) (k : Fin 512) :
    (iblk m c 5 t : Vec Ideal S512x512 .f32) (ix2 r k)
      = m ((c : Thread nD τ).loc main_arg2) (ix2 ⟨512 * t.val + r.val, by have := lt_pts t; omega⟩ k : S16384x512.Idx) := by
  unfold iblk
  rw [View.read_apply]
  show V m c main_arg2 _ = _
  rw [V_main_arg2]
  congr 1
  funext a
  apply Fin.ext
  match a with
  | ⟨0, _⟩ => show win0_5.index t 0 * 512 + 1 * r.val = 512 * t.val + r.val; rw [(idx_bc t).1]; omega
  | ⟨1, _⟩ => show win0_5.index t 1 * 512 + 1 * k.val = k.val; rw [(idx_bc t).2]; omega

theorem iblk_sgc (c : Dev nD) (t : Fin cfg0.N) (r : Fin 512) (k : Fin 1024) :
    (iblk m c 6 t : Vec Ideal S512x1024 .f32) (ix2 r k)
      = m ((c : Thread nD τ).loc main_arg3) (ix2 ⟨512 * t.val + r.val, by have := lt_pts t; omega⟩ k : S16384x1024.Idx) := by
  unfold iblk
  rw [View.read_apply]
  show V m c main_arg3 _ = _
  rw [V_main_arg3]
  congr 1
  funext a
  apply Fin.ext
  match a with
  | ⟨0, _⟩ => show win0_6.index t 0 * 512 + 1 * r.val = 512 * t.val + r.val; rw [(idx_sgc t).1]; omega
  | ⟨1, _⟩ => show win0_6.index t 1 * 1024 + 1 * k.val = k.val; rw [(idx_sgc t).2]; omega

theorem iblk_sga (c : Dev nD) (t : Fin cfg0.N) (r : Fin 512) (k : Fin 1024) :
    (iblk m c 7 t : Vec Ideal S512x1024 .f32) (ix2 r k)
      = m ((c : Thread nD τ).loc main_arg4) (ix2 ⟨512 * t.val + r.val, by have := lt_pts t; omega⟩ k : S16384x1024.Idx) := by
  unfold iblk
  rw [View.read_apply]
  show V m c main_arg4 _ = _
  rw [V_main_arg4]
  congr 1
  funext a
  apply Fin.ext
  match a with
  | ⟨0, _⟩ => show win0_7.index t 0 * 512 + 1 * r.val = 512 * t.val + r.val; rw [(idx_sga t).1]; omega
  | ⟨1, _⟩ => show win0_7.index t 1 * 1024 + 1 * k.val = k.val; rw [(idx_sga t).2]; omega

theorem iblk_o (c : Dev nD) (t : Fin cfg0.N) (r : Fin 512) (k : Fin 512) :
    (iblk m c 8 t : Vec Ideal S512x512 .bf16) (ix2 r k)
      = m ((c : Thread nD τ).loc main_arg5) (ix2 ⟨512 * t.val + r.val, by have := lt_pts t; omega⟩ k : S16384x512.Idx) := by
  unfold iblk
  rw [View.read_apply]
  show V m c main_arg5 _ = _
  rw [V_main_arg5]
  congr 1
  funext a
  apply Fin.ext
  match a with
  | ⟨0, _⟩ => show win0_8.index t 0 * 512 + 1 * r.val = 512 * t.val + r.val; rw [(idx_o t).1]; omega
  | ⟨1, _⟩ => show win0_8.index t 1 * 512 + 1 * k.val = k.val; rw [(idx_o t).2]; omega

theorem iblk_cw (c : Dev nD) (t : Fin cfg0.N) (r : Fin 3) (k : Fin 512) :
    (iblk m c 9 t : Vec Ideal S3x512 .f32) (ix2 r k)
      = m ((c : Thread nD τ).loc main_arg6) (ix2 r k : S3x512.Idx) := by
  unfold iblk
  rw [View.read_apply]
  show V m c main_arg6 _ = _
  rw [V_main_arg6]
  congr 1
  funext a
  apply Fin.ext
  match a with
  | ⟨0, _⟩ => show win0_9.index t 0 * 3 + 1 * r.val = r.val; rw [(idx_cw t).1]; omega
  | ⟨1, _⟩ => show win0_9.index t 1 * 512 + 1 * k.val = k.val; rw [(idx_cw t).2]; omega

theorem iblk_woc (c : Dev nD) (t : Fin cfg0.N) (r : Fin 512) (k : Fin 1024) :
    (iblk m c 10 t : Vec Ideal S512x1024 .bf16) (ix2 r k)
      = m ((c : Thread nD τ).loc main_arg7) (ix2 r k : S512x1024.Idx) := by
  unfold iblk
  rw [View.read_apply]
  show V m c main_v1 _ = _
  rw [V_woc]
  congr 1
  funext a
  apply Fin.ext
  match a with
  | ⟨0, _⟩ => show win0_10.index t 0 * 512 + 1 * r.val = r.val; rw [(idx_woc t).1]; omega
  | ⟨1, _⟩ => show win0_10.index t 1 * 1024 + 1 * k.val = k.val; rw [(idx_woc t).2]; omega

theorem iblk_woa (c : Dev nD) (t : Fin cfg0.N) (r : Fin 512) (k : Fin 1024) :
    (iblk m c 11 t : Vec Ideal S512x1024 .bf16) (ix2 r k)
      = m ((c : Thread nD τ).loc main_arg8) (ix2 r k : S512x1024.Idx) := by
  unfold iblk
  rw [View.read_apply]
  show V m c main_v2 _ = _
  rw [V_woa]
  congr 1
  funext a
  apply Fin.ext
  match a with
  | ⟨0, _⟩ => show win0_11.index t 0 * 512 + 1 * r.val = r.val; rw [(idx_woa t).1]; omega
  | ⟨1, _⟩ => show win0_11.index t 1 * 1024 + 1 * k.val = k.val; rw [(idx_woa t).2]; omega

theorem iblk_wout (c : Dev nD) (t : Fin cfg0.N) (r : Fin 1024) (k : Fin 1024) :
    (iblk m c 12 t : Vec Ideal S1024x1024 .bf16) (ix2 r k)
      = m ((c : Thread nD τ).loc main_arg9) (ix2 r k : S1024x1024.Idx) := by
  unfold iblk
  rw [View.read_apply]
  show V m c main_v3 _ = _
  rw [V_wout]
  congr 1
  funext a
  apply Fin.ext
  match a with
  | ⟨0, _⟩ => show win0_12.index t 0 * 1024 + 1 * r.val = r.val; rw [(idx_wout t).1]; omega
  | ⟨1, _⟩ => show win0_12.index t 1 * 1024 + 1 * k.val = k.val; rw [(idx_wout t).2]; omega

theorem iblk_g (c : Dev nD) (t : Fin cfg0.N) (k : Fin 1024) :
    (iblk m c 13 t : Vec Ideal S1x1024 .f32) (ix2 0 k) = m ((c : Thread nD τ).loc main_arg10) (ix1 k : S1024.Idx) := by
  unfold iblk
  rw [View.read_apply]
  show V m c main_v4 _ = _
  rw [V_g]
  have e : ∀ y : Vec Ideal S1024 .f32, shapeCast S1x1024 y shapeCasts_S1024_S1x1024 (ix2 0 k) = y (ix1 k) := fun y => by pointwise
  rw [← e (m ((c : Thread nD τ).loc main_arg10))]
  congr 1
  funext a
  apply Fin.ext
  match a with
  | ⟨0, _⟩ => show win0_13.index t 0 * 1 + 1 * 0 = 0; rw [(idx_g t).1]
  | ⟨1, _⟩ => show win0_13.index t 1 * 1024 + 1 * k.val = k.val; rw [(idx_g t).2]; omega

theorem iblk_win (c : Dev nD) (t : Fin cfg0.N) (r : Fin 1024) (k : Fin 5632) :
    (iblk m c 14 t : Vec Ideal S1024x5632 .bf16) (ix2 r k)
      = m ((c : Thread nD τ).loc main_arg11) (ix2 r k : S1024x5632.Idx) := by
  unfold iblk
  rw [View.read_apply]
  show V m c main_v5 _ = _
  rw [V_win]
  congr 1
  funext a
  apply Fin.ext
  match a with
  | ⟨0, _⟩ => show win0_14.index t 0 * 1024 + 1 * r.val = r.val; rw [(idx_win t).1]; omega
  | ⟨1, _⟩ => show win0_14.index t 1 * 5632 + 1 * k.val = k.val; rw [(idx_win t).2]; omega

theorem iblk_wd (c : Dev nD) (t : Fin cfg0.N) (r : Fin 2816) (k : Fin 1024) :
    (iblk m c 15 t : Vec Ideal S2816x1024 .bf16) (ix2 r k)
      = m ((c : Thread nD τ).loc main_arg12) (ix2 r k : S2816x1024.Idx) := by
  unfold iblk
  rw [View.read_apply]
  show V m c main_v6 _ = _
  rw [V_wd]
  congr 1
  funext a
  apply Fin.ext
  match a with
  | ⟨0, _⟩ => show win0_15.index t 0 * 2816 + 1 * r.val = r.val; rw [(idx_wd t).1]; omega
  | ⟨1, _⟩ => show win0_15.index t 1 * 1024 + 1 * k.val = k.val; rw [(idx_wd t).2]; omega

theorem iblk_gf (c : Dev nD) (t : Fin cfg0.N) (k : Fin 1024) :
    (iblk m c 16 t : Vec Ideal S1x1024 .f32) (ix2 0 k) = m ((c : Thread nD τ).loc main_arg13) (ix1 k : S1024.Idx) := by
  unfold iblk
  rw [View.read_apply]
  show V m c main_v7 _ = _
  rw [V_gf]
  have e : ∀ y : Vec Ideal S1024 .f32, shapeCast S1x1024 y shapeCasts_S1024_S1x1024 (ix2 0 k) = y (ix1 k) := fun y => by pointwise
  rw [← e (m ((c : Thread nD τ).loc main_arg13))]
  congr 1
  funext a
  apply Fin.ext
  match a with
  | ⟨0, _⟩ => show win0_16.index t 0 * 1 + 1 * 0 = 0; rw [(idx_gf t).1]
  | ⟨1, _⟩ => show win0_16.index t 1 * 1024 + 1 * k.val = k.val; rw [(idx_gf t).2]; omega

/-- The result array named by the arguments' launch contents. -/
def res (c : Dev nD) : Buf (Elt Ideal) ((c : Thread nD τ).loc main_v8) :=
  result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- One token back, as the block reads it: from its own rows, the block before, or the zero state. -/
theorem back1_eq (c : Dev nD) (t : Fin cfg0.N) (r : Fin 512) (k : Fin 512) :
    (if r.val = 0 then (if (grid0.coords t 0).val % 16 = 0 then (iblk m c 4 t : Vec Ideal S1x2x512 .f32) (ix3 0 1 k)
        else (iblk m c 2 t : Vec Ideal S8x512 .f32) (ix2 7 k))
      else (iblk m c 1 t : Vec Ideal S512x512 .f32) (ix2 ⟨r.val - 1, by omega⟩ k))
      = back1 (m ((c : Thread nD τ).loc main_arg1)) ⟨512 * t.val + r.val, by have := lt_pts t; omega⟩ k := by
  have ht := lt_pts t
  rw [coords0, iblk_state, iblk_z]
  unfold back1
  by_cases h0 : r.val = 0
  · rw [if_pos h0]
    by_cases h1 : t.val % 16 = 0
    · rw [if_pos h1, if_pos (by show (512 * t.val + r.val) % 8192 = 0; omega)]
    · rw [if_neg h1, if_neg (by show ¬ (512 * t.val + r.val) % 8192 = 0; omega), iblk_zp m c t (by omega)]
      congr 2
      exact Fin.ext (by show 512 * t.val - 8 + 7 = 512 * t.val + r.val - 1; omega)
  · rw [if_neg h0, if_neg (by show ¬ (512 * t.val + r.val) % 8192 = 0; omega)]
    congr 2
    exact Fin.ext (by show 512 * t.val + (r.val - 1) = 512 * t.val + r.val - 1; omega)

/-- Two tokens back. -/
theorem back2_eq (c : Dev nD) (t : Fin cfg0.N) (r : Fin 512) (k : Fin 512) :
    (if r.val = 0 then (if (grid0.coords t 0).val % 16 = 0 then (iblk m c 4 t : Vec Ideal S1x2x512 .f32) (ix3 0 0 k)
        else (iblk m c 2 t : Vec Ideal S8x512 .f32) (ix2 6 k))
      else if r.val = 1 then (if (grid0.coords t 0).val % 16 = 0 then (iblk m c 4 t : Vec Ideal S1x2x512 .f32) (ix3 0 1 k)
        else (iblk m c 2 t : Vec Ideal S8x512 .f32) (ix2 7 k))
      else (iblk m c 1 t : Vec Ideal S512x512 .f32) (ix2 ⟨r.val - 2, by omega⟩ k))
      = back2 (m ((c : Thread nD τ).loc main_arg1)) ⟨512 * t.val + r.val, by have := lt_pts t; omega⟩ k := by
  have ht := lt_pts t
  rw [coords0, iblk_state, iblk_state, iblk_z]
  unfold back2
  by_cases h0 : r.val = 0
  · rw [if_pos h0]
    by_cases h1 : t.val % 16 = 0
    · rw [if_pos h1, if_pos (by show (512 * t.val + r.val) % 8192 < 2; omega)]
    · rw [if_neg h1, if_neg (by show ¬ (512 * t.val + r.val) % 8192 < 2; omega), iblk_zp m c t (by omega)]
      congr 2
      exact Fin.ext (by show 512 * t.val - 8 + 6 = 512 * t.val + r.val - 2; omega)
  · rw [if_neg h0]
    by_cases h2 : r.val = 1
    · rw [if_pos h2]
      by_cases h1 : t.val % 16 = 0
      · rw [if_pos h1, if_pos (by show (512 * t.val + r.val) % 8192 < 2; omega)]
      · rw [if_neg h1, if_neg (by show ¬ (512 * t.val + r.val) % 8192 < 2; omega), iblk_zp m c t (by omega)]
        congr 2
        exact Fin.ext (by show 512 * t.val - 8 + 7 = 512 * t.val + r.val - 2; omega)
    · rw [if_neg h2, if_neg (by show ¬ (512 * t.val + r.val) % 8192 < 2; omega)]
      congr 2
      exact Fin.ext (by show 512 * t.val + (r.val - 2) = 512 * t.val + r.val - 2; omega)

/-- The result's row with its taps renamed. -/
theorem taps_congr {h sgc sga : Fin 1024 → EReal} {bc o z : Fin 512 → EReal} {cw : Fin 3 → Fin 512 → EReal} {woc woa : Fin 512 → Fin 1024 → EReal}
    {wo : Fin 1024 → Fin 1024 → EReal} {g gf : Fin 1024 → EReal} {win : Fin 1024 → Fin 5632 → EReal} {wd : Fin 2816 → Fin 1024 → EReal}
    {f2 f2' f1 f1' : Fin 512 → EReal} (e2 : f2 = f2') (e1 : f1 = f1') (l : Fin 1024) :
    rms (halfFfn (mixRow h sgc sga bc (conv3 cw f2 f1 z) o woc woa wo) g win wd) gf l
      = rms (halfFfn (mixRow h sgc sga bc (conv3 cw f2' f1' z) o woc woa wo) g win wd) gf l := by rw [e2, e1]

/-- What point `t` writes back is block `t` of the result. -/
theorem flushed_eq (c : Dev nD) (t : Fin cfg0.N) :
    (dats m 0 c).flushed 17 t = (win0_17.blk t).view.read (Elt Ideal) (res m c) := by
  rw [Value.flushed17_A]
  funext y
  obtain ⟨r, l, rfl⟩ : ∃ (r : Fin 512) (l : Fin 1024), y = (ix2 r l : S512x1024.Idx) := ⟨y 0, y 1, eq_ix2 y⟩
  rw [View.read_apply]
  refine (out_apply c (grid0.coords t) _ _ _ _ _ _ _ _ _ _ _ _ _ _ _ _ _ _ _ _ _ _ _ _ _ _ _ _ _ _ _ _ _ _ _ _ _ _ _ _ _ _ _ _ _ _ _ _ _ _ _ _ _ _ _ r l).trans ?_
  have e : ((win0_17.blk t).view.emb (ix2 r l : S512x1024.Idx) : S16384x1024.Idx)
      = ix2 ⟨512 * t.val + r.val, by have := lt_pts t; omega⟩ l := by
    funext a
    apply Fin.ext
    match a with
    | ⟨0, _⟩ => show win0_17.index t 0 * 512 + 1 * r.val = 512 * t.val + r.val; rw [(idx_out t).1]; omega
    | ⟨1, _⟩ => show win0_17.index t 1 * 1024 + 1 * l.val = l.val; rw [(idx_out t).2]; omega
  show _ = res m c ((win0_17.blk t).view.emb (ix2 r l : S512x1024.Idx) : S16384x1024.Idx)
  rw [e]
  refine (taps_congr (funext (back2_eq m c t r)) (funext (back1_eq m c t r)) l).trans ?_
  simp only [iblk_h, iblk_z, iblk_bc, iblk_sgc, iblk_sga, iblk_o, iblk_cw, iblk_woc, iblk_woa, iblk_wout, iblk_g, iblk_win, iblk_wd, iblk_gf]
  rfl

/-- The blocks tile the result array. -/
theorem cover (i : S16384x1024.Idx) : ∃ t : Fin cfg0.N, (cfg0.win 17).flush t = true ∧ i ∈ ((cfg0.win 17).blk t).view.set := by
  have h0 : (i 0 : Nat) < 16384 := (i 0).isLt
  have h1 : (i 1 : Nat) < 1024 := (i 1).isLt
  have hN : cfg0.N = 32 := N_0
  refine ⟨⟨(i 0).val / 512, by rw [hN]; omega⟩, flush0_17 _, ?_⟩
  generalize ht : (⟨(i 0).val / 512, _⟩ : Fin cfg0.N) = t
  have hv : t.val = (i 0).val / 512 := by rw [← ht]
  show i ∈ ((View.whole main_v8).slice (win0_17.rect t)).set
  rw [View.set_slice_whole, Rect.mem_set_unit]
  intro a
  match a with
  | ⟨0, _⟩ => show win0_17.index t 0 * 512 ≤ (i 0 : Nat) ∧ (i 0 : Nat) < win0_17.index t 0 * 512 + 512
              rw [(idx_out t).1]; omega
  | ⟨1, _⟩ => show win0_17.index t 1 * 1024 ≤ (i 1 : Nat) ∧ (i 1 : Nat) < win0_17.index t 1 * 1024 + 1024
              rw [(idx_out t).2]; omega

theorem final (c : Dev nD) : (dats m 0 c).arrAt 17 cfg0.N = res m c :=
  (dats m 0 c).arrAt_eq_of_cover 17 (res m c) (fun t _ => flushed_eq m c t) cover

end Cert.MergeIdeal.Hand

namespace Cert.RefMergeIdeal.Hand

open Cert.RefMergeIdeal Cert.RefMergeIdeal.Gen Cert.LayerMath Cert.MergeIdeal.Hand

/-- The reference's merged rows. -/
def mixV (h : FVec Ideal S16384x1024 .f32) (cv bc : FVec Ideal S16384x512 .f32) (sgc sga : FVec Ideal S16384x1024 .f32)
    (o : FVec Ideal S16384x512 .bf16) (woc woa : FVec Ideal S512x1024 .f32) (wo : FVec Ideal S1024x1024 .f32) : FVec Ideal S16384x1024 .f32 :=
  addf h (matmul dot_S16384x1024_S1024x1024_S16384x1024_1_0_0_1_n_n none
    (addf (mulf sgc (matmul dot_S16384x512_S512x1024_S16384x1024_1_0_0_1_n_n none (mulf bc cv) woc (constant S16384x1024 .f32 0x00000000#32)))
      (mulf sga (matmul dot_S16384x512_S512x1024_S16384x1024_1_0_0_1_n_n none (extf .f32 o bitsLt_bf16_f32) woa
        (constant S16384x1024 .f32 0x00000000#32)))) wo (constant S16384x1024 .f32 0x00000000#32))

/-- The reciprocal root of each row's mean square. -/
def scaleV (x : FVec Ideal S16384x1024 .f32) : FVec Ideal S16384x1 .f32 :=
  rsqrt (addf (divf (shapeCast S16384x1 (multiReduction .add [1] S16384 (mulf x x) 0x00000000#32 reduces_S16384x1024_S16384 (.inl rfl) rfl)
    shapeCasts_S16384_S16384x1) (broadcast S16384x1 (Scalar.ofBits .f32 0x44800000#32))) (broadcast S16384x1 (Scalar.ofBits .f32 0x358637BD#32)))

/-- The rows scaled, and by the weights. -/
def normV (x : FVec Ideal S16384x1024 .f32) (w : FVec Ideal S1024 .f32) : FVec Ideal S16384x1024 .f32 :=
  mulf (mulf x (broadcastTo S16384x1024 (scaleV x) broadcasts_S16384x1_S16384x1024))
    (broadcastTo S16384x1024 (shapeCast S1x1024 w shapeCasts_S1024_S1x1024) broadcasts_S1x1024_S16384x1024)

/-- The hidden units of the feed-forward block. -/
def hiddenV (h : FVec Ideal S16384x1024 .f32) (win : FVec Ideal S1024x5632 .f32) : FVec Ideal S16384x2816 .f32 :=
  mulf (mulf (extractStridedSlice S16384x2816 ![0, 0] (matmul dot_S16384x1024_S1024x5632_S16384x5632_1_0_0_1_n_n none h win
      (constant S16384x5632 .f32 0x00000000#32)) slices_S16384x5632_o0_0_S16384x2816)
    (logistic (extractStridedSlice S16384x2816 ![0, 0] (matmul dot_S16384x1024_S1024x5632_S16384x5632_1_0_0_1_n_n none h win
      (constant S16384x5632 .f32 0x00000000#32)) slices_S16384x5632_o0_0_S16384x2816)))
    (extractStridedSlice S16384x2816 ![0, 2816] (matmul dot_S16384x1024_S1024x5632_S16384x5632_1_0_0_1_n_n none h win
      (constant S16384x5632 .f32 0x00000000#32)) slices_S16384x5632_o0_2816_S16384x2816)

/-- The rows after the feed-forward half step. -/
def halfV (x : FVec Ideal S16384x1024 .f32) (w : FVec Ideal S1024 .f32) (win : FVec Ideal S1024x5632 .f32) (wd : FVec Ideal S2816x1024 .f32) :
    FVec Ideal S16384x1024 .f32 :=
  addf x (mulf (broadcast S16384x1024 (Scalar.ofBits .f32 0x3F000000#32))
    (matmul dot_S16384x2816_S2816x1024_S16384x1024_1_0_0_1_n_n none (hiddenV (normV x w) win) wd (constant S16384x1024 .f32 0x00000000#32)))

theorem mixV_apply (h : FVec Ideal S16384x1024 .f32) (cv bc : FVec Ideal S16384x512 .f32) (sgc sga : FVec Ideal S16384x1024 .f32)
    (o : FVec Ideal S16384x512 .bf16) (woc woa : FVec Ideal S512x1024 .f32) (wo : FVec Ideal S1024x1024 .f32) (r : Fin 16384) (l : Fin 1024) :
    mixV h cv bc sgc sga o woc woa wo (ix2 r l)
      = mixRow (fun k => h (ix2 r k)) (fun k => sgc (ix2 r k)) (fun k => sga (ix2 r k)) (fun k => bc (ix2 r k)) (fun k => cv (ix2 r k))
        (fun k => o (ix2 r k)) (fun k j => woc (ix2 k j)) (fun k j => woa (ix2 k j)) (fun k j => wo (ix2 k j)) l := by
  pointwise [mixV, mixRow, branches, dot_S16384x1024_S1024x1024_S16384x1024_1_0_0_1_n_n, dot_S16384x512_S512x1024_S16384x1024_1_0_0_1_n_n]

theorem normV_apply (x : FVec Ideal S16384x1024 .f32) (w : FVec Ideal S1024 .f32) (r : Fin 16384) (l : Fin 1024) :
    normV x w (ix2 r l) = rms (fun k => x (ix2 r k)) (fun k => w (ix1 k)) l := by
  pointwise [normV, scaleV, rms]

theorem hiddenV_apply (h : FVec Ideal S16384x1024 .f32) (win : FVec Ideal S1024x5632 .f32) (r : Fin 16384) (k : Fin 2816) :
    hiddenV h win (ix2 r k) = hiddenUnit (fun k => h (ix2 r k)) (fun j k => win (ix2 j k)) k := by
  pointwise [hiddenV, hiddenUnit, gated, Ideal.logistic, zero_sub, dot_S16384x1024_S1024x5632_S16384x5632_1_0_0_1_n_n]

theorem halfV_apply (x : FVec Ideal S16384x1024 .f32) (w : FVec Ideal S1024 .f32) (win : FVec Ideal S1024x5632 .f32)
    (wd : FVec Ideal S2816x1024 .f32) (r : Fin 16384) (l : Fin 1024) :
    halfV x w win wd (ix2 r l)
      = halfFfn (fun k => x (ix2 r k)) (fun k => w (ix1 k)) (fun j k => win (ix2 j k)) (fun k l => wd (ix2 k l)) l := by
  have e := hiddenV_apply (normV x w) win
  have n := normV_apply x w
  pointwise [halfV, halfFfn, ffnSum, e, n, dot_S16384x2816_S2816x1024_S16384x1024_1_0_0_1_n_n]

variable (x0 : Vec Ideal S16384x1024 .f32) (x1 x2 : Vec Ideal S16384x512 .f32)
  (x3 x4 : Vec Ideal S16384x1024 .f32) (x5 : Vec Ideal S16384x512 .bf16)
  (x6 : Vec Ideal S3x512 .f32) (x7 x8 : Vec Ideal S512x1024 .f32)
  (x9 : Vec Ideal S1024x1024 .f32) (x10 : Vec Ideal S1024 .f32)
  (x11 : Vec Ideal S1024x5632 .f32) (x12 : Vec Ideal S2816x1024 .f32)
  (x13 : Vec Ideal S1024 .f32)

/-- The causal convolution of the reference: its taps come from the sequence with two zero rows put before it. -/
theorem conv_apply (r : Fin 16384) (k : Fin 512) :
    k0_pay5 (F := Ideal) x0 x1 x2 x3 x4 x5 x6 x7 x8 x9 x10 x11 x12 x13 (ix2 r k)
      = conv3 (fun a k => x6 (ix2 a k)) (back2 x1 r) (back1 x1 r) (fun k => x1 (ix2 r k)) k := by
  pointwise [k0_pay5, k0_pay2, conv3]
  have e2 : (if h : r.val % 8192 < 2 then (0 : EReal) else x1 (ix2 ⟨r.val / 8192 * 8192 + (r.val % 8192 - 2), by omega⟩ k)) = back2 x1 r k := by
    unfold back2
    by_cases h : r.val % 8192 < 2
    · rw [dif_pos h, if_pos h]
    · rw [dif_neg h, if_neg h]
      congr 2
      exact Fin.ext (by show r.val / 8192 * 8192 + (r.val % 8192 - 2) = r.val - 2; omega)
  have e1 : (if h : 1 + r.val % 8192 < 2 then (0 : EReal) else x1 (ix2 ⟨r.val / 8192 * 8192 + (1 + r.val % 8192 - 2), by omega⟩ k)) = back1 x1 r k := by
    unfold back1
    by_cases h : r.val % 8192 = 0
    · rw [dif_pos (by omega), if_pos h]
    · rw [dif_neg (by omega), if_neg h]
      congr 2
      exact Fin.ext (by show r.val / 8192 * 8192 + (1 + r.val % 8192 - 2) = r.val - 1; omega)
  rw [← e2, ← e1]

/-- The reference's result is the same function of its arguments. -/
theorem ref_eq : Value.G14 (F := Ideal) x0 x1 x2 x3 x4 x5 x6 x7 x8 x9 x10 x11 x12 x13
    = Cert.MergeIdeal.Hand.result x0 x1 x2 x3 x4 x5 x6 x7 x8 x9 x10 x11 x12 x13 := by
  have e : Value.G14 (F := Ideal) x0 x1 x2 x3 x4 x5 x6 x7 x8 x9 x10 x11 x12 x13
      = normV (halfV (mixV x0 (k0_pay5 x0 x1 x2 x3 x4 x5 x6 x7 x8 x9 x10 x11 x12 x13) x2 x3 x4 x5 x7 x8 x9) x10 x11 x12) x13 := rfl
  rw [e]
  funext i
  obtain ⟨r, l, rfl⟩ : ∃ (r : Fin 16384) (l : Fin 1024), i = (ix2 r l : S16384x1024.Idx) := ⟨i 0, i 1, eq_ix2 i⟩
  rw [normV_apply]
  simp only [halfV_apply, mixV_apply, conv_apply]
  rfl

end Cert.RefMergeIdeal.Hand

end
-- ==== Proof.MergeClaims.lean ====
/- The five claims of the call that merges the two branches: both frames of the kernel, the frame of the reference, the (empty) list of
   rewrites of the idealization, and the equality of the results over the extended reals. -/
module

public import proofs.«01_k».proof.Defs
public import proofs.«01_k».proof.Proof.Gen.Merge.Frame
public import proofs.«01_k».proof.Proof.Gen.MergeIdeal.Value
public import proofs.«01_k».proof.Proof.Gen.RefMergeIdeal.Value
public import proofs.«01_k».proof.Proof.MergeValue

@[expose] public section

namespace Cert.Proof.MergeClaims

open Idealize.ShloMosaic Idealize.SL.Sem

/-- The kernel's frame over the machine's floats. -/
theorem frame_p : Cert.quiescent_Merge := fun m ρ _ => Cert.Merge.Gen.frame m ρ

/-- The kernel's frame over the extended reals. -/
theorem frame_pi : Cert.quiescent_MergeIdeal := fun m ρ _ => Cert.MergeIdeal.Gen.frame m ρ

/-- The reference's frame over the extended reals: it ends with its arguments unchanged and its semaphores at rest. -/
theorem frame_ri : Cert.quiescent_RefMergeIdeal := fun m ρ _ => Cert.RefMergeIdeal.Gen.frame m ρ

/-- The idealization rewrote no operation of the kernel. -/
theorem preserves : Cert.preserves_Merge_MergeIdeal := trivial

/-- From arguments that agree, the kernel's result array and the reference's are equal: both are
    `MergeIdeal.Hand.result` of the arguments. -/
theorem algebraic : Cert.algebraic_MergeIdeal_RefMergeIdeal := by
  intro m ρ m' ρ' _ hagree
  refine ⟨fun c => Cert.MergeIdeal.Hand.res m c, ?_, ?_⟩
  · exact (θ_run Cert.MergeIdeal.defs _ _).mono
      (fun _ h c => ⟨(h c).1.trans (Cert.MergeIdeal.Hand.final m c), (h c).2⟩)
      (Cert.MergeIdeal.Value.run_blocks m ρ)
  · refine (θ_run Cert.RefMergeIdeal.defs _ _).mono (fun _ h c => ⟨(h c).1.trans ?_, (h c).2⟩)
      (Cert.RefMergeIdeal.Value.run (F := Ideal) m' ρ')
    obtain ⟨a0, a1, a2, a3, a4, a5, a6, a7, a8, a9, a10, a11, a12, a13⟩ := hagree c
    rw [a0, a1, a2, a3, a4, a5, a6, a7, a8, a9, a10, a11, a12, a13]
    exact Cert.RefMergeIdeal.Hand.ref_eq _ _ _ _ _ _ _ _ _ _ _ _ _ _

end Cert.Proof.MergeClaims

end
-- ==== Proof.ProjMath.lean ====
/-
  The layer's input projection of a row: the row scaled to unit mean square and by its weights, times the columns of the
  weight matrix.
-/
module

public import proofs.«01_k».proof.Proof.LayerMath

@[expose] public section

noncomputable section

open Idealize.ShloMosaic

namespace Cert.LayerMath

/-- The logistic function, as the reciprocal of one plus an exponential. -/
def sigm (x : EReal) : EReal := Ideal.div 1 (1 + Ideal.exp (0 - x))

/-- Entry `q` of the projection of the row `h`. -/
def proj (h g : Fin 1024 → EReal) (w : Fin 1024 → Fin 5704 → EReal) (q : Fin 5704) : EReal := ∑ j, rms h g j * w j q

end Cert.LayerMath

end
-- ==== Proof.ProjKernel.lean ====
/-
  What one grid point of the projection leaves in each output block: entries of the block's rows, scaled and projected
  onto the columns of the arranged weight matrix, in each output's layout.
-/
module

public import proofs.«01_k».proof.Proof.Gen.ProjIdeal.Value
public import Idealize.ShloMosaic.Lib.Pointwise
public import Idealize.ShloMosaic.Lib.Tactic
public import Idealize.ShloMosaic.Lib.VecWindow
public import Idealize.ShloMosaic.Lib.KernelVsHost
public import Idealize.ShloMosaic.Lib.Pipeline.ReadBack
public import proofs.«01_k».proof.Proof.ProjMath

@[expose] public section

set_option maxRecDepth 16384

noncomputable section

open Idealize.ShloMosaic Idealize.ShloMosaic.TcCoe Idealize.SL.Sem
open Idealize.ShloMosaic.Pipeline (Dat)

namespace Cert.ProjIdeal.Hand

open Cert.ProjIdeal Cert.ProjIdeal.Gen Cert.LayerMath

theorem zero2 : (![0, 0] : Fin 2 → Nat) = fun _ => 0 := funext fun a => by fin_cases a <;> rfl
theorem zero3 : (![0, 0, 0] : Fin 3 → Nat) = fun _ => 0 := funext fun a => by fin_cases a <;> rfl

/-- Column `q` of the arranged matrix against row `r` of the block, scaled. -/
def col (x0 : Vec Ideal S512x1024 .f32) (x1 : Vec Ideal S1x1024 .f32) (x2 : Vec Ideal S1024x5888 .bf16) (r : Fin 512) (q : Fin 5888) : EReal :=
  ∑ j, rms (fun k => x0 (ix2 r k)) (fun k => x1 (ix2 0 k)) j * x2 (ix2 j q)

theorem rms_apply (x0 : Vec Ideal S512x1024 .f32) (x1 : Vec Ideal S1x1024 .f32) (r : Fin 512) (j : Fin 1024) :
    k0_pay3 x0 x1 (ix2 r j) = rms (fun k => x0 (ix2 r k)) (fun k => x1 (ix2 0 k)) j := by
  pointwise [k0_pay3, rms]

/-- Output `z` at an index. -/
theorem out_z (c : Dev nD) (i : grid0.Coords) (arg1 : Memref sig .tc .vmem S512x1024 .f32) (h1 : arg1.IsWhole) (arg2 : Memref sig .tc .vmem S1x1024 .f32) (h2 : arg2.IsWhole) (arg3 : Memref sig .tc .vmem S1024x5888 .bf16) (h3 : arg3.IsWhole) (arg4 : Memref sig .tc .vmem S512x512 .f32) (h4 : arg4.IsWhole) (arg5 : Memref sig .tc .vmem S512x512 .f32) (h5 : arg5.IsWhole) (arg6 : Memref sig .tc .vmem S512x1024 .f32) (h6 : arg6.IsWhole) (arg7 : Memref sig .tc .vmem S512x1024 .f32) (h7 : arg7.IsWhole) (arg8 : Memref sig .tc .vmem S1x512x512 .f32) (h8 : arg8.IsWhole) (arg9 : Memref sig .tc .vmem S1x512x512 .f32) (h9 : arg9.IsWhole) (arg10 : Memref sig .tc .vmem S1x64x512 .f32) (h10 : arg10.IsWhole) (arg11 : Memref sig .tc .vmem S512x512 .bf16) (h11 : arg11.IsWhole) (arg12 : Memref sig .tc .vmem S512x128 .bf16) (h12 : arg12.IsWhole) (arg13 : Memref sig .tc .vmem S1x2x4x144x256 .bf16) (h13 : arg13.IsWhole) (arg14 : Memref sig .tc .vmem S1x512x512 .bf16) (h14 : arg14.IsWhole) (arg15 : Memref sig .tc .vmem S1x512x512 .bf16) (h15 : arg15.IsWhole) (arg16 : Memref sig .tc .vmem S1x8x512 .f32) (h16 : arg16.IsWhole)
    (x0 : Vec Ideal S512x1024 .f32) (x1 : Vec Ideal S1x1024 .f32) (x2 : Vec Ideal S1024x5888 .bf16) (r : Fin 512) (l : Fin 512) :
    out0_A_3 c i arg1 h1 arg2 h2 arg3 h3 arg4 h4 arg5 h5 arg6 h6 arg7 h7 arg8 h8 arg9 h9 arg10 h10 arg11 h11 arg12 h12 arg13 h13 arg14 h14 arg15 h15 arg16 h16 x0 x1 x2 (ix2 r l) = col x0 x1 x2 r ⟨1024 + l.val, by omega⟩ * col x0 x1 x2 r ⟨l.val, by omega⟩ := by
  unfold out0_A_3
  rw [View.read_writes_eq_canon _ _ _ (cover0_A_3 c i arg1 h1 arg2 h2 arg3 h3 arg4 h4 arg5 h5 arg6 h6 arg7 h7 arg8 h8 arg9 h9 arg10 h10 arg11 h11 arg12 h12 arg13 h13 arg14 h14 arg15 h15 arg16 h16 x0 x1 x2)]
  unfold kernelRun0_A
  dsimp only
  sl_unfold_words
  simp only [View.canon_unit_zero (S := S512x512) zero2, View.readAt_eq_ld, h1.read_unread, h2.read_unread, h3.read_unread,
    View.ld_unit_zero (S := S512x1024) zero2, View.ld_unit_zero (S := S1x1024) zero2]
  pointwise [k0_pay4, dot_S512x1024_S1024x512_S512x512_1_0_0_1_n_n, rms_apply, col, sigm]

/-- Output `bc` at an index. -/
theorem out_bc (c : Dev nD) (i : grid0.Coords) (arg1 : Memref sig .tc .vmem S512x1024 .f32) (h1 : arg1.IsWhole) (arg2 : Memref sig .tc .vmem S1x1024 .f32) (h2 : arg2.IsWhole) (arg3 : Memref sig .tc .vmem S1024x5888 .bf16) (h3 : arg3.IsWhole) (arg4 : Memref sig .tc .vmem S512x512 .f32) (h4 : arg4.IsWhole) (arg5 : Memref sig .tc .vmem S512x512 .f32) (h5 : arg5.IsWhole) (arg6 : Memref sig .tc .vmem S512x1024 .f32) (h6 : arg6.IsWhole) (arg7 : Memref sig .tc .vmem S512x1024 .f32) (h7 : arg7.IsWhole) (arg8 : Memref sig .tc .vmem S1x512x512 .f32) (h8 : arg8.IsWhole) (arg9 : Memref sig .tc .vmem S1x512x512 .f32) (h9 : arg9.IsWhole) (arg10 : Memref sig .tc .vmem S1x64x512 .f32) (h10 : arg10.IsWhole) (arg11 : Memref sig .tc .vmem S512x512 .bf16) (h11 : arg11.IsWhole) (arg12 : Memref sig .tc .vmem S512x128 .bf16) (h12 : arg12.IsWhole) (arg13 : Memref sig .tc .vmem S1x2x4x144x256 .bf16) (h13 : arg13.IsWhole) (arg14 : Memref sig .tc .vmem S1x512x512 .bf16) (h14 : arg14.IsWhole) (arg15 : Memref sig .tc .vmem S1x512x512 .bf16) (h15 : arg15.IsWhole) (arg16 : Memref sig .tc .vmem S1x8x512 .f32) (h16 : arg16.IsWhole)
    (x0 : Vec Ideal S512x1024 .f32) (x1 : Vec Ideal S1x1024 .f32) (x2 : Vec Ideal S1024x5888 .bf16) (r : Fin 512) (l : Fin 512) :
    out0_A_4 c i arg1 h1 arg2 h2 arg3 h3 arg4 h4 arg5 h5 arg6 h6 arg7 h7 arg8 h8 arg9 h9 arg10 h10 arg11 h11 arg12 h12 arg13 h13 arg14 h14 arg15 h15 arg16 h16 x0 x1 x2 (ix2 r l) = col x0 x1 x2 r ⟨512 + l.val, by omega⟩ := by
  unfold out0_A_4
  rw [View.read_writes_eq_canon _ _ _ (cover0_A_4 c i arg1 h1 arg2 h2 arg3 h3 arg4 h4 arg5 h5 arg6 h6 arg7 h7 arg8 h8 arg9 h9 arg10 h10 arg11 h11 arg12 h12 arg13 h13 arg14 h14 arg15 h15 arg16 h16 x0 x1 x2)]
  unfold kernelRun0_A
  dsimp only
  sl_unfold_words
  simp only [View.canon_unit_zero (S := S512x512) zero2, View.readAt_eq_ld, h1.read_unread, h2.read_unread, h3.read_unread,
    View.ld_unit_zero (S := S512x1024) zero2, View.ld_unit_zero (S := S1x1024) zero2]
  pointwise [k0_pay5, dot_S512x1024_S1024x512_S512x512_1_0_0_1_n_n, rms_apply, col, sigm]

/-- Output `sgc` at an index. -/
theorem out_sgc (c : Dev nD) (i : grid0.Coords) (arg1 : Memref sig .tc .vmem S512x1024 .f32) (h1 : arg1.IsWhole) (arg2 : Memref sig .tc .vmem S1x1024 .f32) (h2 : arg2.IsWhole) (arg3 : Memref sig .tc .vmem S1024x5888 .bf16) (h3 : arg3.IsWhole) (arg4 : Memref sig .tc .vmem S512x512 .f32) (h4 : arg4.IsWhole) (arg5 : Memref sig .tc .vmem S512x512 .f32) (h5 : arg5.IsWhole) (arg6 : Memref sig .tc .vmem S512x1024 .f32) (h6 : arg6.IsWhole) (arg7 : Memref sig .tc .vmem S512x1024 .f32) (h7 : arg7.IsWhole) (arg8 : Memref sig .tc .vmem S1x512x512 .f32) (h8 : arg8.IsWhole) (arg9 : Memref sig .tc .vmem S1x512x512 .f32) (h9 : arg9.IsWhole) (arg10 : Memref sig .tc .vmem S1x64x512 .f32) (h10 : arg10.IsWhole) (arg11 : Memref sig .tc .vmem S512x512 .bf16) (h11 : arg11.IsWhole) (arg12 : Memref sig .tc .vmem S512x128 .bf16) (h12 : arg12.IsWhole) (arg13 : Memref sig .tc .vmem S1x2x4x144x256 .bf16) (h13 : arg13.IsWhole) (arg14 : Memref sig .tc .vmem S1x512x512 .bf16) (h14 : arg14.IsWhole) (arg15 : Memref sig .tc .vmem S1x512x512 .bf16) (h15 : arg15.IsWhole) (arg16 : Memref sig .tc .vmem S1x8x512 .f32) (h16 : arg16.IsWhole)
    (x0 : Vec Ideal S512x1024 .f32) (x1 : Vec Ideal S1x1024 .f32) (x2 : Vec Ideal S1024x5888 .bf16) (r : Fin 512) (l : Fin 1024) :
    out0_A_5 c i arg1 h1 arg2 h2 arg3 h3 arg4 h4 arg5 h5 arg6 h6 arg7 h7 arg8 h8 arg9 h9 arg10 h10 arg11 h11 arg12 h12 arg13 h13 arg14 h14 arg15 h15 arg16 h16 x0 x1 x2 (ix2 r l) = sigm (col x0 x1 x2 r ⟨3840 + l.val, by omega⟩) := by
  unfold out0_A_5
  rw [View.read_writes_eq_canon _ _ _ (cover0_A_5 c i arg1 h1 arg2 h2 arg3 h3 arg4 h4 arg5 h5 arg6 h6 arg7 h7 arg8 h8 arg9 h9 arg10 h10 arg11 h11 arg12 h12 arg13 h13 arg14 h14 arg15 h15 arg16 h16 x0 x1 x2)]
  unfold kernelRun0_A
  dsimp only
  sl_unfold_words
  simp only [View.canon_unit_zero (S := S512x1024) zero2, View.readAt_eq_ld, h1.read_unread, h2.read_unread, h3.read_unread,
    View.ld_unit_zero (S := S512x1024) zero2, View.ld_unit_zero (S := S1x1024) zero2]
  pointwise [k0_pay12, dot_S512x1024_S1024x1024_S512x1024_1_0_0_1_n_n, rms_apply, col, sigm]

/-- Output `sga` at an index. -/
theorem out_sga (c : Dev nD) (i : grid0.Coords) (arg1 : Memref sig .tc .vmem S512x1024 .f32) (h1 : arg1.IsWhole) (arg2 : Memref sig .tc .vmem S1x1024 .f32) (h2 : arg2.IsWhole) (arg3 : Memref sig .tc .vmem S1024x5888 .bf16) (h3 : arg3.IsWhole) (arg4 : Memref sig .tc .vmem S512x512 .f32) (h4 : arg4.IsWhole) (arg5 : Memref sig .tc .vmem S512x512 .f32) (h5 : arg5.IsWhole) (arg6 : Memref sig .tc .vmem S512x1024 .f32) (h6 : arg6.IsWhole) (arg7 : Memref sig .tc .vmem S512x1024 .f32) (h7 : arg7.IsWhole) (arg8 : Memref sig .tc .vmem S1x512x512 .f32) (h8 : arg8.IsWhole) (arg9 : Memref sig .tc .vmem S1x512x512 .f32) (h9 : arg9.IsWhole) (arg10 : Memref sig .tc .vmem S1x64x512 .f32) (h10 : arg10.IsWhole) (arg11 : Memref sig .tc .vmem S512x512 .bf16) (h11 : arg11.IsWhole) (arg12 : Memref sig .tc .vmem S512x128 .bf16) (h12 : arg12.IsWhole) (arg13 : Memref sig .tc .vmem S1x2x4x144x256 .bf16) (h13 : arg13.IsWhole) (arg14 : Memref sig .tc .vmem S1x512x512 .bf16) (h14 : arg14.IsWhole) (arg15 : Memref sig .tc .vmem S1x512x512 .bf16) (h15 : arg15.IsWhole) (arg16 : Memref sig .tc .vmem S1x8x512 .f32) (h16 : arg16.IsWhole)
    (x0 : Vec Ideal S512x1024 .f32) (x1 : Vec Ideal S1x1024 .f32) (x2 : Vec Ideal S1024x5888 .bf16) (r : Fin 512) (l : Fin 1024) :
    out0_A_6 c i arg1 h1 arg2 h2 arg3 h3 arg4 h4 arg5 h5 arg6 h6 arg7 h7 arg8 h8 arg9 h9 arg10 h10 arg11 h11 arg12 h12 arg13 h13 arg14 h14 arg15 h15 arg16 h16 x0 x1 x2 (ix2 r l) = sigm (col x0 x1 x2 r ⟨4864 + l.val, by omega⟩) := by
  unfold out0_A_6
  rw [View.read_writes_eq_canon _ _ _ (cover0_A_6 c i arg1 h1 arg2 h2 arg3 h3 arg4 h4 arg5 h5 arg6 h6 arg7 h7 arg8 h8 arg9 h9 arg10 h10 arg11 h11 arg12 h12 arg13 h13 arg14 h14 arg15 h15 arg16 h16 x0 x1 x2)]
  unfold kernelRun0_A
  dsimp only
  sl_unfold_words
  simp only [View.canon_unit_zero (S := S512x1024) zero2, View.readAt_eq_ld, h1.read_unread, h2.read_unread, h3.read_unread,
    View.ld_unit_zero (S := S512x1024) zero2, View.ld_unit_zero (S := S1x1024) zero2]
  pointwise [k0_pay14, k0_pay13, dot_S512x1024_S1024x1024_S512x1024_1_0_0_1_n_n, rms_apply, col, sigm]

/-- Output `kt` at an index. -/
theorem out_kt (c : Dev nD) (i : grid0.Coords) (arg1 : Memref sig .tc .vmem S512x1024 .f32) (h1 : arg1.IsWhole) (arg2 : Memref sig .tc .vmem S1x1024 .f32) (h2 : arg2.IsWhole) (arg3 : Memref sig .tc .vmem S1024x5888 .bf16) (h3 : arg3.IsWhole) (arg4 : Memref sig .tc .vmem S512x512 .f32) (h4 : arg4.IsWhole) (arg5 : Memref sig .tc .vmem S512x512 .f32) (h5 : arg5.IsWhole) (arg6 : Memref sig .tc .vmem S512x1024 .f32) (h6 : arg6.IsWhole) (arg7 : Memref sig .tc .vmem S512x1024 .f32) (h7 : arg7.IsWhole) (arg8 : Memref sig .tc .vmem S1x512x512 .f32) (h8 : arg8.IsWhole) (arg9 : Memref sig .tc .vmem S1x512x512 .f32) (h9 : arg9.IsWhole) (arg10 : Memref sig .tc .vmem S1x64x512 .f32) (h10 : arg10.IsWhole) (arg11 : Memref sig .tc .vmem S512x512 .bf16) (h11 : arg11.IsWhole) (arg12 : Memref sig .tc .vmem S512x128 .bf16) (h12 : arg12.IsWhole) (arg13 : Memref sig .tc .vmem S1x2x4x144x256 .bf16) (h13 : arg13.IsWhole) (arg14 : Memref sig .tc .vmem S1x512x512 .bf16) (h14 : arg14.IsWhole) (arg15 : Memref sig .tc .vmem S1x512x512 .bf16) (h15 : arg15.IsWhole) (arg16 : Memref sig .tc .vmem S1x8x512 .f32) (h16 : arg16.IsWhole)
    (x0 : Vec Ideal S512x1024 .f32) (x1 : Vec Ideal S1x1024 .f32) (x2 : Vec Ideal S1024x5888 .bf16) (r : Fin 512) (l : Fin 512) :
    out0_A_7 c i arg1 h1 arg2 h2 arg3 h3 arg4 h4 arg5 h5 arg6 h6 arg7 h7 arg8 h8 arg9 h9 arg10 h10 arg11 h11 arg12 h12 arg13 h13 arg14 h14 arg15 h15 arg16 h16 x0 x1 x2 (ix3 0 l r) = col x0 x1 x2 r ⟨2048 + l.val, by omega⟩ := by
  unfold out0_A_7
  rw [View.read_writes_eq_canon _ _ _ (cover0_A_7 c i arg1 h1 arg2 h2 arg3 h3 arg4 h4 arg5 h5 arg6 h6 arg7 h7 arg8 h8 arg9 h9 arg10 h10 arg11 h11 arg12 h12 arg13 h13 arg14 h14 arg15 h15 arg16 h16 x0 x1 x2)]
  unfold kernelRun0_A
  dsimp only
  sl_unfold_words
  simp only [View.canon_unit_zero (S := S1x512x512) zero3, View.readAt_eq_ld, h1.read_unread, h2.read_unread, h3.read_unread,
    View.ld_unit_zero (S := S512x1024) zero2, View.ld_unit_zero (S := S1x1024) zero2]
  pointwise [k0_pay16, k0_pay7, dot_S512x1024_S1024x512_S512x512_1_0_0_1_n_n, rms_apply, col, sigm]

/-- Output `vt` at an index. -/
theorem out_vt (c : Dev nD) (i : grid0.Coords) (arg1 : Memref sig .tc .vmem S512x1024 .f32) (h1 : arg1.IsWhole) (arg2 : Memref sig .tc .vmem S1x1024 .f32) (h2 : arg2.IsWhole) (arg3 : Memref sig .tc .vmem S1024x5888 .bf16) (h3 : arg3.IsWhole) (arg4 : Memref sig .tc .vmem S512x512 .f32) (h4 : arg4.IsWhole) (arg5 : Memref sig .tc .vmem S512x512 .f32) (h5 : arg5.IsWhole) (arg6 : Memref sig .tc .vmem S512x1024 .f32) (h6 : arg6.IsWhole) (arg7 : Memref sig .tc .vmem S512x1024 .f32) (h7 : arg7.IsWhole) (arg8 : Memref sig .tc .vmem S1x512x512 .f32) (h8 : arg8.IsWhole) (arg9 : Memref sig .tc .vmem S1x512x512 .f32) (h9 : arg9.IsWhole) (arg10 : Memref sig .tc .vmem S1x64x512 .f32) (h10 : arg10.IsWhole) (arg11 : Memref sig .tc .vmem S512x512 .bf16) (h11 : arg11.IsWhole) (arg12 : Memref sig .tc .vmem S512x128 .bf16) (h12 : arg12.IsWhole) (arg13 : Memref sig .tc .vmem S1x2x4x144x256 .bf16) (h13 : arg13.IsWhole) (arg14 : Memref sig .tc .vmem S1x512x512 .bf16) (h14 : arg14.IsWhole) (arg15 : Memref sig .tc .vmem S1x512x512 .bf16) (h15 : arg15.IsWhole) (arg16 : Memref sig .tc .vmem S1x8x512 .f32) (h16 : arg16.IsWhole)
    (x0 : Vec Ideal S512x1024 .f32) (x1 : Vec Ideal S1x1024 .f32) (x2 : Vec Ideal S1024x5888 .bf16) (r : Fin 512) (l : Fin 512) :
    out0_A_8 c i arg1 h1 arg2 h2 arg3 h3 arg4 h4 arg5 h5 arg6 h6 arg7 h7 arg8 h8 arg9 h9 arg10 h10 arg11 h11 arg12 h12 arg13 h13 arg14 h14 arg15 h15 arg16 h16 x0 x1 x2 (ix3 0 l r) = col x0 x1 x2 r ⟨2560 + l.val, by omega⟩ := by
  unfold out0_A_8
  rw [View.read_writes_eq_canon _ _ _ (cover0_A_8 c i arg1 h1 arg2 h2 arg3 h3 arg4 h4 arg5 h5 arg6 h6 arg7 h7 arg8 h8 arg9 h9 arg10 h10 arg11 h11 arg12 h12 arg13 h13 arg14 h14 arg15 h15 arg16 h16 x0 x1 x2)]
  unfold kernelRun0_A
  dsimp only
  sl_unfold_words
  simp only [View.canon_unit_zero (S := S1x512x512) zero3, View.readAt_eq_ld, h1.read_unread, h2.read_unread, h3.read_unread,
    View.ld_unit_zero (S := S512x1024) zero2, View.ld_unit_zero (S := S1x1024) zero2]
  pointwise [k0_pay17, k0_pay15, k0_pay8, dot_S512x1024_S1024x512_S512x512_1_0_0_1_n_n, rms_apply, col, sigm]

/-- Output `kit` at an index. -/
theorem out_kit (c : Dev nD) (i : grid0.Coords) (arg1 : Memref sig .tc .vmem S512x1024 .f32) (h1 : arg1.IsWhole) (arg2 : Memref sig .tc .vmem S1x1024 .f32) (h2 : arg2.IsWhole) (arg3 : Memref sig .tc .vmem S1024x5888 .bf16) (h3 : arg3.IsWhole) (arg4 : Memref sig .tc .vmem S512x512 .f32) (h4 : arg4.IsWhole) (arg5 : Memref sig .tc .vmem S512x512 .f32) (h5 : arg5.IsWhole) (arg6 : Memref sig .tc .vmem S512x1024 .f32) (h6 : arg6.IsWhole) (arg7 : Memref sig .tc .vmem S512x1024 .f32) (h7 : arg7.IsWhole) (arg8 : Memref sig .tc .vmem S1x512x512 .f32) (h8 : arg8.IsWhole) (arg9 : Memref sig .tc .vmem S1x512x512 .f32) (h9 : arg9.IsWhole) (arg10 : Memref sig .tc .vmem S1x64x512 .f32) (h10 : arg10.IsWhole) (arg11 : Memref sig .tc .vmem S512x512 .bf16) (h11 : arg11.IsWhole) (arg12 : Memref sig .tc .vmem S512x128 .bf16) (h12 : arg12.IsWhole) (arg13 : Memref sig .tc .vmem S1x2x4x144x256 .bf16) (h13 : arg13.IsWhole) (arg14 : Memref sig .tc .vmem S1x512x512 .bf16) (h14 : arg14.IsWhole) (arg15 : Memref sig .tc .vmem S1x512x512 .bf16) (h15 : arg15.IsWhole) (arg16 : Memref sig .tc .vmem S1x8x512 .f32) (h16 : arg16.IsWhole)
    (x0 : Vec Ideal S512x1024 .f32) (x1 : Vec Ideal S1x1024 .f32) (x2 : Vec Ideal S1024x5888 .bf16) (r : Fin 512) (l : Fin 64) :
    out0_A_9 c i arg1 h1 arg2 h2 arg3 h3 arg4 h4 arg5 h5 arg6 h6 arg7 h7 arg8 h8 arg9 h9 arg10 h10 arg11 h11 arg12 h12 arg13 h13 arg14 h14 arg15 h15 arg16 h16 x0 x1 x2 (ix3 0 l r) = col x0 x1 x2 r ⟨3584 + l.val, by omega⟩ := by
  unfold out0_A_9
  rw [View.read_writes_eq_canon _ _ _ (cover0_A_9 c i arg1 h1 arg2 h2 arg3 h3 arg4 h4 arg5 h5 arg6 h6 arg7 h7 arg8 h8 arg9 h9 arg10 h10 arg11 h11 arg12 h12 arg13 h13 arg14 h14 arg15 h15 arg16 h16 x0 x1 x2)]
  unfold kernelRun0_A
  dsimp only
  sl_unfold_words
  simp only [View.canon_unit_zero (S := S1x64x512) zero3, View.readAt_eq_ld, h1.read_unread, h2.read_unread, h3.read_unread,
    View.ld_unit_zero (S := S512x1024) zero2, View.ld_unit_zero (S := S1x1024) zero2]
  pointwise [k0_pay18, k0_pay10, dot_S512x1024_S1024x128_S512x128_1_0_0_1_n_n, rms_apply, col, sigm]

/-- Output `kb` at an index. -/
theorem out_kb (c : Dev nD) (i : grid0.Coords) (arg1 : Memref sig .tc .vmem S512x1024 .f32) (h1 : arg1.IsWhole) (arg2 : Memref sig .tc .vmem S1x1024 .f32) (h2 : arg2.IsWhole) (arg3 : Memref sig .tc .vmem S1024x5888 .bf16) (h3 : arg3.IsWhole) (arg4 : Memref sig .tc .vmem S512x512 .f32) (h4 : arg4.IsWhole) (arg5 : Memref sig .tc .vmem S512x512 .f32) (h5 : arg5.IsWhole) (arg6 : Memref sig .tc .vmem S512x1024 .f32) (h6 : arg6.IsWhole) (arg7 : Memref sig .tc .vmem S512x1024 .f32) (h7 : arg7.IsWhole) (arg8 : Memref sig .tc .vmem S1x512x512 .f32) (h8 : arg8.IsWhole) (arg9 : Memref sig .tc .vmem S1x512x512 .f32) (h9 : arg9.IsWhole) (arg10 : Memref sig .tc .vmem S1x64x512 .f32) (h10 : arg10.IsWhole) (arg11 : Memref sig .tc .vmem S512x512 .bf16) (h11 : arg11.IsWhole) (arg12 : Memref sig .tc .vmem S512x128 .bf16) (h12 : arg12.IsWhole) (arg13 : Memref sig .tc .vmem S1x2x4x144x256 .bf16) (h13 : arg13.IsWhole) (arg14 : Memref sig .tc .vmem S1x512x512 .bf16) (h14 : arg14.IsWhole) (arg15 : Memref sig .tc .vmem S1x512x512 .bf16) (h15 : arg15.IsWhole) (arg16 : Memref sig .tc .vmem S1x8x512 .f32) (h16 : arg16.IsWhole)
    (x0 : Vec Ideal S512x1024 .f32) (x1 : Vec Ideal S1x1024 .f32) (x2 : Vec Ideal S1024x5888 .bf16) (r : Fin 512) (l : Fin 512) :
    out0_A_10 c i arg1 h1 arg2 h2 arg3 h3 arg4 h4 arg5 h5 arg6 h6 arg7 h7 arg8 h8 arg9 h9 arg10 h10 arg11 h11 arg12 h12 arg13 h13 arg14 h14 arg15 h15 arg16 h16 x0 x1 x2 (ix2 r l) = col x0 x1 x2 r ⟨2048 + l.val, by omega⟩ := by
  unfold out0_A_10
  rw [View.read_writes_eq_canon _ _ _ (cover0_A_10 c i arg1 h1 arg2 h2 arg3 h3 arg4 h4 arg5 h5 arg6 h6 arg7 h7 arg8 h8 arg9 h9 arg10 h10 arg11 h11 arg12 h12 arg13 h13 arg14 h14 arg15 h15 arg16 h16 x0 x1 x2)]
  unfold kernelRun0_A
  dsimp only
  sl_unfold_words
  simp only [View.canon_unit_zero (S := S512x512) zero2, View.readAt_eq_ld, h1.read_unread, h2.read_unread, h3.read_unread,
    View.ld_unit_zero (S := S512x1024) zero2, View.ld_unit_zero (S := S1x1024) zero2]
  pointwise [k0_pay19, k0_pay7, dot_S512x1024_S1024x512_S512x512_1_0_0_1_n_n, rms_apply, col, sigm]

/-- Output `qt` at an index. -/
theorem out_qt (c : Dev nD) (i : grid0.Coords) (arg1 : Memref sig .tc .vmem S512x1024 .f32) (h1 : arg1.IsWhole) (arg2 : Memref sig .tc .vmem S1x1024 .f32) (h2 : arg2.IsWhole) (arg3 : Memref sig .tc .vmem S1024x5888 .bf16) (h3 : arg3.IsWhole) (arg4 : Memref sig .tc .vmem S512x512 .f32) (h4 : arg4.IsWhole) (arg5 : Memref sig .tc .vmem S512x512 .f32) (h5 : arg5.IsWhole) (arg6 : Memref sig .tc .vmem S512x1024 .f32) (h6 : arg6.IsWhole) (arg7 : Memref sig .tc .vmem S512x1024 .f32) (h7 : arg7.IsWhole) (arg8 : Memref sig .tc .vmem S1x512x512 .f32) (h8 : arg8.IsWhole) (arg9 : Memref sig .tc .vmem S1x512x512 .f32) (h9 : arg9.IsWhole) (arg10 : Memref sig .tc .vmem S1x64x512 .f32) (h10 : arg10.IsWhole) (arg11 : Memref sig .tc .vmem S512x512 .bf16) (h11 : arg11.IsWhole) (arg12 : Memref sig .tc .vmem S512x128 .bf16) (h12 : arg12.IsWhole) (arg13 : Memref sig .tc .vmem S1x2x4x144x256 .bf16) (h13 : arg13.IsWhole) (arg14 : Memref sig .tc .vmem S1x512x512 .bf16) (h14 : arg14.IsWhole) (arg15 : Memref sig .tc .vmem S1x512x512 .bf16) (h15 : arg15.IsWhole) (arg16 : Memref sig .tc .vmem S1x8x512 .f32) (h16 : arg16.IsWhole)
    (x0 : Vec Ideal S512x1024 .f32) (x1 : Vec Ideal S1x1024 .f32) (x2 : Vec Ideal S1024x5888 .bf16) (r : Fin 512) (l : Fin 512) :
    out0_A_13 c i arg1 h1 arg2 h2 arg3 h3 arg4 h4 arg5 h5 arg6 h6 arg7 h7 arg8 h8 arg9 h9 arg10 h10 arg11 h11 arg12 h12 arg13 h13 arg14 h14 arg15 h15 arg16 h16 x0 x1 x2 (ix3 0 l r) = col x0 x1 x2 r ⟨1536 + l.val, by omega⟩ * Ideal.ofBits FTy.f32 0x3E38AA3B#32 := by
  unfold out0_A_13
  rw [View.read_writes_eq_canon _ _ _ (cover0_A_13 c i arg1 h1 arg2 h2 arg3 h3 arg4 h4 arg5 h5 arg6 h6 arg7 h7 arg8 h8 arg9 h9 arg10 h10 arg11 h11 arg12 h12 arg13 h13 arg14 h14 arg15 h15 arg16 h16 x0 x1 x2)]
  unfold kernelRun0_A
  dsimp only
  sl_unfold_words
  simp only [View.canon_unit_zero (S := S1x512x512) zero3, View.readAt_eq_ld, h1.read_unread, h2.read_unread, h3.read_unread,
    View.ld_unit_zero (S := S512x1024) zero2, View.ld_unit_zero (S := S1x1024) zero2]
  pointwise [k0_pay40, k0_pay6, dot_S512x1024_S1024x512_S512x512_1_0_0_1_n_n, rms_apply, col, sigm]

/-- Output `qit` at an index. -/
theorem out_qit (c : Dev nD) (i : grid0.Coords) (arg1 : Memref sig .tc .vmem S512x1024 .f32) (h1 : arg1.IsWhole) (arg2 : Memref sig .tc .vmem S1x1024 .f32) (h2 : arg2.IsWhole) (arg3 : Memref sig .tc .vmem S1024x5888 .bf16) (h3 : arg3.IsWhole) (arg4 : Memref sig .tc .vmem S512x512 .f32) (h4 : arg4.IsWhole) (arg5 : Memref sig .tc .vmem S512x512 .f32) (h5 : arg5.IsWhole) (arg6 : Memref sig .tc .vmem S512x1024 .f32) (h6 : arg6.IsWhole) (arg7 : Memref sig .tc .vmem S512x1024 .f32) (h7 : arg7.IsWhole) (arg8 : Memref sig .tc .vmem S1x512x512 .f32) (h8 : arg8.IsWhole) (arg9 : Memref sig .tc .vmem S1x512x512 .f32) (h9 : arg9.IsWhole) (arg10 : Memref sig .tc .vmem S1x64x512 .f32) (h10 : arg10.IsWhole) (arg11 : Memref sig .tc .vmem S512x512 .bf16) (h11 : arg11.IsWhole) (arg12 : Memref sig .tc .vmem S512x128 .bf16) (h12 : arg12.IsWhole) (arg13 : Memref sig .tc .vmem S1x2x4x144x256 .bf16) (h13 : arg13.IsWhole) (arg14 : Memref sig .tc .vmem S1x512x512 .bf16) (h14 : arg14.IsWhole) (arg15 : Memref sig .tc .vmem S1x512x512 .bf16) (h15 : arg15.IsWhole) (arg16 : Memref sig .tc .vmem S1x8x512 .f32) (h16 : arg16.IsWhole)
    (x0 : Vec Ideal S512x1024 .f32) (x1 : Vec Ideal S1x1024 .f32) (x2 : Vec Ideal S1024x5888 .bf16) (r : Fin 512) (l : Fin 512) :
    out0_A_14 c i arg1 h1 arg2 h2 arg3 h3 arg4 h4 arg5 h5 arg6 h6 arg7 h7 arg8 h8 arg9 h9 arg10 h10 arg11 h11 arg12 h12 arg13 h13 arg14 h14 arg15 h15 arg16 h16 x0 x1 x2 (ix3 0 l r) = col x0 x1 x2 r ⟨3072 + l.val, by omega⟩ * Ideal.ofBits FTy.f32 0x3E000000#32 := by
  unfold out0_A_14
  rw [View.read_writes_eq_canon _ _ _ (cover0_A_14 c i arg1 h1 arg2 h2 arg3 h3 arg4 h4 arg5 h5 arg6 h6 arg7 h7 arg8 h8 arg9 h9 arg10 h10 arg11 h11 arg12 h12 arg13 h13 arg14 h14 arg15 h15 arg16 h16 x0 x1 x2)]
  unfold kernelRun0_A
  dsimp only
  sl_unfold_words
  simp only [View.canon_unit_zero (S := S1x512x512) zero3, View.readAt_eq_ld, h1.read_unread, h2.read_unread, h3.read_unread,
    View.ld_unit_zero (S := S512x1024) zero2, View.ld_unit_zero (S := S1x1024) zero2]
  pointwise [k0_pay1, k0_pay41, k0_pay9, dot_S512x1024_S1024x512_S512x512_1_0_0_1_n_n, rms_apply, col, sigm]

/-- Output `wit` at an index. -/
theorem out_wit (c : Dev nD) (i : grid0.Coords) (arg1 : Memref sig .tc .vmem S512x1024 .f32) (h1 : arg1.IsWhole) (arg2 : Memref sig .tc .vmem S1x1024 .f32) (h2 : arg2.IsWhole) (arg3 : Memref sig .tc .vmem S1024x5888 .bf16) (h3 : arg3.IsWhole) (arg4 : Memref sig .tc .vmem S512x512 .f32) (h4 : arg4.IsWhole) (arg5 : Memref sig .tc .vmem S512x512 .f32) (h5 : arg5.IsWhole) (arg6 : Memref sig .tc .vmem S512x1024 .f32) (h6 : arg6.IsWhole) (arg7 : Memref sig .tc .vmem S512x1024 .f32) (h7 : arg7.IsWhole) (arg8 : Memref sig .tc .vmem S1x512x512 .f32) (h8 : arg8.IsWhole) (arg9 : Memref sig .tc .vmem S1x512x512 .f32) (h9 : arg9.IsWhole) (arg10 : Memref sig .tc .vmem S1x64x512 .f32) (h10 : arg10.IsWhole) (arg11 : Memref sig .tc .vmem S512x512 .bf16) (h11 : arg11.IsWhole) (arg12 : Memref sig .tc .vmem S512x128 .bf16) (h12 : arg12.IsWhole) (arg13 : Memref sig .tc .vmem S1x2x4x144x256 .bf16) (h13 : arg13.IsWhole) (arg14 : Memref sig .tc .vmem S1x512x512 .bf16) (h14 : arg14.IsWhole) (arg15 : Memref sig .tc .vmem S1x512x512 .bf16) (h15 : arg15.IsWhole) (arg16 : Memref sig .tc .vmem S1x8x512 .f32) (h16 : arg16.IsWhole)
    (x0 : Vec Ideal S512x1024 .f32) (x1 : Vec Ideal S1x1024 .f32) (x2 : Vec Ideal S1024x5888 .bf16) (r : Fin 512) (l : Fin 8) :
    out0_A_15 c i arg1 h1 arg2 h2 arg3 h3 arg4 h4 arg5 h5 arg6 h6 arg7 h7 arg8 h8 arg9 h9 arg10 h10 arg11 h11 arg12 h12 arg13 h13 arg14 h14 arg15 h15 arg16 h16 x0 x1 x2 (ix3 0 l r) = col x0 x1 x2 r ⟨3712 + l.val, by omega⟩ * Ideal.ofBits FTy.f32 0x3EB504F3#32 := by
  unfold out0_A_15
  rw [View.read_writes_eq_canon _ _ _ (cover0_A_15 c i arg1 h1 arg2 h2 arg3 h3 arg4 h4 arg5 h5 arg6 h6 arg7 h7 arg8 h8 arg9 h9 arg10 h10 arg11 h11 arg12 h12 arg13 h13 arg14 h14 arg15 h15 arg16 h16 x0 x1 x2)]
  unfold kernelRun0_A
  dsimp only
  sl_unfold_words
  simp only [View.canon_unit_zero (S := S1x8x512) zero3, View.readAt_eq_ld, h1.read_unread, h2.read_unread, h3.read_unread,
    View.ld_unit_zero (S := S512x1024) zero2, View.ld_unit_zero (S := S1x1024) zero2]
  pointwise [k0_pay2, k0_pay11, dot_S512x1024_S1024x128_S512x128_1_0_0_1_n_n, rms_apply, col, sigm]

end Cert.ProjIdeal.Hand

end
-- ==== Proof.ProjTiles.lean ====
/-
  What one grid point of the projection leaves in the doubled index keys and in the value tiles with their rows of ones.
-/
module

public import proofs.«01_k».proof.Proof.Gen.ProjIdeal.Value
public import Idealize.ShloMosaic.Lib.Pointwise
public import Idealize.ShloMosaic.Lib.Tactic
public import Idealize.ShloMosaic.Lib.VecWindow
public import Idealize.ShloMosaic.Lib.KernelVsHost
public import Idealize.ShloMosaic.Lib.Pipeline.ReadBack
public import proofs.«01_k».proof.Proof.ProjMath
public import proofs.«01_k».proof.Proof.ProjKernel

@[expose] public section

set_option maxRecDepth 16384

noncomputable section

open Idealize.ShloMosaic Idealize.ShloMosaic.TcCoe Idealize.SL.Sem
open Idealize.ShloMosaic.Pipeline (Dat)

namespace Cert.ProjIdeal.Hand

open Cert.ProjIdeal Cert.ProjIdeal.Gen Cert.LayerMath

/-- A rotation of 128 columns by 64, at an index. -/
theorem rot_apply (x : FVec Ideal S512x128 .f32) (r : Fin 512) (l : Fin 128) :
    dynamicRotate 1 64#32 none x rotates_S512x128_d1 (ix2 r l) = x (ix2 r ⟨(l.val + 64) % 128, by omega⟩) := by
  refine dynamicRotate_apply 1 64#32 x rotates_S512x128_d1 (ix2 r l) _ fun b => ?_
  match b with
  | ⟨0, _⟩ => rfl
  | ⟨1, _⟩ => show (l.val + 64) % 128 = (l.val + 128 - 64 % 128) % 128; omega

/-- The doubled index keys: the 128 columns holding the 64 keys and 64 padding columns, plus the same rotated by 64. -/
theorem out_kd (c : Dev nD) (i : grid0.Coords) (arg1 : Memref sig .tc .vmem S512x1024 .f32) (h1 : arg1.IsWhole) (arg2 : Memref sig .tc .vmem S1x1024 .f32) (h2 : arg2.IsWhole) (arg3 : Memref sig .tc .vmem S1024x5888 .bf16) (h3 : arg3.IsWhole) (arg4 : Memref sig .tc .vmem S512x512 .f32) (h4 : arg4.IsWhole) (arg5 : Memref sig .tc .vmem S512x512 .f32) (h5 : arg5.IsWhole) (arg6 : Memref sig .tc .vmem S512x1024 .f32) (h6 : arg6.IsWhole) (arg7 : Memref sig .tc .vmem S512x1024 .f32) (h7 : arg7.IsWhole) (arg8 : Memref sig .tc .vmem S1x512x512 .f32) (h8 : arg8.IsWhole) (arg9 : Memref sig .tc .vmem S1x512x512 .f32) (h9 : arg9.IsWhole) (arg10 : Memref sig .tc .vmem S1x64x512 .f32) (h10 : arg10.IsWhole) (arg11 : Memref sig .tc .vmem S512x512 .bf16) (h11 : arg11.IsWhole) (arg12 : Memref sig .tc .vmem S512x128 .bf16) (h12 : arg12.IsWhole) (arg13 : Memref sig .tc .vmem S1x2x4x144x256 .bf16) (h13 : arg13.IsWhole) (arg14 : Memref sig .tc .vmem S1x512x512 .bf16) (h14 : arg14.IsWhole) (arg15 : Memref sig .tc .vmem S1x512x512 .bf16) (h15 : arg15.IsWhole) (arg16 : Memref sig .tc .vmem S1x8x512 .f32) (h16 : arg16.IsWhole)
    (x0 : Vec Ideal S512x1024 .f32) (x1 : Vec Ideal S1x1024 .f32) (x2 : Vec Ideal S1024x5888 .bf16) (r : Fin 512) (l : Fin 128) :
    out0_A_11 c i arg1 h1 arg2 h2 arg3 h3 arg4 h4 arg5 h5 arg6 h6 arg7 h7 arg8 h8 arg9 h9 arg10 h10 arg11 h11 arg12 h12 arg13 h13 arg14 h14 arg15 h15 arg16 h16 x0 x1 x2 (ix2 r l) = col x0 x1 x2 r ⟨3584 + l.val, by omega⟩ + col x0 x1 x2 r ⟨3584 + (l.val + 64) % 128, by omega⟩ := by
  unfold out0_A_11
  rw [View.read_writes_eq_canon _ _ _ (cover0_A_11 c i arg1 h1 arg2 h2 arg3 h3 arg4 h4 arg5 h5 arg6 h6 arg7 h7 arg8 h8 arg9 h9 arg10 h10 arg11 h11 arg12 h12 arg13 h13 arg14 h14 arg15 h15 arg16 h16 x0 x1 x2)]
  unfold kernelRun0_A
  dsimp only
  sl_unfold_words
  simp only [View.canon_unit_zero (S := S512x128) zero2, View.readAt_eq_ld, h1.read_unread, h2.read_unread, h3.read_unread,
    View.ld_unit_zero (S := S512x1024) zero2, View.ld_unit_zero (S := S1x1024) zero2]
  have e' : (l.val + 128 - 64) % 128 = (l.val + 64) % 128 := by omega
  pointwise [k0_pay20, k0_pay10, rot_apply, dot_S512x1024_S1024x128_S512x128_1_0_0_1_n_n, rms_apply, col]
  simp only [e']

/-- The value tiles with their rows of ones: position `(j, p, d, s)` of the block. -/
def vbAt (v : S512x512.Idx → EReal) (j : Fin 2) (p : Fin 4) (d : Fin 144) (s : Fin 256) : EReal :=
  if h : d.val < 128 then v (ix2 ⟨256 * j.val + s.val, by omega⟩ ⟨128 * p.val + d.val, by omega⟩) else 1

/-- The same, at an index of the block. -/
def vb (v : S512x512.Idx → EReal) (y : S1x2x4x144x256.Idx) : EReal := vbAt v (y 1) (y 2) (y 3) (y 4)

/-- A store of one tile of values agrees with `vb`. -/
theorem tile (v : S512x512.Idx → EReal) (j p : Nat) (hj : j < 2) (hp : p < 4) (q : S1x1x1x128x256.Idx → EReal)
    (inb : ∀ a, (![0, j, p, 0, 0] : Fin 5 → Nat) a + S1x1x1x128x256.size a ≤ S1x2x4x144x256.size a)
    (hq : ∀ (d : Fin 128) (s : Fin 256), q (ix5 0 0 0 d s) = v (ix2 ⟨256 * j + s.val, by omega⟩ ⟨128 * p + d.val, by omega⟩)) :
    ∀ x : S1x1x1x128x256.Idx, q x = vb v ((Rect.unit (s := S1x2x4x144x256) ![0, j, p, 0, 0] S1x1x1x128x256.size inb).emb x) := fun x => by
  obtain ⟨a, b, c, d, s, rfl⟩ : ∃ (a : Fin 1) (b : Fin 1) (c : Fin 1) (d : Fin 128) (s : Fin 256), x = (ix5 a b c d s : S1x1x1x128x256.Idx) :=
    ⟨x 0, x 1, x 2, x 3, x 4, eq_ix5 x⟩
  obtain rfl : a = 0 := Subsingleton.elim _ _
  obtain rfl : b = 0 := Subsingleton.elim _ _
  obtain rfl : c = 0 := Subsingleton.elim _ _
  have e : (Rect.unit (s := S1x2x4x144x256) ![0, j, p, 0, 0] S1x1x1x128x256.size inb).emb (ix5 0 0 0 d s)
      = (ix5 0 ⟨j, hj⟩ ⟨p, hp⟩ ⟨d.val, by omega⟩ s : S1x2x4x144x256.Idx) := by
    funext a
    apply Fin.ext
    match a with
    | ⟨0, _⟩ => rfl
    | ⟨1, _⟩ => show j + 1 * 0 = j; omega
    | ⟨2, _⟩ => show p + 1 * 0 = p; omega
    | ⟨3, _⟩ => show 0 + 1 * d.val = d.val; omega
    | ⟨4, _⟩ => show 0 + 1 * s.val = s.val; omega
  rw [hq, e]
  show _ = vbAt v ⟨j, hj⟩ ⟨p, hp⟩ ⟨d.val, by omega⟩ s
  unfold vbAt
  rw [dif_pos (show d.val < 128 from d.isLt)]

/-- A store of ones agrees with `vb`. -/
theorem ones (v : S512x512.Idx → EReal) (j p : Nat) (hj : j < 2) (hp : p < 4) (q : S1x1x1x16x256.Idx → EReal)
    (inb : ∀ a, (![0, j, p, 128, 0] : Fin 5 → Nat) a + S1x1x1x16x256.size a ≤ S1x2x4x144x256.size a)
    (hq : ∀ (a b c : Fin 1) (d : Fin 16) (s : Fin 256), q (ix5 a b c d s) = 1) :
    ∀ x : S1x1x1x16x256.Idx, q x = vb v ((Rect.unit (s := S1x2x4x144x256) ![0, j, p, 128, 0] S1x1x1x16x256.size inb).emb x) := fun x => by
  obtain ⟨a, b, c, d, s, rfl⟩ : ∃ (a : Fin 1) (b : Fin 1) (c : Fin 1) (d : Fin 16) (s : Fin 256), x = (ix5 a b c d s : S1x1x1x16x256.Idx) :=
    ⟨x 0, x 1, x 2, x 3, x 4, eq_ix5 x⟩
  obtain rfl : a = 0 := Subsingleton.elim _ _
  obtain rfl : b = 0 := Subsingleton.elim _ _
  obtain rfl : c = 0 := Subsingleton.elim _ _
  have e : (Rect.unit (s := S1x2x4x144x256) ![0, j, p, 128, 0] S1x1x1x16x256.size inb).emb (ix5 0 0 0 d s)
      = (ix5 0 ⟨j, hj⟩ ⟨p, hp⟩ ⟨128 + d.val, by omega⟩ s : S1x2x4x144x256.Idx) := by
    funext a
    apply Fin.ext
    match a with
    | ⟨0, _⟩ => rfl
    | ⟨1, _⟩ => show j + 1 * 0 = j; omega
    | ⟨2, _⟩ => show p + 1 * 0 = p; omega
    | ⟨3, _⟩ => show 128 + 1 * d.val = 128 + d.val; omega
    | ⟨4, _⟩ => show 0 + 1 * s.val = s.val; omega
  rw [hq, e]
  show _ = vbAt v ⟨j, hj⟩ ⟨p, hp⟩ ⟨128 + d.val, by omega⟩ s
  unfold vbAt
  rw [dif_neg (show ¬128 + d.val < 128 by omega)]

set_option maxHeartbeats 4000000 in
/-- The value tiles, from the projected rows. -/
theorem out_vb (c : Dev nD) (i : grid0.Coords) (arg1 : Memref sig .tc .vmem S512x1024 .f32) (h1 : arg1.IsWhole) (arg2 : Memref sig .tc .vmem S1x1024 .f32) (h2 : arg2.IsWhole) (arg3 : Memref sig .tc .vmem S1024x5888 .bf16) (h3 : arg3.IsWhole) (arg4 : Memref sig .tc .vmem S512x512 .f32) (h4 : arg4.IsWhole) (arg5 : Memref sig .tc .vmem S512x512 .f32) (h5 : arg5.IsWhole) (arg6 : Memref sig .tc .vmem S512x1024 .f32) (h6 : arg6.IsWhole) (arg7 : Memref sig .tc .vmem S512x1024 .f32) (h7 : arg7.IsWhole) (arg8 : Memref sig .tc .vmem S1x512x512 .f32) (h8 : arg8.IsWhole) (arg9 : Memref sig .tc .vmem S1x512x512 .f32) (h9 : arg9.IsWhole) (arg10 : Memref sig .tc .vmem S1x64x512 .f32) (h10 : arg10.IsWhole) (arg11 : Memref sig .tc .vmem S512x512 .bf16) (h11 : arg11.IsWhole) (arg12 : Memref sig .tc .vmem S512x128 .bf16) (h12 : arg12.IsWhole) (arg13 : Memref sig .tc .vmem S1x2x4x144x256 .bf16) (h13 : arg13.IsWhole) (arg14 : Memref sig .tc .vmem S1x512x512 .bf16) (h14 : arg14.IsWhole) (arg15 : Memref sig .tc .vmem S1x512x512 .bf16) (h15 : arg15.IsWhole) (arg16 : Memref sig .tc .vmem S1x8x512 .f32) (h16 : arg16.IsWhole)
    (x0 : Vec Ideal S512x1024 .f32) (x1 : Vec Ideal S1x1024 .f32) (x2 : Vec Ideal S1024x5888 .bf16) (y : S1x2x4x144x256.Idx) :
    out0_A_12 c i arg1 h1 arg2 h2 arg3 h3 arg4 h4 arg5 h5 arg6 h6 arg7 h7 arg8 h8 arg9 h9 arg10 h10 arg11 h11 arg12 h12 arg13 h13 arg14 h14 arg15 h15 arg16 h16 x0 x1 x2 y
      = vb (fun z => col x0 x1 x2 (z 0) ⟨2560 + (z 1).val, by have h : (z 1).val < 512 := (z 1).isLt; omega⟩) y := by
  unfold out0_A_12
  rw [View.read_writes_eq_canon _ _ _ (cover0_A_12 c i arg1 h1 arg2 h2 arg3 h3 arg4 h4 arg5 h5 arg6 h6 arg7 h7 arg8 h8 arg9 h9 arg10 h10 arg11 h11 arg12 h12 arg13 h13 arg14 h14 arg15 h15 arg16 h16 x0 x1 x2)]
  have hc := cover0_A_12 c i arg1 h1 arg2 h2 arg3 h3 arg4 h4 arg5 h5 arg6 h6 arg7 h7 arg8 h8 arg9 h9 arg10 h10 arg11 h11 arg12 h12 arg13 h13 arg14 h14 arg15 h15 arg16 h16 x0 x1 x2 y
  revert hc
  unfold kernelRun0_A
  dsimp only
  sl_unfold_words
  simp only [View.readAt_eq_ld, h1.read_unread, h2.read_unread, h3.read_unread,
    View.ld_unit_zero (S := S512x1024) zero2, View.ld_unit_zero (S := S1x1024) zero2]
  intro hc
  refine View.canon_apply_of_pieces _ _ (View.PiecesOf.mem ?_) y hc
  refine ⟨?_, ?_, ?_, ?_, ?_, ?_, ?_, ?_, ?_, ?_, ?_, ?_, ?_, ?_, ?_, ?_, trivial⟩
  · refine ones _ _ _ (by omega) (by omega) _ (by decide) fun a b c d s => ?_
    pointwise [k0_pay39]
  · refine tile _ _ _ (by omega) (by omega) _ (by decide) fun d s => ?_
    pointwise [k0_pay38, k0_pay15, k0_pay8, dot_S512x1024_S1024x512_S512x512_1_0_0_1_n_n, rms_apply, col]
  · refine ones _ _ _ (by omega) (by omega) _ (by decide) fun a b c d s => ?_
    pointwise [k0_pay37]
  · refine tile _ _ _ (by omega) (by omega) _ (by decide) fun d s => ?_
    pointwise [k0_pay36, k0_pay15, k0_pay8, dot_S512x1024_S1024x512_S512x512_1_0_0_1_n_n, rms_apply, col]
  · refine ones _ _ _ (by omega) (by omega) _ (by decide) fun a b c d s => ?_
    pointwise [k0_pay35, k0_pay34]
  · refine tile _ _ _ (by omega) (by omega) _ (by decide) fun d s => ?_
    pointwise [k0_pay33, k0_pay15, k0_pay8, dot_S512x1024_S1024x512_S512x512_1_0_0_1_n_n, rms_apply, col]
  · refine ones _ _ _ (by omega) (by omega) _ (by decide) fun a b c d s => ?_
    pointwise [k0_pay32]
  · refine tile _ _ _ (by omega) (by omega) _ (by decide) fun d s => ?_
    pointwise [k0_pay31, k0_pay15, k0_pay8, dot_S512x1024_S1024x512_S512x512_1_0_0_1_n_n, rms_apply, col]
  · refine ones _ _ _ (by omega) (by omega) _ (by decide) fun a b c d s => ?_
    pointwise [k0_pay30]
  · refine tile _ _ _ (by omega) (by omega) _ (by decide) fun d s => ?_
    pointwise [k0_pay29, k0_pay28, k0_pay15, k0_pay8, dot_S512x1024_S1024x512_S512x512_1_0_0_1_n_n, rms_apply, col]
  · refine ones _ _ _ (by omega) (by omega) _ (by decide) fun a b c d s => ?_
    pointwise [k0_pay27]
  · refine tile _ _ _ (by omega) (by omega) _ (by decide) fun d s => ?_
    pointwise [k0_pay26, k0_pay15, k0_pay8, dot_S512x1024_S1024x512_S512x512_1_0_0_1_n_n, rms_apply, col]
  · refine ones _ _ _ (by omega) (by omega) _ (by decide) fun a b c d s => ?_
    pointwise [k0_pay25]
  · refine tile _ _ _ (by omega) (by omega) _ (by decide) fun d s => ?_
    pointwise [k0_pay24, k0_pay15, k0_pay8, dot_S512x1024_S1024x512_S512x512_1_0_0_1_n_n, rms_apply, col]
  · refine ones _ _ _ (by omega) (by omega) _ (by decide) fun a b c d s => ?_
    pointwise [k0_pay23]
  · refine tile _ _ _ (by omega) (by omega) _ (by decide) fun d s => ?_
    pointwise [k0_pay22, k0_pay21, k0_pay15, k0_pay8, dot_S512x1024_S1024x512_S512x512_1_0_0_1_n_n, rms_apply, col]

end Cert.ProjIdeal.Hand

end
-- ==== Proof.ProjValue.lean ====
/-
  The projection's result arrays, each named as a function of the three arguments, on the kernel's side and on the
  reference's.
-/
module

public import proofs.«01_k».proof.Proof.ProjKernel
public import proofs.«01_k».proof.Proof.ProjTiles
public import proofs.«01_k».proof.Proof.Gen.RefProjIdeal.Read
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)

namespace Cert.ProjIdeal.Hand

open Cert.ProjIdeal Cert.ProjIdeal.Gen Cert.LayerMath

variable (m : (ℓ : Loc nD τ sig) → Buf (Elt Ideal) ℓ) (ρ : Dev nD → PrngReg)
variable (h : S16384x1024.Idx → EReal) (g : S1024.Idx → EReal) (w : S1024x5704.Idx → EReal)

/-- Entry `q` of the projection of row `r`. -/
def pr (r : Fin 16384) (q : Fin 5704) : EReal := proj (fun k => h (ix2 r k)) (fun k => g (ix1 k)) (fun j q => w (ix2 j q)) q

/-! ## The results, as functions of the arguments -/

/-- Entry of result `z`. -/
def at_z (r : Fin 16384) (l : Fin 512) : EReal := pr h g w r ⟨1024 + l.val, by omega⟩ * pr h g w r ⟨l.val, by omega⟩
/-- Result `z`. -/
def res_z : S16384x512.Idx → EReal := fun i => at_z h g w (i 0) (i 1)

/-- Entry of result `bc`. -/
def at_bc (r : Fin 16384) (l : Fin 512) : EReal := pr h g w r ⟨512 + l.val, by omega⟩
/-- Result `bc`. -/
def res_bc : S16384x512.Idx → EReal := fun i => at_bc h g w (i 0) (i 1)

/-- Entry of result `sgc`. -/
def at_sgc (r : Fin 16384) (l : Fin 1024) : EReal := sigm (pr h g w r ⟨3656 + l.val, by omega⟩)
/-- Result `sgc`. -/
def res_sgc : S16384x1024.Idx → EReal := fun i => at_sgc h g w (i 0) (i 1)

/-- Entry of result `sga`. -/
def at_sga (r : Fin 16384) (l : Fin 1024) : EReal := sigm (pr h g w r ⟨4680 + l.val, by omega⟩)
/-- Result `sga`. -/
def res_sga : S16384x1024.Idx → EReal := fun i => at_sga h g w (i 0) (i 1)

/-- Entry of result `kt`. -/
def at_kt (b : Fin 2) (l : Fin 512) (s : Fin 8192) : EReal := pr h g w ⟨8192 * b.val + s.val, by omega⟩ ⟨2048 + l.val, by omega⟩
/-- Result `kt`. -/
def res_kt : S2x512x8192.Idx → EReal := fun i => at_kt h g w (i 0) (i 1) (i 2)

/-- Entry of result `vt`. -/
def at_vt (b : Fin 2) (l : Fin 512) (s : Fin 8192) : EReal := pr h g w ⟨8192 * b.val + s.val, by omega⟩ ⟨2560 + l.val, by omega⟩
/-- Result `vt`. -/
def res_vt : S2x512x8192.Idx → EReal := fun i => at_vt h g w (i 0) (i 1) (i 2)

/-- Entry of result `kit`. -/
def at_kit (b : Fin 2) (l : Fin 64) (s : Fin 8192) : EReal := pr h g w ⟨8192 * b.val + s.val, by omega⟩ ⟨3584 + l.val, by omega⟩
/-- Result `kit`. -/
def res_kit : S2x64x8192.Idx → EReal := fun i => at_kit h g w (i 0) (i 1) (i 2)

/-- Entry of result `kb`. -/
def at_kb (r : Fin 16384) (l : Fin 512) : EReal := pr h g w r ⟨2048 + l.val, by omega⟩
/-- Result `kb`. -/
def res_kb : S16384x512.Idx → EReal := fun i => at_kb h g w (i 0) (i 1)

/-- Entry of result `kd`. -/
def at_kd (r : Fin 16384) (l : Fin 128) : EReal := pr h g w r ⟨3584 + l.val % 64, by omega⟩
/-- Result `kd`. -/
def res_kd : S16384x128.Idx → EReal := fun i => at_kd h g w (i 0) (i 1)

/-- Entry of result `vb`. -/
def at_vb (b : Fin 2) (k : Fin 32) (p : Fin 4) (d : Fin 144) (s : Fin 256) : EReal := if hd : d.val < 128 then pr h g w ⟨8192 * b.val + 256 * k.val + s.val, by omega⟩ ⟨2560 + 128 * p.val + d.val, by omega⟩ else 1
/-- Result `vb`. -/
def res_vb : S2x32x4x144x256.Idx → EReal := fun i => at_vb h g w (i 0) (i 1) (i 2) (i 3) (i 4)

/-- Entry of result `qt`. -/
def at_qt (b : Fin 2) (l : Fin 512) (s : Fin 8192) : EReal := pr h g w ⟨8192 * b.val + s.val, by omega⟩ ⟨1536 + l.val, by omega⟩ * Ideal.ofBits FTy.f32 0x3E38AA3B#32
/-- Result `qt`. -/
def res_qt : S2x512x8192.Idx → EReal := fun i => at_qt h g w (i 0) (i 1) (i 2)

/-- Entry of result `qit`. -/
def at_qit (b : Fin 2) (l : Fin 512) (s : Fin 8192) : EReal := pr h g w ⟨8192 * b.val + s.val, by omega⟩ ⟨3072 + l.val, by omega⟩ * Ideal.ofBits FTy.f32 0x3E000000#32
/-- Result `qit`. -/
def res_qit : S2x512x8192.Idx → EReal := fun i => at_qit h g w (i 0) (i 1) (i 2)

/-- Entry of result `wit`. -/
def at_wit (b : Fin 2) (l : Fin 8) (s : Fin 8192) : EReal := pr h g w ⟨8192 * b.val + s.val, by omega⟩ ⟨3648 + l.val, by omega⟩ * Ideal.ofBits FTy.f32 0x3EB504F3#32
/-- Result `wit`. -/
def res_wit : S2x8x8192.Idx → EReal := fun i => at_wit h g w (i 0) (i 1) (i 2)

/-! ## What the kernel is handed -/

/-- The arranged weight matrix: the 64 index-key columns and the 8 head-weight columns each padded by zeros to 128. -/
def W : Vec Ideal S1024x5888 .bf16 :=
  truncf .bf16 (concatenate S1024x5888 1
    [⟨S1024x3584, (extractStridedSlice S1024x3584 ![0, 0] (w : Vec Ideal S1024x5704 .f32) slices_S1024x5704_S1024x3584_0_0 : FVec Ideal S1024x3584 .f32)⟩,
     ⟨S1024x128, pad S1024x128 ![0, 0] ![0, 64] ![0, 0] (extractStridedSlice S1024x64 ![0, 3584] (w : Vec Ideal S1024x5704 .f32) slices_S1024x5704_S1024x64_0_3584 : FVec Ideal S1024x64 .f32) (sitofp .f32 (constantI S_ 32 0#32) : FVec Ideal S_ .f32) pads_S1024x64_S1024x128_000_0640 h_S_⟩,
     ⟨S1024x128, pad S1024x128 ![0, 0] ![0, 120] ![0, 0] (extractStridedSlice S1024x8 ![0, 3648] (w : Vec Ideal S1024x5704 .f32) slices_S1024x5704_S1024x8_0_3648 : FVec Ideal S1024x8 .f32) (sitofp .f32 (constantI S_ 32 0#32) : FVec Ideal S_ .f32) pads_S1024x8_S1024x128_000_01200 h_S_⟩,
     ⟨S1024x2048, (extractStridedSlice S1024x2048 ![0, 3656] (w : Vec Ideal S1024x5704 .f32) slices_S1024x5704_S1024x2048_0_3656 : FVec Ideal S1024x2048 .f32)⟩]
    concatenates_S1024x3584_S1024x128_S1024x128_S1024x2048_S1024x5888_d1 : FVec Ideal S1024x5888 .f32) bitsLt_bf16_f32

theorem zero_int : (sitofp .f32 (constantI S_ 32 0#32) : FVec Ideal S_ .f32) = fun _ => (0 : EReal) := by
  funext i
  show ((((0#32 : BitVec 32).toInt : ℝ)) : EReal) = 0
  simp

/-- The index-key columns, padded: a column of `w`, or zero. -/
theorem pad_ki (v : FVec Ideal S_ .f32) (hv : v = fun _ => (0 : EReal)) (x : FVec Ideal S1024x64 .f32) (j : Fin 1024) (q : Fin 128) :
    pad S1024x128 ![0, 0] ![0, 64] ![0, 0] x v pads_S1024x64_S1024x128_000_0640 h_S_ (ix2 j q)
      = if hq : q.val < 64 then x (ix2 j ⟨q.val, hq⟩) else (0 : EReal) := by
  by_cases hq : q.val < 64
  · rw [dif_pos hq]
    refine pad_apply_of_inside _ _ _ x v _ _ _ _ fun a => ?_
    match a with
    | ⟨0, _⟩ => show j.val = 0 + j.val * (0 + 1); omega
    | ⟨1, _⟩ => show q.val = 0 + q.val * (0 + 1); omega
  · rw [dif_neg hq, pad_apply_of_not_inside _ _ _ x v _ _ _ 1, hv]
    rintro ⟨_, _, hc⟩
    have hc' : (q.val - 0) / (0 + 1) < 64 := hc
    omega

/-- The head-weight columns, padded: a column of `w`, or zero. -/
theorem pad_wi (v : FVec Ideal S_ .f32) (x : FVec Ideal S1024x8 .f32) (j : Fin 1024) (q : Fin 128) (hq : q.val < 8) :
    pad S1024x128 ![0, 0] ![0, 120] ![0, 0] x v pads_S1024x8_S1024x128_000_01200 h_S_ (ix2 j q) = x (ix2 j ⟨q.val, hq⟩) := by
  refine pad_apply_of_inside _ _ _ x v _ _ _ _ fun a => ?_
  match a with
  | ⟨0, _⟩ => show j.val = 0 + j.val * (0 + 1); omega
  | ⟨1, _⟩ => show q.val = 0 + q.val * (0 + 1); omega

/-- A column before the padding is the column of `w`. -/
theorem W_lo (j : Fin 1024) (q : Fin 5888) (hq : q.val < 3648) : W w (ix2 j q) = w (ix2 j ⟨q.val, by omega⟩) := by
  by_cases h1 : q.val < 3584
  · have e : W w (ix2 j q) = extractStridedSlice S1024x3584 ![0, 0] (w : Vec Ideal S1024x5704 .f32) slices_S1024x5704_S1024x3584_0_0 (ix2 j ⟨q.val, h1⟩) := by
      pointwise [W, h1]
    rw [e]
    pointwise
  · have e : W w (ix2 j q) = pad S1024x128 ![0, 0] ![0, 64] ![0, 0] (extractStridedSlice S1024x64 ![0, 3584] (w : Vec Ideal S1024x5704 .f32) slices_S1024x5704_S1024x64_0_3584 : FVec Ideal S1024x64 .f32) (sitofp .f32 (constantI S_ 32 0#32) : FVec Ideal S_ .f32) pads_S1024x64_S1024x128_000_0640 h_S_ (ix2 j ⟨q.val - 3584, by omega⟩) := by
      pointwise [W, h1, (show q.val - 3584 < 128 by omega)]
    rw [e, pad_ki _ zero_int, dif_pos (show q.val - 3584 < 64 by omega)]
    pointwise
    exact congrArg (fun a => w (ix2 j a)) (Fin.ext (show 3584 + (q.val - 3584) = q.val by omega))

/-- A padding column of the index keys is zero. -/
theorem W_pad (j : Fin 1024) (q : Fin 5888) (h1 : ¬q.val < 3648) (h2 : q.val < 3712) : W w (ix2 j q) = (0 : EReal) := by
  have e : W w (ix2 j q) = pad S1024x128 ![0, 0] ![0, 64] ![0, 0] (extractStridedSlice S1024x64 ![0, 3584] (w : Vec Ideal S1024x5704 .f32) slices_S1024x5704_S1024x64_0_3584 : FVec Ideal S1024x64 .f32) (sitofp .f32 (constantI S_ 32 0#32) : FVec Ideal S_ .f32) pads_S1024x64_S1024x128_000_0640 h_S_ (ix2 j ⟨q.val - 3584, by omega⟩) := by
    pointwise [W, (show ¬q.val < 3584 by omega), (show q.val - 3584 < 128 by omega)]
  rw [e, pad_ki _ zero_int, dif_neg (show ¬q.val - 3584 < 64 by omega)]

/-- The head-weight columns. -/
theorem W_wi (j : Fin 1024) (l : Fin 8) : W w (ix2 j ⟨3712 + l.val, by omega⟩) = w (ix2 j ⟨3648 + l.val, by omega⟩) := by
  have e : W w (ix2 j ⟨3712 + l.val, by omega⟩) = pad S1024x128 ![0, 0] ![0, 120] ![0, 0] (extractStridedSlice S1024x8 ![0, 3648] (w : Vec Ideal S1024x5704 .f32) slices_S1024x5704_S1024x8_0_3648 : FVec Ideal S1024x8 .f32) (sitofp .f32 (constantI S_ 32 0#32) : FVec Ideal S_ .f32) pads_S1024x8_S1024x128_000_01200 h_S_ (ix2 j ⟨l.val, by omega⟩) := by
    pointwise [W, (show ¬3712 + l.val < 3584 by omega), (show ¬3712 + l.val - 3584 < 128 by omega), (show 3712 + l.val - 3584 - 128 < 128 by omega), (show 3712 + l.val - 3584 - 128 = l.val by omega), (show l.val < 128 by omega)]
  rw [e, pad_wi _ _ _ _ (show l.val < 8 from l.isLt)]
  pointwise

/-- The gate columns. -/
theorem W_g (j : Fin 1024) (l : Fin 2048) : W w (ix2 j ⟨3840 + l.val, by omega⟩) = w (ix2 j ⟨3656 + l.val, by omega⟩) := by
  have e : W w (ix2 j ⟨3840 + l.val, by omega⟩) = extractStridedSlice S1024x2048 ![0, 3656] (w : Vec Ideal S1024x5704 .f32) slices_S1024x5704_S1024x2048_0_3656 (ix2 j l) := by
    pointwise [W, (show ¬3840 + l.val < 3584 by omega), (show ¬3840 + l.val - 3584 < 128 by omega), (show ¬3840 + l.val - 3584 - 128 < 128 by omega), (show 3840 + l.val - 3584 - 128 - 128 = l.val by omega)]
  rw [e]
  pointwise

theorem V_norm (c : Dev nD) : (V m c main_v0 : Vec Ideal S1x1024 .f32) = shapeCast S1x1024 (m ((c : Thread nD τ).loc main_arg1)) shapeCasts_S1024_S1x1024 := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.cons_append, List.nil_append, List.append_nil]
  after_results_simp; rfl
theorem V_w (c : Dev nD) : (V m c main_v8 : Vec Ideal S1024x5888 .bf16) = W (m ((c : Thread nD τ).loc main_arg2)) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.cons_append, List.nil_append, List.append_nil]
  after_results_simp; rfl

theorem idx_g : ∀ t : Fin cfg0.N, win0_1.index t 0 = 0 ∧ win0_1.index t 1 = 0 :=
  (by decide +kernel : ∀ t : Fin grid0.N, win0_1.index t 0 = 0 ∧ win0_1.index t 1 = 0)
theorem idx_w : ∀ t : Fin cfg0.N, win0_2.index t 0 = 0 ∧ win0_2.index t 1 = 0 :=
  (by decide +kernel : ∀ t : Fin grid0.N, win0_2.index t 0 = 0 ∧ win0_2.index t 1 = 0)
theorem idx_h : ∀ t : Fin cfg0.N, win0_0.index t 0 = t.val ∧ win0_0.index t 1 = 0 :=
  (by decide +kernel : ∀ t : Fin grid0.N, win0_0.index t 0 = t.val ∧ win0_0.index t 1 = 0)
theorem lt_pts (t : Fin cfg0.N) : t.val < 32 := by have h := t.isLt; have e : cfg0.N = 32 := N_0; omega

/-- Row `r` of the input block at point `t` is row `512 t + r` of the argument. -/
theorem iblk_h (c : Dev nD) (t : Fin cfg0.N) (r : Fin 512) (k : Fin 1024) :
    (iblk m c 0 t : Vec Ideal S512x1024 .f32) (ix2 r k)
      = m ((c : Thread nD τ).loc main_arg0) (ix2 ⟨512 * t.val + r.val, by have := lt_pts t; omega⟩ k : S16384x1024.Idx) := by
  unfold iblk
  rw [View.read_apply]
  show V m c main_arg0 _ = _
  rw [V_main_arg0]
  congr 1
  funext a
  apply Fin.ext
  match a with
  | ⟨0, _⟩ => show win0_0.index t 0 * 512 + 1 * r.val = 512 * t.val + r.val; rw [(idx_h t).1]; omega
  | ⟨1, _⟩ => show win0_0.index t 1 * 1024 + 1 * k.val = k.val; rw [(idx_h t).2]; omega

theorem iblk_g (c : Dev nD) (t : Fin cfg0.N) (k : Fin 1024) :
    (iblk m c 1 t : Vec Ideal S1x1024 .f32) (ix2 0 k) = m ((c : Thread nD τ).loc main_arg1) (ix1 k : S1024.Idx) := by
  unfold iblk
  rw [View.read_apply]
  show V m c main_v0 _ = _
  rw [V_norm]
  have e : ∀ y : Vec Ideal S1024 .f32, shapeCast S1x1024 y shapeCasts_S1024_S1x1024 (ix2 0 k) = y (ix1 k) := fun y => by pointwise
  rw [← e (m ((c : Thread nD τ).loc main_arg1))]
  congr 1
  funext a
  apply Fin.ext
  match a with
  | ⟨0, _⟩ => show win0_1.index t 0 * 1 + 1 * 0 = 0; rw [(idx_g t).1]
  | ⟨1, _⟩ => show win0_1.index t 1 * 1024 + 1 * k.val = k.val; rw [(idx_g t).2]; omega

theorem iblk_w (c : Dev nD) (t : Fin cfg0.N) (j : Fin 1024) (q : Fin 5888) :
    (iblk m c 2 t : Vec Ideal S1024x5888 .bf16) (ix2 j q) = W (m ((c : Thread nD τ).loc main_arg2)) (ix2 j q) := by
  unfold iblk
  rw [View.read_apply]
  show V m c main_v8 _ = _
  rw [V_w]
  congr 1
  funext a
  apply Fin.ext
  match a with
  | ⟨0, _⟩ => show win0_2.index t 0 * 1024 + 1 * j.val = j.val; rw [(idx_w t).1]; omega
  | ⟨1, _⟩ => show win0_2.index t 1 * 5888 + 1 * q.val = q.val; rw [(idx_w t).2]; omega

/-- A column of the arranged matrix that is column `q'` of `w`, against a row of the block at point `t`. -/
theorem col_eq (c : Dev nD) (t : Fin cfg0.N) (r : Fin 512) (q : Fin 5888) (q' : Fin 5704)
    (hq : ∀ w j, W w (ix2 j q) = w (ix2 j q')) :
    col (iblk m c 0 t) (iblk m c 1 t) (iblk m c 2 t) r q
      = pr (m ((c : Thread nD τ).loc main_arg0)) (m ((c : Thread nD τ).loc main_arg1)) (m ((c : Thread nD τ).loc main_arg2))
          ⟨512 * t.val + r.val, by have := lt_pts t; omega⟩ q' := by
  unfold col pr proj
  simp only [iblk_h, iblk_g, iblk_w, hq]

/-- A padding column gives zero. -/
theorem col_zero (c : Dev nD) (t : Fin cfg0.N) (r : Fin 512) (q : Fin 5888) (h1 : ¬q.val < 3648) (h2 : q.val < 3712) :
    col (iblk m c 0 t) (iblk m c 1 t) (iblk m c 2 t) r q = 0 := by
  unfold col
  simp only [iblk_w, W_pad _ _ q h1 h2, mul_zero, Finset.sum_const_zero]

/-! ## The result arrays -/

theorem idx_z : ∀ t : Fin cfg0.N, win0_3.index t 0 = t.val ∧ win0_3.index t 1 = 0 :=
  (by decide +kernel : ∀ t : Fin grid0.N, win0_3.index t 0 = t.val ∧ win0_3.index t 1 = 0)
/-- The array of result `z`. -/
def arr_z (c : Dev nD) : Buf (Elt Ideal) ((c : Thread nD τ).loc main_v9_0) := res_z (m ((c : Thread nD τ).loc main_arg0)) (m ((c : Thread nD τ).loc main_arg1)) (m ((c : Thread nD τ).loc main_arg2))
theorem flushed_z (c : Dev nD) (t : Fin cfg0.N) :
    (dats m 0 c).flushed 3 t = (win0_3.blk t).view.read (Elt Ideal) (arr_z m c) := by
  rw [Value.flushed3_A]
  funext y
  obtain ⟨r, l, rfl⟩ : ∃ (r : Fin 512) (l : Fin 512), y = (ix2 r l : S512x512.Idx) := ⟨y 0, y 1, eq_ix2 y⟩
  rw [View.read_apply]
  have e : ((win0_3.blk t).view.emb (ix2 r l : S512x512.Idx) : S16384x512.Idx) = ix2 ⟨512 * t.val + r.val, by have := lt_pts t; omega⟩ l := by
    funext a
    apply Fin.ext
    match a with
    | ⟨0, _⟩ => show win0_3.index t 0 * 512 + 1 * r.val = 512 * t.val + r.val; rw [(idx_z t).1]; omega
    | ⟨1, _⟩ => show win0_3.index t 1 * 512 + 1 * l.val = l.val; rw [(idx_z t).2]; omega
  show _ = arr_z m c ((win0_3.blk t).view.emb (ix2 r l : S512x512.Idx) : S16384x512.Idx)
  rw [e]
  refine (out_z c (grid0.coords t) _ _ _ _ _ _ _ _ _ _ _ _ _ _ _ _ _ _ _ _ _ _ _ _ _ _ _ _ _ _ _ _ _ _ _ r l).trans ?_
  rw [col_eq m c t r ⟨1024 + l.val, by omega⟩ ⟨1024 + l.val, by omega⟩ (fun w j => W_lo w j _ (by show 1024 + l.val < 3648; omega)), col_eq m c t r ⟨l.val, by omega⟩ ⟨l.val, by omega⟩ (fun w j => W_lo w j _ (by show l.val < 3648; omega))]
  rfl

theorem cover_z (i : S16384x512.Idx) : ∃ t : Fin cfg0.N, (cfg0.win 3).flush t = true ∧ i ∈ ((cfg0.win 3).blk t).view.set := by
  have h0 : (i 0 : Nat) < 16384 := (i 0).isLt
  have h1 : (i 1 : Nat) < 512 := (i 1).isLt
  have hN : cfg0.N = 32 := N_0
  refine ⟨⟨(i 0).val / 512, by rw [hN]; omega⟩, flush0_3 _, ?_⟩
  generalize ht : (⟨(i 0).val / 512, _⟩ : Fin cfg0.N) = t
  have hv : t.val = (i 0).val / 512 := by rw [← ht]
  show i ∈ ((View.whole main_v9_0).slice (win0_3.rect t)).set
  rw [View.set_slice_whole, Rect.mem_set_unit]
  intro a
  match a with
  | ⟨0, _⟩ => show win0_3.index t 0 * 512 ≤ (i 0 : Nat) ∧ (i 0 : Nat) < win0_3.index t 0 * 512 + 512; rw [(idx_z t).1]; omega
  | ⟨1, _⟩ => show win0_3.index t 1 * 512 ≤ (i 1 : Nat) ∧ (i 1 : Nat) < win0_3.index t 1 * 512 + 512; rw [(idx_z t).2]; omega
theorem final_z (c : Dev nD) : (dats m 0 c).arrAt 3 cfg0.N = arr_z m c :=
  (dats m 0 c).arrAt_eq_of_cover 3 (arr_z m c) (fun t _ => flushed_z m c t) cover_z

theorem idx_bc : ∀ t : Fin cfg0.N, win0_4.index t 0 = t.val ∧ win0_4.index t 1 = 0 :=
  (by decide +kernel : ∀ t : Fin grid0.N, win0_4.index t 0 = t.val ∧ win0_4.index t 1 = 0)
/-- The array of result `bc`. -/
def arr_bc (c : Dev nD) : Buf (Elt Ideal) ((c : Thread nD τ).loc main_v9_1) := res_bc (m ((c : Thread nD τ).loc main_arg0)) (m ((c : Thread nD τ).loc main_arg1)) (m ((c : Thread nD τ).loc main_arg2))
theorem flushed_bc (c : Dev nD) (t : Fin cfg0.N) :
    (dats m 0 c).flushed 4 t = (win0_4.blk t).view.read (Elt Ideal) (arr_bc m c) := by
  rw [Value.flushed4_A]
  funext y
  obtain ⟨r, l, rfl⟩ : ∃ (r : Fin 512) (l : Fin 512), y = (ix2 r l : S512x512.Idx) := ⟨y 0, y 1, eq_ix2 y⟩
  rw [View.read_apply]
  have e : ((win0_4.blk t).view.emb (ix2 r l : S512x512.Idx) : S16384x512.Idx) = ix2 ⟨512 * t.val + r.val, by have := lt_pts t; omega⟩ l := by
    funext a
    apply Fin.ext
    match a with
    | ⟨0, _⟩ => show win0_4.index t 0 * 512 + 1 * r.val = 512 * t.val + r.val; rw [(idx_bc t).1]; omega
    | ⟨1, _⟩ => show win0_4.index t 1 * 512 + 1 * l.val = l.val; rw [(idx_bc t).2]; omega
  show _ = arr_bc m c ((win0_4.blk t).view.emb (ix2 r l : S512x512.Idx) : S16384x512.Idx)
  rw [e]
  refine (out_bc c (grid0.coords t) _ _ _ _ _ _ _ _ _ _ _ _ _ _ _ _ _ _ _ _ _ _ _ _ _ _ _ _ _ _ _ _ _ _ _ r l).trans ?_
  rw [col_eq m c t r ⟨512 + l.val, by omega⟩ ⟨512 + l.val, by omega⟩ (fun w j => W_lo w j _ (by show 512 + l.val < 3648; omega))]
  rfl

theorem cover_bc (i : S16384x512.Idx) : ∃ t : Fin cfg0.N, (cfg0.win 4).flush t = true ∧ i ∈ ((cfg0.win 4).blk t).view.set := by
  have h0 : (i 0 : Nat) < 16384 := (i 0).isLt
  have h1 : (i 1 : Nat) < 512 := (i 1).isLt
  have hN : cfg0.N = 32 := N_0
  refine ⟨⟨(i 0).val / 512, by rw [hN]; omega⟩, flush0_4 _, ?_⟩
  generalize ht : (⟨(i 0).val / 512, _⟩ : Fin cfg0.N) = t
  have hv : t.val = (i 0).val / 512 := by rw [← ht]
  show i ∈ ((View.whole main_v9_1).slice (win0_4.rect t)).set
  rw [View.set_slice_whole, Rect.mem_set_unit]
  intro a
  match a with
  | ⟨0, _⟩ => show win0_4.index t 0 * 512 ≤ (i 0 : Nat) ∧ (i 0 : Nat) < win0_4.index t 0 * 512 + 512; rw [(idx_bc t).1]; omega
  | ⟨1, _⟩ => show win0_4.index t 1 * 512 ≤ (i 1 : Nat) ∧ (i 1 : Nat) < win0_4.index t 1 * 512 + 512; rw [(idx_bc t).2]; omega
theorem final_bc (c : Dev nD) : (dats m 0 c).arrAt 4 cfg0.N = arr_bc m c :=
  (dats m 0 c).arrAt_eq_of_cover 4 (arr_bc m c) (fun t _ => flushed_bc m c t) cover_bc

theorem idx_sgc : ∀ t : Fin cfg0.N, win0_5.index t 0 = t.val ∧ win0_5.index t 1 = 0 :=
  (by decide +kernel : ∀ t : Fin grid0.N, win0_5.index t 0 = t.val ∧ win0_5.index t 1 = 0)
/-- The array of result `sgc`. -/
def arr_sgc (c : Dev nD) : Buf (Elt Ideal) ((c : Thread nD τ).loc main_v9_2) := res_sgc (m ((c : Thread nD τ).loc main_arg0)) (m ((c : Thread nD τ).loc main_arg1)) (m ((c : Thread nD τ).loc main_arg2))
theorem flushed_sgc (c : Dev nD) (t : Fin cfg0.N) :
    (dats m 0 c).flushed 5 t = (win0_5.blk t).view.read (Elt Ideal) (arr_sgc m c) := by
  rw [Value.flushed5_A]
  funext y
  obtain ⟨r, l, rfl⟩ : ∃ (r : Fin 512) (l : Fin 1024), y = (ix2 r l : S512x1024.Idx) := ⟨y 0, y 1, eq_ix2 y⟩
  rw [View.read_apply]
  have e : ((win0_5.blk t).view.emb (ix2 r l : S512x1024.Idx) : S16384x1024.Idx) = ix2 ⟨512 * t.val + r.val, by have := lt_pts t; omega⟩ l := by
    funext a
    apply Fin.ext
    match a with
    | ⟨0, _⟩ => show win0_5.index t 0 * 512 + 1 * r.val = 512 * t.val + r.val; rw [(idx_sgc t).1]; omega
    | ⟨1, _⟩ => show win0_5.index t 1 * 1024 + 1 * l.val = l.val; rw [(idx_sgc t).2]; omega
  show _ = arr_sgc m c ((win0_5.blk t).view.emb (ix2 r l : S512x1024.Idx) : S16384x1024.Idx)
  rw [e]
  refine (out_sgc c (grid0.coords t) _ _ _ _ _ _ _ _ _ _ _ _ _ _ _ _ _ _ _ _ _ _ _ _ _ _ _ _ _ _ _ _ _ _ _ r l).trans ?_
  rw [col_eq m c t r ⟨3840 + l.val, by omega⟩ ⟨3656 + l.val, by omega⟩ (fun w j => W_g w j ⟨l.val, by omega⟩)]
  rfl

theorem cover_sgc (i : S16384x1024.Idx) : ∃ t : Fin cfg0.N, (cfg0.win 5).flush t = true ∧ i ∈ ((cfg0.win 5).blk t).view.set := by
  have h0 : (i 0 : Nat) < 16384 := (i 0).isLt
  have h1 : (i 1 : Nat) < 1024 := (i 1).isLt
  have hN : cfg0.N = 32 := N_0
  refine ⟨⟨(i 0).val / 512, by rw [hN]; omega⟩, flush0_5 _, ?_⟩
  generalize ht : (⟨(i 0).val / 512, _⟩ : Fin cfg0.N) = t
  have hv : t.val = (i 0).val / 512 := by rw [← ht]
  show i ∈ ((View.whole main_v9_2).slice (win0_5.rect t)).set
  rw [View.set_slice_whole, Rect.mem_set_unit]
  intro a
  match a with
  | ⟨0, _⟩ => show win0_5.index t 0 * 512 ≤ (i 0 : Nat) ∧ (i 0 : Nat) < win0_5.index t 0 * 512 + 512; rw [(idx_sgc t).1]; omega
  | ⟨1, _⟩ => show win0_5.index t 1 * 1024 ≤ (i 1 : Nat) ∧ (i 1 : Nat) < win0_5.index t 1 * 1024 + 1024; rw [(idx_sgc t).2]; omega
theorem final_sgc (c : Dev nD) : (dats m 0 c).arrAt 5 cfg0.N = arr_sgc m c :=
  (dats m 0 c).arrAt_eq_of_cover 5 (arr_sgc m c) (fun t _ => flushed_sgc m c t) cover_sgc

theorem idx_sga : ∀ t : Fin cfg0.N, win0_6.index t 0 = t.val ∧ win0_6.index t 1 = 0 :=
  (by decide +kernel : ∀ t : Fin grid0.N, win0_6.index t 0 = t.val ∧ win0_6.index t 1 = 0)
/-- The array of result `sga`. -/
def arr_sga (c : Dev nD) : Buf (Elt Ideal) ((c : Thread nD τ).loc main_v9_3) := res_sga (m ((c : Thread nD τ).loc main_arg0)) (m ((c : Thread nD τ).loc main_arg1)) (m ((c : Thread nD τ).loc main_arg2))
theorem flushed_sga (c : Dev nD) (t : Fin cfg0.N) :
    (dats m 0 c).flushed 6 t = (win0_6.blk t).view.read (Elt Ideal) (arr_sga m c) := by
  rw [Value.flushed6_A]
  funext y
  obtain ⟨r, l, rfl⟩ : ∃ (r : Fin 512) (l : Fin 1024), y = (ix2 r l : S512x1024.Idx) := ⟨y 0, y 1, eq_ix2 y⟩
  rw [View.read_apply]
  have e : ((win0_6.blk t).view.emb (ix2 r l : S512x1024.Idx) : S16384x1024.Idx) = ix2 ⟨512 * t.val + r.val, by have := lt_pts t; omega⟩ l := by
    funext a
    apply Fin.ext
    match a with
    | ⟨0, _⟩ => show win0_6.index t 0 * 512 + 1 * r.val = 512 * t.val + r.val; rw [(idx_sga t).1]; omega
    | ⟨1, _⟩ => show win0_6.index t 1 * 1024 + 1 * l.val = l.val; rw [(idx_sga t).2]; omega
  show _ = arr_sga m c ((win0_6.blk t).view.emb (ix2 r l : S512x1024.Idx) : S16384x1024.Idx)
  rw [e]
  refine (out_sga c (grid0.coords t) _ _ _ _ _ _ _ _ _ _ _ _ _ _ _ _ _ _ _ _ _ _ _ _ _ _ _ _ _ _ _ _ _ _ _ r l).trans ?_
  rw [col_eq m c t r ⟨4864 + l.val, by omega⟩ ⟨4680 + l.val, by omega⟩ (fun w j => (congrArg (fun a => W w (ix2 j a)) (Fin.ext (show 4864 + l.val = 3840 + (1024 + l.val) by omega))).trans ((W_g w j ⟨1024 + l.val, by omega⟩).trans (congrArg (fun a => w (ix2 j a)) (Fin.ext (show 3656 + (1024 + l.val) = 4680 + l.val by omega)))))]
  rfl

theorem cover_sga (i : S16384x1024.Idx) : ∃ t : Fin cfg0.N, (cfg0.win 6).flush t = true ∧ i ∈ ((cfg0.win 6).blk t).view.set := by
  have h0 : (i 0 : Nat) < 16384 := (i 0).isLt
  have h1 : (i 1 : Nat) < 1024 := (i 1).isLt
  have hN : cfg0.N = 32 := N_0
  refine ⟨⟨(i 0).val / 512, by rw [hN]; omega⟩, flush0_6 _, ?_⟩
  generalize ht : (⟨(i 0).val / 512, _⟩ : Fin cfg0.N) = t
  have hv : t.val = (i 0).val / 512 := by rw [← ht]
  show i ∈ ((View.whole main_v9_3).slice (win0_6.rect t)).set
  rw [View.set_slice_whole, Rect.mem_set_unit]
  intro a
  match a with
  | ⟨0, _⟩ => show win0_6.index t 0 * 512 ≤ (i 0 : Nat) ∧ (i 0 : Nat) < win0_6.index t 0 * 512 + 512; rw [(idx_sga t).1]; omega
  | ⟨1, _⟩ => show win0_6.index t 1 * 1024 ≤ (i 1 : Nat) ∧ (i 1 : Nat) < win0_6.index t 1 * 1024 + 1024; rw [(idx_sga t).2]; omega
theorem final_sga (c : Dev nD) : (dats m 0 c).arrAt 6 cfg0.N = arr_sga m c :=
  (dats m 0 c).arrAt_eq_of_cover 6 (arr_sga m c) (fun t _ => flushed_sga m c t) cover_sga

theorem idx_kt : ∀ t : Fin cfg0.N, win0_7.index t 0 = t.val / 16 ∧ win0_7.index t 1 = 0 ∧ win0_7.index t 2 = t.val % 16 :=
  (by decide +kernel : ∀ t : Fin grid0.N, win0_7.index t 0 = t.val / 16 ∧ win0_7.index t 1 = 0 ∧ win0_7.index t 2 = t.val % 16)
/-- The array of result `kt`. -/
def arr_kt (c : Dev nD) : Buf (Elt Ideal) ((c : Thread nD τ).loc main_v9_4) := res_kt (m ((c : Thread nD τ).loc main_arg0)) (m ((c : Thread nD τ).loc main_arg1)) (m ((c : Thread nD τ).loc main_arg2))
theorem flushed_kt (c : Dev nD) (t : Fin cfg0.N) :
    (dats m 0 c).flushed 7 t = (win0_7.blk t).view.read (Elt Ideal) (arr_kt m c) := by
  rw [Value.flushed7_A]
  funext y
  obtain ⟨u, l, s, rfl⟩ : ∃ (u : Fin 1) (l : Fin 512) (s : Fin 512), y = (ix3 u l s : S1x512x512.Idx) := ⟨y 0, y 1, y 2, eq_ix3 y⟩
  rw [View.read_apply]
  have e : ((win0_7.blk t).view.emb (ix3 u l s : S1x512x512.Idx) : S2x512x8192.Idx) = ix3 ⟨1 * (t.val / 16) + u.val, by have := lt_pts t; omega⟩ l ⟨512 * (t.val % 16) + s.val, by have := lt_pts t; omega⟩ := by
    funext a
    apply Fin.ext
    match a with
    | ⟨0, _⟩ => show win0_7.index t 0 * 1 + 1 * u.val = 1 * (t.val / 16) + u.val; rw [(idx_kt t).1]; omega
    | ⟨1, _⟩ => show win0_7.index t 1 * 512 + 1 * l.val = l.val; rw [(idx_kt t).2.1]; omega
    | ⟨2, _⟩ => show win0_7.index t 2 * 512 + 1 * s.val = 512 * (t.val % 16) + s.val; rw [(idx_kt t).2.2]; omega
  show _ = arr_kt m c ((win0_7.blk t).view.emb (ix3 u l s : S1x512x512.Idx) : S2x512x8192.Idx)
  rw [e]
  obtain rfl : u = 0 := Subsingleton.elim _ _
  refine (out_kt c (grid0.coords t) _ _ _ _ _ _ _ _ _ _ _ _ _ _ _ _ _ _ _ _ _ _ _ _ _ _ _ _ _ _ _ _ _ _ _ s l).trans ?_
  rw [col_eq m c t s ⟨2048 + l.val, by omega⟩ ⟨2048 + l.val, by omega⟩ (fun w j => W_lo w j _ (by show 2048 + l.val < 3648; omega))]
  exact congrArg (fun a : Fin 16384 => pr (m ((c : Thread nD τ).loc main_arg0)) (m ((c : Thread nD τ).loc main_arg1)) (m ((c : Thread nD τ).loc main_arg2)) a ⟨2048 + l.val, by omega⟩) (Fin.ext (show 512 * t.val + s.val = 8192 * (1 * (t.val / 16) + 0) + (512 * (t.val % 16) + s.val) by omega))

theorem cover_kt (i : S2x512x8192.Idx) : ∃ t : Fin cfg0.N, (cfg0.win 7).flush t = true ∧ i ∈ ((cfg0.win 7).blk t).view.set := by
  have h0 : (i 0 : Nat) < 2 := (i 0).isLt
  have h1 : (i 1 : Nat) < 512 := (i 1).isLt
  have h2 : (i 2 : Nat) < 8192 := (i 2).isLt
  have hN : cfg0.N = 32 := N_0
  refine ⟨⟨16 * (i 0).val + (i 2).val / 512, by rw [hN]; omega⟩, flush0_7 _, ?_⟩
  generalize ht : (⟨16 * (i 0).val + (i 2).val / 512, _⟩ : Fin cfg0.N) = t
  have hv : t.val = 16 * (i 0).val + (i 2).val / 512 := by rw [← ht]
  show i ∈ ((View.whole main_v9_4).slice (win0_7.rect t)).set
  rw [View.set_slice_whole, Rect.mem_set_unit]
  intro a
  match a with
  | ⟨0, _⟩ => show win0_7.index t 0 * 1 ≤ (i 0 : Nat) ∧ (i 0 : Nat) < win0_7.index t 0 * 1 + 1; rw [(idx_kt t).1]; omega
  | ⟨1, _⟩ => show win0_7.index t 1 * 512 ≤ (i 1 : Nat) ∧ (i 1 : Nat) < win0_7.index t 1 * 512 + 512; rw [(idx_kt t).2.1]; omega
  | ⟨2, _⟩ => show win0_7.index t 2 * 512 ≤ (i 2 : Nat) ∧ (i 2 : Nat) < win0_7.index t 2 * 512 + 512; rw [(idx_kt t).2.2]; omega
theorem final_kt (c : Dev nD) : (dats m 0 c).arrAt 7 cfg0.N = arr_kt m c :=
  (dats m 0 c).arrAt_eq_of_cover 7 (arr_kt m c) (fun t _ => flushed_kt m c t) cover_kt

theorem idx_vt : ∀ t : Fin cfg0.N, win0_8.index t 0 = t.val / 16 ∧ win0_8.index t 1 = 0 ∧ win0_8.index t 2 = t.val % 16 :=
  (by decide +kernel : ∀ t : Fin grid0.N, win0_8.index t 0 = t.val / 16 ∧ win0_8.index t 1 = 0 ∧ win0_8.index t 2 = t.val % 16)
/-- The array of result `vt`. -/
def arr_vt (c : Dev nD) : Buf (Elt Ideal) ((c : Thread nD τ).loc main_v9_5) := res_vt (m ((c : Thread nD τ).loc main_arg0)) (m ((c : Thread nD τ).loc main_arg1)) (m ((c : Thread nD τ).loc main_arg2))
theorem flushed_vt (c : Dev nD) (t : Fin cfg0.N) :
    (dats m 0 c).flushed 8 t = (win0_8.blk t).view.read (Elt Ideal) (arr_vt m c) := by
  rw [Value.flushed8_A]
  funext y
  obtain ⟨u, l, s, rfl⟩ : ∃ (u : Fin 1) (l : Fin 512) (s : Fin 512), y = (ix3 u l s : S1x512x512.Idx) := ⟨y 0, y 1, y 2, eq_ix3 y⟩
  rw [View.read_apply]
  have e : ((win0_8.blk t).view.emb (ix3 u l s : S1x512x512.Idx) : S2x512x8192.Idx) = ix3 ⟨1 * (t.val / 16) + u.val, by have := lt_pts t; omega⟩ l ⟨512 * (t.val % 16) + s.val, by have := lt_pts t; omega⟩ := by
    funext a
    apply Fin.ext
    match a with
    | ⟨0, _⟩ => show win0_8.index t 0 * 1 + 1 * u.val = 1 * (t.val / 16) + u.val; rw [(idx_vt t).1]; omega
    | ⟨1, _⟩ => show win0_8.index t 1 * 512 + 1 * l.val = l.val; rw [(idx_vt t).2.1]; omega
    | ⟨2, _⟩ => show win0_8.index t 2 * 512 + 1 * s.val = 512 * (t.val % 16) + s.val; rw [(idx_vt t).2.2]; omega
  show _ = arr_vt m c ((win0_8.blk t).view.emb (ix3 u l s : S1x512x512.Idx) : S2x512x8192.Idx)
  rw [e]
  obtain rfl : u = 0 := Subsingleton.elim _ _
  refine (out_vt c (grid0.coords t) _ _ _ _ _ _ _ _ _ _ _ _ _ _ _ _ _ _ _ _ _ _ _ _ _ _ _ _ _ _ _ _ _ _ _ s l).trans ?_
  rw [col_eq m c t s ⟨2560 + l.val, by omega⟩ ⟨2560 + l.val, by omega⟩ (fun w j => W_lo w j _ (by show 2560 + l.val < 3648; omega))]
  exact congrArg (fun a : Fin 16384 => pr (m ((c : Thread nD τ).loc main_arg0)) (m ((c : Thread nD τ).loc main_arg1)) (m ((c : Thread nD τ).loc main_arg2)) a ⟨2560 + l.val, by omega⟩) (Fin.ext (show 512 * t.val + s.val = 8192 * (1 * (t.val / 16) + 0) + (512 * (t.val % 16) + s.val) by omega))

theorem cover_vt (i : S2x512x8192.Idx) : ∃ t : Fin cfg0.N, (cfg0.win 8).flush t = true ∧ i ∈ ((cfg0.win 8).blk t).view.set := by
  have h0 : (i 0 : Nat) < 2 := (i 0).isLt
  have h1 : (i 1 : Nat) < 512 := (i 1).isLt
  have h2 : (i 2 : Nat) < 8192 := (i 2).isLt
  have hN : cfg0.N = 32 := N_0
  refine ⟨⟨16 * (i 0).val + (i 2).val / 512, by rw [hN]; omega⟩, flush0_8 _, ?_⟩
  generalize ht : (⟨16 * (i 0).val + (i 2).val / 512, _⟩ : Fin cfg0.N) = t
  have hv : t.val = 16 * (i 0).val + (i 2).val / 512 := by rw [← ht]
  show i ∈ ((View.whole main_v9_5).slice (win0_8.rect t)).set
  rw [View.set_slice_whole, Rect.mem_set_unit]
  intro a
  match a with
  | ⟨0, _⟩ => show win0_8.index t 0 * 1 ≤ (i 0 : Nat) ∧ (i 0 : Nat) < win0_8.index t 0 * 1 + 1; rw [(idx_vt t).1]; omega
  | ⟨1, _⟩ => show win0_8.index t 1 * 512 ≤ (i 1 : Nat) ∧ (i 1 : Nat) < win0_8.index t 1 * 512 + 512; rw [(idx_vt t).2.1]; omega
  | ⟨2, _⟩ => show win0_8.index t 2 * 512 ≤ (i 2 : Nat) ∧ (i 2 : Nat) < win0_8.index t 2 * 512 + 512; rw [(idx_vt t).2.2]; omega
theorem final_vt (c : Dev nD) : (dats m 0 c).arrAt 8 cfg0.N = arr_vt m c :=
  (dats m 0 c).arrAt_eq_of_cover 8 (arr_vt m c) (fun t _ => flushed_vt m c t) cover_vt

theorem idx_kit : ∀ t : Fin cfg0.N, win0_9.index t 0 = t.val / 16 ∧ win0_9.index t 1 = 0 ∧ win0_9.index t 2 = t.val % 16 :=
  (by decide +kernel : ∀ t : Fin grid0.N, win0_9.index t 0 = t.val / 16 ∧ win0_9.index t 1 = 0 ∧ win0_9.index t 2 = t.val % 16)
/-- The array of result `kit`. -/
def arr_kit (c : Dev nD) : Buf (Elt Ideal) ((c : Thread nD τ).loc main_v9_6) := res_kit (m ((c : Thread nD τ).loc main_arg0)) (m ((c : Thread nD τ).loc main_arg1)) (m ((c : Thread nD τ).loc main_arg2))
theorem flushed_kit (c : Dev nD) (t : Fin cfg0.N) :
    (dats m 0 c).flushed 9 t = (win0_9.blk t).view.read (Elt Ideal) (arr_kit m c) := by
  rw [Value.flushed9_A]
  funext y
  obtain ⟨u, l, s, rfl⟩ : ∃ (u : Fin 1) (l : Fin 64) (s : Fin 512), y = (ix3 u l s : S1x64x512.Idx) := ⟨y 0, y 1, y 2, eq_ix3 y⟩
  rw [View.read_apply]
  have e : ((win0_9.blk t).view.emb (ix3 u l s : S1x64x512.Idx) : S2x64x8192.Idx) = ix3 ⟨1 * (t.val / 16) + u.val, by have := lt_pts t; omega⟩ l ⟨512 * (t.val % 16) + s.val, by have := lt_pts t; omega⟩ := by
    funext a
    apply Fin.ext
    match a with
    | ⟨0, _⟩ => show win0_9.index t 0 * 1 + 1 * u.val = 1 * (t.val / 16) + u.val; rw [(idx_kit t).1]; omega
    | ⟨1, _⟩ => show win0_9.index t 1 * 64 + 1 * l.val = l.val; rw [(idx_kit t).2.1]; omega
    | ⟨2, _⟩ => show win0_9.index t 2 * 512 + 1 * s.val = 512 * (t.val % 16) + s.val; rw [(idx_kit t).2.2]; omega
  show _ = arr_kit m c ((win0_9.blk t).view.emb (ix3 u l s : S1x64x512.Idx) : S2x64x8192.Idx)
  rw [e]
  obtain rfl : u = 0 := Subsingleton.elim _ _
  refine (out_kit c (grid0.coords t) _ _ _ _ _ _ _ _ _ _ _ _ _ _ _ _ _ _ _ _ _ _ _ _ _ _ _ _ _ _ _ _ _ _ _ s l).trans ?_
  rw [col_eq m c t s ⟨3584 + l.val, by omega⟩ ⟨3584 + l.val, by omega⟩ (fun w j => W_lo w j _ (by show 3584 + l.val < 3648; omega))]
  exact congrArg (fun a : Fin 16384 => pr (m ((c : Thread nD τ).loc main_arg0)) (m ((c : Thread nD τ).loc main_arg1)) (m ((c : Thread nD τ).loc main_arg2)) a ⟨3584 + l.val, by omega⟩) (Fin.ext (show 512 * t.val + s.val = 8192 * (1 * (t.val / 16) + 0) + (512 * (t.val % 16) + s.val) by omega))

theorem cover_kit (i : S2x64x8192.Idx) : ∃ t : Fin cfg0.N, (cfg0.win 9).flush t = true ∧ i ∈ ((cfg0.win 9).blk t).view.set := by
  have h0 : (i 0 : Nat) < 2 := (i 0).isLt
  have h1 : (i 1 : Nat) < 64 := (i 1).isLt
  have h2 : (i 2 : Nat) < 8192 := (i 2).isLt
  have hN : cfg0.N = 32 := N_0
  refine ⟨⟨16 * (i 0).val + (i 2).val / 512, by rw [hN]; omega⟩, flush0_9 _, ?_⟩
  generalize ht : (⟨16 * (i 0).val + (i 2).val / 512, _⟩ : Fin cfg0.N) = t
  have hv : t.val = 16 * (i 0).val + (i 2).val / 512 := by rw [← ht]
  show i ∈ ((View.whole main_v9_6).slice (win0_9.rect t)).set
  rw [View.set_slice_whole, Rect.mem_set_unit]
  intro a
  match a with
  | ⟨0, _⟩ => show win0_9.index t 0 * 1 ≤ (i 0 : Nat) ∧ (i 0 : Nat) < win0_9.index t 0 * 1 + 1; rw [(idx_kit t).1]; omega
  | ⟨1, _⟩ => show win0_9.index t 1 * 64 ≤ (i 1 : Nat) ∧ (i 1 : Nat) < win0_9.index t 1 * 64 + 64; rw [(idx_kit t).2.1]; omega
  | ⟨2, _⟩ => show win0_9.index t 2 * 512 ≤ (i 2 : Nat) ∧ (i 2 : Nat) < win0_9.index t 2 * 512 + 512; rw [(idx_kit t).2.2]; omega
theorem final_kit (c : Dev nD) : (dats m 0 c).arrAt 9 cfg0.N = arr_kit m c :=
  (dats m 0 c).arrAt_eq_of_cover 9 (arr_kit m c) (fun t _ => flushed_kit m c t) cover_kit

theorem idx_kb : ∀ t : Fin cfg0.N, win0_10.index t 0 = t.val ∧ win0_10.index t 1 = 0 :=
  (by decide +kernel : ∀ t : Fin grid0.N, win0_10.index t 0 = t.val ∧ win0_10.index t 1 = 0)
/-- The array of result `kb`. -/
def arr_kb (c : Dev nD) : Buf (Elt Ideal) ((c : Thread nD τ).loc main_v9_7) := res_kb (m ((c : Thread nD τ).loc main_arg0)) (m ((c : Thread nD τ).loc main_arg1)) (m ((c : Thread nD τ).loc main_arg2))
theorem flushed_kb (c : Dev nD) (t : Fin cfg0.N) :
    (dats m 0 c).flushed 10 t = (win0_10.blk t).view.read (Elt Ideal) (arr_kb m c) := by
  rw [Value.flushed10_A]
  funext y
  obtain ⟨r, l, rfl⟩ : ∃ (r : Fin 512) (l : Fin 512), y = (ix2 r l : S512x512.Idx) := ⟨y 0, y 1, eq_ix2 y⟩
  rw [View.read_apply]
  have e : ((win0_10.blk t).view.emb (ix2 r l : S512x512.Idx) : S16384x512.Idx) = ix2 ⟨512 * t.val + r.val, by have := lt_pts t; omega⟩ l := by
    funext a
    apply Fin.ext
    match a with
    | ⟨0, _⟩ => show win0_10.index t 0 * 512 + 1 * r.val = 512 * t.val + r.val; rw [(idx_kb t).1]; omega
    | ⟨1, _⟩ => show win0_10.index t 1 * 512 + 1 * l.val = l.val; rw [(idx_kb t).2]; omega
  show _ = arr_kb m c ((win0_10.blk t).view.emb (ix2 r l : S512x512.Idx) : S16384x512.Idx)
  rw [e]
  refine (out_kb c (grid0.coords t) _ _ _ _ _ _ _ _ _ _ _ _ _ _ _ _ _ _ _ _ _ _ _ _ _ _ _ _ _ _ _ _ _ _ _ r l).trans ?_
  rw [col_eq m c t r ⟨2048 + l.val, by omega⟩ ⟨2048 + l.val, by omega⟩ (fun w j => W_lo w j _ (by show 2048 + l.val < 3648; omega))]
  rfl

theorem cover_kb (i : S16384x512.Idx) : ∃ t : Fin cfg0.N, (cfg0.win 10).flush t = true ∧ i ∈ ((cfg0.win 10).blk t).view.set := by
  have h0 : (i 0 : Nat) < 16384 := (i 0).isLt
  have h1 : (i 1 : Nat) < 512 := (i 1).isLt
  have hN : cfg0.N = 32 := N_0
  refine ⟨⟨(i 0).val / 512, by rw [hN]; omega⟩, flush0_10 _, ?_⟩
  generalize ht : (⟨(i 0).val / 512, _⟩ : Fin cfg0.N) = t
  have hv : t.val = (i 0).val / 512 := by rw [← ht]
  show i ∈ ((View.whole main_v9_7).slice (win0_10.rect t)).set
  rw [View.set_slice_whole, Rect.mem_set_unit]
  intro a
  match a with
  | ⟨0, _⟩ => show win0_10.index t 0 * 512 ≤ (i 0 : Nat) ∧ (i 0 : Nat) < win0_10.index t 0 * 512 + 512; rw [(idx_kb t).1]; omega
  | ⟨1, _⟩ => show win0_10.index t 1 * 512 ≤ (i 1 : Nat) ∧ (i 1 : Nat) < win0_10.index t 1 * 512 + 512; rw [(idx_kb t).2]; omega
theorem final_kb (c : Dev nD) : (dats m 0 c).arrAt 10 cfg0.N = arr_kb m c :=
  (dats m 0 c).arrAt_eq_of_cover 10 (arr_kb m c) (fun t _ => flushed_kb m c t) cover_kb

theorem idx_kd : ∀ t : Fin cfg0.N, win0_11.index t 0 = t.val ∧ win0_11.index t 1 = 0 :=
  (by decide +kernel : ∀ t : Fin grid0.N, win0_11.index t 0 = t.val ∧ win0_11.index t 1 = 0)
/-- The array of result `kd`. -/
def arr_kd (c : Dev nD) : Buf (Elt Ideal) ((c : Thread nD τ).loc main_v9_8) := res_kd (m ((c : Thread nD τ).loc main_arg0)) (m ((c : Thread nD τ).loc main_arg1)) (m ((c : Thread nD τ).loc main_arg2))
theorem flushed_kd (c : Dev nD) (t : Fin cfg0.N) :
    (dats m 0 c).flushed 11 t = (win0_11.blk t).view.read (Elt Ideal) (arr_kd m c) := by
  rw [Value.flushed11_A]
  funext y
  obtain ⟨r, l, rfl⟩ : ∃ (r : Fin 512) (l : Fin 128), y = (ix2 r l : S512x128.Idx) := ⟨y 0, y 1, eq_ix2 y⟩
  rw [View.read_apply]
  have e : ((win0_11.blk t).view.emb (ix2 r l : S512x128.Idx) : S16384x128.Idx) = ix2 ⟨512 * t.val + r.val, by have := lt_pts t; omega⟩ l := by
    funext a
    apply Fin.ext
    match a with
    | ⟨0, _⟩ => show win0_11.index t 0 * 512 + 1 * r.val = 512 * t.val + r.val; rw [(idx_kd t).1]; omega
    | ⟨1, _⟩ => show win0_11.index t 1 * 128 + 1 * l.val = l.val; rw [(idx_kd t).2]; omega
  show _ = arr_kd m c ((win0_11.blk t).view.emb (ix2 r l : S512x128.Idx) : S16384x128.Idx)
  rw [e]
  refine (out_kd c (grid0.coords t) _ _ _ _ _ _ _ _ _ _ _ _ _ _ _ _ _ _ _ _ _ _ _ _ _ _ _ _ _ _ _ _ _ _ _ r l).trans ?_
  show _ = pr _ _ _ _ _
  by_cases hl : l.val < 64
  · rw [col_zero m c t r ⟨3584 + (l.val + 64) % 128, by omega⟩ (by show ¬3584 + (l.val + 64) % 128 < 3648; omega) (by show 3584 + (l.val + 64) % 128 < 3712; omega), add_zero]
    exact col_eq m c t r _ _ (fun w j => (W_lo w j _ (by show 3584 + l.val < 3648; omega)).trans (congrArg (fun a => w (ix2 j a)) (Fin.ext (show 3584 + l.val = 3584 + l.val % 64 by omega))))
  · rw [col_zero m c t r ⟨3584 + l.val, by omega⟩ (by show ¬3584 + l.val < 3648; omega) (by show 3584 + l.val < 3712; omega), zero_add]
    exact col_eq m c t r _ _ (fun w j => (W_lo w j _ (by show 3584 + (l.val + 64) % 128 < 3648; omega)).trans (congrArg (fun a => w (ix2 j a)) (Fin.ext (show 3584 + (l.val + 64) % 128 = 3584 + l.val % 64 by omega))))

theorem cover_kd (i : S16384x128.Idx) : ∃ t : Fin cfg0.N, (cfg0.win 11).flush t = true ∧ i ∈ ((cfg0.win 11).blk t).view.set := by
  have h0 : (i 0 : Nat) < 16384 := (i 0).isLt
  have h1 : (i 1 : Nat) < 128 := (i 1).isLt
  have hN : cfg0.N = 32 := N_0
  refine ⟨⟨(i 0).val / 512, by rw [hN]; omega⟩, flush0_11 _, ?_⟩
  generalize ht : (⟨(i 0).val / 512, _⟩ : Fin cfg0.N) = t
  have hv : t.val = (i 0).val / 512 := by rw [← ht]
  show i ∈ ((View.whole main_v9_8).slice (win0_11.rect t)).set
  rw [View.set_slice_whole, Rect.mem_set_unit]
  intro a
  match a with
  | ⟨0, _⟩ => show win0_11.index t 0 * 512 ≤ (i 0 : Nat) ∧ (i 0 : Nat) < win0_11.index t 0 * 512 + 512; rw [(idx_kd t).1]; omega
  | ⟨1, _⟩ => show win0_11.index t 1 * 128 ≤ (i 1 : Nat) ∧ (i 1 : Nat) < win0_11.index t 1 * 128 + 128; rw [(idx_kd t).2]; omega
theorem final_kd (c : Dev nD) : (dats m 0 c).arrAt 11 cfg0.N = arr_kd m c :=
  (dats m 0 c).arrAt_eq_of_cover 11 (arr_kd m c) (fun t _ => flushed_kd m c t) cover_kd

theorem idx_vb : ∀ t : Fin cfg0.N, win0_12.index t 0 = t.val / 16 ∧ win0_12.index t 1 = t.val % 16 ∧ win0_12.index t 2 = 0 ∧ win0_12.index t 3 = 0 ∧ win0_12.index t 4 = 0 :=
  (by decide +kernel : ∀ t : Fin grid0.N, win0_12.index t 0 = t.val / 16 ∧ win0_12.index t 1 = t.val % 16 ∧ win0_12.index t 2 = 0 ∧ win0_12.index t 3 = 0 ∧ win0_12.index t 4 = 0)
/-- The array of result `vb`. -/
def arr_vb (c : Dev nD) : Buf (Elt Ideal) ((c : Thread nD τ).loc main_v9_9) := res_vb (m ((c : Thread nD τ).loc main_arg0)) (m ((c : Thread nD τ).loc main_arg1)) (m ((c : Thread nD τ).loc main_arg2))
theorem flushed_vb (c : Dev nD) (t : Fin cfg0.N) :
    (dats m 0 c).flushed 12 t = (win0_12.blk t).view.read (Elt Ideal) (arr_vb m c) := by
  rw [Value.flushed12_A]
  funext y
  obtain ⟨u, b, p, d, s, rfl⟩ : ∃ (u : Fin 1) (b : Fin 2) (p : Fin 4) (d : Fin 144) (s : Fin 256), y = (ix5 u b p d s : S1x2x4x144x256.Idx) := ⟨y 0, y 1, y 2, y 3, y 4, eq_ix5 y⟩
  rw [View.read_apply]
  have e : ((win0_12.blk t).view.emb (ix5 u b p d s : S1x2x4x144x256.Idx) : S2x32x4x144x256.Idx) = ix5 ⟨1 * (t.val / 16) + u.val, by have := lt_pts t; omega⟩ ⟨2 * (t.val % 16) + b.val, by have := lt_pts t; omega⟩ p d s := by
    funext a
    apply Fin.ext
    match a with
    | ⟨0, _⟩ => show win0_12.index t 0 * 1 + 1 * u.val = 1 * (t.val / 16) + u.val; rw [(idx_vb t).1]; omega
    | ⟨1, _⟩ => show win0_12.index t 1 * 2 + 1 * b.val = 2 * (t.val % 16) + b.val; rw [(idx_vb t).2.1]; omega
    | ⟨2, _⟩ => show win0_12.index t 2 * 4 + 1 * p.val = p.val; rw [(idx_vb t).2.2.1]; omega
    | ⟨3, _⟩ => show win0_12.index t 3 * 144 + 1 * d.val = d.val; rw [(idx_vb t).2.2.2.1]; omega
    | ⟨4, _⟩ => show win0_12.index t 4 * 256 + 1 * s.val = s.val; rw [(idx_vb t).2.2.2.2]; omega
  show _ = arr_vb m c ((win0_12.blk t).view.emb (ix5 u b p d s : S1x2x4x144x256.Idx) : S2x32x4x144x256.Idx)
  rw [e]
  refine (out_vb c (grid0.coords t) _ _ _ _ _ _ _ _ _ _ _ _ _ _ _ _ _ _ _ _ _ _ _ _ _ _ _ _ _ _ _ _ _ _ _ (ix5 u b p d s)).trans ?_
  show vbAt _ b p d s = _
  unfold vbAt
  by_cases hd : d.val < 128
  · rw [dif_pos (show d.val < 128 from hd)]
    refine (col_eq m c t _ _ ⟨2560 + (128 * p.val + d.val), by omega⟩ (fun w j => W_lo w j _ (by show 2560 + (128 * p.val + d.val) < 3648; omega))).trans ?_
    show _ = at_vb _ _ _ (⟨1 * (t.val / 16) + u.val, by have := lt_pts t; omega⟩ : Fin 2) (⟨2 * (t.val % 16) + b.val, by have := lt_pts t; omega⟩ : Fin 32) p d s
    unfold at_vb
    rw [dif_pos hd]
    congr 1 <;> apply Fin.ext
    · show 512 * t.val + (256 * b.val + s.val) = 8192 * (1 * (t.val / 16) + u.val) + 256 * (2 * (t.val % 16) + b.val) + s.val; omega
    · show 2560 + (128 * p.val + d.val) = 2560 + 128 * p.val + d.val; omega
  · rw [dif_neg (show ¬d.val < 128 from hd)]
    show _ = at_vb _ _ _ (⟨1 * (t.val / 16) + u.val, by have := lt_pts t; omega⟩ : Fin 2) (⟨2 * (t.val % 16) + b.val, by have := lt_pts t; omega⟩ : Fin 32) p d s
    unfold at_vb
    rw [dif_neg hd]

theorem cover_vb (i : S2x32x4x144x256.Idx) : ∃ t : Fin cfg0.N, (cfg0.win 12).flush t = true ∧ i ∈ ((cfg0.win 12).blk t).view.set := by
  have h0 : (i 0 : Nat) < 2 := (i 0).isLt
  have h1 : (i 1 : Nat) < 32 := (i 1).isLt
  have h2 : (i 2 : Nat) < 4 := (i 2).isLt
  have h3 : (i 3 : Nat) < 144 := (i 3).isLt
  have h4 : (i 4 : Nat) < 256 := (i 4).isLt
  have hN : cfg0.N = 32 := N_0
  refine ⟨⟨16 * (i 0).val + (i 1).val / 2, by rw [hN]; omega⟩, flush0_12 _, ?_⟩
  generalize ht : (⟨16 * (i 0).val + (i 1).val / 2, _⟩ : Fin cfg0.N) = t
  have hv : t.val = 16 * (i 0).val + (i 1).val / 2 := by rw [← ht]
  show i ∈ ((View.whole main_v9_9).slice (win0_12.rect t)).set
  rw [View.set_slice_whole, Rect.mem_set_unit]
  intro a
  match a with
  | ⟨0, _⟩ => show win0_12.index t 0 * 1 ≤ (i 0 : Nat) ∧ (i 0 : Nat) < win0_12.index t 0 * 1 + 1; rw [(idx_vb t).1]; omega
  | ⟨1, _⟩ => show win0_12.index t 1 * 2 ≤ (i 1 : Nat) ∧ (i 1 : Nat) < win0_12.index t 1 * 2 + 2; rw [(idx_vb t).2.1]; omega
  | ⟨2, _⟩ => show win0_12.index t 2 * 4 ≤ (i 2 : Nat) ∧ (i 2 : Nat) < win0_12.index t 2 * 4 + 4; rw [(idx_vb t).2.2.1]; omega
  | ⟨3, _⟩ => show win0_12.index t 3 * 144 ≤ (i 3 : Nat) ∧ (i 3 : Nat) < win0_12.index t 3 * 144 + 144; rw [(idx_vb t).2.2.2.1]; omega
  | ⟨4, _⟩ => show win0_12.index t 4 * 256 ≤ (i 4 : Nat) ∧ (i 4 : Nat) < win0_12.index t 4 * 256 + 256; rw [(idx_vb t).2.2.2.2]; omega
theorem final_vb (c : Dev nD) : (dats m 0 c).arrAt 12 cfg0.N = arr_vb m c :=
  (dats m 0 c).arrAt_eq_of_cover 12 (arr_vb m c) (fun t _ => flushed_vb m c t) cover_vb

theorem idx_qt : ∀ t : Fin cfg0.N, win0_13.index t 0 = t.val / 16 ∧ win0_13.index t 1 = 0 ∧ win0_13.index t 2 = t.val % 16 :=
  (by decide +kernel : ∀ t : Fin grid0.N, win0_13.index t 0 = t.val / 16 ∧ win0_13.index t 1 = 0 ∧ win0_13.index t 2 = t.val % 16)
/-- The array of result `qt`. -/
def arr_qt (c : Dev nD) : Buf (Elt Ideal) ((c : Thread nD τ).loc main_v9_10) := res_qt (m ((c : Thread nD τ).loc main_arg0)) (m ((c : Thread nD τ).loc main_arg1)) (m ((c : Thread nD τ).loc main_arg2))
theorem flushed_qt (c : Dev nD) (t : Fin cfg0.N) :
    (dats m 0 c).flushed 13 t = (win0_13.blk t).view.read (Elt Ideal) (arr_qt m c) := by
  rw [Value.flushed13_A]
  funext y
  obtain ⟨u, l, s, rfl⟩ : ∃ (u : Fin 1) (l : Fin 512) (s : Fin 512), y = (ix3 u l s : S1x512x512.Idx) := ⟨y 0, y 1, y 2, eq_ix3 y⟩
  rw [View.read_apply]
  have e : ((win0_13.blk t).view.emb (ix3 u l s : S1x512x512.Idx) : S2x512x8192.Idx) = ix3 ⟨1 * (t.val / 16) + u.val, by have := lt_pts t; omega⟩ l ⟨512 * (t.val % 16) + s.val, by have := lt_pts t; omega⟩ := by
    funext a
    apply Fin.ext
    match a with
    | ⟨0, _⟩ => show win0_13.index t 0 * 1 + 1 * u.val = 1 * (t.val / 16) + u.val; rw [(idx_qt t).1]; omega
    | ⟨1, _⟩ => show win0_13.index t 1 * 512 + 1 * l.val = l.val; rw [(idx_qt t).2.1]; omega
    | ⟨2, _⟩ => show win0_13.index t 2 * 512 + 1 * s.val = 512 * (t.val % 16) + s.val; rw [(idx_qt t).2.2]; omega
  show _ = arr_qt m c ((win0_13.blk t).view.emb (ix3 u l s : S1x512x512.Idx) : S2x512x8192.Idx)
  rw [e]
  obtain rfl : u = 0 := Subsingleton.elim _ _
  refine (out_qt c (grid0.coords t) _ _ _ _ _ _ _ _ _ _ _ _ _ _ _ _ _ _ _ _ _ _ _ _ _ _ _ _ _ _ _ _ _ _ _ s l).trans ?_
  rw [col_eq m c t s ⟨1536 + l.val, by omega⟩ ⟨1536 + l.val, by omega⟩ (fun w j => W_lo w j _ (by show 1536 + l.val < 3648; omega))]
  exact congrArg (fun a : Fin 16384 => pr (m ((c : Thread nD τ).loc main_arg0)) (m ((c : Thread nD τ).loc main_arg1)) (m ((c : Thread nD τ).loc main_arg2)) a ⟨1536 + l.val, by omega⟩ * Ideal.ofBits FTy.f32 0x3E38AA3B#32) (Fin.ext (show 512 * t.val + s.val = 8192 * (1 * (t.val / 16) + 0) + (512 * (t.val % 16) + s.val) by omega))

theorem cover_qt (i : S2x512x8192.Idx) : ∃ t : Fin cfg0.N, (cfg0.win 13).flush t = true ∧ i ∈ ((cfg0.win 13).blk t).view.set := by
  have h0 : (i 0 : Nat) < 2 := (i 0).isLt
  have h1 : (i 1 : Nat) < 512 := (i 1).isLt
  have h2 : (i 2 : Nat) < 8192 := (i 2).isLt
  have hN : cfg0.N = 32 := N_0
  refine ⟨⟨16 * (i 0).val + (i 2).val / 512, by rw [hN]; omega⟩, flush0_13 _, ?_⟩
  generalize ht : (⟨16 * (i 0).val + (i 2).val / 512, _⟩ : Fin cfg0.N) = t
  have hv : t.val = 16 * (i 0).val + (i 2).val / 512 := by rw [← ht]
  show i ∈ ((View.whole main_v9_10).slice (win0_13.rect t)).set
  rw [View.set_slice_whole, Rect.mem_set_unit]
  intro a
  match a with
  | ⟨0, _⟩ => show win0_13.index t 0 * 1 ≤ (i 0 : Nat) ∧ (i 0 : Nat) < win0_13.index t 0 * 1 + 1; rw [(idx_qt t).1]; omega
  | ⟨1, _⟩ => show win0_13.index t 1 * 512 ≤ (i 1 : Nat) ∧ (i 1 : Nat) < win0_13.index t 1 * 512 + 512; rw [(idx_qt t).2.1]; omega
  | ⟨2, _⟩ => show win0_13.index t 2 * 512 ≤ (i 2 : Nat) ∧ (i 2 : Nat) < win0_13.index t 2 * 512 + 512; rw [(idx_qt t).2.2]; omega
theorem final_qt (c : Dev nD) : (dats m 0 c).arrAt 13 cfg0.N = arr_qt m c :=
  (dats m 0 c).arrAt_eq_of_cover 13 (arr_qt m c) (fun t _ => flushed_qt m c t) cover_qt

theorem idx_qit : ∀ t : Fin cfg0.N, win0_14.index t 0 = t.val / 16 ∧ win0_14.index t 1 = 0 ∧ win0_14.index t 2 = t.val % 16 :=
  (by decide +kernel : ∀ t : Fin grid0.N, win0_14.index t 0 = t.val / 16 ∧ win0_14.index t 1 = 0 ∧ win0_14.index t 2 = t.val % 16)
/-- The array of result `qit`. -/
def arr_qit (c : Dev nD) : Buf (Elt Ideal) ((c : Thread nD τ).loc main_v9_11) := res_qit (m ((c : Thread nD τ).loc main_arg0)) (m ((c : Thread nD τ).loc main_arg1)) (m ((c : Thread nD τ).loc main_arg2))
theorem flushed_qit (c : Dev nD) (t : Fin cfg0.N) :
    (dats m 0 c).flushed 14 t = (win0_14.blk t).view.read (Elt Ideal) (arr_qit m c) := by
  rw [Value.flushed14_A]
  funext y
  obtain ⟨u, l, s, rfl⟩ : ∃ (u : Fin 1) (l : Fin 512) (s : Fin 512), y = (ix3 u l s : S1x512x512.Idx) := ⟨y 0, y 1, y 2, eq_ix3 y⟩
  rw [View.read_apply]
  have e : ((win0_14.blk t).view.emb (ix3 u l s : S1x512x512.Idx) : S2x512x8192.Idx) = ix3 ⟨1 * (t.val / 16) + u.val, by have := lt_pts t; omega⟩ l ⟨512 * (t.val % 16) + s.val, by have := lt_pts t; omega⟩ := by
    funext a
    apply Fin.ext
    match a with
    | ⟨0, _⟩ => show win0_14.index t 0 * 1 + 1 * u.val = 1 * (t.val / 16) + u.val; rw [(idx_qit t).1]; omega
    | ⟨1, _⟩ => show win0_14.index t 1 * 512 + 1 * l.val = l.val; rw [(idx_qit t).2.1]; omega
    | ⟨2, _⟩ => show win0_14.index t 2 * 512 + 1 * s.val = 512 * (t.val % 16) + s.val; rw [(idx_qit t).2.2]; omega
  show _ = arr_qit m c ((win0_14.blk t).view.emb (ix3 u l s : S1x512x512.Idx) : S2x512x8192.Idx)
  rw [e]
  obtain rfl : u = 0 := Subsingleton.elim _ _
  refine (out_qit c (grid0.coords t) _ _ _ _ _ _ _ _ _ _ _ _ _ _ _ _ _ _ _ _ _ _ _ _ _ _ _ _ _ _ _ _ _ _ _ s l).trans ?_
  rw [col_eq m c t s ⟨3072 + l.val, by omega⟩ ⟨3072 + l.val, by omega⟩ (fun w j => W_lo w j _ (by show 3072 + l.val < 3648; omega))]
  exact congrArg (fun a : Fin 16384 => pr (m ((c : Thread nD τ).loc main_arg0)) (m ((c : Thread nD τ).loc main_arg1)) (m ((c : Thread nD τ).loc main_arg2)) a ⟨3072 + l.val, by omega⟩ * Ideal.ofBits FTy.f32 0x3E000000#32) (Fin.ext (show 512 * t.val + s.val = 8192 * (1 * (t.val / 16) + 0) + (512 * (t.val % 16) + s.val) by omega))

theorem cover_qit (i : S2x512x8192.Idx) : ∃ t : Fin cfg0.N, (cfg0.win 14).flush t = true ∧ i ∈ ((cfg0.win 14).blk t).view.set := by
  have h0 : (i 0 : Nat) < 2 := (i 0).isLt
  have h1 : (i 1 : Nat) < 512 := (i 1).isLt
  have h2 : (i 2 : Nat) < 8192 := (i 2).isLt
  have hN : cfg0.N = 32 := N_0
  refine ⟨⟨16 * (i 0).val + (i 2).val / 512, by rw [hN]; omega⟩, flush0_14 _, ?_⟩
  generalize ht : (⟨16 * (i 0).val + (i 2).val / 512, _⟩ : Fin cfg0.N) = t
  have hv : t.val = 16 * (i 0).val + (i 2).val / 512 := by rw [← ht]
  show i ∈ ((View.whole main_v9_11).slice (win0_14.rect t)).set
  rw [View.set_slice_whole, Rect.mem_set_unit]
  intro a
  match a with
  | ⟨0, _⟩ => show win0_14.index t 0 * 1 ≤ (i 0 : Nat) ∧ (i 0 : Nat) < win0_14.index t 0 * 1 + 1; rw [(idx_qit t).1]; omega
  | ⟨1, _⟩ => show win0_14.index t 1 * 512 ≤ (i 1 : Nat) ∧ (i 1 : Nat) < win0_14.index t 1 * 512 + 512; rw [(idx_qit t).2.1]; omega
  | ⟨2, _⟩ => show win0_14.index t 2 * 512 ≤ (i 2 : Nat) ∧ (i 2 : Nat) < win0_14.index t 2 * 512 + 512; rw [(idx_qit t).2.2]; omega
theorem final_qit (c : Dev nD) : (dats m 0 c).arrAt 14 cfg0.N = arr_qit m c :=
  (dats m 0 c).arrAt_eq_of_cover 14 (arr_qit m c) (fun t _ => flushed_qit m c t) cover_qit

theorem idx_wit : ∀ t : Fin cfg0.N, win0_15.index t 0 = t.val / 16 ∧ win0_15.index t 1 = 0 ∧ win0_15.index t 2 = t.val % 16 :=
  (by decide +kernel : ∀ t : Fin grid0.N, win0_15.index t 0 = t.val / 16 ∧ win0_15.index t 1 = 0 ∧ win0_15.index t 2 = t.val % 16)
/-- The array of result `wit`. -/
def arr_wit (c : Dev nD) : Buf (Elt Ideal) ((c : Thread nD τ).loc main_v9_12) := res_wit (m ((c : Thread nD τ).loc main_arg0)) (m ((c : Thread nD τ).loc main_arg1)) (m ((c : Thread nD τ).loc main_arg2))
theorem flushed_wit (c : Dev nD) (t : Fin cfg0.N) :
    (dats m 0 c).flushed 15 t = (win0_15.blk t).view.read (Elt Ideal) (arr_wit m c) := by
  rw [Value.flushed15_A]
  funext y
  obtain ⟨u, l, s, rfl⟩ : ∃ (u : Fin 1) (l : Fin 8) (s : Fin 512), y = (ix3 u l s : S1x8x512.Idx) := ⟨y 0, y 1, y 2, eq_ix3 y⟩
  rw [View.read_apply]
  have e : ((win0_15.blk t).view.emb (ix3 u l s : S1x8x512.Idx) : S2x8x8192.Idx) = ix3 ⟨1 * (t.val / 16) + u.val, by have := lt_pts t; omega⟩ l ⟨512 * (t.val % 16) + s.val, by have := lt_pts t; omega⟩ := by
    funext a
    apply Fin.ext
    match a with
    | ⟨0, _⟩ => show win0_15.index t 0 * 1 + 1 * u.val = 1 * (t.val / 16) + u.val; rw [(idx_wit t).1]; omega
    | ⟨1, _⟩ => show win0_15.index t 1 * 8 + 1 * l.val = l.val; rw [(idx_wit t).2.1]; omega
    | ⟨2, _⟩ => show win0_15.index t 2 * 512 + 1 * s.val = 512 * (t.val % 16) + s.val; rw [(idx_wit t).2.2]; omega
  show _ = arr_wit m c ((win0_15.blk t).view.emb (ix3 u l s : S1x8x512.Idx) : S2x8x8192.Idx)
  rw [e]
  obtain rfl : u = 0 := Subsingleton.elim _ _
  refine (out_wit c (grid0.coords t) _ _ _ _ _ _ _ _ _ _ _ _ _ _ _ _ _ _ _ _ _ _ _ _ _ _ _ _ _ _ _ _ _ _ _ s l).trans ?_
  rw [col_eq m c t s ⟨3712 + l.val, by omega⟩ ⟨3648 + l.val, by omega⟩ (fun w j => W_wi w j _)]
  exact congrArg (fun a : Fin 16384 => pr (m ((c : Thread nD τ).loc main_arg0)) (m ((c : Thread nD τ).loc main_arg1)) (m ((c : Thread nD τ).loc main_arg2)) a ⟨3648 + l.val, by omega⟩ * Ideal.ofBits FTy.f32 0x3EB504F3#32) (Fin.ext (show 512 * t.val + s.val = 8192 * (1 * (t.val / 16) + 0) + (512 * (t.val % 16) + s.val) by omega))

theorem cover_wit (i : S2x8x8192.Idx) : ∃ t : Fin cfg0.N, (cfg0.win 15).flush t = true ∧ i ∈ ((cfg0.win 15).blk t).view.set := by
  have h0 : (i 0 : Nat) < 2 := (i 0).isLt
  have h1 : (i 1 : Nat) < 8 := (i 1).isLt
  have h2 : (i 2 : Nat) < 8192 := (i 2).isLt
  have hN : cfg0.N = 32 := N_0
  refine ⟨⟨16 * (i 0).val + (i 2).val / 512, by rw [hN]; omega⟩, flush0_15 _, ?_⟩
  generalize ht : (⟨16 * (i 0).val + (i 2).val / 512, _⟩ : Fin cfg0.N) = t
  have hv : t.val = 16 * (i 0).val + (i 2).val / 512 := by rw [← ht]
  show i ∈ ((View.whole main_v9_12).slice (win0_15.rect t)).set
  rw [View.set_slice_whole, Rect.mem_set_unit]
  intro a
  match a with
  | ⟨0, _⟩ => show win0_15.index t 0 * 1 ≤ (i 0 : Nat) ∧ (i 0 : Nat) < win0_15.index t 0 * 1 + 1; rw [(idx_wit t).1]; omega
  | ⟨1, _⟩ => show win0_15.index t 1 * 8 ≤ (i 1 : Nat) ∧ (i 1 : Nat) < win0_15.index t 1 * 8 + 8; rw [(idx_wit t).2.1]; omega
  | ⟨2, _⟩ => show win0_15.index t 2 * 512 ≤ (i 2 : Nat) ∧ (i 2 : Nat) < win0_15.index t 2 * 512 + 512; rw [(idx_wit t).2.2]; omega
theorem final_wit (c : Dev nD) : (dats m 0 c).arrAt 15 cfg0.N = arr_wit m c :=
  (dats m 0 c).arrAt_eq_of_cover 15 (arr_wit m c) (fun t _ => flushed_wit m c t) cover_wit

end Cert.ProjIdeal.Hand

/-! ## The reference's side -/

namespace Cert.RefProjIdeal.Hand

open Cert.RefProjIdeal Cert.RefProjIdeal.Read Cert.LayerMath Cert.ProjIdeal.Hand

variable (x : (⟨S16384x1024, .f32⟩ : BufTy).Contents (Elt Ideal)) (g : (⟨S1024, .f32⟩ : BufTy).Contents (Elt Ideal))
  (w : (⟨S1024x5704, .f32⟩ : BufTy).Contents (Elt Ideal))

theorem norm_apply (r : Fin 16384) (j : Fin 1024) :
    val_main_v12 (F := Ideal) x g (ix2 r j) = rms (fun k => x (ix2 r k)) (fun k => g (ix1 k)) j := by
  pointwise [rms, val_main_v12, val_main_v11, val_main_v10, val_main_v9, val_main_v8, val_main_v7, val_main_v6, val_main_v5,
    val_main_v4, val_main_v3, val_main_v2, val_main_v1, val_main_v0, val_main_cst, val_main_cst_0, val_main_cst_1]

theorem dot_apply (r : Fin 16384) (q : Fin 5704) : val_main_v13 (F := Ideal) x g w (ix2 r q) = pr x g w r q := by
  rw [val_main_v13_apply]
  unfold pr proj
  refine Finset.sum_congr rfl fun j _ => congrArg₂ (· * ·) ?_ (congrArg w ?_)
  · exact (congrArg _ (eq_ix2 _)).trans (norm_apply x g r j)
  · exact eq_ix2 _

theorem slice14_apply (r : Fin 16384) (l : Fin 512) : val_main_v14 (F := Ideal) x g w (ix2 r l) = pr x g w r ⟨l.val, by omega⟩ := by
  rw [← dot_apply]
  pointwise [val_main_v14]

theorem slice15_apply (r : Fin 16384) (l : Fin 512) : val_main_v15 (F := Ideal) x g w (ix2 r l) = pr x g w r ⟨512 + l.val, by omega⟩ := by
  rw [← dot_apply]
  pointwise [val_main_v15]

theorem slice16_apply (r : Fin 16384) (l : Fin 512) : val_main_v16 (F := Ideal) x g w (ix2 r l) = pr x g w r ⟨1024 + l.val, by omega⟩ := by
  rw [← dot_apply]
  pointwise [val_main_v16]

theorem slice17_apply (r : Fin 16384) (l : Fin 512) : val_main_v17 (F := Ideal) x g w (ix2 r l) = pr x g w r ⟨1536 + l.val, by omega⟩ := by
  rw [← dot_apply]
  pointwise [val_main_v17]

theorem slice18_apply (r : Fin 16384) (l : Fin 512) : val_main_v18 (F := Ideal) x g w (ix2 r l) = pr x g w r ⟨2048 + l.val, by omega⟩ := by
  rw [← dot_apply]
  pointwise [val_main_v18]

theorem slice19_apply (r : Fin 16384) (l : Fin 512) : val_main_v19 (F := Ideal) x g w (ix2 r l) = pr x g w r ⟨2560 + l.val, by omega⟩ := by
  rw [← dot_apply]
  pointwise [val_main_v19]

theorem slice20_apply (r : Fin 16384) (l : Fin 512) : val_main_v20 (F := Ideal) x g w (ix2 r l) = pr x g w r ⟨3072 + l.val, by omega⟩ := by
  rw [← dot_apply]
  pointwise [val_main_v20]

theorem slice21_apply (r : Fin 16384) (l : Fin 64) : val_main_v21 (F := Ideal) x g w (ix2 r l) = pr x g w r ⟨3584 + l.val, by omega⟩ := by
  rw [← dot_apply]
  pointwise [val_main_v21]

theorem slice22_apply (r : Fin 16384) (l : Fin 8) : val_main_v22 (F := Ideal) x g w (ix2 r l) = pr x g w r ⟨3648 + l.val, by omega⟩ := by
  rw [← dot_apply]
  pointwise [val_main_v22]

theorem slice23_apply (r : Fin 16384) (l : Fin 1024) : val_main_v23 (F := Ideal) x g w (ix2 r l) = pr x g w r ⟨3656 + l.val, by omega⟩ := by
  rw [← dot_apply]
  pointwise [val_main_v23]

theorem slice24_apply (r : Fin 16384) (l : Fin 1024) : val_main_v24 (F := Ideal) x g w (ix2 r l) = pr x g w r ⟨4680 + l.val, by omega⟩ := by
  rw [← dot_apply]
  pointwise [val_main_v24]

theorem ref_z : val_main_v29 (F := Ideal) x g w = res_z x g w := by
  funext i
  obtain ⟨r, l, rfl⟩ : ∃ (r : Fin 16384) (l : Fin 512), i = (ix2 r l : S16384x512.Idx) := ⟨i 0, i 1, eq_ix2 i⟩
  show _ = at_z x g w r l
  pointwise [val_main_v29, slice16_apply, slice14_apply, at_z, sigm, zero_sub]

theorem ref_bc : val_main_v15 (F := Ideal) x g w = res_bc x g w := by
  funext i
  obtain ⟨r, l, rfl⟩ : ∃ (r : Fin 16384) (l : Fin 512), i = (ix2 r l : S16384x512.Idx) := ⟨i 0, i 1, eq_ix2 i⟩
  show _ = at_bc x g w r l
  pointwise [slice15_apply, at_bc, sigm, zero_sub]

theorem ref_sgc : val_main_v35 (F := Ideal) x g w = res_sgc x g w := by
  funext i
  obtain ⟨r, l, rfl⟩ : ∃ (r : Fin 16384) (l : Fin 1024), i = (ix2 r l : S16384x1024.Idx) := ⟨i 0, i 1, eq_ix2 i⟩
  show _ = at_sgc x g w r l
  pointwise [val_main_v35, val_main_v34, val_main_v33, val_main_v32, val_main_v31, val_main_v30, val_main_cst_3, val_main_cst_4, slice23_apply, at_sgc, sigm, zero_sub]

theorem ref_sga : val_main_v41 (F := Ideal) x g w = res_sga x g w := by
  funext i
  obtain ⟨r, l, rfl⟩ : ∃ (r : Fin 16384) (l : Fin 1024), i = (ix2 r l : S16384x1024.Idx) := ⟨i 0, i 1, eq_ix2 i⟩
  show _ = at_sga x g w r l
  pointwise [val_main_v41, val_main_v40, val_main_v39, val_main_v38, val_main_v37, val_main_v36, val_main_cst_5, val_main_cst_6, slice24_apply, at_sga, sigm, zero_sub]

theorem ref_kt : val_main_v43 (F := Ideal) x g w = res_kt x g w := by
  funext i
  obtain ⟨b, l, s, rfl⟩ : ∃ (b : Fin 2) (l : Fin 512) (s : Fin 8192), i = (ix3 b l s : S2x512x8192.Idx) := ⟨i 0, i 1, i 2, eq_ix3 i⟩
  show _ = at_kt x g w b l s
  pointwise [val_main_v43, val_main_v42, slice18_apply, at_kt, sigm, zero_sub]
  simp only [Nat.mul_comm b.val 8192]

theorem ref_vt : val_main_v45 (F := Ideal) x g w = res_vt x g w := by
  funext i
  obtain ⟨b, l, s, rfl⟩ : ∃ (b : Fin 2) (l : Fin 512) (s : Fin 8192), i = (ix3 b l s : S2x512x8192.Idx) := ⟨i 0, i 1, i 2, eq_ix3 i⟩
  show _ = at_vt x g w b l s
  pointwise [val_main_v45, val_main_v44, slice19_apply, at_vt, sigm, zero_sub]
  simp only [Nat.mul_comm b.val 8192]

theorem ref_kit : val_main_v47 (F := Ideal) x g w = res_kit x g w := by
  funext i
  obtain ⟨b, l, s, rfl⟩ : ∃ (b : Fin 2) (l : Fin 64) (s : Fin 8192), i = (ix3 b l s : S2x64x8192.Idx) := ⟨i 0, i 1, i 2, eq_ix3 i⟩
  show _ = at_kit x g w b l s
  pointwise [val_main_v47, val_main_v46, slice21_apply, at_kit, sigm, zero_sub]
  simp only [Nat.mul_comm b.val 8192]

theorem ref_kb : val_main_v48 (F := Ideal) x g w = res_kb x g w := by
  funext i
  obtain ⟨r, l, rfl⟩ : ∃ (r : Fin 16384) (l : Fin 512), i = (ix2 r l : S16384x512.Idx) := ⟨i 0, i 1, eq_ix2 i⟩
  show _ = at_kb x g w r l
  pointwise [val_main_v48, slice18_apply, at_kb, sigm, zero_sub]

theorem ref_kd : val_main_v50 (F := Ideal) x g w = res_kd x g w := by
  funext i
  obtain ⟨r, l, rfl⟩ : ∃ (r : Fin 16384) (l : Fin 128), i = (ix2 r l : S16384x128.Idx) := ⟨i 0, i 1, eq_ix2 i⟩
  show _ = at_kd x g w r l
  pointwise [val_main_v50, val_main_v49, slice21_apply, at_kd, sigm, zero_sub]
  by_cases h : l.val < 64
  · rw [dif_pos h]; exact congrArg (pr x g w r) (Fin.ext (by show 3584 + l.val = 3584 + l.val % 64; omega))
  · rw [dif_neg h]; exact congrArg (pr x g w r) (Fin.ext (by show 3584 + (l.val - 64) = 3584 + l.val % 64; omega))

theorem ref_vb : val_main_v51 (F := Ideal) x g w = res_vb x g w := by
  funext i
  obtain ⟨b, k, p, d, s, rfl⟩ : ∃ (b : Fin 2) (k : Fin 32) (p : Fin 4) (d : Fin 144) (s : Fin 256), i = (ix5 b k p d s : S2x32x4x144x256.Idx) := ⟨i 0, i 1, i 2, i 3, i 4, eq_ix5 i⟩
  show _ = at_vb x g w b k p d s
  pointwise [val_main_v51, val_main_v28, val_main_v27, val_main_v26, val_main_v25, val_main_cst_2, slice19_apply, at_vb]
  simp only [Nat.mul_comm b.val 8192, Nat.mul_comm k.val 256, Nat.mul_comm p.val 128, Nat.add_assoc]

theorem ref_qt : val_main_v56 (F := Ideal) x g w = res_qt x g w := by
  funext i
  obtain ⟨b, l, s, rfl⟩ : ∃ (b : Fin 2) (l : Fin 512) (s : Fin 8192), i = (ix3 b l s : S2x512x8192.Idx) := ⟨i 0, i 1, i 2, eq_ix3 i⟩
  show _ = at_qt x g w b l s
  pointwise [val_main_v56, val_main_v55, val_main_v54, val_main_v53, val_main_v52, val_main_cst_7, slice17_apply, at_qt, sigm, zero_sub]
  simp only [Nat.mul_comm b.val 8192]

theorem ref_qit : val_main_v61 (F := Ideal) x g w = res_qit x g w := by
  funext i
  obtain ⟨b, l, s, rfl⟩ : ∃ (b : Fin 2) (l : Fin 512) (s : Fin 8192), i = (ix3 b l s : S2x512x8192.Idx) := ⟨i 0, i 1, i 2, eq_ix3 i⟩
  show _ = at_qit x g w b l s
  pointwise [val_main_v61, val_main_v60, val_main_v59, val_main_v58, val_main_v57, val_main_cst_8, slice20_apply, at_qit, sigm, zero_sub]
  simp only [Nat.mul_comm b.val 8192]

theorem ref_wit : val_main_v65 (F := Ideal) x g w = res_wit x g w := by
  funext i
  obtain ⟨b, l, s, rfl⟩ : ∃ (b : Fin 2) (l : Fin 8) (s : Fin 8192), i = (ix3 b l s : S2x8x8192.Idx) := ⟨i 0, i 1, i 2, eq_ix3 i⟩
  show _ = at_wit x g w b l s
  pointwise [val_main_v65, val_main_v64, val_main_v63, val_main_v62, val_main_cst_9, slice22_apply, at_wit, sigm, zero_sub]
  simp only [Nat.mul_comm b.val 8192]

end Cert.RefProjIdeal.Hand

end
-- ==== Proof.ProjClaims.lean ====
/- The five claims of the prompt rows' projection: both frames of the kernel, the frame of the reference, the (empty) list of
   rewrites of the idealization, and the equality of all thirteen results over the extended reals. -/
module

public import proofs.«01_k».proof.Defs
public import proofs.«01_k».proof.Proof.Gen.Proj.Frame
public import proofs.«01_k».proof.Proof.Gen.ProjIdeal.Value
public import proofs.«01_k».proof.Proof.Gen.RefProjIdeal.Run
public import proofs.«01_k».proof.Proof.ProjValue
import Idealize.ShloMosaic.Lib.Quiescent

@[expose] public section

namespace Cert.Proof.ProjClaims

open Idealize.ShloMosaic Idealize.SL.Sem

/-- The kernel's frame over the machine's floats. -/
theorem frame_p : Cert.quiescent_Proj := fun m ρ _ => Cert.Proj.Gen.frame m ρ

/-- The kernel's frame over the extended reals. -/
theorem frame_pi : Cert.quiescent_ProjIdeal := fun m ρ _ => Cert.ProjIdeal.Gen.frame m ρ

/-- The reference's frame over the extended reals: it leaves its arguments alone and declares no semaphore. -/
theorem frame_ri : Cert.quiescent_RefProjIdeal := fun m ρ _ =>
  (θ_run Cert.RefProjIdeal.defs _ _).mono (fun r h => ⟨fun c => (h c).2.2.2.2.2.2.2.2.2.2.2.2.2, sem_eq_zero_of_no_sems (by decide) r.2⟩)
    (Cert.RefProjIdeal.Value.run (F := Ideal) m ρ)

/-- The idealization rewrote no operation of the kernel. -/
theorem preserves : Cert.preserves_Proj_ProjIdeal := trivial

set_option maxHeartbeats 4000000 in
/-- From arguments that agree, each of the kernel's result arrays equals the reference's: both are the function of the
    arguments that `ProjValue` names for it. -/
theorem algebraic : Cert.algebraic_ProjIdeal_RefProjIdeal := by
  intro m ρ m' ρ' _ hagree
  refine ⟨fun c => Cert.ProjIdeal.Hand.arr_z m c, fun c => Cert.ProjIdeal.Hand.arr_bc m c, fun c => Cert.ProjIdeal.Hand.arr_sgc m c, fun c => Cert.ProjIdeal.Hand.arr_sga m c, fun c => Cert.ProjIdeal.Hand.arr_kt m c, fun c => Cert.ProjIdeal.Hand.arr_vt m c, fun c => Cert.ProjIdeal.Hand.arr_kit m c, fun c => Cert.ProjIdeal.Hand.arr_kb m c, fun c => Cert.ProjIdeal.Hand.arr_kd m c, fun c => Cert.ProjIdeal.Hand.arr_vb m c, fun c => Cert.ProjIdeal.Hand.arr_qt m c, fun c => Cert.ProjIdeal.Hand.arr_qit m c, fun c => Cert.ProjIdeal.Hand.arr_wit m c, ?_, ?_⟩
  · refine (θ_run Cert.ProjIdeal.defs _ _).mono (fun _ h c => ?_) (Cert.ProjIdeal.Value.run_blocks m ρ)
    obtain ⟨e0, e1, e2, e3, e4, e5, e6, e7, e8, e9, e10, e11, e12, hk⟩ := h c
    exact ⟨e0.trans (Cert.ProjIdeal.Hand.final_z m c), e1.trans (Cert.ProjIdeal.Hand.final_bc m c), e2.trans (Cert.ProjIdeal.Hand.final_sgc m c), e3.trans (Cert.ProjIdeal.Hand.final_sga m c), e4.trans (Cert.ProjIdeal.Hand.final_kt m c), e5.trans (Cert.ProjIdeal.Hand.final_vt m c), e6.trans (Cert.ProjIdeal.Hand.final_kit m c), e7.trans (Cert.ProjIdeal.Hand.final_kb m c), e8.trans (Cert.ProjIdeal.Hand.final_kd m c), e9.trans (Cert.ProjIdeal.Hand.final_vb m c), e10.trans (Cert.ProjIdeal.Hand.final_qt m c), e11.trans (Cert.ProjIdeal.Hand.final_qit m c), e12.trans (Cert.ProjIdeal.Hand.final_wit m c), hk⟩
  · refine (θ_run Cert.RefProjIdeal.defs _ _).mono (fun _ h c => ?_) (Cert.RefProjIdeal.Value.run (F := Ideal) m' ρ')
    obtain ⟨e0, e1, e2, e3, e4, e5, e6, e7, e8, e9, e10, e11, e12, hk⟩ := h c
    obtain ⟨a0, a1, a2⟩ := hagree c
    refine ⟨e0.trans ?_, e1.trans ?_, e2.trans ?_, e3.trans ?_, e4.trans ?_, e5.trans ?_, e6.trans ?_, e7.trans ?_, e8.trans ?_, e9.trans ?_, e10.trans ?_, e11.trans ?_, e12.trans ?_, hk⟩
    · rw [a0, a1, a2]; exact (Cert.RefProjIdeal.Read.val_main_v29_eq _ _ _).trans (Cert.RefProjIdeal.Hand.ref_z _ _ _)
    · rw [a0, a1, a2]; exact (Cert.RefProjIdeal.Read.val_main_v15_eq _ _ _).trans (Cert.RefProjIdeal.Hand.ref_bc _ _ _)
    · rw [a0, a1, a2]; exact (Cert.RefProjIdeal.Read.val_main_v35_eq _ _ _).trans (Cert.RefProjIdeal.Hand.ref_sgc _ _ _)
    · rw [a0, a1, a2]; exact (Cert.RefProjIdeal.Read.val_main_v41_eq _ _ _).trans (Cert.RefProjIdeal.Hand.ref_sga _ _ _)
    · rw [a0, a1, a2]; exact (Cert.RefProjIdeal.Read.val_main_v43_eq _ _ _).trans (Cert.RefProjIdeal.Hand.ref_kt _ _ _)
    · rw [a0, a1, a2]; exact (Cert.RefProjIdeal.Read.val_main_v45_eq _ _ _).trans (Cert.RefProjIdeal.Hand.ref_vt _ _ _)
    · rw [a0, a1, a2]; exact (Cert.RefProjIdeal.Read.val_main_v47_eq _ _ _).trans (Cert.RefProjIdeal.Hand.ref_kit _ _ _)
    · rw [a0, a1, a2]; exact (Cert.RefProjIdeal.Read.val_main_v48_eq _ _ _).trans (Cert.RefProjIdeal.Hand.ref_kb _ _ _)
    · rw [a0, a1, a2]; exact (Cert.RefProjIdeal.Read.val_main_v50_eq _ _ _).trans (Cert.RefProjIdeal.Hand.ref_kd _ _ _)
    · rw [a0, a1, a2]; exact (Cert.RefProjIdeal.Read.val_main_v51_eq _ _ _).trans (Cert.RefProjIdeal.Hand.ref_vb _ _ _)
    · rw [a0, a1, a2]; exact (Cert.RefProjIdeal.Read.val_main_v56_eq _ _ _).trans (Cert.RefProjIdeal.Hand.ref_qt _ _ _)
    · rw [a0, a1, a2]; exact (Cert.RefProjIdeal.Read.val_main_v61_eq _ _ _).trans (Cert.RefProjIdeal.Hand.ref_qit _ _ _)
    · rw [a0, a1, a2]; exact (Cert.RefProjIdeal.Read.val_main_v65_eq _ _ _).trans (Cert.RefProjIdeal.Hand.ref_wit _ _ _)

end Cert.Proof.ProjClaims

end
-- ==== Proof.MergeSampleKernel.lean ====
module

public import proofs.«01_k».proof.Proof.Gen.MergeSampleIdeal.Value
public import Idealize.ShloMosaic.Lib.Pointwise
public import Idealize.ShloMosaic.Lib.Tactic
public import Idealize.ShloMosaic.Lib.VecWindow
public import proofs.«01_k».proof.Proof.MixMath

@[expose] public section

set_option maxRecDepth 16384

noncomputable section

open Idealize.ShloMosaic Idealize.ShloMosaic.TcCoe Idealize.SL.Sem
open Idealize.ShloMosaic.Pipeline (Dat)

namespace Cert.MergeSampleIdeal.Hand

open Cert.MergeSampleIdeal Cert.MergeSampleIdeal.Gen Cert.LayerMath

variable {F : FTy → Type} [FloatOps F]

theorem zero2 : (![0, 0] : Fin 2 → Nat) = fun _ => 0 := funext fun a => by fin_cases a <;> rfl

/-- One chunk of the feed-forward sum: the chunk's gate and up columns, the gated product, and the chunk's down rows. -/
def chunk (h : FVec F S128x1024 .bf16) (g u : Vec F S1024x256 .bf16) (d : Vec F S256x1024 .bf16) :
    FVec F S128x1024 .f32 :=
  matmul dot_S128x256_S256x1024_S128x1024_1_0_0_1_n_n none
    (truncf .bf16 (mulf (mulf (matmul dot_S128x1024_S1024x256_S128x256_1_0_0_1_n_n none h g (constant S128x256 .f32 0x00000000#32))
      (divf (broadcast S128x256 (Scalar.ofBits .f32 0x3F800000#32))
        (addf (broadcast S128x256 (Scalar.ofBits .f32 0x3F800000#32))
          (exp (subf (broadcast S128x256 (Scalar.ofBits .f32 0x00000000#32))
            (matmul dot_S128x1024_S1024x256_S128x256_1_0_0_1_n_n none h g (constant S128x256 .f32 0x00000000#32)))))))
      (matmul dot_S128x1024_S1024x256_S128x256_1_0_0_1_n_n none h u (constant S128x256 .f32 0x00000000#32))) bitsLt_bf16_f32)
    d (constant S128x1024 .f32 0x00000000#32)

theorem pay6_eq (a b : FVec F S128x1024 .f32) (w : Vec F S1024x1024 .bf16) (n : Vec F S1x1024 .f32) (g u : Vec F S1024x256 .bf16) (d : Vec F S256x1024 .bf16) :
    k0_pay6 (k0_pay5 a b w n g u d) = chunk (k0_pay4 a b w n) g u d := by
  simp only [k0_pay6, k0_pay5, chunk, shapeCast_self]
theorem pay7_eq (h : FVec F S128x1024 .bf16) (g u : Vec F S1024x256 .bf16) (d : Vec F S256x1024 .bf16) (acc : Vec F S128x1024 .f32) :
    k0_pay7 h g u d acc = addf acc (chunk h g u d) := by
  simp only [k0_pay7, chunk, shapeCast_self]
theorem pay10_eq (h : FVec F S128x1024 .bf16) (g u : Vec F S1024x256 .bf16) (d : Vec F S256x1024 .bf16) (acc : Vec F S128x1024 .f32) :
    k0_pay10 (k0_pay8 h g) (k0_pay9 h u) (Scalar.ofBits .f32 0x00000000#32) d acc = addf acc (chunk h g u d) := by
  simp only [k0_pay8, k0_pay9, k0_pay10, chunk, shapeCast_self]
theorem pay12_eq (h : FVec F S128x1024 .bf16) (g u : Vec F S1024x256 .bf16) (d : Vec F S256x1024 .bf16) (acc : Vec F S128x1024 .f32) :
    k0_pay12 (k0_pay11 h g u d) acc = addf acc (chunk h g u d) := by
  simp only [k0_pay11, k0_pay12, chunk, shapeCast_self]
theorem pay13_eq (h : FVec F S128x1024 .bf16) (g u : Vec F S1024x256 .bf16) (d : Vec F S256x1024 .bf16) (acc : Vec F S128x1024 .f32) :
    k0_pay13 h g u d acc = addf acc (chunk h g u d) := by
  simp only [k0_pay13, chunk, shapeCast_self]
theorem pay16_eq (h : FVec F S128x1024 .bf16) (g u : Vec F S1024x256 .bf16) (d : Vec F S256x1024 .bf16) (acc : Vec F S128x1024 .f32) :
    k0_pay16 h (k0_pay14 h g) (k0_pay15 u) d acc = addf acc (chunk h g u d) := by
  simp only [k0_pay14, k0_pay15, k0_pay16, chunk, shapeCast_self]
theorem pay19_eq (h : FVec F S128x1024 .bf16) (g u : Vec F S1024x256 .bf16) (d : Vec F S256x1024 .bf16) (acc : Vec F S128x1024 .f32) :
    k0_pay19 (k0_pay17 h g u) (k0_pay18 d) acc = addf acc (chunk h g u d) := by
  simp only [k0_pay17, k0_pay18, k0_pay19, chunk, shapeCast_self]
theorem pay20_eq (h : FVec F S128x1024 .bf16) (g u : Vec F S1024x256 .bf16) (d : Vec F S256x1024 .bf16) (acc : Vec F S128x1024 .f32) :
    k0_pay20 h g u d acc = addf acc (chunk h g u d) := by
  simp only [k0_pay20, chunk, shapeCast_self]
theorem pay22_eq (h : FVec F S128x1024 .bf16) (g u : Vec F S1024x256 .bf16) (d : Vec F S256x1024 .bf16) (acc : Vec F S128x1024 .f32) :
    k0_pay22 h (k0_pay21 h g) u d acc = addf acc (chunk h g u d) := by
  simp only [k0_pay21, k0_pay22, chunk, shapeCast_self]
theorem pay24_eq (h : FVec F S128x1024 .bf16) (g u : Vec F S1024x256 .bf16) (d : Vec F S256x1024 .bf16) (acc : Vec F S128x1024 .f32) :
    k0_pay24 (k0_pay23 h g u) d acc = addf acc (chunk h g u d) := by
  simp only [k0_pay23, k0_pay24, chunk, shapeCast_self]
theorem pay25_eq (h : FVec F S128x1024 .bf16) (g u : Vec F S1024x256 .bf16) (d : Vec F S256x1024 .bf16) (acc : Vec F S128x1024 .f32) :
    k0_pay25 h g u d acc = addf acc (chunk h g u d) := by
  simp only [k0_pay25, chunk, shapeCast_self]

/-- The merged row of a token, from the last three rows of its gated input. -/
theorem pay3_apply (v0 v1 v3 : Vec Ideal S128x512 .f32) (v5 v8 v12 : Vec Ideal S1x512 .f32) (v16 : Vec Ideal S128x512 .f32)
    (v19 : Vec Ideal S512x1024 .bf16) (v22 : Vec Ideal S128x512 .bf16) (v23 : Vec Ideal S512x1024 .bf16)
    (v26 v28 v31 : Vec Ideal S128x1024 .f32) (v33 : Vec Ideal S1024x1024 .bf16) (r : Fin 128) (l : Fin 1024) :
    k0_pay3 (k0_pay2 v0 v1 v3 v5 v8 v12 v16 v19 v22 v23 v26 v28) v31 v33 (ix2 r l)
      = mixRow (fun k => v31 (ix2 r k)) (fun k => v26 (ix2 r k)) (fun k => v28 (ix2 r k)) (fun k => v16 (ix2 r k))
          (fun k => v5 (ix2 0 k) * v3 (ix2 r k) + v8 (ix2 0 k) * v1 (ix2 r k) + v12 (ix2 0 k) * v0 (ix2 r k))
          (fun k => v22 (ix2 r k)) (fun k j => v19 (ix2 k j)) (fun k j => v23 (ix2 k j)) (fun k j => v33 (ix2 k j)) l := by
  pointwise [k0_pay3, k0_pay2, dot_S128x512_S512x1024_S128x1024_1_0_0_1_n_n, dot_S128x1024_S1024x1024_S128x1024_1_0_0_1_n_n, mixRow, branches]

/-- The root-mean-square scaling of the merged rows, at an index. -/
theorem pay4_apply (a b : FVec Ideal S128x1024 .f32) (w : Vec Ideal S1024x1024 .bf16) (n : Vec Ideal S1x1024 .f32) (r : Fin 128) (l : Fin 1024) :
    k0_pay4 a b w n (ix2 r l) = rms (fun k => k0_pay3 a b w (ix2 r k)) (fun k => n (ix2 0 k)) l := by
  unfold k0_pay4
  generalize k0_pay3 a b w = x
  pointwise [rms]

/-- The last scaling, of the row after the half step. -/
theorem final_apply (x acc : Vec Ideal S128x1024 .f32) (g : Vec Ideal S1x1024 .f32) (r : Fin 128) (l : Fin 1024) :
    k0_pay1 x acc (Scalar.ofBits .f32 0x3F000000#32) g (ix2 r l)
      = rms (fun k => x (ix2 r k) + Ideal.ofBits FTy.f32 1056964608#32 * acc (ix2 r k)) (fun k => g (ix2 0 k)) l := by
  pointwise [k0_pay1, rms]

theorem ld_row {n : Nat} (x : Vec Ideal ⟨2, ![n, 512]⟩ .f32) (o : Fin n)
    (h : ∀ a, (![o.val, 0] : Fin 2 → Nat) a + S1x512.size a ≤ (⟨2, ![n, 512]⟩ : Shape).size a) (k : Fin 512) :
    View.ld x (Rect.unit ![o.val, 0] S1x512.size h) (ix2 0 k) = x (ix2 o k) := by
  refine congrArg x (funext fun a => Fin.ext ?_)
  match a with
  | ⟨0, _⟩ => show o.val + 1 * 0 = o.val; omega
  | ⟨1, _⟩ => show 0 + 1 * k.val = k.val; omega

/-- One chunk's contribution at an index is that part of the feed-forward sum. -/
theorem chunk_apply (h : FVec Ideal S128x1024 .bf16) (x2 : Vec Ideal S1024x5632 .bf16) (x3 : Vec Ideal S2816x1024 .bf16)
    (o o' : Nat) (ho : o + 256 ≤ 2816) (e : o' = 2816 + o)
    (hg : ∀ a, (![0, o] : Fin 2 → Nat) a + (![1024, 256] : Fin 2 → Nat) a ≤ S1024x5632.size a)
    (hu : ∀ a, (![0, o'] : Fin 2 → Nat) a + (![1024, 256] : Fin 2 → Nat) a ≤ S1024x5632.size a)
    (hd : ∀ a, (![o, 0] : Fin 2 → Nat) a + (![256, 1024] : Fin 2 → Nat) a ≤ S2816x1024.size a)
    (r : Fin 128) (l : Fin 1024) :
    chunk h (View.ld x2 (Rect.unit ![0, o] ![1024, 256] hg)) (View.ld x2 (Rect.unit ![0, o'] ![1024, 256] hu))
        (View.ld x3 (Rect.unit ![o, 0] ![256, 1024] hd)) (ix2 r l)
      = part (fun k => h (ix2 r k)) (fun j k => x2 (ix2 j k)) (fun k l => x3 (ix2 k l)) o ho l := by
  subst e
  pointwise [chunk, part, gated, dot_S128x256_S256x1024_S128x1024_1_0_0_1_n_n, dot_S128x1024_S1024x256_S128x256_1_0_0_1_n_n]

/-- The feed-forward half step of the merged rows, scaled at the end, in the order the body takes its chunks. -/
theorem half_apply (A B : FVec Ideal S128x1024 .f32) (W : Vec Ideal S1024x1024 .bf16) (g : Vec Ideal S1x1024 .f32) (w : Vec Ideal S1024x5632 .bf16)
    (d : Vec Ideal S2816x1024 .bf16) (gf : Vec Ideal S1x1024 .f32) (f : Fin 1024 → EReal) (r : Fin 128)
    (hX : ∀ k, k0_pay3 A B W (ix2 r k) = f k) (l : Fin 1024) :
    k0_pay1 (k0_pay3 A B W) (addf (addf (addf (addf (addf (addf (addf (addf (addf (addf (chunk (k0_pay4 A B W g) (View.ld w (Rect.unit ![0, 0] S1024x256.size inb_S1024x5632_S1024x256_0_0))
        (View.ld w (Rect.unit ![0, 2816] S1024x256.size inb_S1024x5632_S1024x256_0_2816))
        (View.ld d (Rect.unit ![0, 0] S256x1024.size inb_S2816x1024_S256x1024_0_0))) (chunk (k0_pay4 A B W g) (View.ld w (Rect.unit ![0, 256] S1024x256.size inb_S1024x5632_S1024x256_0_256))
        (View.ld w (Rect.unit ![0, 3072] S1024x256.size inb_S1024x5632_S1024x256_0_3072))
        (View.ld d (Rect.unit ![256, 0] S256x1024.size inb_S2816x1024_S256x1024_256_0)))) (chunk (k0_pay4 A B W g) (View.ld w (Rect.unit ![0, 512] S1024x256.size inb_S1024x5632_S1024x256_0_512))
        (View.ld w (Rect.unit ![0, 3328] S1024x256.size inb_S1024x5632_S1024x256_0_3328))
        (View.ld d (Rect.unit ![512, 0] S256x1024.size inb_S2816x1024_S256x1024_512_0)))) (chunk (k0_pay4 A B W g) (View.ld w (Rect.unit ![0, 768] S1024x256.size inb_S1024x5632_S1024x256_0_768))
        (View.ld w (Rect.unit ![0, 3584] S1024x256.size inb_S1024x5632_S1024x256_0_3584))
        (View.ld d (Rect.unit ![768, 0] S256x1024.size inb_S2816x1024_S256x1024_768_0)))) (chunk (k0_pay4 A B W g) (View.ld w (Rect.unit ![0, 1024] S1024x256.size inb_S1024x5632_S1024x256_0_1024))
        (View.ld w (Rect.unit ![0, 3840] S1024x256.size inb_S1024x5632_S1024x256_0_3840))
        (View.ld d (Rect.unit ![1024, 0] S256x1024.size inb_S2816x1024_S256x1024_1024_0)))) (chunk (k0_pay4 A B W g) (View.ld w (Rect.unit ![0, 1280] S1024x256.size inb_S1024x5632_S1024x256_0_1280))
        (View.ld w (Rect.unit ![0, 4096] S1024x256.size inb_S1024x5632_S1024x256_0_4096))
        (View.ld d (Rect.unit ![1280, 0] S256x1024.size inb_S2816x1024_S256x1024_1280_0)))) (chunk (k0_pay4 A B W g) (View.ld w (Rect.unit ![0, 1536] S1024x256.size inb_S1024x5632_S1024x256_0_1536))
        (View.ld w (Rect.unit ![0, 4352] S1024x256.size inb_S1024x5632_S1024x256_0_4352))
        (View.ld d (Rect.unit ![1536, 0] S256x1024.size inb_S2816x1024_S256x1024_1536_0)))) (chunk (k0_pay4 A B W g) (View.ld w (Rect.unit ![0, 1792] S1024x256.size inb_S1024x5632_S1024x256_0_1792))
        (View.ld w (Rect.unit ![0, 4608] S1024x256.size inb_S1024x5632_S1024x256_0_4608))
        (View.ld d (Rect.unit ![1792, 0] S256x1024.size inb_S2816x1024_S256x1024_1792_0)))) (chunk (k0_pay4 A B W g) (View.ld w (Rect.unit ![0, 2048] S1024x256.size inb_S1024x5632_S1024x256_0_2048))
        (View.ld w (Rect.unit ![0, 4864] S1024x256.size inb_S1024x5632_S1024x256_0_4864))
        (View.ld d (Rect.unit ![2048, 0] S256x1024.size inb_S2816x1024_S256x1024_2048_0)))) (chunk (k0_pay4 A B W g) (View.ld w (Rect.unit ![0, 2304] S1024x256.size inb_S1024x5632_S1024x256_0_2304))
        (View.ld w (Rect.unit ![0, 5120] S1024x256.size inb_S1024x5632_S1024x256_0_5120))
        (View.ld d (Rect.unit ![2304, 0] S256x1024.size inb_S2816x1024_S256x1024_2304_0)))) (chunk (k0_pay4 A B W g) (View.ld w (Rect.unit ![0, 2560] S1024x256.size inb_S1024x5632_S1024x256_0_2560))
        (View.ld w (Rect.unit ![0, 5376] S1024x256.size inb_S1024x5632_S1024x256_0_5376))
        (View.ld d (Rect.unit ![2560, 0] S256x1024.size inb_S2816x1024_S256x1024_2560_0)))) (Scalar.ofBits .f32 0x3F000000#32) gf (ix2 r l)
      = rms (halfFfn f (fun k => g (ix2 0 k)) (fun j k => w (ix2 j k)) (fun k l => d (ix2 k l))) (fun k => gf (ix2 0 k)) l := by
  obtain rfl : (fun k => k0_pay3 A B W (ix2 r k)) = f := funext hX
  rw [final_apply]
  refine congrArg (fun f => rms f _ l) (funext fun l => ?_)
  rw [halfFfn, ffnSum_eq_parts]
  simp only [ValueIdx.addf_apply]
  rw [chunk_apply _ w d 0 2816 (by omega) rfl, chunk_apply _ w d 256 3072 (by omega) rfl, chunk_apply _ w d 512 3328 (by omega) rfl, chunk_apply _ w d 768 3584 (by omega) rfl, chunk_apply _ w d 1024 3840 (by omega) rfl, chunk_apply _ w d 1280 4096 (by omega) rfl, chunk_apply _ w d 1536 4352 (by omega) rfl, chunk_apply _ w d 1792 4608 (by omega) rfl, chunk_apply _ w d 2048 4864 (by omega) rfl, chunk_apply _ w d 2304 5120 (by omega) rfl, chunk_apply _ w d 2560 5376 (by omega) rfl]
  simp only [pay4_apply]

/-- What the body leaves in the output block. -/
theorem out_apply (c : Dev nD) (i : grid0.Coords)
    (arg1 : Memref sig .tc .vmem S128x1024 .f32) (harg1 : arg1.IsWhole)
    (arg2 : Memref sig .tc .vmem S128x512 .f32) (harg2 : arg2.IsWhole)
    (arg3 : Memref sig .tc .vmem S128x512 .f32) (harg3 : arg3.IsWhole)
    (arg4 : Memref sig .tc .vmem S128x512 .f32) (harg4 : arg4.IsWhole)
    (arg5 : Memref sig .tc .vmem S1x2x512 .f32) (harg5 : arg5.IsWhole)
    (arg6 : Memref sig .tc .vmem S128x512 .f32) (harg6 : arg6.IsWhole)
    (arg7 : Memref sig .tc .vmem S128x1024 .f32) (harg7 : arg7.IsWhole)
    (arg8 : Memref sig .tc .vmem S128x1024 .f32) (harg8 : arg8.IsWhole)
    (arg9 : Memref sig .tc .vmem S128x512 .bf16) (harg9 : arg9.IsWhole)
    (arg10 : Memref sig .tc .vmem S3x512 .f32) (harg10 : arg10.IsWhole)
    (arg11 : Memref sig .tc .vmem S512x1024 .bf16) (harg11 : arg11.IsWhole)
    (arg12 : Memref sig .tc .vmem S512x1024 .bf16) (harg12 : arg12.IsWhole)
    (arg13 : Memref sig .tc .vmem S1024x1024 .bf16) (harg13 : arg13.IsWhole)
    (arg14 : Memref sig .tc .vmem S1x1024 .f32) (harg14 : arg14.IsWhole)
    (arg15 : Memref sig .tc .vmem S1024x5632 .bf16) (harg15 : arg15.IsWhole)
    (arg16 : Memref sig .tc .vmem S2816x1024 .bf16) (harg16 : arg16.IsWhole)
    (arg17 : Memref sig .tc .vmem S1x1024 .f32) (harg17 : arg17.IsWhole)
    (arg18 : Memref sig .tc .vmem S128x1024 .f32) (harg18 : arg18.IsWhole)
    (arg19 : Memref sig .tc .vmem S128x1024 .f32) (harg19 : arg19.IsWhole)
    (x0 : Vec Ideal S128x1024 .f32) (x1 : Vec Ideal S128x512 .f32) (x2 : Vec Ideal S128x512 .f32) (x3 : Vec Ideal S128x512 .f32) (x4 : Vec Ideal S1x2x512 .f32) (x5 : Vec Ideal S128x512 .f32) (x6 : Vec Ideal S128x1024 .f32) (x7 : Vec Ideal S128x1024 .f32) (x8 : Vec Ideal S128x512 .bf16) (x9 : Vec Ideal S3x512 .f32) (x10 : Vec Ideal S512x1024 .bf16) (x11 : Vec Ideal S512x1024 .bf16) (x12 : Vec Ideal S1024x1024 .bf16) (x13 : Vec Ideal S1x1024 .f32) (x14 : Vec Ideal S1024x5632 .bf16) (x15 : Vec Ideal S2816x1024 .bf16) (x16 : Vec Ideal S1x1024 .f32) (r : Fin 128) (l : Fin 1024) :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 (ix2 r l)
      = rms (halfFfn (mixRow (fun k => x0 (ix2 r k)) (fun k => x6 (ix2 r k)) (fun k => x7 (ix2 r k)) (fun k => x5 (ix2 r k))
          (conv3 (fun a k => x9 (ix2 a k)) (fun k => x3 (ix2 r k)) (fun k => x2 (ix2 r k)) (fun k => x1 (ix2 r k)))
          (fun k => x8 (ix2 r k)) (fun k j => x10 (ix2 k j)) (fun k j => x11 (ix2 k j)) (fun k j => x12 (ix2 k j)))
        (fun k => x13 (ix2 0 k)) (fun j k => x14 (ix2 j k)) (fun k l => x15 (ix2 k l))) (fun k => x16 (ix2 0 k)) l := by
  unfold out0_A_17
  rw [View.read_writes_eq_canon _ _ _ (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16)]
  unfold kernelRun0_A
  dsimp only
  sl_unfold_words
  simp only [View.canon_unit_zero (S := S128x1024) zero2, View.readCov_full (s := S128x1024), View.readAt_eq_ld,
    harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S128x1024) zero2,
    View.ld_unit_zero (S := S512x1024) zero2,
    View.ld_unit_zero (S := S1x1024) zero2, View.ld_unit_zero (S := S128x512) zero2, View.ld_unit_zero (S := S1024x1024) zero2]
  simp only [pay6_eq, pay7_eq, pay10_eq, pay12_eq, pay13_eq, pay16_eq, pay19_eq, pay20_eq, pay22_eq, pay24_eq, pay25_eq]
  refine half_apply _ _ _ x13 x14 x15 x16 _ r (fun k => ?_) l
  rw [pay3_apply]
  have c0 := fun h k => ld_row (n := 3) x9 0 h k
  have c1 := fun h k => ld_row (n := 3) x9 1 h k
  have c2 := fun h k => ld_row (n := 3) x9 2 h k
  simp only [Fin.val_zero, Fin.val_one, Fin.val_two, Fin.isValue] at c0 c1 c2
  simp only [c0, c1, c2]
  rfl

end Cert.MergeSampleIdeal.Hand

end
-- ==== Proof.MergeSampleValue.lean ====
/-
  The result array of the merge over the sample tokens: every row is the final scaling of the feed-forward half step of
  the merged row, and so is every row of the reference's result.
-/
module

public import proofs.«01_k».proof.Proof.MergeSampleKernel
public import proofs.«01_k».proof.Proof.Gen.RefMergeSampleIdeal.Value
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)

namespace Cert.MergeSampleIdeal.Hand

open Cert.MergeSampleIdeal Cert.MergeSampleIdeal.Gen Cert.LayerMath

variable (m : (ℓ : Loc nD τ sig) → Buf (Elt Ideal) ℓ) (ρ : Dev nD → PrngReg)

/-- The merged row of sample `r`: its two older taps are the rows of the carried state. -/
def mixed (h : S128x1024.Idx → EReal) (z : S128x512.Idx → EReal) (st : S128x2x512.Idx → EReal) (bc : S128x512.Idx → EReal)
    (sgc sga : S128x1024.Idx → EReal) (o : S128x512.Idx → EReal)
    (cw : S3x512.Idx → EReal) (woc woa : S512x1024.Idx → EReal) (wo : S1024x1024.Idx → EReal) (r : Fin 128) : Fin 1024 → EReal :=
  mixRow (fun k => h (ix2 r k)) (fun k => sgc (ix2 r k)) (fun k => sga (ix2 r k)) (fun k => bc (ix2 r k))
    (conv3 (fun a k => cw (ix2 a k)) (fun k => st (ix3 r 0 k)) (fun k => st (ix3 r 1 k)) (fun k => z (ix2 r k)))
    (fun k => o (ix2 r k)) (fun k j => woc (ix2 k j)) (fun k j => woa (ix2 k j)) (fun k j => wo (ix2 k j))

/-- The result, index by index, of the launch contents of the arguments. -/
def result (h : S128x1024.Idx → EReal) (z : S128x512.Idx → EReal) (st : S128x2x512.Idx → EReal) (bc : S128x512.Idx → EReal)
    (sgc sga : S128x1024.Idx → EReal) (o : S128x512.Idx → EReal)
    (cw : S3x512.Idx → EReal) (woc woa : S512x1024.Idx → EReal) (wo : S1024x1024.Idx → EReal) (g : S1024.Idx → EReal)
    (win : S1024x5632.Idx → EReal) (wd : S2816x1024.Idx → EReal) (gf : S1024.Idx → EReal) : S128x1024.Idx → EReal := fun i =>
  rms (halfFfn (mixed h z st bc sgc sga o cw woc woa wo (i 0)) (fun k => g (ix1 k)) (fun j k => win (ix2 j k)) (fun k l => wd (ix2 k l)))
    (fun k => gf (ix1 k)) (i 1)

theorem V_z1 (c : Dev nD) : (V m c main_v2 : Vec Ideal S128x512 .f32) = shapeCast S128x512 (extractStridedSlice S128x1x512 ![0, 1, 0] (m ((c : Thread nD τ).loc main_arg2)) slices_S128x2x512_S128x1x512_0_1_0) shapeCasts_S128x1x512_S128x512 := by
  show StableHlo.after hostOps0 _ _ = _
  simp only [hostOps0]; after_results_simp; rfl
theorem V_z2 (c : Dev nD) : (V m c main_v4 : Vec Ideal S128x512 .f32) = shapeCast S128x512 (extractStridedSlice S128x1x512 ![0, 0, 0] (m ((c : Thread nD τ).loc main_arg2)) slices_S128x2x512_S128x1x512_0_0_0) shapeCasts_S128x1x512_S128x512 := by
  show StableHlo.after hostOps0 _ _ = _
  simp only [hostOps0]; after_results_simp; rfl
theorem V_woc (c : Dev nD) : (V m c main_v5 : Vec Ideal S512x1024 .bf16) = m ((c : Thread nD τ).loc main_arg8) := by
  show StableHlo.after hostOps0 _ _ = _
  simp only [hostOps0]; after_results_simp; rfl
theorem V_woa (c : Dev nD) : (V m c main_v6 : Vec Ideal S512x1024 .bf16) = m ((c : Thread nD τ).loc main_arg9) := by
  show StableHlo.after hostOps0 _ _ = _
  simp only [hostOps0]; after_results_simp; rfl
theorem V_wout (c : Dev nD) : (V m c main_v7 : Vec Ideal S1024x1024 .bf16) = m ((c : Thread nD τ).loc main_arg10) := by
  show StableHlo.after hostOps0 _ _ = _
  simp only [hostOps0]; after_results_simp; rfl
theorem V_g (c : Dev nD) : (V m c main_v8 : Vec Ideal S1x1024 .f32) = shapeCast S1x1024 (m ((c : Thread nD τ).loc main_arg11)) shapeCasts_S1024_S1x1024 := by
  show StableHlo.after hostOps0 _ _ = _
  simp only [hostOps0]; after_results_simp; rfl
theorem V_win (c : Dev nD) : (V m c main_v9 : Vec Ideal S1024x5632 .bf16) = m ((c : Thread nD τ).loc main_arg12) := by
  show StableHlo.after hostOps0 _ _ = _
  simp only [hostOps0]; after_results_simp; rfl
theorem V_wd (c : Dev nD) : (V m c main_v10 : Vec Ideal S2816x1024 .bf16) = m ((c : Thread nD τ).loc main_arg13) := by
  show StableHlo.after hostOps0 _ _ = _
  simp only [hostOps0]; after_results_simp; rfl
theorem V_gf (c : Dev nD) : (V m c main_v11 : Vec Ideal S1x1024 .f32) = shapeCast S1x1024 (m ((c : Thread nD τ).loc main_arg14)) shapeCasts_S1024_S1x1024 := by
  show StableHlo.after hostOps0 _ _ = _
  simp only [hostOps0]; after_results_simp; rfl
theorem idx_h : ∀ t : Fin cfg0.N, win0_0.index t 0 = 0 ∧ win0_0.index t 1 = 0 :=
  (by decide +kernel : ∀ t : Fin grid0.N, win0_0.index t 0 = 0 ∧ win0_0.index t 1 = 0)
theorem idx_z : ∀ t : Fin cfg0.N, win0_1.index t 0 = 0 ∧ win0_1.index t 1 = 0 :=
  (by decide +kernel : ∀ t : Fin grid0.N, win0_1.index t 0 = 0 ∧ win0_1.index t 1 = 0)
theorem idx_z1 : ∀ t : Fin cfg0.N, win0_2.index t 0 = 0 ∧ win0_2.index t 1 = 0 :=
  (by decide +kernel : ∀ t : Fin grid0.N, win0_2.index t 0 = 0 ∧ win0_2.index t 1 = 0)
theorem idx_z2 : ∀ t : Fin cfg0.N, win0_3.index t 0 = 0 ∧ win0_3.index t 1 = 0 :=
  (by decide +kernel : ∀ t : Fin grid0.N, win0_3.index t 0 = 0 ∧ win0_3.index t 1 = 0)
theorem idx_bc : ∀ t : Fin cfg0.N, win0_5.index t 0 = 0 ∧ win0_5.index t 1 = 0 :=
  (by decide +kernel : ∀ t : Fin grid0.N, win0_5.index t 0 = 0 ∧ win0_5.index t 1 = 0)
theorem idx_sgc : ∀ t : Fin cfg0.N, win0_6.index t 0 = 0 ∧ win0_6.index t 1 = 0 :=
  (by decide +kernel : ∀ t : Fin grid0.N, win0_6.index t 0 = 0 ∧ win0_6.index t 1 = 0)
theorem idx_sga : ∀ t : Fin cfg0.N, win0_7.index t 0 = 0 ∧ win0_7.index t 1 = 0 :=
  (by decide +kernel : ∀ t : Fin grid0.N, win0_7.index t 0 = 0 ∧ win0_7.index t 1 = 0)
theorem idx_o : ∀ t : Fin cfg0.N, win0_8.index t 0 = 0 ∧ win0_8.index t 1 = 0 :=
  (by decide +kernel : ∀ t : Fin grid0.N, win0_8.index t 0 = 0 ∧ win0_8.index t 1 = 0)
theorem idx_cw : ∀ t : Fin cfg0.N, win0_9.index t 0 = 0 ∧ win0_9.index t 1 = 0 :=
  (by decide +kernel : ∀ t : Fin grid0.N, win0_9.index t 0 = 0 ∧ win0_9.index t 1 = 0)
theorem idx_woc : ∀ t : Fin cfg0.N, win0_10.index t 0 = 0 ∧ win0_10.index t 1 = 0 :=
  (by decide +kernel : ∀ t : Fin grid0.N, win0_10.index t 0 = 0 ∧ win0_10.index t 1 = 0)
theorem idx_woa : ∀ t : Fin cfg0.N, win0_11.index t 0 = 0 ∧ win0_11.index t 1 = 0 :=
  (by decide +kernel : ∀ t : Fin grid0.N, win0_11.index t 0 = 0 ∧ win0_11.index t 1 = 0)
theorem idx_wout : ∀ t : Fin cfg0.N, win0_12.index t 0 = 0 ∧ win0_12.index t 1 = 0 :=
  (by decide +kernel : ∀ t : Fin grid0.N, win0_12.index t 0 = 0 ∧ win0_12.index t 1 = 0)
theorem idx_g : ∀ t : Fin cfg0.N, win0_13.index t 0 = 0 ∧ win0_13.index t 1 = 0 :=
  (by decide +kernel : ∀ t : Fin grid0.N, win0_13.index t 0 = 0 ∧ win0_13.index t 1 = 0)
theorem idx_win : ∀ t : Fin cfg0.N, win0_14.index t 0 = 0 ∧ win0_14.index t 1 = 0 :=
  (by decide +kernel : ∀ t : Fin grid0.N, win0_14.index t 0 = 0 ∧ win0_14.index t 1 = 0)
theorem idx_wd : ∀ t : Fin cfg0.N, win0_15.index t 0 = 0 ∧ win0_15.index t 1 = 0 :=
  (by decide +kernel : ∀ t : Fin grid0.N, win0_15.index t 0 = 0 ∧ win0_15.index t 1 = 0)
theorem idx_gf : ∀ t : Fin cfg0.N, win0_16.index t 0 = 0 ∧ win0_16.index t 1 = 0 :=
  (by decide +kernel : ∀ t : Fin grid0.N, win0_16.index t 0 = 0 ∧ win0_16.index t 1 = 0)
theorem idx_out : ∀ t : Fin cfg0.N, win0_17.index t 0 = 0 ∧ win0_17.index t 1 = 0 :=
  (by decide +kernel : ∀ t : Fin grid0.N, win0_17.index t 0 = 0 ∧ win0_17.index t 1 = 0)
theorem iblk_h (c : Dev nD) (t : Fin cfg0.N) (r : Fin 128) (k : Fin 1024) :
    (iblk m c 0 t : Vec Ideal S128x1024 .f32) (ix2 r k)
      = m ((c : Thread nD τ).loc main_arg0) (ix2 r k : S128x1024.Idx) := by
  unfold iblk
  rw [View.read_apply]
  show V m c main_arg0 _ = _
  rw [V_main_arg0]
  congr 1
  funext a
  apply Fin.ext
  match a with
  | ⟨0, _⟩ => show win0_0.index t 0 * 128 + 1 * r.val = r.val; rw [(idx_h t).1]; omega
  | ⟨1, _⟩ => show win0_0.index t 1 * 1024 + 1 * k.val = k.val; rw [(idx_h t).2]; omega

theorem iblk_z (c : Dev nD) (t : Fin cfg0.N) (r : Fin 128) (k : Fin 512) :
    (iblk m c 1 t : Vec Ideal S128x512 .f32) (ix2 r k)
      = m ((c : Thread nD τ).loc main_arg1) (ix2 r k : S128x512.Idx) := by
  unfold iblk
  rw [View.read_apply]
  show V m c main_arg1 _ = _
  rw [V_main_arg1]
  congr 1
  funext a
  apply Fin.ext
  match a with
  | ⟨0, _⟩ => show win0_1.index t 0 * 128 + 1 * r.val = r.val; rw [(idx_z t).1]; omega
  | ⟨1, _⟩ => show win0_1.index t 1 * 512 + 1 * k.val = k.val; rw [(idx_z t).2]; omega

theorem iblk_z1 (c : Dev nD) (t : Fin cfg0.N) (r : Fin 128) (k : Fin 512) :
    (iblk m c 2 t : Vec Ideal S128x512 .f32) (ix2 r k)
      = m ((c : Thread nD τ).loc main_arg2) (ix3 r 1 k : S128x2x512.Idx) := by
  unfold iblk
  rw [View.read_apply]
  show V m c main_v2 _ = _
  rw [V_z1]
  have e : ∀ y : Vec Ideal S128x2x512 .f32, shapeCast S128x512 (extractStridedSlice S128x1x512 ![0, 1, 0] y
      slices_S128x2x512_S128x1x512_0_1_0) shapeCasts_S128x1x512_S128x512 (ix2 r k) = y (ix3 r 1 k) := fun y => by pointwise
  rw [← e (m ((c : Thread nD τ).loc main_arg2))]
  congr 1
  funext a
  apply Fin.ext
  match a with
  | ⟨0, _⟩ => show win0_2.index t 0 * 128 + 1 * r.val = r.val; rw [(idx_z1 t).1]; omega
  | ⟨1, _⟩ => show win0_2.index t 1 * 512 + 1 * k.val = k.val; rw [(idx_z1 t).2]; omega

theorem iblk_z2 (c : Dev nD) (t : Fin cfg0.N) (r : Fin 128) (k : Fin 512) :
    (iblk m c 3 t : Vec Ideal S128x512 .f32) (ix2 r k)
      = m ((c : Thread nD τ).loc main_arg2) (ix3 r 0 k : S128x2x512.Idx) := by
  unfold iblk
  rw [View.read_apply]
  show V m c main_v4 _ = _
  rw [V_z2]
  have e : ∀ y : Vec Ideal S128x2x512 .f32, shapeCast S128x512 (extractStridedSlice S128x1x512 ![0, 0, 0] y
      slices_S128x2x512_S128x1x512_0_0_0) shapeCasts_S128x1x512_S128x512 (ix2 r k) = y (ix3 r 0 k) := fun y => by pointwise
  rw [← e (m ((c : Thread nD τ).loc main_arg2))]
  congr 1
  funext a
  apply Fin.ext
  match a with
  | ⟨0, _⟩ => show win0_3.index t 0 * 128 + 1 * r.val = r.val; rw [(idx_z2 t).1]; omega
  | ⟨1, _⟩ => show win0_3.index t 1 * 512 + 1 * k.val = k.val; rw [(idx_z2 t).2]; omega

theorem iblk_bc (c : Dev nD) (t : Fin cfg0.N) (r : Fin 128) (k : Fin 512) :
    (iblk m c 5 t : Vec Ideal S128x512 .f32) (ix2 r k)
      = m ((c : Thread nD τ).loc main_arg3) (ix2 r k : S128x512.Idx) := by
  unfold iblk
  rw [View.read_apply]
  show V m c main_arg3 _ = _
  rw [V_main_arg3]
  congr 1
  funext a
  apply Fin.ext
  match a with
  | ⟨0, _⟩ => show win0_5.index t 0 * 128 + 1 * r.val = r.val; rw [(idx_bc t).1]; omega
  | ⟨1, _⟩ => show win0_5.index t 1 * 512 + 1 * k.val = k.val; rw [(idx_bc t).2]; omega

theorem iblk_sgc (c : Dev nD) (t : Fin cfg0.N) (r : Fin 128) (k : Fin 1024) :
    (iblk m c 6 t : Vec Ideal S128x1024 .f32) (ix2 r k)
      = m ((c : Thread nD τ).loc main_arg4) (ix2 r k : S128x1024.Idx) := by
  unfold iblk
  rw [View.read_apply]
  show V m c main_arg4 _ = _
  rw [V_main_arg4]
  congr 1
  funext a
  apply Fin.ext
  match a with
  | ⟨0, _⟩ => show win0_6.index t 0 * 128 + 1 * r.val = r.val; rw [(idx_sgc t).1]; omega
  | ⟨1, _⟩ => show win0_6.index t 1 * 1024 + 1 * k.val = k.val; rw [(idx_sgc t).2]; omega

theorem iblk_sga (c : Dev nD) (t : Fin cfg0.N) (r : Fin 128) (k : Fin 1024) :
    (iblk m c 7 t : Vec Ideal S128x1024 .f32) (ix2 r k)
      = m ((c : Thread nD τ).loc main_arg5) (ix2 r k : S128x1024.Idx) := by
  unfold iblk
  rw [View.read_apply]
  show V m c main_arg5 _ = _
  rw [V_main_arg5]
  congr 1
  funext a
  apply Fin.ext
  match a with
  | ⟨0, _⟩ => show win0_7.index t 0 * 128 + 1 * r.val = r.val; rw [(idx_sga t).1]; omega
  | ⟨1, _⟩ => show win0_7.index t 1 * 1024 + 1 * k.val = k.val; rw [(idx_sga t).2]; omega

theorem iblk_o (c : Dev nD) (t : Fin cfg0.N) (r : Fin 128) (k : Fin 512) :
    (iblk m c 8 t : Vec Ideal S128x512 .bf16) (ix2 r k)
      = m ((c : Thread nD τ).loc main_arg6) (ix2 r k : S128x512.Idx) := by
  unfold iblk
  rw [View.read_apply]
  show V m c main_arg6 _ = _
  rw [V_main_arg6]
  congr 1
  funext a
  apply Fin.ext
  match a with
  | ⟨0, _⟩ => show win0_8.index t 0 * 128 + 1 * r.val = r.val; rw [(idx_o t).1]; omega
  | ⟨1, _⟩ => show win0_8.index t 1 * 512 + 1 * k.val = k.val; rw [(idx_o t).2]; omega

theorem iblk_cw (c : Dev nD) (t : Fin cfg0.N) (r : Fin 3) (k : Fin 512) :
    (iblk m c 9 t : Vec Ideal S3x512 .f32) (ix2 r k)
      = m ((c : Thread nD τ).loc main_arg7) (ix2 r k : S3x512.Idx) := by
  unfold iblk
  rw [View.read_apply]
  show V m c main_arg7 _ = _
  rw [V_main_arg7]
  congr 1
  funext a
  apply Fin.ext
  match a with
  | ⟨0, _⟩ => show win0_9.index t 0 * 3 + 1 * r.val = r.val; rw [(idx_cw t).1]; omega
  | ⟨1, _⟩ => show win0_9.index t 1 * 512 + 1 * k.val = k.val; rw [(idx_cw t).2]; omega

theorem iblk_woc (c : Dev nD) (t : Fin cfg0.N) (r : Fin 512) (k : Fin 1024) :
    (iblk m c 10 t : Vec Ideal S512x1024 .bf16) (ix2 r k)
      = m ((c : Thread nD τ).loc main_arg8) (ix2 r k : S512x1024.Idx) := by
  unfold iblk
  rw [View.read_apply]
  show V m c main_v5 _ = _
  rw [V_woc]
  congr 1
  funext a
  apply Fin.ext
  match a with
  | ⟨0, _⟩ => show win0_10.index t 0 * 512 + 1 * r.val = r.val; rw [(idx_woc t).1]; omega
  | ⟨1, _⟩ => show win0_10.index t 1 * 1024 + 1 * k.val = k.val; rw [(idx_woc t).2]; omega

theorem iblk_woa (c : Dev nD) (t : Fin cfg0.N) (r : Fin 512) (k : Fin 1024) :
    (iblk m c 11 t : Vec Ideal S512x1024 .bf16) (ix2 r k)
      = m ((c : Thread nD τ).loc main_arg9) (ix2 r k : S512x1024.Idx) := by
  unfold iblk
  rw [View.read_apply]
  show V m c main_v6 _ = _
  rw [V_woa]
  congr 1
  funext a
  apply Fin.ext
  match a with
  | ⟨0, _⟩ => show win0_11.index t 0 * 512 + 1 * r.val = r.val; rw [(idx_woa t).1]; omega
  | ⟨1, _⟩ => show win0_11.index t 1 * 1024 + 1 * k.val = k.val; rw [(idx_woa t).2]; omega

theorem iblk_wout (c : Dev nD) (t : Fin cfg0.N) (r : Fin 1024) (k : Fin 1024) :
    (iblk m c 12 t : Vec Ideal S1024x1024 .bf16) (ix2 r k)
      = m ((c : Thread nD τ).loc main_arg10) (ix2 r k : S1024x1024.Idx) := by
  unfold iblk
  rw [View.read_apply]
  show V m c main_v7 _ = _
  rw [V_wout]
  congr 1
  funext a
  apply Fin.ext
  match a with
  | ⟨0, _⟩ => show win0_12.index t 0 * 1024 + 1 * r.val = r.val; rw [(idx_wout t).1]; omega
  | ⟨1, _⟩ => show win0_12.index t 1 * 1024 + 1 * k.val = k.val; rw [(idx_wout t).2]; omega

theorem iblk_g (c : Dev nD) (t : Fin cfg0.N) (k : Fin 1024) :
    (iblk m c 13 t : Vec Ideal S1x1024 .f32) (ix2 0 k) = m ((c : Thread nD τ).loc main_arg11) (ix1 k : S1024.Idx) := by
  unfold iblk
  rw [View.read_apply]
  show V m c main_v8 _ = _
  rw [V_g]
  have e : ∀ y : Vec Ideal S1024 .f32, shapeCast S1x1024 y shapeCasts_S1024_S1x1024 (ix2 0 k) = y (ix1 k) := fun y => by pointwise
  rw [← e (m ((c : Thread nD τ).loc main_arg11))]
  congr 1
  funext a
  apply Fin.ext
  match a with
  | ⟨0, _⟩ => show win0_13.index t 0 * 1 + 1 * 0 = 0; rw [(idx_g t).1]
  | ⟨1, _⟩ => show win0_13.index t 1 * 1024 + 1 * k.val = k.val; rw [(idx_g t).2]; omega

theorem iblk_win (c : Dev nD) (t : Fin cfg0.N) (r : Fin 1024) (k : Fin 5632) :
    (iblk m c 14 t : Vec Ideal S1024x5632 .bf16) (ix2 r k)
      = m ((c : Thread nD τ).loc main_arg12) (ix2 r k : S1024x5632.Idx) := by
  unfold iblk
  rw [View.read_apply]
  show V m c main_v9 _ = _
  rw [V_win]
  congr 1
  funext a
  apply Fin.ext
  match a with
  | ⟨0, _⟩ => show win0_14.index t 0 * 1024 + 1 * r.val = r.val; rw [(idx_win t).1]; omega
  | ⟨1, _⟩ => show win0_14.index t 1 * 5632 + 1 * k.val = k.val; rw [(idx_win t).2]; omega

theorem iblk_wd (c : Dev nD) (t : Fin cfg0.N) (r : Fin 2816) (k : Fin 1024) :
    (iblk m c 15 t : Vec Ideal S2816x1024 .bf16) (ix2 r k)
      = m ((c : Thread nD τ).loc main_arg13) (ix2 r k : S2816x1024.Idx) := by
  unfold iblk
  rw [View.read_apply]
  show V m c main_v10 _ = _
  rw [V_wd]
  congr 1
  funext a
  apply Fin.ext
  match a with
  | ⟨0, _⟩ => show win0_15.index t 0 * 2816 + 1 * r.val = r.val; rw [(idx_wd t).1]; omega
  | ⟨1, _⟩ => show win0_15.index t 1 * 1024 + 1 * k.val = k.val; rw [(idx_wd t).2]; omega

theorem iblk_gf (c : Dev nD) (t : Fin cfg0.N) (k : Fin 1024) :
    (iblk m c 16 t : Vec Ideal S1x1024 .f32) (ix2 0 k) = m ((c : Thread nD τ).loc main_arg14) (ix1 k : S1024.Idx) := by
  unfold iblk
  rw [View.read_apply]
  show V m c main_v11 _ = _
  rw [V_gf]
  have e : ∀ y : Vec Ideal S1024 .f32, shapeCast S1x1024 y shapeCasts_S1024_S1x1024 (ix2 0 k) = y (ix1 k) := fun y => by pointwise
  rw [← e (m ((c : Thread nD τ).loc main_arg14))]
  congr 1
  funext a
  apply Fin.ext
  match a with
  | ⟨0, _⟩ => show win0_16.index t 0 * 1 + 1 * 0 = 0; rw [(idx_gf t).1]
  | ⟨1, _⟩ => show win0_16.index t 1 * 1024 + 1 * k.val = k.val; rw [(idx_gf t).2]; omega

/-- The result array named by the arguments' launch contents. -/
def res (c : Dev nD) : Buf (Elt Ideal) ((c : Thread nD τ).loc main_v12) :=
  result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

/-- What point `t` writes back is block `t` of the result. -/
theorem flushed_eq (c : Dev nD) (t : Fin cfg0.N) :
    (dats m 0 c).flushed 17 t = (win0_17.blk t).view.read (Elt Ideal) (res m c) := by
  rw [Value.flushed17_A]
  funext y
  obtain ⟨r, l, rfl⟩ : ∃ (r : Fin 128) (l : Fin 1024), y = (ix2 r l : S128x1024.Idx) := ⟨y 0, y 1, eq_ix2 y⟩
  rw [View.read_apply]
  refine (out_apply c (grid0.coords t) _ _ _ _ _ _ _ _ _ _ _ _ _ _ _ _ _ _ _ _ _ _ _ _ _ _ _ _ _ _ _ _ _ _ _ _ _ _ _ _ _ _ _ _ _ _ _ _ _ _ _ _ _ _ _ r l).trans ?_
  have e : ((win0_17.blk t).view.emb (ix2 r l : S128x1024.Idx) : S128x1024.Idx)
      = ix2 r l := by
    funext a
    apply Fin.ext
    match a with
    | ⟨0, _⟩ => show win0_17.index t 0 * 128 + 1 * r.val = r.val; rw [(idx_out t).1]; omega
    | ⟨1, _⟩ => show win0_17.index t 1 * 1024 + 1 * l.val = l.val; rw [(idx_out t).2]; omega
  show _ = res m c ((win0_17.blk t).view.emb (ix2 r l : S128x1024.Idx) : S128x1024.Idx)
  rw [e]
  simp only [iblk_h, iblk_z, iblk_z1, iblk_z2, iblk_bc, iblk_sgc, iblk_sga, iblk_o, iblk_cw, iblk_woc, iblk_woa, iblk_wout, iblk_g, iblk_win, iblk_wd, iblk_gf]
  rfl

/-- The blocks tile the result array. -/
theorem cover (i : S128x1024.Idx) : ∃ t : Fin cfg0.N, (cfg0.win 17).flush t = true ∧ i ∈ ((cfg0.win 17).blk t).view.set := by
  have h0 : (i 0 : Nat) < 128 := (i 0).isLt
  have h1 : (i 1 : Nat) < 1024 := (i 1).isLt
  have hN : cfg0.N = 1 := N_0
  refine ⟨⟨0, by rw [hN]; omega⟩, flush0_17 _, ?_⟩
  generalize ht : (⟨0, _⟩ : Fin cfg0.N) = t
  have hv : t.val = 0 := by rw [← ht]
  show i ∈ ((View.whole main_v12).slice (win0_17.rect t)).set
  rw [View.set_slice_whole, Rect.mem_set_unit]
  intro a
  match a with
  | ⟨0, _⟩ => show win0_17.index t 0 * 128 ≤ (i 0 : Nat) ∧ (i 0 : Nat) < win0_17.index t 0 * 128 + 128
              rw [(idx_out t).1]; omega
  | ⟨1, _⟩ => show win0_17.index t 1 * 1024 ≤ (i 1 : Nat) ∧ (i 1 : Nat) < win0_17.index t 1 * 1024 + 1024
              rw [(idx_out t).2]; omega

theorem final (c : Dev nD) : (dats m 0 c).arrAt 17 cfg0.N = res m c :=
  (dats m 0 c).arrAt_eq_of_cover 17 (res m c) (fun t _ => flushed_eq m c t) cover

end Cert.MergeSampleIdeal.Hand

namespace Cert.RefMergeSampleIdeal.Hand

open Cert.RefMergeSampleIdeal Cert.RefMergeSampleIdeal.Gen Cert.LayerMath Cert.MergeSampleIdeal.Hand

/-- The reference's merged rows. -/
def mixV (h : FVec Ideal S128x1024 .f32) (cv bc : FVec Ideal S128x512 .f32) (sgc sga : FVec Ideal S128x1024 .f32)
    (o : FVec Ideal S128x512 .bf16) (woc woa : FVec Ideal S512x1024 .f32) (wo : FVec Ideal S1024x1024 .f32) : FVec Ideal S128x1024 .f32 :=
  addf h (matmul dot_S128x1024_S1024x1024_S128x1024_1_0_0_1_n_n none
    (addf (mulf sgc (matmul dot_S128x512_S512x1024_S128x1024_1_0_0_1_n_n none (mulf bc cv) woc (constant S128x1024 .f32 0x00000000#32)))
      (mulf sga (matmul dot_S128x512_S512x1024_S128x1024_1_0_0_1_n_n none (extf .f32 o bitsLt_bf16_f32) woa
        (constant S128x1024 .f32 0x00000000#32)))) wo (constant S128x1024 .f32 0x00000000#32))

/-- The reciprocal root of each row's mean square. -/
def scaleV (x : FVec Ideal S128x1024 .f32) : FVec Ideal S128x1 .f32 :=
  rsqrt (addf (divf (shapeCast S128x1 (multiReduction .add [1] S128 (mulf x x) 0x00000000#32 reduces_S128x1024_S128 (.inl rfl) rfl)
    shapeCasts_S128_S128x1) (broadcast S128x1 (Scalar.ofBits .f32 0x44800000#32))) (broadcast S128x1 (Scalar.ofBits .f32 0x358637BD#32)))

/-- The rows scaled, and by the weights. -/
def normV (x : FVec Ideal S128x1024 .f32) (w : FVec Ideal S1024 .f32) : FVec Ideal S128x1024 .f32 :=
  mulf (mulf x (broadcastTo S128x1024 (scaleV x) broadcasts_S128x1_S128x1024))
    (broadcastTo S128x1024 (shapeCast S1x1024 w shapeCasts_S1024_S1x1024) broadcasts_S1x1024_S128x1024)

/-- The hidden units of the feed-forward block. -/
def hiddenV (h : FVec Ideal S128x1024 .f32) (win : FVec Ideal S1024x5632 .f32) : FVec Ideal S128x2816 .f32 :=
  mulf (mulf (extractStridedSlice S128x2816 ![0, 0] (matmul dot_S128x1024_S1024x5632_S128x5632_1_0_0_1_n_n none h win
      (constant S128x5632 .f32 0x00000000#32)) slices_S128x5632_o0_0_S128x2816)
    (logistic (extractStridedSlice S128x2816 ![0, 0] (matmul dot_S128x1024_S1024x5632_S128x5632_1_0_0_1_n_n none h win
      (constant S128x5632 .f32 0x00000000#32)) slices_S128x5632_o0_0_S128x2816)))
    (extractStridedSlice S128x2816 ![0, 2816] (matmul dot_S128x1024_S1024x5632_S128x5632_1_0_0_1_n_n none h win
      (constant S128x5632 .f32 0x00000000#32)) slices_S128x5632_o0_2816_S128x2816)

/-- The rows after the feed-forward half step. -/
def halfV (x : FVec Ideal S128x1024 .f32) (w : FVec Ideal S1024 .f32) (win : FVec Ideal S1024x5632 .f32) (wd : FVec Ideal S2816x1024 .f32) :
    FVec Ideal S128x1024 .f32 :=
  addf x (mulf (broadcast S128x1024 (Scalar.ofBits .f32 0x3F000000#32))
    (matmul dot_S128x2816_S2816x1024_S128x1024_1_0_0_1_n_n none (hiddenV (normV x w) win) wd (constant S128x1024 .f32 0x00000000#32)))

theorem mixV_apply (h : FVec Ideal S128x1024 .f32) (cv bc : FVec Ideal S128x512 .f32) (sgc sga : FVec Ideal S128x1024 .f32)
    (o : FVec Ideal S128x512 .bf16) (woc woa : FVec Ideal S512x1024 .f32) (wo : FVec Ideal S1024x1024 .f32) (r : Fin 128) (l : Fin 1024) :
    mixV h cv bc sgc sga o woc woa wo (ix2 r l)
      = mixRow (fun k => h (ix2 r k)) (fun k => sgc (ix2 r k)) (fun k => sga (ix2 r k)) (fun k => bc (ix2 r k)) (fun k => cv (ix2 r k))
        (fun k => o (ix2 r k)) (fun k j => woc (ix2 k j)) (fun k j => woa (ix2 k j)) (fun k j => wo (ix2 k j)) l := by
  pointwise [mixV, mixRow, branches, dot_S128x1024_S1024x1024_S128x1024_1_0_0_1_n_n, dot_S128x512_S512x1024_S128x1024_1_0_0_1_n_n]

theorem normV_apply (x : FVec Ideal S128x1024 .f32) (w : FVec Ideal S1024 .f32) (r : Fin 128) (l : Fin 1024) :
    normV x w (ix2 r l) = rms (fun k => x (ix2 r k)) (fun k => w (ix1 k)) l := by
  pointwise [normV, scaleV, rms]

theorem hiddenV_apply (h : FVec Ideal S128x1024 .f32) (win : FVec Ideal S1024x5632 .f32) (r : Fin 128) (k : Fin 2816) :
    hiddenV h win (ix2 r k) = hiddenUnit (fun k => h (ix2 r k)) (fun j k => win (ix2 j k)) k := by
  pointwise [hiddenV, hiddenUnit, gated, Ideal.logistic, zero_sub, dot_S128x1024_S1024x5632_S128x5632_1_0_0_1_n_n]

theorem halfV_apply (x : FVec Ideal S128x1024 .f32) (w : FVec Ideal S1024 .f32) (win : FVec Ideal S1024x5632 .f32)
    (wd : FVec Ideal S2816x1024 .f32) (r : Fin 128) (l : Fin 1024) :
    halfV x w win wd (ix2 r l)
      = halfFfn (fun k => x (ix2 r k)) (fun k => w (ix1 k)) (fun j k => win (ix2 j k)) (fun k l => wd (ix2 k l)) l := by
  have e := hiddenV_apply (normV x w) win
  have n := normV_apply x w
  pointwise [halfV, halfFfn, ffnSum, e, n, dot_S128x2816_S2816x1024_S128x1024_1_0_0_1_n_n]

/-- The three-tap convolution of rows, at an index. -/
theorem pay2_apply (v0 v7 v15 : Vec Ideal S1x512 .f32) (v2 v9 : Vec Ideal S128x1x512 .f32) (v17 : Vec Ideal S128x512 .f32) (r : Fin 128) (k : Fin 512) :
    k0_pay2 v0 v2 v7 v9 v15 v17 (ix2 r k)
      = v0 (ix2 0 k) * v2 (ix3 r 0 k) + v7 (ix2 0 k) * v9 (ix3 r 0 k) + v15 (ix2 0 k) * v17 (ix2 r k) := by
  pointwise [k0_pay2]

theorem ld_row (x : Vec Ideal S3x512 .f32) (o : Fin 3)
    (h : ∀ a, (![o.val, 0] : Fin 2 → Nat) a + S1x512.size a ≤ S3x512.size a) (k : Fin 512) :
    View.ld x (Rect.unit ![o.val, 0] S1x512.size h) (ix2 0 k) = x (ix2 o k) := by
  refine congrArg x (funext fun a => Fin.ext ?_)
  match a with
  | ⟨0, _⟩ => show o.val + 1 * 0 = o.val; omega
  | ⟨1, _⟩ => show 0 + 1 * k.val = k.val; omega
theorem ld_state (x : Vec Ideal S128x2x512 .f32) (o : Fin 2)
    (h : ∀ a, (![0, o.val, 0] : Fin 3 → Nat) a + S128x1x512.size a ≤ S128x2x512.size a) (r : Fin 128) (k : Fin 512) :
    View.ld x (Rect.unit ![0, o.val, 0] S128x1x512.size h) (ix3 r 0 k) = x (ix3 r o k) := by
  refine congrArg x (funext fun a => Fin.ext ?_)
  match a with
  | ⟨0, _⟩ => show 0 + 1 * r.val = r.val; omega
  | ⟨1, _⟩ => show o.val + 1 * 0 = o.val; omega
  | ⟨2, _⟩ => show 0 + 1 * k.val = k.val; omega

variable (x0 : Vec Ideal S128x1024 .f32) (x1 : Vec Ideal S128x512 .f32) (x2 : Vec Ideal S128x2x512 .f32) (x3 : Vec Ideal S128x512 .f32)
  (x4 x5 : Vec Ideal S128x1024 .f32) (x6 : Vec Ideal S128x512 .bf16)
  (x7 : Vec Ideal S3x512 .f32) (x8 x9 : Vec Ideal S512x1024 .f32)
  (x10 : Vec Ideal S1024x1024 .f32) (x11 : Vec Ideal S1024 .f32)
  (x12 : Vec Ideal S1024x5632 .f32) (x13 : Vec Ideal S2816x1024 .f32)
  (x14 : Vec Ideal S1024 .f32)

/-- The convolution of the reference: its older taps are the rows of the carried state. -/
theorem conv_apply (r : Fin 128) (k : Fin 512) :
    k0_pay6 (F := Ideal) x0 x1 x2 x3 x4 x5 x6 x7 x8 x9 x10 x11 x12 x13 x14 (ix2 r k)
      = conv3 (fun a k => x7 (ix2 a k)) (fun k => x2 (ix3 r 0 k)) (fun k => x2 (ix3 r 1 k)) (fun k => x1 (ix2 r k)) k := by
  unfold k0_pay6
  rw [pay2_apply]
  have c0 := fun h => ld_row x7 0 h k
  have c1 := fun h => ld_row x7 1 h k
  have c2 := fun h => ld_row x7 2 h k
  have s0 := fun h => ld_state x2 0 h r k
  have s1 := fun h => ld_state x2 1 h r k
  simp only [Fin.val_zero, Fin.val_one, Fin.val_two, Fin.isValue] at c0 c1 c2 s0 s1
  have z : View.ld x1 r0_5 = x1 := View.ld_unit_zero (S := S128x512) zero2 inb_S128x512_S128x512_0_0 x1
  rw [z]
  simp only [c0, c1, c2, s0, s1, r0_0, r0_1, r0_2, r0_3, r0_4]
  rfl

/-- The reference's result is the same function of its arguments. -/
theorem ref_eq : Value.G15 (F := Ideal) x0 x1 x2 x3 x4 x5 x6 x7 x8 x9 x10 x11 x12 x13 x14
    = Cert.MergeSampleIdeal.Hand.result x0 x1 x2 x3 x4 x5 x6 x7 x8 x9 x10 x11 x12 x13 x14 := by
  have e : Value.G15 (F := Ideal) x0 x1 x2 x3 x4 x5 x6 x7 x8 x9 x10 x11 x12 x13 x14
      = normV (halfV (mixV x0 (k0_pay6 x0 x1 x2 x3 x4 x5 x6 x7 x8 x9 x10 x11 x12 x13 x14) x3 x4 x5 x6 x8 x9 x10) x11 x12 x13) x14 := rfl
  rw [e]
  funext i
  obtain ⟨r, l, rfl⟩ : ∃ (r : Fin 128) (l : Fin 1024), i = (ix2 r l : S128x1024.Idx) := ⟨i 0, i 1, eq_ix2 i⟩
  rw [normV_apply]
  simp only [halfV_apply, mixV_apply, conv_apply]
  rfl

end Cert.RefMergeSampleIdeal.Hand

end
-- ==== Proof.MergeSampleClaims.lean ====
/- The five claims of the merge over the sample tokens: both frames of the kernel, the frame of the reference, the (empty) list of
   rewrites of the idealization, and the equality of the results over the extended reals. -/
module

public import proofs.«01_k».proof.Defs
public import proofs.«01_k».proof.Proof.Gen.MergeSample.Frame
public import proofs.«01_k».proof.Proof.Gen.MergeSampleIdeal.Value
public import proofs.«01_k».proof.Proof.Gen.RefMergeSampleIdeal.Value
public import proofs.«01_k».proof.Proof.MergeSampleValue

@[expose] public section

namespace Cert.Proof.MergeSampleClaims

open Idealize.ShloMosaic Idealize.SL.Sem

/-- The kernel's frame over the machine's floats. -/
theorem frame_p : Cert.quiescent_MergeSample := fun m ρ _ => Cert.MergeSample.Gen.frame m ρ

/-- The kernel's frame over the extended reals. -/
theorem frame_pi : Cert.quiescent_MergeSampleIdeal := fun m ρ _ => Cert.MergeSampleIdeal.Gen.frame m ρ

/-- The reference's frame over the extended reals: it ends with its arguments unchanged and its semaphores at rest. -/
theorem frame_ri : Cert.quiescent_RefMergeSampleIdeal := fun m ρ _ => Cert.RefMergeSampleIdeal.Gen.frame m ρ

/-- The idealization rewrote no operation of the kernel. -/
theorem preserves : Cert.preserves_MergeSample_MergeSampleIdeal := trivial

/-- From arguments that agree, the kernel's result array and the reference's are equal: both are
    `MergeSampleIdeal.Hand.result` of the arguments. -/
theorem algebraic : Cert.algebraic_MergeSampleIdeal_RefMergeSampleIdeal := by
  intro m ρ m' ρ' _ hagree
  refine ⟨fun c => Cert.MergeSampleIdeal.Hand.res m c, ?_, ?_⟩
  · exact (θ_run Cert.MergeSampleIdeal.defs _ _).mono
      (fun _ h c => ⟨(h c).1.trans (Cert.MergeSampleIdeal.Hand.final m c), (h c).2⟩)
      (Cert.MergeSampleIdeal.Value.run_blocks m ρ)
  · refine (θ_run Cert.RefMergeSampleIdeal.defs _ _).mono (fun _ h c => ⟨(h c).1.trans ?_, (h c).2⟩)
      (Cert.RefMergeSampleIdeal.Value.run (F := Ideal) m' ρ')
    obtain ⟨a0, a1, a2, a3, a4, a5, a6, a7, a8, a9, a10, a11, a12, a13, a14⟩ := hagree c
    rw [a0, a1, a2, a3, a4, a5, a6, a7, a8, a9, a10, a11, a12, a13, a14]
    exact Cert.RefMergeSampleIdeal.Hand.ref_eq _ _ _ _ _ _ _ _ _ _ _ _ _ _ _

end Cert.Proof.MergeSampleClaims

end
-- ==== Proof.ProjSampleKernel.lean ====
/-
  What one grid point of the projection leaves in each output block: entries of the block's rows, scaled and projected
  onto the columns of the arranged weight matrix, in each output's layout.
-/
module

public import proofs.«01_k».proof.Proof.Gen.ProjSampleIdeal.Value
public import Idealize.ShloMosaic.Lib.Pointwise
public import Idealize.ShloMosaic.Lib.Tactic
public import Idealize.ShloMosaic.Lib.VecWindow
public import Idealize.ShloMosaic.Lib.KernelVsHost
public import Idealize.ShloMosaic.Lib.Pipeline.ReadBack
public import proofs.«01_k».proof.Proof.ProjMath

@[expose] public section

set_option maxRecDepth 16384

noncomputable section

open Idealize.ShloMosaic Idealize.ShloMosaic.TcCoe Idealize.SL.Sem
open Idealize.ShloMosaic.Pipeline (Dat)

namespace Cert.ProjSampleIdeal.Hand

open Cert.ProjSampleIdeal Cert.ProjSampleIdeal.Gen Cert.LayerMath

theorem zero2 : (![0, 0] : Fin 2 → Nat) = fun _ => 0 := funext fun a => by fin_cases a <;> rfl
theorem zero3 : (![0, 0, 0] : Fin 3 → Nat) = fun _ => 0 := funext fun a => by fin_cases a <;> rfl

/-- Column `q` of the arranged matrix against row `r` of the block, scaled. -/
def col (x0 : Vec Ideal S128x1024 .f32) (x1 : Vec Ideal S1x1024 .f32) (x2 : Vec Ideal S1024x5888 .bf16) (r : Fin 128) (q : Fin 5888) : EReal :=
  ∑ j, rms (fun k => x0 (ix2 r k)) (fun k => x1 (ix2 0 k)) j * x2 (ix2 j q)

theorem rms_apply (x0 : Vec Ideal S128x1024 .f32) (x1 : Vec Ideal S1x1024 .f32) (r : Fin 128) (j : Fin 1024) :
    k0_pay2 x0 x1 (ix2 r j) = rms (fun k => x0 (ix2 r k)) (fun k => x1 (ix2 0 k)) j := by
  pointwise [k0_pay2, rms]

/-- Output `z` at an index. -/
theorem out_z (x0 : Vec Ideal S128x1024 .f32) (x1 : Vec Ideal S1x1024 .f32) (x2 : Vec Ideal S1024x5888 .bf16) (r : Fin 128) (l : Fin 512) :
    out0_3 x0 x1 x2 (ix2 r l) = col x0 x1 x2 r ⟨1024 + l.val, by omega⟩ * col x0 x1 x2 r ⟨l.val, by omega⟩ := by
  unfold_out out0_3
  rw [View.canon_unit_zero (S := S128x512) zero2]
  simp only [View.ld_unit_zero (S := S128x1024) zero2, View.ld_unit_zero (S := S1x1024) zero2]
  pointwise [k0_pay3, dot_S128x1024_S1024x512_S128x512_1_0_0_1_n_n, rms_apply, col, sigm]

/-- Output `bc` at an index. -/
theorem out_bc (x0 : Vec Ideal S128x1024 .f32) (x1 : Vec Ideal S1x1024 .f32) (x2 : Vec Ideal S1024x5888 .bf16) (r : Fin 128) (l : Fin 512) :
    out0_4 x0 x1 x2 (ix2 r l) = col x0 x1 x2 r ⟨512 + l.val, by omega⟩ := by
  unfold_out out0_4
  rw [View.canon_unit_zero (S := S128x512) zero2]
  simp only [View.ld_unit_zero (S := S128x1024) zero2, View.ld_unit_zero (S := S1x1024) zero2]
  pointwise [k0_pay4, dot_S128x1024_S1024x512_S128x512_1_0_0_1_n_n, rms_apply, col, sigm]

/-- Output `sgc` at an index. -/
theorem out_sgc (x0 : Vec Ideal S128x1024 .f32) (x1 : Vec Ideal S1x1024 .f32) (x2 : Vec Ideal S1024x5888 .bf16) (r : Fin 128) (l : Fin 1024) :
    out0_5 x0 x1 x2 (ix2 r l) = sigm (col x0 x1 x2 r ⟨3840 + l.val, by omega⟩) := by
  unfold_out out0_5
  rw [View.canon_unit_zero (S := S128x1024) zero2]
  simp only [View.ld_unit_zero (S := S128x1024) zero2, View.ld_unit_zero (S := S1x1024) zero2]
  pointwise [k0_pay11, dot_S128x1024_S1024x1024_S128x1024_1_0_0_1_n_n, rms_apply, col, sigm]

/-- Output `sga` at an index. -/
theorem out_sga (x0 : Vec Ideal S128x1024 .f32) (x1 : Vec Ideal S1x1024 .f32) (x2 : Vec Ideal S1024x5888 .bf16) (r : Fin 128) (l : Fin 1024) :
    out0_6 x0 x1 x2 (ix2 r l) = sigm (col x0 x1 x2 r ⟨4864 + l.val, by omega⟩) := by
  unfold_out out0_6
  rw [View.canon_unit_zero (S := S128x1024) zero2]
  simp only [View.ld_unit_zero (S := S128x1024) zero2, View.ld_unit_zero (S := S1x1024) zero2]
  pointwise [k0_pay13, k0_pay12, dot_S128x1024_S1024x1024_S128x1024_1_0_0_1_n_n, rms_apply, col, sigm]

/-- Output `kt` at an index. -/
theorem out_kt (x0 : Vec Ideal S128x1024 .f32) (x1 : Vec Ideal S1x1024 .f32) (x2 : Vec Ideal S1024x5888 .bf16) (r : Fin 128) (l : Fin 512) :
    out0_7 x0 x1 x2 (ix3 0 l r) = col x0 x1 x2 r ⟨2048 + l.val, by omega⟩ := by
  unfold_out out0_7
  rw [View.canon_unit_zero (S := S1x512x128) zero3]
  simp only [View.ld_unit_zero (S := S128x1024) zero2, View.ld_unit_zero (S := S1x1024) zero2]
  pointwise [k0_pay14, k0_pay6, dot_S128x1024_S1024x512_S128x512_1_0_0_1_n_n, rms_apply, col, sigm]

/-- Output `vt` at an index. -/
theorem out_vt (x0 : Vec Ideal S128x1024 .f32) (x1 : Vec Ideal S1x1024 .f32) (x2 : Vec Ideal S1024x5888 .bf16) (r : Fin 128) (l : Fin 512) :
    out0_8 x0 x1 x2 (ix3 0 l r) = col x0 x1 x2 r ⟨2560 + l.val, by omega⟩ := by
  unfold_out out0_8
  rw [View.canon_unit_zero (S := S1x512x128) zero3]
  simp only [View.ld_unit_zero (S := S128x1024) zero2, View.ld_unit_zero (S := S1x1024) zero2]
  pointwise [k0_pay15, k0_pay7, dot_S128x1024_S1024x512_S128x512_1_0_0_1_n_n, rms_apply, col, sigm]

/-- Output `kit` at an index. -/
theorem out_kit (x0 : Vec Ideal S128x1024 .f32) (x1 : Vec Ideal S1x1024 .f32) (x2 : Vec Ideal S1024x5888 .bf16) (r : Fin 128) (l : Fin 64) :
    out0_9 x0 x1 x2 (ix3 0 l r) = col x0 x1 x2 r ⟨3584 + l.val, by omega⟩ := by
  unfold_out out0_9
  rw [View.canon_unit_zero (S := S1x64x128) zero3]
  simp only [View.ld_unit_zero (S := S128x1024) zero2, View.ld_unit_zero (S := S1x1024) zero2]
  pointwise [k0_pay16, k0_pay9, dot_S128x1024_S1024x128_S128x128_1_0_0_1_n_n, rms_apply, col, sigm]

/-- Output `q` at an index. -/
theorem out_q (x0 : Vec Ideal S128x1024 .f32) (x1 : Vec Ideal S1x1024 .f32) (x2 : Vec Ideal S1024x5888 .bf16) (r : Fin 128) (l : Fin 512) :
    out0_10 x0 x1 x2 (ix2 r l) = col x0 x1 x2 r ⟨1536 + l.val, by omega⟩ * Ideal.ofBits FTy.f32 0x3E38AA3B#32 := by
  unfold_out out0_10
  rw [View.canon_unit_zero (S := S128x512) zero2]
  simp only [View.ld_unit_zero (S := S128x1024) zero2, View.ld_unit_zero (S := S1x1024) zero2]
  pointwise [k0_pay17, k0_pay5, dot_S128x1024_S1024x512_S128x512_1_0_0_1_n_n, rms_apply, col, sigm]

/-- Output `qi` at an index. -/
theorem out_qi (x0 : Vec Ideal S128x1024 .f32) (x1 : Vec Ideal S1x1024 .f32) (x2 : Vec Ideal S1024x5888 .bf16) (r : Fin 128) (l : Fin 512) :
    out0_11 x0 x1 x2 (ix2 r l) = col x0 x1 x2 r ⟨3072 + l.val, by omega⟩ * Ideal.ofBits FTy.f32 0x3E000000#32 := by
  unfold_out out0_11
  rw [View.canon_unit_zero (S := S128x512) zero2]
  simp only [View.ld_unit_zero (S := S128x1024) zero2, View.ld_unit_zero (S := S1x1024) zero2]
  pointwise [k0_pay18, k0_pay8, dot_S128x1024_S1024x512_S128x512_1_0_0_1_n_n, rms_apply, col, sigm]

/-- Output `wi` at an index. -/
theorem out_wi (x0 : Vec Ideal S128x1024 .f32) (x1 : Vec Ideal S1x1024 .f32) (x2 : Vec Ideal S1024x5888 .bf16) (r : Fin 128) (l : Fin 8) :
    out0_12 x0 x1 x2 (ix2 r l) = col x0 x1 x2 r ⟨3712 + l.val, by omega⟩ * Ideal.ofBits FTy.f32 0x3EB504F3#32 := by
  unfold_out out0_12
  rw [View.canon_unit_zero (S := S128x8) zero2]
  simp only [View.ld_unit_zero (S := S128x1024) zero2, View.ld_unit_zero (S := S1x1024) zero2]
  pointwise [k0_pay19, k0_pay10, dot_S128x1024_S1024x128_S128x128_1_0_0_1_n_n, rms_apply, col, sigm]

/-- Output `k` at an index. -/
theorem out_k (x0 : Vec Ideal S128x1024 .f32) (x1 : Vec Ideal S1x1024 .f32) (x2 : Vec Ideal S1024x5888 .bf16) (r : Fin 128) (l : Fin 512) :
    out0_13 x0 x1 x2 (ix2 r l) = col x0 x1 x2 r ⟨2048 + l.val, by omega⟩ := by
  unfold_out out0_13
  rw [View.canon_unit_zero (S := S128x512) zero2]
  simp only [View.ld_unit_zero (S := S128x1024) zero2, View.ld_unit_zero (S := S1x1024) zero2]
  pointwise [k0_pay6, dot_S128x1024_S1024x512_S128x512_1_0_0_1_n_n, rms_apply, col, sigm]

/-- Output `v` at an index. -/
theorem out_v (x0 : Vec Ideal S128x1024 .f32) (x1 : Vec Ideal S1x1024 .f32) (x2 : Vec Ideal S1024x5888 .bf16) (r : Fin 128) (l : Fin 512) :
    out0_14 x0 x1 x2 (ix2 r l) = col x0 x1 x2 r ⟨2560 + l.val, by omega⟩ := by
  unfold_out out0_14
  rw [View.canon_unit_zero (S := S128x512) zero2]
  simp only [View.ld_unit_zero (S := S128x1024) zero2, View.ld_unit_zero (S := S1x1024) zero2]
  pointwise [k0_pay7, dot_S128x1024_S1024x512_S128x512_1_0_0_1_n_n, rms_apply, col, sigm]

/-- Output `ki` at an index. -/
theorem out_ki (x0 : Vec Ideal S128x1024 .f32) (x1 : Vec Ideal S1x1024 .f32) (x2 : Vec Ideal S1024x5888 .bf16) (r : Fin 128) (l : Fin 64) :
    out0_15 x0 x1 x2 (ix2 r l) = col x0 x1 x2 r ⟨3584 + l.val, by omega⟩ := by
  unfold_out out0_15
  rw [View.canon_unit_zero (S := S128x64) zero2]
  simp only [View.ld_unit_zero (S := S128x1024) zero2, View.ld_unit_zero (S := S1x1024) zero2]
  pointwise [k0_pay1, k0_pay9, dot_S128x1024_S1024x128_S128x128_1_0_0_1_n_n, rms_apply, col, sigm]

end Cert.ProjSampleIdeal.Hand

end
-- ==== Proof.ProjSampleValue.lean ====
/-
  The projection's result arrays, each named as a function of the three arguments, on the kernel's side and on the
  reference's.
-/
module

public import proofs.«01_k».proof.Proof.ProjSampleKernel
public import proofs.«01_k».proof.Proof.Gen.RefProjSampleIdeal.Read
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)

namespace Cert.ProjSampleIdeal.Hand

open Cert.ProjSampleIdeal Cert.ProjSampleIdeal.Gen Cert.LayerMath

variable (m : (ℓ : Loc nD τ sig) → Buf (Elt Ideal) ℓ) (ρ : Dev nD → PrngReg)
variable (h : S128x1024.Idx → EReal) (g : S1024.Idx → EReal) (w : S1024x5704.Idx → EReal)

/-- Entry `q` of the projection of row `r`. -/
def pr (r : Fin 128) (q : Fin 5704) : EReal := proj (fun k => h (ix2 r k)) (fun k => g (ix1 k)) (fun j q => w (ix2 j q)) q

/-! ## The results, as functions of the arguments -/

/-- Entry of result `z`. -/
def at_z (r : Fin 128) (l : Fin 512) : EReal := pr h g w r ⟨1024 + l.val, by omega⟩ * pr h g w r ⟨l.val, by omega⟩
/-- Result `z`. -/
def res_z : S128x512.Idx → EReal := fun i => at_z h g w (i 0) (i 1)

/-- Entry of result `bc`. -/
def at_bc (r : Fin 128) (l : Fin 512) : EReal := pr h g w r ⟨512 + l.val, by omega⟩
/-- Result `bc`. -/
def res_bc : S128x512.Idx → EReal := fun i => at_bc h g w (i 0) (i 1)

/-- Entry of result `sgc`. -/
def at_sgc (r : Fin 128) (l : Fin 1024) : EReal := sigm (pr h g w r ⟨3656 + l.val, by omega⟩)
/-- Result `sgc`. -/
def res_sgc : S128x1024.Idx → EReal := fun i => at_sgc h g w (i 0) (i 1)

/-- Entry of result `sga`. -/
def at_sga (r : Fin 128) (l : Fin 1024) : EReal := sigm (pr h g w r ⟨4680 + l.val, by omega⟩)
/-- Result `sga`. -/
def res_sga : S128x1024.Idx → EReal := fun i => at_sga h g w (i 0) (i 1)

/-- Entry of result `kt`. -/
def at_kt (b : Fin 1) (l : Fin 512) (s : Fin 128) : EReal := pr h g w ⟨128 * b.val + s.val, by omega⟩ ⟨2048 + l.val, by omega⟩
/-- Result `kt`. -/
def res_kt : S1x512x128.Idx → EReal := fun i => at_kt h g w (i 0) (i 1) (i 2)

/-- Entry of result `vt`. -/
def at_vt (b : Fin 1) (l : Fin 512) (s : Fin 128) : EReal := pr h g w ⟨128 * b.val + s.val, by omega⟩ ⟨2560 + l.val, by omega⟩
/-- Result `vt`. -/
def res_vt : S1x512x128.Idx → EReal := fun i => at_vt h g w (i 0) (i 1) (i 2)

/-- Entry of result `kit`. -/
def at_kit (b : Fin 1) (l : Fin 64) (s : Fin 128) : EReal := pr h g w ⟨128 * b.val + s.val, by omega⟩ ⟨3584 + l.val, by omega⟩
/-- Result `kit`. -/
def res_kit : S1x64x128.Idx → EReal := fun i => at_kit h g w (i 0) (i 1) (i 2)

/-- Entry of result `q`. -/
def at_q (r : Fin 128) (l : Fin 512) : EReal := pr h g w r ⟨1536 + l.val, by omega⟩ * Ideal.ofBits FTy.f32 0x3E38AA3B#32
/-- Result `q`. -/
def res_q : S128x512.Idx → EReal := fun i => at_q h g w (i 0) (i 1)

/-- Entry of result `qi`. -/
def at_qi (r : Fin 128) (l : Fin 512) : EReal := pr h g w r ⟨3072 + l.val, by omega⟩ * Ideal.ofBits FTy.f32 0x3E000000#32
/-- Result `qi`. -/
def res_qi : S128x512.Idx → EReal := fun i => at_qi h g w (i 0) (i 1)

/-- Entry of result `wi`. -/
def at_wi (r : Fin 128) (l : Fin 8) : EReal := pr h g w r ⟨3648 + l.val, by omega⟩ * Ideal.ofBits FTy.f32 0x3EB504F3#32
/-- Result `wi`. -/
def res_wi : S128x8.Idx → EReal := fun i => at_wi h g w (i 0) (i 1)

/-- Entry of result `k`. -/
def at_k (r : Fin 128) (l : Fin 512) : EReal := pr h g w r ⟨2048 + l.val, by omega⟩
/-- Result `k`. -/
def res_k : S128x512.Idx → EReal := fun i => at_k h g w (i 0) (i 1)

/-- Entry of result `v`. -/
def at_v (r : Fin 128) (l : Fin 512) : EReal := pr h g w r ⟨2560 + l.val, by omega⟩
/-- Result `v`. -/
def res_v : S128x512.Idx → EReal := fun i => at_v h g w (i 0) (i 1)

/-- Entry of result `ki`. -/
def at_ki (r : Fin 128) (l : Fin 64) : EReal := pr h g w r ⟨3584 + l.val, by omega⟩
/-- Result `ki`. -/
def res_ki : S128x64.Idx → EReal := fun i => at_ki h g w (i 0) (i 1)

/-! ## What the kernel is handed -/

/-- The arranged weight matrix: the 64 index-key columns and the 8 head-weight columns each padded by zeros to 128. -/
def W : Vec Ideal S1024x5888 .bf16 :=
  truncf .bf16 (concatenate S1024x5888 1
    [⟨S1024x3584, (extractStridedSlice S1024x3584 ![0, 0] (w : Vec Ideal S1024x5704 .f32) slices_S1024x5704_S1024x3584_0_0 : FVec Ideal S1024x3584 .f32)⟩,
     ⟨S1024x128, pad S1024x128 ![0, 0] ![0, 64] ![0, 0] (extractStridedSlice S1024x64 ![0, 3584] (w : Vec Ideal S1024x5704 .f32) slices_S1024x5704_S1024x64_0_3584 : FVec Ideal S1024x64 .f32) (sitofp .f32 (constantI S_ 32 0#32) : FVec Ideal S_ .f32) pads_S1024x64_S1024x128_000_0640 h_S_⟩,
     ⟨S1024x128, pad S1024x128 ![0, 0] ![0, 120] ![0, 0] (extractStridedSlice S1024x8 ![0, 3648] (w : Vec Ideal S1024x5704 .f32) slices_S1024x5704_S1024x8_0_3648 : FVec Ideal S1024x8 .f32) (sitofp .f32 (constantI S_ 32 0#32) : FVec Ideal S_ .f32) pads_S1024x8_S1024x128_000_01200 h_S_⟩,
     ⟨S1024x2048, (extractStridedSlice S1024x2048 ![0, 3656] (w : Vec Ideal S1024x5704 .f32) slices_S1024x5704_S1024x2048_0_3656 : FVec Ideal S1024x2048 .f32)⟩]
    concatenates_S1024x3584_S1024x128_S1024x128_S1024x2048_S1024x5888_d1 : FVec Ideal S1024x5888 .f32) bitsLt_bf16_f32

theorem zero_int : (sitofp .f32 (constantI S_ 32 0#32) : FVec Ideal S_ .f32) = fun _ => (0 : EReal) := by
  funext i
  show ((((0#32 : BitVec 32).toInt : ℝ)) : EReal) = 0
  simp

/-- The index-key columns, padded: a column of `w`, or zero. -/
theorem pad_ki (v : FVec Ideal S_ .f32) (hv : v = fun _ => (0 : EReal)) (x : FVec Ideal S1024x64 .f32) (j : Fin 1024) (q : Fin 128) :
    pad S1024x128 ![0, 0] ![0, 64] ![0, 0] x v pads_S1024x64_S1024x128_000_0640 h_S_ (ix2 j q)
      = if hq : q.val < 64 then x (ix2 j ⟨q.val, hq⟩) else (0 : EReal) := by
  by_cases hq : q.val < 64
  · rw [dif_pos hq]
    refine pad_apply_of_inside _ _ _ x v _ _ _ _ fun a => ?_
    match a with
    | ⟨0, _⟩ => show j.val = 0 + j.val * (0 + 1); omega
    | ⟨1, _⟩ => show q.val = 0 + q.val * (0 + 1); omega
  · rw [dif_neg hq, pad_apply_of_not_inside _ _ _ x v _ _ _ 1, hv]
    rintro ⟨_, _, hc⟩
    have hc' : (q.val - 0) / (0 + 1) < 64 := hc
    omega

/-- The head-weight columns, padded: a column of `w`, or zero. -/
theorem pad_wi (v : FVec Ideal S_ .f32) (x : FVec Ideal S1024x8 .f32) (j : Fin 1024) (q : Fin 128) (hq : q.val < 8) :
    pad S1024x128 ![0, 0] ![0, 120] ![0, 0] x v pads_S1024x8_S1024x128_000_01200 h_S_ (ix2 j q) = x (ix2 j ⟨q.val, hq⟩) := by
  refine pad_apply_of_inside _ _ _ x v _ _ _ _ fun a => ?_
  match a with
  | ⟨0, _⟩ => show j.val = 0 + j.val * (0 + 1); omega
  | ⟨1, _⟩ => show q.val = 0 + q.val * (0 + 1); omega

/-- A column before the padding is the column of `w`. -/
theorem W_lo (j : Fin 1024) (q : Fin 5888) (hq : q.val < 3648) : W w (ix2 j q) = w (ix2 j ⟨q.val, by omega⟩) := by
  by_cases h1 : q.val < 3584
  · have e : W w (ix2 j q) = extractStridedSlice S1024x3584 ![0, 0] (w : Vec Ideal S1024x5704 .f32) slices_S1024x5704_S1024x3584_0_0 (ix2 j ⟨q.val, h1⟩) := by
      pointwise [W, h1]
    rw [e]
    pointwise
  · have e : W w (ix2 j q) = pad S1024x128 ![0, 0] ![0, 64] ![0, 0] (extractStridedSlice S1024x64 ![0, 3584] (w : Vec Ideal S1024x5704 .f32) slices_S1024x5704_S1024x64_0_3584 : FVec Ideal S1024x64 .f32) (sitofp .f32 (constantI S_ 32 0#32) : FVec Ideal S_ .f32) pads_S1024x64_S1024x128_000_0640 h_S_ (ix2 j ⟨q.val - 3584, by omega⟩) := by
      pointwise [W, h1, (show q.val - 3584 < 128 by omega)]
    rw [e, pad_ki _ zero_int, dif_pos (show q.val - 3584 < 64 by omega)]
    pointwise
    exact congrArg (fun a => w (ix2 j a)) (Fin.ext (show 3584 + (q.val - 3584) = q.val by omega))

/-- A padding column of the index keys is zero. -/
theorem W_pad (j : Fin 1024) (q : Fin 5888) (h1 : ¬q.val < 3648) (h2 : q.val < 3712) : W w (ix2 j q) = (0 : EReal) := by
  have e : W w (ix2 j q) = pad S1024x128 ![0, 0] ![0, 64] ![0, 0] (extractStridedSlice S1024x64 ![0, 3584] (w : Vec Ideal S1024x5704 .f32) slices_S1024x5704_S1024x64_0_3584 : FVec Ideal S1024x64 .f32) (sitofp .f32 (constantI S_ 32 0#32) : FVec Ideal S_ .f32) pads_S1024x64_S1024x128_000_0640 h_S_ (ix2 j ⟨q.val - 3584, by omega⟩) := by
    pointwise [W, (show ¬q.val < 3584 by omega), (show q.val - 3584 < 128 by omega)]
  rw [e, pad_ki _ zero_int, dif_neg (show ¬q.val - 3584 < 64 by omega)]

/-- The head-weight columns. -/
theorem W_wi (j : Fin 1024) (l : Fin 8) : W w (ix2 j ⟨3712 + l.val, by omega⟩) = w (ix2 j ⟨3648 + l.val, by omega⟩) := by
  have e : W w (ix2 j ⟨3712 + l.val, by omega⟩) = pad S1024x128 ![0, 0] ![0, 120] ![0, 0] (extractStridedSlice S1024x8 ![0, 3648] (w : Vec Ideal S1024x5704 .f32) slices_S1024x5704_S1024x8_0_3648 : FVec Ideal S1024x8 .f32) (sitofp .f32 (constantI S_ 32 0#32) : FVec Ideal S_ .f32) pads_S1024x8_S1024x128_000_01200 h_S_ (ix2 j ⟨l.val, by omega⟩) := by
    pointwise [W, (show ¬3712 + l.val < 3584 by omega), (show ¬3712 + l.val - 3584 < 128 by omega), (show 3712 + l.val - 3584 - 128 < 128 by omega), (show 3712 + l.val - 3584 - 128 = l.val by omega), (show l.val < 128 by omega)]
  rw [e, pad_wi _ _ _ _ (show l.val < 8 from l.isLt)]
  pointwise

/-- The gate columns. -/
theorem W_g (j : Fin 1024) (l : Fin 2048) : W w (ix2 j ⟨3840 + l.val, by omega⟩) = w (ix2 j ⟨3656 + l.val, by omega⟩) := by
  have e : W w (ix2 j ⟨3840 + l.val, by omega⟩) = extractStridedSlice S1024x2048 ![0, 3656] (w : Vec Ideal S1024x5704 .f32) slices_S1024x5704_S1024x2048_0_3656 (ix2 j l) := by
    pointwise [W, (show ¬3840 + l.val < 3584 by omega), (show ¬3840 + l.val - 3584 < 128 by omega), (show ¬3840 + l.val - 3584 - 128 < 128 by omega), (show 3840 + l.val - 3584 - 128 - 128 = l.val by omega)]
  rw [e]
  pointwise

theorem V_norm (c : Dev nD) : (V m c main_v0 : Vec Ideal S1x1024 .f32) = shapeCast S1x1024 (m ((c : Thread nD τ).loc main_arg1)) shapeCasts_S1024_S1x1024 := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.cons_append, List.nil_append, List.append_nil]
  after_results_simp; rfl
theorem V_w (c : Dev nD) : (V m c main_v8 : Vec Ideal S1024x5888 .bf16) = W (m ((c : Thread nD τ).loc main_arg2)) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.cons_append, List.nil_append, List.append_nil]
  after_results_simp; rfl

theorem idx_g : ∀ t : Fin cfg0.N, win0_1.index t 0 = 0 ∧ win0_1.index t 1 = 0 :=
  (by decide +kernel : ∀ t : Fin grid0.N, win0_1.index t 0 = 0 ∧ win0_1.index t 1 = 0)
theorem idx_w : ∀ t : Fin cfg0.N, win0_2.index t 0 = 0 ∧ win0_2.index t 1 = 0 :=
  (by decide +kernel : ∀ t : Fin grid0.N, win0_2.index t 0 = 0 ∧ win0_2.index t 1 = 0)
theorem idx_h : ∀ t : Fin cfg0.N, win0_0.index t 0 = t.val ∧ win0_0.index t 1 = 0 :=
  (by decide +kernel : ∀ t : Fin grid0.N, win0_0.index t 0 = t.val ∧ win0_0.index t 1 = 0)
theorem lt_pts (t : Fin cfg0.N) : t.val < 1 := by have h := t.isLt; have e : cfg0.N = 1 := N_0; omega

/-- Row `r` of the input block at point `t` is row `128 t + r` of the argument. -/
theorem iblk_h (c : Dev nD) (t : Fin cfg0.N) (r : Fin 128) (k : Fin 1024) :
    (iblk m c 0 t : Vec Ideal S128x1024 .f32) (ix2 r k)
      = m ((c : Thread nD τ).loc main_arg0) (ix2 ⟨128 * t.val + r.val, by have := lt_pts t; omega⟩ k : S128x1024.Idx) := by
  unfold iblk
  rw [View.read_apply]
  show V m c main_arg0 _ = _
  rw [V_main_arg0]
  congr 1
  funext a
  apply Fin.ext
  match a with
  | ⟨0, _⟩ => show win0_0.index t 0 * 128 + 1 * r.val = 128 * t.val + r.val; rw [(idx_h t).1]; omega
  | ⟨1, _⟩ => show win0_0.index t 1 * 1024 + 1 * k.val = k.val; rw [(idx_h t).2]; omega

theorem iblk_g (c : Dev nD) (t : Fin cfg0.N) (k : Fin 1024) :
    (iblk m c 1 t : Vec Ideal S1x1024 .f32) (ix2 0 k) = m ((c : Thread nD τ).loc main_arg1) (ix1 k : S1024.Idx) := by
  unfold iblk
  rw [View.read_apply]
  show V m c main_v0 _ = _
  rw [V_norm]
  have e : ∀ y : Vec Ideal S1024 .f32, shapeCast S1x1024 y shapeCasts_S1024_S1x1024 (ix2 0 k) = y (ix1 k) := fun y => by pointwise
  rw [← e (m ((c : Thread nD τ).loc main_arg1))]
  congr 1
  funext a
  apply Fin.ext
  match a with
  | ⟨0, _⟩ => show win0_1.index t 0 * 1 + 1 * 0 = 0; rw [(idx_g t).1]
  | ⟨1, _⟩ => show win0_1.index t 1 * 1024 + 1 * k.val = k.val; rw [(idx_g t).2]; omega

theorem iblk_w (c : Dev nD) (t : Fin cfg0.N) (j : Fin 1024) (q : Fin 5888) :
    (iblk m c 2 t : Vec Ideal S1024x5888 .bf16) (ix2 j q) = W (m ((c : Thread nD τ).loc main_arg2)) (ix2 j q) := by
  unfold iblk
  rw [View.read_apply]
  show V m c main_v8 _ = _
  rw [V_w]
  congr 1
  funext a
  apply Fin.ext
  match a with
  | ⟨0, _⟩ => show win0_2.index t 0 * 1024 + 1 * j.val = j.val; rw [(idx_w t).1]; omega
  | ⟨1, _⟩ => show win0_2.index t 1 * 5888 + 1 * q.val = q.val; rw [(idx_w t).2]; omega

/-- A column of the arranged matrix that is column `q'` of `w`, against a row of the block at point `t`. -/
theorem col_eq (c : Dev nD) (t : Fin cfg0.N) (r : Fin 128) (q : Fin 5888) (q' : Fin 5704)
    (hq : ∀ w j, W w (ix2 j q) = w (ix2 j q')) :
    col (iblk m c 0 t) (iblk m c 1 t) (iblk m c 2 t) r q
      = pr (m ((c : Thread nD τ).loc main_arg0)) (m ((c : Thread nD τ).loc main_arg1)) (m ((c : Thread nD τ).loc main_arg2))
          ⟨128 * t.val + r.val, by have := lt_pts t; omega⟩ q' := by
  unfold col pr proj
  simp only [iblk_h, iblk_g, iblk_w, hq]

/-- A padding column gives zero. -/
theorem col_zero (c : Dev nD) (t : Fin cfg0.N) (r : Fin 128) (q : Fin 5888) (h1 : ¬q.val < 3648) (h2 : q.val < 3712) :
    col (iblk m c 0 t) (iblk m c 1 t) (iblk m c 2 t) r q = 0 := by
  unfold col
  simp only [iblk_w, W_pad _ _ q h1 h2, mul_zero, Finset.sum_const_zero]

/-! ## The result arrays -/

theorem idx_z : ∀ t : Fin cfg0.N, win0_3.index t 0 = t.val ∧ win0_3.index t 1 = 0 :=
  (by decide +kernel : ∀ t : Fin grid0.N, win0_3.index t 0 = t.val ∧ win0_3.index t 1 = 0)
/-- The array of result `z`. -/
def arr_z (c : Dev nD) : Buf (Elt Ideal) ((c : Thread nD τ).loc main_v9_0) := res_z (m ((c : Thread nD τ).loc main_arg0)) (m ((c : Thread nD τ).loc main_arg1)) (m ((c : Thread nD τ).loc main_arg2))
theorem flushed_z (c : Dev nD) (t : Fin cfg0.N) :
    (dats m 0 c).flushed 3 t = (win0_3.blk t).view.read (Elt Ideal) (arr_z m c) := by
  rw [Value.flushed3]
  funext y
  obtain ⟨r, l, rfl⟩ : ∃ (r : Fin 128) (l : Fin 512), y = (ix2 r l : S128x512.Idx) := ⟨y 0, y 1, eq_ix2 y⟩
  rw [View.read_apply]
  have e : ((win0_3.blk t).view.emb (ix2 r l : S128x512.Idx) : S128x512.Idx) = ix2 ⟨128 * t.val + r.val, by have := lt_pts t; omega⟩ l := by
    funext a
    apply Fin.ext
    match a with
    | ⟨0, _⟩ => show win0_3.index t 0 * 128 + 1 * r.val = 128 * t.val + r.val; rw [(idx_z t).1]; omega
    | ⟨1, _⟩ => show win0_3.index t 1 * 512 + 1 * l.val = l.val; rw [(idx_z t).2]; omega
  show _ = arr_z m c ((win0_3.blk t).view.emb (ix2 r l : S128x512.Idx) : S128x512.Idx)
  rw [e]
  refine (out_z _ _ _ r l).trans ?_
  rw [col_eq m c t r ⟨1024 + l.val, by omega⟩ ⟨1024 + l.val, by omega⟩ (fun w j => W_lo w j _ (by show 1024 + l.val < 3648; omega)), col_eq m c t r ⟨l.val, by omega⟩ ⟨l.val, by omega⟩ (fun w j => W_lo w j _ (by show l.val < 3648; omega))]
  rfl

theorem cover_z (i : S128x512.Idx) : ∃ t : Fin cfg0.N, (cfg0.win 3).flush t = true ∧ i ∈ ((cfg0.win 3).blk t).view.set := by
  have h0 : (i 0 : Nat) < 128 := (i 0).isLt
  have h1 : (i 1 : Nat) < 512 := (i 1).isLt
  have hN : cfg0.N = 1 := N_0
  refine ⟨⟨(i 0).val / 128, by rw [hN]; omega⟩, flush0_3 _, ?_⟩
  generalize ht : (⟨(i 0).val / 128, _⟩ : Fin cfg0.N) = t
  have hv : t.val = (i 0).val / 128 := by rw [← ht]
  show i ∈ ((View.whole main_v9_0).slice (win0_3.rect t)).set
  rw [View.set_slice_whole, Rect.mem_set_unit]
  intro a
  match a with
  | ⟨0, _⟩ => show win0_3.index t 0 * 128 ≤ (i 0 : Nat) ∧ (i 0 : Nat) < win0_3.index t 0 * 128 + 128; rw [(idx_z t).1]; omega
  | ⟨1, _⟩ => show win0_3.index t 1 * 512 ≤ (i 1 : Nat) ∧ (i 1 : Nat) < win0_3.index t 1 * 512 + 512; rw [(idx_z t).2]; omega
theorem final_z (c : Dev nD) : (dats m 0 c).arrAt 3 cfg0.N = arr_z m c :=
  (dats m 0 c).arrAt_eq_of_cover 3 (arr_z m c) (fun t _ => flushed_z m c t) cover_z

theorem idx_bc : ∀ t : Fin cfg0.N, win0_4.index t 0 = t.val ∧ win0_4.index t 1 = 0 :=
  (by decide +kernel : ∀ t : Fin grid0.N, win0_4.index t 0 = t.val ∧ win0_4.index t 1 = 0)
/-- The array of result `bc`. -/
def arr_bc (c : Dev nD) : Buf (Elt Ideal) ((c : Thread nD τ).loc main_v9_1) := res_bc (m ((c : Thread nD τ).loc main_arg0)) (m ((c : Thread nD τ).loc main_arg1)) (m ((c : Thread nD τ).loc main_arg2))
theorem flushed_bc (c : Dev nD) (t : Fin cfg0.N) :
    (dats m 0 c).flushed 4 t = (win0_4.blk t).view.read (Elt Ideal) (arr_bc m c) := by
  rw [Value.flushed4]
  funext y
  obtain ⟨r, l, rfl⟩ : ∃ (r : Fin 128) (l : Fin 512), y = (ix2 r l : S128x512.Idx) := ⟨y 0, y 1, eq_ix2 y⟩
  rw [View.read_apply]
  have e : ((win0_4.blk t).view.emb (ix2 r l : S128x512.Idx) : S128x512.Idx) = ix2 ⟨128 * t.val + r.val, by have := lt_pts t; omega⟩ l := by
    funext a
    apply Fin.ext
    match a with
    | ⟨0, _⟩ => show win0_4.index t 0 * 128 + 1 * r.val = 128 * t.val + r.val; rw [(idx_bc t).1]; omega
    | ⟨1, _⟩ => show win0_4.index t 1 * 512 + 1 * l.val = l.val; rw [(idx_bc t).2]; omega
  show _ = arr_bc m c ((win0_4.blk t).view.emb (ix2 r l : S128x512.Idx) : S128x512.Idx)
  rw [e]
  refine (out_bc _ _ _ r l).trans ?_
  rw [col_eq m c t r ⟨512 + l.val, by omega⟩ ⟨512 + l.val, by omega⟩ (fun w j => W_lo w j _ (by show 512 + l.val < 3648; omega))]
  rfl

theorem cover_bc (i : S128x512.Idx) : ∃ t : Fin cfg0.N, (cfg0.win 4).flush t = true ∧ i ∈ ((cfg0.win 4).blk t).view.set := by
  have h0 : (i 0 : Nat) < 128 := (i 0).isLt
  have h1 : (i 1 : Nat) < 512 := (i 1).isLt
  have hN : cfg0.N = 1 := N_0
  refine ⟨⟨(i 0).val / 128, by rw [hN]; omega⟩, flush0_4 _, ?_⟩
  generalize ht : (⟨(i 0).val / 128, _⟩ : Fin cfg0.N) = t
  have hv : t.val = (i 0).val / 128 := by rw [← ht]
  show i ∈ ((View.whole main_v9_1).slice (win0_4.rect t)).set
  rw [View.set_slice_whole, Rect.mem_set_unit]
  intro a
  match a with
  | ⟨0, _⟩ => show win0_4.index t 0 * 128 ≤ (i 0 : Nat) ∧ (i 0 : Nat) < win0_4.index t 0 * 128 + 128; rw [(idx_bc t).1]; omega
  | ⟨1, _⟩ => show win0_4.index t 1 * 512 ≤ (i 1 : Nat) ∧ (i 1 : Nat) < win0_4.index t 1 * 512 + 512; rw [(idx_bc t).2]; omega
theorem final_bc (c : Dev nD) : (dats m 0 c).arrAt 4 cfg0.N = arr_bc m c :=
  (dats m 0 c).arrAt_eq_of_cover 4 (arr_bc m c) (fun t _ => flushed_bc m c t) cover_bc

theorem idx_sgc : ∀ t : Fin cfg0.N, win0_5.index t 0 = t.val ∧ win0_5.index t 1 = 0 :=
  (by decide +kernel : ∀ t : Fin grid0.N, win0_5.index t 0 = t.val ∧ win0_5.index t 1 = 0)
/-- The array of result `sgc`. -/
def arr_sgc (c : Dev nD) : Buf (Elt Ideal) ((c : Thread nD τ).loc main_v9_2) := res_sgc (m ((c : Thread nD τ).loc main_arg0)) (m ((c : Thread nD τ).loc main_arg1)) (m ((c : Thread nD τ).loc main_arg2))
theorem flushed_sgc (c : Dev nD) (t : Fin cfg0.N) :
    (dats m 0 c).flushed 5 t = (win0_5.blk t).view.read (Elt Ideal) (arr_sgc m c) := by
  rw [Value.flushed5]
  funext y
  obtain ⟨r, l, rfl⟩ : ∃ (r : Fin 128) (l : Fin 1024), y = (ix2 r l : S128x1024.Idx) := ⟨y 0, y 1, eq_ix2 y⟩
  rw [View.read_apply]
  have e : ((win0_5.blk t).view.emb (ix2 r l : S128x1024.Idx) : S128x1024.Idx) = ix2 ⟨128 * t.val + r.val, by have := lt_pts t; omega⟩ l := by
    funext a
    apply Fin.ext
    match a with
    | ⟨0, _⟩ => show win0_5.index t 0 * 128 + 1 * r.val = 128 * t.val + r.val; rw [(idx_sgc t).1]; omega
    | ⟨1, _⟩ => show win0_5.index t 1 * 1024 + 1 * l.val = l.val; rw [(idx_sgc t).2]; omega
  show _ = arr_sgc m c ((win0_5.blk t).view.emb (ix2 r l : S128x1024.Idx) : S128x1024.Idx)
  rw [e]
  refine (out_sgc _ _ _ r l).trans ?_
  rw [col_eq m c t r ⟨3840 + l.val, by omega⟩ ⟨3656 + l.val, by omega⟩ (fun w j => W_g w j ⟨l.val, by omega⟩)]
  rfl

theorem cover_sgc (i : S128x1024.Idx) : ∃ t : Fin cfg0.N, (cfg0.win 5).flush t = true ∧ i ∈ ((cfg0.win 5).blk t).view.set := by
  have h0 : (i 0 : Nat) < 128 := (i 0).isLt
  have h1 : (i 1 : Nat) < 1024 := (i 1).isLt
  have hN : cfg0.N = 1 := N_0
  refine ⟨⟨(i 0).val / 128, by rw [hN]; omega⟩, flush0_5 _, ?_⟩
  generalize ht : (⟨(i 0).val / 128, _⟩ : Fin cfg0.N) = t
  have hv : t.val = (i 0).val / 128 := by rw [← ht]
  show i ∈ ((View.whole main_v9_2).slice (win0_5.rect t)).set
  rw [View.set_slice_whole, Rect.mem_set_unit]
  intro a
  match a with
  | ⟨0, _⟩ => show win0_5.index t 0 * 128 ≤ (i 0 : Nat) ∧ (i 0 : Nat) < win0_5.index t 0 * 128 + 128; rw [(idx_sgc t).1]; omega
  | ⟨1, _⟩ => show win0_5.index t 1 * 1024 ≤ (i 1 : Nat) ∧ (i 1 : Nat) < win0_5.index t 1 * 1024 + 1024; rw [(idx_sgc t).2]; omega
theorem final_sgc (c : Dev nD) : (dats m 0 c).arrAt 5 cfg0.N = arr_sgc m c :=
  (dats m 0 c).arrAt_eq_of_cover 5 (arr_sgc m c) (fun t _ => flushed_sgc m c t) cover_sgc

theorem idx_sga : ∀ t : Fin cfg0.N, win0_6.index t 0 = t.val ∧ win0_6.index t 1 = 0 :=
  (by decide +kernel : ∀ t : Fin grid0.N, win0_6.index t 0 = t.val ∧ win0_6.index t 1 = 0)
/-- The array of result `sga`. -/
def arr_sga (c : Dev nD) : Buf (Elt Ideal) ((c : Thread nD τ).loc main_v9_3) := res_sga (m ((c : Thread nD τ).loc main_arg0)) (m ((c : Thread nD τ).loc main_arg1)) (m ((c : Thread nD τ).loc main_arg2))
theorem flushed_sga (c : Dev nD) (t : Fin cfg0.N) :
    (dats m 0 c).flushed 6 t = (win0_6.blk t).view.read (Elt Ideal) (arr_sga m c) := by
  rw [Value.flushed6]
  funext y
  obtain ⟨r, l, rfl⟩ : ∃ (r : Fin 128) (l : Fin 1024), y = (ix2 r l : S128x1024.Idx) := ⟨y 0, y 1, eq_ix2 y⟩
  rw [View.read_apply]
  have e : ((win0_6.blk t).view.emb (ix2 r l : S128x1024.Idx) : S128x1024.Idx) = ix2 ⟨128 * t.val + r.val, by have := lt_pts t; omega⟩ l := by
    funext a
    apply Fin.ext
    match a with
    | ⟨0, _⟩ => show win0_6.index t 0 * 128 + 1 * r.val = 128 * t.val + r.val; rw [(idx_sga t).1]; omega
    | ⟨1, _⟩ => show win0_6.index t 1 * 1024 + 1 * l.val = l.val; rw [(idx_sga t).2]; omega
  show _ = arr_sga m c ((win0_6.blk t).view.emb (ix2 r l : S128x1024.Idx) : S128x1024.Idx)
  rw [e]
  refine (out_sga _ _ _ r l).trans ?_
  rw [col_eq m c t r ⟨4864 + l.val, by omega⟩ ⟨4680 + l.val, by omega⟩ (fun w j => (congrArg (fun a => W w (ix2 j a)) (Fin.ext (show 4864 + l.val = 3840 + (1024 + l.val) by omega))).trans ((W_g w j ⟨1024 + l.val, by omega⟩).trans (congrArg (fun a => w (ix2 j a)) (Fin.ext (show 3656 + (1024 + l.val) = 4680 + l.val by omega)))))]
  rfl

theorem cover_sga (i : S128x1024.Idx) : ∃ t : Fin cfg0.N, (cfg0.win 6).flush t = true ∧ i ∈ ((cfg0.win 6).blk t).view.set := by
  have h0 : (i 0 : Nat) < 128 := (i 0).isLt
  have h1 : (i 1 : Nat) < 1024 := (i 1).isLt
  have hN : cfg0.N = 1 := N_0
  refine ⟨⟨(i 0).val / 128, by rw [hN]; omega⟩, flush0_6 _, ?_⟩
  generalize ht : (⟨(i 0).val / 128, _⟩ : Fin cfg0.N) = t
  have hv : t.val = (i 0).val / 128 := by rw [← ht]
  show i ∈ ((View.whole main_v9_3).slice (win0_6.rect t)).set
  rw [View.set_slice_whole, Rect.mem_set_unit]
  intro a
  match a with
  | ⟨0, _⟩ => show win0_6.index t 0 * 128 ≤ (i 0 : Nat) ∧ (i 0 : Nat) < win0_6.index t 0 * 128 + 128; rw [(idx_sga t).1]; omega
  | ⟨1, _⟩ => show win0_6.index t 1 * 1024 ≤ (i 1 : Nat) ∧ (i 1 : Nat) < win0_6.index t 1 * 1024 + 1024; rw [(idx_sga t).2]; omega
theorem final_sga (c : Dev nD) : (dats m 0 c).arrAt 6 cfg0.N = arr_sga m c :=
  (dats m 0 c).arrAt_eq_of_cover 6 (arr_sga m c) (fun t _ => flushed_sga m c t) cover_sga

theorem idx_kt : ∀ t : Fin cfg0.N, win0_7.index t 0 = 0 ∧ win0_7.index t 1 = 0 ∧ win0_7.index t 2 = 0 :=
  (by decide +kernel : ∀ t : Fin grid0.N, win0_7.index t 0 = 0 ∧ win0_7.index t 1 = 0 ∧ win0_7.index t 2 = 0)
/-- The array of result `kt`. -/
def arr_kt (c : Dev nD) : Buf (Elt Ideal) ((c : Thread nD τ).loc main_v9_4) := res_kt (m ((c : Thread nD τ).loc main_arg0)) (m ((c : Thread nD τ).loc main_arg1)) (m ((c : Thread nD τ).loc main_arg2))
theorem flushed_kt (c : Dev nD) (t : Fin cfg0.N) :
    (dats m 0 c).flushed 7 t = (win0_7.blk t).view.read (Elt Ideal) (arr_kt m c) := by
  rw [Value.flushed7]
  funext y
  obtain ⟨u, l, s, rfl⟩ : ∃ (u : Fin 1) (l : Fin 512) (s : Fin 128), y = (ix3 u l s : S1x512x128.Idx) := ⟨y 0, y 1, y 2, eq_ix3 y⟩
  rw [View.read_apply]
  have e : ((win0_7.blk t).view.emb (ix3 u l s : S1x512x128.Idx) : S1x512x128.Idx) = ix3 u l s := by
    funext a
    apply Fin.ext
    match a with
    | ⟨0, _⟩ => show win0_7.index t 0 * 1 + 1 * u.val = u.val; rw [(idx_kt t).1]; omega
    | ⟨1, _⟩ => show win0_7.index t 1 * 512 + 1 * l.val = l.val; rw [(idx_kt t).2.1]; omega
    | ⟨2, _⟩ => show win0_7.index t 2 * 128 + 1 * s.val = s.val; rw [(idx_kt t).2.2]; omega
  show _ = arr_kt m c ((win0_7.blk t).view.emb (ix3 u l s : S1x512x128.Idx) : S1x512x128.Idx)
  rw [e]
  obtain rfl : u = 0 := Subsingleton.elim _ _
  refine (out_kt _ _ _ s l).trans ?_
  rw [col_eq m c t s ⟨2048 + l.val, by omega⟩ ⟨2048 + l.val, by omega⟩ (fun w j => W_lo w j _ (by show 2048 + l.val < 3648; omega))]
  exact congrArg (fun a : Fin 128 => pr (m ((c : Thread nD τ).loc main_arg0)) (m ((c : Thread nD τ).loc main_arg1)) (m ((c : Thread nD τ).loc main_arg2)) a ⟨2048 + l.val, by omega⟩) (Fin.ext (show 128 * t.val + s.val = 128 * 0 + s.val by have := lt_pts t; omega))

theorem cover_kt (i : S1x512x128.Idx) : ∃ t : Fin cfg0.N, (cfg0.win 7).flush t = true ∧ i ∈ ((cfg0.win 7).blk t).view.set := by
  have h0 : (i 0 : Nat) < 1 := (i 0).isLt
  have h1 : (i 1 : Nat) < 512 := (i 1).isLt
  have h2 : (i 2 : Nat) < 128 := (i 2).isLt
  have hN : cfg0.N = 1 := N_0
  refine ⟨⟨0, by rw [hN]; omega⟩, flush0_7 _, ?_⟩
  generalize ht : (⟨0, _⟩ : Fin cfg0.N) = t
  have hv : t.val = 0 := by rw [← ht]
  show i ∈ ((View.whole main_v9_4).slice (win0_7.rect t)).set
  rw [View.set_slice_whole, Rect.mem_set_unit]
  intro a
  match a with
  | ⟨0, _⟩ => show win0_7.index t 0 * 1 ≤ (i 0 : Nat) ∧ (i 0 : Nat) < win0_7.index t 0 * 1 + 1; rw [(idx_kt t).1]; omega
  | ⟨1, _⟩ => show win0_7.index t 1 * 512 ≤ (i 1 : Nat) ∧ (i 1 : Nat) < win0_7.index t 1 * 512 + 512; rw [(idx_kt t).2.1]; omega
  | ⟨2, _⟩ => show win0_7.index t 2 * 128 ≤ (i 2 : Nat) ∧ (i 2 : Nat) < win0_7.index t 2 * 128 + 128; rw [(idx_kt t).2.2]; omega
theorem final_kt (c : Dev nD) : (dats m 0 c).arrAt 7 cfg0.N = arr_kt m c :=
  (dats m 0 c).arrAt_eq_of_cover 7 (arr_kt m c) (fun t _ => flushed_kt m c t) cover_kt

theorem idx_vt : ∀ t : Fin cfg0.N, win0_8.index t 0 = 0 ∧ win0_8.index t 1 = 0 ∧ win0_8.index t 2 = 0 :=
  (by decide +kernel : ∀ t : Fin grid0.N, win0_8.index t 0 = 0 ∧ win0_8.index t 1 = 0 ∧ win0_8.index t 2 = 0)
/-- The array of result `vt`. -/
def arr_vt (c : Dev nD) : Buf (Elt Ideal) ((c : Thread nD τ).loc main_v9_5) := res_vt (m ((c : Thread nD τ).loc main_arg0)) (m ((c : Thread nD τ).loc main_arg1)) (m ((c : Thread nD τ).loc main_arg2))
theorem flushed_vt (c : Dev nD) (t : Fin cfg0.N) :
    (dats m 0 c).flushed 8 t = (win0_8.blk t).view.read (Elt Ideal) (arr_vt m c) := by
  rw [Value.flushed8]
  funext y
  obtain ⟨u, l, s, rfl⟩ : ∃ (u : Fin 1) (l : Fin 512) (s : Fin 128), y = (ix3 u l s : S1x512x128.Idx) := ⟨y 0, y 1, y 2, eq_ix3 y⟩
  rw [View.read_apply]
  have e : ((win0_8.blk t).view.emb (ix3 u l s : S1x512x128.Idx) : S1x512x128.Idx) = ix3 u l s := by
    funext a
    apply Fin.ext
    match a with
    | ⟨0, _⟩ => show win0_8.index t 0 * 1 + 1 * u.val = u.val; rw [(idx_vt t).1]; omega
    | ⟨1, _⟩ => show win0_8.index t 1 * 512 + 1 * l.val = l.val; rw [(idx_vt t).2.1]; omega
    | ⟨2, _⟩ => show win0_8.index t 2 * 128 + 1 * s.val = s.val; rw [(idx_vt t).2.2]; omega
  show _ = arr_vt m c ((win0_8.blk t).view.emb (ix3 u l s : S1x512x128.Idx) : S1x512x128.Idx)
  rw [e]
  obtain rfl : u = 0 := Subsingleton.elim _ _
  refine (out_vt _ _ _ s l).trans ?_
  rw [col_eq m c t s ⟨2560 + l.val, by omega⟩ ⟨2560 + l.val, by omega⟩ (fun w j => W_lo w j _ (by show 2560 + l.val < 3648; omega))]
  exact congrArg (fun a : Fin 128 => pr (m ((c : Thread nD τ).loc main_arg0)) (m ((c : Thread nD τ).loc main_arg1)) (m ((c : Thread nD τ).loc main_arg2)) a ⟨2560 + l.val, by omega⟩) (Fin.ext (show 128 * t.val + s.val = 128 * 0 + s.val by have := lt_pts t; omega))

theorem cover_vt (i : S1x512x128.Idx) : ∃ t : Fin cfg0.N, (cfg0.win 8).flush t = true ∧ i ∈ ((cfg0.win 8).blk t).view.set := by
  have h0 : (i 0 : Nat) < 1 := (i 0).isLt
  have h1 : (i 1 : Nat) < 512 := (i 1).isLt
  have h2 : (i 2 : Nat) < 128 := (i 2).isLt
  have hN : cfg0.N = 1 := N_0
  refine ⟨⟨0, by rw [hN]; omega⟩, flush0_8 _, ?_⟩
  generalize ht : (⟨0, _⟩ : Fin cfg0.N) = t
  have hv : t.val = 0 := by rw [← ht]
  show i ∈ ((View.whole main_v9_5).slice (win0_8.rect t)).set
  rw [View.set_slice_whole, Rect.mem_set_unit]
  intro a
  match a with
  | ⟨0, _⟩ => show win0_8.index t 0 * 1 ≤ (i 0 : Nat) ∧ (i 0 : Nat) < win0_8.index t 0 * 1 + 1; rw [(idx_vt t).1]; omega
  | ⟨1, _⟩ => show win0_8.index t 1 * 512 ≤ (i 1 : Nat) ∧ (i 1 : Nat) < win0_8.index t 1 * 512 + 512; rw [(idx_vt t).2.1]; omega
  | ⟨2, _⟩ => show win0_8.index t 2 * 128 ≤ (i 2 : Nat) ∧ (i 2 : Nat) < win0_8.index t 2 * 128 + 128; rw [(idx_vt t).2.2]; omega
theorem final_vt (c : Dev nD) : (dats m 0 c).arrAt 8 cfg0.N = arr_vt m c :=
  (dats m 0 c).arrAt_eq_of_cover 8 (arr_vt m c) (fun t _ => flushed_vt m c t) cover_vt

theorem idx_kit : ∀ t : Fin cfg0.N, win0_9.index t 0 = 0 ∧ win0_9.index t 1 = 0 ∧ win0_9.index t 2 = 0 :=
  (by decide +kernel : ∀ t : Fin grid0.N, win0_9.index t 0 = 0 ∧ win0_9.index t 1 = 0 ∧ win0_9.index t 2 = 0)
/-- The array of result `kit`. -/
def arr_kit (c : Dev nD) : Buf (Elt Ideal) ((c : Thread nD τ).loc main_v9_6) := res_kit (m ((c : Thread nD τ).loc main_arg0)) (m ((c : Thread nD τ).loc main_arg1)) (m ((c : Thread nD τ).loc main_arg2))
theorem flushed_kit (c : Dev nD) (t : Fin cfg0.N) :
    (dats m 0 c).flushed 9 t = (win0_9.blk t).view.read (Elt Ideal) (arr_kit m c) := by
  rw [Value.flushed9]
  funext y
  obtain ⟨u, l, s, rfl⟩ : ∃ (u : Fin 1) (l : Fin 64) (s : Fin 128), y = (ix3 u l s : S1x64x128.Idx) := ⟨y 0, y 1, y 2, eq_ix3 y⟩
  rw [View.read_apply]
  have e : ((win0_9.blk t).view.emb (ix3 u l s : S1x64x128.Idx) : S1x64x128.Idx) = ix3 u l s := by
    funext a
    apply Fin.ext
    match a with
    | ⟨0, _⟩ => show win0_9.index t 0 * 1 + 1 * u.val = u.val; rw [(idx_kit t).1]; omega
    | ⟨1, _⟩ => show win0_9.index t 1 * 64 + 1 * l.val = l.val; rw [(idx_kit t).2.1]; omega
    | ⟨2, _⟩ => show win0_9.index t 2 * 128 + 1 * s.val = s.val; rw [(idx_kit t).2.2]; omega
  show _ = arr_kit m c ((win0_9.blk t).view.emb (ix3 u l s : S1x64x128.Idx) : S1x64x128.Idx)
  rw [e]
  obtain rfl : u = 0 := Subsingleton.elim _ _
  refine (out_kit _ _ _ s l).trans ?_
  rw [col_eq m c t s ⟨3584 + l.val, by omega⟩ ⟨3584 + l.val, by omega⟩ (fun w j => W_lo w j _ (by show 3584 + l.val < 3648; omega))]
  exact congrArg (fun a : Fin 128 => pr (m ((c : Thread nD τ).loc main_arg0)) (m ((c : Thread nD τ).loc main_arg1)) (m ((c : Thread nD τ).loc main_arg2)) a ⟨3584 + l.val, by omega⟩) (Fin.ext (show 128 * t.val + s.val = 128 * 0 + s.val by have := lt_pts t; omega))

theorem cover_kit (i : S1x64x128.Idx) : ∃ t : Fin cfg0.N, (cfg0.win 9).flush t = true ∧ i ∈ ((cfg0.win 9).blk t).view.set := by
  have h0 : (i 0 : Nat) < 1 := (i 0).isLt
  have h1 : (i 1 : Nat) < 64 := (i 1).isLt
  have h2 : (i 2 : Nat) < 128 := (i 2).isLt
  have hN : cfg0.N = 1 := N_0
  refine ⟨⟨0, by rw [hN]; omega⟩, flush0_9 _, ?_⟩
  generalize ht : (⟨0, _⟩ : Fin cfg0.N) = t
  have hv : t.val = 0 := by rw [← ht]
  show i ∈ ((View.whole main_v9_6).slice (win0_9.rect t)).set
  rw [View.set_slice_whole, Rect.mem_set_unit]
  intro a
  match a with
  | ⟨0, _⟩ => show win0_9.index t 0 * 1 ≤ (i 0 : Nat) ∧ (i 0 : Nat) < win0_9.index t 0 * 1 + 1; rw [(idx_kit t).1]; omega
  | ⟨1, _⟩ => show win0_9.index t 1 * 64 ≤ (i 1 : Nat) ∧ (i 1 : Nat) < win0_9.index t 1 * 64 + 64; rw [(idx_kit t).2.1]; omega
  | ⟨2, _⟩ => show win0_9.index t 2 * 128 ≤ (i 2 : Nat) ∧ (i 2 : Nat) < win0_9.index t 2 * 128 + 128; rw [(idx_kit t).2.2]; omega
theorem final_kit (c : Dev nD) : (dats m 0 c).arrAt 9 cfg0.N = arr_kit m c :=
  (dats m 0 c).arrAt_eq_of_cover 9 (arr_kit m c) (fun t _ => flushed_kit m c t) cover_kit

theorem idx_q : ∀ t : Fin cfg0.N, win0_10.index t 0 = t.val ∧ win0_10.index t 1 = 0 :=
  (by decide +kernel : ∀ t : Fin grid0.N, win0_10.index t 0 = t.val ∧ win0_10.index t 1 = 0)
/-- The array of result `q`. -/
def arr_q (c : Dev nD) : Buf (Elt Ideal) ((c : Thread nD τ).loc main_v9_7) := res_q (m ((c : Thread nD τ).loc main_arg0)) (m ((c : Thread nD τ).loc main_arg1)) (m ((c : Thread nD τ).loc main_arg2))
theorem flushed_q (c : Dev nD) (t : Fin cfg0.N) :
    (dats m 0 c).flushed 10 t = (win0_10.blk t).view.read (Elt Ideal) (arr_q m c) := by
  rw [Value.flushed10]
  funext y
  obtain ⟨r, l, rfl⟩ : ∃ (r : Fin 128) (l : Fin 512), y = (ix2 r l : S128x512.Idx) := ⟨y 0, y 1, eq_ix2 y⟩
  rw [View.read_apply]
  have e : ((win0_10.blk t).view.emb (ix2 r l : S128x512.Idx) : S128x512.Idx) = ix2 ⟨128 * t.val + r.val, by have := lt_pts t; omega⟩ l := by
    funext a
    apply Fin.ext
    match a with
    | ⟨0, _⟩ => show win0_10.index t 0 * 128 + 1 * r.val = 128 * t.val + r.val; rw [(idx_q t).1]; omega
    | ⟨1, _⟩ => show win0_10.index t 1 * 512 + 1 * l.val = l.val; rw [(idx_q t).2]; omega
  show _ = arr_q m c ((win0_10.blk t).view.emb (ix2 r l : S128x512.Idx) : S128x512.Idx)
  rw [e]
  refine (out_q _ _ _ r l).trans ?_
  rw [col_eq m c t r ⟨1536 + l.val, by omega⟩ ⟨1536 + l.val, by omega⟩ (fun w j => W_lo w j _ (by show 1536 + l.val < 3648; omega))]
  rfl

theorem cover_q (i : S128x512.Idx) : ∃ t : Fin cfg0.N, (cfg0.win 10).flush t = true ∧ i ∈ ((cfg0.win 10).blk t).view.set := by
  have h0 : (i 0 : Nat) < 128 := (i 0).isLt
  have h1 : (i 1 : Nat) < 512 := (i 1).isLt
  have hN : cfg0.N = 1 := N_0
  refine ⟨⟨(i 0).val / 128, by rw [hN]; omega⟩, flush0_10 _, ?_⟩
  generalize ht : (⟨(i 0).val / 128, _⟩ : Fin cfg0.N) = t
  have hv : t.val = (i 0).val / 128 := by rw [← ht]
  show i ∈ ((View.whole main_v9_7).slice (win0_10.rect t)).set
  rw [View.set_slice_whole, Rect.mem_set_unit]
  intro a
  match a with
  | ⟨0, _⟩ => show win0_10.index t 0 * 128 ≤ (i 0 : Nat) ∧ (i 0 : Nat) < win0_10.index t 0 * 128 + 128; rw [(idx_q t).1]; omega
  | ⟨1, _⟩ => show win0_10.index t 1 * 512 ≤ (i 1 : Nat) ∧ (i 1 : Nat) < win0_10.index t 1 * 512 + 512; rw [(idx_q t).2]; omega
theorem final_q (c : Dev nD) : (dats m 0 c).arrAt 10 cfg0.N = arr_q m c :=
  (dats m 0 c).arrAt_eq_of_cover 10 (arr_q m c) (fun t _ => flushed_q m c t) cover_q

theorem idx_qi : ∀ t : Fin cfg0.N, win0_11.index t 0 = t.val ∧ win0_11.index t 1 = 0 :=
  (by decide +kernel : ∀ t : Fin grid0.N, win0_11.index t 0 = t.val ∧ win0_11.index t 1 = 0)
/-- The array of result `qi`. -/
def arr_qi (c : Dev nD) : Buf (Elt Ideal) ((c : Thread nD τ).loc main_v9_8) := res_qi (m ((c : Thread nD τ).loc main_arg0)) (m ((c : Thread nD τ).loc main_arg1)) (m ((c : Thread nD τ).loc main_arg2))
theorem flushed_qi (c : Dev nD) (t : Fin cfg0.N) :
    (dats m 0 c).flushed 11 t = (win0_11.blk t).view.read (Elt Ideal) (arr_qi m c) := by
  rw [Value.flushed11]
  funext y
  obtain ⟨r, l, rfl⟩ : ∃ (r : Fin 128) (l : Fin 512), y = (ix2 r l : S128x512.Idx) := ⟨y 0, y 1, eq_ix2 y⟩
  rw [View.read_apply]
  have e : ((win0_11.blk t).view.emb (ix2 r l : S128x512.Idx) : S128x512.Idx) = ix2 ⟨128 * t.val + r.val, by have := lt_pts t; omega⟩ l := by
    funext a
    apply Fin.ext
    match a with
    | ⟨0, _⟩ => show win0_11.index t 0 * 128 + 1 * r.val = 128 * t.val + r.val; rw [(idx_qi t).1]; omega
    | ⟨1, _⟩ => show win0_11.index t 1 * 512 + 1 * l.val = l.val; rw [(idx_qi t).2]; omega
  show _ = arr_qi m c ((win0_11.blk t).view.emb (ix2 r l : S128x512.Idx) : S128x512.Idx)
  rw [e]
  refine (out_qi _ _ _ r l).trans ?_
  rw [col_eq m c t r ⟨3072 + l.val, by omega⟩ ⟨3072 + l.val, by omega⟩ (fun w j => W_lo w j _ (by show 3072 + l.val < 3648; omega))]
  rfl

theorem cover_qi (i : S128x512.Idx) : ∃ t : Fin cfg0.N, (cfg0.win 11).flush t = true ∧ i ∈ ((cfg0.win 11).blk t).view.set := by
  have h0 : (i 0 : Nat) < 128 := (i 0).isLt
  have h1 : (i 1 : Nat) < 512 := (i 1).isLt
  have hN : cfg0.N = 1 := N_0
  refine ⟨⟨(i 0).val / 128, by rw [hN]; omega⟩, flush0_11 _, ?_⟩
  generalize ht : (⟨(i 0).val / 128, _⟩ : Fin cfg0.N) = t
  have hv : t.val = (i 0).val / 128 := by rw [← ht]
  show i ∈ ((View.whole main_v9_8).slice (win0_11.rect t)).set
  rw [View.set_slice_whole, Rect.mem_set_unit]
  intro a
  match a with
  | ⟨0, _⟩ => show win0_11.index t 0 * 128 ≤ (i 0 : Nat) ∧ (i 0 : Nat) < win0_11.index t 0 * 128 + 128; rw [(idx_qi t).1]; omega
  | ⟨1, _⟩ => show win0_11.index t 1 * 512 ≤ (i 1 : Nat) ∧ (i 1 : Nat) < win0_11.index t 1 * 512 + 512; rw [(idx_qi t).2]; omega
theorem final_qi (c : Dev nD) : (dats m 0 c).arrAt 11 cfg0.N = arr_qi m c :=
  (dats m 0 c).arrAt_eq_of_cover 11 (arr_qi m c) (fun t _ => flushed_qi m c t) cover_qi

theorem idx_wi : ∀ t : Fin cfg0.N, win0_12.index t 0 = t.val ∧ win0_12.index t 1 = 0 :=
  (by decide +kernel : ∀ t : Fin grid0.N, win0_12.index t 0 = t.val ∧ win0_12.index t 1 = 0)
/-- The array of result `wi`. -/
def arr_wi (c : Dev nD) : Buf (Elt Ideal) ((c : Thread nD τ).loc main_v9_9) := res_wi (m ((c : Thread nD τ).loc main_arg0)) (m ((c : Thread nD τ).loc main_arg1)) (m ((c : Thread nD τ).loc main_arg2))
theorem flushed_wi (c : Dev nD) (t : Fin cfg0.N) :
    (dats m 0 c).flushed 12 t = (win0_12.blk t).view.read (Elt Ideal) (arr_wi m c) := by
  rw [Value.flushed12]
  funext y
  obtain ⟨r, l, rfl⟩ : ∃ (r : Fin 128) (l : Fin 8), y = (ix2 r l : S128x8.Idx) := ⟨y 0, y 1, eq_ix2 y⟩
  rw [View.read_apply]
  have e : ((win0_12.blk t).view.emb (ix2 r l : S128x8.Idx) : S128x8.Idx) = ix2 ⟨128 * t.val + r.val, by have := lt_pts t; omega⟩ l := by
    funext a
    apply Fin.ext
    match a with
    | ⟨0, _⟩ => show win0_12.index t 0 * 128 + 1 * r.val = 128 * t.val + r.val; rw [(idx_wi t).1]; omega
    | ⟨1, _⟩ => show win0_12.index t 1 * 8 + 1 * l.val = l.val; rw [(idx_wi t).2]; omega
  show _ = arr_wi m c ((win0_12.blk t).view.emb (ix2 r l : S128x8.Idx) : S128x8.Idx)
  rw [e]
  refine (out_wi _ _ _ r l).trans ?_
  rw [col_eq m c t r ⟨3712 + l.val, by omega⟩ ⟨3648 + l.val, by omega⟩ (fun w j => W_wi w j _)]
  rfl

theorem cover_wi (i : S128x8.Idx) : ∃ t : Fin cfg0.N, (cfg0.win 12).flush t = true ∧ i ∈ ((cfg0.win 12).blk t).view.set := by
  have h0 : (i 0 : Nat) < 128 := (i 0).isLt
  have h1 : (i 1 : Nat) < 8 := (i 1).isLt
  have hN : cfg0.N = 1 := N_0
  refine ⟨⟨(i 0).val / 128, by rw [hN]; omega⟩, flush0_12 _, ?_⟩
  generalize ht : (⟨(i 0).val / 128, _⟩ : Fin cfg0.N) = t
  have hv : t.val = (i 0).val / 128 := by rw [← ht]
  show i ∈ ((View.whole main_v9_9).slice (win0_12.rect t)).set
  rw [View.set_slice_whole, Rect.mem_set_unit]
  intro a
  match a with
  | ⟨0, _⟩ => show win0_12.index t 0 * 128 ≤ (i 0 : Nat) ∧ (i 0 : Nat) < win0_12.index t 0 * 128 + 128; rw [(idx_wi t).1]; omega
  | ⟨1, _⟩ => show win0_12.index t 1 * 8 ≤ (i 1 : Nat) ∧ (i 1 : Nat) < win0_12.index t 1 * 8 + 8; rw [(idx_wi t).2]; omega
theorem final_wi (c : Dev nD) : (dats m 0 c).arrAt 12 cfg0.N = arr_wi m c :=
  (dats m 0 c).arrAt_eq_of_cover 12 (arr_wi m c) (fun t _ => flushed_wi m c t) cover_wi

theorem idx_k : ∀ t : Fin cfg0.N, win0_13.index t 0 = t.val ∧ win0_13.index t 1 = 0 :=
  (by decide +kernel : ∀ t : Fin grid0.N, win0_13.index t 0 = t.val ∧ win0_13.index t 1 = 0)
/-- The array of result `k`. -/
def arr_k (c : Dev nD) : Buf (Elt Ideal) ((c : Thread nD τ).loc main_v9_10) := res_k (m ((c : Thread nD τ).loc main_arg0)) (m ((c : Thread nD τ).loc main_arg1)) (m ((c : Thread nD τ).loc main_arg2))
theorem flushed_k (c : Dev nD) (t : Fin cfg0.N) :
    (dats m 0 c).flushed 13 t = (win0_13.blk t).view.read (Elt Ideal) (arr_k m c) := by
  rw [Value.flushed13]
  funext y
  obtain ⟨r, l, rfl⟩ : ∃ (r : Fin 128) (l : Fin 512), y = (ix2 r l : S128x512.Idx) := ⟨y 0, y 1, eq_ix2 y⟩
  rw [View.read_apply]
  have e : ((win0_13.blk t).view.emb (ix2 r l : S128x512.Idx) : S128x512.Idx) = ix2 ⟨128 * t.val + r.val, by have := lt_pts t; omega⟩ l := by
    funext a
    apply Fin.ext
    match a with
    | ⟨0, _⟩ => show win0_13.index t 0 * 128 + 1 * r.val = 128 * t.val + r.val; rw [(idx_k t).1]; omega
    | ⟨1, _⟩ => show win0_13.index t 1 * 512 + 1 * l.val = l.val; rw [(idx_k t).2]; omega
  show _ = arr_k m c ((win0_13.blk t).view.emb (ix2 r l : S128x512.Idx) : S128x512.Idx)
  rw [e]
  refine (out_k _ _ _ r l).trans ?_
  rw [col_eq m c t r ⟨2048 + l.val, by omega⟩ ⟨2048 + l.val, by omega⟩ (fun w j => W_lo w j _ (by show 2048 + l.val < 3648; omega))]
  rfl

theorem cover_k (i : S128x512.Idx) : ∃ t : Fin cfg0.N, (cfg0.win 13).flush t = true ∧ i ∈ ((cfg0.win 13).blk t).view.set := by
  have h0 : (i 0 : Nat) < 128 := (i 0).isLt
  have h1 : (i 1 : Nat) < 512 := (i 1).isLt
  have hN : cfg0.N = 1 := N_0
  refine ⟨⟨(i 0).val / 128, by rw [hN]; omega⟩, flush0_13 _, ?_⟩
  generalize ht : (⟨(i 0).val / 128, _⟩ : Fin cfg0.N) = t
  have hv : t.val = (i 0).val / 128 := by rw [← ht]
  show i ∈ ((View.whole main_v9_10).slice (win0_13.rect t)).set
  rw [View.set_slice_whole, Rect.mem_set_unit]
  intro a
  match a with
  | ⟨0, _⟩ => show win0_13.index t 0 * 128 ≤ (i 0 : Nat) ∧ (i 0 : Nat) < win0_13.index t 0 * 128 + 128; rw [(idx_k t).1]; omega
  | ⟨1, _⟩ => show win0_13.index t 1 * 512 ≤ (i 1 : Nat) ∧ (i 1 : Nat) < win0_13.index t 1 * 512 + 512; rw [(idx_k t).2]; omega
theorem final_k (c : Dev nD) : (dats m 0 c).arrAt 13 cfg0.N = arr_k m c :=
  (dats m 0 c).arrAt_eq_of_cover 13 (arr_k m c) (fun t _ => flushed_k m c t) cover_k

theorem idx_v : ∀ t : Fin cfg0.N, win0_14.index t 0 = t.val ∧ win0_14.index t 1 = 0 :=
  (by decide +kernel : ∀ t : Fin grid0.N, win0_14.index t 0 = t.val ∧ win0_14.index t 1 = 0)
/-- The array of result `v`. -/
def arr_v (c : Dev nD) : Buf (Elt Ideal) ((c : Thread nD τ).loc main_v9_11) := res_v (m ((c : Thread nD τ).loc main_arg0)) (m ((c : Thread nD τ).loc main_arg1)) (m ((c : Thread nD τ).loc main_arg2))
theorem flushed_v (c : Dev nD) (t : Fin cfg0.N) :
    (dats m 0 c).flushed 14 t = (win0_14.blk t).view.read (Elt Ideal) (arr_v m c) := by
  rw [Value.flushed14]
  funext y
  obtain ⟨r, l, rfl⟩ : ∃ (r : Fin 128) (l : Fin 512), y = (ix2 r l : S128x512.Idx) := ⟨y 0, y 1, eq_ix2 y⟩
  rw [View.read_apply]
  have e : ((win0_14.blk t).view.emb (ix2 r l : S128x512.Idx) : S128x512.Idx) = ix2 ⟨128 * t.val + r.val, by have := lt_pts t; omega⟩ l := by
    funext a
    apply Fin.ext
    match a with
    | ⟨0, _⟩ => show win0_14.index t 0 * 128 + 1 * r.val = 128 * t.val + r.val; rw [(idx_v t).1]; omega
    | ⟨1, _⟩ => show win0_14.index t 1 * 512 + 1 * l.val = l.val; rw [(idx_v t).2]; omega
  show _ = arr_v m c ((win0_14.blk t).view.emb (ix2 r l : S128x512.Idx) : S128x512.Idx)
  rw [e]
  refine (out_v _ _ _ r l).trans ?_
  rw [col_eq m c t r ⟨2560 + l.val, by omega⟩ ⟨2560 + l.val, by omega⟩ (fun w j => W_lo w j _ (by show 2560 + l.val < 3648; omega))]
  rfl

theorem cover_v (i : S128x512.Idx) : ∃ t : Fin cfg0.N, (cfg0.win 14).flush t = true ∧ i ∈ ((cfg0.win 14).blk t).view.set := by
  have h0 : (i 0 : Nat) < 128 := (i 0).isLt
  have h1 : (i 1 : Nat) < 512 := (i 1).isLt
  have hN : cfg0.N = 1 := N_0
  refine ⟨⟨(i 0).val / 128, by rw [hN]; omega⟩, flush0_14 _, ?_⟩
  generalize ht : (⟨(i 0).val / 128, _⟩ : Fin cfg0.N) = t
  have hv : t.val = (i 0).val / 128 := by rw [← ht]
  show i ∈ ((View.whole main_v9_11).slice (win0_14.rect t)).set
  rw [View.set_slice_whole, Rect.mem_set_unit]
  intro a
  match a with
  | ⟨0, _⟩ => show win0_14.index t 0 * 128 ≤ (i 0 : Nat) ∧ (i 0 : Nat) < win0_14.index t 0 * 128 + 128; rw [(idx_v t).1]; omega
  | ⟨1, _⟩ => show win0_14.index t 1 * 512 ≤ (i 1 : Nat) ∧ (i 1 : Nat) < win0_14.index t 1 * 512 + 512; rw [(idx_v t).2]; omega
theorem final_v (c : Dev nD) : (dats m 0 c).arrAt 14 cfg0.N = arr_v m c :=
  (dats m 0 c).arrAt_eq_of_cover 14 (arr_v m c) (fun t _ => flushed_v m c t) cover_v

theorem idx_ki : ∀ t : Fin cfg0.N, win0_15.index t 0 = t.val ∧ win0_15.index t 1 = 0 :=
  (by decide +kernel : ∀ t : Fin grid0.N, win0_15.index t 0 = t.val ∧ win0_15.index t 1 = 0)
/-- The array of result `ki`. -/
def arr_ki (c : Dev nD) : Buf (Elt Ideal) ((c : Thread nD τ).loc main_v9_12) := res_ki (m ((c : Thread nD τ).loc main_arg0)) (m ((c : Thread nD τ).loc main_arg1)) (m ((c : Thread nD τ).loc main_arg2))
theorem flushed_ki (c : Dev nD) (t : Fin cfg0.N) :
    (dats m 0 c).flushed 15 t = (win0_15.blk t).view.read (Elt Ideal) (arr_ki m c) := by
  rw [Value.flushed15]
  funext y
  obtain ⟨r, l, rfl⟩ : ∃ (r : Fin 128) (l : Fin 64), y = (ix2 r l : S128x64.Idx) := ⟨y 0, y 1, eq_ix2 y⟩
  rw [View.read_apply]
  have e : ((win0_15.blk t).view.emb (ix2 r l : S128x64.Idx) : S128x64.Idx) = ix2 ⟨128 * t.val + r.val, by have := lt_pts t; omega⟩ l := by
    funext a
    apply Fin.ext
    match a with
    | ⟨0, _⟩ => show win0_15.index t 0 * 128 + 1 * r.val = 128 * t.val + r.val; rw [(idx_ki t).1]; omega
    | ⟨1, _⟩ => show win0_15.index t 1 * 64 + 1 * l.val = l.val; rw [(idx_ki t).2]; omega
  show _ = arr_ki m c ((win0_15.blk t).view.emb (ix2 r l : S128x64.Idx) : S128x64.Idx)
  rw [e]
  refine (out_ki _ _ _ r l).trans ?_
  rw [col_eq m c t r ⟨3584 + l.val, by omega⟩ ⟨3584 + l.val, by omega⟩ (fun w j => W_lo w j _ (by show 3584 + l.val < 3648; omega))]
  rfl

theorem cover_ki (i : S128x64.Idx) : ∃ t : Fin cfg0.N, (cfg0.win 15).flush t = true ∧ i ∈ ((cfg0.win 15).blk t).view.set := by
  have h0 : (i 0 : Nat) < 128 := (i 0).isLt
  have h1 : (i 1 : Nat) < 64 := (i 1).isLt
  have hN : cfg0.N = 1 := N_0
  refine ⟨⟨(i 0).val / 128, by rw [hN]; omega⟩, flush0_15 _, ?_⟩
  generalize ht : (⟨(i 0).val / 128, _⟩ : Fin cfg0.N) = t
  have hv : t.val = (i 0).val / 128 := by rw [← ht]
  show i ∈ ((View.whole main_v9_12).slice (win0_15.rect t)).set
  rw [View.set_slice_whole, Rect.mem_set_unit]
  intro a
  match a with
  | ⟨0, _⟩ => show win0_15.index t 0 * 128 ≤ (i 0 : Nat) ∧ (i 0 : Nat) < win0_15.index t 0 * 128 + 128; rw [(idx_ki t).1]; omega
  | ⟨1, _⟩ => show win0_15.index t 1 * 64 ≤ (i 1 : Nat) ∧ (i 1 : Nat) < win0_15.index t 1 * 64 + 64; rw [(idx_ki t).2]; omega
theorem final_ki (c : Dev nD) : (dats m 0 c).arrAt 15 cfg0.N = arr_ki m c :=
  (dats m 0 c).arrAt_eq_of_cover 15 (arr_ki m c) (fun t _ => flushed_ki m c t) cover_ki

end Cert.ProjSampleIdeal.Hand

/-! ## The reference's side -/

namespace Cert.RefProjSampleIdeal.Hand

open Cert.RefProjSampleIdeal Cert.RefProjSampleIdeal.Read Cert.LayerMath Cert.ProjSampleIdeal.Hand

variable (x : (⟨S128x1024, .f32⟩ : BufTy).Contents (Elt Ideal)) (g : (⟨S1024, .f32⟩ : BufTy).Contents (Elt Ideal))
  (w : (⟨S1024x5704, .f32⟩ : BufTy).Contents (Elt Ideal))

theorem norm_apply (r : Fin 128) (j : Fin 1024) :
    val_main_v12 (F := Ideal) x g (ix2 r j) = rms (fun k => x (ix2 r k)) (fun k => g (ix1 k)) j := by
  pointwise [rms, val_main_v12, val_main_v11, val_main_v10, val_main_v9, val_main_v8, val_main_v7, val_main_v6, val_main_v5,
    val_main_v4, val_main_v3, val_main_v2, val_main_v1, val_main_v0, val_main_cst, val_main_cst_0, val_main_cst_1]

theorem dot_apply (r : Fin 128) (q : Fin 5704) : val_main_v13 (F := Ideal) x g w (ix2 r q) = pr x g w r q := by
  rw [val_main_v13_apply]
  unfold pr proj
  refine Finset.sum_congr rfl fun j _ => congrArg₂ (· * ·) ?_ (congrArg w ?_)
  · exact (congrArg _ (eq_ix2 _)).trans (norm_apply x g r j)
  · exact eq_ix2 _

theorem slice14_apply (r : Fin 128) (l : Fin 512) : val_main_v14 (F := Ideal) x g w (ix2 r l) = pr x g w r ⟨l.val, by omega⟩ := by
  rw [← dot_apply]
  pointwise [val_main_v14]

theorem slice15_apply (r : Fin 128) (l : Fin 512) : val_main_v15 (F := Ideal) x g w (ix2 r l) = pr x g w r ⟨512 + l.val, by omega⟩ := by
  rw [← dot_apply]
  pointwise [val_main_v15]

theorem slice16_apply (r : Fin 128) (l : Fin 512) : val_main_v16 (F := Ideal) x g w (ix2 r l) = pr x g w r ⟨1024 + l.val, by omega⟩ := by
  rw [← dot_apply]
  pointwise [val_main_v16]

theorem slice17_apply (r : Fin 128) (l : Fin 512) : val_main_v17 (F := Ideal) x g w (ix2 r l) = pr x g w r ⟨1536 + l.val, by omega⟩ := by
  rw [← dot_apply]
  pointwise [val_main_v17]

theorem slice18_apply (r : Fin 128) (l : Fin 512) : val_main_v18 (F := Ideal) x g w (ix2 r l) = pr x g w r ⟨2048 + l.val, by omega⟩ := by
  rw [← dot_apply]
  pointwise [val_main_v18]

theorem slice19_apply (r : Fin 128) (l : Fin 512) : val_main_v19 (F := Ideal) x g w (ix2 r l) = pr x g w r ⟨2560 + l.val, by omega⟩ := by
  rw [← dot_apply]
  pointwise [val_main_v19]

theorem slice20_apply (r : Fin 128) (l : Fin 512) : val_main_v20 (F := Ideal) x g w (ix2 r l) = pr x g w r ⟨3072 + l.val, by omega⟩ := by
  rw [← dot_apply]
  pointwise [val_main_v20]

theorem slice21_apply (r : Fin 128) (l : Fin 64) : val_main_v21 (F := Ideal) x g w (ix2 r l) = pr x g w r ⟨3584 + l.val, by omega⟩ := by
  rw [← dot_apply]
  pointwise [val_main_v21]

theorem slice22_apply (r : Fin 128) (l : Fin 8) : val_main_v22 (F := Ideal) x g w (ix2 r l) = pr x g w r ⟨3648 + l.val, by omega⟩ := by
  rw [← dot_apply]
  pointwise [val_main_v22]

theorem slice23_apply (r : Fin 128) (l : Fin 1024) : val_main_v23 (F := Ideal) x g w (ix2 r l) = pr x g w r ⟨3656 + l.val, by omega⟩ := by
  rw [← dot_apply]
  pointwise [val_main_v23]

theorem slice24_apply (r : Fin 128) (l : Fin 1024) : val_main_v24 (F := Ideal) x g w (ix2 r l) = pr x g w r ⟨4680 + l.val, by omega⟩ := by
  rw [← dot_apply]
  pointwise [val_main_v24]

theorem ref_z : val_main_v25 (F := Ideal) x g w = res_z x g w := by
  funext i
  obtain ⟨r, l, rfl⟩ : ∃ (r : Fin 128) (l : Fin 512), i = (ix2 r l : S128x512.Idx) := ⟨i 0, i 1, eq_ix2 i⟩
  show _ = at_z x g w r l
  pointwise [val_main_v25, slice16_apply, slice14_apply, at_z, sigm, zero_sub]

theorem ref_bc : val_main_v15 (F := Ideal) x g w = res_bc x g w := by
  funext i
  obtain ⟨r, l, rfl⟩ : ∃ (r : Fin 128) (l : Fin 512), i = (ix2 r l : S128x512.Idx) := ⟨i 0, i 1, eq_ix2 i⟩
  show _ = at_bc x g w r l
  pointwise [slice15_apply, at_bc, sigm, zero_sub]

theorem ref_sgc : val_main_v31 (F := Ideal) x g w = res_sgc x g w := by
  funext i
  obtain ⟨r, l, rfl⟩ : ∃ (r : Fin 128) (l : Fin 1024), i = (ix2 r l : S128x1024.Idx) := ⟨i 0, i 1, eq_ix2 i⟩
  show _ = at_sgc x g w r l
  pointwise [val_main_v31, val_main_v30, val_main_v29, val_main_v28, val_main_v27, val_main_v26, val_main_cst_2, val_main_cst_3, slice23_apply, at_sgc, sigm, zero_sub]

theorem ref_sga : val_main_v37 (F := Ideal) x g w = res_sga x g w := by
  funext i
  obtain ⟨r, l, rfl⟩ : ∃ (r : Fin 128) (l : Fin 1024), i = (ix2 r l : S128x1024.Idx) := ⟨i 0, i 1, eq_ix2 i⟩
  show _ = at_sga x g w r l
  pointwise [val_main_v37, val_main_v36, val_main_v35, val_main_v34, val_main_v33, val_main_v32, val_main_cst_4, val_main_cst_5, slice24_apply, at_sga, sigm, zero_sub]

theorem ref_kt : val_main_v39 (F := Ideal) x g w = res_kt x g w := by
  funext i
  obtain ⟨b, l, s, rfl⟩ : ∃ (b : Fin 1) (l : Fin 512) (s : Fin 128), i = (ix3 b l s : S1x512x128.Idx) := ⟨i 0, i 1, i 2, eq_ix3 i⟩
  show _ = at_kt x g w b l s
  pointwise [val_main_v39, val_main_v38, slice18_apply, at_kt, sigm, zero_sub]

theorem ref_vt : val_main_v41 (F := Ideal) x g w = res_vt x g w := by
  funext i
  obtain ⟨b, l, s, rfl⟩ : ∃ (b : Fin 1) (l : Fin 512) (s : Fin 128), i = (ix3 b l s : S1x512x128.Idx) := ⟨i 0, i 1, i 2, eq_ix3 i⟩
  show _ = at_vt x g w b l s
  pointwise [val_main_v41, val_main_v40, slice19_apply, at_vt, sigm, zero_sub]

theorem ref_kit : val_main_v43 (F := Ideal) x g w = res_kit x g w := by
  funext i
  obtain ⟨b, l, s, rfl⟩ : ∃ (b : Fin 1) (l : Fin 64) (s : Fin 128), i = (ix3 b l s : S1x64x128.Idx) := ⟨i 0, i 1, i 2, eq_ix3 i⟩
  show _ = at_kit x g w b l s
  pointwise [val_main_v43, val_main_v42, slice21_apply, at_kit, sigm, zero_sub]

theorem ref_q : val_main_v46 (F := Ideal) x g w = res_q x g w := by
  funext i
  obtain ⟨r, l, rfl⟩ : ∃ (r : Fin 128) (l : Fin 512), i = (ix2 r l : S128x512.Idx) := ⟨i 0, i 1, eq_ix2 i⟩
  show _ = at_q x g w r l
  pointwise [val_main_v46, val_main_v45, val_main_v44, val_main_cst_6, slice17_apply, at_q, sigm, zero_sub]

theorem ref_qi : val_main_v49 (F := Ideal) x g w = res_qi x g w := by
  funext i
  obtain ⟨r, l, rfl⟩ : ∃ (r : Fin 128) (l : Fin 512), i = (ix2 r l : S128x512.Idx) := ⟨i 0, i 1, eq_ix2 i⟩
  show _ = at_qi x g w r l
  pointwise [val_main_v49, val_main_v48, val_main_v47, val_main_cst_7, slice20_apply, at_qi, sigm, zero_sub]

theorem ref_wi : val_main_v51 (F := Ideal) x g w = res_wi x g w := by
  funext i
  obtain ⟨r, l, rfl⟩ : ∃ (r : Fin 128) (l : Fin 8), i = (ix2 r l : S128x8.Idx) := ⟨i 0, i 1, eq_ix2 i⟩
  show _ = at_wi x g w r l
  pointwise [val_main_v51, val_main_v50, val_main_cst_8, slice22_apply, at_wi, sigm, zero_sub]

theorem ref_k : val_main_v18 (F := Ideal) x g w = res_k x g w := by
  funext i
  obtain ⟨r, l, rfl⟩ : ∃ (r : Fin 128) (l : Fin 512), i = (ix2 r l : S128x512.Idx) := ⟨i 0, i 1, eq_ix2 i⟩
  show _ = at_k x g w r l
  pointwise [slice18_apply, at_k, sigm, zero_sub]

theorem ref_v : val_main_v19 (F := Ideal) x g w = res_v x g w := by
  funext i
  obtain ⟨r, l, rfl⟩ : ∃ (r : Fin 128) (l : Fin 512), i = (ix2 r l : S128x512.Idx) := ⟨i 0, i 1, eq_ix2 i⟩
  show _ = at_v x g w r l
  pointwise [slice19_apply, at_v, sigm, zero_sub]

theorem ref_ki : val_main_v21 (F := Ideal) x g w = res_ki x g w := by
  funext i
  obtain ⟨r, l, rfl⟩ : ∃ (r : Fin 128) (l : Fin 64), i = (ix2 r l : S128x64.Idx) := ⟨i 0, i 1, eq_ix2 i⟩
  show _ = at_ki x g w r l
  pointwise [slice21_apply, at_ki, sigm, zero_sub]

end Cert.RefProjSampleIdeal.Hand

end
-- ==== Proof.ProjSampleClaims.lean ====
/- The five claims of the sample rows' projection: both frames of the kernel, the frame of the reference, the (empty) list of
   rewrites of the idealization, and the equality of all thirteen results over the extended reals. -/
module

public import proofs.«01_k».proof.Defs
public import proofs.«01_k».proof.Proof.Gen.ProjSample.Frame
public import proofs.«01_k».proof.Proof.Gen.ProjSampleIdeal.Value
public import proofs.«01_k».proof.Proof.Gen.RefProjSampleIdeal.Run
public import proofs.«01_k».proof.Proof.ProjSampleValue
import Idealize.ShloMosaic.Lib.Quiescent

@[expose] public section

namespace Cert.Proof.ProjSampleClaims

open Idealize.ShloMosaic Idealize.SL.Sem

/-- The kernel's frame over the machine's floats. -/
theorem frame_p : Cert.quiescent_ProjSample := fun m ρ _ => Cert.ProjSample.Gen.frame m ρ

/-- The kernel's frame over the extended reals. -/
theorem frame_pi : Cert.quiescent_ProjSampleIdeal := fun m ρ _ => Cert.ProjSampleIdeal.Gen.frame m ρ

/-- The reference's frame over the extended reals: it leaves its arguments alone and declares no semaphore. -/
theorem frame_ri : Cert.quiescent_RefProjSampleIdeal := fun m ρ _ =>
  (θ_run Cert.RefProjSampleIdeal.defs _ _).mono (fun r h => ⟨fun c => (h c).2.2.2.2.2.2.2.2.2.2.2.2.2, sem_eq_zero_of_no_sems (by decide) r.2⟩)
    (Cert.RefProjSampleIdeal.Value.run (F := Ideal) m ρ)

/-- The idealization rewrote no operation of the kernel. -/
theorem preserves : Cert.preserves_ProjSample_ProjSampleIdeal := trivial

/-- From arguments that agree, each of the kernel's result arrays equals the reference's: both are the function of the
    arguments that `ProjSampleValue` names for it. -/
theorem algebraic : Cert.algebraic_ProjSampleIdeal_RefProjSampleIdeal := by
  intro m ρ m' ρ' _ hagree
  refine ⟨fun c => Cert.ProjSampleIdeal.Hand.arr_z m c, fun c => Cert.ProjSampleIdeal.Hand.arr_bc m c, fun c => Cert.ProjSampleIdeal.Hand.arr_sgc m c, fun c => Cert.ProjSampleIdeal.Hand.arr_sga m c, fun c => Cert.ProjSampleIdeal.Hand.arr_kt m c, fun c => Cert.ProjSampleIdeal.Hand.arr_vt m c, fun c => Cert.ProjSampleIdeal.Hand.arr_kit m c, fun c => Cert.ProjSampleIdeal.Hand.arr_q m c, fun c => Cert.ProjSampleIdeal.Hand.arr_qi m c, fun c => Cert.ProjSampleIdeal.Hand.arr_wi m c, fun c => Cert.ProjSampleIdeal.Hand.arr_k m c, fun c => Cert.ProjSampleIdeal.Hand.arr_v m c, fun c => Cert.ProjSampleIdeal.Hand.arr_ki m c, ?_, ?_⟩
  · refine (θ_run Cert.ProjSampleIdeal.defs _ _).mono (fun _ h c => ?_) (Cert.ProjSampleIdeal.Value.run_blocks m ρ)
    obtain ⟨e0, e1, e2, e3, e4, e5, e6, e7, e8, e9, e10, e11, e12, hk⟩ := h c
    exact ⟨e0.trans (Cert.ProjSampleIdeal.Hand.final_z m c), e1.trans (Cert.ProjSampleIdeal.Hand.final_bc m c), e2.trans (Cert.ProjSampleIdeal.Hand.final_sgc m c), e3.trans (Cert.ProjSampleIdeal.Hand.final_sga m c), e4.trans (Cert.ProjSampleIdeal.Hand.final_kt m c), e5.trans (Cert.ProjSampleIdeal.Hand.final_vt m c), e6.trans (Cert.ProjSampleIdeal.Hand.final_kit m c), e7.trans (Cert.ProjSampleIdeal.Hand.final_q m c), e8.trans (Cert.ProjSampleIdeal.Hand.final_qi m c), e9.trans (Cert.ProjSampleIdeal.Hand.final_wi m c), e10.trans (Cert.ProjSampleIdeal.Hand.final_k m c), e11.trans (Cert.ProjSampleIdeal.Hand.final_v m c), e12.trans (Cert.ProjSampleIdeal.Hand.final_ki m c), hk⟩
  · refine (θ_run Cert.RefProjSampleIdeal.defs _ _).mono (fun _ h c => ?_) (Cert.RefProjSampleIdeal.Value.run (F := Ideal) m' ρ')
    obtain ⟨e0, e1, e2, e3, e4, e5, e6, e7, e8, e9, e10, e11, e12, hk⟩ := h c
    obtain ⟨a0, a1, a2⟩ := hagree c
    refine ⟨e0.trans ?_, e1.trans ?_, e2.trans ?_, e3.trans ?_, e4.trans ?_, e5.trans ?_, e6.trans ?_, e7.trans ?_, e8.trans ?_, e9.trans ?_, e10.trans ?_, e11.trans ?_, e12.trans ?_, hk⟩
    · rw [a0, a1, a2]; exact (Cert.RefProjSampleIdeal.Read.val_main_v25_eq _ _ _).trans (Cert.RefProjSampleIdeal.Hand.ref_z _ _ _)
    · rw [a0, a1, a2]; exact (Cert.RefProjSampleIdeal.Read.val_main_v15_eq _ _ _).trans (Cert.RefProjSampleIdeal.Hand.ref_bc _ _ _)
    · rw [a0, a1, a2]; exact (Cert.RefProjSampleIdeal.Read.val_main_v31_eq _ _ _).trans (Cert.RefProjSampleIdeal.Hand.ref_sgc _ _ _)
    · rw [a0, a1, a2]; exact (Cert.RefProjSampleIdeal.Read.val_main_v37_eq _ _ _).trans (Cert.RefProjSampleIdeal.Hand.ref_sga _ _ _)
    · rw [a0, a1, a2]; exact (Cert.RefProjSampleIdeal.Read.val_main_v39_eq _ _ _).trans (Cert.RefProjSampleIdeal.Hand.ref_kt _ _ _)
    · rw [a0, a1, a2]; exact (Cert.RefProjSampleIdeal.Read.val_main_v41_eq _ _ _).trans (Cert.RefProjSampleIdeal.Hand.ref_vt _ _ _)
    · rw [a0, a1, a2]; exact (Cert.RefProjSampleIdeal.Read.val_main_v43_eq _ _ _).trans (Cert.RefProjSampleIdeal.Hand.ref_kit _ _ _)
    · rw [a0, a1, a2]; exact (Cert.RefProjSampleIdeal.Read.val_main_v46_eq _ _ _).trans (Cert.RefProjSampleIdeal.Hand.ref_q _ _ _)
    · rw [a0, a1, a2]; exact (Cert.RefProjSampleIdeal.Read.val_main_v49_eq _ _ _).trans (Cert.RefProjSampleIdeal.Hand.ref_qi _ _ _)
    · rw [a0, a1, a2]; exact (Cert.RefProjSampleIdeal.Read.val_main_v51_eq _ _ _).trans (Cert.RefProjSampleIdeal.Hand.ref_wi _ _ _)
    · rw [a0, a1, a2]; exact (Cert.RefProjSampleIdeal.Read.val_main_v18_eq _ _ _).trans (Cert.RefProjSampleIdeal.Hand.ref_k _ _ _)
    · rw [a0, a1, a2]; exact (Cert.RefProjSampleIdeal.Read.val_main_v19_eq _ _ _).trans (Cert.RefProjSampleIdeal.Hand.ref_v _ _ _)
    · rw [a0, a1, a2]; exact (Cert.RefProjSampleIdeal.Read.val_main_v21_eq _ _ _).trans (Cert.RefProjSampleIdeal.Hand.ref_ki _ _ _)

end Cert.Proof.ProjSampleClaims

end
-- ==== Proof.lean ====
module

public import proofs.«01_k».proof.Defs
public import proofs.«01_k».proof.Proof.SattnClaims
public import proofs.«01_k».proof.Proof.FfnClaims
public import proofs.«01_k».proof.Proof.MergeClaims
public import proofs.«01_k».proof.Proof.ProjClaims
public import proofs.«01_k».proof.Proof.MergeSampleClaims
public import proofs.«01_k».proof.Proof.ProjSampleClaims
public import proofs.«01_k».proof.Proof.Gen.Pre_pages_in_pool
public import proofs.«01_k».proof.Proof.Gen.Pre_attention_defined

@[expose] public section

noncomputable section

namespace Cert.Proof

/-- Every claim of the test file, each proved in the module of its call. -/
theorem claim : Cert.Claim :=
  ⟨Cert.Sattn.Gen.facts,
   Cert.SattnIdeal.Gen.facts,
   Cert.RefSattnIdeal.Gen.facts,
   Cert.Ffn.Gen.facts,
   Cert.FfnIdeal.Gen.facts,
   Cert.RefFfnIdeal.Gen.facts,
   Cert.Merge.Gen.facts,
   Cert.MergeIdeal.Gen.facts,
   Cert.RefMergeIdeal.Gen.facts,
   Cert.Proj.Gen.facts,
   Cert.ProjIdeal.Gen.facts,
   Cert.RefProjIdeal.Gen.facts,
   Cert.MergeSample.Gen.facts,
   Cert.MergeSampleIdeal.Gen.facts,
   Cert.RefMergeSampleIdeal.Gen.facts,
   Cert.ProjSample.Gen.facts,
   Cert.ProjSampleIdeal.Gen.facts,
   Cert.RefProjSampleIdeal.Gen.facts,
   Cert.Pre_pages_in_pool.Gen.facts,
   Cert.Pre_attention_defined.Gen.facts,
   SattnClaims.frame_p,
   SattnClaims.frame_pi,
   SattnClaims.frame_pi_defined,
   SattnClaims.frame_ri,
   SattnClaims.frame_ri_defined,
   FfnClaims.frame_p,
   FfnClaims.frame_pi,
   FfnClaims.frame_ri,
   MergeClaims.frame_p,
   MergeClaims.frame_pi,
   MergeClaims.frame_ri,
   ProjClaims.frame_p,
   ProjClaims.frame_pi,
   ProjClaims.frame_ri,
   MergeSampleClaims.frame_p,
   MergeSampleClaims.frame_pi,
   MergeSampleClaims.frame_ri,
   ProjSampleClaims.frame_p,
   ProjSampleClaims.frame_pi,
   ProjSampleClaims.frame_ri,
   SattnClaims.preserves,
   SattnClaims.algebraic,
   FfnClaims.preserves,
   FfnClaims.algebraic,
   MergeClaims.preserves,
   MergeClaims.algebraic,
   ProjClaims.preserves,
   ProjClaims.algebraic,
   MergeSampleClaims.preserves,
   MergeSampleClaims.algebraic,
   ProjSampleClaims.preserves,
   ProjSampleClaims.algebraic⟩

end Cert.Proof

end
